-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0ReferenceIdeal (m : (ℓ : Loc Cert.Mlp0ReferenceIdeal.nD Cert.Mlp0ReferenceIdeal.τ Cert.Mlp0ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0ReferenceIdeal (m : (ℓ : Loc Cert.Out0ReferenceIdeal.nD Cert.Out0ReferenceIdeal.τ Cert.Out0ReferenceIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def Pre_Inp0 (m : (ℓ : Loc Cert.Inp0.nD Cert.Inp0.τ Cert.Inp0.sig) → Buf (Elt Bits) ℓ) : Prop :=
  True

def Pre_Inp0Ideal (m : (ℓ : Loc Cert.Inp0Ideal.nD Cert.Inp0Ideal.τ Cert.Inp0Ideal.sig) → Buf (Elt Ideal) ℓ) : Prop :=
  True

def Pre_Inp0ReferenceIdeal (m : (ℓ : Loc Cert.Inp0ReferenceIdeal.nD Cert.Inp0ReferenceIdeal.τ Cert.Inp0ReferenceIdeal.sig) → Buf (Elt Ideal) ℓ) : Prop :=
  True

def Pre_Att0 (m : (ℓ : Loc Cert.Att0.nD Cert.Att0.τ Cert.Att0.sig) → Buf (Elt Bits) ℓ) : Prop :=
  True

def Pre_Att0Ideal (m : (ℓ : Loc Cert.Att0Ideal.nD Cert.Att0Ideal.τ Cert.Att0Ideal.sig) → Buf (Elt Ideal) ℓ) : Prop :=
  True

def Pre_Att0Ideal_finite0 [hPre_finite0 : Cert.Pre_finite0.Facts] (m : (ℓ : Loc Cert.Att0Ideal.nD Cert.Att0Ideal.τ Cert.Att0Ideal.sig) → Buf (Elt Ideal) ℓ) : Prop :=
  ∀ c : Dev Cert.Att0Ideal.nD,
    (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).1 = (fun _ => 1#1)
    ∧ (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).2.1 = (fun _ => 1#1)
    ∧ (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).2.2.1 = (fun _ => 1#1)
    ∧ (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).2.2.2.1 = (fun _ => 1#1)
    ∧ (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).2.2.2.2.1 = (fun _ => 1#1)
    ∧ (Cert.Pre_finite0.fn (F := Ideal) (m ((c.tc : Thread Cert.Att0Ideal.nD Cert.Att0Ideal.τ).loc Cert.Att0Ideal.main_arg0)) (m ((c.tc : Thread Cert.Att0Ideal.nD Cert.Att0Ideal.τ).loc Cert.Att0Ideal.main_arg1)) (m ((c.tc : Thread Cert.Att0Ideal.nD Cert.Att0Ideal.τ).loc Cert.Att0Ideal.main_arg2)) (m ((c.tc : Thread Cert.Att0Ideal.nD Cert.Att0Ideal.τ).loc Cert.Att0Ideal.main_arg3)) (m ((c.tc : Thread Cert.Att0Ideal.nD Cert.Att0Ideal.τ).loc Cert.Att0Ideal.main_arg4)) (m ((c.tc : Thread Cert.Att0Ideal.nD Cert.Att0Ideal.τ).loc Cert.Att0Ideal.main_arg5)) (m ((c.tc : Thread Cert.Att0Ideal.nD Cert.Att0Ideal.τ).loc Cert.Att0Ideal.main_arg6)) (m ((c.tc : Thread Cert.Att0Ideal.nD Cert.Att0Ideal.τ).loc Cert.Att0Ideal.main_arg7)) (m ((c.tc : Thread Cert.Att0Ideal.nD Cert.Att0Ideal.τ).loc Cert.Att0Ideal.main_arg8)) (m ((c.tc : Thread Cert.Att0Ideal.nD Cert.Att0Ideal.τ).loc Cert.Att0Ideal.main_arg9)) (m ((c.tc : Thread Cert.Att0Ideal.nD Cert.Att0Ideal.τ).loc Cert.Att0Ideal.main_arg10)) (m ((c.tc : Thread Cert.Att0Ideal.nD Cert.Att0Ideal.τ).loc Cert.Att0Ideal.main_arg11)) (m ((c.tc : Thread Cert.Att0Ideal.nD Cert.Att0Ideal.τ).loc Cert.Att0Ideal.main_arg12)) (m ((c.tc : Thread Cert.Att0Ideal.nD Cert.Att0Ideal.τ).loc Cert.Att0Ideal.main_arg13)) (m ((c.tc : Thread Cert.Att0Ideal.nD Cert.Att0Ideal.τ).loc Cert.Att0Ideal.main_arg14)) (m ((c.tc : Thread Cert.Att0Ideal.nD Cert.Att0Ideal.τ).loc Cert.Att0Ideal.main_arg15)) (m ((c.tc : Thread Cert.Att0Ideal.nD Cert.Att0Ideal.τ).loc Cert.Att0Ideal.main_arg16))).2.2.2.2.2 = (fun _ => 1#1)

def Pre_Att0ReferenceIdeal (m : (ℓ : Loc Cert.Att0ReferenceIdeal.nD Cert.Att0ReferenceIdeal.τ Cert.Att0ReferenceIdeal.sig) → Buf (Elt Ideal) ℓ) : Prop :=
  True

def Pre_Att0ReferenceIdeal_finite0 [hPre_finite0 : Cert.Pre_finite0.Facts] (m : (ℓ : Loc Cert.Att0ReferenceIdeal.nD Cert.Att0ReferenceIdeal.τ Cert.Att0ReferenceIdeal.sig) → Buf (Elt Ideal) ℓ) : Prop :=
  ∀ c : Dev Cert.Att0ReferenceIdeal.nD,
    (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).1 = (fun _ => 1#1)
    ∧ (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).2.1 = (fun _ => 1#1)
    ∧ (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).2.2.1 = (fun _ => 1#1)
    ∧ (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).2.2.2.1 = (fun _ => 1#1)
    ∧ (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).2.2.2.2.1 = (fun _ => 1#1)
    ∧ (Cert.Pre_finite0.fn (F := Ideal) (m ((c.tc : Thread Cert.Att0ReferenceIdeal.nD Cert.Att0ReferenceIdeal.τ).loc Cert.Att0ReferenceIdeal.main_arg0)) (m ((c.tc : Thread Cert.Att0ReferenceIdeal.nD Cert.Att0ReferenceIdeal.τ).loc Cert.Att0ReferenceIdeal.main_arg1)) (m ((c.tc : Thread Cert.Att0ReferenceIdeal.nD Cert.Att0ReferenceIdeal.τ).loc Cert.Att0ReferenceIdeal.main_arg2)) (m ((c.tc : Thread Cert.Att0ReferenceIdeal.nD Cert.Att0ReferenceIdeal.τ).loc Cert.Att0ReferenceIdeal.main_arg3)) (m ((c.tc : Thread Cert.Att0ReferenceIdeal.nD Cert.Att0ReferenceIdeal.τ).loc Cert.Att0ReferenceIdeal.main_arg4)) (m ((c.tc : Thread Cert.Att0ReferenceIdeal.nD Cert.Att0ReferenceIdeal.τ).loc Cert.Att0ReferenceIdeal.main_arg5)) (m ((c.tc : Thread Cert.Att0ReferenceIdeal.nD Cert.Att0ReferenceIdeal.τ).loc Cert.Att0ReferenceIdeal.main_arg6)) (m ((c.tc : Thread Cert.Att0ReferenceIdeal.nD Cert.Att0ReferenceIdeal.τ).loc Cert.Att0ReferenceIdeal.main_arg7)) (m ((c.tc : Thread Cert.Att0ReferenceIdeal.nD Cert.Att0ReferenceIdeal.τ).loc Cert.Att0ReferenceIdeal.main_arg8)) (m ((c.tc : Thread Cert.Att0ReferenceIdeal.nD Cert.Att0ReferenceIdeal.τ).loc Cert.Att0ReferenceIdeal.main_arg9)) (m ((c.tc : Thread Cert.Att0ReferenceIdeal.nD Cert.Att0ReferenceIdeal.τ).loc Cert.Att0ReferenceIdeal.main_arg10)) (m ((c.tc : Thread Cert.Att0ReferenceIdeal.nD Cert.Att0ReferenceIdeal.τ).loc Cert.Att0ReferenceIdeal.main_arg11)) (m ((c.tc : Thread Cert.Att0ReferenceIdeal.nD Cert.Att0ReferenceIdeal.τ).loc Cert.Att0ReferenceIdeal.main_arg12)) (m ((c.tc : Thread Cert.Att0ReferenceIdeal.nD Cert.Att0ReferenceIdeal.τ).loc Cert.Att0ReferenceIdeal.main_arg13)) (m ((c.tc : Thread Cert.Att0ReferenceIdeal.nD Cert.Att0ReferenceIdeal.τ).loc Cert.Att0ReferenceIdeal.main_arg14)) (m ((c.tc : Thread Cert.Att0ReferenceIdeal.nD Cert.Att0ReferenceIdeal.τ).loc Cert.Att0ReferenceIdeal.main_arg15)) (m ((c.tc : Thread Cert.Att0ReferenceIdeal.nD Cert.Att0ReferenceIdeal.τ).loc Cert.Att0ReferenceIdeal.main_arg16))).2.2.2.2.2 = (fun _ => 1#1)

def Pre_CMlp (m : (ℓ : Loc Cert.CMlp.nD Cert.CMlp.τ Cert.CMlp.sig) → Buf (Elt Bits) ℓ) : Prop :=
  True

def Pre_CMlpIdeal (m : (ℓ : Loc Cert.CMlpIdeal.nD Cert.CMlpIdeal.τ Cert.CMlpIdeal.sig) → Buf (Elt Ideal) ℓ) : Prop :=
  True

def Pre_CMlpReferenceIdeal (m : (ℓ : Loc Cert.CMlpReferenceIdeal.nD Cert.CMlpReferenceIdeal.τ Cert.CMlpReferenceIdeal.sig) → Buf (Elt Ideal) ℓ) : Prop :=
  True

def Pre_COut (m : (ℓ : Loc Cert.COut.nD Cert.COut.τ Cert.COut.sig) → Buf (Elt Bits) ℓ) : Prop :=
  True

def Pre_COutIdeal (m : (ℓ : Loc Cert.COutIdeal.nD Cert.COutIdeal.τ Cert.COutIdeal.sig) → Buf (Elt Ideal) ℓ) : Prop :=
  True

def Pre_COutReferenceIdeal (m : (ℓ : Loc Cert.COutReferenceIdeal.nD Cert.COutReferenceIdeal.τ Cert.COutReferenceIdeal.sig) → Buf (Elt Ideal) ℓ) : Prop :=
  True

def Pre_CInp (m : (ℓ : Loc Cert.CInp.nD Cert.CInp.τ Cert.CInp.sig) → Buf (Elt Bits) ℓ) : Prop :=
  True

def Pre_CInpIdeal (m : (ℓ : Loc Cert.CInpIdeal.nD Cert.CInpIdeal.τ Cert.CInpIdeal.sig) → Buf (Elt Ideal) ℓ) : Prop :=
  True

def Pre_CInpReferenceIdeal (m : (ℓ : Loc Cert.CInpReferenceIdeal.nD Cert.CInpReferenceIdeal.τ Cert.CInpReferenceIdeal.sig) → Buf (Elt Ideal) ℓ) : Prop :=
  True

def Pre_CKv (m : (ℓ : Loc Cert.CKv.nD Cert.CKv.τ Cert.CKv.sig) → Buf (Elt Bits) ℓ) : Prop :=
  True

def Pre_CKvIdeal (m : (ℓ : Loc Cert.CKvIdeal.nD Cert.CKvIdeal.τ Cert.CKvIdeal.sig) → Buf (Elt Ideal) ℓ) : Prop :=
  True

def Pre_CKvReferenceIdeal (m : (ℓ : Loc Cert.CKvReferenceIdeal.nD Cert.CKvReferenceIdeal.τ Cert.CKvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ r.2.sem = fun _ => 0)

def quiescent_Mlp0ReferenceIdeal [hMlp0ReferenceIdeal : Cert.Mlp0ReferenceIdeal.Facts] : Prop :=
  ∀ (m : (ℓ : Loc Cert.Mlp0ReferenceIdeal.nD Cert.Mlp0ReferenceIdeal.τ Cert.Mlp0ReferenceIdeal.sig) → Buf (Elt Ideal) ℓ) (g : Dev Cert.Mlp0ReferenceIdeal.nD → PrngReg), Pre_Mlp0ReferenceIdeal m →
    θ_run (Cert.Mlp0ReferenceIdeal.defs (F := Ideal)) (onTc (τ := Cert.Mlp0ReferenceIdeal.τ) (Cert.Mlp0ReferenceIdeal.main (F := Ideal))) ⟨m, fun _ => 0, g⟩ (fun r => (∀ c : Dev Cert.Mlp0ReferenceIdeal.nD,
      r.2.mem ((c.tc : Thread Cert.Mlp0ReferenceIdeal.nD Cert.Mlp0ReferenceIdeal.τ).loc Cert.Mlp0ReferenceIdeal.main_arg0) = m ((c.tc : Thread Cert.Mlp0ReferenceIdeal.nD Cert.Mlp0ReferenceIdeal.τ).loc Cert.Mlp0ReferenceIdeal.main_arg0)
      ∧ r.2.mem ((c.tc : Thread Cert.Mlp0ReferenceIdeal.nD Cert.Mlp0ReferenceIdeal.τ).loc Cert.Mlp0ReferenceIdeal.main_arg1) = m ((c.tc : Thread Cert.Mlp0ReferenceIdeal.nD Cert.Mlp0ReferenceIdeal.τ).loc Cert.Mlp0ReferenceIdeal.main_arg1)
      ∧ r.2.mem ((c.tc : Thread Cert.Mlp0ReferenceIdeal.nD Cert.Mlp0ReferenceIdeal.τ).loc Cert.Mlp0ReferenceIdeal.main_arg2) = m ((c.tc : Thread Cert.Mlp0ReferenceIdeal.nD Cert.Mlp0ReferenceIdeal.τ).loc Cert.Mlp0ReferenceIdeal.main_arg2)
      ∧ r.2.mem ((c.tc : Thread Cert.Mlp0ReferenceIdeal.nD Cert.Mlp0ReferenceIdeal.τ).loc Cert.Mlp0ReferenceIdeal.main_arg3) = m ((c.tc : Thread Cert.Mlp0ReferenceIdeal.nD Cert.Mlp0ReferenceIdeal.τ).loc Cert.Mlp0ReferenceIdeal.main_arg3)
      ∧ r.2.mem ((c.tc : Thread Cert.Mlp0ReferenceIdeal.nD Cert.Mlp0ReferenceIdeal.τ).loc Cert.Mlp0ReferenceIdeal.main_arg4) = m ((c.tc : Thread Cert.Mlp0ReferenceIdeal.nD Cert.Mlp0ReferenceIdeal.τ).loc Cert.Mlp0ReferenceIdeal.main_arg4)
      ∧ r.2.mem ((c.tc : Thread Cert.Mlp0ReferenceIdeal.nD Cert.Mlp0ReferenceIdeal.τ).loc Cert.Mlp0ReferenceIdeal.main_arg5) = m ((c.tc : Thread Cert.Mlp0ReferenceIdeal.nD Cert.Mlp0ReferenceIdeal.τ).loc Cert.Mlp0ReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4)
      ∧ r.2.mem ((c.tc : Thread Cert.Out0.nD Cert.Out0.τ).loc Cert.Out0.main_arg5) = m ((c.tc : Thread Cert.Out0.nD Cert.Out0.τ).loc Cert.Out0.main_arg5)
      ∧ r.2.mem ((c.tc : Thread Cert.Out0.nD Cert.Out0.τ).loc Cert.Out0.main_arg6) = m ((c.tc : Thread Cert.Out0.nD Cert.Out0.τ).loc Cert.Out0.main_arg6))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
      ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
      ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6))
      ∧ r.2.sem = fun _ => 0)

def quiescent_Out0ReferenceIdeal [hOut0ReferenceIdeal : Cert.Out0ReferenceIdeal.Facts] : Prop :=
  ∀ (m : (ℓ : Loc Cert.Out0ReferenceIdeal.nD Cert.Out0ReferenceIdeal.τ Cert.Out0ReferenceIdeal.sig) → Buf (Elt Ideal) ℓ) (g : Dev Cert.Out0ReferenceIdeal.nD → PrngReg), Pre_Out0ReferenceIdeal m →
    θ_run (Cert.Out0ReferenceIdeal.defs (F := Ideal)) (onTc (τ := Cert.Out0ReferenceIdeal.τ) (Cert.Out0ReferenceIdeal.main (F := Ideal))) ⟨m, fun _ => 0, g⟩ (fun r => (∀ c : Dev Cert.Out0ReferenceIdeal.nD,
      r.2.mem ((c.tc : Thread Cert.Out0ReferenceIdeal.nD Cert.Out0ReferenceIdeal.τ).loc Cert.Out0ReferenceIdeal.main_arg0) = m ((c.tc : Thread Cert.Out0ReferenceIdeal.nD Cert.Out0ReferenceIdeal.τ).loc Cert.Out0ReferenceIdeal.main_arg0)
      ∧ r.2.mem ((c.tc : Thread Cert.Out0ReferenceIdeal.nD Cert.Out0ReferenceIdeal.τ).loc Cert.Out0ReferenceIdeal.main_arg1) = m ((c.tc : Thread Cert.Out0ReferenceIdeal.nD Cert.Out0ReferenceIdeal.τ).loc Cert.Out0ReferenceIdeal.main_arg1)
      ∧ r.2.mem ((c.tc : Thread Cert.Out0ReferenceIdeal.nD Cert.Out0ReferenceIdeal.τ).loc Cert.Out0ReferenceIdeal.main_arg2) = m ((c.tc : Thread Cert.Out0ReferenceIdeal.nD Cert.Out0ReferenceIdeal.τ).loc Cert.Out0ReferenceIdeal.main_arg2)
      ∧ r.2.mem ((c.tc : Thread Cert.Out0ReferenceIdeal.nD Cert.Out0ReferenceIdeal.τ).loc Cert.Out0ReferenceIdeal.main_arg3) = m ((c.tc : Thread Cert.Out0ReferenceIdeal.nD Cert.Out0ReferenceIdeal.τ).loc Cert.Out0ReferenceIdeal.main_arg3)
      ∧ r.2.mem ((c.tc : Thread Cert.Out0ReferenceIdeal.nD Cert.Out0ReferenceIdeal.τ).loc Cert.Out0ReferenceIdeal.main_arg4) = m ((c.tc : Thread Cert.Out0ReferenceIdeal.nD Cert.Out0ReferenceIdeal.τ).loc Cert.Out0ReferenceIdeal.main_arg4)
      ∧ r.2.mem ((c.tc : Thread Cert.Out0ReferenceIdeal.nD Cert.Out0ReferenceIdeal.τ).loc Cert.Out0ReferenceIdeal.main_arg5) = m ((c.tc : Thread Cert.Out0ReferenceIdeal.nD Cert.Out0ReferenceIdeal.τ).loc Cert.Out0ReferenceIdeal.main_arg5)
      ∧ r.2.mem ((c.tc : Thread Cert.Out0ReferenceIdeal.nD Cert.Out0ReferenceIdeal.τ).loc Cert.Out0ReferenceIdeal.main_arg6) = m ((c.tc : Thread Cert.Out0ReferenceIdeal.nD Cert.Out0ReferenceIdeal.τ).loc Cert.Out0ReferenceIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5))
      ∧ r.2.sem = fun _ => 0)

def quiescent_Inp0 [hInp0 : Cert.Inp0.Facts] : Prop :=
  ∀ (m : (ℓ : Loc Cert.Inp0.nD Cert.Inp0.τ Cert.Inp0.sig) → Buf (Elt Bits) ℓ) (g : Dev Cert.Inp0.nD → PrngReg), Pre_Inp0 m →
    θ_run (Cert.Inp0.defs (F := Bits)) (onTc (τ := Cert.Inp0.τ) (Cert.Inp0.main (F := Bits))) ⟨m, fun _ => 0, g⟩ (fun r => (∀ c : Dev Cert.Inp0.nD,
      r.2.mem ((c.tc : Thread Cert.Inp0.nD Cert.Inp0.τ).loc Cert.Inp0.main_arg0) = m ((c.tc : Thread Cert.Inp0.nD Cert.Inp0.τ).loc Cert.Inp0.main_arg0)
      ∧ r.2.mem ((c.tc : Thread Cert.Inp0.nD Cert.Inp0.τ).loc Cert.Inp0.main_arg1) = m ((c.tc : Thread Cert.Inp0.nD Cert.Inp0.τ).loc Cert.Inp0.main_arg1)
      ∧ r.2.mem ((c.tc : Thread Cert.Inp0.nD Cert.Inp0.τ).loc Cert.Inp0.main_arg2) = m ((c.tc : Thread Cert.Inp0.nD Cert.Inp0.τ).loc Cert.Inp0.main_arg2)
      ∧ r.2.mem ((c.tc : Thread Cert.Inp0.nD Cert.Inp0.τ).loc Cert.Inp0.main_arg3) = m ((c.tc : Thread Cert.Inp0.nD Cert.Inp0.τ).loc Cert.Inp0.main_arg3)
      ∧ r.2.mem ((c.tc : Thread Cert.Inp0.nD Cert.Inp0.τ).loc Cert.Inp0.main_arg4) = m ((c.tc : Thread Cert.Inp0.nD Cert.Inp0.τ).loc Cert.Inp0.main_arg4)
      ∧ r.2.mem ((c.tc : Thread Cert.Inp0.nD Cert.Inp0.τ).loc Cert.Inp0.main_arg5) = m ((c.tc : Thread Cert.Inp0.nD Cert.Inp0.τ).loc Cert.Inp0.main_arg5))
      ∧ r.2.sem = fun _ => 0)

def quiescent_Inp0Ideal [hInp0Ideal : Cert.Inp0Ideal.Facts] : Prop :=
  ∀ (m : (ℓ : Loc Cert.Inp0Ideal.nD Cert.Inp0Ideal.τ Cert.Inp0Ideal.sig) → Buf (Elt Ideal) ℓ) (g : Dev Cert.Inp0Ideal.nD → PrngReg), Pre_Inp0Ideal m →
    θ_run (Cert.Inp0Ideal.defs (F := Ideal)) (onTc (τ := Cert.Inp0Ideal.τ) (Cert.Inp0Ideal.main (F := Ideal))) ⟨m, fun _ => 0, g⟩ (fun r => (∀ c : Dev Cert.Inp0Ideal.nD,
      r.2.mem ((c.tc : Thread Cert.Inp0Ideal.nD Cert.Inp0Ideal.τ).loc Cert.Inp0Ideal.main_arg0) = m ((c.tc : Thread Cert.Inp0Ideal.nD Cert.Inp0Ideal.τ).loc Cert.Inp0Ideal.main_arg0)
      ∧ r.2.mem ((c.tc : Thread Cert.Inp0Ideal.nD Cert.Inp0Ideal.τ).loc Cert.Inp0Ideal.main_arg1) = m ((c.tc : Thread Cert.Inp0Ideal.nD Cert.Inp0Ideal.τ).loc Cert.Inp0Ideal.main_arg1)
      ∧ r.2.mem ((c.tc : Thread Cert.Inp0Ideal.nD Cert.Inp0Ideal.τ).loc Cert.Inp0Ideal.main_arg2) = m ((c.tc : Thread Cert.Inp0Ideal.nD Cert.Inp0Ideal.τ).loc Cert.Inp0Ideal.main_arg2)
      ∧ r.2.mem ((c.tc : Thread Cert.Inp0Ideal.nD Cert.Inp0Ideal.τ).loc Cert.Inp0Ideal.main_arg3) = m ((c.tc : Thread Cert.Inp0Ideal.nD Cert.Inp0Ideal.τ).loc Cert.Inp0Ideal.main_arg3)
      ∧ r.2.mem ((c.tc : Thread Cert.Inp0Ideal.nD Cert.Inp0Ideal.τ).loc Cert.Inp0Ideal.main_arg4) = m ((c.tc : Thread Cert.Inp0Ideal.nD Cert.Inp0Ideal.τ).loc Cert.Inp0Ideal.main_arg4)
      ∧ r.2.mem ((c.tc : Thread Cert.Inp0Ideal.nD Cert.Inp0Ideal.τ).loc Cert.Inp0Ideal.main_arg5) = m ((c.tc : Thread Cert.Inp0Ideal.nD Cert.Inp0Ideal.τ).loc Cert.Inp0Ideal.main_arg5))
      ∧ r.2.sem = fun _ => 0)

def quiescent_Inp0ReferenceIdeal [hInp0ReferenceIdeal : Cert.Inp0ReferenceIdeal.Facts] : Prop :=
  ∀ (m : (ℓ : Loc Cert.Inp0ReferenceIdeal.nD Cert.Inp0ReferenceIdeal.τ Cert.Inp0ReferenceIdeal.sig) → Buf (Elt Ideal) ℓ) (g : Dev Cert.Inp0ReferenceIdeal.nD → PrngReg), Pre_Inp0ReferenceIdeal m →
    θ_run (Cert.Inp0ReferenceIdeal.defs (F := Ideal)) (onTc (τ := Cert.Inp0ReferenceIdeal.τ) (Cert.Inp0ReferenceIdeal.main (F := Ideal))) ⟨m, fun _ => 0, g⟩ (fun r => (∀ c : Dev Cert.Inp0ReferenceIdeal.nD,
      r.2.mem ((c.tc : Thread Cert.Inp0ReferenceIdeal.nD Cert.Inp0ReferenceIdeal.τ).loc Cert.Inp0ReferenceIdeal.main_arg0) = m ((c.tc : Thread Cert.Inp0ReferenceIdeal.nD Cert.Inp0ReferenceIdeal.τ).loc Cert.Inp0ReferenceIdeal.main_arg0)
      ∧ r.2.mem ((c.tc : Thread Cert.Inp0ReferenceIdeal.nD Cert.Inp0ReferenceIdeal.τ).loc Cert.Inp0ReferenceIdeal.main_arg1) = m ((c.tc : Thread Cert.Inp0ReferenceIdeal.nD Cert.Inp0ReferenceIdeal.τ).loc Cert.Inp0ReferenceIdeal.main_arg1)
      ∧ r.2.mem ((c.tc : Thread Cert.Inp0ReferenceIdeal.nD Cert.Inp0ReferenceIdeal.τ).loc Cert.Inp0ReferenceIdeal.main_arg2) = m ((c.tc : Thread Cert.Inp0ReferenceIdeal.nD Cert.Inp0ReferenceIdeal.τ).loc Cert.Inp0ReferenceIdeal.main_arg2)
      ∧ r.2.mem ((c.tc : Thread Cert.Inp0ReferenceIdeal.nD Cert.Inp0ReferenceIdeal.τ).loc Cert.Inp0ReferenceIdeal.main_arg3) = m ((c.tc : Thread Cert.Inp0ReferenceIdeal.nD Cert.Inp0ReferenceIdeal.τ).loc Cert.Inp0ReferenceIdeal.main_arg3)
      ∧ r.2.mem ((c.tc : Thread Cert.Inp0ReferenceIdeal.nD Cert.Inp0ReferenceIdeal.τ).loc Cert.Inp0ReferenceIdeal.main_arg4) = m ((c.tc : Thread Cert.Inp0ReferenceIdeal.nD Cert.Inp0ReferenceIdeal.τ).loc Cert.Inp0ReferenceIdeal.main_arg4)
      ∧ r.2.mem ((c.tc : Thread Cert.Inp0ReferenceIdeal.nD Cert.Inp0ReferenceIdeal.τ).loc Cert.Inp0ReferenceIdeal.main_arg5) = m ((c.tc : Thread Cert.Inp0ReferenceIdeal.nD Cert.Inp0ReferenceIdeal.τ).loc Cert.Inp0ReferenceIdeal.main_arg5))
      ∧ r.2.sem = fun _ => 0)

def quiescent_Att0 [hAtt0 : Cert.Att0.Facts] : Prop :=
  ∀ (m : (ℓ : Loc Cert.Att0.nD Cert.Att0.τ Cert.Att0.sig) → Buf (Elt Bits) ℓ) (g : Dev Cert.Att0.nD → PrngReg), Pre_Att0 m →
    θ_run (Cert.Att0.defs (F := Bits)) (onTc (τ := Cert.Att0.τ) (Cert.Att0.main (F := Bits))) ⟨m, fun _ => 0, g⟩ (fun r => (∀ c : Dev Cert.Att0.nD,
      r.2.mem ((c.tc : Thread Cert.Att0.nD Cert.Att0.τ).loc Cert.Att0.main_arg0) = m ((c.tc : Thread Cert.Att0.nD Cert.Att0.τ).loc Cert.Att0.main_arg0)
      ∧ r.2.mem ((c.tc : Thread Cert.Att0.nD Cert.Att0.τ).loc Cert.Att0.main_arg1) = m ((c.tc : Thread Cert.Att0.nD Cert.Att0.τ).loc Cert.Att0.main_arg1)
      ∧ r.2.mem ((c.tc : Thread Cert.Att0.nD Cert.Att0.τ).loc Cert.Att0.main_arg2) = m ((c.tc : Thread Cert.Att0.nD Cert.Att0.τ).loc Cert.Att0.main_arg2)
      ∧ r.2.mem ((c.tc : Thread Cert.Att0.nD Cert.Att0.τ).loc Cert.Att0.main_arg3) = m ((c.tc : Thread Cert.Att0.nD Cert.Att0.τ).loc Cert.Att0.main_arg3)
      ∧ r.2.mem ((c.tc : Thread Cert.Att0.nD Cert.Att0.τ).loc Cert.Att0.main_arg4) = m ((c.tc : Thread Cert.Att0.nD Cert.Att0.τ).loc Cert.Att0.main_arg4)
      ∧ r.2.mem ((c.tc : Thread Cert.Att0.nD Cert.Att0.τ).loc Cert.Att0.main_arg5) = m ((c.tc : Thread Cert.Att0.nD Cert.Att0.τ).loc Cert.Att0.main_arg5)
      ∧ r.2.mem ((c.tc : Thread Cert.Att0.nD Cert.Att0.τ).loc Cert.Att0.main_arg6) = m ((c.tc : Thread Cert.Att0.nD Cert.Att0.τ).loc Cert.Att0.main_arg6)
      ∧ r.2.mem ((c.tc : Thread Cert.Att0.nD Cert.Att0.τ).loc Cert.Att0.main_arg7) = m ((c.tc : Thread Cert.Att0.nD Cert.Att0.τ).loc Cert.Att0.main_arg7)
      ∧ r.2.mem ((c.tc : Thread Cert.Att0.nD Cert.Att0.τ).loc Cert.Att0.main_arg8) = m ((c.tc : Thread Cert.Att0.nD Cert.Att0.τ).loc Cert.Att0.main_arg8)
      ∧ r.2.mem ((c.tc : Thread Cert.Att0.nD Cert.Att0.τ).loc Cert.Att0.main_arg9) = m ((c.tc : Thread Cert.Att0.nD Cert.Att0.τ).loc Cert.Att0.main_arg9)
      ∧ r.2.mem ((c.tc : Thread Cert.Att0.nD Cert.Att0.τ).loc Cert.Att0.main_arg10) = m ((c.tc : Thread Cert.Att0.nD Cert.Att0.τ).loc Cert.Att0.main_arg10)
      ∧ r.2.mem ((c.tc : Thread Cert.Att0.nD Cert.Att0.τ).loc Cert.Att0.main_arg11) = m ((c.tc : Thread Cert.Att0.nD Cert.Att0.τ).loc Cert.Att0.main_arg11)
      ∧ r.2.mem ((c.tc : Thread Cert.Att0.nD Cert.Att0.τ).loc Cert.Att0.main_arg12) = m ((c.tc : Thread Cert.Att0.nD Cert.Att0.τ).loc Cert.Att0.main_arg12)
      ∧ r.2.mem ((c.tc : Thread Cert.Att0.nD Cert.Att0.τ).loc Cert.Att0.main_arg13) = m ((c.tc : Thread Cert.Att0.nD Cert.Att0.τ).loc Cert.Att0.main_arg13)
      ∧ r.2.mem ((c.tc : Thread Cert.Att0.nD Cert.Att0.τ).loc Cert.Att0.main_arg14) = m ((c.tc : Thread Cert.Att0.nD Cert.Att0.τ).loc Cert.Att0.main_arg14)
      ∧ r.2.mem ((c.tc : Thread Cert.Att0.nD Cert.Att0.τ).loc Cert.Att0.main_arg15) = m ((c.tc : Thread Cert.Att0.nD Cert.Att0.τ).loc Cert.Att0.main_arg15)
      ∧ r.2.mem ((c.tc : Thread Cert.Att0.nD Cert.Att0.τ).loc Cert.Att0.main_arg16) = m ((c.tc : Thread Cert.Att0.nD Cert.Att0.τ).loc Cert.Att0.main_arg16))
      ∧ r.2.sem = fun _ => 0)

def quiescent_Att0Ideal [hAtt0Ideal : Cert.Att0Ideal.Facts] : Prop :=
  ∀ (m : (ℓ : Loc Cert.Att0Ideal.nD Cert.Att0Ideal.τ Cert.Att0Ideal.sig) → Buf (Elt Ideal) ℓ) (g : Dev Cert.Att0Ideal.nD → PrngReg), Pre_Att0Ideal m →
    θ_run (Cert.Att0Ideal.defs (F := Ideal)) (onTc (τ := Cert.Att0Ideal.τ) (Cert.Att0Ideal.main (F := Ideal))) ⟨m, fun _ => 0, g⟩ (fun r => (∀ c : Dev Cert.Att0Ideal.nD,
      r.2.mem ((c.tc : Thread Cert.Att0Ideal.nD Cert.Att0Ideal.τ).loc Cert.Att0Ideal.main_arg0) = m ((c.tc : Thread Cert.Att0Ideal.nD Cert.Att0Ideal.τ).loc Cert.Att0Ideal.main_arg0)
      ∧ r.2.mem ((c.tc : Thread Cert.Att0Ideal.nD Cert.Att0Ideal.τ).loc Cert.Att0Ideal.main_arg1) = m ((c.tc : Thread Cert.Att0Ideal.nD Cert.Att0Ideal.τ).loc Cert.Att0Ideal.main_arg1)
      ∧ r.2.mem ((c.tc : Thread Cert.Att0Ideal.nD Cert.Att0Ideal.τ).loc Cert.Att0Ideal.main_arg2) = m ((c.tc : Thread Cert.Att0Ideal.nD Cert.Att0Ideal.τ).loc Cert.Att0Ideal.main_arg2)
      ∧ r.2.mem ((c.tc : Thread Cert.Att0Ideal.nD Cert.Att0Ideal.τ).loc Cert.Att0Ideal.main_arg3) = m ((c.tc : Thread Cert.Att0Ideal.nD Cert.Att0Ideal.τ).loc Cert.Att0Ideal.main_arg3)
      ∧ r.2.mem ((c.tc : Thread Cert.Att0Ideal.nD Cert.Att0Ideal.τ).loc Cert.Att0Ideal.main_arg4) = m ((c.tc : Thread Cert.Att0Ideal.nD Cert.Att0Ideal.τ).loc Cert.Att0Ideal.main_arg4)
      ∧ r.2.mem ((c.tc : Thread Cert.Att0Ideal.nD Cert.Att0Ideal.τ).loc Cert.Att0Ideal.main_arg5) = m ((c.tc : Thread Cert.Att0Ideal.nD Cert.Att0Ideal.τ).loc Cert.Att0Ideal.main_arg5)
      ∧ r.2.mem ((c.tc : Thread Cert.Att0Ideal.nD Cert.Att0Ideal.τ).loc Cert.Att0Ideal.main_arg6) = m ((c.tc : Thread Cert.Att0Ideal.nD Cert.Att0Ideal.τ).loc Cert.Att0Ideal.main_arg6)
      ∧ r.2.mem ((c.tc : Thread Cert.Att0Ideal.nD Cert.Att0Ideal.τ).loc Cert.Att0Ideal.main_arg7) = m ((c.tc : Thread Cert.Att0Ideal.nD Cert.Att0Ideal.τ).loc Cert.Att0Ideal.main_arg7)
      ∧ r.2.mem ((c.tc : Thread Cert.Att0Ideal.nD Cert.Att0Ideal.τ).loc Cert.Att0Ideal.main_arg8) = m ((c.tc : Thread Cert.Att0Ideal.nD Cert.Att0Ideal.τ).loc Cert.Att0Ideal.main_arg8)
      ∧ r.2.mem ((c.tc : Thread Cert.Att0Ideal.nD Cert.Att0Ideal.τ).loc Cert.Att0Ideal.main_arg9) = m ((c.tc : Thread Cert.Att0Ideal.nD Cert.Att0Ideal.τ).loc Cert.Att0Ideal.main_arg9)
      ∧ r.2.mem ((c.tc : Thread Cert.Att0Ideal.nD Cert.Att0Ideal.τ).loc Cert.Att0Ideal.main_arg10) = m ((c.tc : Thread Cert.Att0Ideal.nD Cert.Att0Ideal.τ).loc Cert.Att0Ideal.main_arg10)
      ∧ r.2.mem ((c.tc : Thread Cert.Att0Ideal.nD Cert.Att0Ideal.τ).loc Cert.Att0Ideal.main_arg11) = m ((c.tc : Thread Cert.Att0Ideal.nD Cert.Att0Ideal.τ).loc Cert.Att0Ideal.main_arg11)
      ∧ r.2.mem ((c.tc : Thread Cert.Att0Ideal.nD Cert.Att0Ideal.τ).loc Cert.Att0Ideal.main_arg12) = m ((c.tc : Thread Cert.Att0Ideal.nD Cert.Att0Ideal.τ).loc Cert.Att0Ideal.main_arg12)
      ∧ r.2.mem ((c.tc : Thread Cert.Att0Ideal.nD Cert.Att0Ideal.τ).loc Cert.Att0Ideal.main_arg13) = m ((c.tc : Thread Cert.Att0Ideal.nD Cert.Att0Ideal.τ).loc Cert.Att0Ideal.main_arg13)
      ∧ r.2.mem ((c.tc : Thread Cert.Att0Ideal.nD Cert.Att0Ideal.τ).loc Cert.Att0Ideal.main_arg14) = m ((c.tc : Thread Cert.Att0Ideal.nD Cert.Att0Ideal.τ).loc Cert.Att0Ideal.main_arg14)
      ∧ r.2.mem ((c.tc : Thread Cert.Att0Ideal.nD Cert.Att0Ideal.τ).loc Cert.Att0Ideal.main_arg15) = m ((c.tc : Thread Cert.Att0Ideal.nD Cert.Att0Ideal.τ).loc Cert.Att0Ideal.main_arg15)
      ∧ r.2.mem ((c.tc : Thread Cert.Att0Ideal.nD Cert.Att0Ideal.τ).loc Cert.Att0Ideal.main_arg16) = m ((c.tc : Thread Cert.Att0Ideal.nD Cert.Att0Ideal.τ).loc Cert.Att0Ideal.main_arg16))
      ∧ r.2.sem = fun _ => 0)

def quiescent_Att0Ideal_pre_finite0 [hAtt0Ideal : Cert.Att0Ideal.Facts] [hPre_finite0 : Cert.Pre_finite0.Facts] : Prop :=
  ∀ (m : (ℓ : Loc Cert.Att0Ideal.nD Cert.Att0Ideal.τ Cert.Att0Ideal.sig) → Buf (Elt Ideal) ℓ) (g : Dev Cert.Att0Ideal.nD → PrngReg), Pre_Att0Ideal_finite0 m →
    θ_run (Cert.Att0Ideal.defs (F := Ideal)) (onTc (τ := Cert.Att0Ideal.τ) (Cert.Att0Ideal.main (F := Ideal))) ⟨m, fun _ => 0, g⟩ (fun r => (∀ c : Dev Cert.Att0Ideal.nD,
      r.2.mem ((c.tc : Thread Cert.Att0Ideal.nD Cert.Att0Ideal.τ).loc Cert.Att0Ideal.main_arg0) = m ((c.tc : Thread Cert.Att0Ideal.nD Cert.Att0Ideal.τ).loc Cert.Att0Ideal.main_arg0)
      ∧ r.2.mem ((c.tc : Thread Cert.Att0Ideal.nD Cert.Att0Ideal.τ).loc Cert.Att0Ideal.main_arg1) = m ((c.tc : Thread Cert.Att0Ideal.nD Cert.Att0Ideal.τ).loc Cert.Att0Ideal.main_arg1)
      ∧ r.2.mem ((c.tc : Thread Cert.Att0Ideal.nD Cert.Att0Ideal.τ).loc Cert.Att0Ideal.main_arg2) = m ((c.tc : Thread Cert.Att0Ideal.nD Cert.Att0Ideal.τ).loc Cert.Att0Ideal.main_arg2)
      ∧ r.2.mem ((c.tc : Thread Cert.Att0Ideal.nD Cert.Att0Ideal.τ).loc Cert.Att0Ideal.main_arg3) = m ((c.tc : Thread Cert.Att0Ideal.nD Cert.Att0Ideal.τ).loc Cert.Att0Ideal.main_arg3)
      ∧ r.2.mem ((c.tc : Thread Cert.Att0Ideal.nD Cert.Att0Ideal.τ).loc Cert.Att0Ideal.main_arg4) = m ((c.tc : Thread Cert.Att0Ideal.nD Cert.Att0Ideal.τ).loc Cert.Att0Ideal.main_arg4)
      ∧ r.2.mem ((c.tc : Thread Cert.Att0Ideal.nD Cert.Att0Ideal.τ).loc Cert.Att0Ideal.main_arg5) = m ((c.tc : Thread Cert.Att0Ideal.nD Cert.Att0Ideal.τ).loc Cert.Att0Ideal.main_arg5)
      ∧ r.2.mem ((c.tc : Thread Cert.Att0Ideal.nD Cert.Att0Ideal.τ).loc Cert.Att0Ideal.main_arg6) = m ((c.tc : Thread Cert.Att0Ideal.nD Cert.Att0Ideal.τ).loc Cert.Att0Ideal.main_arg6)
      ∧ r.2.mem ((c.tc : Thread Cert.Att0Ideal.nD Cert.Att0Ideal.τ).loc Cert.Att0Ideal.main_arg7) = m ((c.tc : Thread Cert.Att0Ideal.nD Cert.Att0Ideal.τ).loc Cert.Att0Ideal.main_arg7)
      ∧ r.2.mem ((c.tc : Thread Cert.Att0Ideal.nD Cert.Att0Ideal.τ).loc Cert.Att0Ideal.main_arg8) = m ((c.tc : Thread Cert.Att0Ideal.nD Cert.Att0Ideal.τ).loc Cert.Att0Ideal.main_arg8)
      ∧ r.2.mem ((c.tc : Thread Cert.Att0Ideal.nD Cert.Att0Ideal.τ).loc Cert.Att0Ideal.main_arg9) = m ((c.tc : Thread Cert.Att0Ideal.nD Cert.Att0Ideal.τ).loc Cert.Att0Ideal.main_arg9)
      ∧ r.2.mem ((c.tc : Thread Cert.Att0Ideal.nD Cert.Att0Ideal.τ).loc Cert.Att0Ideal.main_arg10) = m ((c.tc : Thread Cert.Att0Ideal.nD Cert.Att0Ideal.τ).loc Cert.Att0Ideal.main_arg10)
      ∧ r.2.mem ((c.tc : Thread Cert.Att0Ideal.nD Cert.Att0Ideal.τ).loc Cert.Att0Ideal.main_arg11) = m ((c.tc : Thread Cert.Att0Ideal.nD Cert.Att0Ideal.τ).loc Cert.Att0Ideal.main_arg11)
      ∧ r.2.mem ((c.tc : Thread Cert.Att0Ideal.nD Cert.Att0Ideal.τ).loc Cert.Att0Ideal.main_arg12) = m ((c.tc : Thread Cert.Att0Ideal.nD Cert.Att0Ideal.τ).loc Cert.Att0Ideal.main_arg12)
      ∧ r.2.mem ((c.tc : Thread Cert.Att0Ideal.nD Cert.Att0Ideal.τ).loc Cert.Att0Ideal.main_arg13) = m ((c.tc : Thread Cert.Att0Ideal.nD Cert.Att0Ideal.τ).loc Cert.Att0Ideal.main_arg13)
      ∧ r.2.mem ((c.tc : Thread Cert.Att0Ideal.nD Cert.Att0Ideal.τ).loc Cert.Att0Ideal.main_arg14) = m ((c.tc : Thread Cert.Att0Ideal.nD Cert.Att0Ideal.τ).loc Cert.Att0Ideal.main_arg14)
      ∧ r.2.mem ((c.tc : Thread Cert.Att0Ideal.nD Cert.Att0Ideal.τ).loc Cert.Att0Ideal.main_arg15) = m ((c.tc : Thread Cert.Att0Ideal.nD Cert.Att0Ideal.τ).loc Cert.Att0Ideal.main_arg15)
      ∧ r.2.mem ((c.tc : Thread Cert.Att0Ideal.nD Cert.Att0Ideal.τ).loc Cert.Att0Ideal.main_arg16) = m ((c.tc : Thread Cert.Att0Ideal.nD Cert.Att0Ideal.τ).loc Cert.Att0Ideal.main_arg16))
      ∧ r.2.sem = fun _ => 0)

def quiescent_Att0ReferenceIdeal [hAtt0ReferenceIdeal : Cert.Att0ReferenceIdeal.Facts] : Prop :=
  ∀ (m : (ℓ : Loc Cert.Att0ReferenceIdeal.nD Cert.Att0ReferenceIdeal.τ Cert.Att0ReferenceIdeal.sig) → Buf (Elt Ideal) ℓ) (g : Dev Cert.Att0ReferenceIdeal.nD → PrngReg), Pre_Att0ReferenceIdeal m →
    θ_run (Cert.Att0ReferenceIdeal.defs (F := Ideal)) (onTc (τ := Cert.Att0ReferenceIdeal.τ) (Cert.Att0ReferenceIdeal.main (F := Ideal))) ⟨m, fun _ => 0, g⟩ (fun r => (∀ c : Dev Cert.Att0ReferenceIdeal.nD,
      r.2.mem ((c.tc : Thread Cert.Att0ReferenceIdeal.nD Cert.Att0ReferenceIdeal.τ).loc Cert.Att0ReferenceIdeal.main_arg0) = m ((c.tc : Thread Cert.Att0ReferenceIdeal.nD Cert.Att0ReferenceIdeal.τ).loc Cert.Att0ReferenceIdeal.main_arg0)
      ∧ r.2.mem ((c.tc : Thread Cert.Att0ReferenceIdeal.nD Cert.Att0ReferenceIdeal.τ).loc Cert.Att0ReferenceIdeal.main_arg1) = m ((c.tc : Thread Cert.Att0ReferenceIdeal.nD Cert.Att0ReferenceIdeal.τ).loc Cert.Att0ReferenceIdeal.main_arg1)
      ∧ r.2.mem ((c.tc : Thread Cert.Att0ReferenceIdeal.nD Cert.Att0ReferenceIdeal.τ).loc Cert.Att0ReferenceIdeal.main_arg2) = m ((c.tc : Thread Cert.Att0ReferenceIdeal.nD Cert.Att0ReferenceIdeal.τ).loc Cert.Att0ReferenceIdeal.main_arg2)
      ∧ r.2.mem ((c.tc : Thread Cert.Att0ReferenceIdeal.nD Cert.Att0ReferenceIdeal.τ).loc Cert.Att0ReferenceIdeal.main_arg3) = m ((c.tc : Thread Cert.Att0ReferenceIdeal.nD Cert.Att0ReferenceIdeal.τ).loc Cert.Att0ReferenceIdeal.main_arg3)
      ∧ r.2.mem ((c.tc : Thread Cert.Att0ReferenceIdeal.nD Cert.Att0ReferenceIdeal.τ).loc Cert.Att0ReferenceIdeal.main_arg4) = m ((c.tc : Thread Cert.Att0ReferenceIdeal.nD Cert.Att0ReferenceIdeal.τ).loc Cert.Att0ReferenceIdeal.main_arg4)
      ∧ r.2.mem ((c.tc : Thread Cert.Att0ReferenceIdeal.nD Cert.Att0ReferenceIdeal.τ).loc Cert.Att0ReferenceIdeal.main_arg5) = m ((c.tc : Thread Cert.Att0ReferenceIdeal.nD Cert.Att0ReferenceIdeal.τ).loc Cert.Att0ReferenceIdeal.main_arg5)
      ∧ r.2.mem ((c.tc : Thread Cert.Att0ReferenceIdeal.nD Cert.Att0ReferenceIdeal.τ).loc Cert.Att0ReferenceIdeal.main_arg6) = m ((c.tc : Thread Cert.Att0ReferenceIdeal.nD Cert.Att0ReferenceIdeal.τ).loc Cert.Att0ReferenceIdeal.main_arg6)
      ∧ r.2.mem ((c.tc : Thread Cert.Att0ReferenceIdeal.nD Cert.Att0ReferenceIdeal.τ).loc Cert.Att0ReferenceIdeal.main_arg7) = m ((c.tc : Thread Cert.Att0ReferenceIdeal.nD Cert.Att0ReferenceIdeal.τ).loc Cert.Att0ReferenceIdeal.main_arg7)
      ∧ r.2.mem ((c.tc : Thread Cert.Att0ReferenceIdeal.nD Cert.Att0ReferenceIdeal.τ).loc Cert.Att0ReferenceIdeal.main_arg8) = m ((c.tc : Thread Cert.Att0ReferenceIdeal.nD Cert.Att0ReferenceIdeal.τ).loc Cert.Att0ReferenceIdeal.main_arg8)
      ∧ r.2.mem ((c.tc : Thread Cert.Att0ReferenceIdeal.nD Cert.Att0ReferenceIdeal.τ).loc Cert.Att0ReferenceIdeal.main_arg9) = m ((c.tc : Thread Cert.Att0ReferenceIdeal.nD Cert.Att0ReferenceIdeal.τ).loc Cert.Att0ReferenceIdeal.main_arg9)
      ∧ r.2.mem ((c.tc : Thread Cert.Att0ReferenceIdeal.nD Cert.Att0ReferenceIdeal.τ).loc Cert.Att0ReferenceIdeal.main_arg10) = m ((c.tc : Thread Cert.Att0ReferenceIdeal.nD Cert.Att0ReferenceIdeal.τ).loc Cert.Att0ReferenceIdeal.main_arg10)
      ∧ r.2.mem ((c.tc : Thread Cert.Att0ReferenceIdeal.nD Cert.Att0ReferenceIdeal.τ).loc Cert.Att0ReferenceIdeal.main_arg11) = m ((c.tc : Thread Cert.Att0ReferenceIdeal.nD Cert.Att0ReferenceIdeal.τ).loc Cert.Att0ReferenceIdeal.main_arg11)
      ∧ r.2.mem ((c.tc : Thread Cert.Att0ReferenceIdeal.nD Cert.Att0ReferenceIdeal.τ).loc Cert.Att0ReferenceIdeal.main_arg12) = m ((c.tc : Thread Cert.Att0ReferenceIdeal.nD Cert.Att0ReferenceIdeal.τ).loc Cert.Att0ReferenceIdeal.main_arg12)
      ∧ r.2.mem ((c.tc : Thread Cert.Att0ReferenceIdeal.nD Cert.Att0ReferenceIdeal.τ).loc Cert.Att0ReferenceIdeal.main_arg13) = m ((c.tc : Thread Cert.Att0ReferenceIdeal.nD Cert.Att0ReferenceIdeal.τ).loc Cert.Att0ReferenceIdeal.main_arg13)
      ∧ r.2.mem ((c.tc : Thread Cert.Att0ReferenceIdeal.nD Cert.Att0ReferenceIdeal.τ).loc Cert.Att0ReferenceIdeal.main_arg14) = m ((c.tc : Thread Cert.Att0ReferenceIdeal.nD Cert.Att0ReferenceIdeal.τ).loc Cert.Att0ReferenceIdeal.main_arg14)
      ∧ r.2.mem ((c.tc : Thread Cert.Att0ReferenceIdeal.nD Cert.Att0ReferenceIdeal.τ).loc Cert.Att0ReferenceIdeal.main_arg15) = m ((c.tc : Thread Cert.Att0ReferenceIdeal.nD Cert.Att0ReferenceIdeal.τ).loc Cert.Att0ReferenceIdeal.main_arg15)
      ∧ r.2.mem ((c.tc : Thread Cert.Att0ReferenceIdeal.nD Cert.Att0ReferenceIdeal.τ).loc Cert.Att0ReferenceIdeal.main_arg16) = m ((c.tc : Thread Cert.Att0ReferenceIdeal.nD Cert.Att0ReferenceIdeal.τ).loc Cert.Att0ReferenceIdeal.main_arg16))
      ∧ r.2.sem = fun _ => 0)

def quiescent_Att0ReferenceIdeal_pre_finite0 [hAtt0ReferenceIdeal : Cert.Att0ReferenceIdeal.Facts] [hPre_finite0 : Cert.Pre_finite0.Facts] : Prop :=
  ∀ (m : (ℓ : Loc Cert.Att0ReferenceIdeal.nD Cert.Att0ReferenceIdeal.τ Cert.Att0ReferenceIdeal.sig) → Buf (Elt Ideal) ℓ) (g : Dev Cert.Att0ReferenceIdeal.nD → PrngReg), Pre_Att0ReferenceIdeal_finite0 m →
    θ_run (Cert.Att0ReferenceIdeal.defs (F := Ideal)) (onTc (τ := Cert.Att0ReferenceIdeal.τ) (Cert.Att0ReferenceIdeal.main (F := Ideal))) ⟨m, fun _ => 0, g⟩ (fun r => (∀ c : Dev Cert.Att0ReferenceIdeal.nD,
      r.2.mem ((c.tc : Thread Cert.Att0ReferenceIdeal.nD Cert.Att0ReferenceIdeal.τ).loc Cert.Att0ReferenceIdeal.main_arg0) = m ((c.tc : Thread Cert.Att0ReferenceIdeal.nD Cert.Att0ReferenceIdeal.τ).loc Cert.Att0ReferenceIdeal.main_arg0)
      ∧ r.2.mem ((c.tc : Thread Cert.Att0ReferenceIdeal.nD Cert.Att0ReferenceIdeal.τ).loc Cert.Att0ReferenceIdeal.main_arg1) = m ((c.tc : Thread Cert.Att0ReferenceIdeal.nD Cert.Att0ReferenceIdeal.τ).loc Cert.Att0ReferenceIdeal.main_arg1)
      ∧ r.2.mem ((c.tc : Thread Cert.Att0ReferenceIdeal.nD Cert.Att0ReferenceIdeal.τ).loc Cert.Att0ReferenceIdeal.main_arg2) = m ((c.tc : Thread Cert.Att0ReferenceIdeal.nD Cert.Att0ReferenceIdeal.τ).loc Cert.Att0ReferenceIdeal.main_arg2)
      ∧ r.2.mem ((c.tc : Thread Cert.Att0ReferenceIdeal.nD Cert.Att0ReferenceIdeal.τ).loc Cert.Att0ReferenceIdeal.main_arg3) = m ((c.tc : Thread Cert.Att0ReferenceIdeal.nD Cert.Att0ReferenceIdeal.τ).loc Cert.Att0ReferenceIdeal.main_arg3)
      ∧ r.2.mem ((c.tc : Thread Cert.Att0ReferenceIdeal.nD Cert.Att0ReferenceIdeal.τ).loc Cert.Att0ReferenceIdeal.main_arg4) = m ((c.tc : Thread Cert.Att0ReferenceIdeal.nD Cert.Att0ReferenceIdeal.τ).loc Cert.Att0ReferenceIdeal.main_arg4)
      ∧ r.2.mem ((c.tc : Thread Cert.Att0ReferenceIdeal.nD Cert.Att0ReferenceIdeal.τ).loc Cert.Att0ReferenceIdeal.main_arg5) = m ((c.tc : Thread Cert.Att0ReferenceIdeal.nD Cert.Att0ReferenceIdeal.τ).loc Cert.Att0ReferenceIdeal.main_arg5)
      ∧ r.2.mem ((c.tc : Thread Cert.Att0ReferenceIdeal.nD Cert.Att0ReferenceIdeal.τ).loc Cert.Att0ReferenceIdeal.main_arg6) = m ((c.tc : Thread Cert.Att0ReferenceIdeal.nD Cert.Att0ReferenceIdeal.τ).loc Cert.Att0ReferenceIdeal.main_arg6)
      ∧ r.2.mem ((c.tc : Thread Cert.Att0ReferenceIdeal.nD Cert.Att0ReferenceIdeal.τ).loc Cert.Att0ReferenceIdeal.main_arg7) = m ((c.tc : Thread Cert.Att0ReferenceIdeal.nD Cert.Att0ReferenceIdeal.τ).loc Cert.Att0ReferenceIdeal.main_arg7)
      ∧ r.2.mem ((c.tc : Thread Cert.Att0ReferenceIdeal.nD Cert.Att0ReferenceIdeal.τ).loc Cert.Att0ReferenceIdeal.main_arg8) = m ((c.tc : Thread Cert.Att0ReferenceIdeal.nD Cert.Att0ReferenceIdeal.τ).loc Cert.Att0ReferenceIdeal.main_arg8)
      ∧ r.2.mem ((c.tc : Thread Cert.Att0ReferenceIdeal.nD Cert.Att0ReferenceIdeal.τ).loc Cert.Att0ReferenceIdeal.main_arg9) = m ((c.tc : Thread Cert.Att0ReferenceIdeal.nD Cert.Att0ReferenceIdeal.τ).loc Cert.Att0ReferenceIdeal.main_arg9)
      ∧ r.2.mem ((c.tc : Thread Cert.Att0ReferenceIdeal.nD Cert.Att0ReferenceIdeal.τ).loc Cert.Att0ReferenceIdeal.main_arg10) = m ((c.tc : Thread Cert.Att0ReferenceIdeal.nD Cert.Att0ReferenceIdeal.τ).loc Cert.Att0ReferenceIdeal.main_arg10)
      ∧ r.2.mem ((c.tc : Thread Cert.Att0ReferenceIdeal.nD Cert.Att0ReferenceIdeal.τ).loc Cert.Att0ReferenceIdeal.main_arg11) = m ((c.tc : Thread Cert.Att0ReferenceIdeal.nD Cert.Att0ReferenceIdeal.τ).loc Cert.Att0ReferenceIdeal.main_arg11)
      ∧ r.2.mem ((c.tc : Thread Cert.Att0ReferenceIdeal.nD Cert.Att0ReferenceIdeal.τ).loc Cert.Att0ReferenceIdeal.main_arg12) = m ((c.tc : Thread Cert.Att0ReferenceIdeal.nD Cert.Att0ReferenceIdeal.τ).loc Cert.Att0ReferenceIdeal.main_arg12)
      ∧ r.2.mem ((c.tc : Thread Cert.Att0ReferenceIdeal.nD Cert.Att0ReferenceIdeal.τ).loc Cert.Att0ReferenceIdeal.main_arg13) = m ((c.tc : Thread Cert.Att0ReferenceIdeal.nD Cert.Att0ReferenceIdeal.τ).loc Cert.Att0ReferenceIdeal.main_arg13)
      ∧ r.2.mem ((c.tc : Thread Cert.Att0ReferenceIdeal.nD Cert.Att0ReferenceIdeal.τ).loc Cert.Att0ReferenceIdeal.main_arg14) = m ((c.tc : Thread Cert.Att0ReferenceIdeal.nD Cert.Att0ReferenceIdeal.τ).loc Cert.Att0ReferenceIdeal.main_arg14)
      ∧ r.2.mem ((c.tc : Thread Cert.Att0ReferenceIdeal.nD Cert.Att0ReferenceIdeal.τ).loc Cert.Att0ReferenceIdeal.main_arg15) = m ((c.tc : Thread Cert.Att0ReferenceIdeal.nD Cert.Att0ReferenceIdeal.τ).loc Cert.Att0ReferenceIdeal.main_arg15)
      ∧ r.2.mem ((c.tc : Thread Cert.Att0ReferenceIdeal.nD Cert.Att0ReferenceIdeal.τ).loc Cert.Att0ReferenceIdeal.main_arg16) = m ((c.tc : Thread Cert.Att0ReferenceIdeal.nD Cert.Att0ReferenceIdeal.τ).loc Cert.Att0ReferenceIdeal.main_arg16))
      ∧ r.2.sem = fun _ => 0)

def quiescent_CMlp [hCMlp : Cert.CMlp.Facts] : Prop :=
  ∀ (m : (ℓ : Loc Cert.CMlp.nD Cert.CMlp.τ Cert.CMlp.sig) → Buf (Elt Bits) ℓ) (g : Dev Cert.CMlp.nD → PrngReg), Pre_CMlp m →
    θ_run (Cert.CMlp.defs (F := Bits)) (onTc (τ := Cert.CMlp.τ) (Cert.CMlp.main (F := Bits))) ⟨m, fun _ => 0, g⟩ (fun r => (∀ c : Dev Cert.CMlp.nD,
      r.2.mem ((c.tc : Thread Cert.CMlp.nD Cert.CMlp.τ).loc Cert.CMlp.main_arg0) = m ((c.tc : Thread Cert.CMlp.nD Cert.CMlp.τ).loc Cert.CMlp.main_arg0)
      ∧ r.2.mem ((c.tc : Thread Cert.CMlp.nD Cert.CMlp.τ).loc Cert.CMlp.main_arg1) = m ((c.tc : Thread Cert.CMlp.nD Cert.CMlp.τ).loc Cert.CMlp.main_arg1)
      ∧ r.2.mem ((c.tc : Thread Cert.CMlp.nD Cert.CMlp.τ).loc Cert.CMlp.main_arg2) = m ((c.tc : Thread Cert.CMlp.nD Cert.CMlp.τ).loc Cert.CMlp.main_arg2)
      ∧ r.2.mem ((c.tc : Thread Cert.CMlp.nD Cert.CMlp.τ).loc Cert.CMlp.main_arg3) = m ((c.tc : Thread Cert.CMlp.nD Cert.CMlp.τ).loc Cert.CMlp.main_arg3)
      ∧ r.2.mem ((c.tc : Thread Cert.CMlp.nD Cert.CMlp.τ).loc Cert.CMlp.main_arg4) = m ((c.tc : Thread Cert.CMlp.nD Cert.CMlp.τ).loc Cert.CMlp.main_arg4)
      ∧ r.2.mem ((c.tc : Thread Cert.CMlp.nD Cert.CMlp.τ).loc Cert.CMlp.main_arg5) = m ((c.tc : Thread Cert.CMlp.nD Cert.CMlp.τ).loc Cert.CMlp.main_arg5))
      ∧ r.2.sem = fun _ => 0)

def quiescent_CMlpIdeal [hCMlpIdeal : Cert.CMlpIdeal.Facts] : Prop :=
  ∀ (m : (ℓ : Loc Cert.CMlpIdeal.nD Cert.CMlpIdeal.τ Cert.CMlpIdeal.sig) → Buf (Elt Ideal) ℓ) (g : Dev Cert.CMlpIdeal.nD → PrngReg), Pre_CMlpIdeal m →
    θ_run (Cert.CMlpIdeal.defs (F := Ideal)) (onTc (τ := Cert.CMlpIdeal.τ) (Cert.CMlpIdeal.main (F := Ideal))) ⟨m, fun _ => 0, g⟩ (fun r => (∀ c : Dev Cert.CMlpIdeal.nD,
      r.2.mem ((c.tc : Thread Cert.CMlpIdeal.nD Cert.CMlpIdeal.τ).loc Cert.CMlpIdeal.main_arg0) = m ((c.tc : Thread Cert.CMlpIdeal.nD Cert.CMlpIdeal.τ).loc Cert.CMlpIdeal.main_arg0)
      ∧ r.2.mem ((c.tc : Thread Cert.CMlpIdeal.nD Cert.CMlpIdeal.τ).loc Cert.CMlpIdeal.main_arg1) = m ((c.tc : Thread Cert.CMlpIdeal.nD Cert.CMlpIdeal.τ).loc Cert.CMlpIdeal.main_arg1)
      ∧ r.2.mem ((c.tc : Thread Cert.CMlpIdeal.nD Cert.CMlpIdeal.τ).loc Cert.CMlpIdeal.main_arg2) = m ((c.tc : Thread Cert.CMlpIdeal.nD Cert.CMlpIdeal.τ).loc Cert.CMlpIdeal.main_arg2)
      ∧ r.2.mem ((c.tc : Thread Cert.CMlpIdeal.nD Cert.CMlpIdeal.τ).loc Cert.CMlpIdeal.main_arg3) = m ((c.tc : Thread Cert.CMlpIdeal.nD Cert.CMlpIdeal.τ).loc Cert.CMlpIdeal.main_arg3)
      ∧ r.2.mem ((c.tc : Thread Cert.CMlpIdeal.nD Cert.CMlpIdeal.τ).loc Cert.CMlpIdeal.main_arg4) = m ((c.tc : Thread Cert.CMlpIdeal.nD Cert.CMlpIdeal.τ).loc Cert.CMlpIdeal.main_arg4)
      ∧ r.2.mem ((c.tc : Thread Cert.CMlpIdeal.nD Cert.CMlpIdeal.τ).loc Cert.CMlpIdeal.main_arg5) = m ((c.tc : Thread Cert.CMlpIdeal.nD Cert.CMlpIdeal.τ).loc Cert.CMlpIdeal.main_arg5))
      ∧ r.2.sem = fun _ => 0)

def quiescent_CMlpReferenceIdeal [hCMlpReferenceIdeal : Cert.CMlpReferenceIdeal.Facts] : Prop :=
  ∀ (m : (ℓ : Loc Cert.CMlpReferenceIdeal.nD Cert.CMlpReferenceIdeal.τ Cert.CMlpReferenceIdeal.sig) → Buf (Elt Ideal) ℓ) (g : Dev Cert.CMlpReferenceIdeal.nD → PrngReg), Pre_CMlpReferenceIdeal m →
    θ_run (Cert.CMlpReferenceIdeal.defs (F := Ideal)) (onTc (τ := Cert.CMlpReferenceIdeal.τ) (Cert.CMlpReferenceIdeal.main (F := Ideal))) ⟨m, fun _ => 0, g⟩ (fun r => (∀ c : Dev Cert.CMlpReferenceIdeal.nD,
      r.2.mem ((c.tc : Thread Cert.CMlpReferenceIdeal.nD Cert.CMlpReferenceIdeal.τ).loc Cert.CMlpReferenceIdeal.main_arg0) = m ((c.tc : Thread Cert.CMlpReferenceIdeal.nD Cert.CMlpReferenceIdeal.τ).loc Cert.CMlpReferenceIdeal.main_arg0)
      ∧ r.2.mem ((c.tc : Thread Cert.CMlpReferenceIdeal.nD Cert.CMlpReferenceIdeal.τ).loc Cert.CMlpReferenceIdeal.main_arg1) = m ((c.tc : Thread Cert.CMlpReferenceIdeal.nD Cert.CMlpReferenceIdeal.τ).loc Cert.CMlpReferenceIdeal.main_arg1)
      ∧ r.2.mem ((c.tc : Thread Cert.CMlpReferenceIdeal.nD Cert.CMlpReferenceIdeal.τ).loc Cert.CMlpReferenceIdeal.main_arg2) = m ((c.tc : Thread Cert.CMlpReferenceIdeal.nD Cert.CMlpReferenceIdeal.τ).loc Cert.CMlpReferenceIdeal.main_arg2)
      ∧ r.2.mem ((c.tc : Thread Cert.CMlpReferenceIdeal.nD Cert.CMlpReferenceIdeal.τ).loc Cert.CMlpReferenceIdeal.main_arg3) = m ((c.tc : Thread Cert.CMlpReferenceIdeal.nD Cert.CMlpReferenceIdeal.τ).loc Cert.CMlpReferenceIdeal.main_arg3)
      ∧ r.2.mem ((c.tc : Thread Cert.CMlpReferenceIdeal.nD Cert.CMlpReferenceIdeal.τ).loc Cert.CMlpReferenceIdeal.main_arg4) = m ((c.tc : Thread Cert.CMlpReferenceIdeal.nD Cert.CMlpReferenceIdeal.τ).loc Cert.CMlpReferenceIdeal.main_arg4)
      ∧ r.2.mem ((c.tc : Thread Cert.CMlpReferenceIdeal.nD Cert.CMlpReferenceIdeal.τ).loc Cert.CMlpReferenceIdeal.main_arg5) = m ((c.tc : Thread Cert.CMlpReferenceIdeal.nD Cert.CMlpReferenceIdeal.τ).loc Cert.CMlpReferenceIdeal.main_arg5))
      ∧ r.2.sem = fun _ => 0)

def quiescent_COut [hCOut : Cert.COut.Facts] : Prop :=
  ∀ (m : (ℓ : Loc Cert.COut.nD Cert.COut.τ Cert.COut.sig) → Buf (Elt Bits) ℓ) (g : Dev Cert.COut.nD → PrngReg), Pre_COut m →
    θ_run (Cert.COut.defs (F := Bits)) (onTc (τ := Cert.COut.τ) (Cert.COut.main (F := Bits))) ⟨m, fun _ => 0, g⟩ (fun r => (∀ c : Dev Cert.COut.nD,
      r.2.mem ((c.tc : Thread Cert.COut.nD Cert.COut.τ).loc Cert.COut.main_arg0) = m ((c.tc : Thread Cert.COut.nD Cert.COut.τ).loc Cert.COut.main_arg0)
      ∧ r.2.mem ((c.tc : Thread Cert.COut.nD Cert.COut.τ).loc Cert.COut.main_arg1) = m ((c.tc : Thread Cert.COut.nD Cert.COut.τ).loc Cert.COut.main_arg1)
      ∧ r.2.mem ((c.tc : Thread Cert.COut.nD Cert.COut.τ).loc Cert.COut.main_arg2) = m ((c.tc : Thread Cert.COut.nD Cert.COut.τ).loc Cert.COut.main_arg2)
      ∧ r.2.mem ((c.tc : Thread Cert.COut.nD Cert.COut.τ).loc Cert.COut.main_arg3) = m ((c.tc : Thread Cert.COut.nD Cert.COut.τ).loc Cert.COut.main_arg3)
      ∧ r.2.mem ((c.tc : Thread Cert.COut.nD Cert.COut.τ).loc Cert.COut.main_arg4) = m ((c.tc : Thread Cert.COut.nD Cert.COut.τ).loc Cert.COut.main_arg4)
      ∧ r.2.mem ((c.tc : Thread Cert.COut.nD Cert.COut.τ).loc Cert.COut.main_arg5) = m ((c.tc : Thread Cert.COut.nD Cert.COut.τ).loc Cert.COut.main_arg5)
      ∧ r.2.mem ((c.tc : Thread Cert.COut.nD Cert.COut.τ).loc Cert.COut.main_arg6) = m ((c.tc : Thread Cert.COut.nD Cert.COut.τ).loc Cert.COut.main_arg6))
      ∧ r.2.sem = fun _ => 0)

def quiescent_COutIdeal [hCOutIdeal : Cert.COutIdeal.Facts] : Prop :=
  ∀ (m : (ℓ : Loc Cert.COutIdeal.nD Cert.COutIdeal.τ Cert.COutIdeal.sig) → Buf (Elt Ideal) ℓ) (g : Dev Cert.COutIdeal.nD → PrngReg), Pre_COutIdeal m →
    θ_run (Cert.COutIdeal.defs (F := Ideal)) (onTc (τ := Cert.COutIdeal.τ) (Cert.COutIdeal.main (F := Ideal))) ⟨m, fun _ => 0, g⟩ (fun r => (∀ c : Dev Cert.COutIdeal.nD,
      r.2.mem ((c.tc : Thread Cert.COutIdeal.nD Cert.COutIdeal.τ).loc Cert.COutIdeal.main_arg0) = m ((c.tc : Thread Cert.COutIdeal.nD Cert.COutIdeal.τ).loc Cert.COutIdeal.main_arg0)
      ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
      ∧ r.2.mem ((c.tc : Thread Cert.COutIdeal.nD Cert.COutIdeal.τ).loc Cert.COutIdeal.main_arg2) = m ((c.tc : Thread Cert.COutIdeal.nD Cert.COutIdeal.τ).loc Cert.COutIdeal.main_arg2)
      ∧ r.2.mem ((c.tc : Thread Cert.COutIdeal.nD Cert.COutIdeal.τ).loc Cert.COutIdeal.main_arg3) = m ((c.tc : Thread Cert.COutIdeal.nD Cert.COutIdeal.τ).loc Cert.COutIdeal.main_arg3)
      ∧ r.2.mem ((c.tc : Thread Cert.COutIdeal.nD Cert.COutIdeal.τ).loc Cert.COutIdeal.main_arg4) = m ((c.tc : Thread Cert.COutIdeal.nD Cert.COutIdeal.τ).loc Cert.COutIdeal.main_arg4)
      ∧ r.2.mem ((c.tc : Thread Cert.COutIdeal.nD Cert.COutIdeal.τ).loc Cert.COutIdeal.main_arg5) = m ((c.tc : Thread Cert.COutIdeal.nD Cert.COutIdeal.τ).loc Cert.COutIdeal.main_arg5)
      ∧ r.2.mem ((c.tc : Thread Cert.COutIdeal.nD Cert.COutIdeal.τ).loc Cert.COutIdeal.main_arg6) = m ((c.tc : Thread Cert.COutIdeal.nD Cert.COutIdeal.τ).loc Cert.COutIdeal.main_arg6))
      ∧ r.2.sem = fun _ => 0)

def quiescent_COutReferenceIdeal [hCOutReferenceIdeal : Cert.COutReferenceIdeal.Facts] : Prop :=
  ∀ (m : (ℓ : Loc Cert.COutReferenceIdeal.nD Cert.COutReferenceIdeal.τ Cert.COutReferenceIdeal.sig) → Buf (Elt Ideal) ℓ) (g : Dev Cert.COutReferenceIdeal.nD → PrngReg), Pre_COutReferenceIdeal m →
    θ_run (Cert.COutReferenceIdeal.defs (F := Ideal)) (onTc (τ := Cert.COutReferenceIdeal.τ) (Cert.COutReferenceIdeal.main (F := Ideal))) ⟨m, fun _ => 0, g⟩ (fun r => (∀ c : Dev Cert.COutReferenceIdeal.nD,
      r.2.mem ((c.tc : Thread Cert.COutReferenceIdeal.nD Cert.COutReferenceIdeal.τ).loc Cert.COutReferenceIdeal.main_arg0) = m ((c.tc : Thread Cert.COutReferenceIdeal.nD Cert.COutReferenceIdeal.τ).loc Cert.COutReferenceIdeal.main_arg0)
      ∧ r.2.mem ((c.tc : Thread Cert.COutReferenceIdeal.nD Cert.COutReferenceIdeal.τ).loc Cert.COutReferenceIdeal.main_arg1) = m ((c.tc : Thread Cert.COutReferenceIdeal.nD Cert.COutReferenceIdeal.τ).loc Cert.COutReferenceIdeal.main_arg1)
      ∧ r.2.mem ((c.tc : Thread Cert.COutReferenceIdeal.nD Cert.COutReferenceIdeal.τ).loc Cert.COutReferenceIdeal.main_arg2) = m ((c.tc : Thread Cert.COutReferenceIdeal.nD Cert.COutReferenceIdeal.τ).loc Cert.COutReferenceIdeal.main_arg2)
      ∧ r.2.mem ((c.tc : Thread Cert.COutReferenceIdeal.nD Cert.COutReferenceIdeal.τ).loc Cert.COutReferenceIdeal.main_arg3) = m ((c.tc : Thread Cert.COutReferenceIdeal.nD Cert.COutReferenceIdeal.τ).loc Cert.COutReferenceIdeal.main_arg3)
      ∧ r.2.mem ((c.tc : Thread Cert.COutReferenceIdeal.nD Cert.COutReferenceIdeal.τ).loc Cert.COutReferenceIdeal.main_arg4) = m ((c.tc : Thread Cert.COutReferenceIdeal.nD Cert.COutReferenceIdeal.τ).loc Cert.COutReferenceIdeal.main_arg4)
      ∧ r.2.mem ((c.tc : Thread Cert.COutReferenceIdeal.nD Cert.COutReferenceIdeal.τ).loc Cert.COutReferenceIdeal.main_arg5) = m ((c.tc : Thread Cert.COutReferenceIdeal.nD Cert.COutReferenceIdeal.τ).loc Cert.COutReferenceIdeal.main_arg5)
      ∧ r.2.mem ((c.tc : Thread Cert.COutReferenceIdeal.nD Cert.COutReferenceIdeal.τ).loc Cert.COutReferenceIdeal.main_arg6) = m ((c.tc : Thread Cert.COutReferenceIdeal.nD Cert.COutReferenceIdeal.τ).loc Cert.COutReferenceIdeal.main_arg6))
      ∧ r.2.sem = fun _ => 0)

def quiescent_CInp [hCInp : Cert.CInp.Facts] : Prop :=
  ∀ (m : (ℓ : Loc Cert.CInp.nD Cert.CInp.τ Cert.CInp.sig) → Buf (Elt Bits) ℓ) (g : Dev Cert.CInp.nD → PrngReg), Pre_CInp m →
    θ_run (Cert.CInp.defs (F := Bits)) (onTc (τ := Cert.CInp.τ) (Cert.CInp.main (F := Bits))) ⟨m, fun _ => 0, g⟩ (fun r => (∀ c : Dev Cert.CInp.nD,
      r.2.mem ((c.tc : Thread Cert.CInp.nD Cert.CInp.τ).loc Cert.CInp.main_arg0) = m ((c.tc : Thread Cert.CInp.nD Cert.CInp.τ).loc Cert.CInp.main_arg0)
      ∧ r.2.mem ((c.tc : Thread Cert.CInp.nD Cert.CInp.τ).loc Cert.CInp.main_arg1) = m ((c.tc : Thread Cert.CInp.nD Cert.CInp.τ).loc Cert.CInp.main_arg1)
      ∧ r.2.mem ((c.tc : Thread Cert.CInp.nD Cert.CInp.τ).loc Cert.CInp.main_arg2) = m ((c.tc : Thread Cert.CInp.nD Cert.CInp.τ).loc Cert.CInp.main_arg2)
      ∧ r.2.mem ((c.tc : Thread Cert.CInp.nD Cert.CInp.τ).loc Cert.CInp.main_arg3) = m ((c.tc : Thread Cert.CInp.nD Cert.CInp.τ).loc Cert.CInp.main_arg3))
      ∧ r.2.sem = fun _ => 0)

def quiescent_CInpIdeal [hCInpIdeal : Cert.CInpIdeal.Facts] : Prop :=
  ∀ (m : (ℓ : Loc Cert.CInpIdeal.nD Cert.CInpIdeal.τ Cert.CInpIdeal.sig) → Buf (Elt Ideal) ℓ) (g : Dev Cert.CInpIdeal.nD → PrngReg), Pre_CInpIdeal m →
    θ_run (Cert.CInpIdeal.defs (F := Ideal)) (onTc (τ := Cert.CInpIdeal.τ) (Cert.CInpIdeal.main (F := Ideal))) ⟨m, fun _ => 0, g⟩ (fun r => (∀ c : Dev Cert.CInpIdeal.nD,
      r.2.mem ((c.tc : Thread Cert.CInpIdeal.nD Cert.CInpIdeal.τ).loc Cert.CInpIdeal.main_arg0) = m ((c.tc : Thread Cert.CInpIdeal.nD Cert.CInpIdeal.τ).loc Cert.CInpIdeal.main_arg0)
      ∧ r.2.mem ((c.tc : Thread Cert.CInpIdeal.nD Cert.CInpIdeal.τ).loc Cert.CInpIdeal.main_arg1) = m ((c.tc : Thread Cert.CInpIdeal.nD Cert.CInpIdeal.τ).loc Cert.CInpIdeal.main_arg1)
      ∧ r.2.mem ((c.tc : Thread Cert.CInpIdeal.nD Cert.CInpIdeal.τ).loc Cert.CInpIdeal.main_arg2) = m ((c.tc : Thread Cert.CInpIdeal.nD Cert.CInpIdeal.τ).loc Cert.CInpIdeal.main_arg2)
      ∧ r.2.mem ((c.tc : Thread Cert.CInpIdeal.nD Cert.CInpIdeal.τ).loc Cert.CInpIdeal.main_arg3) = m ((c.tc : Thread Cert.CInpIdeal.nD Cert.CInpIdeal.τ).loc Cert.CInpIdeal.main_arg3))
      ∧ r.2.sem = fun _ => 0)

def quiescent_CInpReferenceIdeal [hCInpReferenceIdeal : Cert.CInpReferenceIdeal.Facts] : Prop :=
  ∀ (m : (ℓ : Loc Cert.CInpReferenceIdeal.nD Cert.CInpReferenceIdeal.τ Cert.CInpReferenceIdeal.sig) → Buf (Elt Ideal) ℓ) (g : Dev Cert.CInpReferenceIdeal.nD → PrngReg), Pre_CInpReferenceIdeal m →
    θ_run (Cert.CInpReferenceIdeal.defs (F := Ideal)) (onTc (τ := Cert.CInpReferenceIdeal.τ) (Cert.CInpReferenceIdeal.main (F := Ideal))) ⟨m, fun _ => 0, g⟩ (fun r => (∀ c : Dev Cert.CInpReferenceIdeal.nD,
      r.2.mem ((c.tc : Thread Cert.CInpReferenceIdeal.nD Cert.CInpReferenceIdeal.τ).loc Cert.CInpReferenceIdeal.main_arg0) = m ((c.tc : Thread Cert.CInpReferenceIdeal.nD Cert.CInpReferenceIdeal.τ).loc Cert.CInpReferenceIdeal.main_arg0)
      ∧ r.2.mem ((c.tc : Thread Cert.CInpReferenceIdeal.nD Cert.CInpReferenceIdeal.τ).loc Cert.CInpReferenceIdeal.main_arg1) = m ((c.tc : Thread Cert.CInpReferenceIdeal.nD Cert.CInpReferenceIdeal.τ).loc Cert.CInpReferenceIdeal.main_arg1)
      ∧ r.2.mem ((c.tc : Thread Cert.CInpReferenceIdeal.nD Cert.CInpReferenceIdeal.τ).loc Cert.CInpReferenceIdeal.main_arg2) = m ((c.tc : Thread Cert.CInpReferenceIdeal.nD Cert.CInpReferenceIdeal.τ).loc Cert.CInpReferenceIdeal.main_arg2)
      ∧ r.2.mem ((c.tc : Thread Cert.CInpReferenceIdeal.nD Cert.CInpReferenceIdeal.τ).loc Cert.CInpReferenceIdeal.main_arg3) = m ((c.tc : Thread Cert.CInpReferenceIdeal.nD Cert.CInpReferenceIdeal.τ).loc Cert.CInpReferenceIdeal.main_arg3))
      ∧ r.2.sem = fun _ => 0)

def quiescent_CKv [hCKv : Cert.CKv.Facts] : Prop :=
  ∀ (m : (ℓ : Loc Cert.CKv.nD Cert.CKv.τ Cert.CKv.sig) → Buf (Elt Bits) ℓ) (g : Dev Cert.CKv.nD → PrngReg), Pre_CKv m →
    θ_run (Cert.CKv.defs (F := Bits)) (onTc (τ := Cert.CKv.τ) (Cert.CKv.main (F := Bits))) ⟨m, fun _ => 0, g⟩ (fun r => (∀ c : Dev Cert.CKv.nD,
      r.2.mem ((c.tc : Thread Cert.CKv.nD Cert.CKv.τ).loc Cert.CKv.main_arg0) = m ((c.tc : Thread Cert.CKv.nD Cert.CKv.τ).loc Cert.CKv.main_arg0)
      ∧ r.2.mem ((c.tc : Thread Cert.CKv.nD Cert.CKv.τ).loc Cert.CKv.main_arg1) = m ((c.tc : Thread Cert.CKv.nD Cert.CKv.τ).loc Cert.CKv.main_arg1)
      ∧ r.2.mem ((c.tc : Thread Cert.CKv.nD Cert.CKv.τ).loc Cert.CKv.main_arg2) = m ((c.tc : Thread Cert.CKv.nD Cert.CKv.τ).loc Cert.CKv.main_arg2)
      ∧ r.2.mem ((c.tc : Thread Cert.CKv.nD Cert.CKv.τ).loc Cert.CKv.main_arg3) = m ((c.tc : Thread Cert.CKv.nD Cert.CKv.τ).loc Cert.CKv.main_arg3))
      ∧ r.2.sem = fun _ => 0)

def quiescent_CKvIdeal [hCKvIdeal : Cert.CKvIdeal.Facts] : Prop :=
  ∀ (m : (ℓ : Loc Cert.CKvIdeal.nD Cert.CKvIdeal.τ Cert.CKvIdeal.sig) → Buf (Elt Ideal) ℓ) (g : Dev Cert.CKvIdeal.nD → PrngReg), Pre_CKvIdeal m →
    θ_run (Cert.CKvIdeal.defs (F := Ideal)) (onTc (τ := Cert.CKvIdeal.τ) (Cert.CKvIdeal.main (F := Ideal))) ⟨m, fun _ => 0, g⟩ (fun r => (∀ c : Dev Cert.CKvIdeal.nD,
      r.2.mem ((c.tc : Thread Cert.CKvIdeal.nD Cert.CKvIdeal.τ).loc Cert.CKvIdeal.main_arg0) = m ((c.tc : Thread Cert.CKvIdeal.nD Cert.CKvIdeal.τ).loc Cert.CKvIdeal.main_arg0)
      ∧ r.2.mem ((c.tc : Thread Cert.CKvIdeal.nD Cert.CKvIdeal.τ).loc Cert.CKvIdeal.main_arg1) = m ((c.tc : Thread Cert.CKvIdeal.nD Cert.CKvIdeal.τ).loc Cert.CKvIdeal.main_arg1)
      ∧ r.2.mem ((c.tc : Thread Cert.CKvIdeal.nD Cert.CKvIdeal.τ).loc Cert.CKvIdeal.main_arg2) = m ((c.tc : Thread Cert.CKvIdeal.nD Cert.CKvIdeal.τ).loc Cert.CKvIdeal.main_arg2)
      ∧ r.2.mem ((c.tc : Thread Cert.CKvIdeal.nD Cert.CKvIdeal.τ).loc Cert.CKvIdeal.main_arg3) = m ((c.tc : Thread Cert.CKvIdeal.nD Cert.CKvIdeal.τ).loc Cert.CKvIdeal.main_arg3))
      ∧ r.2.sem = fun _ => 0)

def quiescent_CKvReferenceIdeal [hCKvReferenceIdeal : Cert.CKvReferenceIdeal.Facts] : Prop :=
  ∀ (m : (ℓ : Loc Cert.CKvReferenceIdeal.nD Cert.CKvReferenceIdeal.τ Cert.CKvReferenceIdeal.sig) → Buf (Elt Ideal) ℓ) (g : Dev Cert.CKvReferenceIdeal.nD → PrngReg), Pre_CKvReferenceIdeal m →
    θ_run (Cert.CKvReferenceIdeal.defs (F := Ideal)) (onTc (τ := Cert.CKvReferenceIdeal.τ) (Cert.CKvReferenceIdeal.main (F := Ideal))) ⟨m, fun _ => 0, g⟩ (fun r => (∀ c : Dev Cert.CKvReferenceIdeal.nD,
      r.2.mem ((c.tc : Thread Cert.CKvReferenceIdeal.nD Cert.CKvReferenceIdeal.τ).loc Cert.CKvReferenceIdeal.main_arg0) = m ((c.tc : Thread Cert.CKvReferenceIdeal.nD Cert.CKvReferenceIdeal.τ).loc Cert.CKvReferenceIdeal.main_arg0)
      ∧ r.2.mem ((c.tc : Thread Cert.CKvReferenceIdeal.nD Cert.CKvReferenceIdeal.τ).loc Cert.CKvReferenceIdeal.main_arg1) = m ((c.tc : Thread Cert.CKvReferenceIdeal.nD Cert.CKvReferenceIdeal.τ).loc Cert.CKvReferenceIdeal.main_arg1)
      ∧ r.2.mem ((c.tc : Thread Cert.CKvReferenceIdeal.nD Cert.CKvReferenceIdeal.τ).loc Cert.CKvReferenceIdeal.main_arg2) = m ((c.tc : Thread Cert.CKvReferenceIdeal.nD Cert.CKvReferenceIdeal.τ).loc Cert.CKvReferenceIdeal.main_arg2)
      ∧ r.2.mem ((c.tc : Thread Cert.CKvReferenceIdeal.nD Cert.CKvReferenceIdeal.τ).loc Cert.CKvReferenceIdeal.main_arg3) = m ((c.tc : Thread Cert.CKvReferenceIdeal.nD Cert.CKvReferenceIdeal.τ).loc Cert.CKvReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v54) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_Mlp0_Mlp0Ideal : Prop :=
  True

def algebraic_Mlp0Ideal_Mlp0ReferenceIdeal [hMlp0Ideal : Cert.Mlp0Ideal.Facts] [hMlp0ReferenceIdeal : Cert.Mlp0ReferenceIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0ReferenceIdeal.nD Cert.Mlp0ReferenceIdeal.τ Cert.Mlp0ReferenceIdeal.sig) → Buf (Elt Ideal) ℓ) (g' : Dev Cert.Mlp0ReferenceIdeal.nD → PrngReg), Pre_Mlp0Ideal m →
    (∀ c : Dev Cert.Mlp0Ideal.nD,
      m' ((c.tc : Thread Cert.Mlp0ReferenceIdeal.nD Cert.Mlp0ReferenceIdeal.τ).loc Cert.Mlp0ReferenceIdeal.main_arg0) = m ((c.tc : Thread Cert.Mlp0Ideal.nD Cert.Mlp0Ideal.τ).loc Cert.Mlp0Ideal.main_arg0)
      ∧ m' ((c.tc : Thread Cert.Mlp0ReferenceIdeal.nD Cert.Mlp0ReferenceIdeal.τ).loc Cert.Mlp0ReferenceIdeal.main_arg1) = m ((c.tc : Thread Cert.Mlp0Ideal.nD Cert.Mlp0Ideal.τ).loc Cert.Mlp0Ideal.main_arg1)
      ∧ m' ((c.tc : Thread Cert.Mlp0ReferenceIdeal.nD Cert.Mlp0ReferenceIdeal.τ).loc Cert.Mlp0ReferenceIdeal.main_arg2) = m ((c.tc : Thread Cert.Mlp0Ideal.nD Cert.Mlp0Ideal.τ).loc Cert.Mlp0Ideal.main_arg2)
      ∧ m' ((c.tc : Thread Cert.Mlp0ReferenceIdeal.nD Cert.Mlp0ReferenceIdeal.τ).loc Cert.Mlp0ReferenceIdeal.main_arg3) = m ((c.tc : Thread Cert.Mlp0Ideal.nD Cert.Mlp0Ideal.τ).loc Cert.Mlp0Ideal.main_arg3)
      ∧ m' ((c.tc : Thread Cert.Mlp0ReferenceIdeal.nD Cert.Mlp0ReferenceIdeal.τ).loc Cert.Mlp0ReferenceIdeal.main_arg4) = m ((c.tc : Thread Cert.Mlp0Ideal.nD Cert.Mlp0Ideal.τ).loc Cert.Mlp0Ideal.main_arg4)
      ∧ m' ((c.tc : Thread Cert.Mlp0ReferenceIdeal.nD Cert.Mlp0ReferenceIdeal.τ).loc Cert.Mlp0ReferenceIdeal.main_arg5) = m ((c.tc : Thread Cert.Mlp0Ideal.nD Cert.Mlp0Ideal.τ).loc Cert.Mlp0Ideal.main_arg5)) →
    ∃ (v0 : (c : Dev Cert.Mlp0Ideal.nD) → Buf (Elt Ideal) ((c.tc : Thread Cert.Mlp0Ideal.nD Cert.Mlp0Ideal.τ).loc Cert.Mlp0Ideal.main_v5)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v5) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ θ_run (Cert.Mlp0ReferenceIdeal.defs (F := Ideal)) (onTc (τ := Cert.Mlp0ReferenceIdeal.τ) (Cert.Mlp0ReferenceIdeal.main (F := Ideal))) ⟨m', fun _ => 0, g'⟩ (fun r => ∀ c : Dev Cert.Mlp0ReferenceIdeal.nD,
          r.2.mem ((c.tc : Thread Cert.Mlp0ReferenceIdeal.nD Cert.Mlp0ReferenceIdeal.τ).loc Cert.Mlp0ReferenceIdeal.main_v54) = v0 c
          ∧ r.2.mem ((c.tc : Thread Cert.Mlp0ReferenceIdeal.nD Cert.Mlp0ReferenceIdeal.τ).loc Cert.Mlp0ReferenceIdeal.main_arg0) = m' ((c.tc : Thread Cert.Mlp0ReferenceIdeal.nD Cert.Mlp0ReferenceIdeal.τ).loc Cert.Mlp0ReferenceIdeal.main_arg0)
          ∧ r.2.mem ((c.tc : Thread Cert.Mlp0ReferenceIdeal.nD Cert.Mlp0ReferenceIdeal.τ).loc Cert.Mlp0ReferenceIdeal.main_arg1) = m' ((c.tc : Thread Cert.Mlp0ReferenceIdeal.nD Cert.Mlp0ReferenceIdeal.τ).loc Cert.Mlp0ReferenceIdeal.main_arg1)
          ∧ r.2.mem ((c.tc : Thread Cert.Mlp0ReferenceIdeal.nD Cert.Mlp0ReferenceIdeal.τ).loc Cert.Mlp0ReferenceIdeal.main_arg2) = m' ((c.tc : Thread Cert.Mlp0ReferenceIdeal.nD Cert.Mlp0ReferenceIdeal.τ).loc Cert.Mlp0ReferenceIdeal.main_arg2)
          ∧ r.2.mem ((c.tc : Thread Cert.Mlp0ReferenceIdeal.nD Cert.Mlp0ReferenceIdeal.τ).loc Cert.Mlp0ReferenceIdeal.main_arg3) = m' ((c.tc : Thread Cert.Mlp0ReferenceIdeal.nD Cert.Mlp0ReferenceIdeal.τ).loc Cert.Mlp0ReferenceIdeal.main_arg3)
          ∧ r.2.mem ((c.tc : Thread Cert.Mlp0ReferenceIdeal.nD Cert.Mlp0ReferenceIdeal.τ).loc Cert.Mlp0ReferenceIdeal.main_arg4) = m' ((c.tc : Thread Cert.Mlp0ReferenceIdeal.nD Cert.Mlp0ReferenceIdeal.τ).loc Cert.Mlp0ReferenceIdeal.main_arg4)
          ∧ r.2.mem ((c.tc : Thread Cert.Mlp0ReferenceIdeal.nD Cert.Mlp0ReferenceIdeal.τ).loc Cert.Mlp0ReferenceIdeal.main_arg5) = m' ((c.tc : Thread Cert.Mlp0ReferenceIdeal.nD Cert.Mlp0ReferenceIdeal.τ).loc Cert.Mlp0ReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Out0_Out0Ideal : Prop :=
  True

def algebraic_Out0Ideal_Out0ReferenceIdeal [hOut0Ideal : Cert.Out0Ideal.Facts] [hOut0ReferenceIdeal : Cert.Out0ReferenceIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0ReferenceIdeal.nD Cert.Out0ReferenceIdeal.τ Cert.Out0ReferenceIdeal.sig) → Buf (Elt Ideal) ℓ) (g' : Dev Cert.Out0ReferenceIdeal.nD → PrngReg), Pre_Out0Ideal m →
    (∀ c : Dev Cert.Out0Ideal.nD,
      m' ((c.tc : Thread Cert.Out0ReferenceIdeal.nD Cert.Out0ReferenceIdeal.τ).loc Cert.Out0ReferenceIdeal.main_arg0) = m ((c.tc : Thread Cert.Out0Ideal.nD Cert.Out0Ideal.τ).loc Cert.Out0Ideal.main_arg0)
      ∧ m' ((c.tc : Thread Cert.Out0ReferenceIdeal.nD Cert.Out0ReferenceIdeal.τ).loc Cert.Out0ReferenceIdeal.main_arg1) = m ((c.tc : Thread Cert.Out0Ideal.nD Cert.Out0Ideal.τ).loc Cert.Out0Ideal.main_arg1)
      ∧ m' ((c.tc : Thread Cert.Out0ReferenceIdeal.nD Cert.Out0ReferenceIdeal.τ).loc Cert.Out0ReferenceIdeal.main_arg2) = m ((c.tc : Thread Cert.Out0Ideal.nD Cert.Out0Ideal.τ).loc Cert.Out0Ideal.main_arg2)
      ∧ m' ((c.tc : Thread Cert.Out0ReferenceIdeal.nD Cert.Out0ReferenceIdeal.τ).loc Cert.Out0ReferenceIdeal.main_arg3) = m ((c.tc : Thread Cert.Out0Ideal.nD Cert.Out0Ideal.τ).loc Cert.Out0Ideal.main_arg3)
      ∧ m' ((c.tc : Thread Cert.Out0ReferenceIdeal.nD Cert.Out0ReferenceIdeal.τ).loc Cert.Out0ReferenceIdeal.main_arg4) = m ((c.tc : Thread Cert.Out0Ideal.nD Cert.Out0Ideal.τ).loc Cert.Out0Ideal.main_arg4)
      ∧ m' ((c.tc : Thread Cert.Out0ReferenceIdeal.nD Cert.Out0ReferenceIdeal.τ).loc Cert.Out0ReferenceIdeal.main_arg5) = m ((c.tc : Thread Cert.Out0Ideal.nD Cert.Out0Ideal.τ).loc Cert.Out0Ideal.main_arg5)
      ∧ m' ((c.tc : Thread Cert.Out0ReferenceIdeal.nD Cert.Out0ReferenceIdeal.τ).loc Cert.Out0ReferenceIdeal.main_arg6) = m ((c.tc : Thread Cert.Out0Ideal.nD Cert.Out0Ideal.τ).loc Cert.Out0Ideal.main_arg6)) →
    ∃ (v0 : (c : Dev Cert.Out0Ideal.nD) → Buf (Elt Ideal) ((c.tc : Thread Cert.Out0Ideal.nD Cert.Out0Ideal.τ).loc Cert.Out0Ideal.main_v10)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v10) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
          ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
          ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6))
      ∧ θ_run (Cert.Out0ReferenceIdeal.defs (F := Ideal)) (onTc (τ := Cert.Out0ReferenceIdeal.τ) (Cert.Out0ReferenceIdeal.main (F := Ideal))) ⟨m', fun _ => 0, g'⟩ (fun r => ∀ c : Dev Cert.Out0ReferenceIdeal.nD,
          r.2.mem ((c.tc : Thread Cert.Out0ReferenceIdeal.nD Cert.Out0ReferenceIdeal.τ).loc Cert.Out0ReferenceIdeal.main_v28) = v0 c
          ∧ r.2.mem ((c.tc : Thread Cert.Out0ReferenceIdeal.nD Cert.Out0ReferenceIdeal.τ).loc Cert.Out0ReferenceIdeal.main_arg0) = m' ((c.tc : Thread Cert.Out0ReferenceIdeal.nD Cert.Out0ReferenceIdeal.τ).loc Cert.Out0ReferenceIdeal.main_arg0)
          ∧ r.2.mem ((c.tc : Thread Cert.Out0ReferenceIdeal.nD Cert.Out0ReferenceIdeal.τ).loc Cert.Out0ReferenceIdeal.main_arg1) = m' ((c.tc : Thread Cert.Out0ReferenceIdeal.nD Cert.Out0ReferenceIdeal.τ).loc Cert.Out0ReferenceIdeal.main_arg1)
          ∧ r.2.mem ((c.tc : Thread Cert.Out0ReferenceIdeal.nD Cert.Out0ReferenceIdeal.τ).loc Cert.Out0ReferenceIdeal.main_arg2) = m' ((c.tc : Thread Cert.Out0ReferenceIdeal.nD Cert.Out0ReferenceIdeal.τ).loc Cert.Out0ReferenceIdeal.main_arg2)
          ∧ r.2.mem ((c.tc : Thread Cert.Out0ReferenceIdeal.nD Cert.Out0ReferenceIdeal.τ).loc Cert.Out0ReferenceIdeal.main_arg3) = m' ((c.tc : Thread Cert.Out0ReferenceIdeal.nD Cert.Out0ReferenceIdeal.τ).loc Cert.Out0ReferenceIdeal.main_arg3)
          ∧ r.2.mem ((c.tc : Thread Cert.Out0ReferenceIdeal.nD Cert.Out0ReferenceIdeal.τ).loc Cert.Out0ReferenceIdeal.main_arg4) = m' ((c.tc : Thread Cert.Out0ReferenceIdeal.nD Cert.Out0ReferenceIdeal.τ).loc Cert.Out0ReferenceIdeal.main_arg4)
          ∧ r.2.mem ((c.tc : Thread Cert.Out0ReferenceIdeal.nD Cert.Out0ReferenceIdeal.τ).loc Cert.Out0ReferenceIdeal.main_arg5) = m' ((c.tc : Thread Cert.Out0ReferenceIdeal.nD Cert.Out0ReferenceIdeal.τ).loc Cert.Out0ReferenceIdeal.main_arg5)
          ∧ r.2.mem ((c.tc : Thread Cert.Out0ReferenceIdeal.nD Cert.Out0ReferenceIdeal.τ).loc Cert.Out0ReferenceIdeal.main_arg6) = m' ((c.tc : Thread Cert.Out0ReferenceIdeal.nD Cert.Out0ReferenceIdeal.τ).loc Cert.Out0ReferenceIdeal.main_arg6))

def preserves_Inp_InpIdeal : Prop :=
  True

def algebraic_InpIdeal_InpReferenceIdeal [hInpIdeal : Cert.InpIdeal.Facts] [hInpReferenceIdeal : Cert.InpReferenceIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpIdeal m →
    (∀ c : Dev Cert.InpIdeal.nD,
      m' ((c.tc : Thread Cert.InpReferenceIdeal.nD Cert.InpReferenceIdeal.τ).loc Cert.InpReferenceIdeal.main_arg0) = m ((c.tc : Thread Cert.InpIdeal.nD Cert.InpIdeal.τ).loc Cert.InpIdeal.main_arg0)
      ∧ m' ((c.tc : Thread Cert.InpReferenceIdeal.nD Cert.InpReferenceIdeal.τ).loc Cert.InpReferenceIdeal.main_arg1) = m ((c.tc : Thread Cert.InpIdeal.nD Cert.InpIdeal.τ).loc Cert.InpIdeal.main_arg1)
      ∧ m' ((c.tc : Thread Cert.InpReferenceIdeal.nD Cert.InpReferenceIdeal.τ).loc Cert.InpReferenceIdeal.main_arg2) = m ((c.tc : Thread Cert.InpIdeal.nD Cert.InpIdeal.τ).loc Cert.InpIdeal.main_arg2)
      ∧ m' ((c.tc : Thread Cert.InpReferenceIdeal.nD Cert.InpReferenceIdeal.τ).loc Cert.InpReferenceIdeal.main_arg3) = m ((c.tc : Thread Cert.InpIdeal.nD Cert.InpIdeal.τ).loc Cert.InpIdeal.main_arg3)
      ∧ m' ((c.tc : Thread Cert.InpReferenceIdeal.nD Cert.InpReferenceIdeal.τ).loc Cert.InpReferenceIdeal.main_arg4) = m ((c.tc : Thread Cert.InpIdeal.nD Cert.InpIdeal.τ).loc Cert.InpIdeal.main_arg4)
      ∧ m' ((c.tc : Thread Cert.InpReferenceIdeal.nD Cert.InpReferenceIdeal.τ).loc Cert.InpReferenceIdeal.main_arg5) = m ((c.tc : Thread Cert.InpIdeal.nD Cert.InpIdeal.τ).loc Cert.InpIdeal.main_arg5)) →
    ∃ (v0 : (c : Dev Cert.InpIdeal.nD) → Buf (Elt Ideal) ((c.tc : Thread Cert.InpIdeal.nD Cert.InpIdeal.τ).loc Cert.InpIdeal.main_v8)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v8) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v80) = v0 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4)
          ∧ r.2.mem ((c.tc : Thread Cert.InpReferenceIdeal.nD Cert.InpReferenceIdeal.τ).loc Cert.InpReferenceIdeal.main_arg5) = m' ((c.tc : Thread Cert.InpReferenceIdeal.nD Cert.InpReferenceIdeal.τ).loc Cert.InpReferenceIdeal.main_arg5))

def preserves_Inp0_Inp0Ideal : Prop :=
  True

def algebraic_Inp0Ideal_Inp0ReferenceIdeal [hInp0Ideal : Cert.Inp0Ideal.Facts] [hInp0ReferenceIdeal : Cert.Inp0ReferenceIdeal.Facts] : Prop :=
  ∀ (m : (ℓ : Loc Cert.Inp0Ideal.nD Cert.Inp0Ideal.τ Cert.Inp0Ideal.sig) → Buf (Elt Ideal) ℓ) (g : Dev Cert.Inp0Ideal.nD → PrngReg)
    (m' : (ℓ : Loc Cert.Inp0ReferenceIdeal.nD Cert.Inp0ReferenceIdeal.τ Cert.Inp0ReferenceIdeal.sig) → Buf (Elt Ideal) ℓ) (g' : Dev Cert.Inp0ReferenceIdeal.nD → PrngReg), Pre_Inp0Ideal m →
    (∀ c : Dev Cert.Inp0Ideal.nD,
      m' ((c.tc : Thread Cert.Inp0ReferenceIdeal.nD Cert.Inp0ReferenceIdeal.τ).loc Cert.Inp0ReferenceIdeal.main_arg0) = m ((c.tc : Thread Cert.Inp0Ideal.nD Cert.Inp0Ideal.τ).loc Cert.Inp0Ideal.main_arg0)
      ∧ m' ((c.tc : Thread Cert.Inp0ReferenceIdeal.nD Cert.Inp0ReferenceIdeal.τ).loc Cert.Inp0ReferenceIdeal.main_arg1) = m ((c.tc : Thread Cert.Inp0Ideal.nD Cert.Inp0Ideal.τ).loc Cert.Inp0Ideal.main_arg1)
      ∧ m' ((c.tc : Thread Cert.Inp0ReferenceIdeal.nD Cert.Inp0ReferenceIdeal.τ).loc Cert.Inp0ReferenceIdeal.main_arg2) = m ((c.tc : Thread Cert.Inp0Ideal.nD Cert.Inp0Ideal.τ).loc Cert.Inp0Ideal.main_arg2)
      ∧ m' ((c.tc : Thread Cert.Inp0ReferenceIdeal.nD Cert.Inp0ReferenceIdeal.τ).loc Cert.Inp0ReferenceIdeal.main_arg3) = m ((c.tc : Thread Cert.Inp0Ideal.nD Cert.Inp0Ideal.τ).loc Cert.Inp0Ideal.main_arg3)
      ∧ m' ((c.tc : Thread Cert.Inp0ReferenceIdeal.nD Cert.Inp0ReferenceIdeal.τ).loc Cert.Inp0ReferenceIdeal.main_arg4) = m ((c.tc : Thread Cert.Inp0Ideal.nD Cert.Inp0Ideal.τ).loc Cert.Inp0Ideal.main_arg4)
      ∧ m' ((c.tc : Thread Cert.Inp0ReferenceIdeal.nD Cert.Inp0ReferenceIdeal.τ).loc Cert.Inp0ReferenceIdeal.main_arg5) = m ((c.tc : Thread Cert.Inp0Ideal.nD Cert.Inp0Ideal.τ).loc Cert.Inp0Ideal.main_arg5)) →
    ∃ (v0 : (c : Dev Cert.Inp0Ideal.nD) → Buf (Elt Ideal) ((c.tc : Thread Cert.Inp0Ideal.nD Cert.Inp0Ideal.τ).loc Cert.Inp0Ideal.main_v8)),
      θ_run (Cert.Inp0Ideal.defs (F := Ideal)) (onTc (τ := Cert.Inp0Ideal.τ) (Cert.Inp0Ideal.main (F := Ideal))) ⟨m, fun _ => 0, g⟩ (fun r => ∀ c : Dev Cert.Inp0Ideal.nD,
          r.2.mem ((c.tc : Thread Cert.Inp0Ideal.nD Cert.Inp0Ideal.τ).loc Cert.Inp0Ideal.main_v8) = v0 c
          ∧ r.2.mem ((c.tc : Thread Cert.Inp0Ideal.nD Cert.Inp0Ideal.τ).loc Cert.Inp0Ideal.main_arg0) = m ((c.tc : Thread Cert.Inp0Ideal.nD Cert.Inp0Ideal.τ).loc Cert.Inp0Ideal.main_arg0)
          ∧ r.2.mem ((c.tc : Thread Cert.Inp0Ideal.nD Cert.Inp0Ideal.τ).loc Cert.Inp0Ideal.main_arg1) = m ((c.tc : Thread Cert.Inp0Ideal.nD Cert.Inp0Ideal.τ).loc Cert.Inp0Ideal.main_arg1)
          ∧ r.2.mem ((c.tc : Thread Cert.Inp0Ideal.nD Cert.Inp0Ideal.τ).loc Cert.Inp0Ideal.main_arg2) = m ((c.tc : Thread Cert.Inp0Ideal.nD Cert.Inp0Ideal.τ).loc Cert.Inp0Ideal.main_arg2)
          ∧ r.2.mem ((c.tc : Thread Cert.Inp0Ideal.nD Cert.Inp0Ideal.τ).loc Cert.Inp0Ideal.main_arg3) = m ((c.tc : Thread Cert.Inp0Ideal.nD Cert.Inp0Ideal.τ).loc Cert.Inp0Ideal.main_arg3)
          ∧ r.2.mem ((c.tc : Thread Cert.Inp0Ideal.nD Cert.Inp0Ideal.τ).loc Cert.Inp0Ideal.main_arg4) = m ((c.tc : Thread Cert.Inp0Ideal.nD Cert.Inp0Ideal.τ).loc Cert.Inp0Ideal.main_arg4)
          ∧ r.2.mem ((c.tc : Thread Cert.Inp0Ideal.nD Cert.Inp0Ideal.τ).loc Cert.Inp0Ideal.main_arg5) = m ((c.tc : Thread Cert.Inp0Ideal.nD Cert.Inp0Ideal.τ).loc Cert.Inp0Ideal.main_arg5))
      ∧ θ_run (Cert.Inp0ReferenceIdeal.defs (F := Ideal)) (onTc (τ := Cert.Inp0ReferenceIdeal.τ) (Cert.Inp0ReferenceIdeal.main (F := Ideal))) ⟨m', fun _ => 0, g'⟩ (fun r => ∀ c : Dev Cert.Inp0ReferenceIdeal.nD,
          r.2.mem ((c.tc : Thread Cert.Inp0ReferenceIdeal.nD Cert.Inp0ReferenceIdeal.τ).loc Cert.Inp0ReferenceIdeal.main_v80) = v0 c
          ∧ r.2.mem ((c.tc : Thread Cert.Inp0ReferenceIdeal.nD Cert.Inp0ReferenceIdeal.τ).loc Cert.Inp0ReferenceIdeal.main_arg0) = m' ((c.tc : Thread Cert.Inp0ReferenceIdeal.nD Cert.Inp0ReferenceIdeal.τ).loc Cert.Inp0ReferenceIdeal.main_arg0)
          ∧ r.2.mem ((c.tc : Thread Cert.Inp0ReferenceIdeal.nD Cert.Inp0ReferenceIdeal.τ).loc Cert.Inp0ReferenceIdeal.main_arg1) = m' ((c.tc : Thread Cert.Inp0ReferenceIdeal.nD Cert.Inp0ReferenceIdeal.τ).loc Cert.Inp0ReferenceIdeal.main_arg1)
          ∧ r.2.mem ((c.tc : Thread Cert.Inp0ReferenceIdeal.nD Cert.Inp0ReferenceIdeal.τ).loc Cert.Inp0ReferenceIdeal.main_arg2) = m' ((c.tc : Thread Cert.Inp0ReferenceIdeal.nD Cert.Inp0ReferenceIdeal.τ).loc Cert.Inp0ReferenceIdeal.main_arg2)
          ∧ r.2.mem ((c.tc : Thread Cert.Inp0ReferenceIdeal.nD Cert.Inp0ReferenceIdeal.τ).loc Cert.Inp0ReferenceIdeal.main_arg3) = m' ((c.tc : Thread Cert.Inp0ReferenceIdeal.nD Cert.Inp0ReferenceIdeal.τ).loc Cert.Inp0ReferenceIdeal.main_arg3)
          ∧ r.2.mem ((c.tc : Thread Cert.Inp0ReferenceIdeal.nD Cert.Inp0ReferenceIdeal.τ).loc Cert.Inp0ReferenceIdeal.main_arg4) = m' ((c.tc : Thread Cert.Inp0ReferenceIdeal.nD Cert.Inp0ReferenceIdeal.τ).loc Cert.Inp0ReferenceIdeal.main_arg4)
          ∧ r.2.mem ((c.tc : Thread Cert.Inp0ReferenceIdeal.nD Cert.Inp0ReferenceIdeal.τ).loc Cert.Inp0ReferenceIdeal.main_arg5) = m' ((c.tc : Thread Cert.Inp0ReferenceIdeal.nD Cert.Inp0ReferenceIdeal.τ).loc Cert.Inp0ReferenceIdeal.main_arg5))

def preserves_Att0_Att0Ideal : Prop :=
  True

def algebraic_Att0Ideal_Att0ReferenceIdeal_pre_finite0 [hAtt0Ideal : Cert.Att0Ideal.Facts] [hAtt0ReferenceIdeal : Cert.Att0ReferenceIdeal.Facts] [hPre_finite0 : Cert.Pre_finite0.Facts] : Prop :=
  ∀ (m : (ℓ : Loc Cert.Att0Ideal.nD Cert.Att0Ideal.τ Cert.Att0Ideal.sig) → Buf (Elt Ideal) ℓ) (g : Dev Cert.Att0Ideal.nD → PrngReg)
    (m' : (ℓ : Loc Cert.Att0ReferenceIdeal.nD Cert.Att0ReferenceIdeal.τ Cert.Att0ReferenceIdeal.sig) → Buf (Elt Ideal) ℓ) (g' : Dev Cert.Att0ReferenceIdeal.nD → PrngReg), Pre_Att0Ideal_finite0 m →
    (∀ c : Dev Cert.Att0Ideal.nD,
      m' ((c.tc : Thread Cert.Att0ReferenceIdeal.nD Cert.Att0ReferenceIdeal.τ).loc Cert.Att0ReferenceIdeal.main_arg0) = m ((c.tc : Thread Cert.Att0Ideal.nD Cert.Att0Ideal.τ).loc Cert.Att0Ideal.main_arg0)
      ∧ m' ((c.tc : Thread Cert.Att0ReferenceIdeal.nD Cert.Att0ReferenceIdeal.τ).loc Cert.Att0ReferenceIdeal.main_arg1) = m ((c.tc : Thread Cert.Att0Ideal.nD Cert.Att0Ideal.τ).loc Cert.Att0Ideal.main_arg1)
      ∧ m' ((c.tc : Thread Cert.Att0ReferenceIdeal.nD Cert.Att0ReferenceIdeal.τ).loc Cert.Att0ReferenceIdeal.main_arg2) = m ((c.tc : Thread Cert.Att0Ideal.nD Cert.Att0Ideal.τ).loc Cert.Att0Ideal.main_arg2)
      ∧ m' ((c.tc : Thread Cert.Att0ReferenceIdeal.nD Cert.Att0ReferenceIdeal.τ).loc Cert.Att0ReferenceIdeal.main_arg3) = m ((c.tc : Thread Cert.Att0Ideal.nD Cert.Att0Ideal.τ).loc Cert.Att0Ideal.main_arg3)
      ∧ m' ((c.tc : Thread Cert.Att0ReferenceIdeal.nD Cert.Att0ReferenceIdeal.τ).loc Cert.Att0ReferenceIdeal.main_arg4) = m ((c.tc : Thread Cert.Att0Ideal.nD Cert.Att0Ideal.τ).loc Cert.Att0Ideal.main_arg4)
      ∧ m' ((c.tc : Thread Cert.Att0ReferenceIdeal.nD Cert.Att0ReferenceIdeal.τ).loc Cert.Att0ReferenceIdeal.main_arg5) = m ((c.tc : Thread Cert.Att0Ideal.nD Cert.Att0Ideal.τ).loc Cert.Att0Ideal.main_arg5)
      ∧ m' ((c.tc : Thread Cert.Att0ReferenceIdeal.nD Cert.Att0ReferenceIdeal.τ).loc Cert.Att0ReferenceIdeal.main_arg6) = m ((c.tc : Thread Cert.Att0Ideal.nD Cert.Att0Ideal.τ).loc Cert.Att0Ideal.main_arg6)
      ∧ m' ((c.tc : Thread Cert.Att0ReferenceIdeal.nD Cert.Att0ReferenceIdeal.τ).loc Cert.Att0ReferenceIdeal.main_arg7) = m ((c.tc : Thread Cert.Att0Ideal.nD Cert.Att0Ideal.τ).loc Cert.Att0Ideal.main_arg7)
      ∧ m' ((c.tc : Thread Cert.Att0ReferenceIdeal.nD Cert.Att0ReferenceIdeal.τ).loc Cert.Att0ReferenceIdeal.main_arg8) = m ((c.tc : Thread Cert.Att0Ideal.nD Cert.Att0Ideal.τ).loc Cert.Att0Ideal.main_arg8)
      ∧ m' ((c.tc : Thread Cert.Att0ReferenceIdeal.nD Cert.Att0ReferenceIdeal.τ).loc Cert.Att0ReferenceIdeal.main_arg9) = m ((c.tc : Thread Cert.Att0Ideal.nD Cert.Att0Ideal.τ).loc Cert.Att0Ideal.main_arg9)
      ∧ m' ((c.tc : Thread Cert.Att0ReferenceIdeal.nD Cert.Att0ReferenceIdeal.τ).loc Cert.Att0ReferenceIdeal.main_arg10) = m ((c.tc : Thread Cert.Att0Ideal.nD Cert.Att0Ideal.τ).loc Cert.Att0Ideal.main_arg10)
      ∧ m' ((c.tc : Thread Cert.Att0ReferenceIdeal.nD Cert.Att0ReferenceIdeal.τ).loc Cert.Att0ReferenceIdeal.main_arg11) = m ((c.tc : Thread Cert.Att0Ideal.nD Cert.Att0Ideal.τ).loc Cert.Att0Ideal.main_arg11)
      ∧ m' ((c.tc : Thread Cert.Att0ReferenceIdeal.nD Cert.Att0ReferenceIdeal.τ).loc Cert.Att0ReferenceIdeal.main_arg12) = m ((c.tc : Thread Cert.Att0Ideal.nD Cert.Att0Ideal.τ).loc Cert.Att0Ideal.main_arg12)
      ∧ m' ((c.tc : Thread Cert.Att0ReferenceIdeal.nD Cert.Att0ReferenceIdeal.τ).loc Cert.Att0ReferenceIdeal.main_arg13) = m ((c.tc : Thread Cert.Att0Ideal.nD Cert.Att0Ideal.τ).loc Cert.Att0Ideal.main_arg13)
      ∧ m' ((c.tc : Thread Cert.Att0ReferenceIdeal.nD Cert.Att0ReferenceIdeal.τ).loc Cert.Att0ReferenceIdeal.main_arg14) = m ((c.tc : Thread Cert.Att0Ideal.nD Cert.Att0Ideal.τ).loc Cert.Att0Ideal.main_arg14)
      ∧ m' ((c.tc : Thread Cert.Att0ReferenceIdeal.nD Cert.Att0ReferenceIdeal.τ).loc Cert.Att0ReferenceIdeal.main_arg15) = m ((c.tc : Thread Cert.Att0Ideal.nD Cert.Att0Ideal.τ).loc Cert.Att0Ideal.main_arg15)
      ∧ m' ((c.tc : Thread Cert.Att0ReferenceIdeal.nD Cert.Att0ReferenceIdeal.τ).loc Cert.Att0ReferenceIdeal.main_arg16) = m ((c.tc : Thread Cert.Att0Ideal.nD Cert.Att0Ideal.τ).loc Cert.Att0Ideal.main_arg16)) →
    ∃ (v0 : (c : Dev Cert.Att0Ideal.nD) → Buf (Elt Ideal) ((c.tc : Thread Cert.Att0Ideal.nD Cert.Att0Ideal.τ).loc Cert.Att0Ideal.main_v28_0)),
      θ_run (Cert.Att0Ideal.defs (F := Ideal)) (onTc (τ := Cert.Att0Ideal.τ) (Cert.Att0Ideal.main (F := Ideal))) ⟨m, fun _ => 0, g⟩ (fun r => ∀ c : Dev Cert.Att0Ideal.nD,
          r.2.mem ((c.tc : Thread Cert.Att0Ideal.nD Cert.Att0Ideal.τ).loc Cert.Att0Ideal.main_v28_0) = v0 c
          ∧ r.2.mem ((c.tc : Thread Cert.Att0Ideal.nD Cert.Att0Ideal.τ).loc Cert.Att0Ideal.main_arg0) = m ((c.tc : Thread Cert.Att0Ideal.nD Cert.Att0Ideal.τ).loc Cert.Att0Ideal.main_arg0)
          ∧ r.2.mem ((c.tc : Thread Cert.Att0Ideal.nD Cert.Att0Ideal.τ).loc Cert.Att0Ideal.main_arg1) = m ((c.tc : Thread Cert.Att0Ideal.nD Cert.Att0Ideal.τ).loc Cert.Att0Ideal.main_arg1)
          ∧ r.2.mem ((c.tc : Thread Cert.Att0Ideal.nD Cert.Att0Ideal.τ).loc Cert.Att0Ideal.main_arg2) = m ((c.tc : Thread Cert.Att0Ideal.nD Cert.Att0Ideal.τ).loc Cert.Att0Ideal.main_arg2)
          ∧ r.2.mem ((c.tc : Thread Cert.Att0Ideal.nD Cert.Att0Ideal.τ).loc Cert.Att0Ideal.main_arg3) = m ((c.tc : Thread Cert.Att0Ideal.nD Cert.Att0Ideal.τ).loc Cert.Att0Ideal.main_arg3)
          ∧ r.2.mem ((c.tc : Thread Cert.Att0Ideal.nD Cert.Att0Ideal.τ).loc Cert.Att0Ideal.main_arg4) = m ((c.tc : Thread Cert.Att0Ideal.nD Cert.Att0Ideal.τ).loc Cert.Att0Ideal.main_arg4)
          ∧ r.2.mem ((c.tc : Thread Cert.Att0Ideal.nD Cert.Att0Ideal.τ).loc Cert.Att0Ideal.main_arg5) = m ((c.tc : Thread Cert.Att0Ideal.nD Cert.Att0Ideal.τ).loc Cert.Att0Ideal.main_arg5)
          ∧ r.2.mem ((c.tc : Thread Cert.Att0Ideal.nD Cert.Att0Ideal.τ).loc Cert.Att0Ideal.main_arg6) = m ((c.tc : Thread Cert.Att0Ideal.nD Cert.Att0Ideal.τ).loc Cert.Att0Ideal.main_arg6)
          ∧ r.2.mem ((c.tc : Thread Cert.Att0Ideal.nD Cert.Att0Ideal.τ).loc Cert.Att0Ideal.main_arg7) = m ((c.tc : Thread Cert.Att0Ideal.nD Cert.Att0Ideal.τ).loc Cert.Att0Ideal.main_arg7)
          ∧ r.2.mem ((c.tc : Thread Cert.Att0Ideal.nD Cert.Att0Ideal.τ).loc Cert.Att0Ideal.main_arg8) = m ((c.tc : Thread Cert.Att0Ideal.nD Cert.Att0Ideal.τ).loc Cert.Att0Ideal.main_arg8)
          ∧ r.2.mem ((c.tc : Thread Cert.Att0Ideal.nD Cert.Att0Ideal.τ).loc Cert.Att0Ideal.main_arg9) = m ((c.tc : Thread Cert.Att0Ideal.nD Cert.Att0Ideal.τ).loc Cert.Att0Ideal.main_arg9)
          ∧ r.2.mem ((c.tc : Thread Cert.Att0Ideal.nD Cert.Att0Ideal.τ).loc Cert.Att0Ideal.main_arg10) = m ((c.tc : Thread Cert.Att0Ideal.nD Cert.Att0Ideal.τ).loc Cert.Att0Ideal.main_arg10)
          ∧ r.2.mem ((c.tc : Thread Cert.Att0Ideal.nD Cert.Att0Ideal.τ).loc Cert.Att0Ideal.main_arg11) = m ((c.tc : Thread Cert.Att0Ideal.nD Cert.Att0Ideal.τ).loc Cert.Att0Ideal.main_arg11)
          ∧ r.2.mem ((c.tc : Thread Cert.Att0Ideal.nD Cert.Att0Ideal.τ).loc Cert.Att0Ideal.main_arg12) = m ((c.tc : Thread Cert.Att0Ideal.nD Cert.Att0Ideal.τ).loc Cert.Att0Ideal.main_arg12)
          ∧ r.2.mem ((c.tc : Thread Cert.Att0Ideal.nD Cert.Att0Ideal.τ).loc Cert.Att0Ideal.main_arg13) = m ((c.tc : Thread Cert.Att0Ideal.nD Cert.Att0Ideal.τ).loc Cert.Att0Ideal.main_arg13)
          ∧ r.2.mem ((c.tc : Thread Cert.Att0Ideal.nD Cert.Att0Ideal.τ).loc Cert.Att0Ideal.main_arg14) = m ((c.tc : Thread Cert.Att0Ideal.nD Cert.Att0Ideal.τ).loc Cert.Att0Ideal.main_arg14)
          ∧ r.2.mem ((c.tc : Thread Cert.Att0Ideal.nD Cert.Att0Ideal.τ).loc Cert.Att0Ideal.main_arg15) = m ((c.tc : Thread Cert.Att0Ideal.nD Cert.Att0Ideal.τ).loc Cert.Att0Ideal.main_arg15)
          ∧ r.2.mem ((c.tc : Thread Cert.Att0Ideal.nD Cert.Att0Ideal.τ).loc Cert.Att0Ideal.main_arg16) = m ((c.tc : Thread Cert.Att0Ideal.nD Cert.Att0Ideal.τ).loc Cert.Att0Ideal.main_arg16))
      ∧ θ_run (Cert.Att0ReferenceIdeal.defs (F := Ideal)) (onTc (τ := Cert.Att0ReferenceIdeal.τ) (Cert.Att0ReferenceIdeal.main (F := Ideal))) ⟨m', fun _ => 0, g'⟩ (fun r => ∀ c : Dev Cert.Att0ReferenceIdeal.nD,
          r.2.mem ((c.tc : Thread Cert.Att0ReferenceIdeal.nD Cert.Att0ReferenceIdeal.τ).loc Cert.Att0ReferenceIdeal.main_v59) = v0 c
          ∧ r.2.mem ((c.tc : Thread Cert.Att0ReferenceIdeal.nD Cert.Att0ReferenceIdeal.τ).loc Cert.Att0ReferenceIdeal.main_arg0) = m' ((c.tc : Thread Cert.Att0ReferenceIdeal.nD Cert.Att0ReferenceIdeal.τ).loc Cert.Att0ReferenceIdeal.main_arg0)
          ∧ r.2.mem ((c.tc : Thread Cert.Att0ReferenceIdeal.nD Cert.Att0ReferenceIdeal.τ).loc Cert.Att0ReferenceIdeal.main_arg1) = m' ((c.tc : Thread Cert.Att0ReferenceIdeal.nD Cert.Att0ReferenceIdeal.τ).loc Cert.Att0ReferenceIdeal.main_arg1)
          ∧ r.2.mem ((c.tc : Thread Cert.Att0ReferenceIdeal.nD Cert.Att0ReferenceIdeal.τ).loc Cert.Att0ReferenceIdeal.main_arg2) = m' ((c.tc : Thread Cert.Att0ReferenceIdeal.nD Cert.Att0ReferenceIdeal.τ).loc Cert.Att0ReferenceIdeal.main_arg2)
          ∧ r.2.mem ((c.tc : Thread Cert.Att0ReferenceIdeal.nD Cert.Att0ReferenceIdeal.τ).loc Cert.Att0ReferenceIdeal.main_arg3) = m' ((c.tc : Thread Cert.Att0ReferenceIdeal.nD Cert.Att0ReferenceIdeal.τ).loc Cert.Att0ReferenceIdeal.main_arg3)
          ∧ r.2.mem ((c.tc : Thread Cert.Att0ReferenceIdeal.nD Cert.Att0ReferenceIdeal.τ).loc Cert.Att0ReferenceIdeal.main_arg4) = m' ((c.tc : Thread Cert.Att0ReferenceIdeal.nD Cert.Att0ReferenceIdeal.τ).loc Cert.Att0ReferenceIdeal.main_arg4)
          ∧ r.2.mem ((c.tc : Thread Cert.Att0ReferenceIdeal.nD Cert.Att0ReferenceIdeal.τ).loc Cert.Att0ReferenceIdeal.main_arg5) = m' ((c.tc : Thread Cert.Att0ReferenceIdeal.nD Cert.Att0ReferenceIdeal.τ).loc Cert.Att0ReferenceIdeal.main_arg5)
          ∧ r.2.mem ((c.tc : Thread Cert.Att0ReferenceIdeal.nD Cert.Att0ReferenceIdeal.τ).loc Cert.Att0ReferenceIdeal.main_arg6) = m' ((c.tc : Thread Cert.Att0ReferenceIdeal.nD Cert.Att0ReferenceIdeal.τ).loc Cert.Att0ReferenceIdeal.main_arg6)
          ∧ r.2.mem ((c.tc : Thread Cert.Att0ReferenceIdeal.nD Cert.Att0ReferenceIdeal.τ).loc Cert.Att0ReferenceIdeal.main_arg7) = m' ((c.tc : Thread Cert.Att0ReferenceIdeal.nD Cert.Att0ReferenceIdeal.τ).loc Cert.Att0ReferenceIdeal.main_arg7)
          ∧ r.2.mem ((c.tc : Thread Cert.Att0ReferenceIdeal.nD Cert.Att0ReferenceIdeal.τ).loc Cert.Att0ReferenceIdeal.main_arg8) = m' ((c.tc : Thread Cert.Att0ReferenceIdeal.nD Cert.Att0ReferenceIdeal.τ).loc Cert.Att0ReferenceIdeal.main_arg8)
          ∧ r.2.mem ((c.tc : Thread Cert.Att0ReferenceIdeal.nD Cert.Att0ReferenceIdeal.τ).loc Cert.Att0ReferenceIdeal.main_arg9) = m' ((c.tc : Thread Cert.Att0ReferenceIdeal.nD Cert.Att0ReferenceIdeal.τ).loc Cert.Att0ReferenceIdeal.main_arg9)
          ∧ r.2.mem ((c.tc : Thread Cert.Att0ReferenceIdeal.nD Cert.Att0ReferenceIdeal.τ).loc Cert.Att0ReferenceIdeal.main_arg10) = m' ((c.tc : Thread Cert.Att0ReferenceIdeal.nD Cert.Att0ReferenceIdeal.τ).loc Cert.Att0ReferenceIdeal.main_arg10)
          ∧ r.2.mem ((c.tc : Thread Cert.Att0ReferenceIdeal.nD Cert.Att0ReferenceIdeal.τ).loc Cert.Att0ReferenceIdeal.main_arg11) = m' ((c.tc : Thread Cert.Att0ReferenceIdeal.nD Cert.Att0ReferenceIdeal.τ).loc Cert.Att0ReferenceIdeal.main_arg11)
          ∧ r.2.mem ((c.tc : Thread Cert.Att0ReferenceIdeal.nD Cert.Att0ReferenceIdeal.τ).loc Cert.Att0ReferenceIdeal.main_arg12) = m' ((c.tc : Thread Cert.Att0ReferenceIdeal.nD Cert.Att0ReferenceIdeal.τ).loc Cert.Att0ReferenceIdeal.main_arg12)
          ∧ r.2.mem ((c.tc : Thread Cert.Att0ReferenceIdeal.nD Cert.Att0ReferenceIdeal.τ).loc Cert.Att0ReferenceIdeal.main_arg13) = m' ((c.tc : Thread Cert.Att0ReferenceIdeal.nD Cert.Att0ReferenceIdeal.τ).loc Cert.Att0ReferenceIdeal.main_arg13)
          ∧ r.2.mem ((c.tc : Thread Cert.Att0ReferenceIdeal.nD Cert.Att0ReferenceIdeal.τ).loc Cert.Att0ReferenceIdeal.main_arg14) = m' ((c.tc : Thread Cert.Att0ReferenceIdeal.nD Cert.Att0ReferenceIdeal.τ).loc Cert.Att0ReferenceIdeal.main_arg14)
          ∧ r.2.mem ((c.tc : Thread Cert.Att0ReferenceIdeal.nD Cert.Att0ReferenceIdeal.τ).loc Cert.Att0ReferenceIdeal.main_arg15) = m' ((c.tc : Thread Cert.Att0ReferenceIdeal.nD Cert.Att0ReferenceIdeal.τ).loc Cert.Att0ReferenceIdeal.main_arg15)
          ∧ r.2.mem ((c.tc : Thread Cert.Att0ReferenceIdeal.nD Cert.Att0ReferenceIdeal.τ).loc Cert.Att0ReferenceIdeal.main_arg16) = m' ((c.tc : Thread Cert.Att0ReferenceIdeal.nD Cert.Att0ReferenceIdeal.τ).loc Cert.Att0ReferenceIdeal.main_arg16))

def preserves_CMlp_CMlpIdeal : Prop :=
  True

def algebraic_CMlpIdeal_CMlpReferenceIdeal [hCMlpIdeal : Cert.CMlpIdeal.Facts] [hCMlpReferenceIdeal : Cert.CMlpReferenceIdeal.Facts] : Prop :=
  ∀ (m : (ℓ : Loc Cert.CMlpIdeal.nD Cert.CMlpIdeal.τ Cert.CMlpIdeal.sig) → Buf (Elt Ideal) ℓ) (g : Dev Cert.CMlpIdeal.nD → PrngReg)
    (m' : (ℓ : Loc Cert.CMlpReferenceIdeal.nD Cert.CMlpReferenceIdeal.τ Cert.CMlpReferenceIdeal.sig) → Buf (Elt Ideal) ℓ) (g' : Dev Cert.CMlpReferenceIdeal.nD → PrngReg), Pre_CMlpIdeal m →
    (∀ c : Dev Cert.CMlpIdeal.nD,
      m' ((c.tc : Thread Cert.CMlpReferenceIdeal.nD Cert.CMlpReferenceIdeal.τ).loc Cert.CMlpReferenceIdeal.main_arg0) = m ((c.tc : Thread Cert.CMlpIdeal.nD Cert.CMlpIdeal.τ).loc Cert.CMlpIdeal.main_arg0)
      ∧ m' ((c.tc : Thread Cert.CMlpReferenceIdeal.nD Cert.CMlpReferenceIdeal.τ).loc Cert.CMlpReferenceIdeal.main_arg1) = m ((c.tc : Thread Cert.CMlpIdeal.nD Cert.CMlpIdeal.τ).loc Cert.CMlpIdeal.main_arg1)
      ∧ m' ((c.tc : Thread Cert.CMlpReferenceIdeal.nD Cert.CMlpReferenceIdeal.τ).loc Cert.CMlpReferenceIdeal.main_arg2) = m ((c.tc : Thread Cert.CMlpIdeal.nD Cert.CMlpIdeal.τ).loc Cert.CMlpIdeal.main_arg2)
      ∧ m' ((c.tc : Thread Cert.CMlpReferenceIdeal.nD Cert.CMlpReferenceIdeal.τ).loc Cert.CMlpReferenceIdeal.main_arg3) = m ((c.tc : Thread Cert.CMlpIdeal.nD Cert.CMlpIdeal.τ).loc Cert.CMlpIdeal.main_arg3)
      ∧ m' ((c.tc : Thread Cert.CMlpReferenceIdeal.nD Cert.CMlpReferenceIdeal.τ).loc Cert.CMlpReferenceIdeal.main_arg4) = m ((c.tc : Thread Cert.CMlpIdeal.nD Cert.CMlpIdeal.τ).loc Cert.CMlpIdeal.main_arg4)
      ∧ m' ((c.tc : Thread Cert.CMlpReferenceIdeal.nD Cert.CMlpReferenceIdeal.τ).loc Cert.CMlpReferenceIdeal.main_arg5) = m ((c.tc : Thread Cert.CMlpIdeal.nD Cert.CMlpIdeal.τ).loc Cert.CMlpIdeal.main_arg5)) →
    ∃ (v0 : (c : Dev Cert.CMlpIdeal.nD) → Buf (Elt Ideal) ((c.tc : Thread Cert.CMlpIdeal.nD Cert.CMlpIdeal.τ).loc Cert.CMlpIdeal.main_v5)),
      θ_run (Cert.CMlpIdeal.defs (F := Ideal)) (onTc (τ := Cert.CMlpIdeal.τ) (Cert.CMlpIdeal.main (F := Ideal))) ⟨m, fun _ => 0, g⟩ (fun r => ∀ c : Dev Cert.CMlpIdeal.nD,
          r.2.mem ((c.tc : Thread Cert.CMlpIdeal.nD Cert.CMlpIdeal.τ).loc Cert.CMlpIdeal.main_v5) = v0 c
          ∧ r.2.mem ((c.tc : Thread Cert.CMlpIdeal.nD Cert.CMlpIdeal.τ).loc Cert.CMlpIdeal.main_arg0) = m ((c.tc : Thread Cert.CMlpIdeal.nD Cert.CMlpIdeal.τ).loc Cert.CMlpIdeal.main_arg0)
          ∧ r.2.mem ((c.tc : Thread Cert.CMlpIdeal.nD Cert.CMlpIdeal.τ).loc Cert.CMlpIdeal.main_arg1) = m ((c.tc : Thread Cert.CMlpIdeal.nD Cert.CMlpIdeal.τ).loc Cert.CMlpIdeal.main_arg1)
          ∧ r.2.mem ((c.tc : Thread Cert.CMlpIdeal.nD Cert.CMlpIdeal.τ).loc Cert.CMlpIdeal.main_arg2) = m ((c.tc : Thread Cert.CMlpIdeal.nD Cert.CMlpIdeal.τ).loc Cert.CMlpIdeal.main_arg2)
          ∧ r.2.mem ((c.tc : Thread Cert.CMlpIdeal.nD Cert.CMlpIdeal.τ).loc Cert.CMlpIdeal.main_arg3) = m ((c.tc : Thread Cert.CMlpIdeal.nD Cert.CMlpIdeal.τ).loc Cert.CMlpIdeal.main_arg3)
          ∧ r.2.mem ((c.tc : Thread Cert.CMlpIdeal.nD Cert.CMlpIdeal.τ).loc Cert.CMlpIdeal.main_arg4) = m ((c.tc : Thread Cert.CMlpIdeal.nD Cert.CMlpIdeal.τ).loc Cert.CMlpIdeal.main_arg4)
          ∧ r.2.mem ((c.tc : Thread Cert.CMlpIdeal.nD Cert.CMlpIdeal.τ).loc Cert.CMlpIdeal.main_arg5) = m ((c.tc : Thread Cert.CMlpIdeal.nD Cert.CMlpIdeal.τ).loc Cert.CMlpIdeal.main_arg5))
      ∧ θ_run (Cert.CMlpReferenceIdeal.defs (F := Ideal)) (onTc (τ := Cert.CMlpReferenceIdeal.τ) (Cert.CMlpReferenceIdeal.main (F := Ideal))) ⟨m', fun _ => 0, g'⟩ (fun r => ∀ c : Dev Cert.CMlpReferenceIdeal.nD,
          r.2.mem ((c.tc : Thread Cert.CMlpReferenceIdeal.nD Cert.CMlpReferenceIdeal.τ).loc Cert.CMlpReferenceIdeal.main_v57) = v0 c
          ∧ r.2.mem ((c.tc : Thread Cert.CMlpReferenceIdeal.nD Cert.CMlpReferenceIdeal.τ).loc Cert.CMlpReferenceIdeal.main_arg0) = m' ((c.tc : Thread Cert.CMlpReferenceIdeal.nD Cert.CMlpReferenceIdeal.τ).loc Cert.CMlpReferenceIdeal.main_arg0)
          ∧ r.2.mem ((c.tc : Thread Cert.CMlpReferenceIdeal.nD Cert.CMlpReferenceIdeal.τ).loc Cert.CMlpReferenceIdeal.main_arg1) = m' ((c.tc : Thread Cert.CMlpReferenceIdeal.nD Cert.CMlpReferenceIdeal.τ).loc Cert.CMlpReferenceIdeal.main_arg1)
          ∧ r.2.mem ((c.tc : Thread Cert.CMlpReferenceIdeal.nD Cert.CMlpReferenceIdeal.τ).loc Cert.CMlpReferenceIdeal.main_arg2) = m' ((c.tc : Thread Cert.CMlpReferenceIdeal.nD Cert.CMlpReferenceIdeal.τ).loc Cert.CMlpReferenceIdeal.main_arg2)
          ∧ r.2.mem ((c.tc : Thread Cert.CMlpReferenceIdeal.nD Cert.CMlpReferenceIdeal.τ).loc Cert.CMlpReferenceIdeal.main_arg3) = m' ((c.tc : Thread Cert.CMlpReferenceIdeal.nD Cert.CMlpReferenceIdeal.τ).loc Cert.CMlpReferenceIdeal.main_arg3)
          ∧ r.2.mem ((c.tc : Thread Cert.CMlpReferenceIdeal.nD Cert.CMlpReferenceIdeal.τ).loc Cert.CMlpReferenceIdeal.main_arg4) = m' ((c.tc : Thread Cert.CMlpReferenceIdeal.nD Cert.CMlpReferenceIdeal.τ).loc Cert.CMlpReferenceIdeal.main_arg4)
          ∧ r.2.mem ((c.tc : Thread Cert.CMlpReferenceIdeal.nD Cert.CMlpReferenceIdeal.τ).loc Cert.CMlpReferenceIdeal.main_arg5) = m' ((c.tc : Thread Cert.CMlpReferenceIdeal.nD Cert.CMlpReferenceIdeal.τ).loc Cert.CMlpReferenceIdeal.main_arg5))

def preserves_COut_COutIdeal : Prop :=
  True

def algebraic_COutIdeal_COutReferenceIdeal [hCOutIdeal : Cert.COutIdeal.Facts] [hCOutReferenceIdeal : Cert.COutReferenceIdeal.Facts] : Prop :=
  ∀ (m : (ℓ : Loc Cert.COutIdeal.nD Cert.COutIdeal.τ Cert.COutIdeal.sig) → Buf (Elt Ideal) ℓ) (g : Dev Cert.COutIdeal.nD → PrngReg)
    (m' : (ℓ : Loc Cert.COutReferenceIdeal.nD Cert.COutReferenceIdeal.τ Cert.COutReferenceIdeal.sig) → Buf (Elt Ideal) ℓ) (g' : Dev Cert.COutReferenceIdeal.nD → PrngReg), Pre_COutIdeal m →
    (∀ c : Dev Cert.COutIdeal.nD,
      m' ((c.tc : Thread Cert.COutReferenceIdeal.nD Cert.COutReferenceIdeal.τ).loc Cert.COutReferenceIdeal.main_arg0) = m ((c.tc : Thread Cert.COutIdeal.nD Cert.COutIdeal.τ).loc Cert.COutIdeal.main_arg0)
      ∧ m' ((c.tc : Thread Cert.COutReferenceIdeal.nD Cert.COutReferenceIdeal.τ).loc Cert.COutReferenceIdeal.main_arg1) = m ((c.tc : Thread Cert.COutIdeal.nD Cert.COutIdeal.τ).loc Cert.COutIdeal.main_arg1)
      ∧ m' ((c.tc : Thread Cert.COutReferenceIdeal.nD Cert.COutReferenceIdeal.τ).loc Cert.COutReferenceIdeal.main_arg2) = m ((c.tc : Thread Cert.COutIdeal.nD Cert.COutIdeal.τ).loc Cert.COutIdeal.main_arg2)
      ∧ m' ((c.tc : Thread Cert.COutReferenceIdeal.nD Cert.COutReferenceIdeal.τ).loc Cert.COutReferenceIdeal.main_arg3) = m ((c.tc : Thread Cert.COutIdeal.nD Cert.COutIdeal.τ).loc Cert.COutIdeal.main_arg3)
      ∧ m' ((c.tc : Thread Cert.COutReferenceIdeal.nD Cert.COutReferenceIdeal.τ).loc Cert.COutReferenceIdeal.main_arg4) = m ((c.tc : Thread Cert.COutIdeal.nD Cert.COutIdeal.τ).loc Cert.COutIdeal.main_arg4)
      ∧ m' ((c.tc : Thread Cert.COutReferenceIdeal.nD Cert.COutReferenceIdeal.τ).loc Cert.COutReferenceIdeal.main_arg5) = m ((c.tc : Thread Cert.COutIdeal.nD Cert.COutIdeal.τ).loc Cert.COutIdeal.main_arg5)
      ∧ m' ((c.tc : Thread Cert.COutReferenceIdeal.nD Cert.COutReferenceIdeal.τ).loc Cert.COutReferenceIdeal.main_arg6) = m ((c.tc : Thread Cert.COutIdeal.nD Cert.COutIdeal.τ).loc Cert.COutIdeal.main_arg6)) →
    ∃ (v0 : (c : Dev Cert.COutIdeal.nD) → Buf (Elt Ideal) ((c.tc : Thread Cert.COutIdeal.nD Cert.COutIdeal.τ).loc Cert.COutIdeal.main_v10)),
      θ_run (Cert.COutIdeal.defs (F := Ideal)) (onTc (τ := Cert.COutIdeal.τ) (Cert.COutIdeal.main (F := Ideal))) ⟨m, fun _ => 0, g⟩ (fun r => ∀ c : Dev Cert.COutIdeal.nD,
          r.2.mem ((c.tc : Thread Cert.COutIdeal.nD Cert.COutIdeal.τ).loc Cert.COutIdeal.main_v10) = v0 c
          ∧ r.2.mem ((c.tc : Thread Cert.COutIdeal.nD Cert.COutIdeal.τ).loc Cert.COutIdeal.main_arg0) = m ((c.tc : Thread Cert.COutIdeal.nD Cert.COutIdeal.τ).loc Cert.COutIdeal.main_arg0)
          ∧ r.2.mem ((c.tc : Thread Cert.COutIdeal.nD Cert.COutIdeal.τ).loc Cert.COutIdeal.main_arg1) = m ((c.tc : Thread Cert.COutIdeal.nD Cert.COutIdeal.τ).loc Cert.COutIdeal.main_arg1)
          ∧ r.2.mem ((c.tc : Thread Cert.COutIdeal.nD Cert.COutIdeal.τ).loc Cert.COutIdeal.main_arg2) = m ((c.tc : Thread Cert.COutIdeal.nD Cert.COutIdeal.τ).loc Cert.COutIdeal.main_arg2)
          ∧ r.2.mem ((c.tc : Thread Cert.COutIdeal.nD Cert.COutIdeal.τ).loc Cert.COutIdeal.main_arg3) = m ((c.tc : Thread Cert.COutIdeal.nD Cert.COutIdeal.τ).loc Cert.COutIdeal.main_arg3)
          ∧ r.2.mem ((c.tc : Thread Cert.COutIdeal.nD Cert.COutIdeal.τ).loc Cert.COutIdeal.main_arg4) = m ((c.tc : Thread Cert.COutIdeal.nD Cert.COutIdeal.τ).loc Cert.COutIdeal.main_arg4)
          ∧ r.2.mem ((c.tc : Thread Cert.COutIdeal.nD Cert.COutIdeal.τ).loc Cert.COutIdeal.main_arg5) = m ((c.tc : Thread Cert.COutIdeal.nD Cert.COutIdeal.τ).loc Cert.COutIdeal.main_arg5)
          ∧ r.2.mem ((c.tc : Thread Cert.COutIdeal.nD Cert.COutIdeal.τ).loc Cert.COutIdeal.main_arg6) = m ((c.tc : Thread Cert.COutIdeal.nD Cert.COutIdeal.τ).loc Cert.COutIdeal.main_arg6))
      ∧ θ_run (Cert.COutReferenceIdeal.defs (F := Ideal)) (onTc (τ := Cert.COutReferenceIdeal.τ) (Cert.COutReferenceIdeal.main (F := Ideal))) ⟨m', fun _ => 0, g'⟩ (fun r => ∀ c : Dev Cert.COutReferenceIdeal.nD,
          r.2.mem ((c.tc : Thread Cert.COutReferenceIdeal.nD Cert.COutReferenceIdeal.τ).loc Cert.COutReferenceIdeal.main_v29) = v0 c
          ∧ r.2.mem ((c.tc : Thread Cert.COutReferenceIdeal.nD Cert.COutReferenceIdeal.τ).loc Cert.COutReferenceIdeal.main_arg0) = m' ((c.tc : Thread Cert.COutReferenceIdeal.nD Cert.COutReferenceIdeal.τ).loc Cert.COutReferenceIdeal.main_arg0)
          ∧ r.2.mem ((c.tc : Thread Cert.COutReferenceIdeal.nD Cert.COutReferenceIdeal.τ).loc Cert.COutReferenceIdeal.main_arg1) = m' ((c.tc : Thread Cert.COutReferenceIdeal.nD Cert.COutReferenceIdeal.τ).loc Cert.COutReferenceIdeal.main_arg1)
          ∧ r.2.mem ((c.tc : Thread Cert.COutReferenceIdeal.nD Cert.COutReferenceIdeal.τ).loc Cert.COutReferenceIdeal.main_arg2) = m' ((c.tc : Thread Cert.COutReferenceIdeal.nD Cert.COutReferenceIdeal.τ).loc Cert.COutReferenceIdeal.main_arg2)
          ∧ r.2.mem ((c.tc : Thread Cert.COutReferenceIdeal.nD Cert.COutReferenceIdeal.τ).loc Cert.COutReferenceIdeal.main_arg3) = m' ((c.tc : Thread Cert.COutReferenceIdeal.nD Cert.COutReferenceIdeal.τ).loc Cert.COutReferenceIdeal.main_arg3)
          ∧ r.2.mem ((c.tc : Thread Cert.COutReferenceIdeal.nD Cert.COutReferenceIdeal.τ).loc Cert.COutReferenceIdeal.main_arg4) = m' ((c.tc : Thread Cert.COutReferenceIdeal.nD Cert.COutReferenceIdeal.τ).loc Cert.COutReferenceIdeal.main_arg4)
          ∧ r.2.mem ((c.tc : Thread Cert.COutReferenceIdeal.nD Cert.COutReferenceIdeal.τ).loc Cert.COutReferenceIdeal.main_arg5) = m' ((c.tc : Thread Cert.COutReferenceIdeal.nD Cert.COutReferenceIdeal.τ).loc Cert.COutReferenceIdeal.main_arg5)
          ∧ r.2.mem ((c.tc : Thread Cert.COutReferenceIdeal.nD Cert.COutReferenceIdeal.τ).loc Cert.COutReferenceIdeal.main_arg6) = m' ((c.tc : Thread Cert.COutReferenceIdeal.nD Cert.COutReferenceIdeal.τ).loc Cert.COutReferenceIdeal.main_arg6))

def preserves_CInp_CInpIdeal : Prop :=
  True

def algebraic_CInpIdeal_CInpReferenceIdeal [hCInpIdeal : Cert.CInpIdeal.Facts] [hCInpReferenceIdeal : Cert.CInpReferenceIdeal.Facts] : Prop :=
  ∀ (m : (ℓ : Loc Cert.CInpIdeal.nD Cert.CInpIdeal.τ Cert.CInpIdeal.sig) → Buf (Elt Ideal) ℓ) (g : Dev Cert.CInpIdeal.nD → PrngReg)
    (m' : (ℓ : Loc Cert.CInpReferenceIdeal.nD Cert.CInpReferenceIdeal.τ Cert.CInpReferenceIdeal.sig) → Buf (Elt Ideal) ℓ) (g' : Dev Cert.CInpReferenceIdeal.nD → PrngReg), Pre_CInpIdeal m →
    (∀ c : Dev Cert.CInpIdeal.nD,
      m' ((c.tc : Thread Cert.CInpReferenceIdeal.nD Cert.CInpReferenceIdeal.τ).loc Cert.CInpReferenceIdeal.main_arg0) = m ((c.tc : Thread Cert.CInpIdeal.nD Cert.CInpIdeal.τ).loc Cert.CInpIdeal.main_arg0)
      ∧ m' ((c.tc : Thread Cert.CInpReferenceIdeal.nD Cert.CInpReferenceIdeal.τ).loc Cert.CInpReferenceIdeal.main_arg1) = m ((c.tc : Thread Cert.CInpIdeal.nD Cert.CInpIdeal.τ).loc Cert.CInpIdeal.main_arg1)
      ∧ m' ((c.tc : Thread Cert.CInpReferenceIdeal.nD Cert.CInpReferenceIdeal.τ).loc Cert.CInpReferenceIdeal.main_arg2) = m ((c.tc : Thread Cert.CInpIdeal.nD Cert.CInpIdeal.τ).loc Cert.CInpIdeal.main_arg2)
      ∧ m' ((c.tc : Thread Cert.CInpReferenceIdeal.nD Cert.CInpReferenceIdeal.τ).loc Cert.CInpReferenceIdeal.main_arg3) = m ((c.tc : Thread Cert.CInpIdeal.nD Cert.CInpIdeal.τ).loc Cert.CInpIdeal.main_arg3)) →
    ∃ (v0 : (c : Dev Cert.CInpIdeal.nD) → Buf (Elt Ideal) ((c.tc : Thread Cert.CInpIdeal.nD Cert.CInpIdeal.τ).loc Cert.CInpIdeal.main_v4)),
      θ_run (Cert.CInpIdeal.defs (F := Ideal)) (onTc (τ := Cert.CInpIdeal.τ) (Cert.CInpIdeal.main (F := Ideal))) ⟨m, fun _ => 0, g⟩ (fun r => ∀ c : Dev Cert.CInpIdeal.nD,
          r.2.mem ((c.tc : Thread Cert.CInpIdeal.nD Cert.CInpIdeal.τ).loc Cert.CInpIdeal.main_v4) = v0 c
          ∧ r.2.mem ((c.tc : Thread Cert.CInpIdeal.nD Cert.CInpIdeal.τ).loc Cert.CInpIdeal.main_arg0) = m ((c.tc : Thread Cert.CInpIdeal.nD Cert.CInpIdeal.τ).loc Cert.CInpIdeal.main_arg0)
          ∧ r.2.mem ((c.tc : Thread Cert.CInpIdeal.nD Cert.CInpIdeal.τ).loc Cert.CInpIdeal.main_arg1) = m ((c.tc : Thread Cert.CInpIdeal.nD Cert.CInpIdeal.τ).loc Cert.CInpIdeal.main_arg1)
          ∧ r.2.mem ((c.tc : Thread Cert.CInpIdeal.nD Cert.CInpIdeal.τ).loc Cert.CInpIdeal.main_arg2) = m ((c.tc : Thread Cert.CInpIdeal.nD Cert.CInpIdeal.τ).loc Cert.CInpIdeal.main_arg2)
          ∧ r.2.mem ((c.tc : Thread Cert.CInpIdeal.nD Cert.CInpIdeal.τ).loc Cert.CInpIdeal.main_arg3) = m ((c.tc : Thread Cert.CInpIdeal.nD Cert.CInpIdeal.τ).loc Cert.CInpIdeal.main_arg3))
      ∧ θ_run (Cert.CInpReferenceIdeal.defs (F := Ideal)) (onTc (τ := Cert.CInpReferenceIdeal.τ) (Cert.CInpReferenceIdeal.main (F := Ideal))) ⟨m', fun _ => 0, g'⟩ (fun r => ∀ c : Dev Cert.CInpReferenceIdeal.nD,
          r.2.mem ((c.tc : Thread Cert.CInpReferenceIdeal.nD Cert.CInpReferenceIdeal.τ).loc Cert.CInpReferenceIdeal.main_v51) = v0 c
          ∧ r.2.mem ((c.tc : Thread Cert.CInpReferenceIdeal.nD Cert.CInpReferenceIdeal.τ).loc Cert.CInpReferenceIdeal.main_arg0) = m' ((c.tc : Thread Cert.CInpReferenceIdeal.nD Cert.CInpReferenceIdeal.τ).loc Cert.CInpReferenceIdeal.main_arg0)
          ∧ r.2.mem ((c.tc : Thread Cert.CInpReferenceIdeal.nD Cert.CInpReferenceIdeal.τ).loc Cert.CInpReferenceIdeal.main_arg1) = m' ((c.tc : Thread Cert.CInpReferenceIdeal.nD Cert.CInpReferenceIdeal.τ).loc Cert.CInpReferenceIdeal.main_arg1)
          ∧ r.2.mem ((c.tc : Thread Cert.CInpReferenceIdeal.nD Cert.CInpReferenceIdeal.τ).loc Cert.CInpReferenceIdeal.main_arg2) = m' ((c.tc : Thread Cert.CInpReferenceIdeal.nD Cert.CInpReferenceIdeal.τ).loc Cert.CInpReferenceIdeal.main_arg2)
          ∧ r.2.mem ((c.tc : Thread Cert.CInpReferenceIdeal.nD Cert.CInpReferenceIdeal.τ).loc Cert.CInpReferenceIdeal.main_arg3) = m' ((c.tc : Thread Cert.CInpReferenceIdeal.nD Cert.CInpReferenceIdeal.τ).loc Cert.CInpReferenceIdeal.main_arg3))

def preserves_CKv_CKvIdeal : Prop :=
  True

def algebraic_CKvIdeal_CKvReferenceIdeal [hCKvIdeal : Cert.CKvIdeal.Facts] [hCKvReferenceIdeal : Cert.CKvReferenceIdeal.Facts] : Prop :=
  ∀ (m : (ℓ : Loc Cert.CKvIdeal.nD Cert.CKvIdeal.τ Cert.CKvIdeal.sig) → Buf (Elt Ideal) ℓ) (g : Dev Cert.CKvIdeal.nD → PrngReg)
    (m' : (ℓ : Loc Cert.CKvReferenceIdeal.nD Cert.CKvReferenceIdeal.τ Cert.CKvReferenceIdeal.sig) → Buf (Elt Ideal) ℓ) (g' : Dev Cert.CKvReferenceIdeal.nD → PrngReg), Pre_CKvIdeal m →
    (∀ c : Dev Cert.CKvIdeal.nD,
      m' ((c.tc : Thread Cert.CKvReferenceIdeal.nD Cert.CKvReferenceIdeal.τ).loc Cert.CKvReferenceIdeal.main_arg0) = m ((c.tc : Thread Cert.CKvIdeal.nD Cert.CKvIdeal.τ).loc Cert.CKvIdeal.main_arg0)
      ∧ m' ((c.tc : Thread Cert.CKvReferenceIdeal.nD Cert.CKvReferenceIdeal.τ).loc Cert.CKvReferenceIdeal.main_arg1) = m ((c.tc : Thread Cert.CKvIdeal.nD Cert.CKvIdeal.τ).loc Cert.CKvIdeal.main_arg1)
      ∧ m' ((c.tc : Thread Cert.CKvReferenceIdeal.nD Cert.CKvReferenceIdeal.τ).loc Cert.CKvReferenceIdeal.main_arg2) = m ((c.tc : Thread Cert.CKvIdeal.nD Cert.CKvIdeal.τ).loc Cert.CKvIdeal.main_arg2)
      ∧ m' ((c.tc : Thread Cert.CKvReferenceIdeal.nD Cert.CKvReferenceIdeal.τ).loc Cert.CKvReferenceIdeal.main_arg3) = m ((c.tc : Thread Cert.CKvIdeal.nD Cert.CKvIdeal.τ).loc Cert.CKvIdeal.main_arg3)) →
    ∃ (v0 : (c : Dev Cert.CKvIdeal.nD) → Buf (Elt Ideal) ((c.tc : Thread Cert.CKvIdeal.nD Cert.CKvIdeal.τ).loc Cert.CKvIdeal.main_v4)),
      θ_run (Cert.CKvIdeal.defs (F := Ideal)) (onTc (τ := Cert.CKvIdeal.τ) (Cert.CKvIdeal.main (F := Ideal))) ⟨m, fun _ => 0, g⟩ (fun r => ∀ c : Dev Cert.CKvIdeal.nD,
          r.2.mem ((c.tc : Thread Cert.CKvIdeal.nD Cert.CKvIdeal.τ).loc Cert.CKvIdeal.main_v4) = v0 c
          ∧ r.2.mem ((c.tc : Thread Cert.CKvIdeal.nD Cert.CKvIdeal.τ).loc Cert.CKvIdeal.main_arg0) = m ((c.tc : Thread Cert.CKvIdeal.nD Cert.CKvIdeal.τ).loc Cert.CKvIdeal.main_arg0)
          ∧ r.2.mem ((c.tc : Thread Cert.CKvIdeal.nD Cert.CKvIdeal.τ).loc Cert.CKvIdeal.main_arg1) = m ((c.tc : Thread Cert.CKvIdeal.nD Cert.CKvIdeal.τ).loc Cert.CKvIdeal.main_arg1)
          ∧ r.2.mem ((c.tc : Thread Cert.CKvIdeal.nD Cert.CKvIdeal.τ).loc Cert.CKvIdeal.main_arg2) = m ((c.tc : Thread Cert.CKvIdeal.nD Cert.CKvIdeal.τ).loc Cert.CKvIdeal.main_arg2)
          ∧ r.2.mem ((c.tc : Thread Cert.CKvIdeal.nD Cert.CKvIdeal.τ).loc Cert.CKvIdeal.main_arg3) = m ((c.tc : Thread Cert.CKvIdeal.nD Cert.CKvIdeal.τ).loc Cert.CKvIdeal.main_arg3))
      ∧ θ_run (Cert.CKvReferenceIdeal.defs (F := Ideal)) (onTc (τ := Cert.CKvReferenceIdeal.τ) (Cert.CKvReferenceIdeal.main (F := Ideal))) ⟨m', fun _ => 0, g'⟩ (fun r => ∀ c : Dev Cert.CKvReferenceIdeal.nD,
          r.2.mem ((c.tc : Thread Cert.CKvReferenceIdeal.nD Cert.CKvReferenceIdeal.τ).loc Cert.CKvReferenceIdeal.main_v34) = v0 c
          ∧ r.2.mem ((c.tc : Thread Cert.CKvReferenceIdeal.nD Cert.CKvReferenceIdeal.τ).loc Cert.CKvReferenceIdeal.main_arg0) = m' ((c.tc : Thread Cert.CKvReferenceIdeal.nD Cert.CKvReferenceIdeal.τ).loc Cert.CKvReferenceIdeal.main_arg0)
          ∧ r.2.mem ((c.tc : Thread Cert.CKvReferenceIdeal.nD Cert.CKvReferenceIdeal.τ).loc Cert.CKvReferenceIdeal.main_arg1) = m' ((c.tc : Thread Cert.CKvReferenceIdeal.nD Cert.CKvReferenceIdeal.τ).loc Cert.CKvReferenceIdeal.main_arg1)
          ∧ r.2.mem ((c.tc : Thread Cert.CKvReferenceIdeal.nD Cert.CKvReferenceIdeal.τ).loc Cert.CKvReferenceIdeal.main_arg2) = m' ((c.tc : Thread Cert.CKvReferenceIdeal.nD Cert.CKvReferenceIdeal.τ).loc Cert.CKvReferenceIdeal.main_arg2)
          ∧ r.2.mem ((c.tc : Thread Cert.CKvReferenceIdeal.nD Cert.CKvReferenceIdeal.τ).loc Cert.CKvReferenceIdeal.main_arg3) = m' ((c.tc : Thread Cert.CKvReferenceIdeal.nD Cert.CKvReferenceIdeal.τ).loc Cert.CKvReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlp0 : Cert.Mlp0.Facts) (hMlp0Ideal : Cert.Mlp0Ideal.Facts) (hMlp0ReferenceIdeal : Cert.Mlp0ReferenceIdeal.Facts) (hOut : Cert.Out.Facts) (hOutIdeal : Cert.OutIdeal.Facts) (hOutReferenceIdeal : Cert.OutReferenceIdeal.Facts) (hOut0 : Cert.Out0.Facts) (hOut0Ideal : Cert.Out0Ideal.Facts) (hOut0ReferenceIdeal : Cert.Out0ReferenceIdeal.Facts) (hInp : Cert.Inp.Facts) (hInpIdeal : Cert.InpIdeal.Facts) (hInpReferenceIdeal : Cert.InpReferenceIdeal.Facts) (hInp0 : Cert.Inp0.Facts) (hInp0Ideal : Cert.Inp0Ideal.Facts) (hInp0ReferenceIdeal : Cert.Inp0ReferenceIdeal.Facts) (hAtt0 : Cert.Att0.Facts) (hAtt0Ideal : Cert.Att0Ideal.Facts) (hAtt0ReferenceIdeal : Cert.Att0ReferenceIdeal.Facts) (hCMlp : Cert.CMlp.Facts) (hCMlpIdeal : Cert.CMlpIdeal.Facts) (hCMlpReferenceIdeal : Cert.CMlpReferenceIdeal.Facts) (hCOut : Cert.COut.Facts) (hCOutIdeal : Cert.COutIdeal.Facts) (hCOutReferenceIdeal : Cert.COutReferenceIdeal.Facts) (hCInp : Cert.CInp.Facts) (hCInpIdeal : Cert.CInpIdeal.Facts) (hCInpReferenceIdeal : Cert.CInpReferenceIdeal.Facts) (hCKv : Cert.CKv.Facts) (hCKvIdeal : Cert.CKvIdeal.Facts) (hCKvReferenceIdeal : Cert.CKvReferenceIdeal.Facts) (hPre_finite : Cert.Pre_finite.Facts) (hPre_finite0 : Cert.Pre_finite0.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Mlp0 (hMlp0 := hMlp0)
    ∧ quiescent_Mlp0Ideal (hMlp0Ideal := hMlp0Ideal)
    ∧ quiescent_Mlp0ReferenceIdeal (hMlp0ReferenceIdeal := hMlp0ReferenceIdeal)
    ∧ quiescent_Out (hOut := hOut)
    ∧ quiescent_OutIdeal (hOutIdeal := hOutIdeal)
    ∧ quiescent_OutReferenceIdeal (hOutReferenceIdeal := hOutReferenceIdeal)
    ∧ quiescent_Out0 (hOut0 := hOut0)
    ∧ quiescent_Out0Ideal (hOut0Ideal := hOut0Ideal)
    ∧ quiescent_Out0ReferenceIdeal (hOut0ReferenceIdeal := hOut0ReferenceIdeal)
    ∧ quiescent_Inp (hInp := hInp)
    ∧ quiescent_InpIdeal (hInpIdeal := hInpIdeal)
    ∧ quiescent_InpReferenceIdeal (hInpReferenceIdeal := hInpReferenceIdeal)
    ∧ quiescent_Inp0 (hInp0 := hInp0)
    ∧ quiescent_Inp0Ideal (hInp0Ideal := hInp0Ideal)
    ∧ quiescent_Inp0ReferenceIdeal (hInp0ReferenceIdeal := hInp0ReferenceIdeal)
    ∧ quiescent_Att0 (hAtt0 := hAtt0)
    ∧ quiescent_Att0Ideal (hAtt0Ideal := hAtt0Ideal)
    ∧ quiescent_Att0Ideal_pre_finite0 (hAtt0Ideal := hAtt0Ideal) (hPre_finite0 := hPre_finite0)
    ∧ quiescent_Att0ReferenceIdeal (hAtt0ReferenceIdeal := hAtt0ReferenceIdeal)
    ∧ quiescent_Att0ReferenceIdeal_pre_finite0 (hAtt0ReferenceIdeal := hAtt0ReferenceIdeal) (hPre_finite0 := hPre_finite0)
    ∧ quiescent_CMlp (hCMlp := hCMlp)
    ∧ quiescent_CMlpIdeal (hCMlpIdeal := hCMlpIdeal)
    ∧ quiescent_CMlpReferenceIdeal (hCMlpReferenceIdeal := hCMlpReferenceIdeal)
    ∧ quiescent_COut (hCOut := hCOut)
    ∧ quiescent_COutIdeal (hCOutIdeal := hCOutIdeal)
    ∧ quiescent_COutReferenceIdeal (hCOutReferenceIdeal := hCOutReferenceIdeal)
    ∧ quiescent_CInp (hCInp := hCInp)
    ∧ quiescent_CInpIdeal (hCInpIdeal := hCInpIdeal)
    ∧ quiescent_CInpReferenceIdeal (hCInpReferenceIdeal := hCInpReferenceIdeal)
    ∧ quiescent_CKv (hCKv := hCKv)
    ∧ quiescent_CKvIdeal (hCKvIdeal := hCKvIdeal)
    ∧ quiescent_CKvReferenceIdeal (hCKvReferenceIdeal := hCKvReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Mlp0_Mlp0Ideal
    ∧ algebraic_Mlp0Ideal_Mlp0ReferenceIdeal (hMlp0Ideal := hMlp0Ideal) (hMlp0ReferenceIdeal := hMlp0ReferenceIdeal)
    ∧ preserves_Out_OutIdeal
    ∧ algebraic_OutIdeal_OutReferenceIdeal (hOutIdeal := hOutIdeal) (hOutReferenceIdeal := hOutReferenceIdeal)
    ∧ preserves_Out0_Out0Ideal
    ∧ algebraic_Out0Ideal_Out0ReferenceIdeal (hOut0Ideal := hOut0Ideal) (hOut0ReferenceIdeal := hOut0ReferenceIdeal)
    ∧ preserves_Inp_InpIdeal
    ∧ algebraic_InpIdeal_InpReferenceIdeal (hInpIdeal := hInpIdeal) (hInpReferenceIdeal := hInpReferenceIdeal)
    ∧ preserves_Inp0_Inp0Ideal
    ∧ algebraic_Inp0Ideal_Inp0ReferenceIdeal (hInp0Ideal := hInp0Ideal) (hInp0ReferenceIdeal := hInp0ReferenceIdeal)
    ∧ preserves_Att0_Att0Ideal
    ∧ algebraic_Att0Ideal_Att0ReferenceIdeal_pre_finite0 (hAtt0Ideal := hAtt0Ideal) (hAtt0ReferenceIdeal := hAtt0ReferenceIdeal) (hPre_finite0 := hPre_finite0)
    ∧ preserves_CMlp_CMlpIdeal
    ∧ algebraic_CMlpIdeal_CMlpReferenceIdeal (hCMlpIdeal := hCMlpIdeal) (hCMlpReferenceIdeal := hCMlpReferenceIdeal)
    ∧ preserves_COut_COutIdeal
    ∧ algebraic_COutIdeal_COutReferenceIdeal (hCOutIdeal := hCOutIdeal) (hCOutReferenceIdeal := hCOutReferenceIdeal)
    ∧ preserves_CInp_CInpIdeal
    ∧ algebraic_CInpIdeal_CInpReferenceIdeal (hCInpIdeal := hCInpIdeal) (hCInpReferenceIdeal := hCInpReferenceIdeal)
    ∧ preserves_CKv_CKvIdeal
    ∧ algebraic_CKvIdeal_CKvReferenceIdeal (hCKvIdeal := hCKvIdeal) (hCKvReferenceIdeal := hCKvReferenceIdeal)
-- ==== Pre_finite.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S_ : Shape := ⟨0, ![]⟩
abbrev S1x64 : Shape := ⟨2, ![1, 64]⟩
abbrev S64 : Shape := ⟨1, ![64]⟩

class Facts : Prop where
  bcast_S_S4x2048x8x128 : S_.BroadcastsInDim S4x2048x8x128 (![] : Fin 0 → Fin S4x2048x8x128.rank)
  bcast_S_S4x256x8x128 : S_.BroadcastsInDim S4x256x8x128 (![] : Fin 0 → Fin S4x256x8x128.rank)
  slices_S2x64_S1x64_1_0 : S2x64.Slices ![1, 0] S1x64
  shapeCasts_S1x64_S64 : S1x64.ShapeCasts S64
  bcast_S_S64 : S_.BroadcastsInDim S64 (![] : Fin 0 → Fin S64.rank)

variable [Facts]

def fn_part1 {F : FTy → Type} [FloatOps F] (main_arg9 : FVec F S2x64 .f32) (main_v2 : IVec S4x2048x8x128 1) (main_v5 : IVec S4x256x8x128 1) (main_v10 : IVec S64 1) (main_v15 : IVec S64 1) (main_v18 : FVec F S64 .f32) (main_cst_3 : FVec F S_ .f32) : IVec S4x2048x8x128 1 × IVec S4x256x8x128 1 × IVec S64 1 × IVec S64 1 × IVec S64 1 × IVec S64 1 :=
  let main_v19 : FVec F S64 .f32 := broadcastInDim S64 ![] bcast_S_S64 main_cst_3
  let main_v20 : IVec S64 1 := cmpf .olt main_v18 main_v19
  let main_v21 : FVec F S1x64 .f32 := (extractStridedSlice S1x64 ![1, 0] · slices_S2x64_S1x64_1_0) main_arg9
  let main_v22 : FVec F S64 .f32 := shapeCast S64 main_v21 shapeCasts_S1x64_S64
  let main_v23 : FVec F S64 .f32 := Host.absf main_v22
  let main_cst_4 : FVec F S_ .f32 := constant S_ .f32 0x7F800000#32
  let main_v24 : FVec F S64 .f32 := broadcastInDim S64 ![] bcast_S_S64 main_cst_4
  let main_v25 : IVec S64 1 := cmpf .olt main_v23 main_v24
  (main_v2, main_v5, main_v10, main_v15, main_v20, main_v25)

def fn {F : FTy → Type} [FloatOps F] (main_arg0 : FVec F S4x2048x8x2x64 .f32) (main_arg1 : FVec F S4x2048x8x2x64 .f32) (main_arg2 : FVec F S4x2048x8x128 .f32) (main_arg3 : FVec F S4x256x8x2x64 .f32) (main_arg4 : FVec F S4x256x8x128 .f32) (main_arg5 : FVec F S4x2048x512 .f32) (main_arg6 : FVec F S2x64 .f32) (main_arg7 : FVec F S2x64 .f32) (main_arg8 : FVec F S2x64 .f32) (main_arg9 : FVec F S2x64 .f32) (main_arg10 : FVec F S2x128 .f32) (main_arg11 : FVec F S2x31x512 .f32) (main_arg12 : FVec F S2x512 .f32) (main_arg13 : FVec F S2x512 .f32) (main_arg14 : FVec F S2x512 .f32) (main_arg15 : FVec F S2x512x512 .f32) (main_arg16 : FVec F S2x512 .f32) : IVec S4x2048x8x128 1 × IVec S4x256x8x128 1 × IVec S64 1 × IVec S64 1 × IVec S64 1 × IVec S64 1 :=
  let main_v0 : FVec F S4x2048x8x128 .f32 := Host.absf main_arg2
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_v3 : FVec F S4x256x8x128 .f32 := Host.absf main_arg4
  let main_cst_0 : FVec F S_ .f32 := constant S_ .f32 0x7F800000#32
  let main_v4 : FVec F S4x256x8x128 .f32 := broadcastInDim S4x256x8x128 ![] bcast_S_S4x256x8x128 main_cst_0
  let main_v5 : IVec S4x256x8x128 1 := cmpf .olt main_v3 main_v4
  let main_v6 : FVec F S1x64 .f32 := (extractStridedSlice S1x64 ![1, 0] · slices_S2x64_S1x64_1_0) main_arg6
  let main_v7 : FVec F S64 .f32 := shapeCast S64 main_v6 shapeCasts_S1x64_S64
  let main_v8 : FVec F S64 .f32 := Host.absf main_v7
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S1x64 .f32 := (extractStridedSlice S1x64 ![1, 0] · slices_S2x64_S1x64_1_0) main_arg7
  let main_v12 : FVec F S64 .f32 := shapeCast S64 main_v11 shapeCasts_S1x64_S64
  let main_v13 : FVec F S64 .f32 := Host.absf main_v12
  let main_cst_2 : FVec F S_ .f32 := constant S_ .f32 0x7F800000#32
  let main_v14 : FVec F S64 .f32 := broadcastInDim S64 ![] bcast_S_S64 main_cst_2
  let main_v15 : IVec S64 1 := cmpf .olt main_v13 main_v14
  let main_v16 : FVec F S1x64 .f32 := (extractStridedSlice S1x64 ![1, 0] · slices_S2x64_S1x64_1_0) main_arg8
  let main_v17 : FVec F S64 .f32 := shapeCast S64 main_v16 shapeCasts_S1x64_S64
  let main_v18 : FVec F S64 .f32 := Host.absf main_v17
  let main_cst_3 : FVec F S_ .f32 := constant S_ .f32 0x7F800000#32
  fn_part1 (F := F) main_arg9 main_v2 main_v5 main_v10 main_v15 main_v18 main_cst_3
-- ==== Pre_finite0.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S_ : Shape := ⟨0, ![]⟩
abbrev S1x64 : Shape := ⟨2, ![1, 64]⟩
abbrev S64 : Shape := ⟨1, ![64]⟩

class Facts : Prop where
  bcast_S_S4x2048x8x128 : S_.BroadcastsInDim S4x2048x8x128 (![] : Fin 0 → Fin S4x2048x8x128.rank)
  bcast_S_S4x256x8x128 : S_.BroadcastsInDim S4x256x8x128 (![] : Fin 0 → Fin S4x256x8x128.rank)
  slices_S2x64_S1x64_0_0 : S2x64.Slices ![0, 0] S1x64
  shapeCasts_S1x64_S64 : S1x64.ShapeCasts S64
  bcast_S_S64 : S_.BroadcastsInDim S64 (![] : Fin 0 → Fin S64.rank)

variable [Facts]

def fn_part1 {F : FTy → Type} [FloatOps F] (main_arg9 : FVec F S2x64 .f32) (main_v2 : IVec S4x2048x8x128 1) (main_v5 : IVec S4x256x8x128 1) (main_v10 : IVec S64 1) (main_v15 : IVec S64 1) (main_v18 : FVec F S64 .f32) (main_cst_3 : FVec F S_ .f32) : IVec S4x2048x8x128 1 × IVec S4x256x8x128 1 × IVec S64 1 × IVec S64 1 × IVec S64 1 × IVec S64 1 :=
  let main_v19 : FVec F S64 .f32 := broadcastInDim S64 ![] bcast_S_S64 main_cst_3
  let main_v20 : IVec S64 1 := cmpf .olt main_v18 main_v19
  let main_v21 : FVec F S1x64 .f32 := (extractStridedSlice S1x64 ![0, 0] · slices_S2x64_S1x64_0_0) main_arg9
  let main_v22 : FVec F S64 .f32 := shapeCast S64 main_v21 shapeCasts_S1x64_S64
  let main_v23 : FVec F S64 .f32 := Host.absf main_v22
  let main_cst_4 : FVec F S_ .f32 := constant S_ .f32 0x7F800000#32
  let main_v24 : FVec F S64 .f32 := broadcastInDim S64 ![] bcast_S_S64 main_cst_4
  let main_v25 : IVec S64 1 := cmpf .olt main_v23 main_v24
  (main_v2, main_v5, main_v10, main_v15, main_v20, main_v25)

def fn {F : FTy → Type} [FloatOps F] (main_arg0 : FVec F S4x2048x8x2x64 .f32) (main_arg1 : FVec F S4x2048x8x2x64 .f32) (main_arg2 : FVec F S4x2048x8x128 .f32) (main_arg3 : FVec F S4x256x8x2x64 .f32) (main_arg4 : FVec F S4x256x8x128 .f32) (main_arg5 : FVec F S4x2048x512 .f32) (main_arg6 : FVec F S2x64 .f32) (main_arg7 : FVec F S2x64 .f32) (main_arg8 : FVec F S2x64 .f32) (main_arg9 : FVec F S2x64 .f32) (main_arg10 : FVec F S2x128 .f32) (main_arg11 : FVec F S2x31x512 .f32) (main_arg12 : FVec F S2x512 .f32) (main_arg13 : FVec F S2x512 .f32) (main_arg14 : FVec F S2x512 .f32) (main_arg15 : FVec F S2x512x512 .f32) (main_arg16 : FVec F S2x512 .f32) : IVec S4x2048x8x128 1 × IVec S4x256x8x128 1 × IVec S64 1 × IVec S64 1 × IVec S64 1 × IVec S64 1 :=
  let main_v0 : FVec F S4x2048x8x128 .f32 := Host.absf main_arg2
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_v3 : FVec F S4x256x8x128 .f32 := Host.absf main_arg4
  let main_cst_0 : FVec F S_ .f32 := constant S_ .f32 0x7F800000#32
  let main_v4 : FVec F S4x256x8x128 .f32 := broadcastInDim S4x256x8x128 ![] bcast_S_S4x256x8x128 main_cst_0
  let main_v5 : IVec S4x256x8x128 1 := cmpf .olt main_v3 main_v4
  let main_v6 : FVec F S1x64 .f32 := (extractStridedSlice S1x64 ![0, 0] · slices_S2x64_S1x64_0_0) main_arg6
  let main_v7 : FVec F S64 .f32 := shapeCast S64 main_v6 shapeCasts_S1x64_S64
  let main_v8 : FVec F S64 .f32 := Host.absf main_v7
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S1x64 .f32 := (extractStridedSlice S1x64 ![0, 0] · slices_S2x64_S1x64_0_0) main_arg7
  let main_v12 : FVec F S64 .f32 := shapeCast S64 main_v11 shapeCasts_S1x64_S64
  let main_v13 : FVec F S64 .f32 := Host.absf main_v12
  let main_cst_2 : FVec F S_ .f32 := constant S_ .f32 0x7F800000#32
  let main_v14 : FVec F S64 .f32 := broadcastInDim S64 ![] bcast_S_S64 main_cst_2
  let main_v15 : IVec S64 1 := cmpf .olt main_v13 main_v14
  let main_v16 : FVec F S1x64 .f32 := (extractStridedSlice S1x64 ![0, 0] · slices_S2x64_S1x64_0_0) main_arg8
  let main_v17 : FVec F S64 .f32 := shapeCast S64 main_v16 shapeCasts_S1x64_S64
  let main_v18 : FVec F S64 .f32 := Host.absf main_v17
  let main_cst_3 : FVec F S_ .f32 := constant S_ .f32 0x7F800000#32
  fn_part1 (F := F) main_arg9 main_v2 main_v5 main_v10 main_v15 main_v18 main_cst_3
-- ==== Kernel.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S2x1x64 : Shape := ⟨3, ![2, 1, 64]⟩
abbrev S2x4x64 : Shape := ⟨3, ![2, 4, 64]⟩
abbrev S_ : Shape := ⟨0, ![]⟩
abbrev S2x8x128 : Shape := ⟨3, ![2, 8, 128]⟩
abbrev S8192x512 : Shape := ⟨2, ![8192, 512]⟩
abbrev S8192x1024 : Shape := ⟨2, ![8192, 1024]⟩
abbrev S8192x4096 : Shape := ⟨2, ![8192, 4096]⟩
abbrev S1024x1024 : Shape := ⟨2, ![1024, 1024]⟩
abbrev S1024x2048 : Shape := ⟨2, ![1024, 2048]⟩
abbrev S2x1x128 : Shape := ⟨3, ![2, 1, 128]⟩
abbrev S2x1x512 : Shape := ⟨3, ![2, 1, 512]⟩
abbrev S2048x128 : Shape := ⟨2, ![2048, 128]⟩
abbrev S256x128 : Shape := ⟨2, ![256, 128]⟩
abbrev S1x8x128 : Shape := ⟨3, ![1, 8, 128]⟩
abbrev S1x1x128 : Shape := ⟨3, ![1, 1, 128]⟩
abbrev S2048x512 : Shape := ⟨2, ![2048, 512]⟩
abbrev S1x31x512 : Shape := ⟨3, ![1, 31, 512]⟩
abbrev S1x1x512 : Shape := ⟨3, ![1, 1, 512]⟩
abbrev S1x512x512 : Shape := ⟨3, ![1, 512, 512]⟩
abbrev S256x512 : Shape := ⟨2, ![256, 512]⟩
abbrev S1x128x2304 : Shape := ⟨3, ![1, 128, 2304]⟩
abbrev S1x2304x256 : Shape := ⟨3, ![1, 2304, 256]⟩
abbrev S2080x512 : Shape := ⟨2, ![2080, 512]⟩
abbrev S16x512 : Shape := ⟨2, ![16, 512]⟩
abbrev S128x256 : Shape := ⟨2, ![128, 256]⟩
abbrev S1x128x256 : Shape := ⟨3, ![1, 128, 256]⟩
abbrev S1x256x128 : Shape := ⟨3, ![1, 256, 128]⟩
abbrev S128x2048 : Shape := ⟨2, ![128, 2048]⟩
abbrev S1x128x2048 : Shape := ⟨3, ![1, 128, 2048]⟩
abbrev S1x2048x128 : Shape := ⟨3, ![1, 2048, 128]⟩
abbrev S2304x128 : Shape := ⟨2, ![2304, 128]⟩
abbrev S1x2304x128 : Shape := ⟨3, ![1, 2304, 128]⟩
abbrev S8x128 : Shape := ⟨2, ![8, 128]⟩
abbrev S1x128 : Shape := ⟨2, ![1, 128]⟩
abbrev S1 : Shape := ⟨1, ![1]⟩
abbrev S1x1 : Shape := ⟨2, ![1, 1]⟩
abbrev S512x128 : Shape := ⟨2, ![512, 128]⟩
abbrev S1024x128 : Shape := ⟨2, ![1024, 128]⟩
abbrev S128x2304 : Shape := ⟨2, ![128, 2304]⟩
abbrev S1024x2304 : Shape := ⟨2, ![1024, 2304]⟩
abbrev S1024 : Shape := ⟨1, ![1024]⟩
abbrev S1024x1 : Shape := ⟨2, ![1024, 1]⟩
abbrev S512x2304 : Shape := ⟨2, ![512, 2304]⟩
abbrev S2304x256 : Shape := ⟨2, ![2304, 256]⟩
abbrev S512x256 : Shape := ⟨2, ![512, 256]⟩
abbrev S512 : Shape := ⟨1, ![512]⟩
abbrev S512x1 : Shape := ⟨2, ![512, 1]⟩
abbrev S160x128 : Shape := ⟨2, ![160, 128]⟩
abbrev S128x128 : Shape := ⟨2, ![128, 128]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S512x512 : Shape := ⟨2, ![512, 512]⟩

abbrev nBuf : Space → Nat
  | .hbm => 52
  | .vmem => 27
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S4x256x8x2x64, .f32⟩
  | .hbm, ⟨4, _⟩ => ⟨S4x256x8x128, .f32⟩
  | .hbm, ⟨5, _⟩ => ⟨S4x2048x512, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S2x31x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512x512, .f32⟩
  | .hbm, ⟨16, _⟩ => ⟨S2x512, .f32⟩
  | .hbm, ⟨17, _⟩ => ⟨S2x1x64, .f32⟩
  | .hbm, ⟨18, _⟩ => ⟨S2x1x64, .f32⟩
  | .hbm, ⟨19, _⟩ => ⟨S2x1x64, .f32⟩
  | .hbm, ⟨20, _⟩ => ⟨S2x1x64, .f32⟩
  | .hbm, ⟨21, _⟩ => ⟨S2x4x64, .f32⟩
  | .hbm, ⟨22, _⟩ => ⟨S_, .i32⟩
  | .hbm, ⟨23, _⟩ => ⟨S_, .f32⟩
  | .hbm, ⟨24, _⟩ => ⟨S2x8x128, .f32⟩
  | .hbm, ⟨25, _⟩ => ⟨S2x512x512, .bf16⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x4096, .f32⟩
  | .hbm, ⟨40, _⟩ => ⟨S8192x4096, .bf16⟩
  | .hbm, ⟨41, _⟩ => ⟨S1024x1024, .f32⟩
  | .hbm, ⟨42, _⟩ => ⟨S1024x1024, .f32⟩
  | .hbm, ⟨43, _⟩ => ⟨S1024x2048, .f32⟩
  | .hbm, ⟨44, _⟩ => ⟨S1024x2048, .bf16⟩
  | .hbm, ⟨45, _⟩ => ⟨S2x1x128, .f32⟩
  | .hbm, ⟨46, _⟩ => ⟨S2x1x512, .f32⟩
  | .hbm, ⟨47, _⟩ => ⟨S2x1x512, .f32⟩
  | .hbm, ⟨48, _⟩ => ⟨S2x1x512, .f32⟩
  | .hbm, ⟨49, _⟩ => ⟨S2x1x512, .f32⟩
  | .hbm, ⟨50, _⟩ => ⟨S8192x1024, .bf16⟩
  | .hbm, ⟨51, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x8x128, .f32⟩
  | .local _ .vmem, ⟨11, _⟩ => ⟨S1x1x128, .f32⟩
  | .local _ .vmem, ⟨12, _⟩ => ⟨S2048x512, .bf16⟩
  | .local _ .vmem, ⟨13, _⟩ => ⟨S2048x512, .bf16⟩
  | .local _ .vmem, ⟨14, _⟩ => ⟨S1x31x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512x512, .bf16⟩
  | .local _ .vmem, ⟨19, _⟩ => ⟨S1x1x512, .f32⟩
  | .local _ .vmem, ⟨20, _⟩ => ⟨S2048x128, .bf16⟩
  | .local _ .vmem, ⟨21, _⟩ => ⟨S2048x128, .bf16⟩
  | .local _ .vmem, ⟨22, _⟩ => ⟨S256x512, .bf16⟩
  | .local _ .vmem, ⟨23, _⟩ => ⟨S256x512, .bf16⟩
  | .local _ .vmem, ⟨24, _⟩ => ⟨S1x128x2304, .bf16⟩
  | .local _ .vmem, ⟨25, _⟩ => ⟨S1x2304x256, .bf16⟩
  | .local _ .vmem, ⟨26, _⟩ => ⟨S2080x512, .f32⟩
  | _, _ => ⟨S4x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨3, ![4, 8, 1], ![false, false, false]⟩

def k0_mult1 (i : grid0.Coords) : BitVec 32 :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let c0_i32_50 : BitVec 32 := 0#32
  let v111 : BitVec 32 := Scalar.addi v7 c0_i32_50
  v111
def k0_off1 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v113 : Index := Scalar.indexCast v112
  let c0_51 : Index := 0#32
  ![v113.toNat, 0]
def k0_off2 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v307 : Index := Scalar.indexCast v112
  let c128 : Index := 128#32
  ![v307.toNat, 128]
def k0_off3 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v501 : Index := Scalar.indexCast v112
  let c256 : Index := 256#32
  ![v501.toNat, 256]
def k0_off4 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v695 : Index := Scalar.indexCast v112
  let c384 : Index := 384#32
  ![v695.toNat, 384]
def k0_mult2 (i : grid0.Coords) : BitVec 32 :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let c128_i32 : BitVec 32 := 128#32
  let v1026 : BitVec 32 := Scalar.addi v7 c128_i32
  v1026
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== ReferenceIdeal.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S1x64 : Shape := ⟨2, ![1, 64]⟩
abbrev S64 : Shape := ⟨1, ![64]⟩
abbrev S_ : Shape := ⟨0, ![]⟩
abbrev S4x2304x8x2x64 : Shape := ⟨5, ![4, 2304, 8, 2, 64]⟩
abbrev S4x2304x8x128 : Shape := ⟨4, ![4, 2304, 8, 128]⟩
abbrev S4x8x2x2048x2304 : Shape := ⟨5, ![4, 8, 2, 2048, 2304]⟩
abbrev S4x8x2x2048 : Shape := ⟨4, ![4, 8, 2, 2048]⟩
abbrev S4x8x2x2048x1 : Shape := ⟨5, ![4, 8, 2, 2048, 1]⟩
abbrev S4x8x1x2048x2304 : Shape := ⟨5, ![4, 8, 1, 2048, 2304]⟩
abbrev S4x8x2048x2304 : Shape := ⟨4, ![4, 8, 2048, 2304]⟩
abbrev S4x8x128x2048 : Shape := ⟨4, ![4, 8, 128, 2048]⟩
abbrev S1x128 : Shape := ⟨2, ![1, 128]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S4x256x8x2x64, .f32⟩
  | .hbm, ⟨4, _⟩ => ⟨S4x256x8x128, .f32⟩
  | .hbm, ⟨5, _⟩ => ⟨S4x2048x512, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S2x31x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512x512, .f32⟩
  | .hbm, ⟨16, _⟩ => ⟨S2x512, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x2304x8x2x64, .f32⟩
  | .hbm, ⟨37, _⟩ => ⟨S4x2304x8x128, .f32⟩
  | .hbm, ⟨38, _⟩ => ⟨S4x8x2x2048x2304, .f32⟩
  | .hbm, ⟨39, _⟩ => ⟨S_, .f32⟩
  | .hbm, ⟨40, _⟩ => ⟨S4x8x2x2048x2304, .f32⟩
  | .hbm, ⟨41, _⟩ => ⟨S4x8x2x2048x2304, .f32⟩
  | .hbm, ⟨42, _⟩ => ⟨S_, .f32⟩
  | .hbm, ⟨43, _⟩ => ⟨S4x8x2x2048, .f32⟩
  | .hbm, ⟨44, _⟩ => ⟨S_, .f32⟩
  | .hbm, ⟨45, _⟩ => ⟨S4x8x2x2048, .f32⟩
  | .hbm, ⟨46, _⟩ => ⟨S4x8x2x2048, .f32⟩
  | .hbm, ⟨47, _⟩ => ⟨S4x8x2x2048x1, .f32⟩
  | .hbm, ⟨48, _⟩ => ⟨S4x8x2x2048x2304, .f32⟩
  | .hbm, ⟨49, _⟩ => ⟨S4x8x2x2048x2304, .f32⟩
  | .hbm, ⟨50, _⟩ => ⟨S4x8x2x2048x2304, .f32⟩
  | .hbm, ⟨51, _⟩ => ⟨S_, .f32⟩
  | .hbm, ⟨52, _⟩ => ⟨S4x8x2x2048, .f32⟩
  | .hbm, ⟨53, _⟩ => ⟨S4x8x2x2048x1, .f32⟩
  | .hbm, ⟨54, _⟩ => ⟨S4x8x2x2048x2304, .f32⟩
  | .hbm, ⟨55, _⟩ => ⟨S4x8x2x2048x2304, .f32⟩
  | .hbm, ⟨56, _⟩ => ⟨S4x8x1x2048x2304, .f32⟩
  | .hbm, ⟨57, _⟩ => ⟨S4x8x2048x2304, .f32⟩
  | .hbm, ⟨58, _⟩ => ⟨S4x8x1x2048x2304, .f32⟩
  | .hbm, ⟨59, _⟩ => ⟨S4x8x2048x2304, .f32⟩
  | .hbm, ⟨60, _⟩ => ⟨S4x8x2048x2304, .f32⟩
  | .hbm, ⟨61, _⟩ => ⟨S4x8x2048x2304, .f32⟩
  | .hbm, ⟨62, _⟩ => ⟨S4x8x2048x2304, .f32⟩
  | .hbm, ⟨63, _⟩ => ⟨S4x8x128x2048, .f32⟩
  | .hbm, ⟨64, _⟩ => ⟨S4x2048x8x128, .f32⟩
  | .hbm, ⟨65, _⟩ => ⟨S1x128, .f32⟩
  | .hbm, ⟨66, _⟩ => ⟨S128, .f32⟩
  | .hbm, ⟨67, _⟩ => ⟨S4x2048x8x128, .f32⟩
  | .hbm, ⟨68, _⟩ => ⟨S_, .f32⟩
  | .hbm, ⟨69, _⟩ => ⟨S4x2048x8, .f32⟩
  | .hbm, ⟨70, _⟩ => ⟨S4x2048x8x1, .f32⟩
  | .hbm, ⟨71, _⟩ => ⟨S_, .f32⟩
  | .hbm, ⟨72, _⟩ => ⟨S4x2048x8x1, .f32⟩
  | .hbm, ⟨73, _⟩ => ⟨S4x2048x8x1, .f32⟩
  | .hbm, ⟨74, _⟩ => ⟨S_, .f32⟩
  | .hbm, ⟨75, _⟩ => ⟨S4x2048x8x1, .f32⟩
  | .hbm, ⟨76, _⟩ => ⟨S4x2048x8x1, .f32⟩
  | .hbm, ⟨77, _⟩ => ⟨S4x2048x8x1, .f32⟩
  | .hbm, ⟨78, _⟩ => ⟨S4x2048x8x128, .f32⟩
  | .hbm, ⟨79, _⟩ => ⟨S4x2048x8x128, .f32⟩
  | .hbm, ⟨80, _⟩ => ⟨S1x1x1x128, .f32⟩
  | .hbm, ⟨81, _⟩ => ⟨S4x2048x8x128, .f32⟩
  | .hbm, ⟨82, _⟩ => ⟨S4x2048x8x128, .f32⟩
  | .hbm, ⟨83, _⟩ => ⟨S_, .f32⟩
  | .hbm, ⟨84, _⟩ => ⟨S4x2048x8x128, .f32⟩
  | .hbm, ⟨85, _⟩ => ⟨S4x2048x8x128, .f32⟩
  | .hbm, ⟨86, _⟩ => ⟨S8192x1024, .f32⟩
  | .hbm, ⟨87, _⟩ => ⟨S8192x1024, .bf16⟩
  | _, _ => ⟨S4x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Mlp.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S8192x2048 : Shape := ⟨2, ![8192, 2048]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x1x1x1x2048 : Shape := ⟨5, ![1, 1, 1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S8192x2048, .f32⟩
  | .hbm, ⟨7, _⟩ => ⟨S1x4x6x1x2048, .f32⟩
  | .hbm, ⟨8, _⟩ => ⟨S_, .i32⟩
  | .hbm, ⟨9, _⟩ => ⟨S_, .f32⟩
  | .hbm, ⟨10, _⟩ => ⟨S2x8x6x1x2048, .f32⟩
  | .hbm, ⟨11, _⟩ => ⟨S2x1x2048, .f32⟩
  | .hbm, ⟨12, _⟩ => ⟨S2x1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x2048, .f32⟩
  | .local _ .vmem, ⟨10, _⟩ => ⟨S1x2048x512, .f32⟩
  | .local _ .vmem, ⟨11, _⟩ => ⟨S1x2048x512, .f32⟩
  | .local _ .vmem, ⟨12, _⟩ => ⟨S1x512x2048, .f32⟩
  | .local _ .vmem, ⟨13, _⟩ => ⟨S1x512x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c3_i32 : BitVec 32 := 3#32
  let c0_i32_6 : BitVec 32 := 0#32
  let c0_i32_7 : BitVec 32 := 0#32
  let c0_i32_8 : BitVec 32 := 0#32
  ![c1_i32_5.toNat, v17.toNat, c3_i32.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c4_i32 : BitVec 32 := 4#32
  let c0_i32_6 : BitVec 32 := 0#32
  let c0_i32_7 : BitVec 32 := 0#32
  let c0_i32_8 : BitVec 32 := 0#32
  ![c1_i32_5.toNat, v17.toNat, c4_i32.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c5_i32 : BitVec 32 := 5#32
  let c0_i32_6 : BitVec 32 := 0#32
  let c0_i32_7 : BitVec 32 := 0#32
  let c0_i32_8 : BitVec 32 := 0#32
  ![c1_i32_5.toNat, v17.toNat, c5_i32.toNat, c0_i32_6.toNat, c0_i32_7.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpReferenceIdeal.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S1x8192x2048 : Shape := ⟨3, ![1, 8192, 2048]⟩
abbrev S8192x2048 : Shape := ⟨2, ![8192, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048x8192, .f32⟩
  | .hbm, ⟨38, _⟩ => ⟨S2048x8192, .f32⟩
  | .hbm, ⟨39, _⟩ => ⟨S4x2048x8192, .f32⟩
  | .hbm, ⟨40, _⟩ => ⟨S_, .f32⟩
  | .hbm, ⟨41, _⟩ => ⟨S4x2048x8192, .f32⟩
  | .hbm, ⟨42, _⟩ => ⟨S4x2048x8192, .f32⟩
  | .hbm, ⟨43, _⟩ => ⟨S4x2048x8192, .f32⟩
  | .hbm, ⟨44, _⟩ => ⟨S1x8192x2048, .f32⟩
  | .hbm, ⟨45, _⟩ => ⟨S8192x2048, .f32⟩
  | .hbm, ⟨46, _⟩ => ⟨S4x2048x2048, .f32⟩
  | .hbm, ⟨47, _⟩ => ⟨S1x2048, .f32⟩
  | .hbm, ⟨48, _⟩ => ⟨S2048, .f32⟩
  | .hbm, ⟨49, _⟩ => ⟨S4x2048x2048, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Mlp0.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S8192x2048 : Shape := ⟨2, ![8192, 2048]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x1x1x1x2048 : Shape := ⟨5, ![1, 1, 1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S8192x2048, .f32⟩
  | .hbm, ⟨7, _⟩ => ⟨S1x4x6x1x2048, .f32⟩
  | .hbm, ⟨8, _⟩ => ⟨S_, .i32⟩
  | .hbm, ⟨9, _⟩ => ⟨S_, .f32⟩
  | .hbm, ⟨10, _⟩ => ⟨S2x8x6x1x2048, .f32⟩
  | .hbm, ⟨11, _⟩ => ⟨S2x1x2048, .f32⟩
  | .hbm, ⟨12, _⟩ => ⟨S2x1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x2048, .f32⟩
  | .local _ .vmem, ⟨10, _⟩ => ⟨S1x2048x512, .f32⟩
  | .local _ .vmem, ⟨11, _⟩ => ⟨S1x2048x512, .f32⟩
  | .local _ .vmem, ⟨12, _⟩ => ⟨S1x512x2048, .f32⟩
  | .local _ .vmem, ⟨13, _⟩ => ⟨S1x512x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c3_i32 : BitVec 32 := 3#32
  let c0_i32_6 : BitVec 32 := 0#32
  let c0_i32_7 : BitVec 32 := 0#32
  let c0_i32_8 : BitVec 32 := 0#32
  ![c0_i32_5.toNat, v17.toNat, c3_i32.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c4_i32 : BitVec 32 := 4#32
  let c0_i32_6 : BitVec 32 := 0#32
  let c0_i32_7 : BitVec 32 := 0#32
  let c0_i32_8 : BitVec 32 := 0#32
  ![c0_i32_5.toNat, v17.toNat, c4_i32.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c5_i32 : BitVec 32 := 5#32
  let c0_i32_6 : BitVec 32 := 0#32
  let c0_i32_7 : BitVec 32 := 0#32
  let c0_i32_8 : BitVec 32 := 0#32
  ![c0_i32_5.toNat, v17.toNat, c5_i32.toNat, c0_i32_6.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Mlp0ReferenceIdeal.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S1x8192x2048 : Shape := ⟨3, ![1, 8192, 2048]⟩
abbrev S8192x2048 : Shape := ⟨2, ![8192, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048x8192, .f32⟩
  | .hbm, ⟨38, _⟩ => ⟨S2048x8192, .f32⟩
  | .hbm, ⟨39, _⟩ => ⟨S4x2048x8192, .f32⟩
  | .hbm, ⟨40, _⟩ => ⟨S_, .f32⟩
  | .hbm, ⟨41, _⟩ => ⟨S4x2048x8192, .f32⟩
  | .hbm, ⟨42, _⟩ => ⟨S4x2048x8192, .f32⟩
  | .hbm, ⟨43, _⟩ => ⟨S4x2048x8192, .f32⟩
  | .hbm, ⟨44, _⟩ => ⟨S1x8192x2048, .f32⟩
  | .hbm, ⟨45, _⟩ => ⟨S8192x2048, .f32⟩
  | .hbm, ⟨46, _⟩ => ⟨S4x2048x2048, .f32⟩
  | .hbm, ⟨47, _⟩ => ⟨S1x2048, .f32⟩
  | .hbm, ⟨48, _⟩ => ⟨S2048, .f32⟩
  | .hbm, ⟨49, _⟩ => ⟨S4x2048x2048, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Out.lean ====
abbrev S4x2048x2048 : Shape := ⟨3, ![4, 2048, 2048]⟩
abbrev S4x2048x512 : Shape := ⟨3, ![4, 2048, 512]⟩
abbrev S4x2048x1024 : Shape := ⟨3, ![4, 2048, 1024]⟩
abbrev S4x1x12288 : Shape := ⟨3, ![4, 1, 12288]⟩
abbrev S2x2048 : Shape := ⟨2, ![2, 2048]⟩
abbrev S2x2048x2048 : Shape := ⟨3, ![2, 2048, 2048]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S8192x512 : Shape := ⟨2, ![8192, 512]⟩
abbrev S8192x1024 : Shape := ⟨2, ![8192, 1024]⟩
abbrev S8192x2048 : Shape := ⟨2, ![8192, 2048]⟩
abbrev S2x1x2048 : Shape := ⟨3, ![2, 1, 2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩
abbrev S2048x2048 : Shape := ⟨2, ![2048, 2048]⟩
abbrev S256x512 : Shape := ⟨2, ![256, 512]⟩
abbrev S256x2048 : Shape := ⟨2, ![256, 2048]⟩
abbrev S256x1024 : Shape := ⟨2, ![256, 1024]⟩
abbrev S1024x2048 : Shape := ⟨2, ![1024, 2048]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x1024, .f32⟩
  | .hbm, ⟨4, _⟩ => ⟨S4x1x12288, .f32⟩
  | .hbm, ⟨5, _⟩ => ⟨S2x2048, .f32⟩
  | .hbm, ⟨6, _⟩ => ⟨S2x2048x2048, .f32⟩
  | .hbm, ⟨7, _⟩ => ⟨S1x4x6x1x2048, .f32⟩
  | .hbm, ⟨8, _⟩ => ⟨S_, .i32⟩
  | .hbm, ⟨9, _⟩ => ⟨S_, .f32⟩
  | .hbm, ⟨10, _⟩ => ⟨S2x8x6x1x2048, .f32⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S8192x1024, .f32⟩
  | .hbm, ⟨16, _⟩ => ⟨S8192x1024, .bf16⟩
  | .hbm, ⟨17, _⟩ => ⟨S8192x2048, .f32⟩
  | .hbm, ⟨18, _⟩ => ⟨S2x1x2048, .f32⟩
  | .hbm, ⟨19, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .f32⟩
  | .local _ .vmem, ⟨7, _⟩ => ⟨S512x2048, .f32⟩
  | .local _ .vmem, ⟨8, _⟩ => ⟨S512x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c2_i32 : BitVec 32 := 2#32
  let c0_i32_6 : BitVec 32 := 0#32
  let c0_i32_7 : BitVec 32 := 0#32
  let c0_i32_8 : BitVec 32 := 0#32
  ![c1_i32_5.toNat, v17.toNat, c2_i32.toNat, c0_i32_6.toNat, c0_i32_7.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S4x2048x2048 : Shape := ⟨3, ![4, 2048, 2048]⟩
abbrev S4x2048x512 : Shape := ⟨3, ![4, 2048, 512]⟩
abbrev S4x2048x1024 : Shape := ⟨3, ![4, 2048, 1024]⟩
abbrev S4x1x12288 : Shape := ⟨3, ![4, 1, 12288]⟩
abbrev S2x2048 : Shape := ⟨2, ![2, 2048]⟩
abbrev S2x2048x2048 : Shape := ⟨3, ![2, 2048, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x1024, .f32⟩
  | .hbm, ⟨4, _⟩ => ⟨S4x1x12288, .f32⟩
  | .hbm, ⟨5, _⟩ => ⟨S2x2048, .f32⟩
  | .hbm, ⟨6, _⟩ => ⟨S2x2048x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x2048x2048, .f32⟩
  | .hbm, ⟨14, _⟩ => ⟨S1x2048x2048, .f32⟩
  | .hbm, ⟨15, _⟩ => ⟨S2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Out0.lean ====
abbrev S4x2048x2048 : Shape := ⟨3, ![4, 2048, 2048]⟩
abbrev S4x2048x512 : Shape := ⟨3, ![4, 2048, 512]⟩
abbrev S4x2048x1024 : Shape := ⟨3, ![4, 2048, 1024]⟩
abbrev S4x1x12288 : Shape := ⟨3, ![4, 1, 12288]⟩
abbrev S2x2048 : Shape := ⟨2, ![2, 2048]⟩
abbrev S2x2048x2048 : Shape := ⟨3, ![2, 2048, 2048]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S8192x512 : Shape := ⟨2, ![8192, 512]⟩
abbrev S8192x1024 : Shape := ⟨2, ![8192, 1024]⟩
abbrev S8192x2048 : Shape := ⟨2, ![8192, 2048]⟩
abbrev S2x1x2048 : Shape := ⟨3, ![2, 1, 2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩
abbrev S2048x2048 : Shape := ⟨2, ![2048, 2048]⟩
abbrev S256x512 : Shape := ⟨2, ![256, 512]⟩
abbrev S256x2048 : Shape := ⟨2, ![256, 2048]⟩
abbrev S256x1024 : Shape := ⟨2, ![256, 1024]⟩
abbrev S1024x2048 : Shape := ⟨2, ![1024, 2048]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x1024, .f32⟩
  | .hbm, ⟨4, _⟩ => ⟨S4x1x12288, .f32⟩
  | .hbm, ⟨5, _⟩ => ⟨S2x2048, .f32⟩
  | .hbm, ⟨6, _⟩ => ⟨S2x2048x2048, .f32⟩
  | .hbm, ⟨7, _⟩ => ⟨S1x4x6x1x2048, .f32⟩
  | .hbm, ⟨8, _⟩ => ⟨S_, .i32⟩
  | .hbm, ⟨9, _⟩ => ⟨S_, .f32⟩
  | .hbm, ⟨10, _⟩ => ⟨S2x8x6x1x2048, .f32⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S8192x1024, .f32⟩
  | .hbm, ⟨16, _⟩ => ⟨S8192x1024, .bf16⟩
  | .hbm, ⟨17, _⟩ => ⟨S8192x2048, .f32⟩
  | .hbm, ⟨18, _⟩ => ⟨S2x1x2048, .f32⟩
  | .hbm, ⟨19, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .f32⟩
  | .local _ .vmem, ⟨7, _⟩ => ⟨S512x2048, .f32⟩
  | .local _ .vmem, ⟨8, _⟩ => ⟨S512x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  let c0_i32_7 : BitVec 32 := 0#32
  let c0_i32_8 : BitVec 32 := 0#32
  ![c0_i32_5.toNat, v17.toNat, c2_i32.toNat, c0_i32_6.toNat, c0_i32_7.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Out0ReferenceIdeal.lean ====
abbrev S4x2048x2048 : Shape := ⟨3, ![4, 2048, 2048]⟩
abbrev S4x2048x512 : Shape := ⟨3, ![4, 2048, 512]⟩
abbrev S4x2048x1024 : Shape := ⟨3, ![4, 2048, 1024]⟩
abbrev S4x1x12288 : Shape := ⟨3, ![4, 1, 12288]⟩
abbrev S2x2048 : Shape := ⟨2, ![2, 2048]⟩
abbrev S2x2048x2048 : Shape := ⟨3, ![2, 2048, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S4x2048x1024, .f32⟩
  | .hbm, ⟨4, _⟩ => ⟨S4x1x12288, .f32⟩
  | .hbm, ⟨5, _⟩ => ⟨S2x2048, .f32⟩
  | .hbm, ⟨6, _⟩ => ⟨S2x2048x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x2048x2048, .f32⟩
  | .hbm, ⟨14, _⟩ => ⟨S1x2048x2048, .f32⟩
  | .hbm, ⟨15, _⟩ => ⟨S2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Inp.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x4608 : Shape := ⟨3, ![2, 2048, 4608]⟩
abbrev S2048x32 : Shape := ⟨2, ![2048, 32]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S8192x2048 : Shape := ⟨2, ![8192, 2048]⟩
abbrev S2048x128 : Shape := ⟨2, ![2048, 128]⟩
abbrev S2x1x2048 : Shape := ⟨3, ![2, 1, 2048]⟩
abbrev S8192x4096 : Shape := ⟨2, ![8192, 4096]⟩
abbrev S512x2048 : Shape := ⟨2, ![512, 2048]⟩
abbrev S1x1x2048 : Shape := ⟨3, ![1, 1, 2048]⟩
abbrev S1x1x1x1x2048 : Shape := ⟨5, ![1, 1, 1, 1, 2048]⟩
abbrev S512x128 : Shape := ⟨2, ![512, 128]⟩
abbrev S512x4096 : Shape := ⟨2, ![512, 4096]⟩
abbrev S2048x4608 : Shape := ⟨2, ![2048, 4608]⟩
abbrev S2x2048x512 : Shape := ⟨3, ![2, 2048, 512]⟩
abbrev S2 : Shape := ⟨1, ![2]⟩
abbrev S1 : Shape := ⟨1, ![1]⟩
abbrev S1x2048x512 : Shape := ⟨3, ![1, 2048, 512]⟩
abbrev S512 : Shape := ⟨1, ![512]⟩
abbrev S512x1 : Shape := ⟨2, ![512, 1]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048x4608, .f32⟩
  | .hbm, ⟨4, _⟩ => ⟨S2048x32, .f32⟩
  | .hbm, ⟨5, _⟩ => ⟨S2048x32, .f32⟩
  | .hbm, ⟨6, _⟩ => ⟨S1x4x6x1x2048, .f32⟩
  | .hbm, ⟨7, _⟩ => ⟨S_, .i32⟩
  | .hbm, ⟨8, _⟩ => ⟨S_, .f32⟩
  | .hbm, ⟨9, _⟩ => ⟨S2x8x6x1x2048, .f32⟩
  | .hbm, ⟨10, _⟩ => ⟨S8192x2048, .f32⟩
  | .hbm, ⟨11, _⟩ => ⟨S2048x128, .f32⟩
  | .hbm, ⟨12, _⟩ => ⟨S2048x32, .f32⟩
  | .hbm, ⟨13, _⟩ => ⟨S2048x32, .f32⟩
  | .hbm, ⟨14, _⟩ => ⟨S2048x128, .f32⟩
  | .hbm, ⟨15, _⟩ => ⟨S2x1x2048, .f32⟩
  | .hbm, ⟨16, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | .local _ .vmem, ⟨13, _⟩ => ⟨S2048x4608, .bf16⟩
  | .local _ .vmem, ⟨14, _⟩ => ⟨S2x2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c0_i32_7 : BitVec 32 := 0#32
  let c0_i32_8 : BitVec 32 := 0#32
  let c0_i32_9 : BitVec 32 := 0#32
  ![c1_i32_5.toNat, v17.toNat, c0_i32_6.toNat, c0_i32_7.toNat, c0_i32_8.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c1_i32_6 : BitVec 32 := 1#32
  let c0_i32_7 : BitVec 32 := 0#32
  let c0_i32_8 : BitVec 32 := 0#32
  let c0_i32_9 : BitVec 32 := 0#32
  ![c1_i32_5.toNat, v17.toNat, c1_i32_6.toNat, c0_i32_7.toNat, c0_i32_8.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InpReferenceIdeal.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x4608 : Shape := ⟨3, ![2, 2048, 4608]⟩
abbrev S2048x32 : Shape := ⟨2, ![2048, 32]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x4608 : Shape := ⟨3, ![1, 2048, 4608]⟩
abbrev S2048x4608 : Shape := ⟨2, ![2048, 4608]⟩
abbrev S4x2048x4608 : Shape := ⟨3, ![4, 2048, 4608]⟩
abbrev S4x2048x512 : Shape := ⟨3, ![4, 2048, 512]⟩
abbrev S4x2048x1024 : Shape := ⟨3, ![4, 2048, 1024]⟩
abbrev S4x2048x8x2x64 : Shape := ⟨5, ![4, 2048, 8, 2, 64]⟩
abbrev S1x2048x1x1x32 : Shape := ⟨5, ![1, 2048, 1, 1, 32]⟩
abbrev S4x2048x8x2x32 : Shape := ⟨5, ![4, 2048, 8, 2, 32]⟩
abbrev S4x2048x4096 : Shape := ⟨3, ![4, 2048, 4096]⟩
abbrev S8192x4096 : Shape := ⟨2, ![8192, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048x4608, .f32⟩
  | .hbm, ⟨4, _⟩ => ⟨S2048x32, .f32⟩
  | .hbm, ⟨5, _⟩ => ⟨S2048x32, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048x4608, .f32⟩
  | .hbm, ⟨38, _⟩ => ⟨S2048x4608, .f32⟩
  | .hbm, ⟨39, _⟩ => ⟨S4x2048x4608, .f32⟩
  | .hbm, ⟨40, _⟩ => ⟨S4x2048x512, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S_, .f32⟩
  | .hbm, ⟨50, _⟩ => ⟨S4x2048x512, .f32⟩
  | .hbm, ⟨51, _⟩ => ⟨S4x2048x512, .f32⟩
  | .hbm, ⟨52, _⟩ => ⟨S_, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S4x2048x8x2x64, .f32⟩
  | .hbm, ⟨57, _⟩ => ⟨S1x2048x1x1x32, .f32⟩
  | .hbm, ⟨58, _⟩ => ⟨S1x2048x1x1x32, .f32⟩
  | .hbm, ⟨59, _⟩ => ⟨S4x2048x8x2x32, .f32⟩
  | .hbm, ⟨60, _⟩ => ⟨S4x2048x8x2x32, .f32⟩
  | .hbm, ⟨61, _⟩ => ⟨S4x2048x8x2x32, .f32⟩
  | .hbm, ⟨62, _⟩ => ⟨S4x2048x8x2x32, .f32⟩
  | .hbm, ⟨63, _⟩ => ⟨S4x2048x8x2x32, .f32⟩
  | .hbm, ⟨64, _⟩ => ⟨S4x2048x8x2x32, .f32⟩
  | .hbm, ⟨65, _⟩ => ⟨S4x2048x8x2x32, .f32⟩
  | .hbm, ⟨66, _⟩ => ⟨S4x2048x8x2x32, .f32⟩
  | .hbm, ⟨67, _⟩ => ⟨S4x2048x8x2x32, .f32⟩
  | .hbm, ⟨68, _⟩ => ⟨S4x2048x8x2x32, .f32⟩
  | .hbm, ⟨69, _⟩ => ⟨S4x2048x8x2x32, .f32⟩
  | .hbm, ⟨70, _⟩ => ⟨S4x2048x8x2x32, .f32⟩
  | .hbm, ⟨71, _⟩ => ⟨S4x2048x8x2x64, .f32⟩
  | .hbm, ⟨72, _⟩ => ⟨S4x2048x8x2x64, .f32⟩
  | .hbm, ⟨73, _⟩ => ⟨S1x2048x1x1x32, .f32⟩
  | .hbm, ⟨74, _⟩ => ⟨S1x2048x1x1x32, .f32⟩
  | .hbm, ⟨75, _⟩ => ⟨S4x2048x8x2x32, .f32⟩
  | .hbm, ⟨76, _⟩ => ⟨S4x2048x8x2x32, .f32⟩
  | .hbm, ⟨77, _⟩ => ⟨S4x2048x8x2x32, .f32⟩
  | .hbm, ⟨78, _⟩ => ⟨S4x2048x8x2x32, .f32⟩
  | .hbm, ⟨79, _⟩ => ⟨S4x2048x8x2x32, .f32⟩
  | .hbm, ⟨80, _⟩ => ⟨S4x2048x8x2x32, .f32⟩
  | .hbm, ⟨81, _⟩ => ⟨S4x2048x8x2x32, .f32⟩
  | .hbm, ⟨82, _⟩ => ⟨S4x2048x8x2x32, .f32⟩
  | .hbm, ⟨83, _⟩ => ⟨S4x2048x8x2x32, .f32⟩
  | .hbm, ⟨84, _⟩ => ⟨S4x2048x8x2x32, .f32⟩
  | .hbm, ⟨85, _⟩ => ⟨S4x2048x8x2x32, .f32⟩
  | .hbm, ⟨86, _⟩ => ⟨S4x2048x8x2x32, .f32⟩
  | .hbm, ⟨87, _⟩ => ⟨S4x2048x8x2x64, .f32⟩
  | .hbm, ⟨88, _⟩ => ⟨S4x2048x1024, .f32⟩
  | .hbm, ⟨89, _⟩ => ⟨S4x2048x1024, .f32⟩
  | .hbm, ⟨90, _⟩ => ⟨S4x2048x4096, .f32⟩
  | .hbm, ⟨91, _⟩ => ⟨S8192x4096, .f32⟩
  | .hbm, ⟨92, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩

abbrev nD : Nat := 1
abbrev τ : Topo := Topo.v7x

variable {F : FTy → Type} [FloatOps F]
-- ==== Inp0.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x4608 : Shape := ⟨3, ![2, 2048, 4608]⟩
abbrev S2048x32 : Shape := ⟨2, ![2048, 32]⟩
abbrev S1x4x6x1x2048 : Shape := ⟨5, ![1, 4, 6, 1, 2048]⟩
abbrev S_ : Shape := ⟨0, ![]⟩
abbrev S2x8x6x1x2048 : Shape := ⟨5, ![2, 8, 6, 1, 2048]⟩
abbrev S8192x2048 : Shape := ⟨2, ![8192, 2048]⟩
abbrev S2048x128 : Shape := ⟨2, ![2048, 128]⟩
abbrev S2x1x2048 : Shape := ⟨3, ![2, 1, 2048]⟩
abbrev S8192x4096 : Shape := ⟨2, ![8192, 4096]⟩
abbrev S512x2048 : Shape := ⟨2, ![512, 2048]⟩
abbrev S1x1x2048 : Shape := ⟨3, ![1, 1, 2048]⟩
abbrev S1x1x1x1x2048 : Shape := ⟨5, ![1, 1, 1, 1, 2048]⟩
abbrev S512x128 : Shape := ⟨2, ![512, 128]⟩
abbrev S512x4096 : Shape := ⟨2, ![512, 4096]⟩
abbrev S2048x4608 : Shape := ⟨2, ![2048, 4608]⟩
abbrev S2x2048x512 : Shape := ⟨3, ![2, 2048, 512]⟩
abbrev S2 : Shape := ⟨1, ![2]⟩
abbrev S1 : Shape := ⟨1, ![1]⟩
abbrev S1x2048x512 : Shape := ⟨3, ![1, 2048, 512]⟩
abbrev S512 : Shape := ⟨1, ![512]⟩
abbrev S512x1 : Shape := ⟨2, ![512, 1]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048x4608, .f32⟩
  | .hbm, ⟨4, _⟩ => ⟨S2048x32, .f32⟩
  | .hbm, ⟨5, _⟩ => ⟨S2048x32, .f32⟩
  | .hbm, ⟨6, _⟩ => ⟨S1x4x6x1x2048, .f32⟩
  | .hbm, ⟨7, _⟩ => ⟨S_, .i32⟩
  | .hbm, ⟨8, _⟩ => ⟨S_, .f32⟩
  | .hbm, ⟨9, _⟩ => ⟨S2x8x6x1x2048, .f32⟩
  | .hbm, ⟨10, _⟩ => ⟨S8192x2048, .f32⟩
  | .hbm, ⟨11, _⟩ => ⟨S2048x128, .f32⟩
  | .hbm, ⟨12, _⟩ => ⟨S2048x32, .f32⟩
  | .hbm, ⟨13, _⟩ => ⟨S2048x32, .f32⟩
  | .hbm, ⟨14, _⟩ => ⟨S2048x128, .f32⟩
  | .hbm, ⟨15, _⟩ => ⟨S2x1x2048, .f32⟩
  | .hbm, ⟨16, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | .local _ .vmem, ⟨13, _⟩ => ⟨S2048x4608, .bf16⟩
  | .local _ .vmem, ⟨14, _⟩ => ⟨S2x2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  let c0_i32_8 : BitVec 32 := 0#32
  let c0_i32_9 : BitVec 32 := 0#32
  ![c0_i32_5.toNat, v17.toNat, c0_i32_6.toNat, c0_i32_7.toNat, c0_i32_8.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  let c0_i32_8 : BitVec 32 := 0#32
  let c0_i32_9 : BitVec 32 := 0#32
  ![c0_i32_5.toNat, v17.toNat, c1_i32_6.toNat, c0_i32_7.toNat, c0_i32_8.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Inp0ReferenceIdeal.lean ====
abbrev S4x2048x2048 : Shape := ⟨3, ![4, 2048, 2048]⟩
abbrev S4x1x12288 : Shape := ⟨3, ![4, 1, 12288]⟩
abbrev S2x2048 : Shape := ⟨2, ![2, 2048]⟩
abbrev S2x2048x4608 : Shape := ⟨3, ![2, 2048, 4608]⟩
abbrev S2048x32 : Shape := ⟨2, ![2048, 32]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x4608 : Shape := ⟨3, ![1, 2048, 4608]⟩
abbrev S2048x4608 : Shape := ⟨2, ![2048, 4608]⟩
abbrev S4x2048x4608 : Shape := ⟨3, ![4, 2048, 4608]⟩
abbrev S4x2048x512 : Shape := ⟨3, ![4, 2048, 512]⟩
abbrev S4x2048x1024 : Shape := ⟨3, ![4, 2048, 1024]⟩
abbrev S4x2048x8x2x64 : Shape := ⟨5, ![4, 2048, 8, 2, 64]⟩
abbrev S1x2048x1x1x32 : Shape := ⟨5, ![1, 2048, 1, 1, 32]⟩
abbrev S4x2048x8x2x32 : Shape := ⟨5, ![4, 2048, 8, 2, 32]⟩
abbrev S4x2048x4096 : Shape := ⟨3, ![4, 2048, 4096]⟩
abbrev S8192x4096 : Shape := ⟨2, ![8192, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x12288, .f32⟩
  | .hbm, ⟨2, _⟩ => ⟨S2x2048, .f32⟩
  | .hbm, ⟨3, _⟩ => ⟨S2x2048x4608, .f32⟩
  | .hbm, ⟨4, _⟩ => ⟨S2048x32, .f32⟩
  | .hbm, ⟨5, _⟩ => ⟨S2048x32, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048x4608, .f32⟩
  | .hbm, ⟨38, _⟩ => ⟨S2048x4608, .f32⟩
  | .hbm, ⟨39, _⟩ => ⟨S4x2048x4608, .f32⟩
  | .hbm, ⟨40, _⟩ => ⟨S4x2048x512, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S_, .f32⟩
  | .hbm, ⟨50, _⟩ => ⟨S4x2048x512, .f32⟩
  | .hbm, ⟨51, _⟩ => ⟨S4x2048x512, .f32⟩
  | .hbm, ⟨52, _⟩ => ⟨S_, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S4x2048x8x2x64, .f32⟩
  | .hbm, ⟨57, _⟩ => ⟨S1x2048x1x1x32, .f32⟩
  | .hbm, ⟨58, _⟩ => ⟨S1x2048x1x1x32, .f32⟩
  | .hbm, ⟨59, _⟩ => ⟨S4x2048x8x2x32, .f32⟩
  | .hbm, ⟨60, _⟩ => ⟨S4x2048x8x2x32, .f32⟩
  | .hbm, ⟨61, _⟩ => ⟨S4x2048x8x2x32, .f32⟩
  | .hbm, ⟨62, _⟩ => ⟨S4x2048x8x2x32, .f32⟩
  | .hbm, ⟨63, _⟩ => ⟨S4x2048x8x2x32, .f32⟩
  | .hbm, ⟨64, _⟩ => ⟨S4x2048x8x2x32, .f32⟩
  | .hbm, ⟨65, _⟩ => ⟨S4x2048x8x2x32, .f32⟩
  | .hbm, ⟨66, _⟩ => ⟨S4x2048x8x2x32, .f32⟩
  | .hbm, ⟨67, _⟩ => ⟨S4x2048x8x2x32, .f32⟩
  | .hbm, ⟨68, _⟩ => ⟨S4x2048x8x2x32, .f32⟩
  | .hbm, ⟨69, _⟩ => ⟨S4x2048x8x2x32, .f32⟩
  | .hbm, ⟨70, _⟩ => ⟨S4x2048x8x2x32, .f32⟩
  | .hbm, ⟨71, _⟩ => ⟨S4x2048x8x2x64, .f32⟩
  | .hbm, ⟨72, _⟩ => ⟨S4x2048x8x2x64, .f32⟩
  | .hbm, ⟨73, _⟩ => ⟨S1x2048x1x1x32, .f32⟩
  | .hbm, ⟨74, _⟩ => ⟨S1x2048x1x1x32, .f32⟩
  | .hbm, ⟨75, _⟩ => ⟨S4x2048x8x2x32, .f32⟩
  | .hbm, ⟨76, _⟩ => ⟨S4x2048x8x2x32, .f32⟩
  | .hbm, ⟨77, _⟩ => ⟨S4x2048x8x2x32, .f32⟩
  | .hbm, ⟨78, _⟩ => ⟨S4x2048x8x2x32, .f32⟩
  | .hbm, ⟨79, _⟩ => ⟨S4x2048x8x2x32, .f32⟩
  | .hbm, ⟨80, _⟩ => ⟨S4x2048x8x2x32, .f32⟩
  | .hbm, ⟨81, _⟩ => ⟨S4x2048x8x2x32, .f32⟩
  | .hbm, ⟨82, _⟩ => ⟨S4x2048x8x2x32, .f32⟩
  | .hbm, ⟨83, _⟩ => ⟨S4x2048x8x2x32, .f32⟩
  | .hbm, ⟨84, _⟩ => ⟨S4x2048x8x2x32, .f32⟩
  | .hbm, ⟨85, _⟩ => ⟨S4x2048x8x2x32, .f32⟩
  | .hbm, ⟨86, _⟩ => ⟨S4x2048x8x2x32, .f32⟩
  | .hbm, ⟨87, _⟩ => ⟨S4x2048x8x2x64, .f32⟩
  | .hbm, ⟨88, _⟩ => ⟨S4x2048x1024, .f32⟩
  | .hbm, ⟨89, _⟩ => ⟨S4x2048x1024, .f32⟩
  | .hbm, ⟨90, _⟩ => ⟨S4x2048x4096, .f32⟩
  | .hbm, ⟨91, _⟩ => ⟨S8192x4096, .f32⟩
  | .hbm, ⟨92, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩

abbrev nD : Nat := 1
abbrev τ : Topo := Topo.v7x

variable {F : FTy → Type} [FloatOps F]
-- ==== Att0.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S2x1x64 : Shape := ⟨3, ![2, 1, 64]⟩
abbrev S2x4x64 : Shape := ⟨3, ![2, 4, 64]⟩
abbrev S_ : Shape := ⟨0, ![]⟩
abbrev S2x8x128 : Shape := ⟨3, ![2, 8, 128]⟩
abbrev S8192x512 : Shape := ⟨2, ![8192, 512]⟩
abbrev S8192x1024 : Shape := ⟨2, ![8192, 1024]⟩
abbrev S8192x4096 : Shape := ⟨2, ![8192, 4096]⟩
abbrev S1024x1024 : Shape := ⟨2, ![1024, 1024]⟩
abbrev S1024x2048 : Shape := ⟨2, ![1024, 2048]⟩
abbrev S2x1x128 : Shape := ⟨3, ![2, 1, 128]⟩
abbrev S2x1x512 : Shape := ⟨3, ![2, 1, 512]⟩
abbrev S2048x128 : Shape := ⟨2, ![2048, 128]⟩
abbrev S256x128 : Shape := ⟨2, ![256, 128]⟩
abbrev S1x8x128 : Shape := ⟨3, ![1, 8, 128]⟩
abbrev S1x1x128 : Shape := ⟨3, ![1, 1, 128]⟩
abbrev S2048x512 : Shape := ⟨2, ![2048, 512]⟩
abbrev S1x31x512 : Shape := ⟨3, ![1, 31, 512]⟩
abbrev S1x1x512 : Shape := ⟨3, ![1, 1, 512]⟩
abbrev S1x512x512 : Shape := ⟨3, ![1, 512, 512]⟩
abbrev S256x512 : Shape := ⟨2, ![256, 512]⟩
abbrev S1x128x2304 : Shape := ⟨3, ![1, 128, 2304]⟩
abbrev S1x2304x256 : Shape := ⟨3, ![1, 2304, 256]⟩
abbrev S2080x512 : Shape := ⟨2, ![2080, 512]⟩
abbrev S16x512 : Shape := ⟨2, ![16, 512]⟩
abbrev S128x256 : Shape := ⟨2, ![128, 256]⟩
abbrev S1x128x256 : Shape := ⟨3, ![1, 128, 256]⟩
abbrev S1x256x128 : Shape := ⟨3, ![1, 256, 128]⟩
abbrev S128x2048 : Shape := ⟨2, ![128, 2048]⟩
abbrev S1x128x2048 : Shape := ⟨3, ![1, 128, 2048]⟩
abbrev S1x2048x128 : Shape := ⟨3, ![1, 2048, 128]⟩
abbrev S2304x128 : Shape := ⟨2, ![2304, 128]⟩
abbrev S1x2304x128 : Shape := ⟨3, ![1, 2304, 128]⟩
abbrev S8x128 : Shape := ⟨2, ![8, 128]⟩
abbrev S1x128 : Shape := ⟨2, ![1, 128]⟩
abbrev S1 : Shape := ⟨1, ![1]⟩
abbrev S1x1 : Shape := ⟨2, ![1, 1]⟩
abbrev S512x128 : Shape := ⟨2, ![512, 128]⟩
abbrev S1024x128 : Shape := ⟨2, ![1024, 128]⟩
abbrev S128x2304 : Shape := ⟨2, ![128, 2304]⟩
abbrev S1024x2304 : Shape := ⟨2, ![1024, 2304]⟩
abbrev S1024 : Shape := ⟨1, ![1024]⟩
abbrev S1024x1 : Shape := ⟨2, ![1024, 1]⟩
abbrev S512x2304 : Shape := ⟨2, ![512, 2304]⟩
abbrev S2304x256 : Shape := ⟨2, ![2304, 256]⟩
abbrev S512x256 : Shape := ⟨2, ![512, 256]⟩
abbrev S512 : Shape := ⟨1, ![512]⟩
abbrev S512x1 : Shape := ⟨2, ![512, 1]⟩
abbrev S160x128 : Shape := ⟨2, ![160, 128]⟩
abbrev S128x128 : Shape := ⟨2, ![128, 128]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S512x512 : Shape := ⟨2, ![512, 512]⟩

abbrev nBuf : Space → Nat
  | .hbm => 52
  | .vmem => 27
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S4x256x8x2x64, .f32⟩
  | .hbm, ⟨4, _⟩ => ⟨S4x256x8x128, .f32⟩
  | .hbm, ⟨5, _⟩ => ⟨S4x2048x512, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S2x31x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512x512, .f32⟩
  | .hbm, ⟨16, _⟩ => ⟨S2x512, .f32⟩
  | .hbm, ⟨17, _⟩ => ⟨S2x1x64, .f32⟩
  | .hbm, ⟨18, _⟩ => ⟨S2x1x64, .f32⟩
  | .hbm, ⟨19, _⟩ => ⟨S2x1x64, .f32⟩
  | .hbm, ⟨20, _⟩ => ⟨S2x1x64, .f32⟩
  | .hbm, ⟨21, _⟩ => ⟨S2x4x64, .f32⟩
  | .hbm, ⟨22, _⟩ => ⟨S_, .i32⟩
  | .hbm, ⟨23, _⟩ => ⟨S_, .f32⟩
  | .hbm, ⟨24, _⟩ => ⟨S2x8x128, .f32⟩
  | .hbm, ⟨25, _⟩ => ⟨S2x512x512, .bf16⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x4096, .f32⟩
  | .hbm, ⟨40, _⟩ => ⟨S8192x4096, .bf16⟩
  | .hbm, ⟨41, _⟩ => ⟨S1024x1024, .f32⟩
  | .hbm, ⟨42, _⟩ => ⟨S1024x1024, .f32⟩
  | .hbm, ⟨43, _⟩ => ⟨S1024x2048, .f32⟩
  | .hbm, ⟨44, _⟩ => ⟨S1024x2048, .bf16⟩
  | .hbm, ⟨45, _⟩ => ⟨S2x1x128, .f32⟩
  | .hbm, ⟨46, _⟩ => ⟨S2x1x512, .f32⟩
  | .hbm, ⟨47, _⟩ => ⟨S2x1x512, .f32⟩
  | .hbm, ⟨48, _⟩ => ⟨S2x1x512, .f32⟩
  | .hbm, ⟨49, _⟩ => ⟨S2x1x512, .f32⟩
  | .hbm, ⟨50, _⟩ => ⟨S8192x1024, .bf16⟩
  | .hbm, ⟨51, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x8x128, .f32⟩
  | .local _ .vmem, ⟨11, _⟩ => ⟨S1x1x128, .f32⟩
  | .local _ .vmem, ⟨12, _⟩ => ⟨S2048x512, .bf16⟩
  | .local _ .vmem, ⟨13, _⟩ => ⟨S2048x512, .bf16⟩
  | .local _ .vmem, ⟨14, _⟩ => ⟨S1x31x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512x512, .bf16⟩
  | .local _ .vmem, ⟨19, _⟩ => ⟨S1x1x512, .f32⟩
  | .local _ .vmem, ⟨20, _⟩ => ⟨S2048x128, .bf16⟩
  | .local _ .vmem, ⟨21, _⟩ => ⟨S2048x128, .bf16⟩
  | .local _ .vmem, ⟨22, _⟩ => ⟨S256x512, .bf16⟩
  | .local _ .vmem, ⟨23, _⟩ => ⟨S256x512, .bf16⟩
  | .local _ .vmem, ⟨24, _⟩ => ⟨S1x128x2304, .bf16⟩
  | .local _ .vmem, ⟨25, _⟩ => ⟨S1x2304x256, .bf16⟩
  | .local _ .vmem, ⟨26, _⟩ => ⟨S2080x512, .f32⟩
  | _, _ => ⟨S4x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨3, ![4, 8, 1], ![false, false, false]⟩

def k0_mult1 (i : grid0.Coords) : BitVec 32 :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let c0_i32_50 : BitVec 32 := 0#32
  let v111 : BitVec 32 := Scalar.addi v7 c0_i32_50
  v111
def k0_off1 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v113 : Index := Scalar.indexCast v112
  let c0_51 : Index := 0#32
  ![v113.toNat, 0]
def k0_off2 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v307 : Index := Scalar.indexCast v112
  let c128 : Index := 128#32
  ![v307.toNat, 128]
def k0_off3 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v501 : Index := Scalar.indexCast v112
  let c256 : Index := 256#32
  ![v501.toNat, 256]
def k0_off4 (i : grid0.Coords) (c0_i32_50 : BitVec 32) : Fin 2 → Nat :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let v111 : BitVec 32 := Scalar.addi v7 c0_i32_50
  let v112 : BitVec 32 := v111
  let v695 : Index := Scalar.indexCast v112
  let c384 : Index := 384#32
  ![v695.toNat, 384]
def k0_mult2 (i : grid0.Coords) : BitVec 32 :=
  let arg1 : BitVec 32 := BitVec.ofNat 32 (i 1).val
  let c1_i32 : BitVec 32 := 1#32
  let v5 : BitVec 32 := Scalar.muli arg1 c1_i32
  let arg2 : BitVec 32 := BitVec.ofNat 32 (i 2).val
  let v6 : BitVec 32 := Scalar.addi v5 arg2
  let c256_i32 : BitVec 32 := 256#32
  let v7 : BitVec 32 := Scalar.muli v6 c256_i32
  let c128_i32 : BitVec 32 := 128#32
  let v1026 : BitVec 32 := Scalar.addi v7 c128_i32
  v1026
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== Att0ReferenceIdeal.lean ====
abbrev S4x2048x8x2x64 : Shape := ⟨5, ![4, 2048, 8, 2, 64]⟩
abbrev S4x2048x8x128 : Shape := ⟨4, ![4, 2048, 8, 128]⟩
abbrev S4x256x8x2x64 : Shape := ⟨5, ![4, 256, 8, 2, 64]⟩
abbrev S4x256x8x128 : Shape := ⟨4, ![4, 256, 8, 128]⟩
abbrev S4x2048x512 : Shape := ⟨3, ![4, 2048, 512]⟩
abbrev S2x64 : Shape := ⟨2, ![2, 64]⟩
abbrev S2x128 : Shape := ⟨2, ![2, 128]⟩
abbrev S2x31x512 : Shape := ⟨3, ![2, 31, 512]⟩
abbrev S2x512 : Shape := ⟨2, ![2, 512]⟩
abbrev S2x512x512 : Shape := ⟨3, ![2, 512, 512]⟩
abbrev S1x64 : Shape := ⟨2, ![1, 64]⟩
abbrev S64 : Shape := ⟨1, ![64]⟩
abbrev S_ : Shape := ⟨0, ![]⟩
abbrev S4x2304x8x2x64 : Shape := ⟨5, ![4, 2304, 8, 2, 64]⟩
abbrev S4x2304x8x128 : Shape := ⟨4, ![4, 2304, 8, 128]⟩
abbrev S4x8x2x2048x2304 : Shape := ⟨5, ![4, 8, 2, 2048, 2304]⟩
abbrev S4x8x2x2048 : Shape := ⟨4, ![4, 8, 2, 2048]⟩
abbrev S4x8x2x2048x1 : Shape := ⟨5, ![4, 8, 2, 2048, 1]⟩
abbrev S4x8x1x2048x2304 : Shape := ⟨5, ![4, 8, 1, 2048, 2304]⟩
abbrev S4x8x2048x2304 : Shape := ⟨4, ![4, 8, 2048, 2304]⟩
abbrev S4x8x128x2048 : Shape := ⟨4, ![4, 8, 128, 2048]⟩
abbrev S1x128 : Shape := ⟨2, ![1, 128]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S4x256x8x2x64, .f32⟩
  | .hbm, ⟨4, _⟩ => ⟨S4x256x8x128, .f32⟩
  | .hbm, ⟨5, _⟩ => ⟨S4x2048x512, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x128, .f32⟩
  | .hbm, ⟨11, _⟩ => ⟨S2x31x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512x512, .f32⟩
  | .hbm, ⟨16, _⟩ => ⟨S2x512, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x2304x8x2x64, .f32⟩
  | .hbm, ⟨37, _⟩ => ⟨S4x2304x8x128, .f32⟩
  | .hbm, ⟨38, _⟩ => ⟨S4x8x2x2048x2304, .f32⟩
  | .hbm, ⟨39, _⟩ => ⟨S_, .f32⟩
  | .hbm, ⟨40, _⟩ => ⟨S4x8x2x2048x2304, .f32⟩
  | .hbm, ⟨41, _⟩ => ⟨S4x8x2x2048x2304, .f32⟩
  | .hbm, ⟨42, _⟩ => ⟨S_, .f32⟩
  | .hbm, ⟨43, _⟩ => ⟨S4x8x2x2048, .f32⟩
  | .hbm, ⟨44, _⟩ => ⟨S_, .f32⟩
  | .hbm, ⟨45, _⟩ => ⟨S4x8x2x2048, .f32⟩
  | .hbm, ⟨46, _⟩ => ⟨S4x8x2x2048, .f32⟩
  | .hbm, ⟨47, _⟩ => ⟨S4x8x2x2048x1, .f32⟩
  | .hbm, ⟨48, _⟩ => ⟨S4x8x2x2048x2304, .f32⟩
  | .hbm, ⟨49, _⟩ => ⟨S4x8x2x2048x2304, .f32⟩
  | .hbm, ⟨50, _⟩ => ⟨S4x8x2x2048x2304, .f32⟩
  | .hbm, ⟨51, _⟩ => ⟨S_, .f32⟩
  | .hbm, ⟨52, _⟩ => ⟨S4x8x2x2048, .f32⟩
  | .hbm, ⟨53, _⟩ => ⟨S4x8x2x2048x1, .f32⟩
  | .hbm, ⟨54, _⟩ => ⟨S4x8x2x2048x2304, .f32⟩
  | .hbm, ⟨55, _⟩ => ⟨S4x8x2x2048x2304, .f32⟩
  | .hbm, ⟨56, _⟩ => ⟨S4x8x1x2048x2304, .f32⟩
  | .hbm, ⟨57, _⟩ => ⟨S4x8x2048x2304, .f32⟩
  | .hbm, ⟨58, _⟩ => ⟨S4x8x1x2048x2304, .f32⟩
  | .hbm, ⟨59, _⟩ => ⟨S4x8x2048x2304, .f32⟩
  | .hbm, ⟨60, _⟩ => ⟨S4x8x2048x2304, .f32⟩
  | .hbm, ⟨61, _⟩ => ⟨S4x8x2048x2304, .f32⟩
  | .hbm, ⟨62, _⟩ => ⟨S4x8x2048x2304, .f32⟩
  | .hbm, ⟨63, _⟩ => ⟨S4x8x128x2048, .f32⟩
  | .hbm, ⟨64, _⟩ => ⟨S4x2048x8x128, .f32⟩
  | .hbm, ⟨65, _⟩ => ⟨S1x128, .f32⟩
  | .hbm, ⟨66, _⟩ => ⟨S128, .f32⟩
  | .hbm, ⟨67, _⟩ => ⟨S4x2048x8x128, .f32⟩
  | .hbm, ⟨68, _⟩ => ⟨S_, .f32⟩
  | .hbm, ⟨69, _⟩ => ⟨S4x2048x8, .f32⟩
  | .hbm, ⟨70, _⟩ => ⟨S4x2048x8x1, .f32⟩
  | .hbm, ⟨71, _⟩ => ⟨S_, .f32⟩
  | .hbm, ⟨72, _⟩ => ⟨S4x2048x8x1, .f32⟩
  | .hbm, ⟨73, _⟩ => ⟨S4x2048x8x1, .f32⟩
  | .hbm, ⟨74, _⟩ => ⟨S_, .f32⟩
  | .hbm, ⟨75, _⟩ => ⟨S4x2048x8x1, .f32⟩
  | .hbm, ⟨76, _⟩ => ⟨S4x2048x8x1, .f32⟩
  | .hbm, ⟨77, _⟩ => ⟨S4x2048x8x1, .f32⟩
  | .hbm, ⟨78, _⟩ => ⟨S4x2048x8x128, .f32⟩
  | .hbm, ⟨79, _⟩ => ⟨S4x2048x8x128, .f32⟩
  | .hbm, ⟨80, _⟩ => ⟨S1x1x1x128, .f32⟩
  | .hbm, ⟨81, _⟩ => ⟨S4x2048x8x128, .f32⟩
  | .hbm, ⟨82, _⟩ => ⟨S4x2048x8x128, .f32⟩
  | .hbm, ⟨83, _⟩ => ⟨S_, .f32⟩
  | .hbm, ⟨84, _⟩ => ⟨S4x2048x8x128, .f32⟩
  | .hbm, ⟨85, _⟩ => ⟨S4x2048x8x128, .f32⟩
  | .hbm, ⟨86, _⟩ => ⟨S8192x1024, .f32⟩
  | .hbm, ⟨87, _⟩ => ⟨S8192x1024, .bf16⟩
  | _, _ => ⟨S4x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== CMlp.lean ====
abbrev S4x256x2048 : Shape := ⟨3, ![4, 256, 2048]⟩
abbrev S12288 : Shape := ⟨1, ![12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x1x6x1x2048 : Shape := ⟨5, ![1, 1, 6, 1, 2048]⟩
abbrev S_ : Shape := ⟨0, ![]⟩
abbrev S2x8x6x1x2048 : Shape := ⟨5, ![2, 8, 6, 1, 2048]⟩
abbrev S1024x2048 : Shape := ⟨2, ![1024, 2048]⟩
abbrev S2x1x2048 : Shape := ⟨3, ![2, 1, 2048]⟩
abbrev S1x1x2048 : Shape := ⟨3, ![1, 1, 2048]⟩
abbrev S1x1x1x1x2048 : Shape := ⟨5, ![1, 1, 1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S1x2048 : Shape := ⟨2, ![1, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 14
  | .vmem => 12
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S1x1x6x1x2048, .f32⟩
  | .hbm, ⟨7, _⟩ => ⟨S_, .i32⟩
  | .hbm, ⟨8, _⟩ => ⟨S_, .f32⟩
  | .hbm, ⟨9, _⟩ => ⟨S2x8x6x1x2048, .f32⟩
  | .hbm, ⟨10, _⟩ => ⟨S1024x2048, .f32⟩
  | .hbm, ⟨11, _⟩ => ⟨S2x1x2048, .f32⟩
  | .hbm, ⟨12, _⟩ => ⟨S2x1x2048, .f32⟩
  | .hbm, ⟨13, _⟩ => ⟨S1024x2048, .f32⟩
  | .local _ .vmem, ⟨0, _⟩ => ⟨S1024x2048, .f32⟩
  | .local _ .vmem, ⟨1, _⟩ => ⟨S1x1x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x2048, .f32⟩
  | .local _ .vmem, ⟨6, _⟩ => ⟨S1x2048x512, .f32⟩
  | .local _ .vmem, ⟨7, _⟩ => ⟨S1x2048x512, .f32⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c3_i32 : BitVec 32 := 3#32
  let c0_i32_6 : BitVec 32 := 0#32
  let c0_i32_7 : BitVec 32 := 0#32
  let c0_i32_8 : BitVec 32 := 0#32
  ![c0_i32_5.toNat, v17.toNat, c3_i32.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c4_i32_6 : BitVec 32 := 4#32
  let c0_i32_7 : BitVec 32 := 0#32
  let c0_i32_8 : BitVec 32 := 0#32
  let c0_i32_9 : BitVec 32 := 0#32
  ![c0_i32_5.toNat, v17.toNat, c4_i32_6.toNat, c0_i32_7.toNat, c0_i32_8.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c5_i32 : BitVec 32 := 5#32
  let c0_i32_6 : BitVec 32 := 0#32
  let c0_i32_7 : BitVec 32 := 0#32
  let c0_i32_8 : BitVec 32 := 0#32
  ![c0_i32_5.toNat, v17.toNat, c5_i32.toNat, c0_i32_6.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== CMlpReferenceIdeal.lean ====
abbrev S4x256x2048 : Shape := ⟨3, ![4, 256, 2048]⟩
abbrev S12288 : Shape := ⟨1, ![12288]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S4x256x8192 : Shape := ⟨3, ![4, 256, 8192]⟩
abbrev S1x8192x2048 : Shape := ⟨3, ![1, 8192, 2048]⟩
abbrev S8192x2048 : Shape := ⟨2, ![8192, 2048]⟩
abbrev S1024x2048 : Shape := ⟨2, ![1024, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S4x256x2048, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x2048, .f32⟩
  | .hbm, ⟨26, _⟩ => ⟨S4x256x2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S1x1x2048, .f32⟩
  | .hbm, ⟨37, _⟩ => ⟨S4x256x2048, .f32⟩
  | .hbm, ⟨38, _⟩ => ⟨S4x256x2048, .f32⟩
  | .hbm, ⟨39, _⟩ => ⟨S1x2048x8192, .f32⟩
  | .hbm, ⟨40, _⟩ => ⟨S2048x8192, .f32⟩
  | .hbm, ⟨41, _⟩ => ⟨S4x256x8192, .f32⟩
  | .hbm, ⟨42, _⟩ => ⟨S_, .f32⟩
  | .hbm, ⟨43, _⟩ => ⟨S4x256x8192, .f32⟩
  | .hbm, ⟨44, _⟩ => ⟨S4x256x8192, .f32⟩
  | .hbm, ⟨45, _⟩ => ⟨S4x256x8192, .f32⟩
  | .hbm, ⟨46, _⟩ => ⟨S1x8192x2048, .f32⟩
  | .hbm, ⟨47, _⟩ => ⟨S8192x2048, .f32⟩
  | .hbm, ⟨48, _⟩ => ⟨S4x256x2048, .f32⟩
  | .hbm, ⟨49, _⟩ => ⟨S1x2048, .f32⟩
  | .hbm, ⟨50, _⟩ => ⟨S2048, .f32⟩
  | .hbm, ⟨51, _⟩ => ⟨S4x256x2048, .f32⟩
  | .hbm, ⟨52, _⟩ => ⟨S_, .f32⟩
  | .hbm, ⟨53, _⟩ => ⟨S4x256, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S4x256x1, .f32⟩
  | .hbm, ⟨62, _⟩ => ⟨S4x256x2048, .f32⟩
  | .hbm, ⟨63, _⟩ => ⟨S4x256x2048, .f32⟩
  | .hbm, ⟨64, _⟩ => ⟨S1x1x2048, .f32⟩
  | .hbm, ⟨65, _⟩ => ⟨S4x256x2048, .f32⟩
  | .hbm, ⟨66, _⟩ => ⟨S4x256x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S4x256x2048, .f32⟩
  | .hbm, ⟨71, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== COut.lean ====
abbrev S4x256x2048 : Shape := ⟨3, ![4, 256, 2048]⟩
abbrev S4x256x512 : Shape := ⟨3, ![4, 256, 512]⟩
abbrev S4x256x1024 : Shape := ⟨3, ![4, 256, 1024]⟩
abbrev S12288 : Shape := ⟨1, ![12288]⟩
abbrev S2x2048 : Shape := ⟨2, ![2, 2048]⟩
abbrev S2x2048x2048 : Shape := ⟨3, ![2, 2048, 2048]⟩
abbrev S1x1x6x1x2048 : Shape := ⟨5, ![1, 1, 6, 1, 2048]⟩
abbrev S_ : Shape := ⟨0, ![]⟩
abbrev S2x8x6x1x2048 : Shape := ⟨5, ![2, 8, 6, 1, 2048]⟩
abbrev S1024x512 : Shape := ⟨2, ![1024, 512]⟩
abbrev S1024x1024 : Shape := ⟨2, ![1024, 1024]⟩
abbrev S1024x2048 : Shape := ⟨2, ![1024, 2048]⟩
abbrev S2x1x2048 : Shape := ⟨3, ![2, 1, 2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩
abbrev S2048x2048 : Shape := ⟨2, ![2048, 2048]⟩
abbrev S256x512 : Shape := ⟨2, ![256, 512]⟩
abbrev S256x2048 : Shape := ⟨2, ![256, 2048]⟩
abbrev S256x1024 : Shape := ⟨2, ![256, 1024]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S4x256x2048, .f32⟩
  | .hbm, ⟨1, _⟩ => ⟨S4x256x512, .f32⟩
  | .hbm, ⟨2, _⟩ => ⟨S4x256x512, .f32⟩
  | .hbm, ⟨3, _⟩ => ⟨S4x256x1024, .f32⟩
  | .hbm, ⟨4, _⟩ => ⟨S12288, .f32⟩
  | .hbm, ⟨5, _⟩ => ⟨S2x2048, .f32⟩
  | .hbm, ⟨6, _⟩ => ⟨S2x2048x2048, .f32⟩
  | .hbm, ⟨7, _⟩ => ⟨S1x1x6x1x2048, .f32⟩
  | .hbm, ⟨8, _⟩ => ⟨S_, .i32⟩
  | .hbm, ⟨9, _⟩ => ⟨S_, .f32⟩
  | .hbm, ⟨10, _⟩ => ⟨S2x8x6x1x2048, .f32⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x1024, .f32⟩
  | .hbm, ⟨16, _⟩ => ⟨S1024x1024, .bf16⟩
  | .hbm, ⟨17, _⟩ => ⟨S1024x2048, .f32⟩
  | .hbm, ⟨18, _⟩ => ⟨S2x1x2048, .f32⟩
  | .hbm, ⟨19, _⟩ => ⟨S1024x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .f32⟩
  | .local _ .vmem, ⟨7, _⟩ => ⟨S512x2048, .f32⟩
  | .local _ .vmem, ⟨8, _⟩ => ⟨S512x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c2_i32_5 : BitVec 32 := 2#32
  let c0_i32_6 : BitVec 32 := 0#32
  let c0_i32_7 : BitVec 32 := 0#32
  let c0_i32_8 : BitVec 32 := 0#32
  ![c0_i32_4.toNat, v17.toNat, c2_i32_5.toNat, c0_i32_6.toNat, c0_i32_7.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== COutReferenceIdeal.lean ====
abbrev S4x256x2048 : Shape := ⟨3, ![4, 256, 2048]⟩
abbrev S4x256x512 : Shape := ⟨3, ![4, 256, 512]⟩
abbrev S4x256x1024 : Shape := ⟨3, ![4, 256, 1024]⟩
abbrev S12288 : Shape := ⟨1, ![12288]⟩
abbrev S2x2048 : Shape := ⟨2, ![2, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x512, .f32⟩
  | .hbm, ⟨2, _⟩ => ⟨S4x256x512, .f32⟩
  | .hbm, ⟨3, _⟩ => ⟨S4x256x1024, .f32⟩
  | .hbm, ⟨4, _⟩ => ⟨S12288, .f32⟩
  | .hbm, ⟨5, _⟩ => ⟨S2x2048, .f32⟩
  | .hbm, ⟨6, _⟩ => ⟨S2x2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S4x256x2048, .f32⟩
  | .hbm, ⟨14, _⟩ => ⟨S1x2048x2048, .f32⟩
  | .hbm, ⟨15, _⟩ => ⟨S2048x2048, .f32⟩
  | .hbm, ⟨16, _⟩ => ⟨S4x256x2048, .f32⟩
  | .hbm, ⟨17, _⟩ => ⟨S1x2048, .f32⟩
  | .hbm, ⟨18, _⟩ => ⟨S2048, .f32⟩
  | .hbm, ⟨19, _⟩ => ⟨S4x256x2048, .f32⟩
  | .hbm, ⟨20, _⟩ => ⟨S_, .f32⟩
  | .hbm, ⟨21, _⟩ => ⟨S4x256, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S_, .f32⟩
  | .hbm, ⟨27, _⟩ => ⟨S4x256x1, .f32⟩
  | .hbm, ⟨28, _⟩ => ⟨S4x256x1, .f32⟩
  | .hbm, ⟨29, _⟩ => ⟨S4x256x1, .f32⟩
  | .hbm, ⟨30, _⟩ => ⟨S4x256x2048, .f32⟩
  | .hbm, ⟨31, _⟩ => ⟨S4x256x2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S1x1x2048, .f32⟩
  | .hbm, ⟨36, _⟩ => ⟨S4x256x2048, .f32⟩
  | .hbm, ⟨37, _⟩ => ⟨S4x256x2048, .f32⟩
  | .hbm, ⟨38, _⟩ => ⟨S4x256x2048, .f32⟩
  | .hbm, ⟨39, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== CInp.lean ====
abbrev S4x256x2048 : Shape := ⟨3, ![4, 256, 2048]⟩
abbrev S12288 : Shape := ⟨1, ![12288]⟩
abbrev S2x2048 : Shape := ⟨2, ![2, 2048]⟩
abbrev S2x2048x4608 : Shape := ⟨3, ![2, 2048, 4608]⟩
abbrev S1x1x6x1x2048 : Shape := ⟨5, ![1, 1, 6, 1, 2048]⟩
abbrev S_ : Shape := ⟨0, ![]⟩
abbrev S2x8x6x1x2048 : Shape := ⟨5, ![2, 8, 6, 1, 2048]⟩
abbrev S1024x2048 : Shape := ⟨2, ![1024, 2048]⟩
abbrev S2x1x2048 : Shape := ⟨3, ![2, 1, 2048]⟩
abbrev S1024x4096 : Shape := ⟨2, ![1024, 4096]⟩
abbrev S512x2048 : Shape := ⟨2, ![512, 2048]⟩
abbrev S1x1x2048 : Shape := ⟨3, ![1, 1, 2048]⟩
abbrev S1x1x1x1x2048 : Shape := ⟨5, ![1, 1, 1, 1, 2048]⟩
abbrev S512x4096 : Shape := ⟨2, ![512, 4096]⟩
abbrev S2048x4608 : Shape := ⟨2, ![2048, 4608]⟩
abbrev S2x2048x512 : Shape := ⟨3, ![2, 2048, 512]⟩
abbrev S2 : Shape := ⟨1, ![2]⟩
abbrev S1 : Shape := ⟨1, ![1]⟩
abbrev S1x2048x512 : Shape := ⟨3, ![1, 2048, 512]⟩
abbrev S512 : Shape := ⟨1, ![512]⟩
abbrev S512x1 : Shape := ⟨2, ![512, 1]⟩
abbrev S1x2048 : Shape := ⟨2, ![1, 2048]⟩
abbrev S2048x512 : Shape := ⟨2, ![2048, 512]⟩
abbrev S512x512 : Shape := ⟨2, ![512, 512]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048x4608, .f32⟩
  | .hbm, ⟨4, _⟩ => ⟨S1x1x6x1x2048, .f32⟩
  | .hbm, ⟨5, _⟩ => ⟨S_, .i32⟩
  | .hbm, ⟨6, _⟩ => ⟨S_, .f32⟩
  | .hbm, ⟨7, _⟩ => ⟨S2x8x6x1x2048, .f32⟩
  | .hbm, ⟨8, _⟩ => ⟨S1024x2048, .f32⟩
  | .hbm, ⟨9, _⟩ => ⟨S2x1x2048, .f32⟩
  | .hbm, ⟨10, _⟩ => ⟨S1024x4096, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x4096, .bf16⟩
  | .local _ .vmem, ⟨8, _⟩ => ⟨S512x4096, .bf16⟩
  | .local _ .vmem, ⟨9, _⟩ => ⟨S2048x4608, .bf16⟩
  | .local _ .vmem, ⟨10, _⟩ => ⟨S2x2048x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v17.toNat, c0_i32_5.toNat, c0_i32_6.toNat, c0_i32_7.toNat]

def cc0_transform_3 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v17.toNat, c1_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CInpReferenceIdeal.lean ====
abbrev S4x256x2048 : Shape := ⟨3, ![4, 256, 2048]⟩
abbrev S12288 : Shape := ⟨1, ![12288]⟩
abbrev S2x2048 : Shape := ⟨2, ![2, 2048]⟩
abbrev S2x2048x4608 : Shape := ⟨3, ![2, 2048, 4608]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x4608 : Shape := ⟨3, ![1, 2048, 4608]⟩
abbrev S2048x4608 : Shape := ⟨2, ![2048, 4608]⟩
abbrev S2048x2048 : Shape := ⟨2, ![2048, 2048]⟩
abbrev S2048x2560 : Shape := ⟨2, ![2048, 2560]⟩
abbrev S4x256x2560 : Shape := ⟨3, ![4, 256, 2560]⟩
abbrev S4x256x512 : Shape := ⟨3, ![4, 256, 512]⟩
abbrev S4x256x1024 : Shape := ⟨3, ![4, 256, 1024]⟩
abbrev S4x256x4096 : Shape := ⟨3, ![4, 256, 4096]⟩
abbrev S1024x4096 : Shape := ⟨2, ![1024, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048x4608, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S4x256x2048, .f32⟩
  | .hbm, ⟨13, _⟩ => ⟨S_, .f32⟩
  | .hbm, ⟨14, _⟩ => ⟨S4x256, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S4x256x2048, .f32⟩
  | .hbm, ⟨24, _⟩ => ⟨S4x256x2048, .f32⟩
  | .hbm, ⟨25, _⟩ => ⟨S1x1x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S1x1x2048, .f32⟩
  | .hbm, ⟨35, _⟩ => ⟨S4x256x2048, .f32⟩
  | .hbm, ⟨36, _⟩ => ⟨S4x256x2048, .f32⟩
  | .hbm, ⟨37, _⟩ => ⟨S1x2048x4608, .f32⟩
  | .hbm, ⟨38, _⟩ => ⟨S2048x4608, .f32⟩
  | .hbm, ⟨39, _⟩ => ⟨S2048x2048, .f32⟩
  | .hbm, ⟨40, _⟩ => ⟨S4x256x2048, .f32⟩
  | .hbm, ⟨41, _⟩ => ⟨S1x2048x4608, .f32⟩
  | .hbm, ⟨42, _⟩ => ⟨S2048x4608, .f32⟩
  | .hbm, ⟨43, _⟩ => ⟨S2048x2560, .f32⟩
  | .hbm, ⟨44, _⟩ => ⟨S4x256x2560, .f32⟩
  | .hbm, ⟨45, _⟩ => ⟨S4x256x512, .f32⟩
  | .hbm, ⟨46, _⟩ => ⟨S4x256x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x512, .f32⟩
  | .hbm, ⟨51, _⟩ => ⟨S4x256x512, .f32⟩
  | .hbm, ⟨52, _⟩ => ⟨S_, .f32⟩
  | .hbm, ⟨53, _⟩ => ⟨S4x256x512, .f32⟩
  | .hbm, ⟨54, _⟩ => ⟨S4x256x512, .f32⟩
  | .hbm, ⟨55, _⟩ => ⟨S_, .f32⟩
  | .hbm, ⟨56, _⟩ => ⟨S4x256x512, .f32⟩
  | .hbm, ⟨57, _⟩ => ⟨S4x256x512, .f32⟩
  | .hbm, ⟨58, _⟩ => ⟨S4x256x512, .f32⟩
  | .hbm, ⟨59, _⟩ => ⟨S4x256x4096, .f32⟩
  | .hbm, ⟨60, _⟩ => ⟨S1024x4096, .f32⟩
  | .hbm, ⟨61, _⟩ => ⟨S1024x4096, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== CKv.lean ====
abbrev S4x256x2048 : Shape := ⟨3, ![4, 256, 2048]⟩
abbrev S12288 : Shape := ⟨1, ![12288]⟩
abbrev S2x2048 : Shape := ⟨2, ![2, 2048]⟩
abbrev S2x2048x4608 : Shape := ⟨3, ![2, 2048, 4608]⟩
abbrev S1x1x6x1x2048 : Shape := ⟨5, ![1, 1, 6, 1, 2048]⟩
abbrev S_ : Shape := ⟨0, ![]⟩
abbrev S2x8x6x1x2048 : Shape := ⟨5, ![2, 8, 6, 1, 2048]⟩
abbrev S1024x2048 : Shape := ⟨2, ![1024, 2048]⟩
abbrev S2x1x2048 : Shape := ⟨3, ![2, 1, 2048]⟩
abbrev S512x2048 : Shape := ⟨2, ![512, 2048]⟩
abbrev S1x1x2048 : Shape := ⟨3, ![1, 1, 2048]⟩
abbrev S1x1x1x1x2048 : Shape := ⟨5, ![1, 1, 1, 1, 2048]⟩
abbrev S2048x2048 : Shape := ⟨2, ![2048, 2048]⟩
abbrev S2x2048x512 : Shape := ⟨3, ![2, 2048, 512]⟩
abbrev S2 : Shape := ⟨1, ![2]⟩
abbrev S1 : Shape := ⟨1, ![1]⟩
abbrev S1x2048x512 : Shape := ⟨3, ![1, 2048, 512]⟩
abbrev S512 : Shape := ⟨1, ![512]⟩
abbrev S512x1 : Shape := ⟨2, ![512, 1]⟩
abbrev S1x2048 : Shape := ⟨2, ![1, 2048]⟩
abbrev S2048x512 : Shape := ⟨2, ![2048, 512]⟩
abbrev S512x512 : Shape := ⟨2, ![512, 512]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048x4608, .f32⟩
  | .hbm, ⟨4, _⟩ => ⟨S1x1x6x1x2048, .f32⟩
  | .hbm, ⟨5, _⟩ => ⟨S_, .i32⟩
  | .hbm, ⟨6, _⟩ => ⟨S_, .f32⟩
  | .hbm, ⟨7, _⟩ => ⟨S2x8x6x1x2048, .f32⟩
  | .hbm, ⟨8, _⟩ => ⟨S1024x2048, .f32⟩
  | .hbm, ⟨9, _⟩ => ⟨S2x1x2048, .f32⟩
  | .hbm, ⟨10, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S512x2048, .bf16⟩
  | .local _ .vmem, ⟨8, _⟩ => ⟨S512x2048, .bf16⟩
  | .local _ .vmem, ⟨9, _⟩ => ⟨S2048x2048, .bf16⟩
  | .local _ .vmem, ⟨10, _⟩ => ⟨S2x2048x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v17.toNat, c0_i32_5.toNat, c0_i32_6.toNat, c0_i32_7.toNat]

def cc0_transform_3 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v17.toNat, c1_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CKvReferenceIdeal.lean ====
abbrev S4x256x2048 : Shape := ⟨3, ![4, 256, 2048]⟩
abbrev S12288 : Shape := ⟨1, ![12288]⟩
abbrev S2x2048 : Shape := ⟨2, ![2, 2048]⟩
abbrev S2x2048x4608 : Shape := ⟨3, ![2, 2048, 4608]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x4608 : Shape := ⟨3, ![1, 2048, 4608]⟩
abbrev S2048x4608 : Shape := ⟨2, ![2048, 4608]⟩
abbrev S2048x2048 : Shape := ⟨2, ![2048, 2048]⟩
abbrev S1024x2048 : Shape := ⟨2, ![1024, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2x2048, .f32⟩
  | .hbm, ⟨3, _⟩ => ⟨S2x2048x4608, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S4x256x2048, .f32⟩
  | .hbm, ⟨13, _⟩ => ⟨S_, .f32⟩
  | .hbm, ⟨14, _⟩ => ⟨S4x256, .f32⟩
  | .hbm, ⟨15, _⟩ => ⟨S4x256x1, .f32⟩
  | .hbm, ⟨16, _⟩ => ⟨S_, .f32⟩
  | .hbm, ⟨17, _⟩ => ⟨S4x256x1, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S4x256x2048, .f32⟩
  | .hbm, ⟨24, _⟩ => ⟨S4x256x2048, .f32⟩
  | .hbm, ⟨25, _⟩ => ⟨S1x1x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S1x1x2048, .f32⟩
  | .hbm, ⟨35, _⟩ => ⟨S4x256x2048, .f32⟩
  | .hbm, ⟨36, _⟩ => ⟨S4x256x2048, .f32⟩
  | .hbm, ⟨37, _⟩ => ⟨S1x2048x4608, .f32⟩
  | .hbm, ⟨38, _⟩ => ⟨S2048x4608, .f32⟩
  | .hbm, ⟨39, _⟩ => ⟨S2048x2048, .f32⟩
  | .hbm, ⟨40, _⟩ => ⟨S4x256x2048, .f32⟩
  | .hbm, ⟨41, _⟩ => ⟨S1024x2048, .f32⟩
  | .hbm, ⟨42, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.MlpSpec.lean ====
/- The squared-ReLU MLP sublayer as plain functions of one row, over the extended reals: what both the kernel and the
   reference compute at an index. -/
module

public import Idealize.ShloMosaic.Lib.Pointwise
public import Idealize.ShloMosaic.Lib.Pipeline.ValueKit

@[expose] public section

noncomputable section

namespace Cert.MlpSpec

open Idealize.ShloMosaic

/-- A row of length 2048 divided by its root mean square (the `+ eps` under the root). -/
def rms (y : Fin 2048 → EReal) (d : Fin 2048) : EReal :=
  y d * Ideal.rsqrt (Ideal.div (∑ k, y k * y k) (Ideal.ofBits FTy.f32 1157627904#32) + Ideal.ofBits FTy.f32 897988541#32)

/-- The normed, gained and modulated row. -/
def modd (x g sc sh : Fin 2048 → EReal) (d : Fin 2048) : EReal := rms x d * g d * (1 + sc d) + sh d

/-- One hidden unit: the squared ReLU of its inner product with the row. -/
def hid {n : ℕ} (h : Fin 2048 → EReal) (w : Fin 2048 → Fin n → EReal) (k : Fin n) : EReal :=
  max (∑ d, h d * w d k) 0 * max (∑ d, h d * w d k) 0

/-- The part of the second matrix product that `n` hidden units contribute at output `d`. -/
def part {n : ℕ} (h : Fin 2048 → EReal) (w : Fin 2048 → Fin n → EReal) (w' : Fin n → Fin 2048 → EReal) (d : Fin 2048) : EReal :=
  ∑ k, hid h w k * w' k d

/-- The residual row plus the gated, normed and gained branch row. -/
def resid (x gate gp y : Fin 2048 → EReal) (d : Fin 2048) : EReal := x d + gate d * (rms y d * gp d)

/-! ## The sum over the chunks -/

/-- One hidden unit's contribution to output channel `d`, for a unit number below 8192. -/
def unit (h : Fin 2048 → EReal) (w : Fin 2048 → Fin 8192 → EReal) (w' : Fin 8192 → Fin 2048 → EReal) (d : Fin 2048) (l : ℕ) : EReal :=
  if hl : l < 8192 then hid h w ⟨l, hl⟩ * w' ⟨l, hl⟩ d else 0

/-- One chunk's part is the sum of its 512 units. -/
theorem part_chunk (h : Fin 2048 → EReal) (w : Fin 2048 → Fin 8192 → EReal) (w' : Fin 8192 → Fin 2048 → EReal) (d : Fin 2048)
    (u : Fin 2048 → Fin 512 → EReal) (u' : Fin 512 → Fin 2048 → EReal) (s : ℕ) (hs : s < 16)
    (e : ∀ d k, u d k = w d ⟨s * 512 + k.val, by omega⟩) (e' : ∀ k d, u' k d = w' ⟨s * 512 + k.val, by omega⟩ d) :
    part h u u' d = ∑ k : Fin 512, unit h w w' d (s * 512 + k.val) := by
  refine Finset.sum_congr rfl fun k _ => ?_
  rw [unit, dif_pos (by omega), e', hid, hid]
  simp only [e]

/-- The sixteen chunks together are the whole sum. -/
theorem part_all (h : Fin 2048 → EReal) (w : Fin 2048 → Fin 8192 → EReal) (w' : Fin 8192 → Fin 2048 → EReal) (d : Fin 2048) :
    part h w w' d = ∑ s ∈ Finset.range 16, ∑ k : Fin 512, unit h w w' d (s * 512 + k.val) := by
  rw [Finset.sum_range]
  have e : part h w w' d = ∑ l : Fin (16 * 512), unit h w w' d l.val :=
    Finset.sum_congr rfl fun l _ => by rw [unit, dif_pos l.isLt]
  rw [e]
  exact (Fin.sum_mul_add_fin 16 512 (fun l : Fin (16 * 512) => unit h w w' d l.val) rfl).symm

end Cert.MlpSpec
-- ==== Proof.OutSpec.lean ====
/- The output projection as plain functions of one row, over the extended reals: the branch row is the sum of the three
   sublayer rows, each against its own rows of the weight matrix. -/
module

public import proofs.«01_k».proof.Proof.MlpSpec

@[expose] public section

noncomputable section

namespace Cert.OutSpec

open Idealize.ShloMosaic

/-- The three sublayer rows against their rows of the weight matrix, summed. -/
def mix (yf yc : Fin 512 → EReal) (ao : Fin 1024 → EReal) (w : Fin 2048 → Fin 2048 → EReal) (d : Fin 2048) : EReal :=
  (∑ k : Fin 512, yf k * w ⟨k.val, by omega⟩ d) + (∑ k : Fin 512, yc k * w ⟨512 + k.val, by omega⟩ d)
    + ∑ k : Fin 1024, ao k * w ⟨1024 + k.val, by omega⟩ d

/-- The three sublayer rows side by side. -/
def cat (yf yc : Fin 512 → EReal) (ao : Fin 1024 → EReal) (k : Fin 2048) : EReal :=
  if h : k.val < 512 then yf ⟨k.val, h⟩ else if h' : k.val < 1024 then yc ⟨k.val - 512, by omega⟩ else ao ⟨k.val - 1024, by omega⟩

/-- The product with the joined row is the sum of the three products. -/
theorem cat_sum (yf yc : Fin 512 → EReal) (ao : Fin 1024 → EReal) (w : Fin 2048 → Fin 2048 → EReal) (d : Fin 2048) :
    ∑ k, cat yf yc ao k * w k d = mix yf yc ao w d := by
  have e := Fin.sum_univ_add (a := 512 + 512) (b := 1024) (fun k : Fin (512 + 512 + 1024) => cat yf yc ao k * w k d)
  rw [Fin.sum_univ_add (a := 512) (b := 512)] at e
  refine e.trans ?_
  unfold mix
  refine congrArg₂ (· + ·) (congrArg₂ (· + ·) ?_ ?_) ?_
  · refine Finset.sum_congr rfl fun k _ => congrArg (· * _) ?_
    exact dif_pos k.isLt
  · refine Finset.sum_congr rfl fun k _ => congrArg (· * _) ?_
    refine (dif_neg (by show ¬ 512 + k.val < 512; omega)).trans ((dif_pos (by show 512 + k.val < 1024; omega)).trans ?_)
    exact congrArg yc (Fin.ext (by show 512 + k.val - 512 = k.val; omega))
  · refine Finset.sum_congr rfl fun k _ => congrArg (· * _) ?_
    refine (dif_neg (by show ¬ 1024 + k.val < 512; omega)).trans ((dif_neg (by show ¬ 1024 + k.val < 1024; omega)).trans ?_)
    exact congrArg ao (Fin.ext (by show 1024 + k.val - 1024 = k.val; omega))

end Cert.OutSpec
-- ==== Proof.OutKer.lean ====
/- The output projection's call read at an index: the carried weights, the two row groups of a block. -/
module

public import proofs.«01_k».proof.Proof.Gen.OutIdeal.Value
public import proofs.«01_k».proof.Proof.OutSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.OutIdeal.Val

open Cert.OutIdeal Cert.OutIdeal.Gen Idealize.ShloMosaic Idealize.ShloMosaic.TcCoe Idealize.SL.Sem Cert.MlpSpec Cert.OutSpec
open Idealize.ShloMosaic.Pipeline (Dat)

variable (m : (ℓ : Loc nD τ sig) → Buf (Elt Ideal) ℓ) (c : Dev nD)

theorem scr_A (t : Fin cfg0.N) (h : t.val % 16 = 0) : (outsAt0 m c t.val t.isLt).2 = k0_pay2 (iblk m c 3 t) := by
  rw [outsAt0_A m c t h]
  frame_out

theorem scr_s (t : Fin cfg0.N) (h : ¬ t.val % 16 = 0) :
    (outsAt0 m c t.val t.isLt).2 = (outsAt0 m c (t.val - 1) (Nat.lt_of_le_of_lt (Nat.sub_le _ _) t.isLt)).2 := by
  rw [outsAt0_B m c t h]
  rfl

/-- What a grid point's two stores leave in the result block, over the weights `W` in the scratch. -/
def outO (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) : Vec Ideal S512x2048 .f32 :=
  View.canon (Val := Elt Ideal) (e := .f32)
    [⟨Rect.unit ![256, 0] ![256, 2048] inb_S512x2048_S256x2048_256_0,
        k0_pay1
          (k0_pay6 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          (k0_pay8 (View.ld x4 (Rect.unit ![256, 0] ![256, 2048] inb_S512x2048_S256x2048_256_0))) (k0_pay9 x5)
          (k0_pay10 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          k0_pay11 x6⟩,
      ⟨Rect.unit ![0, 0] ![256, 2048] inb_S512x2048_S256x2048_0_0,
        k0_pay7
          (k0_pay3 (View.ld x0 (Rect.unit ![0, 0] ![256, 512] inb_S512x512_S256x512_0_0)) (View.ld W (Rect.unit ![0, 0] ![512, 2048] inb_S2048x2048_S512x2048_0_0))
              (View.ld x1 (Rect.unit ![0, 0] ![256, 512] inb_S512x512_S256x512_0_0)) (View.ld W (Rect.unit ![512, 0] ![512, 2048] inb_S2048x2048_S512x2048_512_0))
              (View.ld x2 (Rect.unit ![0, 0] ![256, 1024] inb_S512x1024_S256x1024_0_0)) (View.ld W (Rect.unit ![1024, 0] ![1024, 2048] inb_S2048x2048_S1024x2048_1024_0)))
          (View.ld x4 (Rect.unit ![0, 0] ![256, 2048] inb_S512x2048_S256x2048_0_0)) x5 x6⟩]

theorem out_A (t : Fin cfg0.N) (h : t.val % 16 = 0) :
    (outsAt0 m c t.val t.isLt).1 = outO (iblk m c 0 t) (iblk m c 1 t) (iblk m c 2 t) (k0_pay2 (iblk m c 3 t)) (iblk m c 4 t) (iblk m c 5 t) (iblk m c 6 t) := by
  rw [outsAt0_A m c t h]
  unfold outO
  frame_out
  have h0 : ∀ a : Fin S2048x2048.rank, (![0, 0] : Fin 2 → ℕ) a = 0 := fun a => match a with
    | ⟨0, _⟩ => rfl
    | ⟨1, _⟩ => rfl
  rw [View.readCov_fill _ _ _ _ (Rect.unit ![0, 0] ![512, 2048] inb_S2048x2048_S512x2048_0_0) h0,
    View.readCov_fill _ _ _ _ (Rect.unit ![512, 0] ![512, 2048] inb_S2048x2048_S512x2048_512_0) h0,
    View.readCov_fill _ _ _ _ (Rect.unit ![1024, 0] ![1024, 2048] inb_S2048x2048_S1024x2048_1024_0) h0]

theorem out_B (t : Fin cfg0.N) (h : ¬ t.val % 16 = 0) :
    (outsAt0 m c t.val t.isLt).1 = outO (iblk m c 0 t) (iblk m c 1 t) (iblk m c 2 t)
      (outsAt0 m c (t.val - 1) (Nat.lt_of_le_of_lt (Nat.sub_le _ _) t.isLt)).2 (iblk m c 4 t) (iblk m c 5 t) (iblk m c 6 t) := by
  rw [outsAt0_B m c t h]
  unfold outO
  frame_out
  rw [read_unread_whole]

section pays
variable (x0 x1 : Vec Ideal S256x512 .bf16) (x2 : Vec Ideal S256x1024 .bf16) (w0 w1 : Vec Ideal S512x2048 .bf16)
  (w2 : Vec Ideal S1024x2048 .bf16) (x4 : Vec Ideal S256x2048 .f32) (x5 : Vec Ideal S1x1x1x1x2048 .f32) (x6 : Vec Ideal S1x1x2048 .f32)

theorem pay3_at (r : Fin 256) (d : Fin 2048) : k0_pay3 x0 w0 x1 w1 x2 w2 (ix2 r d)
    = (∑ k, x0 (ix2 r k) * w0 (ix2 k d)) + (∑ k, x1 (ix2 r k) * w1 (ix2 k d)) + ∑ k, x2 (ix2 r k) * w2 (ix2 k d) := by
  pointwise [k0_pay3]

theorem pay6_at (r : Fin 256) (d : Fin 2048) : k0_pay6 (k0_pay4 x0 w0 x1 w1) (k0_pay5 x2) w2 (ix2 r d)
    = (∑ k, x0 (ix2 r k) * w0 (ix2 k d)) + (∑ k, x1 (ix2 r k) * w1 (ix2 k d)) + ∑ k, x2 (ix2 r k) * w2 (ix2 k d) := by
  pointwise [k0_pay6, k0_pay4, k0_pay5]

theorem pay7_at (y : Vec Ideal S256x2048 .f32) (r : Fin 256) (d : Fin 2048) : k0_pay7 y x4 x5 x6 (ix2 r d)
    = resid (fun d => x4 (ix2 r d)) (fun d => x5 (ix5 0 0 0 0 d)) (fun d => x6 (ix3 0 0 d)) (fun d => y (ix2 r d)) d := by
  pointwise [k0_pay7]
  rfl

theorem pay1_at (a : Vec Ideal S256x2048 .f32) (b : Vec Ideal S256x1024 .bf16) (r : Fin 256) (d : Fin 2048) :
    k0_pay1 (k0_pay6 a b w2) (k0_pay8 x4) (k0_pay9 x5) (k0_pay10 a b w2) k0_pay11 x6 (ix2 r d)
    = resid (fun d => x4 (ix2 r d)) (fun d => x5 (ix5 0 0 0 0 d)) (fun d => x6 (ix3 0 0 d)) (fun d => k0_pay6 a b w2 (ix2 r d)) d := by
  unfold k0_pay10
  generalize k0_pay6 a b w2 = y
  pointwise [k0_pay1, k0_pay8, k0_pay9, k0_pay11]
  rfl

end pays

/-- A group's rows are rows of the block. -/
theorem ld_at {A B R C : ℕ} {e : EltTy} (x : Vec Ideal ⟨2, ![A, B]⟩ e) (o : ℕ)
    (inb : ∀ a, (![o, 0] : Fin 2 → ℕ) a + (![R, C] : Fin 2 → ℕ) a ≤ (⟨2, ![A, B]⟩ : Shape).size a)
    (r : Fin R) (k : Fin C) (i : Fin A) (j : Fin B) (hi : i.val = o + r.val) (hj : j.val = k.val) :
    View.ld x (Rect.unit ![o, 0] ![R, C] inb) (ix2 r k) = x (ix2 i j) := by
  rw [View.ld_apply]
  refine congrArg x (funext fun a => ?_)
  match a with
  | ⟨0, _⟩ => exact Fin.ext ((Rect.idx_unit_val ..).trans hi.symm)
  | ⟨1, _⟩ => exact Fin.ext ((Rect.idx_unit_val ..).trans ((Nat.zero_add _).trans hj.symm))

theorem ix_eta (x : S256x2048.Idx) : ∃ (r : Fin 256) (e : Fin 2048), x = ix2 r e := by
  refine ⟨⟨(x 0).val, (x 0).isLt⟩, ⟨(x 1).val, (x 1).isLt⟩, funext fun a => ?_⟩
  match a with
  | ⟨0, _⟩ => rfl
  | ⟨1, _⟩ => rfl

theorem outO_at (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) (i : Fin 512) (d : Fin 2048) :
    outO x0 x1 x2 W x4 x5 x6 (ix2 i d) = resid (fun d => x4 (ix2 i d)) (fun d => x5 (ix5 0 0 0 0 d)) (fun d => x6 (ix3 0 0 d))
      (mix (fun k => x0 (ix2 i k)) (fun k => x1 (ix2 i k)) (fun k => x2 (ix2 i k)) (fun k d => W (ix2 k d))) d := by
  unfold outO
  canon_tiles x h
  · obtain ⟨r, e, rfl⟩ := ix_eta x
    obtain rfl : d = e := Fin.ext h1
    rw [pay1_at]
    simp only [pay6_at]
    have hr := r.isLt
    refine congrArg₂ (fun f g => resid f _ _ g d) (funext fun d => ld_at x4 256 _ r d i d h0 rfl) (funext fun d => ?_)
    unfold mix
    refine congrArg₂ (· + ·) (congrArg₂ (· + ·) ?_ ?_) ?_
    · exact Finset.sum_congr rfl fun k _ => congrArg₂ (· * ·) (ld_at x0 256 _ r k i k h0 rfl) (ld_at W 0 _ k d ⟨k.val, by omega⟩ d (Nat.zero_add _).symm rfl)
    · exact Finset.sum_congr rfl fun k _ => congrArg₂ (· * ·) (ld_at x1 256 _ r k i k h0 rfl) (ld_at W 512 _ k d ⟨512 + k.val, by omega⟩ d rfl rfl)
    · exact Finset.sum_congr rfl fun k _ => congrArg₂ (· * ·) (ld_at x2 256 _ r k i k h0 rfl) (ld_at W 1024 _ k d ⟨1024 + k.val, by omega⟩ d rfl rfl)
  · obtain ⟨r, e, rfl⟩ := ix_eta x
    obtain rfl : d = e := Fin.ext h1
    rw [pay7_at]
    simp only [pay3_at]
    have hi : i.val = 0 + r.val := h0.trans (Nat.zero_add _).symm
    refine congrArg₂ (fun f g => resid f _ _ g d) (funext fun d => ld_at x4 0 _ r d i d hi rfl) (funext fun d => ?_)
    unfold mix
    refine congrArg₂ (· + ·) (congrArg₂ (· + ·) ?_ ?_) ?_
    · exact Finset.sum_congr rfl fun k _ => congrArg₂ (· * ·) (ld_at x0 0 _ r k i k hi rfl) (ld_at W 0 _ k d ⟨k.val, by omega⟩ d (Nat.zero_add _).symm rfl)
    · exact Finset.sum_congr rfl fun k _ => congrArg₂ (· * ·) (ld_at x1 0 _ r k i k hi rfl) (ld_at W 512 _ k d ⟨512 + k.val, by omega⟩ d rfl rfl)
    · exact Finset.sum_congr rfl fun k _ => congrArg₂ (· * ·) (ld_at x2 0 _ r k i k hi rfl) (ld_at W 1024 _ k d ⟨1024 + k.val, by omega⟩ d rfl rfl)

/-! ## The blocks at an index -/

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem flat5_at (x : Vec Ideal S4x2048x512 .f32) (b : Fin 4) (n : Fin 2048) (d : Fin 512) (R : Fin 8192) (h : R.val = 2048 * b.val + n.val) :
    (truncf .bf16 (shapeCast S8192x512 x shapeCasts_S4x2048x512_S8192x512 : FVec Ideal S8192x512 .f32) bitsLt_bf16_f32 : FVec Ideal S8192x512 .bf16) (ix2 R d)
      = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem flat10_at (x : Vec Ideal S4x2048x1024 .f32) (b : Fin 4) (n : Fin 2048) (d : Fin 1024) (R : Fin 8192) (h : R.val = 2048 * b.val + n.val) :
    (truncf .bf16 (shapeCast S8192x1024 x shapeCasts_S4x2048x1024_S8192x1024 : FVec Ideal S8192x1024 .f32) bitsLt_bf16_f32 : FVec Ideal S8192x1024 .bf16) (ix2 R d)
      = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![1, 0, 0, 0, 0] ![0, 4, 0, 0, 0] ![0, 0, 0, 0, 0]
      (shapeCast S1x4x6x1x2048 x shapeCasts_S4x1x12288_S1x4x6x1x2048) z
      pads_S1x4x6x1x2048_S2x8x6x1x2048_100_040_000_000_000 h_S_ (ix5 1 b k 0 d) = x (ix3 ⟨b.val, hb⟩ 0 ⟨k.val * 2048 + d.val, by omega⟩) := by
  pointwise
  rw [dif_pos hb]

theorem V_v3 (b : Fin 4) (n : Fin 2048) (d : Fin 512) (R : Fin 8192) (h : R.val = 2048 * b.val + n.val) :
    V m c main_v3 (ix2 R d) = m ((c : Thread nD τ).loc main_arg1) (ix3 b n d) := by
  have e : V m c main_v3 = (truncf .bf16 (shapeCast S8192x512 (m ((c : Thread nD τ).loc main_arg1)) shapeCasts_S4x2048x512_S8192x512 : FVec Ideal S8192x512 .f32) bitsLt_bf16_f32 : FVec Ideal S8192x512 .bf16) := rfl
  rw [e]
  exact flat5_at _ b n d R h

theorem V_v5 (b : Fin 4) (n : Fin 2048) (d : Fin 512) (R : Fin 8192) (h : R.val = 2048 * b.val + n.val) :
    V m c main_v5 (ix2 R d) = m ((c : Thread nD τ).loc main_arg2) (ix3 b n d) := by
  have e : V m c main_v5 = (truncf .bf16 (shapeCast S8192x512 (m ((c : Thread nD τ).loc main_arg2)) shapeCasts_S4x2048x512_S8192x512 : FVec Ideal S8192x512 .f32) bitsLt_bf16_f32 : FVec Ideal S8192x512 .bf16) := rfl
  rw [e]
  exact flat5_at _ b n d R h

theorem V_v7 (b : Fin 4) (n : Fin 2048) (d : Fin 1024) (R : Fin 8192) (h : R.val = 2048 * b.val + n.val) :
    V m c main_v7 (ix2 R d) = m ((c : Thread nD τ).loc main_arg3) (ix3 b n d) := by
  have e : V m c main_v7 = (truncf .bf16 (shapeCast S8192x1024 (m ((c : Thread nD τ).loc main_arg3)) shapeCasts_S4x2048x1024_S8192x1024 : FVec Ideal S8192x1024 .f32) bitsLt_bf16_f32 : FVec Ideal S8192x1024 .bf16) := rfl
  rw [e]
  exact flat10_at _ b n d R h

theorem V_v8 (b : Fin 4) (n d : Fin 2048) (R : Fin 8192) (h : R.val = 2048 * b.val + n.val) :
    V m c main_v8 (ix2 R d) = m ((c : Thread nD τ).loc main_arg0) (ix3 b n d) := by
  have e : V m c main_v8 = shapeCast S8192x2048 (m ((c : Thread nD τ).loc main_arg0)) shapeCasts_S4x2048x2048_S8192x2048 := rfl
  rw [e]
  exact flat_at _ b n d R h

theorem V_v9 (l : Fin 2) (d : Fin 2048) : V m c main_v9 (ix3 l 0 d) = m ((c : Thread nD τ).loc main_arg5) (ix2 l d) := by
  have e : V m c main_v9 = shapeCast S2x1x2048 (m ((c : Thread nD τ).loc main_arg5)) shapeCasts_S2x2048_S2x1x2048 := rfl
  rw [e]
  exact row_at _ l d

/-- The modulation vectors of the layer, behind the padding. -/
theorem V_v1 (b : Fin 8) (hb : b.val < 4) (k : Fin 6) (d : Fin 2048) :
    V m c main_v1 (ix5 1 b k 0 d) = m ((c : Thread nD τ).loc main_arg4) (ix3 ⟨b.val, hb⟩ 0 ⟨k.val * 2048 + d.val, by omega⟩) := by
  have e : ∃ z, V m c main_v1 = pad S2x8x6x1x2048 ![1, 0, 0, 0, 0] ![0, 4, 0, 0, 0] ![0, 0, 0, 0, 0]
      (shapeCast S1x4x6x1x2048 (m ((c : Thread nD τ).loc main_arg4)) shapeCasts_S4x1x12288_S1x4x6x1x2048) z
      pads_S1x4x6x1x2048_S2x8x6x1x2048_100_040_000_000_000 h_S_ := ⟨_, rfl⟩
  obtain ⟨z, e⟩ := e
  rw [e]
  exact pad_at _ z b hb k d

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![1, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![1, t.val / 4, 2, 0, 0] := (by decide +kernel : ∀ t : Fin grid0.N, _)
theorem ix_6 : ∀ t : Fin cfg0.N, win0_6.index t = ![1, 0, 0] := (by decide +kernel : ∀ t : Fin grid0.N, _)

theorem blk_0 (t : Fin cfg0.N) (b : Fin 4) (n : Fin 2048) (r : Fin 512) (k : Fin 512) (hb : b.val = t.val / 4) (hn : n.val = t.val % 4 * 512 + r.val) :
    iblk m c 0 t (ix2 r k) = m ((c : Thread nD τ).loc main_arg1) (ix3 b n k) := by
  have ht : t.val < 16 := lt_of_lt_of_eq t.isLt N_0
  rw [← V_v3 m c b n k ⟨t.val * 512 + r.val, by omega⟩ (by show t.val * 512 + r.val = _; omega)]
  blk_ext [iblk, ix_0 t]

theorem blk_1 (t : Fin cfg0.N) (b : Fin 4) (n : Fin 2048) (r : Fin 512) (k : Fin 512) (hb : b.val = t.val / 4) (hn : n.val = t.val % 4 * 512 + r.val) :
    iblk m c 1 t (ix2 r k) = m ((c : Thread nD τ).loc main_arg2) (ix3 b n k) := by
  have ht : t.val < 16 := lt_of_lt_of_eq t.isLt N_0
  rw [← V_v5 m c b n k ⟨t.val * 512 + r.val, by omega⟩ (by show t.val * 512 + r.val = _; omega)]
  blk_ext [iblk, ix_1 t]

theorem blk_2 (t : Fin cfg0.N) (b : Fin 4) (n : Fin 2048) (r : Fin 512) (k : Fin 1024) (hb : b.val = t.val / 4) (hn : n.val = t.val % 4 * 512 + r.val) :
    iblk m c 2 t (ix2 r k) = m ((c : Thread nD τ).loc main_arg3) (ix3 b n k) := by
  have ht : t.val < 16 := lt_of_lt_of_eq t.isLt N_0
  rw [← V_v7 m c b n k ⟨t.val * 512 + r.val, by omega⟩ (by show t.val * 512 + r.val = _; omega)]
  blk_ext [iblk, ix_2 t]

theorem blk_3 (t : Fin cfg0.N) (k d : Fin 2048) : iblk m c 3 t (ix3 0 k d) = m ((c : Thread nD τ).loc main_arg6) (ix3 1 k d) := by
  blk_ext [iblk, V, ix_3 t]

theorem blk_4 (t : Fin cfg0.N) (b : Fin 4) (n : Fin 2048) (r : Fin 512) (d : Fin 2048) (hb : b.val = t.val / 4) (hn : n.val = t.val % 4 * 512 + r.val) :
    iblk m c 4 t (ix2 r d) = m ((c : Thread nD τ).loc main_arg0) (ix3 b n d) := by
  have ht : t.val < 16 := lt_of_lt_of_eq t.isLt N_0
  rw [← V_v8 m c b n d ⟨t.val * 512 + r.val, by omega⟩ (by show t.val * 512 + r.val = _; omega)]
  blk_ext [iblk, ix_4 t]

theorem blk_5 (t : Fin cfg0.N) (b : Fin 4) (d : Fin 2048) (hb : b.val = t.val / 4) :
    iblk m c 5 t (ix5 0 0 0 0 d) = m ((c : Thread nD τ).loc main_arg4) (ix3 b 0 ⟨4096 + d.val, by omega⟩) := by
  refine Eq.trans ?_ (V_v1 m c ⟨b.val, by omega⟩ b.isLt 2 d)
  blk_ext [iblk, ix_5 t]

theorem blk_6 (t : Fin cfg0.N) (d : Fin 2048) : iblk m c 6 t (ix3 0 0 d) = m ((c : Thread nD τ).loc main_arg5) (ix2 1 d) := by
  refine Eq.trans ?_ (V_v9 m c 1 d)
  blk_ext [iblk, ix_6 t]

theorem pay2_at (w : Vec Ideal S1x2048x2048 .f32) (k d : Fin 2048) : k0_pay2 w (ix2 k d) = w (ix3 0 k d) := by
  pointwise [k0_pay2]

/-- What the scratch holds after every point: the layer's weights. -/
theorem scr_at (t : Fin cfg0.N) (k d : Fin 2048) : (outsAt0 m c t.val t.isLt).2 (ix2 k d) = m ((c : Thread nD τ).loc main_arg6) (ix3 1 k d) := by
  rw [Pipeline.eq_of_write_hold_apply (fun n h => (outsAt0 m c n h).2) 16 (fun t => k0_pay2 (iblk m c 3 t))
    (fun t h i => congrFun (scr_A m c t h) i) (fun t h i => congrFun (scr_s m c t h) i) t (ix2 k d), pay2_at, blk_3]

/-- The result block of a point, row by row. -/
theorem last_at (t : Fin cfg0.N) (b : Fin 4) (n : Fin 2048) (r : Fin 512) (d : Fin 2048) (hb : b.val = t.val / 4) (hn : n.val = t.val % 4 * 512 + r.val) :
    (outsAt0 m c t.val t.isLt).1 (ix2 r d)
      = resid (fun d => m ((c : Thread nD τ).loc main_arg0) (ix3 b n d)) (fun d => m ((c : Thread nD τ).loc main_arg4) (ix3 b 0 ⟨4096 + d.val, by omega⟩))
          (fun d => m ((c : Thread nD τ).loc main_arg5) (ix2 1 d))
          (mix (fun k => m ((c : Thread nD τ).loc main_arg1) (ix3 b n k)) (fun k => m ((c : Thread nD τ).loc main_arg2) (ix3 b n k))
            (fun k => m ((c : Thread nD τ).loc main_arg3) (ix3 b n k)) (fun k d => m ((c : Thread nD τ).loc main_arg6) (ix3 1 k d))) d := by
  have e : ∃ W : Vec Ideal S2048x2048 .bf16, (∀ k d, W (ix2 k d) = m ((c : Thread nD τ).loc main_arg6) (ix3 1 k d)) ∧
      (outsAt0 m c t.val t.isLt).1 = outO (iblk m c 0 t) (iblk m c 1 t) (iblk m c 2 t) W (iblk m c 4 t) (iblk m c 5 t) (iblk m c 6 t) := by
    by_cases h : t.val % 16 = 0
    · exact ⟨_, fun k d => (pay2_at _ k d).trans (blk_3 m c t k d), out_A m c t h⟩
    · exact ⟨_, fun k d => scr_at m c ⟨t.val - 1, Nat.lt_of_le_of_lt (Nat.sub_le _ _) t.isLt⟩ k d, out_B m c t h⟩
  obtain ⟨W, hW, e⟩ := e
  rw [e, outO_at]
  simp only [hW, blk_0 m c t b n r _ hb hn, blk_1 m c t b n r _ hb hn, blk_2 m c t b n r _ hb hn, blk_4 m c t b n r _ hb hn,
    blk_5 m c t b _ hb, blk_6]

end Cert.OutIdeal.Val
-- ==== Proof.OutRef.lean ====
/- The output projection's reference read at an index: one row of the residual stream and its branch row. -/
module

public import proofs.«01_k».proof.Proof.Gen.OutReferenceIdeal.Read
public import proofs.«01_k».proof.Proof.OutSpec

@[expose] public section

noncomputable section

namespace Cert.OutReferenceIdeal.Val

open Cert.OutReferenceIdeal Cert.OutReferenceIdeal.Gen Cert.OutReferenceIdeal.Read Idealize.ShloMosaic Cert.MlpSpec Cert.OutSpec

variable (x0 : Vec Ideal S4x2048x2048 .f32) (x1 x2 : Vec Ideal S4x2048x512 .f32) (x3 : Vec Ideal S4x2048x1024 .f32)
  (x4 : Vec Ideal S4x1x12288 .f32) (x5 : Vec Ideal S2x2048 .f32) (x6 : Vec Ideal S2x2048x2048 .f32)

theorem cat_at (b : Fin 4) (n k : Fin 2048) :
    val_main_v6 (F := Ideal) x1 x2 x3 (ix3 b n k)
      = cat (fun k => x1 (ix3 b n k)) (fun k => x2 (ix3 b n k)) (fun k => x3 (ix3 b n k)) k := by
  pointwise [val_main_v6]
  unfold cat
  by_cases h : k.val < 512
  · rw [dif_pos h, dif_pos h]
  · by_cases h' : k.val < 1024
    · rw [dif_neg h, dif_neg h, dif_pos (by omega), dif_pos h']
    · rw [dif_neg h, dif_neg h, dif_neg (by omega), dif_neg h']
      exact congrArg x3 (congrArg (ix3 b n) (Fin.ext (by show k.val - 512 - 512 = k.val - 1024; omega)))

theorem dot_at (b : Fin 4) (n d : Fin 2048) :
    val_main_v9 (F := Ideal) x1 x2 x3 x6 (ix3 b n d)
      = mix (fun k => x1 (ix3 b n k)) (fun k => x2 (ix3 b n k)) (fun k => x3 (ix3 b n k)) (fun k d => x6 (ix3 1 k d)) d := by
  rw [← cat_sum]
  pointwise [val_main_v9, val_main_v8, val_main_v7]
  simp only [cat_at]

theorem out_at (b : Fin 4) (n d : Fin 2048) :
    val_main_v27 (F := Ideal) x0 x1 x2 x3 x4 x5 x6 (ix3 b n d)
      = resid (fun d => x0 (ix3 b n d)) (fun d => x4 (ix3 b 0 ⟨4096 + d.val, by omega⟩)) (fun d => x5 (ix2 1 d))
          (fun d => val_main_v9 (F := Ideal) x1 x2 x3 x6 (ix3 b n d)) d := by
  pointwise [val_main_v27, val_main_v26, val_main_v25, val_main_v24, val_main_v23, val_main_v22, val_main_v21,
    val_main_v20, val_main_v19, val_main_v18, val_main_v17, val_main_cst_1, val_main_v16, val_main_v15, val_main_cst_0,
    val_main_v14, val_main_v13, val_main_cst, val_main_v12, val_main_v11, val_main_v10, val_main_v2, resid, rms]

/-- The reference's result at row `2048 b + n`. -/
theorem res_at (b : Fin 4) (n d : Fin 2048) (i : S8192x2048.Idx) (h0 : (i 0).val = 2048 * b.val + n.val) (h1 : (i 1).val = d.val) :
    val_main_v28 (F := Ideal) x0 x1 x2 x3 x4 x5 x6 i
      = resid (fun d => x0 (ix3 b n d)) (fun d => x4 (ix3 b 0 ⟨4096 + d.val, by omega⟩)) (fun d => x5 (ix2 1 d))
          (mix (fun k => x1 (ix3 b n k)) (fun k => x2 (ix3 b n k)) (fun k => x3 (ix3 b n k)) (fun k d => x6 (ix3 1 k d))) d := by
  rw [val_main_v28_apply]
  have e : idx_main_v28 i = ix3 b n d := by
    funext a
    apply Fin.ext
    have hb := b.isLt; have hn := n.isLt; have hd := d.isLt
    match a with
    | ⟨0, _⟩ => show _ = b.val; simp only [idx_main_v28]; omega
    | ⟨1, _⟩ => show _ = n.val; simp only [idx_main_v28]; omega
    | ⟨2, _⟩ => show _ = d.val; simp only [idx_main_v28]; omega
  rw [e, out_at]
  simp only [dot_at]

end Cert.OutReferenceIdeal.Val
-- ==== Proof.OutTie.lean ====
/- The output projection's call beside its reference: both results are the sublayer's end applied row by row. -/
module

public import proofs.«01_k».proof.Proof.OutKer
public import proofs.«01_k».proof.Proof.OutRef
public import proofs.«01_k».proof.Proof.Gen.OutReferenceIdeal.Run

@[expose] public section

noncomputable section

namespace Cert.OutTie

open Idealize.ShloMosaic Idealize.SL.Sem Cert.MlpSpec Cert.OutSpec

/-- The call's result array is the reference's result on the same arguments. -/
theorem tie (m : (ℓ : Loc Cert.OutIdeal.nD Cert.OutIdeal.τ Cert.OutIdeal.sig) → Buf (Elt Ideal) ℓ) (c : Dev Cert.OutIdeal.nD) :
    Cert.OutIdeal.Value.G7 m c = Cert.OutReferenceIdeal.Read.val_main_v28 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5))
      (m ((c.tc : Thread Cert.OutIdeal.nD Cert.OutIdeal.τ).loc Cert.OutIdeal.main_arg6)) := by
  funext i
  have h0 : (i 0).val < 8192 := (i 0).isLt
  have h1 : (i 1).val < 2048 := (i 1).isLt
  have hp : Cert.OutIdeal.Value.pt7Of i < Cert.OutIdeal.cfg0.N :=
    lt_of_lt_of_eq (show 1 * ((i 0).val / 512 - 0) + 1 * ((i 1).val / 2048 - 0) < 16 by omega) Cert.OutIdeal.Gen.N_0.symm
  have hv : Cert.OutIdeal.Value.pt7Of i = (i 0).val / 512 := by
    show 1 * ((i 0).val / 512 - 0) + 1 * ((i 1).val / 2048 - 0) = _; omega
  have e : Cert.OutIdeal.Value.G7 m c i = (Cert.OutIdeal.Gen.outsAt0 m c (Cert.OutIdeal.Value.pt7Of i) hp).1 (Cert.OutIdeal.Value.loc7Of i) := by
    rw [Cert.OutIdeal.Value.outsAt0_sweep]
    unfold Cert.OutIdeal.Value.G7
    rw [dif_pos hp]
  have el : Cert.OutIdeal.Value.loc7Of i = ix2 ⟨(i 0).val % 512, Nat.mod_lt _ (by decide)⟩ ⟨(i 1).val, h1⟩ := by
    funext a
    match a with
    | ⟨0, _⟩ => rfl
    | ⟨1, _⟩ => exact Fin.ext (Nat.mod_eq_of_lt h1)
  rw [e, el, Cert.OutReferenceIdeal.Val.res_at _ _ _ _ _ _ _ ⟨(i 0).val / 2048, by omega⟩ ⟨(i 0).val % 2048, by omega⟩ ⟨(i 1).val, h1⟩ i
    (by show (i 0).val = 2048 * ((i 0).val / 2048) + (i 0).val % 2048; omega) rfl]
  exact Cert.OutIdeal.Val.last_at m c ⟨Cert.OutIdeal.Value.pt7Of i, hp⟩ _ _ _ _
    (by show (i 0).val / 2048 = Cert.OutIdeal.Value.pt7Of i / 4; omega)
    (by show (i 0).val % 2048 = Cert.OutIdeal.Value.pt7Of i % 4 * 512 + (i 0).val % 512; omega)

end Cert.OutTie
-- ==== Proof.Out0Ker.lean ====
/- The first layer's output projection call read at an index: the carried weights, the two row groups of a block. -/
module

public import proofs.«01_k».proof.Proof.Gen.Out0Ideal.Value
public import proofs.«01_k».proof.Proof.OutSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.Out0Ideal.Val

open Cert.Out0Ideal Cert.Out0Ideal.Gen Idealize.ShloMosaic Idealize.ShloMosaic.TcCoe Idealize.SL.Sem Cert.MlpSpec Cert.OutSpec
open Idealize.ShloMosaic.Pipeline (Dat)

variable (m : (ℓ : Loc nD τ sig) → Buf (Elt Ideal) ℓ) (c : Dev nD)

theorem scr_A (t : Fin cfg0.N) (h : t.val % 16 = 0) : (outsAt0 m c t.val t.isLt).2 = k0_pay2 (iblk m c 3 t) := by
  rw [outsAt0_A m c t h]
  frame_out

theorem scr_s (t : Fin cfg0.N) (h : ¬ t.val % 16 = 0) :
    (outsAt0 m c t.val t.isLt).2 = (outsAt0 m c (t.val - 1) (Nat.lt_of_le_of_lt (Nat.sub_le _ _) t.isLt)).2 := by
  rw [outsAt0_B m c t h]
  rfl

/-- What a grid point's two stores leave in the result block, over the weights `W` in the scratch. -/
def outO (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) : Vec Ideal S512x2048 .f32 :=
  View.canon (Val := Elt Ideal) (e := .f32)
    [⟨Rect.unit ![256, 0] ![256, 2048] inb_S512x2048_S256x2048_256_0,
        k0_pay1
          (k0_pay6 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          (k0_pay8 (View.ld x4 (Rect.unit ![256, 0] ![256, 2048] inb_S512x2048_S256x2048_256_0))) (k0_pay9 x5)
          (k0_pay10 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          k0_pay11 x6⟩,
      ⟨Rect.unit ![0, 0] ![256, 2048] inb_S512x2048_S256x2048_0_0,
        k0_pay7
          (k0_pay3 (View.ld x0 (Rect.unit ![0, 0] ![256, 512] inb_S512x512_S256x512_0_0)) (View.ld W (Rect.unit ![0, 0] ![512, 2048] inb_S2048x2048_S512x2048_0_0))
              (View.ld x1 (Rect.unit ![0, 0] ![256, 512] inb_S512x512_S256x512_0_0)) (View.ld W (Rect.unit ![512, 0] ![512, 2048] inb_S2048x2048_S512x2048_512_0))
              (View.ld x2 (Rect.unit ![0, 0] ![256, 1024] inb_S512x1024_S256x1024_0_0)) (View.ld W (Rect.unit ![1024, 0] ![1024, 2048] inb_S2048x2048_S1024x2048_1024_0)))
          (View.ld x4 (Rect.unit ![0, 0] ![256, 2048] inb_S512x2048_S256x2048_0_0)) x5 x6⟩]

theorem out_A (t : Fin cfg0.N) (h : t.val % 16 = 0) :
    (outsAt0 m c t.val t.isLt).1 = outO (iblk m c 0 t) (iblk m c 1 t) (iblk m c 2 t) (k0_pay2 (iblk m c 3 t)) (iblk m c 4 t) (iblk m c 5 t) (iblk m c 6 t) := by
  rw [outsAt0_A m c t h]
  unfold outO
  frame_out
  have h0 : ∀ a : Fin S2048x2048.rank, (![0, 0] : Fin 2 → ℕ) a = 0 := fun a => match a with
    | ⟨0, _⟩ => rfl
    | ⟨1, _⟩ => rfl
  rw [View.readCov_fill _ _ _ _ (Rect.unit ![0, 0] ![512, 2048] inb_S2048x2048_S512x2048_0_0) h0,
    View.readCov_fill _ _ _ _ (Rect.unit ![512, 0] ![512, 2048] inb_S2048x2048_S512x2048_512_0) h0,
    View.readCov_fill _ _ _ _ (Rect.unit ![1024, 0] ![1024, 2048] inb_S2048x2048_S1024x2048_1024_0) h0]

theorem out_B (t : Fin cfg0.N) (h : ¬ t.val % 16 = 0) :
    (outsAt0 m c t.val t.isLt).1 = outO (iblk m c 0 t) (iblk m c 1 t) (iblk m c 2 t)
      (outsAt0 m c (t.val - 1) (Nat.lt_of_le_of_lt (Nat.sub_le _ _) t.isLt)).2 (iblk m c 4 t) (iblk m c 5 t) (iblk m c 6 t) := by
  rw [outsAt0_B m c t h]
  unfold outO
  frame_out
  rw [read_unread_whole]

section pays
variable (x0 x1 : Vec Ideal S256x512 .bf16) (x2 : Vec Ideal S256x1024 .bf16) (w0 w1 : Vec Ideal S512x2048 .bf16)
  (w2 : Vec Ideal S1024x2048 .bf16) (x4 : Vec Ideal S256x2048 .f32) (x5 : Vec Ideal S1x1x1x1x2048 .f32) (x6 : Vec Ideal S1x1x2048 .f32)

theorem pay3_at (r : Fin 256) (d : Fin 2048) : k0_pay3 x0 w0 x1 w1 x2 w2 (ix2 r d)
    = (∑ k, x0 (ix2 r k) * w0 (ix2 k d)) + (∑ k, x1 (ix2 r k) * w1 (ix2 k d)) + ∑ k, x2 (ix2 r k) * w2 (ix2 k d) := by
  pointwise [k0_pay3]

theorem pay6_at (r : Fin 256) (d : Fin 2048) : k0_pay6 (k0_pay4 x0 w0 x1 w1) (k0_pay5 x2) w2 (ix2 r d)
    = (∑ k, x0 (ix2 r k) * w0 (ix2 k d)) + (∑ k, x1 (ix2 r k) * w1 (ix2 k d)) + ∑ k, x2 (ix2 r k) * w2 (ix2 k d) := by
  pointwise [k0_pay6, k0_pay4, k0_pay5]

theorem pay7_at (y : Vec Ideal S256x2048 .f32) (r : Fin 256) (d : Fin 2048) : k0_pay7 y x4 x5 x6 (ix2 r d)
    = resid (fun d => x4 (ix2 r d)) (fun d => x5 (ix5 0 0 0 0 d)) (fun d => x6 (ix3 0 0 d)) (fun d => y (ix2 r d)) d := by
  pointwise [k0_pay7]
  rfl

theorem pay1_at (a : Vec Ideal S256x2048 .f32) (b : Vec Ideal S256x1024 .bf16) (r : Fin 256) (d : Fin 2048) :
    k0_pay1 (k0_pay6 a b w2) (k0_pay8 x4) (k0_pay9 x5) (k0_pay10 a b w2) k0_pay11 x6 (ix2 r d)
    = resid (fun d => x4 (ix2 r d)) (fun d => x5 (ix5 0 0 0 0 d)) (fun d => x6 (ix3 0 0 d)) (fun d => k0_pay6 a b w2 (ix2 r d)) d := by
  unfold k0_pay10
  generalize k0_pay6 a b w2 = y
  pointwise [k0_pay1, k0_pay8, k0_pay9, k0_pay11]
  rfl

end pays

/-- A group's rows are rows of the block. -/
theorem ld_at {A B R C : ℕ} {e : EltTy} (x : Vec Ideal ⟨2, ![A, B]⟩ e) (o : ℕ)
    (inb : ∀ a, (![o, 0] : Fin 2 → ℕ) a + (![R, C] : Fin 2 → ℕ) a ≤ (⟨2, ![A, B]⟩ : Shape).size a)
    (r : Fin R) (k : Fin C) (i : Fin A) (j : Fin B) (hi : i.val = o + r.val) (hj : j.val = k.val) :
    View.ld x (Rect.unit ![o, 0] ![R, C] inb) (ix2 r k) = x (ix2 i j) := by
  rw [View.ld_apply]
  refine congrArg x (funext fun a => ?_)
  match a with
  | ⟨0, _⟩ => exact Fin.ext ((Rect.idx_unit_val ..).trans hi.symm)
  | ⟨1, _⟩ => exact Fin.ext ((Rect.idx_unit_val ..).trans ((Nat.zero_add _).trans hj.symm))

theorem ix_eta (x : S256x2048.Idx) : ∃ (r : Fin 256) (e : Fin 2048), x = ix2 r e := by
  refine ⟨⟨(x 0).val, (x 0).isLt⟩, ⟨(x 1).val, (x 1).isLt⟩, funext fun a => ?_⟩
  match a with
  | ⟨0, _⟩ => rfl
  | ⟨1, _⟩ => rfl

theorem outO_at (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) (i : Fin 512) (d : Fin 2048) :
    outO x0 x1 x2 W x4 x5 x6 (ix2 i d) = resid (fun d => x4 (ix2 i d)) (fun d => x5 (ix5 0 0 0 0 d)) (fun d => x6 (ix3 0 0 d))
      (mix (fun k => x0 (ix2 i k)) (fun k => x1 (ix2 i k)) (fun k => x2 (ix2 i k)) (fun k d => W (ix2 k d))) d := by
  unfold outO
  canon_tiles x h
  · obtain ⟨r, e, rfl⟩ := ix_eta x
    obtain rfl : d = e := Fin.ext h1
    rw [pay1_at]
    simp only [pay6_at]
    have hr := r.isLt
    refine congrArg₂ (fun f g => resid f _ _ g d) (funext fun d => ld_at x4 256 _ r d i d h0 rfl) (funext fun d => ?_)
    unfold mix
    refine congrArg₂ (· + ·) (congrArg₂ (· + ·) ?_ ?_) ?_
    · exact Finset.sum_congr rfl fun k _ => congrArg₂ (· * ·) (ld_at x0 256 _ r k i k h0 rfl) (ld_at W 0 _ k d ⟨k.val, by omega⟩ d (Nat.zero_add _).symm rfl)
    · exact Finset.sum_congr rfl fun k _ => congrArg₂ (· * ·) (ld_at x1 256 _ r k i k h0 rfl) (ld_at W 512 _ k d ⟨512 + k.val, by omega⟩ d rfl rfl)
    · exact Finset.sum_congr rfl fun k _ => congrArg₂ (· * ·) (ld_at x2 256 _ r k i k h0 rfl) (ld_at W 1024 _ k d ⟨1024 + k.val, by omega⟩ d rfl rfl)
  · obtain ⟨r, e, rfl⟩ := ix_eta x
    obtain rfl : d = e := Fin.ext h1
    rw [pay7_at]
    simp only [pay3_at]
    have hi : i.val = 0 + r.val := h0.trans (Nat.zero_add _).symm
    refine congrArg₂ (fun f g => resid f _ _ g d) (funext fun d => ld_at x4 0 _ r d i d hi rfl) (funext fun d => ?_)
    unfold mix
    refine congrArg₂ (· + ·) (congrArg₂ (· + ·) ?_ ?_) ?_
    · exact Finset.sum_congr rfl fun k _ => congrArg₂ (· * ·) (ld_at x0 0 _ r k i k hi rfl) (ld_at W 0 _ k d ⟨k.val, by omega⟩ d (Nat.zero_add _).symm rfl)
    · exact Finset.sum_congr rfl fun k _ => congrArg₂ (· * ·) (ld_at x1 0 _ r k i k hi rfl) (ld_at W 512 _ k d ⟨512 + k.val, by omega⟩ d rfl rfl)
    · exact Finset.sum_congr rfl fun k _ => congrArg₂ (· * ·) (ld_at x2 0 _ r k i k hi rfl) (ld_at W 1024 _ k d ⟨1024 + k.val, by omega⟩ d rfl rfl)

/-! ## The blocks at an index -/

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem flat5_at (x : Vec Ideal S4x2048x512 .f32) (b : Fin 4) (n : Fin 2048) (d : Fin 512) (R : Fin 8192) (h : R.val = 2048 * b.val + n.val) :
    (truncf .bf16 (shapeCast S8192x512 x shapeCasts_S4x2048x512_S8192x512 : FVec Ideal S8192x512 .f32) bitsLt_bf16_f32 : FVec Ideal S8192x512 .bf16) (ix2 R d)
      = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem flat10_at (x : Vec Ideal S4x2048x1024 .f32) (b : Fin 4) (n : Fin 2048) (d : Fin 1024) (R : Fin 8192) (h : R.val = 2048 * b.val + n.val) :
    (truncf .bf16 (shapeCast S8192x1024 x shapeCasts_S4x2048x1024_S8192x1024 : FVec Ideal S8192x1024 .f32) bitsLt_bf16_f32 : FVec Ideal S8192x1024 .bf16) (ix2 R d)
      = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![0, 0, 0, 0, 0] ![1, 4, 0, 0, 0] ![0, 0, 0, 0, 0]
      (shapeCast S1x4x6x1x2048 x shapeCasts_S4x1x12288_S1x4x6x1x2048) z
      pads_S1x4x6x1x2048_S2x8x6x1x2048_010_040_000_000_000 h_S_ (ix5 0 b k 0 d) = x (ix3 ⟨b.val, hb⟩ 0 ⟨k.val * 2048 + d.val, by omega⟩) := by
  pointwise
  rw [dif_pos hb]

theorem V_v3 (b : Fin 4) (n : Fin 2048) (d : Fin 512) (R : Fin 8192) (h : R.val = 2048 * b.val + n.val) :
    V m c main_v3 (ix2 R d) = m ((c : Thread nD τ).loc main_arg1) (ix3 b n d) := by
  have e : V m c main_v3 = (truncf .bf16 (shapeCast S8192x512 (m ((c : Thread nD τ).loc main_arg1)) shapeCasts_S4x2048x512_S8192x512 : FVec Ideal S8192x512 .f32) bitsLt_bf16_f32 : FVec Ideal S8192x512 .bf16) := rfl
  rw [e]
  exact flat5_at _ b n d R h

theorem V_v5 (b : Fin 4) (n : Fin 2048) (d : Fin 512) (R : Fin 8192) (h : R.val = 2048 * b.val + n.val) :
    V m c main_v5 (ix2 R d) = m ((c : Thread nD τ).loc main_arg2) (ix3 b n d) := by
  have e : V m c main_v5 = (truncf .bf16 (shapeCast S8192x512 (m ((c : Thread nD τ).loc main_arg2)) shapeCasts_S4x2048x512_S8192x512 : FVec Ideal S8192x512 .f32) bitsLt_bf16_f32 : FVec Ideal S8192x512 .bf16) := rfl
  rw [e]
  exact flat5_at _ b n d R h

theorem V_v7 (b : Fin 4) (n : Fin 2048) (d : Fin 1024) (R : Fin 8192) (h : R.val = 2048 * b.val + n.val) :
    V m c main_v7 (ix2 R d) = m ((c : Thread nD τ).loc main_arg3) (ix3 b n d) := by
  have e : V m c main_v7 = (truncf .bf16 (shapeCast S8192x1024 (m ((c : Thread nD τ).loc main_arg3)) shapeCasts_S4x2048x1024_S8192x1024 : FVec Ideal S8192x1024 .f32) bitsLt_bf16_f32 : FVec Ideal S8192x1024 .bf16) := rfl
  rw [e]
  exact flat10_at _ b n d R h

theorem V_v8 (b : Fin 4) (n d : Fin 2048) (R : Fin 8192) (h : R.val = 2048 * b.val + n.val) :
    V m c main_v8 (ix2 R d) = m ((c : Thread nD τ).loc main_arg0) (ix3 b n d) := by
  have e : V m c main_v8 = shapeCast S8192x2048 (m ((c : Thread nD τ).loc main_arg0)) shapeCasts_S4x2048x2048_S8192x2048 := rfl
  rw [e]
  exact flat_at _ b n d R h

theorem V_v9 (l : Fin 2) (d : Fin 2048) : V m c main_v9 (ix3 l 0 d) = m ((c : Thread nD τ).loc main_arg5) (ix2 l d) := by
  have e : V m c main_v9 = shapeCast S2x1x2048 (m ((c : Thread nD τ).loc main_arg5)) shapeCasts_S2x2048_S2x1x2048 := rfl
  rw [e]
  exact row_at _ l d

/-- The modulation vectors of the layer, behind the padding. -/
theorem V_v1 (b : Fin 8) (hb : b.val < 4) (k : Fin 6) (d : Fin 2048) :
    V m c main_v1 (ix5 0 b k 0 d) = m ((c : Thread nD τ).loc main_arg4) (ix3 ⟨b.val, hb⟩ 0 ⟨k.val * 2048 + d.val, by omega⟩) := by
  have e : ∃ z, V m c main_v1 = pad S2x8x6x1x2048 ![0, 0, 0, 0, 0] ![1, 4, 0, 0, 0] ![0, 0, 0, 0, 0]
      (shapeCast S1x4x6x1x2048 (m ((c : Thread nD τ).loc main_arg4)) shapeCasts_S4x1x12288_S1x4x6x1x2048) z
      pads_S1x4x6x1x2048_S2x8x6x1x2048_010_040_000_000_000 h_S_ := ⟨_, rfl⟩
  obtain ⟨z, e⟩ := e
  rw [e]
  exact pad_at _ z b hb k d

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, t.val / 4, 2, 0, 0] := (by decide +kernel : ∀ t : Fin grid0.N, _)
theorem ix_6 : ∀ t : Fin cfg0.N, win0_6.index t = ![0, 0, 0] := (by decide +kernel : ∀ t : Fin grid0.N, _)

theorem blk_0 (t : Fin cfg0.N) (b : Fin 4) (n : Fin 2048) (r : Fin 512) (k : Fin 512) (hb : b.val = t.val / 4) (hn : n.val = t.val % 4 * 512 + r.val) :
    iblk m c 0 t (ix2 r k) = m ((c : Thread nD τ).loc main_arg1) (ix3 b n k) := by
  have ht : t.val < 16 := lt_of_lt_of_eq t.isLt N_0
  rw [← V_v3 m c b n k ⟨t.val * 512 + r.val, by omega⟩ (by show t.val * 512 + r.val = _; omega)]
  blk_ext [iblk, ix_0 t]

theorem blk_1 (t : Fin cfg0.N) (b : Fin 4) (n : Fin 2048) (r : Fin 512) (k : Fin 512) (hb : b.val = t.val / 4) (hn : n.val = t.val % 4 * 512 + r.val) :
    iblk m c 1 t (ix2 r k) = m ((c : Thread nD τ).loc main_arg2) (ix3 b n k) := by
  have ht : t.val < 16 := lt_of_lt_of_eq t.isLt N_0
  rw [← V_v5 m c b n k ⟨t.val * 512 + r.val, by omega⟩ (by show t.val * 512 + r.val = _; omega)]
  blk_ext [iblk, ix_1 t]

theorem blk_2 (t : Fin cfg0.N) (b : Fin 4) (n : Fin 2048) (r : Fin 512) (k : Fin 1024) (hb : b.val = t.val / 4) (hn : n.val = t.val % 4 * 512 + r.val) :
    iblk m c 2 t (ix2 r k) = m ((c : Thread nD τ).loc main_arg3) (ix3 b n k) := by
  have ht : t.val < 16 := lt_of_lt_of_eq t.isLt N_0
  rw [← V_v7 m c b n k ⟨t.val * 512 + r.val, by omega⟩ (by show t.val * 512 + r.val = _; omega)]
  blk_ext [iblk, ix_2 t]

theorem blk_3 (t : Fin cfg0.N) (k d : Fin 2048) : iblk m c 3 t (ix3 0 k d) = m ((c : Thread nD τ).loc main_arg6) (ix3 0 k d) := by
  blk_ext [iblk, V, ix_3 t]

theorem blk_4 (t : Fin cfg0.N) (b : Fin 4) (n : Fin 2048) (r : Fin 512) (d : Fin 2048) (hb : b.val = t.val / 4) (hn : n.val = t.val % 4 * 512 + r.val) :
    iblk m c 4 t (ix2 r d) = m ((c : Thread nD τ).loc main_arg0) (ix3 b n d) := by
  have ht : t.val < 16 := lt_of_lt_of_eq t.isLt N_0
  rw [← V_v8 m c b n d ⟨t.val * 512 + r.val, by omega⟩ (by show t.val * 512 + r.val = _; omega)]
  blk_ext [iblk, ix_4 t]

theorem blk_5 (t : Fin cfg0.N) (b : Fin 4) (d : Fin 2048) (hb : b.val = t.val / 4) :
    iblk m c 5 t (ix5 0 0 0 0 d) = m ((c : Thread nD τ).loc main_arg4) (ix3 b 0 ⟨4096 + d.val, by omega⟩) := by
  refine Eq.trans ?_ (V_v1 m c ⟨b.val, by omega⟩ b.isLt 2 d)
  blk_ext [iblk, ix_5 t]

theorem blk_6 (t : Fin cfg0.N) (d : Fin 2048) : iblk m c 6 t (ix3 0 0 d) = m ((c : Thread nD τ).loc main_arg5) (ix2 0 d) := by
  refine Eq.trans ?_ (V_v9 m c 0 d)
  blk_ext [iblk, ix_6 t]

theorem pay2_at (w : Vec Ideal S1x2048x2048 .f32) (k d : Fin 2048) : k0_pay2 w (ix2 k d) = w (ix3 0 k d) := by
  pointwise [k0_pay2]

/-- What the scratch holds after every point: the layer's weights. -/
theorem scr_at (t : Fin cfg0.N) (k d : Fin 2048) : (outsAt0 m c t.val t.isLt).2 (ix2 k d) = m ((c : Thread nD τ).loc main_arg6) (ix3 0 k d) := by
  rw [Pipeline.eq_of_write_hold_apply (fun n h => (outsAt0 m c n h).2) 16 (fun t => k0_pay2 (iblk m c 3 t))
    (fun t h i => congrFun (scr_A m c t h) i) (fun t h i => congrFun (scr_s m c t h) i) t (ix2 k d), pay2_at, blk_3]

/-- The result block of a point, row by row. -/
theorem last_at (t : Fin cfg0.N) (b : Fin 4) (n : Fin 2048) (r : Fin 512) (d : Fin 2048) (hb : b.val = t.val / 4) (hn : n.val = t.val % 4 * 512 + r.val) :
    (outsAt0 m c t.val t.isLt).1 (ix2 r d)
      = resid (fun d => m ((c : Thread nD τ).loc main_arg0) (ix3 b n d)) (fun d => m ((c : Thread nD τ).loc main_arg4) (ix3 b 0 ⟨4096 + d.val, by omega⟩))
          (fun d => m ((c : Thread nD τ).loc main_arg5) (ix2 0 d))
          (mix (fun k => m ((c : Thread nD τ).loc main_arg1) (ix3 b n k)) (fun k => m ((c : Thread nD τ).loc main_arg2) (ix3 b n k))
            (fun k => m ((c : Thread nD τ).loc main_arg3) (ix3 b n k)) (fun k d => m ((c : Thread nD τ).loc main_arg6) (ix3 0 k d))) d := by
  have e : ∃ W : Vec Ideal S2048x2048 .bf16, (∀ k d, W (ix2 k d) = m ((c : Thread nD τ).loc main_arg6) (ix3 0 k d)) ∧
      (outsAt0 m c t.val t.isLt).1 = outO (iblk m c 0 t) (iblk m c 1 t) (iblk m c 2 t) W (iblk m c 4 t) (iblk m c 5 t) (iblk m c 6 t) := by
    by_cases h : t.val % 16 = 0
    · exact ⟨_, fun k d => (pay2_at _ k d).trans (blk_3 m c t k d), out_A m c t h⟩
    · exact ⟨_, fun k d => scr_at m c ⟨t.val - 1, Nat.lt_of_le_of_lt (Nat.sub_le _ _) t.isLt⟩ k d, out_B m c t h⟩
  obtain ⟨W, hW, e⟩ := e
  rw [e, outO_at]
  simp only [hW, blk_0 m c t b n r _ hb hn, blk_1 m c t b n r _ hb hn, blk_2 m c t b n r _ hb hn, blk_4 m c t b n r _ hb hn,
    blk_5 m c t b _ hb, blk_6]

end Cert.Out0Ideal.Val
-- ==== Proof.Out0Ref.lean ====
/- The first layer's output projection reference read at an index: one row of the residual stream and its branch row. -/
module

public import proofs.«01_k».proof.Proof.Gen.Out0ReferenceIdeal.Read
public import proofs.«01_k».proof.Proof.OutSpec

@[expose] public section

noncomputable section

namespace Cert.Out0ReferenceIdeal.Val

open Cert.Out0ReferenceIdeal Cert.Out0ReferenceIdeal.Gen Cert.Out0ReferenceIdeal.Read Idealize.ShloMosaic Cert.MlpSpec Cert.OutSpec

variable (x0 : Vec Ideal S4x2048x2048 .f32) (x1 x2 : Vec Ideal S4x2048x512 .f32) (x3 : Vec Ideal S4x2048x1024 .f32)
  (x4 : Vec Ideal S4x1x12288 .f32) (x5 : Vec Ideal S2x2048 .f32) (x6 : Vec Ideal S2x2048x2048 .f32)

theorem cat_at (b : Fin 4) (n k : Fin 2048) :
    val_main_v6 (F := Ideal) x1 x2 x3 (ix3 b n k)
      = cat (fun k => x1 (ix3 b n k)) (fun k => x2 (ix3 b n k)) (fun k => x3 (ix3 b n k)) k := by
  pointwise [val_main_v6]
  unfold cat
  by_cases h : k.val < 512
  · rw [dif_pos h, dif_pos h]
  · by_cases h' : k.val < 1024
    · rw [dif_neg h, dif_neg h, dif_pos (by omega), dif_pos h']
    · rw [dif_neg h, dif_neg h, dif_neg (by omega), dif_neg h']
      exact congrArg x3 (congrArg (ix3 b n) (Fin.ext (by show k.val - 512 - 512 = k.val - 1024; omega)))

theorem dot_at (b : Fin 4) (n d : Fin 2048) :
    val_main_v9 (F := Ideal) x1 x2 x3 x6 (ix3 b n d)
      = mix (fun k => x1 (ix3 b n k)) (fun k => x2 (ix3 b n k)) (fun k => x3 (ix3 b n k)) (fun k d => x6 (ix3 0 k d)) d := by
  rw [← cat_sum]
  pointwise [val_main_v9, val_main_v8, val_main_v7]
  simp only [cat_at]

theorem out_at (b : Fin 4) (n d : Fin 2048) :
    val_main_v27 (F := Ideal) x0 x1 x2 x3 x4 x5 x6 (ix3 b n d)
      = resid (fun d => x0 (ix3 b n d)) (fun d => x4 (ix3 b 0 ⟨4096 + d.val, by omega⟩)) (fun d => x5 (ix2 0 d))
          (fun d => val_main_v9 (F := Ideal) x1 x2 x3 x6 (ix3 b n d)) d := by
  pointwise [val_main_v27, val_main_v26, val_main_v25, val_main_v24, val_main_v23, val_main_v22, val_main_v21,
    val_main_v20, val_main_v19, val_main_v18, val_main_v17, val_main_cst_1, val_main_v16, val_main_v15, val_main_cst_0,
    val_main_v14, val_main_v13, val_main_cst, val_main_v12, val_main_v11, val_main_v10, val_main_v2, resid, rms]

/-- The reference's result at row `2048 b + n`. -/
theorem res_at (b : Fin 4) (n d : Fin 2048) (i : S8192x2048.Idx) (h0 : (i 0).val = 2048 * b.val + n.val) (h1 : (i 1).val = d.val) :
    val_main_v28 (F := Ideal) x0 x1 x2 x3 x4 x5 x6 i
      = resid (fun d => x0 (ix3 b n d)) (fun d => x4 (ix3 b 0 ⟨4096 + d.val, by omega⟩)) (fun d => x5 (ix2 0 d))
          (mix (fun k => x1 (ix3 b n k)) (fun k => x2 (ix3 b n k)) (fun k => x3 (ix3 b n k)) (fun k d => x6 (ix3 0 k d))) d := by
  rw [val_main_v28_apply]
  have e : idx_main_v28 i = ix3 b n d := by
    funext a
    apply Fin.ext
    have hb := b.isLt; have hn := n.isLt; have hd := d.isLt
    match a with
    | ⟨0, _⟩ => show _ = b.val; simp only [idx_main_v28]; omega
    | ⟨1, _⟩ => show _ = n.val; simp only [idx_main_v28]; omega
    | ⟨2, _⟩ => show _ = d.val; simp only [idx_main_v28]; omega
  rw [e, out_at]
  simp only [dot_at]

end Cert.Out0ReferenceIdeal.Val
-- ==== Proof.Out0Tie.lean ====
/- The first layer's output projection call beside its reference: both results are the sublayer's end applied row by row. -/
module

public import proofs.«01_k».proof.Proof.Out0Ker
public import proofs.«01_k».proof.Proof.Out0Ref
public import proofs.«01_k».proof.Proof.Gen.Out0ReferenceIdeal.Run

@[expose] public section

noncomputable section

namespace Cert.Out0Tie

open Idealize.ShloMosaic Idealize.SL.Sem Cert.MlpSpec Cert.OutSpec

/-- The call's result array is the reference's result on the same arguments. -/
theorem tie (m : (ℓ : Loc Cert.Out0Ideal.nD Cert.Out0Ideal.τ Cert.Out0Ideal.sig) → Buf (Elt Ideal) ℓ) (c : Dev Cert.Out0Ideal.nD) :
    Cert.Out0Ideal.Value.G7 m c = Cert.Out0ReferenceIdeal.Read.val_main_v28 (F := Ideal)
      (m ((c.tc : Thread Cert.Out0Ideal.nD Cert.Out0Ideal.τ).loc Cert.Out0Ideal.main_arg0))
      (m ((c.tc : Thread Cert.Out0Ideal.nD Cert.Out0Ideal.τ).loc Cert.Out0Ideal.main_arg1))
      (m ((c.tc : Thread Cert.Out0Ideal.nD Cert.Out0Ideal.τ).loc Cert.Out0Ideal.main_arg2))
      (m ((c.tc : Thread Cert.Out0Ideal.nD Cert.Out0Ideal.τ).loc Cert.Out0Ideal.main_arg3))
      (m ((c.tc : Thread Cert.Out0Ideal.nD Cert.Out0Ideal.τ).loc Cert.Out0Ideal.main_arg4))
      (m ((c.tc : Thread Cert.Out0Ideal.nD Cert.Out0Ideal.τ).loc Cert.Out0Ideal.main_arg5))
      (m ((c.tc : Thread Cert.Out0Ideal.nD Cert.Out0Ideal.τ).loc Cert.Out0Ideal.main_arg6)) := by
  funext i
  have h0 : (i 0).val < 8192 := (i 0).isLt
  have h1 : (i 1).val < 2048 := (i 1).isLt
  have hp : Cert.Out0Ideal.Value.pt7Of i < Cert.Out0Ideal.cfg0.N :=
    lt_of_lt_of_eq (show 1 * ((i 0).val / 512 - 0) + 1 * ((i 1).val / 2048 - 0) < 16 by omega) Cert.Out0Ideal.Gen.N_0.symm
  have hv : Cert.Out0Ideal.Value.pt7Of i = (i 0).val / 512 := by
    show 1 * ((i 0).val / 512 - 0) + 1 * ((i 1).val / 2048 - 0) = _; omega
  have e : Cert.Out0Ideal.Value.G7 m c i = (Cert.Out0Ideal.Gen.outsAt0 m c (Cert.Out0Ideal.Value.pt7Of i) hp).1 (Cert.Out0Ideal.Value.loc7Of i) := by
    rw [Cert.Out0Ideal.Value.outsAt0_sweep]
    unfold Cert.Out0Ideal.Value.G7
    rw [dif_pos hp]
  have el : Cert.Out0Ideal.Value.loc7Of i = ix2 ⟨(i 0).val % 512, Nat.mod_lt _ (by decide)⟩ ⟨(i 1).val, h1⟩ := by
    funext a
    match a with
    | ⟨0, _⟩ => rfl
    | ⟨1, _⟩ => exact Fin.ext (Nat.mod_eq_of_lt h1)
  rw [e, el, Cert.Out0ReferenceIdeal.Val.res_at _ _ _ _ _ _ _ ⟨(i 0).val / 2048, by omega⟩ ⟨(i 0).val % 2048, by omega⟩ ⟨(i 1).val, h1⟩ i
    (by show (i 0).val = 2048 * ((i 0).val / 2048) + (i 0).val % 2048; omega) rfl]
  exact Cert.Out0Ideal.Val.last_at m c ⟨Cert.Out0Ideal.Value.pt7Of i, hp⟩ _ _ _ _
    (by show (i 0).val / 2048 = Cert.Out0Ideal.Value.pt7Of i / 4; omega)
    (by show (i 0).val % 2048 = Cert.Out0Ideal.Value.pt7Of i % 4 * 512 + (i 0).val % 512; omega)

end Cert.Out0Tie
-- ==== Proof.InpSpec.lean ====
/- The input projection as plain functions of one row, over the extended reals: the projected row, the gated
   convolution branch and the rotary embedding of the queries and keys. -/
module

public import proofs.«01_k».proof.Proof.MlpSpec

@[expose] public section

noncomputable section

namespace Cert.InpSpec

open Idealize.ShloMosaic

/-- One channel of the projection: the row's inner product with a column of the weights. -/
def proj (h : Fin 2048 → EReal) (w : Fin 2048 → Fin 4608 → EReal) (j : Fin 4608) : EReal := ∑ k, h k * w k j

/-- Channel `512 + d` of the projection; a gated channel takes the place of two, so the results behind it lie 512 lower. -/
def up (p : Fin 4608 → EReal) (d : Fin 4096) : EReal := p ⟨d.val + 512, by omega⟩

/-- One rotated channel: in each group of 64 channels the first 32 are paired with the last 32, the pair turned by the
    angle of its place. -/
def rope (p : Fin 4608 → EReal) (cs sn : Fin 32 → EReal) (d : Fin 4096) (hd : 1024 ≤ d.val) (hd' : d.val < 3072) : EReal :=
  if h : d.val % 64 < 32 then
    p ⟨d.val + 512, by omega⟩ * cs ⟨d.val % 64, h⟩ - p ⟨d.val + 512 + 32, by omega⟩ * sn ⟨d.val % 64, h⟩
  else p ⟨d.val + 512, by omega⟩ * cs ⟨d.val % 64 - 32, by omega⟩ + p ⟨d.val + 512 - 32, by omega⟩ * sn ⟨d.val % 64 - 32, by omega⟩

/-- The row the input projection hands to the sublayers: the Fourier branch, the gated convolution branch, the rotated
    queries and keys, the values. -/
def row (p : Fin 4608 → EReal) (cs sn : Fin 32 → EReal) (d : Fin 4096) : EReal :=
  if h : d.val < 512 then p ⟨d.val, by omega⟩
  else if h' : d.val < 1024 then p ⟨d.val, by omega⟩ * Ideal.logistic (p ⟨d.val + 512, by omega⟩)
  else if h'' : d.val < 3072 then rope p cs sn d (by omega) h''
  else up p d

/-- The rotation as one multiply-add against the tables spread over the lanes, the sine signed by the half. -/
theorem rope_eq (p : Fin 4608 → EReal) (cs sn : Fin 32 → EReal) (d : Fin 4096) (hd : 1024 ≤ d.val) (hd' : d.val < 3072)
    (t u c s : EReal) (ht : t = up p d)
    (hu : ∀ j : Fin 4608, j.val = (if d.val % 64 < 32 then d.val + 512 + 32 else d.val + 512 - 32) → u = p j)
    (hc : ∀ k : Fin 32, k.val = d.val % 32 → c = cs k)
    (hs : ∀ k : Fin 32, k.val = d.val % 32 → s = if d.val % 64 < 32 then - sn k else sn k) :
    t * c + u * s = rope p cs sn d hd hd' := by
  unfold rope
  by_cases h : d.val % 64 < 32
  · rw [dif_pos h, ht, hu ⟨d.val + 512 + 32, by omega⟩ (by rw [if_pos h]), hc ⟨d.val % 64, h⟩ (by show d.val % 64 = d.val % 32; omega),
      hs ⟨d.val % 64, h⟩ (by show d.val % 64 = d.val % 32; omega), if_pos h, mul_neg, ← sub_eq_add_neg]
    rfl
  · rw [dif_neg h, ht, hu ⟨d.val + 512 - 32, by omega⟩ (by rw [if_neg h]),
      hc ⟨d.val % 64 - 32, by omega⟩ (by show d.val % 64 - 32 = d.val % 32; omega),
      hs ⟨d.val % 64 - 32, by omega⟩ (by show d.val % 64 - 32 = d.val % 32; omega), if_neg h]
    rfl

end Cert.InpSpec
-- ==== Proof.InpPay.lean ====
/- The input projection's payloads read at an index: the product of the normed rows with a chunk of the weights, the
   rotation of a lane group, the gate. -/
module

public import proofs.«01_k».proof.Proof.Gen.InpIdeal.Skeleton
public import proofs.«01_k».proof.Proof.InpSpec

@[expose] public section

noncomputable section

namespace Cert.InpIdeal.Val

open Cert.InpIdeal Cert.InpIdeal.Gen Idealize.ShloMosaic Cert.MlpSpec Cert.InpSpec

theorem pre_at (x : Vec Ideal S512x2048 .f32) (g : Vec Ideal S1x1x2048 .f32) (sc sh : Vec Ideal S1x1x1x1x2048 .f32) (r : Fin 512) (d : Fin 2048) :
    k0_pay3 x g sc sh (ix2 r d) = modd (fun d => x (ix2 r d)) (fun d => g (ix3 0 0 d)) (fun d => sc (ix5 0 0 0 0 d)) (fun d => sh (ix5 0 0 0 0 d)) d := by
  pointwise [k0_pay3, modd, rms]

section
variable (h : FVec Ideal S512x2048 .bf16) (w w' : Vec Ideal S2048x512 .bf16)

theorem pay5_at (r j : Fin 512) : k0_pay5 h w (ix2 r j) = ∑ k, h (ix2 r k) * w (ix2 k j) := by
  pointwise [k0_pay5]

theorem acc_at (r j : Fin 512) : k0_pay11 h w (ix2 r j) = ∑ k, h (ix2 r k) * w (ix2 k j) := by
  pointwise [k0_pay11]

theorem gate_at (r j : Fin 512) : k0_pay9 h (k0_pay7 h w) w' (ix2 r j)
    = (∑ k, h (ix2 r k) * w (ix2 k j)) * Ideal.logistic (∑ k, h (ix2 r k) * w' (ix2 k j)) := by
  pointwise [k0_pay9, k0_pay7]

end

theorem wgt_at (w : Vec Ideal S1x2048x512 .f32) (k : Fin 2048) (j : Fin 512) : k0_pay4 w (ix2 k j) = w (ix3 0 k j) := by
  pointwise [k0_pay4]

/-- The lane mask: the first half of each group of 64 lanes. -/
theorem mask_at (r : Fin 512) (l : Fin 128) : k0_pay14 (ix2 r l) = if l.val % 64 < 32 then 1#1 else 0#1 := by
  have e : ∀ l : Fin 128, k0_pay14 (ix2 0 l) = if l.val % 64 < 32 then 1#1 else 0#1 := by decide +kernel
  rw [← e l]
  rfl

/-- The lane paired with a lane. -/
def pair (l : Fin 128) : Fin 128 := if h : l.val % 64 < 32 then ⟨l.val + 32, by omega⟩ else ⟨l.val - 32, by omega⟩

/-- One lane group turned: the group against the cosines plus its paired lanes against the signed sines. -/
def turn (c s : Vec Ideal S512x128 .f32) (t : FVec Ideal S512x128 .f32) : FVec Ideal S512x128 .bf16 :=
  k0_pay19 (k0_pay12 c) (k0_pay13 s) k0_pay14 t (dynamicRotate 1 96#32 none t rotates_S512x128_d1) 32#32

theorem turn_at (c s : Vec Ideal S512x128 .f32) (t : FVec Ideal S512x128 .f32) (r : Fin 512) (l : Fin 128) :
    turn c s t (ix2 r l) = t (ix2 r l) * c (ix2 r l) + t (ix2 r (pair l)) * s (ix2 r l) := by
  unfold turn
  have e := mask_at r l
  generalize k0_pay14 = M at e
  pointwise [k0_pay19, k0_pay12, k0_pay13]
  rw [e]
  unfold pair
  by_cases h : l.val % 64 < 32
  · rw [if_pos h, dif_pos h]
    refine congrArg (fun z => _ + z * _) ((show Scalar.select 1#1 _ _ = _ from rfl).trans (congrArg t (congrArg (ix2 r) (Fin.ext ?_))))
    show (l.val + 128 - 96) % 128 = l.val + 32
    omega
  · rw [if_neg h, dif_neg h]
    refine congrArg (fun z => _ + z * _) ((show Scalar.select 0#1 _ _ = _ from rfl).trans (congrArg t (congrArg (ix2 r) (Fin.ext ?_))))
    show (l.val + 128 - 32) % 128 = l.val - 32
    omega

theorem slice_at (a : FVec Ideal S512x512 .f32) (r : Fin 512) (l : Fin 128) :
    (extractStridedSlice S512x128 ![0, 0] a slices_S512x512_o0_0_S512x128 : FVec Ideal S512x128 .f32) (ix2 r l) = a (ix2 r ⟨l.val, by omega⟩)
    ∧ (extractStridedSlice S512x128 ![0, 128] a slices_S512x512_o0_128_S512x128 : FVec Ideal S512x128 .f32) (ix2 r l) = a (ix2 r ⟨128 + l.val, by omega⟩)
    ∧ (extractStridedSlice S512x128 ![0, 256] a slices_S512x512_o0_256_S512x128 : FVec Ideal S512x128 .f32) (ix2 r l) = a (ix2 r ⟨256 + l.val, by omega⟩)
    ∧ (extractStridedSlice S512x128 ![0, 384] a slices_S512x512_o0_384_S512x128 : FVec Ideal S512x128 .f32) (ix2 r l) = a (ix2 r ⟨384 + l.val, by omega⟩) := by
  refine ⟨?_, ?_, ?_, ?_⟩ <;> pointwise

end Cert.InpIdeal.Val
-- ==== Proof.InpKer.lean ====
/- The input projection's call read at an index: the carried weights, the twenty tiles of a block, the host's operands. -/
module

public import proofs.«01_k».proof.Proof.InpPay
public import proofs.«01_k».proof.Proof.Gen.InpIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.InpIdeal.Val

open Cert.InpIdeal Cert.InpIdeal.Gen Idealize.ShloMosaic Idealize.ShloMosaic.TcCoe Idealize.SL.Sem Cert.MlpSpec Cert.InpSpec
open Idealize.ShloMosaic.Pipeline (Dat)

variable (m : (ℓ : Loc nD τ sig) → Buf (Elt Ideal) ℓ) (c : Dev nD)

/-- One chunk of the layer's weights, as its copy reads it. -/
def wch (o : ℕ) (inb : ∀ a, (![1, 0, o] : Fin 3 → ℕ) a + (![1, 2048, 512] : Fin 3 → ℕ) a ≤ S2x2048x4608.size a) : Vec Ideal S1x2048x512 .f32 :=
  ReadAs.same.apply (View.read (Elt Ideal) ((View.whole main_arg3).slice (Rect.unit ![1, 0, o] ![1, 2048, 512] inb)) (V m c main_arg3))

/-- A read of one stage slot passes over the other slot's last copy. -/
theorem skip_10 {κ : Kind} {sp : Space} (v : View sig κ sp S2x2048x512 .f32) (w : Vec Ideal S1x2048x512 .f32) (L : List (View.Piece (Elt Ideal) S2x2048x512 .f32)) :
    v.readCov ((⟨Rect.unit ![1, 0, 0] ![1, 2048, 512] inb_S2x2048x512_S1x2048x512_1_0_0, w⟩ : View.Piece (Elt Ideal) S2x2048x512 .f32) :: L)
        (Rect.unit ![0, 0, 0] ![1, 2048, 512] inb_S2x2048x512_S1x2048x512_0_0_0).toLoadRect
      = v.readCov L (Rect.unit ![0, 0, 0] ![1, 2048, 512] inb_S2x2048x512_S1x2048x512_0_0_0).toLoadRect :=
  View.readCov_cons_of_disjoint v _ L _ (Rect.unit_disjoint (inb := inb_S2x2048x512_S1x2048x512_1_0_0) (inb' := inb_S2x2048x512_S1x2048x512_0_0_0) 0 (by decide))

theorem skip_01 {κ : Kind} {sp : Space} (v : View sig κ sp S2x2048x512 .f32) (w : Vec Ideal S1x2048x512 .f32) (L : List (View.Piece (Elt Ideal) S2x2048x512 .f32)) :
    v.readCov ((⟨Rect.unit ![0, 0, 0] ![1, 2048, 512] inb_S2x2048x512_S1x2048x512_0_0_0, w⟩ : View.Piece (Elt Ideal) S2x2048x512 .f32) :: L)
        (Rect.unit ![1, 0, 0] ![1, 2048, 512] inb_S2x2048x512_S1x2048x512_1_0_0).toLoadRect
      = v.readCov L (Rect.unit ![1, 0, 0] ![1, 2048, 512] inb_S2x2048x512_S1x2048x512_1_0_0).toLoadRect :=
  View.readCov_cons_of_disjoint v _ L _ (Rect.unit_disjoint (inb := inb_S2x2048x512_S1x2048x512_0_0_0) (inb' := inb_S2x2048x512_S1x2048x512_1_0_0) 0 (by decide))

/-- What a first point's nine stores leave in the scratch. -/
def scrW : Vec Ideal S2048x4608 .bf16 :=
  View.canon (Val := Elt Ideal) (e := .bf16)
    [⟨Rect.unit ![0, 4096] ![2048, 512] inb_S2048x4608_S2048x512_0_4096, k0_pay4 (wch m c 4096 inb_S2x2048x4608_S1x2048x512_1_0_4096)⟩,
      ⟨Rect.unit ![0, 3584] ![2048, 512] inb_S2048x4608_S2048x512_0_3584, k0_pay4 (wch m c 3584 inb_S2x2048x4608_S1x2048x512_1_0_3584)⟩,
      ⟨Rect.unit ![0, 3072] ![2048, 512] inb_S2048x4608_S2048x512_0_3072, k0_pay4 (wch m c 3072 inb_S2x2048x4608_S1x2048x512_1_0_3072)⟩,
      ⟨Rect.unit ![0, 2560] ![2048, 512] inb_S2048x4608_S2048x512_0_2560, k0_pay4 (wch m c 2560 inb_S2x2048x4608_S1x2048x512_1_0_2560)⟩,
      ⟨Rect.unit ![0, 2048] ![2048, 512] inb_S2048x4608_S2048x512_0_2048, k0_pay4 (wch m c 2048 inb_S2x2048x4608_S1x2048x512_1_0_2048)⟩,
      ⟨Rect.unit ![0, 1536] ![2048, 512] inb_S2048x4608_S2048x512_0_1536, k0_pay4 (wch m c 1536 inb_S2x2048x4608_S1x2048x512_1_0_1536)⟩,
      ⟨Rect.unit ![0, 1024] ![2048, 512] inb_S2048x4608_S2048x512_0_1024, k0_pay4 (wch m c 1024 inb_S2x2048x4608_S1x2048x512_1_0_1024)⟩,
      ⟨Rect.unit ![0, 512] ![2048, 512] inb_S2048x4608_S2048x512_0_512, k0_pay4 (wch m c 512 inb_S2x2048x4608_S1x2048x512_1_0_512)⟩,
      ⟨Rect.unit ![0, 0] ![2048, 512] inb_S2048x4608_S2048x512_0_0, k0_pay4 (wch m c 0 inb_S2x2048x4608_S1x2048x512_1_0_0)⟩]

theorem scr_A (t : Fin cfg0.N) (h : t.val % 16 = 0) (h1 : ¬ 1 ≤ t.val) : (outsAt0 m c t.val t.isLt).2 = scrW m c := by
  rw [outsAt0_A m c t h h1]
  unfold scrW
  frame_out [skip_01, skip_10, View.readCov_cons_toLoadRect]
  rfl

theorem scr_s (t : Fin cfg0.N) (h : ¬ t.val % 16 = 0) (h1 : 1 ≤ t.val) :
    (outsAt0 m c t.val t.isLt).2 = (outsAt0 m c (t.val - 1) (Nat.lt_of_le_of_lt (Nat.sub_le _ _) t.isLt)).2 := by
  rw [outsAt0_B m c t h h1]
  rfl

/-- What a grid point's twenty stores leave in the result block, over the normed rows `h`, the nine chunks of the
    weights and the two tables. -/
def outI (h : FVec Ideal S512x2048 .bf16) (w0 w1 w2 w3 w4 w5 w6 w7 w8 : Vec Ideal S2048x512 .bf16) (c s : Vec Ideal S512x128 .f32) : Vec Ideal S512x4096 .bf16 :=
  View.canon (Val := Elt Ideal) (e := .bf16)
    [⟨Rect.unit ![0, 3584] ![512, 512] inb_S512x4096_S512x512_0_3584, k0_pay5 h w8⟩,
      ⟨Rect.unit ![0, 3072] ![512, 512] inb_S512x4096_S512x512_0_3072, k0_pay5 h w7⟩,
      ⟨Rect.unit ![0, 2944] ![512, 128] inb_S512x4096_S512x128_0_2944, turn c s (extractStridedSlice S512x128 ![0, 384] (k0_pay11 h w6) slices_S512x512_o0_384_S512x128)⟩,
      ⟨Rect.unit ![0, 2816] ![512, 128] inb_S512x4096_S512x128_0_2816, turn c s (extractStridedSlice S512x128 ![0, 256] (k0_pay11 h w6) slices_S512x512_o0_256_S512x128)⟩,
      ⟨Rect.unit ![0, 2688] ![512, 128] inb_S512x4096_S512x128_0_2688, turn c s (extractStridedSlice S512x128 ![0, 128] (k0_pay11 h w6) slices_S512x512_o0_128_S512x128)⟩,
      ⟨Rect.unit ![0, 2560] ![512, 128] inb_S512x4096_S512x128_0_2560, turn c s (extractStridedSlice S512x128 ![0, 0] (k0_pay11 h w6) slices_S512x512_o0_0_S512x128)⟩,
      ⟨Rect.unit ![0, 2432] ![512, 128] inb_S512x4096_S512x128_0_2432, turn c s (extractStridedSlice S512x128 ![0, 384] (k0_pay11 h w5) slices_S512x512_o0_384_S512x128)⟩,
      ⟨Rect.unit ![0, 2304] ![512, 128] inb_S512x4096_S512x128_0_2304, turn c s (extractStridedSlice S512x128 ![0, 256] (k0_pay11 h w5) slices_S512x512_o0_256_S512x128)⟩,
      ⟨Rect.unit ![0, 2176] ![512, 128] inb_S512x4096_S512x128_0_2176, turn c s (extractStridedSlice S512x128 ![0, 128] (k0_pay11 h w5) slices_S512x512_o0_128_S512x128)⟩,
      ⟨Rect.unit ![0, 2048] ![512, 128] inb_S512x4096_S512x128_0_2048, turn c s (extractStridedSlice S512x128 ![0, 0] (k0_pay11 h w5) slices_S512x512_o0_0_S512x128)⟩,
      ⟨Rect.unit ![0, 1920] ![512, 128] inb_S512x4096_S512x128_0_1920, turn c s (extractStridedSlice S512x128 ![0, 384] (k0_pay11 h w4) slices_S512x512_o0_384_S512x128)⟩,
      ⟨Rect.unit ![0, 1792] ![512, 128] inb_S512x4096_S512x128_0_1792, turn c s (extractStridedSlice S512x128 ![0, 256] (k0_pay11 h w4) slices_S512x512_o0_256_S512x128)⟩,
      ⟨Rect.unit ![0, 1664] ![512, 128] inb_S512x4096_S512x128_0_1664, turn c s (extractStridedSlice S512x128 ![0, 128] (k0_pay11 h w4) slices_S512x512_o0_128_S512x128)⟩,
      ⟨Rect.unit ![0, 1536] ![512, 128] inb_S512x4096_S512x128_0_1536, turn c s (extractStridedSlice S512x128 ![0, 0] (k0_pay11 h w4) slices_S512x512_o0_0_S512x128)⟩,
      ⟨Rect.unit ![0, 1408] ![512, 128] inb_S512x4096_S512x128_0_1408, turn c s (extractStridedSlice S512x128 ![0, 384] (k0_pay11 h w3) slices_S512x512_o0_384_S512x128)⟩,
      ⟨Rect.unit ![0, 1280] ![512, 128] inb_S512x4096_S512x128_0_1280, turn c s (extractStridedSlice S512x128 ![0, 256] (k0_pay11 h w3) slices_S512x512_o0_256_S512x128)⟩,
      ⟨Rect.unit ![0, 1152] ![512, 128] inb_S512x4096_S512x128_0_1152, turn c s (extractStridedSlice S512x128 ![0, 128] (k0_pay11 h w3) slices_S512x512_o0_128_S512x128)⟩,
      ⟨Rect.unit ![0, 1024] ![512, 128] inb_S512x4096_S512x128_0_1024, turn c s (extractStridedSlice S512x128 ![0, 0] (k0_pay11 h w3) slices_S512x512_o0_0_S512x128)⟩,
      ⟨Rect.unit ![0, 512] ![512, 512] inb_S512x4096_S512x512_0_512, k0_pay9 h (k0_pay7 h w1) w2⟩,
      ⟨Rect.unit ![0, 0] ![512, 512] inb_S512x4096_S512x512_0_0, k0_pay5 h w0⟩]

theorem out_A (t : Fin cfg0.N) (h : t.val % 16 = 0) (h1 : ¬ 1 ≤ t.val) :
    (outsAt0 m c t.val t.isLt).1 = outI (k0_pay3 (iblk m c 0 t) (iblk m c 1 t) (iblk m c 3 t) (iblk m c 2 t))
      (k0_pay4 (wch m c 0 inb_S2x2048x4608_S1x2048x512_1_0_0)) (k0_pay4 (wch m c 512 inb_S2x2048x4608_S1x2048x512_1_0_512)) (k0_pay4 (wch m c 1024 inb_S2x2048x4608_S1x2048x512_1_0_1024)) (k0_pay4 (wch m c 1536 inb_S2x2048x4608_S1x2048x512_1_0_1536)) (k0_pay4 (wch m c 2048 inb_S2x2048x4608_S1x2048x512_1_0_2048)) (k0_pay4 (wch m c 2560 inb_S2x2048x4608_S1x2048x512_1_0_2560)) (k0_pay4 (wch m c 3072 inb_S2x2048x4608_S1x2048x512_1_0_3072)) (k0_pay4 (wch m c 3584 inb_S2x2048x4608_S1x2048x512_1_0_3584)) (k0_pay4 (wch m c 4096 inb_S2x2048x4608_S1x2048x512_1_0_4096))
      (iblk m c 4 t) (iblk m c 5 t) := by
  rw [outsAt0_A m c t h h1]
  unfold outI
  frame_out [skip_01, skip_10, View.readCov_cons_toLoadRect]
  rfl

theorem out_B (t : Fin cfg0.N) (h : ¬ t.val % 16 = 0) (h1 : 1 ≤ t.val) :
    (outsAt0 m c t.val t.isLt).1 = outI (k0_pay3 (iblk m c 0 t) (iblk m c 1 t) (iblk m c 3 t) (iblk m c 2 t))
      (View.ld (outsAt0 m c (t.val - 1) (Nat.lt_of_le_of_lt (Nat.sub_le _ _) t.isLt)).2 (Rect.unit ![0, 0] ![2048, 512] inb_S2048x4608_S2048x512_0_0)) (View.ld (outsAt0 m c (t.val - 1) (Nat.lt_of_le_of_lt (Nat.sub_le _ _) t.isLt)).2 (Rect.unit ![0, 512] ![2048, 512] inb_S2048x4608_S2048x512_0_512)) (View.ld (outsAt0 m c (t.val - 1) (Nat.lt_of_le_of_lt (Nat.sub_le _ _) t.isLt)).2 (Rect.unit ![0, 1024] ![2048, 512] inb_S2048x4608_S2048x512_0_1024)) (View.ld (outsAt0 m c (t.val - 1) (Nat.lt_of_le_of_lt (Nat.sub_le _ _) t.isLt)).2 (Rect.unit ![0, 1536] ![2048, 512] inb_S2048x4608_S2048x512_0_1536)) (View.ld (outsAt0 m c (t.val - 1) (Nat.lt_of_le_of_lt (Nat.sub_le _ _) t.isLt)).2 (Rect.unit ![0, 2048] ![2048, 512] inb_S2048x4608_S2048x512_0_2048)) (View.ld (outsAt0 m c (t.val - 1) (Nat.lt_of_le_of_lt (Nat.sub_le _ _) t.isLt)).2 (Rect.unit ![0, 2560] ![2048, 512] inb_S2048x4608_S2048x512_0_2560)) (View.ld (outsAt0 m c (t.val - 1) (Nat.lt_of_le_of_lt (Nat.sub_le _ _) t.isLt)).2 (Rect.unit ![0, 3072] ![2048, 512] inb_S2048x4608_S2048x512_0_3072)) (View.ld (outsAt0 m c (t.val - 1) (Nat.lt_of_le_of_lt (Nat.sub_le _ _) t.isLt)).2 (Rect.unit ![0, 3584] ![2048, 512] inb_S2048x4608_S2048x512_0_3584)) (View.ld (outsAt0 m c (t.val - 1) (Nat.lt_of_le_of_lt (Nat.sub_le _ _) t.isLt)).2 (Rect.unit ![0, 4096] ![2048, 512] inb_S2048x4608_S2048x512_0_4096))
      (iblk m c 4 t) (iblk m c 5 t) := by
  rw [outsAt0_B m c t h h1]
  unfold outI
  frame_out
  rw [read_unread_whole]
  rfl

/-! ## The carried weights at an index -/

theorem wch_at (o : ℕ) (inb : ∀ a, (![1, 0, o] : Fin 3 → ℕ) a + (![1, 2048, 512] : Fin 3 → ℕ) a ≤ S2x2048x4608.size a)
    (k : Fin 2048) (e : Fin 512) (j : Fin 4608) (hj : j.val = o + e.val) :
    wch m c o inb (ix3 0 k e) = m ((c : Thread nD τ).loc main_arg3) (ix3 1 k j) := by
  refine congrArg (m ((c : Thread nD τ).loc main_arg3)) (funext fun a => ?_)
  match a with
  | ⟨0, _⟩ => rfl
  | ⟨1, _⟩ => exact Fin.ext ((Rect.idx_unit_val ..).trans (Nat.zero_add _))
  | ⟨2, _⟩ => exact Fin.ext ((Rect.idx_unit_val ..).trans hj.symm)

/-- A chunk of the weights: the columns from `o` on. -/
def Chunk (wt : Fin 2048 → Fin 4608 → EReal) (w : Vec Ideal S2048x512 .bf16) (o : ℕ) : Prop :=
  ∀ (k : Fin 2048) (e : Fin 512) (j : Fin 4608), j.val = o + e.val → w (ix2 k e) = wt k j

/-- The layer's weights. -/
def wts (k : Fin 2048) (j : Fin 4608) : EReal := m ((c : Thread nD τ).loc main_arg3) (ix3 1 k j)

theorem chunk_A (o : ℕ) (inb : ∀ a, (![1, 0, o] : Fin 3 → ℕ) a + (![1, 2048, 512] : Fin 3 → ℕ) a ≤ S2x2048x4608.size a) :
    Chunk (wts m c) (k0_pay4 (wch m c o inb)) o :=
  fun k e j hj => (wgt_at _ k e).trans (wch_at m c o inb k e j hj)

theorem ld_at {A B R C : ℕ} {e : EltTy} (x : Vec Ideal ⟨2, ![A, B]⟩ e) (o : ℕ)
    (inb : ∀ a, (![0, o] : Fin 2 → ℕ) a + (![R, C] : Fin 2 → ℕ) a ≤ (⟨2, ![A, B]⟩ : Shape).size a)
    (r : Fin R) (k : Fin C) (i : Fin A) (j : Fin B) (hi : i.val = r.val) (hj : j.val = o + k.val) :
    View.ld x (Rect.unit ![0, o] ![R, C] inb) (ix2 r k) = x (ix2 i j) := by
  rw [View.ld_apply]
  refine congrArg x (funext fun a => ?_)
  match a with
  | ⟨0, _⟩ => exact Fin.ext ((Rect.idx_unit_val ..).trans ((Nat.zero_add _).trans hi.symm))
  | ⟨1, _⟩ => exact Fin.ext ((Rect.idx_unit_val ..).trans hj.symm)

theorem chunk_B (W : Vec Ideal S2048x4608 .bf16) (hW : ∀ k j, W (ix2 k j) = wts m c k j) (o : ℕ)
    (inb : ∀ a, (![0, o] : Fin 2 → ℕ) a + (![2048, 512] : Fin 2 → ℕ) a ≤ S2048x4608.size a) :
    Chunk (wts m c) (View.ld W (Rect.unit ![0, o] ![2048, 512] inb)) o :=
  fun k e j hj => (ld_at W o inb k e k j rfl hj).trans (hW k j)

theorem ix_eta {A B : ℕ} (x : (⟨2, ![A, B]⟩ : Shape).Idx) : ∃ (r : Fin A) (e : Fin B), x = ix2 r e := by
  refine ⟨⟨(x 0).val, (x 0).isLt⟩, ⟨(x 1).val, (x 1).isLt⟩, funext fun a => ?_⟩
  match a with
  | ⟨0, _⟩ => rfl
  | ⟨1, _⟩ => rfl

theorem scrW_at (k : Fin 2048) (j : Fin 4608) : scrW m c (ix2 k j) = wts m c k j := by
  unfold scrW
  canon_tiles x h
  · obtain ⟨r, e, rfl⟩ := ix_eta x
    obtain rfl : k = r := Fin.ext h0
    exact chunk_A m c 4096 _ k e j h1
  · obtain ⟨r, e, rfl⟩ := ix_eta x
    obtain rfl : k = r := Fin.ext h0
    exact chunk_A m c 3584 _ k e j h1
  · obtain ⟨r, e, rfl⟩ := ix_eta x
    obtain rfl : k = r := Fin.ext h0
    exact chunk_A m c 3072 _ k e j h1
  · obtain ⟨r, e, rfl⟩ := ix_eta x
    obtain rfl : k = r := Fin.ext h0
    exact chunk_A m c 2560 _ k e j h1
  · obtain ⟨r, e, rfl⟩ := ix_eta x
    obtain rfl : k = r := Fin.ext h0
    exact chunk_A m c 2048 _ k e j h1
  · obtain ⟨r, e, rfl⟩ := ix_eta x
    obtain rfl : k = r := Fin.ext h0
    exact chunk_A m c 1536 _ k e j h1
  · obtain ⟨r, e, rfl⟩ := ix_eta x
    obtain rfl : k = r := Fin.ext h0
    exact chunk_A m c 1024 _ k e j h1
  · obtain ⟨r, e, rfl⟩ := ix_eta x
    obtain rfl : k = r := Fin.ext h0
    exact chunk_A m c 512 _ k e j h1
  · obtain ⟨r, e, rfl⟩ := ix_eta x
    obtain rfl : k = r := Fin.ext h0
    exact chunk_A m c 0 _ k e j (h1.trans (Nat.zero_add _).symm)

/-- What the scratch holds after every point: the layer's weights. -/
theorem scr_at (t : Fin cfg0.N) (k : Fin 2048) (j : Fin 4608) : (outsAt0 m c t.val t.isLt).2 (ix2 k j) = wts m c k j := by
  have hN : ∀ t : Fin cfg0.N, t.val < 16 := fun t => lt_of_lt_of_eq t.isLt N_0
  rw [Pipeline.eq_of_write_hold_apply (fun n h => (outsAt0 m c n h).2) 16 (fun _ => scrW m c)
    (fun t h i => congrFun (scr_A m c t h (by have := hN t; omega)) i) (fun t h i => congrFun (scr_s m c t h (by omega)) i) t (ix2 k j), scrW_at]

/-! ## The tiles of a block -/

section tiles
variable {h : FVec Ideal S512x2048 .bf16} {wt : Fin 2048 → Fin 4608 → EReal} {w : Vec Ideal S2048x512 .bf16} {o : ℕ}

theorem proj_at (hw : Chunk wt w o) (r : Fin 512) (e : Fin 512) (j : Fin 4608) (hj : j.val = o + e.val) :
    ∑ k, h (ix2 r k) * w (ix2 k e) = proj (fun k => h (ix2 r k)) wt j :=
  Finset.sum_congr rfl fun k _ => congrArg _ (hw k e j hj)

variable {c s : Vec Ideal S512x128 .f32} {cs sn : Fin 32 → EReal} {r : Fin 512}

/-- A turned tile holds rotated channels. -/
theorem turn_tile (hw : Chunk wt w o) (t : FVec Ideal S512x128 .f32) (p : ℕ) (hp : p + 128 ≤ 512)
    (ht : ∀ (l : Fin 128) (e : Fin 512), e.val = p + l.val → t (ix2 r l) = k0_pay11 h w (ix2 r e))
    (hc : ∀ (l : Fin 128) (k : Fin 32), k.val = l.val % 32 → c (ix2 r l) = cs k)
    (hs : ∀ (l : Fin 128) (k : Fin 32), k.val = l.val % 32 → s (ix2 r l) = if l.val % 64 < 32 then - sn k else sn k)
    (q : ℕ) (hq : q + 512 = o + p) (h64 : q % 64 = 0) (hl : 1024 ≤ q) (hr : q + 128 ≤ 3072)
    (l : Fin 128) (d : Fin 4096) (hd : d.val = q + l.val) :
    turn c s t (ix2 r l) = row (proj (fun k => h (ix2 r k)) wt) cs sn d := by
  have e : row (proj (fun k => h (ix2 r k)) wt) cs sn d = rope (proj (fun k => h (ix2 r k)) wt) cs sn d (by omega) (by omega) := by
    unfold row
    rw [dif_neg (by omega), dif_neg (by omega), dif_pos (by omega)]
  have h6 : d.val % 64 = l.val % 64 := by omega
  rw [turn_at, e]
  refine rope_eq _ cs sn d _ _ _ _ _ _ ?_ (fun j hj => ?_) (fun k hk => hc l k (by omega)) (fun k hk => ?_)
  · rw [ht l ⟨p + l.val, by omega⟩ rfl, acc_at]
    exact proj_at hw r _ _ (by show d.val + 512 = o + (p + l.val); omega)
  · rw [ht (pair l) ⟨p + (pair l).val, by omega⟩ rfl, acc_at]
    refine proj_at hw r _ _ ?_
    show j.val = o + (p + (pair l).val)
    rw [hj]
    unfold pair
    by_cases hh : l.val % 64 < 32
    · rw [if_pos (by omega), dif_pos hh]
      show d.val + 512 + 32 = o + (p + (l.val + 32))
      omega
    · rw [if_neg (by omega), dif_neg hh]
      show d.val + 512 - 32 = o + (p + (l.val - 32))
      omega
  · rw [hs l k (by omega), h6]

theorem sl_0 (a : FVec Ideal S512x512 .f32) (r : Fin 512) (l : Fin 128) (e : Fin 512) (he : e.val = 0 + l.val) :
    (extractStridedSlice S512x128 ![0, 0] a slices_S512x512_o0_0_S512x128 : FVec Ideal S512x128 .f32) (ix2 r l) = a (ix2 r e) :=
  (slice_at a r l).1.trans (congrArg (fun e => a (ix2 r e)) (Fin.ext (he.trans (Nat.zero_add _)).symm))

theorem sl_128 (a : FVec Ideal S512x512 .f32) (r : Fin 512) (l : Fin 128) (e : Fin 512) (he : e.val = 128 + l.val) :
    (extractStridedSlice S512x128 ![0, 128] a slices_S512x512_o0_128_S512x128 : FVec Ideal S512x128 .f32) (ix2 r l) = a (ix2 r e) :=
  (slice_at a r l).2.1.trans (congrArg (fun e => a (ix2 r e)) (Fin.ext (he).symm))

theorem sl_256 (a : FVec Ideal S512x512 .f32) (r : Fin 512) (l : Fin 128) (e : Fin 512) (he : e.val = 256 + l.val) :
    (extractStridedSlice S512x128 ![0, 256] a slices_S512x512_o0_256_S512x128 : FVec Ideal S512x128 .f32) (ix2 r l) = a (ix2 r e) :=
  (slice_at a r l).2.2.1.trans (congrArg (fun e => a (ix2 r e)) (Fin.ext (he).symm))

theorem sl_384 (a : FVec Ideal S512x512 .f32) (r : Fin 512) (l : Fin 128) (e : Fin 512) (he : e.val = 384 + l.val) :
    (extractStridedSlice S512x128 ![0, 384] a slices_S512x512_o0_384_S512x128 : FVec Ideal S512x128 .f32) (ix2 r l) = a (ix2 r e) :=
  (slice_at a r l).2.2.2.trans (congrArg (fun e => a (ix2 r e)) (Fin.ext (he).symm))

/-- The block's entry is the row function's channel. -/
theorem outI_at (h : FVec Ideal S512x2048 .bf16) (w0 w1 w2 w3 w4 w5 w6 w7 w8 : Vec Ideal S2048x512 .bf16) (c s : Vec Ideal S512x128 .f32)
    (wt : Fin 2048 → Fin 4608 → EReal) (cs sn : Fin 32 → EReal) (r : Fin 512) (d : Fin 4096)
    (k0 : Chunk wt w0 0)    (k1 : Chunk wt w1 512)    (k2 : Chunk wt w2 1024)
    (k3 : Chunk wt w3 1536)    (k4 : Chunk wt w4 2048)    (k5 : Chunk wt w5 2560)
    (k6 : Chunk wt w6 3072)    (k7 : Chunk wt w7 3584)    (k8 : Chunk wt w8 4096)
    (hc : ∀ (l : Fin 128) (k : Fin 32), k.val = l.val % 32 → c (ix2 r l) = cs k)
    (hs : ∀ (l : Fin 128) (k : Fin 32), k.val = l.val % 32 → s (ix2 r l) = if l.val % 64 < 32 then - sn k else sn k) :
    outI h w0 w1 w2 w3 w4 w5 w6 w7 w8 c s (ix2 r d) = row (proj (fun k => h (ix2 r k)) wt) cs sn d := by
  unfold outI
  canon_tiles x h using View.cover_of_tiledBy _ ![512, 128] (by sl_kernel_rfl) (ix2 r d)
  · obtain ⟨r', e, rfl⟩ := ix_eta x
    obtain rfl : r = r' := Fin.ext h0
    have he := e.isLt
    replace h1 : d.val = 3584 + e.val := h1
    rw [pay5_at, proj_at k8 r e ⟨d.val + 512, by omega⟩ (by show d.val + 512 = _; omega)]
    unfold row
    rw [dif_neg (by omega), dif_neg (by omega), dif_neg (by omega)]
    rfl
  · obtain ⟨r', e, rfl⟩ := ix_eta x
    obtain rfl : r = r' := Fin.ext h0
    have he := e.isLt
    replace h1 : d.val = 3072 + e.val := h1
    rw [pay5_at, proj_at k7 r e ⟨d.val + 512, by omega⟩ (by show d.val + 512 = _; omega)]
    unfold row
    rw [dif_neg (by omega), dif_neg (by omega), dif_neg (by omega)]
    rfl
  · obtain ⟨r', e, rfl⟩ := ix_eta x
    obtain rfl : r = r' := Fin.ext h0
    have he := e.isLt
    replace h1 : d.val = 2944 + e.val := h1
    exact turn_tile k6 _ 384 (by decide) (fun l e he => sl_384 _ r l e he) hc hs 2944 (by decide) (by decide) (by decide) (by decide) e d h1
  · obtain ⟨r', e, rfl⟩ := ix_eta x
    obtain rfl : r = r' := Fin.ext h0
    have he := e.isLt
    replace h1 : d.val = 2816 + e.val := h1
    exact turn_tile k6 _ 256 (by decide) (fun l e he => sl_256 _ r l e he) hc hs 2816 (by decide) (by decide) (by decide) (by decide) e d h1
  · obtain ⟨r', e, rfl⟩ := ix_eta x
    obtain rfl : r = r' := Fin.ext h0
    have he := e.isLt
    replace h1 : d.val = 2688 + e.val := h1
    exact turn_tile k6 _ 128 (by decide) (fun l e he => sl_128 _ r l e he) hc hs 2688 (by decide) (by decide) (by decide) (by decide) e d h1
  · obtain ⟨r', e, rfl⟩ := ix_eta x
    obtain rfl : r = r' := Fin.ext h0
    have he := e.isLt
    replace h1 : d.val = 2560 + e.val := h1
    exact turn_tile k6 _ 0 (by decide) (fun l e he => sl_0 _ r l e he) hc hs 2560 (by decide) (by decide) (by decide) (by decide) e d h1
  · obtain ⟨r', e, rfl⟩ := ix_eta x
    obtain rfl : r = r' := Fin.ext h0
    have he := e.isLt
    replace h1 : d.val = 2432 + e.val := h1
    exact turn_tile k5 _ 384 (by decide) (fun l e he => sl_384 _ r l e he) hc hs 2432 (by decide) (by decide) (by decide) (by decide) e d h1
  · obtain ⟨r', e, rfl⟩ := ix_eta x
    obtain rfl : r = r' := Fin.ext h0
    have he := e.isLt
    replace h1 : d.val = 2304 + e.val := h1
    exact turn_tile k5 _ 256 (by decide) (fun l e he => sl_256 _ r l e he) hc hs 2304 (by decide) (by decide) (by decide) (by decide) e d h1
  · obtain ⟨r', e, rfl⟩ := ix_eta x
    obtain rfl : r = r' := Fin.ext h0
    have he := e.isLt
    replace h1 : d.val = 2176 + e.val := h1
    exact turn_tile k5 _ 128 (by decide) (fun l e he => sl_128 _ r l e he) hc hs 2176 (by decide) (by decide) (by decide) (by decide) e d h1
  · obtain ⟨r', e, rfl⟩ := ix_eta x
    obtain rfl : r = r' := Fin.ext h0
    have he := e.isLt
    replace h1 : d.val = 2048 + e.val := h1
    exact turn_tile k5 _ 0 (by decide) (fun l e he => sl_0 _ r l e he) hc hs 2048 (by decide) (by decide) (by decide) (by decide) e d h1
  · obtain ⟨r', e, rfl⟩ := ix_eta x
    obtain rfl : r = r' := Fin.ext h0
    have he := e.isLt
    replace h1 : d.val = 1920 + e.val := h1
    exact turn_tile k4 _ 384 (by decide) (fun l e he => sl_384 _ r l e he) hc hs 1920 (by decide) (by decide) (by decide) (by decide) e d h1
  · obtain ⟨r', e, rfl⟩ := ix_eta x
    obtain rfl : r = r' := Fin.ext h0
    have he := e.isLt
    replace h1 : d.val = 1792 + e.val := h1
    exact turn_tile k4 _ 256 (by decide) (fun l e he => sl_256 _ r l e he) hc hs 1792 (by decide) (by decide) (by decide) (by decide) e d h1
  · obtain ⟨r', e, rfl⟩ := ix_eta x
    obtain rfl : r = r' := Fin.ext h0
    have he := e.isLt
    replace h1 : d.val = 1664 + e.val := h1
    exact turn_tile k4 _ 128 (by decide) (fun l e he => sl_128 _ r l e he) hc hs 1664 (by decide) (by decide) (by decide) (by decide) e d h1
  · obtain ⟨r', e, rfl⟩ := ix_eta x
    obtain rfl : r = r' := Fin.ext h0
    have he := e.isLt
    replace h1 : d.val = 1536 + e.val := h1
    exact turn_tile k4 _ 0 (by decide) (fun l e he => sl_0 _ r l e he) hc hs 1536 (by decide) (by decide) (by decide) (by decide) e d h1
  · obtain ⟨r', e, rfl⟩ := ix_eta x
    obtain rfl : r = r' := Fin.ext h0
    have he := e.isLt
    replace h1 : d.val = 1408 + e.val := h1
    exact turn_tile k3 _ 384 (by decide) (fun l e he => sl_384 _ r l e he) hc hs 1408 (by decide) (by decide) (by decide) (by decide) e d h1
  · obtain ⟨r', e, rfl⟩ := ix_eta x
    obtain rfl : r = r' := Fin.ext h0
    have he := e.isLt
    replace h1 : d.val = 1280 + e.val := h1
    exact turn_tile k3 _ 256 (by decide) (fun l e he => sl_256 _ r l e he) hc hs 1280 (by decide) (by decide) (by decide) (by decide) e d h1
  · obtain ⟨r', e, rfl⟩ := ix_eta x
    obtain rfl : r = r' := Fin.ext h0
    have he := e.isLt
    replace h1 : d.val = 1152 + e.val := h1
    exact turn_tile k3 _ 128 (by decide) (fun l e he => sl_128 _ r l e he) hc hs 1152 (by decide) (by decide) (by decide) (by decide) e d h1
  · obtain ⟨r', e, rfl⟩ := ix_eta x
    obtain rfl : r = r' := Fin.ext h0
    have he := e.isLt
    replace h1 : d.val = 1024 + e.val := h1
    exact turn_tile k3 _ 0 (by decide) (fun l e he => sl_0 _ r l e he) hc hs 1024 (by decide) (by decide) (by decide) (by decide) e d h1
  · obtain ⟨r', e, rfl⟩ := ix_eta x
    obtain rfl : r = r' := Fin.ext h0
    have he := e.isLt
    replace h1 : d.val = 512 + e.val := h1
    rw [gate_at, proj_at k1 r e ⟨d.val, by omega⟩ (by show d.val = _; omega), proj_at k2 r e ⟨d.val + 512, by omega⟩ (by show d.val + 512 = _; omega)]
    unfold row
    rw [dif_neg (by omega), dif_pos (by omega)]
  · obtain ⟨r', e, rfl⟩ := ix_eta x
    obtain rfl : r = r' := Fin.ext h0
    have he := e.isLt
    replace h1 : d.val = 0 + e.val := h1.trans (Nat.zero_add _).symm
    rw [pay5_at, proj_at k0 r e ⟨d.val, by omega⟩ (by show d.val = _; omega)]
    unfold row
    rw [dif_pos (by omega)]

end tiles

/-! ## The blocks at an index -/

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![1, 0, 0, 0, 0] ![0, 4, 0, 0, 0] ![0, 0, 0, 0, 0]
      (shapeCast S1x4x6x1x2048 x shapeCasts_S4x1x12288_S1x4x6x1x2048) z
      pads_S1x4x6x1x2048_S2x8x6x1x2048_100_040_000_000_000 h_S_ (ix5 1 b k 0 d) = x (ix3 ⟨b.val, hb⟩ 0 ⟨k.val * 2048 + d.val, by omega⟩) := by
  pointwise
  rw [dif_pos hb]

theorem V_v2 (b : Fin 4) (n d : Fin 2048) (R : Fin 8192) (h : R.val = 2048 * b.val + n.val) :
    V m c main_v2 (ix2 R d) = m ((c : Thread nD τ).loc main_arg0) (ix3 b n d) := by
  have e : V m c main_v2 = shapeCast S8192x2048 (m ((c : Thread nD τ).loc main_arg0)) shapeCasts_S4x2048x2048_S8192x2048 := rfl
  rw [e]
  exact flat_at _ b n d R h

theorem V_v7 (l : Fin 2) (d : Fin 2048) : V m c main_v7 (ix3 l 0 d) = m ((c : Thread nD τ).loc main_arg2) (ix2 l d) := by
  have e : V m c main_v7 = shapeCast S2x1x2048 (m ((c : Thread nD τ).loc main_arg2)) shapeCasts_S2x2048_S2x1x2048 := rfl
  rw [e]
  exact row_at _ l d

/-- The modulation vectors of the layer, behind the padding. -/
theorem V_v1 (b : Fin 8) (hb : b.val < 4) (k : Fin 6) (d : Fin 2048) :
    V m c main_v1 (ix5 1 b k 0 d) = m ((c : Thread nD τ).loc main_arg1) (ix3 ⟨b.val, hb⟩ 0 ⟨k.val * 2048 + d.val, by omega⟩) := by
  have e : ∃ z, V m c main_v1 = pad S2x8x6x1x2048 ![1, 0, 0, 0, 0] ![0, 4, 0, 0, 0] ![0, 0, 0, 0, 0]
      (shapeCast S1x4x6x1x2048 (m ((c : Thread nD τ).loc main_arg1)) shapeCasts_S4x1x12288_S1x4x6x1x2048) z
      pads_S1x4x6x1x2048_S2x8x6x1x2048_100_040_000_000_000 h_S_ := ⟨_, rfl⟩
  obtain ⟨z, e⟩ := e
  rw [e]
  exact pad_at _ z b hb k d

/-- A table spread over the lanes: four copies side by side. -/
theorem cat_at (x0 x1 x2 x3 : Vec Ideal S2048x32 .f32) (n : Fin 2048) (l : Fin 128) (k : Fin 32) (hk : k.val = l.val % 32) :
    (concatenate S2048x128 1 [⟨S2048x32, x0⟩, ⟨S2048x32, x1⟩, ⟨S2048x32, x2⟩, ⟨S2048x32, x3⟩] concatenates_S2048x32_S2048x32_S2048x32_S2048x32_S2048x128_d1 : Vec Ideal S2048x128 .f32) (ix2 n l)
      = if l.val < 32 then x0 (ix2 n k) else if l.val < 64 then x1 (ix2 n k) else if l.val < 96 then x2 (ix2 n k) else x3 (ix2 n k) := by
  pointwise
  have hl := l.isLt
  split_ifs <;> first | (exfalso; omega) | skip
  · rw [show (⟨l.val, by omega⟩ : Fin 32) = k from Fin.ext (by show l.val = k.val; omega)]
  · rw [show (⟨l.val - 32, by omega⟩ : Fin 32) = k from Fin.ext (by show l.val - 32 = k.val; omega), if_pos (by omega)]
  · rw [show (⟨l.val - 32 - 32, by omega⟩ : Fin 32) = k from Fin.ext (by show l.val - 32 - 32 = k.val; omega), if_neg (by omega), if_pos (by omega)]
  · rw [show (⟨l.val - 32 - 32 - 32, by omega⟩ : Fin 32) = k from Fin.ext (by show l.val - 32 - 32 - 32 = k.val; omega), if_neg (by omega), if_neg (by omega)]

theorem V_v3 (n : Fin 2048) (l : Fin 128) (k : Fin 32) (hk : k.val = l.val % 32) :
    V m c main_v3 (ix2 n l) = m ((c : Thread nD τ).loc main_arg4) (ix2 n k) := by
  have e : V m c main_v3 = (concatenate S2048x128 1 [⟨S2048x32, m ((c : Thread nD τ).loc main_arg4)⟩, ⟨S2048x32, m ((c : Thread nD τ).loc main_arg4)⟩,
      ⟨S2048x32, m ((c : Thread nD τ).loc main_arg4)⟩, ⟨S2048x32, m ((c : Thread nD τ).loc main_arg4)⟩]
      concatenates_S2048x32_S2048x32_S2048x32_S2048x32_S2048x128_d1 : Vec Ideal S2048x128 .f32) := rfl
  rw [e, cat_at _ _ _ _ n l k hk]
  split_ifs <;> rfl

theorem V_v6 (n : Fin 2048) (l : Fin 128) (k : Fin 32) (hk : k.val = l.val % 32) :
    V m c main_v6 (ix2 n l) = if l.val % 64 < 32 then Neg.neg (α := EReal) (m ((c : Thread nD τ).loc main_arg5) (ix2 n k)) else m ((c : Thread nD τ).loc main_arg5) (ix2 n k) := by
  have e : V m c main_v6 = (concatenate S2048x128 1 [⟨S2048x32, (Host.negf (m ((c : Thread nD τ).loc main_arg5) : FVec Ideal S2048x32 .f32) : FVec Ideal S2048x32 .f32)⟩, ⟨S2048x32, m ((c : Thread nD τ).loc main_arg5)⟩,
      ⟨S2048x32, (Host.negf (m ((c : Thread nD τ).loc main_arg5) : FVec Ideal S2048x32 .f32) : FVec Ideal S2048x32 .f32)⟩, ⟨S2048x32, m ((c : Thread nD τ).loc main_arg5)⟩]
      concatenates_S2048x32_S2048x32_S2048x32_S2048x32_S2048x128_d1 : Vec Ideal S2048x128 .f32) := rfl
  rw [e, cat_at _ _ _ _ n l k hk]
  have hl := l.isLt
  split_ifs <;> first | (exfalso; omega) | rfl

theorem ix_0 : ∀ t : Fin cfg0.N, win0_0.index t = ![t.val, 0] := (by decide +kernel : ∀ t : Fin grid0.N, _)
theorem ix_1 : ∀ t : Fin cfg0.N, win0_1.index t = ![1, 0, 0] := (by decide +kernel : ∀ t : Fin grid0.N, _)
theorem ix_2 : ∀ t : Fin cfg0.N, win0_2.index t = ![1, t.val / 4, 0, 0, 0] := (by decide +kernel : ∀ t : Fin grid0.N, _)
theorem ix_3 : ∀ t : Fin cfg0.N, win0_3.index t = ![1, t.val / 4, 1, 0, 0] := (by decide +kernel : ∀ t : Fin grid0.N, _)
theorem ix_4 : ∀ t : Fin cfg0.N, win0_4.index t = ![t.val % 4, 0] := (by decide +kernel : ∀ t : Fin grid0.N, _)
theorem ix_5 : ∀ t : Fin cfg0.N, win0_5.index t = ![t.val % 4, 0] := (by decide +kernel : ∀ t : Fin grid0.N, _)

theorem blk_0 (t : Fin cfg0.N) (b : Fin 4) (n : Fin 2048) (r : Fin 512) (d : Fin 2048) (hb : b.val = t.val / 4) (hn : n.val = t.val % 4 * 512 + r.val) :
    iblk m c 0 t (ix2 r d) = m ((c : Thread nD τ).loc main_arg0) (ix3 b n d) := by
  have ht : t.val < 16 := lt_of_lt_of_eq t.isLt N_0
  rw [← V_v2 m c b n d ⟨t.val * 512 + r.val, by omega⟩ (by show t.val * 512 + r.val = _; omega)]
  blk_ext [iblk, ix_0 t]

theorem blk_1 (t : Fin cfg0.N) (d : Fin 2048) : iblk m c 1 t (ix3 0 0 d) = m ((c : Thread nD τ).loc main_arg2) (ix2 1 d) := by
  refine Eq.trans ?_ (V_v7 m c 1 d)
  blk_ext [iblk, ix_1 t]

theorem blk_2 (t : Fin cfg0.N) (b : Fin 4) (d : Fin 2048) (hb : b.val = t.val / 4) :
    iblk m c 2 t (ix5 0 0 0 0 d) = m ((c : Thread nD τ).loc main_arg1) (ix3 b 0 ⟨d.val, by omega⟩) := by
  refine Eq.trans ?_ ((V_v1 m c ⟨b.val, by omega⟩ b.isLt 0 d).trans (congrArg (fun e => m ((c : Thread nD τ).loc main_arg1) (ix3 b 0 e)) (Fin.ext (by show 0 * 2048 + d.val = d.val; omega))))
  blk_ext [iblk, ix_2 t]

theorem blk_3 (t : Fin cfg0.N) (b : Fin 4) (d : Fin 2048) (hb : b.val = t.val / 4) :
    iblk m c 3 t (ix5 0 0 0 0 d) = m ((c : Thread nD τ).loc main_arg1) (ix3 b 0 ⟨2048 + d.val, by omega⟩) := by
  refine Eq.trans ?_ (V_v1 m c ⟨b.val, by omega⟩ b.isLt 1 d)
  blk_ext [iblk, ix_3 t]

theorem blk_4 (t : Fin cfg0.N) (n : Fin 2048) (r : Fin 512) (l : Fin 128) (k : Fin 32) (hk : k.val = l.val % 32) (hn : n.val = t.val % 4 * 512 + r.val) :
    iblk m c 4 t (ix2 r l) = m ((c : Thread nD τ).loc main_arg4) (ix2 n k) := by
  rw [← V_v3 m c n l k hk]
  blk_ext [iblk, ix_4 t]

theorem blk_5 (t : Fin cfg0.N) (n : Fin 2048) (r : Fin 512) (l : Fin 128) (k : Fin 32) (hk : k.val = l.val % 32) (hn : n.val = t.val % 4 * 512 + r.val) :
    iblk m c 5 t (ix2 r l) = if l.val % 64 < 32 then Neg.neg (α := EReal) (m ((c : Thread nD τ).loc main_arg5) (ix2 n k)) else m ((c : Thread nD τ).loc main_arg5) (ix2 n k) := by
  rw [← V_v6 m c n l k hk]
  blk_ext [iblk, ix_5 t]

/-- The result block of a point, row by row. -/
theorem last_at (t : Fin cfg0.N) (b : Fin 4) (n : Fin 2048) (r : Fin 512) (d : Fin 4096) (hb : b.val = t.val / 4) (hn : n.val = t.val % 4 * 512 + r.val) :
    (outsAt0 m c t.val t.isLt).1 (ix2 r d)
      = row (proj (modd (fun d => m ((c : Thread nD τ).loc main_arg0) (ix3 b n d)) (fun d => m ((c : Thread nD τ).loc main_arg2) (ix2 1 d))
            (fun d => m ((c : Thread nD τ).loc main_arg1) (ix3 b 0 ⟨2048 + d.val, by omega⟩))
            (fun d => m ((c : Thread nD τ).loc main_arg1) (ix3 b 0 ⟨d.val, by omega⟩)))
          (fun k j => m ((c : Thread nD τ).loc main_arg3) (ix3 1 k j)))
          (fun k => m ((c : Thread nD τ).loc main_arg4) (ix2 n k)) (fun k => m ((c : Thread nD τ).loc main_arg5) (ix2 n k)) d := by
  have hN : t.val < 16 := lt_of_lt_of_eq t.isLt N_0
  have hp : (fun k => k0_pay3 (iblk m c 0 t) (iblk m c 1 t) (iblk m c 3 t) (iblk m c 2 t) (ix2 r k))
      = modd (fun d => m ((c : Thread nD τ).loc main_arg0) (ix3 b n d)) (fun d => m ((c : Thread nD τ).loc main_arg2) (ix2 1 d))
            (fun d => m ((c : Thread nD τ).loc main_arg1) (ix3 b 0 ⟨2048 + d.val, by omega⟩))
            (fun d => m ((c : Thread nD τ).loc main_arg1) (ix3 b 0 ⟨d.val, by omega⟩)) := funext fun k => by
    rw [pre_at]
    simp only [blk_0 m c t b n r _ hb hn, blk_1, blk_2 m c t b _ hb, blk_3 m c t b _ hb]
  rw [← hp]
  by_cases h : t.val % 16 = 0
  · rw [out_A m c t h (by omega)]
    exact outI_at _ _ _ _ _ _ _ _ _ _ _ _ (wts m c) _ _ r d (chunk_A m c 0 _) (chunk_A m c 512 _) (chunk_A m c 1024 _) (chunk_A m c 1536 _) (chunk_A m c 2048 _) (chunk_A m c 2560 _) (chunk_A m c 3072 _) (chunk_A m c 3584 _) (chunk_A m c 4096 _)
      (fun l k hk => blk_4 m c t n r l k hk hn) (fun l k hk => blk_5 m c t n r l k hk hn)
  · rw [out_B m c t h (by omega)]
    have hW := scr_at m c ⟨t.val - 1, Nat.lt_of_le_of_lt (Nat.sub_le _ _) t.isLt⟩
    exact outI_at _ _ _ _ _ _ _ _ _ _ _ _ (wts m c) _ _ r d (chunk_B m c _ hW 0 _) (chunk_B m c _ hW 512 _) (chunk_B m c _ hW 1024 _) (chunk_B m c _ hW 1536 _) (chunk_B m c _ hW 2048 _) (chunk_B m c _ hW 2560 _) (chunk_B m c _ hW 3072 _) (chunk_B m c _ hW 3584 _) (chunk_B m c _ hW 4096 _)
      (fun l k hk => blk_4 m c t n r l k hk hn) (fun l k hk => blk_5 m c t n r l k hk hn)

end Cert.InpIdeal.Val
-- ==== Proof.InpRef.lean ====
/- The input projection's reference read at an index: one row of the residual stream and the row handed to the sublayers. -/
module

public import proofs.«01_k».proof.Proof.Gen.InpReferenceIdeal.Read
public import proofs.«01_k».proof.Proof.InpSpec

@[expose] public section

noncomputable section

namespace Cert.InpReferenceIdeal.Val

open Cert.InpReferenceIdeal Cert.InpReferenceIdeal.Gen Cert.InpReferenceIdeal.Read Idealize.ShloMosaic Cert.MlpSpec Cert.InpSpec

variable (x0 : Vec Ideal S4x2048x2048 .f32) (x1 : Vec Ideal S4x1x12288 .f32) (x2 : Vec Ideal S2x2048 .f32)
  (x3 : Vec Ideal S2x2048x4608 .f32) (x4 x5 : Vec Ideal S2048x32 .f32)

/-- Row `(b, n)` of the normed and modulated input. -/
theorem pre_at (b : Fin 4) (n d : Fin 2048) :
    val_main_v26 (F := Ideal) x0 x1 x2 (ix3 b n d)
      = modd (fun d => x0 (ix3 b n d)) (fun d => x2 (ix2 1 d)) (fun d => x1 (ix3 b 0 ⟨2048 + d.val, by omega⟩))
          (fun d => x1 (ix3 b 0 ⟨d.val, by omega⟩)) d := by
  pointwise [val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v1, val_main_v0, modd, rms]

/-- The product with the layer's weights. -/
theorem dot_at (b : Fin 4) (n : Fin 2048) (j : Fin 4608) :
    val_main_v29 (F := Ideal) x0 x1 x2 x3 (ix3 b n j)
      = proj (fun d => val_main_v26 (F := Ideal) x0 x1 x2 (ix3 b n d)) (fun k j => x3 (ix3 1 k j)) j := by
  pointwise [val_main_v29, val_main_v28, val_main_v27, proj]

/-- The gated convolution branch. -/
theorem gate_at (b : Fin 4) (n : Fin 2048) (e : Fin 512) :
    val_main_v43 (F := Ideal) x0 x1 x2 x3 (ix3 b n e)
      = val_main_v29 (F := Ideal) x0 x1 x2 x3 (ix3 b n ⟨512 + e.val, by omega⟩)
          * Ideal.logistic (val_main_v29 (F := Ideal) x0 x1 x2 x3 (ix3 b n ⟨1024 + e.val, by omega⟩)) := by
  pointwise [val_main_v43, val_main_v42, val_main_v41, val_main_cst_4, val_main_v40, val_main_v39, val_main_cst_3, val_main_v38,
    val_main_v37, val_main_v36, val_main_v35, val_main_v31, Ideal.logistic]
  have e1 : (⟨512 + (512 + e.val), by omega⟩ : Fin 4608) = ⟨1024 + e.val, by omega⟩ := Fin.ext (by dsimp only; omega)
  rw [e1]

set_option maxHeartbeats 1000000 in
/-- The rotated queries. -/
theorem q_at (b : Fin 4) (n : Fin 2048) (e : Fin 1024) (d : Fin 4096) (hd : 1024 ≤ d.val) (hd' : d.val < 3072) (he : d.val = 1024 + e.val) :
    val_main_v76 (F := Ideal) x0 x1 x2 x3 x4 x5 (ix3 b n e)
      = rope (fun j => val_main_v29 (F := Ideal) x0 x1 x2 x3 (ix3 b n j)) (fun k => x4 (ix2 n k)) (fun k => x5 (ix2 n k)) d hd hd' := by
  pointwise [val_main_v76, val_main_v59, val_main_v58, val_main_v57, val_main_v56, val_main_v55, val_main_v54, val_main_v53, val_main_v52, val_main_v51, val_main_v50, val_main_v49, val_main_v48, val_main_v47, val_main_v46, val_main_v45, val_main_v44, val_main_v32]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  have hC : ∀ i j : Fin 32, i.val = j.val → x4 (ix2 n i) = x4 (ix2 n j) := fun i j h => by rw [Fin.ext h]
  have hS : ∀ i j : Fin 32, i.val = j.val → x5 (ix2 n i) = x5 (ix2 n j) := fun i j h => by rw [Fin.ext h]
  unfold rope
  by_cases h : e.val % 64 < 32
  · have h' : d.val % 64 < 32 := by omega
    rw [dif_pos h, dif_pos h']
    exact congrArg₂ (· - ·) (congrArg₂ (· * ·) (hP _ _ (by dsimp only; omega)) (hC _ _ (by dsimp only; omega)))
      (congrArg₂ (· * ·) (hP _ _ (by dsimp only; omega)) (hS _ _ (by dsimp only; omega)))
  · have h' : ¬ d.val % 64 < 32 := by omega
    rw [dif_neg h, dif_neg h']
    exact congrArg₂ (· + ·) (congrArg₂ (· * ·) (hP _ _ (by dsimp only; omega)) (hC _ _ (by dsimp only; omega)))
      (congrArg₂ (· * ·) (hP _ _ (by dsimp only; omega)) (hS _ _ (by dsimp only; omega)))

set_option maxHeartbeats 1000000 in
/-- The rotated keys. -/
theorem k_at (b : Fin 4) (n : Fin 2048) (e : Fin 1024) (d : Fin 4096) (hd : 1024 ≤ d.val) (hd' : d.val < 3072) (he : d.val = 2048 + e.val) :
    val_main_v77 (F := Ideal) x0 x1 x2 x3 x4 x5 (ix3 b n e)
      = rope (fun j => val_main_v29 (F := Ideal) x0 x1 x2 x3 (ix3 b n j)) (fun k => x4 (ix2 n k)) (fun k => x5 (ix2 n k)) d hd hd' := by
  pointwise [val_main_v77, val_main_v75, val_main_v74, val_main_v73, val_main_v72, val_main_v71, val_main_v70, val_main_v69, val_main_v68, val_main_v67, val_main_v66, val_main_v65, val_main_v64, val_main_v63, val_main_v62, val_main_v61, val_main_v60, val_main_v33]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  have hC : ∀ i j : Fin 32, i.val = j.val → x4 (ix2 n i) = x4 (ix2 n j) := fun i j h => by rw [Fin.ext h]
  have hS : ∀ i j : Fin 32, i.val = j.val → x5 (ix2 n i) = x5 (ix2 n j) := fun i j h => by rw [Fin.ext h]
  unfold rope
  by_cases h : e.val % 64 < 32
  · have h' : d.val % 64 < 32 := by omega
    rw [dif_pos h, dif_pos h']
    exact congrArg₂ (· - ·) (congrArg₂ (· * ·) (hP _ _ (by dsimp only; omega)) (hC _ _ (by dsimp only; omega)))
      (congrArg₂ (· * ·) (hP _ _ (by dsimp only; omega)) (hS _ _ (by dsimp only; omega)))
  · have h' : ¬ d.val % 64 < 32 := by omega
    rw [dif_neg h, dif_neg h']
    exact congrArg₂ (· + ·) (congrArg₂ (· * ·) (hP _ _ (by dsimp only; omega)) (hC _ _ (by dsimp only; omega)))
      (congrArg₂ (· * ·) (hP _ _ (by dsimp only; omega)) (hS _ _ (by dsimp only; omega)))

/-- The row handed to the sublayers. -/
theorem row_at (b : Fin 4) (n : Fin 2048) (d : Fin 4096) :
    val_main_v78 (F := Ideal) x0 x1 x2 x3 x4 x5 (ix3 b n d)
      = row (fun j => val_main_v29 (F := Ideal) x0 x1 x2 x3 (ix3 b n j)) (fun k => x4 (ix2 n k)) (fun k => x5 (ix2 n k)) d := by
  pointwise [val_main_v78, val_main_v34, val_main_v30]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  unfold row
  by_cases h : d.val < 512
  · rw [dif_pos h, dif_pos h]
  · rw [dif_neg h, dif_neg h]
    by_cases h2 : d.val < 1024
    · rw [dif_pos (by omega), dif_pos h2, gate_at]
      exact congrArg₂ (fun a b => a * Ideal.logistic b) (hP _ _ (by dsimp only; omega)) (hP _ _ (by dsimp only; omega))
    · rw [dif_neg (by omega), dif_neg h2]
      by_cases h3 : d.val < 2048
      · rw [dif_pos (by omega), dif_pos (by omega)]
        exact q_at x0 x1 x2 x3 x4 x5 b n _ d _ _ (by dsimp only; omega)
      · rw [dif_neg (by omega)]
        by_cases h4 : d.val < 3072
        · rw [dif_pos (by omega), dif_pos h4]
          exact k_at x0 x1 x2 x3 x4 x5 b n _ d _ _ (by dsimp only; omega)
        · rw [dif_neg (by omega), dif_neg h4]
          exact hP _ _ (by dsimp only; omega)

/-- The reference's result at row `2048 b + n`. -/
theorem res_at (b : Fin 4) (n : Fin 2048) (d : Fin 4096) (i : S8192x4096.Idx) (h0 : (i 0).val = 2048 * b.val + n.val) (h1 : (i 1).val = d.val) :
    val_main_v80 (F := Ideal) x0 x1 x2 x3 x4 x5 i
      = row (proj (modd (fun d => x0 (ix3 b n d)) (fun d => x2 (ix2 1 d)) (fun d => x1 (ix3 b 0 ⟨2048 + d.val, by omega⟩))
          (fun d => x1 (ix3 b 0 ⟨d.val, by omega⟩))) (fun k j => x3 (ix3 1 k j))) (fun k => x4 (ix2 n k)) (fun k => x5 (ix2 n k)) d := by
  have e0 : val_main_v80 (F := Ideal) x0 x1 x2 x3 x4 x5 i = val_main_v79 (F := Ideal) x0 x1 x2 x3 x4 x5 i := rfl
  rw [e0, val_main_v79_apply]
  have e : idx_main_v79 i = ix3 b n d := by
    funext a
    apply Fin.ext
    have hb := b.isLt; have hn := n.isLt; have hd := d.isLt
    match a with
    | ⟨0, _⟩ => show _ = b.val; simp only [idx_main_v79]; omega
    | ⟨1, _⟩ => show _ = n.val; simp only [idx_main_v79]; omega
    | ⟨2, _⟩ => show _ = d.val; simp only [idx_main_v79]; omega
  rw [e, row_at]
  simp only [dot_at]
  have ep : (fun d => val_main_v26 (F := Ideal) x0 x1 x2 (ix3 b n d)) = modd (fun d => x0 (ix3 b n d)) (fun d => x2 (ix2 1 d))
      (fun d => x1 (ix3 b 0 ⟨2048 + d.val, by omega⟩)) (fun d => x1 (ix3 b 0 ⟨d.val, by omega⟩)) := funext fun d => pre_at x0 x1 x2 b n d
  rw [ep]

end Cert.InpReferenceIdeal.Val
-- ==== Proof.InpTie.lean ====
/- The input projection's call beside its reference: both results are the row function applied row by row. -/
module

public import proofs.«01_k».proof.Proof.InpKer
public import proofs.«01_k».proof.Proof.InpRef
public import proofs.«01_k».proof.Proof.Gen.InpReferenceIdeal.Run

@[expose] public section

noncomputable section

namespace Cert.InpTie

open Cert.InpIdeal Cert.InpIdeal.Gen Idealize.ShloMosaic Idealize.ShloMosaic.TcCoe Idealize.SL.Sem Cert.MlpSpec Cert.InpSpec

theorem ix_6 : ∀ t : Fin cfg0.N, win0_6.index t = ![t.val, 0] := (by decide +kernel : ∀ t : Fin grid0.N, _)
theorem fl_6 : ∀ t : Fin cfg0.N, (cfg0.win 6).flush t = true := (by decide +kernel : ∀ t : Fin grid0.N, win0_6.flush t = true)

theorem mem_6 (t : Fin cfg0.N) (i : S8192x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v8).slice (win0_6.rect t)).set ↔ _
  rw [View.set_slice_whole, Rect.mem_set_unit]
  exact Iff.rfl

/-- Every index of the result lies in a point's block. -/
theorem cover_6 (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have ht : (i 0).val / 512 < cfg0.N := lt_of_lt_of_eq (by omega) N_0.symm
  refine ⟨⟨(i 0).val / 512, ht⟩, fl_6 _, ?_⟩
  rw [mem_6, ix_6]
  intro a
  match a with
  | ⟨0, _⟩ => show (i 0).val / 512 * 512 ≤ (i 0).val ∧ (i 0).val < (i 0).val / 512 * 512 + 512; omega
  | ⟨1, _⟩ => show 0 * 4096 ≤ (i 1).val ∧ (i 1).val < 0 * 4096 + 4096; omega

/-- The call's result array is the reference's result on the same arguments. -/
theorem tie (m : (ℓ : Loc nD τ sig) → Buf (Elt Ideal) ℓ) (c : Dev nD) :
    (dats m 0 c).arrAt 6 cfg0.N = (Cert.InpReferenceIdeal.Read.val_main_v80 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      : Buf (Elt Ideal) ((c : Thread nD τ).loc main_v8)) := by
  refine (dats m 0 c).arrAt_eq_of_cover 6 _ (fun t _ => ?_) cover_6
  rw [Cert.InpIdeal.Value.flushed6]
  funext y
  have hN : t.val < 16 := lt_of_lt_of_eq t.isLt N_0
  have hy0 : (y 0).val < 512 := (y 0).isLt
  have hy1 : (y 1).val < 4096 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 4096 + 1 * (y 1).val := rfl
  have e0 : win0_6.index t (0 : Fin 2) = t.val := congrFun (ix_6 t) 0
  have e1 : win0_6.index t (1 : Fin 2) = 0 := congrFun (ix_6 t) 1
  have hl : (cfg0.win 6).xinj (grid0.coords t) y = ix2 ⟨(y 0).val, hy0⟩ ⟨(y 1).val, hy1⟩ := by
    funext a
    match a with
    | ⟨0, _⟩ => rfl
    | ⟨1, _⟩ => rfl
  show (outsAt0 m c t.val t.isLt).1 ((cfg0.win 6).xinj (grid0.coords t) y)
    = Cert.InpReferenceIdeal.Read.val_main_v80 (F := Ideal) _ _ _ _ _ _ (((cfg0.win 6).blk t).view.emb y)
  rw [hl, Cert.InpReferenceIdeal.Val.res_at _ _ _ _ _ _ ⟨t.val / 4, by omega⟩ ⟨t.val % 4 * 512 + (y 0).val, by omega⟩ ⟨(y 1).val, hy1⟩
    (((cfg0.win 6).blk t).view.emb y) (by rw [hb0, e0]; show t.val * 512 + 1 * (y 0).val = 2048 * (t.val / 4) + (t.val % 4 * 512 + (y 0).val); omega)
    (by rw [hb1, e1]; show 0 * 4096 + 1 * (y 1).val = (y 1).val; omega)]
  exact Cert.InpIdeal.Val.last_at m c t _ _ _ _ rfl rfl

end Cert.InpTie
-- ==== Proof.Inp0Pay.lean ====
/- The first layer's input projection: its payloads read at an index: the product of the normed rows with a chunk of the weights, the
   rotation of a lane group, the gate. -/
module

public import proofs.«01_k».proof.Proof.Gen.Inp0Ideal.Skeleton
public import proofs.«01_k».proof.Proof.InpSpec

@[expose] public section

noncomputable section

namespace Cert.Inp0Ideal.Val

open Cert.Inp0Ideal Cert.Inp0Ideal.Gen Idealize.ShloMosaic Cert.MlpSpec Cert.InpSpec

theorem pre_at (x : Vec Ideal S512x2048 .f32) (g : Vec Ideal S1x1x2048 .f32) (sc sh : Vec Ideal S1x1x1x1x2048 .f32) (r : Fin 512) (d : Fin 2048) :
    k0_pay3 x g sc sh (ix2 r d) = modd (fun d => x (ix2 r d)) (fun d => g (ix3 0 0 d)) (fun d => sc (ix5 0 0 0 0 d)) (fun d => sh (ix5 0 0 0 0 d)) d := by
  pointwise [k0_pay3, modd, rms]

section
variable (h : FVec Ideal S512x2048 .bf16) (w w' : Vec Ideal S2048x512 .bf16)

theorem pay5_at (r j : Fin 512) : k0_pay5 h w (ix2 r j) = ∑ k, h (ix2 r k) * w (ix2 k j) := by
  pointwise [k0_pay5]

theorem acc_at (r j : Fin 512) : k0_pay11 h w (ix2 r j) = ∑ k, h (ix2 r k) * w (ix2 k j) := by
  pointwise [k0_pay11]

theorem gate_at (r j : Fin 512) : k0_pay9 h (k0_pay7 h w) w' (ix2 r j)
    = (∑ k, h (ix2 r k) * w (ix2 k j)) * Ideal.logistic (∑ k, h (ix2 r k) * w' (ix2 k j)) := by
  pointwise [k0_pay9, k0_pay7]

end

theorem wgt_at (w : Vec Ideal S1x2048x512 .f32) (k : Fin 2048) (j : Fin 512) : k0_pay4 w (ix2 k j) = w (ix3 0 k j) := by
  pointwise [k0_pay4]

/-- The lane mask: the first half of each group of 64 lanes. -/
theorem mask_at (r : Fin 512) (l : Fin 128) : k0_pay14 (ix2 r l) = if l.val % 64 < 32 then 1#1 else 0#1 := by
  have e : ∀ l : Fin 128, k0_pay14 (ix2 0 l) = if l.val % 64 < 32 then 1#1 else 0#1 := by decide +kernel
  rw [← e l]
  rfl

/-- The lane paired with a lane. -/
def pair (l : Fin 128) : Fin 128 := if h : l.val % 64 < 32 then ⟨l.val + 32, by omega⟩ else ⟨l.val - 32, by omega⟩

/-- One lane group turned: the group against the cosines plus its paired lanes against the signed sines. -/
def turn (c s : Vec Ideal S512x128 .f32) (t : FVec Ideal S512x128 .f32) : FVec Ideal S512x128 .bf16 :=
  k0_pay19 (k0_pay12 c) (k0_pay13 s) k0_pay14 t (dynamicRotate 1 96#32 none t rotates_S512x128_d1) 32#32

theorem turn_at (c s : Vec Ideal S512x128 .f32) (t : FVec Ideal S512x128 .f32) (r : Fin 512) (l : Fin 128) :
    turn c s t (ix2 r l) = t (ix2 r l) * c (ix2 r l) + t (ix2 r (pair l)) * s (ix2 r l) := by
  unfold turn
  have e := mask_at r l
  generalize k0_pay14 = M at e
  pointwise [k0_pay19, k0_pay12, k0_pay13]
  rw [e]
  unfold pair
  by_cases h : l.val % 64 < 32
  · rw [if_pos h, dif_pos h]
    refine congrArg (fun z => _ + z * _) ((show Scalar.select 1#1 _ _ = _ from rfl).trans (congrArg t (congrArg (ix2 r) (Fin.ext ?_))))
    show (l.val + 128 - 96) % 128 = l.val + 32
    omega
  · rw [if_neg h, dif_neg h]
    refine congrArg (fun z => _ + z * _) ((show Scalar.select 0#1 _ _ = _ from rfl).trans (congrArg t (congrArg (ix2 r) (Fin.ext ?_))))
    show (l.val + 128 - 32) % 128 = l.val - 32
    omega

theorem slice_at (a : FVec Ideal S512x512 .f32) (r : Fin 512) (l : Fin 128) :
    (extractStridedSlice S512x128 ![0, 0] a slices_S512x512_o0_0_S512x128 : FVec Ideal S512x128 .f32) (ix2 r l) = a (ix2 r ⟨l.val, by omega⟩)
    ∧ (extractStridedSlice S512x128 ![0, 128] a slices_S512x512_o0_128_S512x128 : FVec Ideal S512x128 .f32) (ix2 r l) = a (ix2 r ⟨128 + l.val, by omega⟩)
    ∧ (extractStridedSlice S512x128 ![0, 256] a slices_S512x512_o0_256_S512x128 : FVec Ideal S512x128 .f32) (ix2 r l) = a (ix2 r ⟨256 + l.val, by omega⟩)
    ∧ (extractStridedSlice S512x128 ![0, 384] a slices_S512x512_o0_384_S512x128 : FVec Ideal S512x128 .f32) (ix2 r l) = a (ix2 r ⟨384 + l.val, by omega⟩) := by
  refine ⟨?_, ?_, ?_, ?_⟩ <;> pointwise

end Cert.Inp0Ideal.Val
-- ==== Proof.Inp0Ker.lean ====
/- The first layer's input projection: its call at an index, the carried weights, the twenty tiles of a block, the host's operands. -/
module

public import proofs.«01_k».proof.Proof.Inp0Pay
public import proofs.«01_k».proof.Proof.Gen.Inp0Ideal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.Inp0Ideal.Val

open Cert.Inp0Ideal Cert.Inp0Ideal.Gen Idealize.ShloMosaic Idealize.ShloMosaic.TcCoe Idealize.SL.Sem Cert.MlpSpec Cert.InpSpec
open Idealize.ShloMosaic.Pipeline (Dat)

variable (m : (ℓ : Loc nD τ sig) → Buf (Elt Ideal) ℓ) (c : Dev nD)

/-- One chunk of the layer's weights, as its copy reads it. -/
def wch (o : ℕ) (inb : ∀ a, (![0, 0, o] : Fin 3 → ℕ) a + (![1, 2048, 512] : Fin 3 → ℕ) a ≤ S2x2048x4608.size a) : Vec Ideal S1x2048x512 .f32 :=
  ReadAs.same.apply (View.read (Elt Ideal) ((View.whole main_arg3).slice (Rect.unit ![0, 0, o] ![1, 2048, 512] inb)) (V m c main_arg3))

/-- A read of one stage slot passes over the other slot's last copy. -/
theorem skip_10 {κ : Kind} {sp : Space} (v : View sig κ sp S2x2048x512 .f32) (w : Vec Ideal S1x2048x512 .f32) (L : List (View.Piece (Elt Ideal) S2x2048x512 .f32)) :
    v.readCov ((⟨Rect.unit ![1, 0, 0] ![1, 2048, 512] inb_S2x2048x512_S1x2048x512_1_0_0, w⟩ : View.Piece (Elt Ideal) S2x2048x512 .f32) :: L)
        (Rect.unit ![0, 0, 0] ![1, 2048, 512] inb_S2x2048x512_S1x2048x512_0_0_0).toLoadRect
      = v.readCov L (Rect.unit ![0, 0, 0] ![1, 2048, 512] inb_S2x2048x512_S1x2048x512_0_0_0).toLoadRect :=
  View.readCov_cons_of_disjoint v _ L _ (Rect.unit_disjoint (inb := inb_S2x2048x512_S1x2048x512_1_0_0) (inb' := inb_S2x2048x512_S1x2048x512_0_0_0) 0 (by decide))

theorem skip_01 {κ : Kind} {sp : Space} (v : View sig κ sp S2x2048x512 .f32) (w : Vec Ideal S1x2048x512 .f32) (L : List (View.Piece (Elt Ideal) S2x2048x512 .f32)) :
    v.readCov ((⟨Rect.unit ![0, 0, 0] ![1, 2048, 512] inb_S2x2048x512_S1x2048x512_0_0_0, w⟩ : View.Piece (Elt Ideal) S2x2048x512 .f32) :: L)
        (Rect.unit ![1, 0, 0] ![1, 2048, 512] inb_S2x2048x512_S1x2048x512_1_0_0).toLoadRect
      = v.readCov L (Rect.unit ![1, 0, 0] ![1, 2048, 512] inb_S2x2048x512_S1x2048x512_1_0_0).toLoadRect :=
  View.readCov_cons_of_disjoint v _ L _ (Rect.unit_disjoint (inb := inb_S2x2048x512_S1x2048x512_0_0_0) (inb' := inb_S2x2048x512_S1x2048x512_1_0_0) 0 (by decide))

/-- What a first point's nine stores leave in the scratch. -/
def scrW : Vec Ideal S2048x4608 .bf16 :=
  View.canon (Val := Elt Ideal) (e := .bf16)
    [⟨Rect.unit ![0, 4096] ![2048, 512] inb_S2048x4608_S2048x512_0_4096, k0_pay4 (wch m c 4096 inb_S2x2048x4608_S1x2048x512_0_0_4096)⟩,
      ⟨Rect.unit ![0, 3584] ![2048, 512] inb_S2048x4608_S2048x512_0_3584, k0_pay4 (wch m c 3584 inb_S2x2048x4608_S1x2048x512_0_0_3584)⟩,
      ⟨Rect.unit ![0, 3072] ![2048, 512] inb_S2048x4608_S2048x512_0_3072, k0_pay4 (wch m c 3072 inb_S2x2048x4608_S1x2048x512_0_0_3072)⟩,
      ⟨Rect.unit ![0, 2560] ![2048, 512] inb_S2048x4608_S2048x512_0_2560, k0_pay4 (wch m c 2560 inb_S2x2048x4608_S1x2048x512_0_0_2560)⟩,
      ⟨Rect.unit ![0, 2048] ![2048, 512] inb_S2048x4608_S2048x512_0_2048, k0_pay4 (wch m c 2048 inb_S2x2048x4608_S1x2048x512_0_0_2048)⟩,
      ⟨Rect.unit ![0, 1536] ![2048, 512] inb_S2048x4608_S2048x512_0_1536, k0_pay4 (wch m c 1536 inb_S2x2048x4608_S1x2048x512_0_0_1536)⟩,
      ⟨Rect.unit ![0, 1024] ![2048, 512] inb_S2048x4608_S2048x512_0_1024, k0_pay4 (wch m c 1024 inb_S2x2048x4608_S1x2048x512_0_0_1024)⟩,
      ⟨Rect.unit ![0, 512] ![2048, 512] inb_S2048x4608_S2048x512_0_512, k0_pay4 (wch m c 512 inb_S2x2048x4608_S1x2048x512_0_0_512)⟩,
      ⟨Rect.unit ![0, 0] ![2048, 512] inb_S2048x4608_S2048x512_0_0, k0_pay4 (wch m c 0 inb_S2x2048x4608_S1x2048x512_0_0_0)⟩]

theorem scr_A (t : Fin cfg0.N) (h : t.val % 16 = 0) (h1 : ¬ 1 ≤ t.val) : (outsAt0 m c t.val t.isLt).2 = scrW m c := by
  rw [outsAt0_A m c t h h1]
  unfold scrW
  frame_out [skip_01, skip_10, View.readCov_cons_toLoadRect]
  rfl

theorem scr_s (t : Fin cfg0.N) (h : ¬ t.val % 16 = 0) (h1 : 1 ≤ t.val) :
    (outsAt0 m c t.val t.isLt).2 = (outsAt0 m c (t.val - 1) (Nat.lt_of_le_of_lt (Nat.sub_le _ _) t.isLt)).2 := by
  rw [outsAt0_B m c t h h1]
  rfl

/-- What a grid point's twenty stores leave in the result block, over the normed rows `h`, the nine chunks of the
    weights and the two tables. -/
def outI (h : FVec Ideal S512x2048 .bf16) (w0 w1 w2 w3 w4 w5 w6 w7 w8 : Vec Ideal S2048x512 .bf16) (c s : Vec Ideal S512x128 .f32) : Vec Ideal S512x4096 .bf16 :=
  View.canon (Val := Elt Ideal) (e := .bf16)
    [⟨Rect.unit ![0, 3584] ![512, 512] inb_S512x4096_S512x512_0_3584, k0_pay5 h w8⟩,
      ⟨Rect.unit ![0, 3072] ![512, 512] inb_S512x4096_S512x512_0_3072, k0_pay5 h w7⟩,
      ⟨Rect.unit ![0, 2944] ![512, 128] inb_S512x4096_S512x128_0_2944, turn c s (extractStridedSlice S512x128 ![0, 384] (k0_pay11 h w6) slices_S512x512_o0_384_S512x128)⟩,
      ⟨Rect.unit ![0, 2816] ![512, 128] inb_S512x4096_S512x128_0_2816, turn c s (extractStridedSlice S512x128 ![0, 256] (k0_pay11 h w6) slices_S512x512_o0_256_S512x128)⟩,
      ⟨Rect.unit ![0, 2688] ![512, 128] inb_S512x4096_S512x128_0_2688, turn c s (extractStridedSlice S512x128 ![0, 128] (k0_pay11 h w6) slices_S512x512_o0_128_S512x128)⟩,
      ⟨Rect.unit ![0, 2560] ![512, 128] inb_S512x4096_S512x128_0_2560, turn c s (extractStridedSlice S512x128 ![0, 0] (k0_pay11 h w6) slices_S512x512_o0_0_S512x128)⟩,
      ⟨Rect.unit ![0, 2432] ![512, 128] inb_S512x4096_S512x128_0_2432, turn c s (extractStridedSlice S512x128 ![0, 384] (k0_pay11 h w5) slices_S512x512_o0_384_S512x128)⟩,
      ⟨Rect.unit ![0, 2304] ![512, 128] inb_S512x4096_S512x128_0_2304, turn c s (extractStridedSlice S512x128 ![0, 256] (k0_pay11 h w5) slices_S512x512_o0_256_S512x128)⟩,
      ⟨Rect.unit ![0, 2176] ![512, 128] inb_S512x4096_S512x128_0_2176, turn c s (extractStridedSlice S512x128 ![0, 128] (k0_pay11 h w5) slices_S512x512_o0_128_S512x128)⟩,
      ⟨Rect.unit ![0, 2048] ![512, 128] inb_S512x4096_S512x128_0_2048, turn c s (extractStridedSlice S512x128 ![0, 0] (k0_pay11 h w5) slices_S512x512_o0_0_S512x128)⟩,
      ⟨Rect.unit ![0, 1920] ![512, 128] inb_S512x4096_S512x128_0_1920, turn c s (extractStridedSlice S512x128 ![0, 384] (k0_pay11 h w4) slices_S512x512_o0_384_S512x128)⟩,
      ⟨Rect.unit ![0, 1792] ![512, 128] inb_S512x4096_S512x128_0_1792, turn c s (extractStridedSlice S512x128 ![0, 256] (k0_pay11 h w4) slices_S512x512_o0_256_S512x128)⟩,
      ⟨Rect.unit ![0, 1664] ![512, 128] inb_S512x4096_S512x128_0_1664, turn c s (extractStridedSlice S512x128 ![0, 128] (k0_pay11 h w4) slices_S512x512_o0_128_S512x128)⟩,
      ⟨Rect.unit ![0, 1536] ![512, 128] inb_S512x4096_S512x128_0_1536, turn c s (extractStridedSlice S512x128 ![0, 0] (k0_pay11 h w4) slices_S512x512_o0_0_S512x128)⟩,
      ⟨Rect.unit ![0, 1408] ![512, 128] inb_S512x4096_S512x128_0_1408, turn c s (extractStridedSlice S512x128 ![0, 384] (k0_pay11 h w3) slices_S512x512_o0_384_S512x128)⟩,
      ⟨Rect.unit ![0, 1280] ![512, 128] inb_S512x4096_S512x128_0_1280, turn c s (extractStridedSlice S512x128 ![0, 256] (k0_pay11 h w3) slices_S512x512_o0_256_S512x128)⟩,
      ⟨Rect.unit ![0, 1152] ![512, 128] inb_S512x4096_S512x128_0_1152, turn c s (extractStridedSlice S512x128 ![0, 128] (k0_pay11 h w3) slices_S512x512_o0_128_S512x128)⟩,
      ⟨Rect.unit ![0, 1024] ![512, 128] inb_S512x4096_S512x128_0_1024, turn c s (extractStridedSlice S512x128 ![0, 0] (k0_pay11 h w3) slices_S512x512_o0_0_S512x128)⟩,
      ⟨Rect.unit ![0, 512] ![512, 512] inb_S512x4096_S512x512_0_512, k0_pay9 h (k0_pay7 h w1) w2⟩,
      ⟨Rect.unit ![0, 0] ![512, 512] inb_S512x4096_S512x512_0_0, k0_pay5 h w0⟩]

theorem out_A (t : Fin cfg0.N) (h : t.val % 16 = 0) (h1 : ¬ 1 ≤ t.val) :
    (outsAt0 m c t.val t.isLt).1 = outI (k0_pay3 (iblk m c 0 t) (iblk m c 1 t) (iblk m c 3 t) (iblk m c 2 t))
      (k0_pay4 (wch m c 0 inb_S2x2048x4608_S1x2048x512_0_0_0)) (k0_pay4 (wch m c 512 inb_S2x2048x4608_S1x2048x512_0_0_512)) (k0_pay4 (wch m c 1024 inb_S2x2048x4608_S1x2048x512_0_0_1024)) (k0_pay4 (wch m c 1536 inb_S2x2048x4608_S1x2048x512_0_0_1536)) (k0_pay4 (wch m c 2048 inb_S2x2048x4608_S1x2048x512_0_0_2048)) (k0_pay4 (wch m c 2560 inb_S2x2048x4608_S1x2048x512_0_0_2560)) (k0_pay4 (wch m c 3072 inb_S2x2048x4608_S1x2048x512_0_0_3072)) (k0_pay4 (wch m c 3584 inb_S2x2048x4608_S1x2048x512_0_0_3584)) (k0_pay4 (wch m c 4096 inb_S2x2048x4608_S1x2048x512_0_0_4096))
      (iblk m c 4 t) (iblk m c 5 t) := by
  rw [outsAt0_A m c t h h1]
  unfold outI
  frame_out [skip_01, skip_10, View.readCov_cons_toLoadRect]
  rfl

theorem out_B (t : Fin cfg0.N) (h : ¬ t.val % 16 = 0) (h1 : 1 ≤ t.val) :
    (outsAt0 m c t.val t.isLt).1 = outI (k0_pay3 (iblk m c 0 t) (iblk m c 1 t) (iblk m c 3 t) (iblk m c 2 t))
      (View.ld (outsAt0 m c (t.val - 1) (Nat.lt_of_le_of_lt (Nat.sub_le _ _) t.isLt)).2 (Rect.unit ![0, 0] ![2048, 512] inb_S2048x4608_S2048x512_0_0)) (View.ld (outsAt0 m c (t.val - 1) (Nat.lt_of_le_of_lt (Nat.sub_le _ _) t.isLt)).2 (Rect.unit ![0, 512] ![2048, 512] inb_S2048x4608_S2048x512_0_512)) (View.ld (outsAt0 m c (t.val - 1) (Nat.lt_of_le_of_lt (Nat.sub_le _ _) t.isLt)).2 (Rect.unit ![0, 1024] ![2048, 512] inb_S2048x4608_S2048x512_0_1024)) (View.ld (outsAt0 m c (t.val - 1) (Nat.lt_of_le_of_lt (Nat.sub_le _ _) t.isLt)).2 (Rect.unit ![0, 1536] ![2048, 512] inb_S2048x4608_S2048x512_0_1536)) (View.ld (outsAt0 m c (t.val - 1) (Nat.lt_of_le_of_lt (Nat.sub_le _ _) t.isLt)).2 (Rect.unit ![0, 2048] ![2048, 512] inb_S2048x4608_S2048x512_0_2048)) (View.ld (outsAt0 m c (t.val - 1) (Nat.lt_of_le_of_lt (Nat.sub_le _ _) t.isLt)).2 (Rect.unit ![0, 2560] ![2048, 512] inb_S2048x4608_S2048x512_0_2560)) (View.ld (outsAt0 m c (t.val - 1) (Nat.lt_of_le_of_lt (Nat.sub_le _ _) t.isLt)).2 (Rect.unit ![0, 3072] ![2048, 512] inb_S2048x4608_S2048x512_0_3072)) (View.ld (outsAt0 m c (t.val - 1) (Nat.lt_of_le_of_lt (Nat.sub_le _ _) t.isLt)).2 (Rect.unit ![0, 3584] ![2048, 512] inb_S2048x4608_S2048x512_0_3584)) (View.ld (outsAt0 m c (t.val - 1) (Nat.lt_of_le_of_lt (Nat.sub_le _ _) t.isLt)).2 (Rect.unit ![0, 4096] ![2048, 512] inb_S2048x4608_S2048x512_0_4096))
      (iblk m c 4 t) (iblk m c 5 t) := by
  rw [outsAt0_B m c t h h1]
  unfold outI
  frame_out
  rw [read_unread_whole]
  rfl

/-! ## The carried weights at an index -/

theorem wch_at (o : ℕ) (inb : ∀ a, (![0, 0, o] : Fin 3 → ℕ) a + (![1, 2048, 512] : Fin 3 → ℕ) a ≤ S2x2048x4608.size a)
    (k : Fin 2048) (e : Fin 512) (j : Fin 4608) (hj : j.val = o + e.val) :
    wch m c o inb (ix3 0 k e) = m ((c : Thread nD τ).loc main_arg3) (ix3 0 k j) := by
  refine congrArg (m ((c : Thread nD τ).loc main_arg3)) (funext fun a => ?_)
  match a with
  | ⟨0, _⟩ => rfl
  | ⟨1, _⟩ => exact Fin.ext ((Rect.idx_unit_val ..).trans (Nat.zero_add _))
  | ⟨2, _⟩ => exact Fin.ext ((Rect.idx_unit_val ..).trans hj.symm)

/-- A chunk of the weights: the columns from `o` on. -/
def Chunk (wt : Fin 2048 → Fin 4608 → EReal) (w : Vec Ideal S2048x512 .bf16) (o : ℕ) : Prop :=
  ∀ (k : Fin 2048) (e : Fin 512) (j : Fin 4608), j.val = o + e.val → w (ix2 k e) = wt k j

/-- The layer's weights. -/
def wts (k : Fin 2048) (j : Fin 4608) : EReal := m ((c : Thread nD τ).loc main_arg3) (ix3 0 k j)

theorem chunk_A (o : ℕ) (inb : ∀ a, (![0, 0, o] : Fin 3 → ℕ) a + (![1, 2048, 512] : Fin 3 → ℕ) a ≤ S2x2048x4608.size a) :
    Chunk (wts m c) (k0_pay4 (wch m c o inb)) o :=
  fun k e j hj => (wgt_at _ k e).trans (wch_at m c o inb k e j hj)

theorem ld_at {A B R C : ℕ} {e : EltTy} (x : Vec Ideal ⟨2, ![A, B]⟩ e) (o : ℕ)
    (inb : ∀ a, (![0, o] : Fin 2 → ℕ) a + (![R, C] : Fin 2 → ℕ) a ≤ (⟨2, ![A, B]⟩ : Shape).size a)
    (r : Fin R) (k : Fin C) (i : Fin A) (j : Fin B) (hi : i.val = r.val) (hj : j.val = o + k.val) :
    View.ld x (Rect.unit ![0, o] ![R, C] inb) (ix2 r k) = x (ix2 i j) := by
  rw [View.ld_apply]
  refine congrArg x (funext fun a => ?_)
  match a with
  | ⟨0, _⟩ => exact Fin.ext ((Rect.idx_unit_val ..).trans ((Nat.zero_add _).trans hi.symm))
  | ⟨1, _⟩ => exact Fin.ext ((Rect.idx_unit_val ..).trans hj.symm)

theorem chunk_B (W : Vec Ideal S2048x4608 .bf16) (hW : ∀ k j, W (ix2 k j) = wts m c k j) (o : ℕ)
    (inb : ∀ a, (![0, o] : Fin 2 → ℕ) a + (![2048, 512] : Fin 2 → ℕ) a ≤ S2048x4608.size a) :
    Chunk (wts m c) (View.ld W (Rect.unit ![0, o] ![2048, 512] inb)) o :=
  fun k e j hj => (ld_at W o inb k e k j rfl hj).trans (hW k j)

theorem ix_eta {A B : ℕ} (x : (⟨2, ![A, B]⟩ : Shape).Idx) : ∃ (r : Fin A) (e : Fin B), x = ix2 r e := by
  refine ⟨⟨(x 0).val, (x 0).isLt⟩, ⟨(x 1).val, (x 1).isLt⟩, funext fun a => ?_⟩
  match a with
  | ⟨0, _⟩ => rfl
  | ⟨1, _⟩ => rfl

theorem scrW_at (k : Fin 2048) (j : Fin 4608) : scrW m c (ix2 k j) = wts m c k j := by
  unfold scrW
  canon_tiles x h
  · obtain ⟨r, e, rfl⟩ := ix_eta x
    obtain rfl : k = r := Fin.ext h0
    exact chunk_A m c 4096 _ k e j h1
  · obtain ⟨r, e, rfl⟩ := ix_eta x
    obtain rfl : k = r := Fin.ext h0
    exact chunk_A m c 3584 _ k e j h1
  · obtain ⟨r, e, rfl⟩ := ix_eta x
    obtain rfl : k = r := Fin.ext h0
    exact chunk_A m c 3072 _ k e j h1
  · obtain ⟨r, e, rfl⟩ := ix_eta x
    obtain rfl : k = r := Fin.ext h0
    exact chunk_A m c 2560 _ k e j h1
  · obtain ⟨r, e, rfl⟩ := ix_eta x
    obtain rfl : k = r := Fin.ext h0
    exact chunk_A m c 2048 _ k e j h1
  · obtain ⟨r, e, rfl⟩ := ix_eta x
    obtain rfl : k = r := Fin.ext h0
    exact chunk_A m c 1536 _ k e j h1
  · obtain ⟨r, e, rfl⟩ := ix_eta x
    obtain rfl : k = r := Fin.ext h0
    exact chunk_A m c 1024 _ k e j h1
  · obtain ⟨r, e, rfl⟩ := ix_eta x
    obtain rfl : k = r := Fin.ext h0
    exact chunk_A m c 512 _ k e j h1
  · obtain ⟨r, e, rfl⟩ := ix_eta x
    obtain rfl : k = r := Fin.ext h0
    exact chunk_A m c 0 _ k e j (h1.trans (Nat.zero_add _).symm)

/-- What the scratch holds after every point: the layer's weights. -/
theorem scr_at (t : Fin cfg0.N) (k : Fin 2048) (j : Fin 4608) : (outsAt0 m c t.val t.isLt).2 (ix2 k j) = wts m c k j := by
  have hN : ∀ t : Fin cfg0.N, t.val < 16 := fun t => lt_of_lt_of_eq t.isLt N_0
  rw [Pipeline.eq_of_write_hold_apply (fun n h => (outsAt0 m c n h).2) 16 (fun _ => scrW m c)
    (fun t h i => congrFun (scr_A m c t h (by have := hN t; omega)) i) (fun t h i => congrFun (scr_s m c t h (by omega)) i) t (ix2 k j), scrW_at]

/-! ## The tiles of a block -/

section tiles
variable {h : FVec Ideal S512x2048 .bf16} {wt : Fin 2048 → Fin 4608 → EReal} {w : Vec Ideal S2048x512 .bf16} {o : ℕ}

theorem proj_at (hw : Chunk wt w o) (r : Fin 512) (e : Fin 512) (j : Fin 4608) (hj : j.val = o + e.val) :
    ∑ k, h (ix2 r k) * w (ix2 k e) = proj (fun k => h (ix2 r k)) wt j :=
  Finset.sum_congr rfl fun k _ => congrArg _ (hw k e j hj)

variable {c s : Vec Ideal S512x128 .f32} {cs sn : Fin 32 → EReal} {r : Fin 512}

/-- A turned tile holds rotated channels. -/
theorem turn_tile (hw : Chunk wt w o) (t : FVec Ideal S512x128 .f32) (p : ℕ) (hp : p + 128 ≤ 512)
    (ht : ∀ (l : Fin 128) (e : Fin 512), e.val = p + l.val → t (ix2 r l) = k0_pay11 h w (ix2 r e))
    (hc : ∀ (l : Fin 128) (k : Fin 32), k.val = l.val % 32 → c (ix2 r l) = cs k)
    (hs : ∀ (l : Fin 128) (k : Fin 32), k.val = l.val % 32 → s (ix2 r l) = if l.val % 64 < 32 then - sn k else sn k)
    (q : ℕ) (hq : q + 512 = o + p) (h64 : q % 64 = 0) (hl : 1024 ≤ q) (hr : q + 128 ≤ 3072)
    (l : Fin 128) (d : Fin 4096) (hd : d.val = q + l.val) :
    turn c s t (ix2 r l) = row (proj (fun k => h (ix2 r k)) wt) cs sn d := by
  have e : row (proj (fun k => h (ix2 r k)) wt) cs sn d = rope (proj (fun k => h (ix2 r k)) wt) cs sn d (by omega) (by omega) := by
    unfold row
    rw [dif_neg (by omega), dif_neg (by omega), dif_pos (by omega)]
  have h6 : d.val % 64 = l.val % 64 := by omega
  rw [turn_at, e]
  refine rope_eq _ cs sn d _ _ _ _ _ _ ?_ (fun j hj => ?_) (fun k hk => hc l k (by omega)) (fun k hk => ?_)
  · rw [ht l ⟨p + l.val, by omega⟩ rfl, acc_at]
    exact proj_at hw r _ _ (by show d.val + 512 = o + (p + l.val); omega)
  · rw [ht (pair l) ⟨p + (pair l).val, by omega⟩ rfl, acc_at]
    refine proj_at hw r _ _ ?_
    show j.val = o + (p + (pair l).val)
    rw [hj]
    unfold pair
    by_cases hh : l.val % 64 < 32
    · rw [if_pos (by omega), dif_pos hh]
      show d.val + 512 + 32 = o + (p + (l.val + 32))
      omega
    · rw [if_neg (by omega), dif_neg hh]
      show d.val + 512 - 32 = o + (p + (l.val - 32))
      omega
  · rw [hs l k (by omega), h6]

theorem sl_0 (a : FVec Ideal S512x512 .f32) (r : Fin 512) (l : Fin 128) (e : Fin 512) (he : e.val = 0 + l.val) :
    (extractStridedSlice S512x128 ![0, 0] a slices_S512x512_o0_0_S512x128 : FVec Ideal S512x128 .f32) (ix2 r l) = a (ix2 r e) :=
  (slice_at a r l).1.trans (congrArg (fun e => a (ix2 r e)) (Fin.ext (he.trans (Nat.zero_add _)).symm))

theorem sl_128 (a : FVec Ideal S512x512 .f32) (r : Fin 512) (l : Fin 128) (e : Fin 512) (he : e.val = 128 + l.val) :
    (extractStridedSlice S512x128 ![0, 128] a slices_S512x512_o0_128_S512x128 : FVec Ideal S512x128 .f32) (ix2 r l) = a (ix2 r e) :=
  (slice_at a r l).2.1.trans (congrArg (fun e => a (ix2 r e)) (Fin.ext (he).symm))

theorem sl_256 (a : FVec Ideal S512x512 .f32) (r : Fin 512) (l : Fin 128) (e : Fin 512) (he : e.val = 256 + l.val) :
    (extractStridedSlice S512x128 ![0, 256] a slices_S512x512_o0_256_S512x128 : FVec Ideal S512x128 .f32) (ix2 r l) = a (ix2 r e) :=
  (slice_at a r l).2.2.1.trans (congrArg (fun e => a (ix2 r e)) (Fin.ext (he).symm))

theorem sl_384 (a : FVec Ideal S512x512 .f32) (r : Fin 512) (l : Fin 128) (e : Fin 512) (he : e.val = 384 + l.val) :
    (extractStridedSlice S512x128 ![0, 384] a slices_S512x512_o0_384_S512x128 : FVec Ideal S512x128 .f32) (ix2 r l) = a (ix2 r e) :=
  (slice_at a r l).2.2.2.trans (congrArg (fun e => a (ix2 r e)) (Fin.ext (he).symm))

/-- The block's entry is the row function's channel. -/
theorem outI_at (h : FVec Ideal S512x2048 .bf16) (w0 w1 w2 w3 w4 w5 w6 w7 w8 : Vec Ideal S2048x512 .bf16) (c s : Vec Ideal S512x128 .f32)
    (wt : Fin 2048 → Fin 4608 → EReal) (cs sn : Fin 32 → EReal) (r : Fin 512) (d : Fin 4096)
    (k0 : Chunk wt w0 0)    (k1 : Chunk wt w1 512)    (k2 : Chunk wt w2 1024)
    (k3 : Chunk wt w3 1536)    (k4 : Chunk wt w4 2048)    (k5 : Chunk wt w5 2560)
    (k6 : Chunk wt w6 3072)    (k7 : Chunk wt w7 3584)    (k8 : Chunk wt w8 4096)
    (hc : ∀ (l : Fin 128) (k : Fin 32), k.val = l.val % 32 → c (ix2 r l) = cs k)
    (hs : ∀ (l : Fin 128) (k : Fin 32), k.val = l.val % 32 → s (ix2 r l) = if l.val % 64 < 32 then - sn k else sn k) :
    outI h w0 w1 w2 w3 w4 w5 w6 w7 w8 c s (ix2 r d) = row (proj (fun k => h (ix2 r k)) wt) cs sn d := by
  unfold outI
  canon_tiles x h using View.cover_of_tiledBy _ ![512, 128] (by sl_kernel_rfl) (ix2 r d)
  · obtain ⟨r', e, rfl⟩ := ix_eta x
    obtain rfl : r = r' := Fin.ext h0
    have he := e.isLt
    replace h1 : d.val = 3584 + e.val := h1
    rw [pay5_at, proj_at k8 r e ⟨d.val + 512, by omega⟩ (by show d.val + 512 = _; omega)]
    unfold row
    rw [dif_neg (by omega), dif_neg (by omega), dif_neg (by omega)]
    rfl
  · obtain ⟨r', e, rfl⟩ := ix_eta x
    obtain rfl : r = r' := Fin.ext h0
    have he := e.isLt
    replace h1 : d.val = 3072 + e.val := h1
    rw [pay5_at, proj_at k7 r e ⟨d.val + 512, by omega⟩ (by show d.val + 512 = _; omega)]
    unfold row
    rw [dif_neg (by omega), dif_neg (by omega), dif_neg (by omega)]
    rfl
  · obtain ⟨r', e, rfl⟩ := ix_eta x
    obtain rfl : r = r' := Fin.ext h0
    have he := e.isLt
    replace h1 : d.val = 2944 + e.val := h1
    exact turn_tile k6 _ 384 (by decide) (fun l e he => sl_384 _ r l e he) hc hs 2944 (by decide) (by decide) (by decide) (by decide) e d h1
  · obtain ⟨r', e, rfl⟩ := ix_eta x
    obtain rfl : r = r' := Fin.ext h0
    have he := e.isLt
    replace h1 : d.val = 2816 + e.val := h1
    exact turn_tile k6 _ 256 (by decide) (fun l e he => sl_256 _ r l e he) hc hs 2816 (by decide) (by decide) (by decide) (by decide) e d h1
  · obtain ⟨r', e, rfl⟩ := ix_eta x
    obtain rfl : r = r' := Fin.ext h0
    have he := e.isLt
    replace h1 : d.val = 2688 + e.val := h1
    exact turn_tile k6 _ 128 (by decide) (fun l e he => sl_128 _ r l e he) hc hs 2688 (by decide) (by decide) (by decide) (by decide) e d h1
  · obtain ⟨r', e, rfl⟩ := ix_eta x
    obtain rfl : r = r' := Fin.ext h0
    have he := e.isLt
    replace h1 : d.val = 2560 + e.val := h1
    exact turn_tile k6 _ 0 (by decide) (fun l e he => sl_0 _ r l e he) hc hs 2560 (by decide) (by decide) (by decide) (by decide) e d h1
  · obtain ⟨r', e, rfl⟩ := ix_eta x
    obtain rfl : r = r' := Fin.ext h0
    have he := e.isLt
    replace h1 : d.val = 2432 + e.val := h1
    exact turn_tile k5 _ 384 (by decide) (fun l e he => sl_384 _ r l e he) hc hs 2432 (by decide) (by decide) (by decide) (by decide) e d h1
  · obtain ⟨r', e, rfl⟩ := ix_eta x
    obtain rfl : r = r' := Fin.ext h0
    have he := e.isLt
    replace h1 : d.val = 2304 + e.val := h1
    exact turn_tile k5 _ 256 (by decide) (fun l e he => sl_256 _ r l e he) hc hs 2304 (by decide) (by decide) (by decide) (by decide) e d h1
  · obtain ⟨r', e, rfl⟩ := ix_eta x
    obtain rfl : r = r' := Fin.ext h0
    have he := e.isLt
    replace h1 : d.val = 2176 + e.val := h1
    exact turn_tile k5 _ 128 (by decide) (fun l e he => sl_128 _ r l e he) hc hs 2176 (by decide) (by decide) (by decide) (by decide) e d h1
  · obtain ⟨r', e, rfl⟩ := ix_eta x
    obtain rfl : r = r' := Fin.ext h0
    have he := e.isLt
    replace h1 : d.val = 2048 + e.val := h1
    exact turn_tile k5 _ 0 (by decide) (fun l e he => sl_0 _ r l e he) hc hs 2048 (by decide) (by decide) (by decide) (by decide) e d h1
  · obtain ⟨r', e, rfl⟩ := ix_eta x
    obtain rfl : r = r' := Fin.ext h0
    have he := e.isLt
    replace h1 : d.val = 1920 + e.val := h1
    exact turn_tile k4 _ 384 (by decide) (fun l e he => sl_384 _ r l e he) hc hs 1920 (by decide) (by decide) (by decide) (by decide) e d h1
  · obtain ⟨r', e, rfl⟩ := ix_eta x
    obtain rfl : r = r' := Fin.ext h0
    have he := e.isLt
    replace h1 : d.val = 1792 + e.val := h1
    exact turn_tile k4 _ 256 (by decide) (fun l e he => sl_256 _ r l e he) hc hs 1792 (by decide) (by decide) (by decide) (by decide) e d h1
  · obtain ⟨r', e, rfl⟩ := ix_eta x
    obtain rfl : r = r' := Fin.ext h0
    have he := e.isLt
    replace h1 : d.val = 1664 + e.val := h1
    exact turn_tile k4 _ 128 (by decide) (fun l e he => sl_128 _ r l e he) hc hs 1664 (by decide) (by decide) (by decide) (by decide) e d h1
  · obtain ⟨r', e, rfl⟩ := ix_eta x
    obtain rfl : r = r' := Fin.ext h0
    have he := e.isLt
    replace h1 : d.val = 1536 + e.val := h1
    exact turn_tile k4 _ 0 (by decide) (fun l e he => sl_0 _ r l e he) hc hs 1536 (by decide) (by decide) (by decide) (by decide) e d h1
  · obtain ⟨r', e, rfl⟩ := ix_eta x
    obtain rfl : r = r' := Fin.ext h0
    have he := e.isLt
    replace h1 : d.val = 1408 + e.val := h1
    exact turn_tile k3 _ 384 (by decide) (fun l e he => sl_384 _ r l e he) hc hs 1408 (by decide) (by decide) (by decide) (by decide) e d h1
  · obtain ⟨r', e, rfl⟩ := ix_eta x
    obtain rfl : r = r' := Fin.ext h0
    have he := e.isLt
    replace h1 : d.val = 1280 + e.val := h1
    exact turn_tile k3 _ 256 (by decide) (fun l e he => sl_256 _ r l e he) hc hs 1280 (by decide) (by decide) (by decide) (by decide) e d h1
  · obtain ⟨r', e, rfl⟩ := ix_eta x
    obtain rfl : r = r' := Fin.ext h0
    have he := e.isLt
    replace h1 : d.val = 1152 + e.val := h1
    exact turn_tile k3 _ 128 (by decide) (fun l e he => sl_128 _ r l e he) hc hs 1152 (by decide) (by decide) (by decide) (by decide) e d h1
  · obtain ⟨r', e, rfl⟩ := ix_eta x
    obtain rfl : r = r' := Fin.ext h0
    have he := e.isLt
    replace h1 : d.val = 1024 + e.val := h1
    exact turn_tile k3 _ 0 (by decide) (fun l e he => sl_0 _ r l e he) hc hs 1024 (by decide) (by decide) (by decide) (by decide) e d h1
  · obtain ⟨r', e, rfl⟩ := ix_eta x
    obtain rfl : r = r' := Fin.ext h0
    have he := e.isLt
    replace h1 : d.val = 512 + e.val := h1
    rw [gate_at, proj_at k1 r e ⟨d.val, by omega⟩ (by show d.val = _; omega), proj_at k2 r e ⟨d.val + 512, by omega⟩ (by show d.val + 512 = _; omega)]
    unfold row
    rw [dif_neg (by omega), dif_pos (by omega)]
  · obtain ⟨r', e, rfl⟩ := ix_eta x
    obtain rfl : r = r' := Fin.ext h0
    have he := e.isLt
    replace h1 : d.val = 0 + e.val := h1.trans (Nat.zero_add _).symm
    rw [pay5_at, proj_at k0 r e ⟨d.val, by omega⟩ (by show d.val = _; omega)]
    unfold row
    rw [dif_pos (by omega)]

end tiles

/-! ## The blocks at an index -/

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![0, 0, 0, 0, 0] ![1, 4, 0, 0, 0] ![0, 0, 0, 0, 0]
      (shapeCast S1x4x6x1x2048 x shapeCasts_S4x1x12288_S1x4x6x1x2048) z
      pads_S1x4x6x1x2048_S2x8x6x1x2048_010_040_000_000_000 h_S_ (ix5 0 b k 0 d) = x (ix3 ⟨b.val, hb⟩ 0 ⟨k.val * 2048 + d.val, by omega⟩) := by
  pointwise
  rw [dif_pos hb]

theorem V_v2 (b : Fin 4) (n d : Fin 2048) (R : Fin 8192) (h : R.val = 2048 * b.val + n.val) :
    V m c main_v2 (ix2 R d) = m ((c : Thread nD τ).loc main_arg0) (ix3 b n d) := by
  have e : V m c main_v2 = shapeCast S8192x2048 (m ((c : Thread nD τ).loc main_arg0)) shapeCasts_S4x2048x2048_S8192x2048 := rfl
  rw [e]
  exact flat_at _ b n d R h

theorem V_v7 (l : Fin 2) (d : Fin 2048) : V m c main_v7 (ix3 l 0 d) = m ((c : Thread nD τ).loc main_arg2) (ix2 l d) := by
  have e : V m c main_v7 = shapeCast S2x1x2048 (m ((c : Thread nD τ).loc main_arg2)) shapeCasts_S2x2048_S2x1x2048 := rfl
  rw [e]
  exact row_at _ l d

/-- The modulation vectors of the layer, behind the padding. -/
theorem V_v1 (b : Fin 8) (hb : b.val < 4) (k : Fin 6) (d : Fin 2048) :
    V m c main_v1 (ix5 0 b k 0 d) = m ((c : Thread nD τ).loc main_arg1) (ix3 ⟨b.val, hb⟩ 0 ⟨k.val * 2048 + d.val, by omega⟩) := by
  have e : ∃ z, V m c main_v1 = pad S2x8x6x1x2048 ![0, 0, 0, 0, 0] ![1, 4, 0, 0, 0] ![0, 0, 0, 0, 0]
      (shapeCast S1x4x6x1x2048 (m ((c : Thread nD τ).loc main_arg1)) shapeCasts_S4x1x12288_S1x4x6x1x2048) z
      pads_S1x4x6x1x2048_S2x8x6x1x2048_010_040_000_000_000 h_S_ := ⟨_, rfl⟩
  obtain ⟨z, e⟩ := e
  rw [e]
  exact pad_at _ z b hb k d

/-- A table spread over the lanes: four copies side by side. -/
theorem cat_at (x0 x1 x2 x3 : Vec Ideal S2048x32 .f32) (n : Fin 2048) (l : Fin 128) (k : Fin 32) (hk : k.val = l.val % 32) :
    (concatenate S2048x128 1 [⟨S2048x32, x0⟩, ⟨S2048x32, x1⟩, ⟨S2048x32, x2⟩, ⟨S2048x32, x3⟩] concatenates_S2048x32_S2048x32_S2048x32_S2048x32_S2048x128_d1 : Vec Ideal S2048x128 .f32) (ix2 n l)
      = if l.val < 32 then x0 (ix2 n k) else if l.val < 64 then x1 (ix2 n k) else if l.val < 96 then x2 (ix2 n k) else x3 (ix2 n k) := by
  pointwise
  have hl := l.isLt
  split_ifs <;> first | (exfalso; omega) | skip
  · rw [show (⟨l.val, by omega⟩ : Fin 32) = k from Fin.ext (by show l.val = k.val; omega)]
  · rw [show (⟨l.val - 32, by omega⟩ : Fin 32) = k from Fin.ext (by show l.val - 32 = k.val; omega), if_pos (by omega)]
  · rw [show (⟨l.val - 32 - 32, by omega⟩ : Fin 32) = k from Fin.ext (by show l.val - 32 - 32 = k.val; omega), if_neg (by omega), if_pos (by omega)]
  · rw [show (⟨l.val - 32 - 32 - 32, by omega⟩ : Fin 32) = k from Fin.ext (by show l.val - 32 - 32 - 32 = k.val; omega), if_neg (by omega), if_neg (by omega)]

theorem V_v3 (n : Fin 2048) (l : Fin 128) (k : Fin 32) (hk : k.val = l.val % 32) :
    V m c main_v3 (ix2 n l) = m ((c : Thread nD τ).loc main_arg4) (ix2 n k) := by
  have e : V m c main_v3 = (concatenate S2048x128 1 [⟨S2048x32, m ((c : Thread nD τ).loc main_arg4)⟩, ⟨S2048x32, m ((c : Thread nD τ).loc main_arg4)⟩,
      ⟨S2048x32, m ((c : Thread nD τ).loc main_arg4)⟩, ⟨S2048x32, m ((c : Thread nD τ).loc main_arg4)⟩]
      concatenates_S2048x32_S2048x32_S2048x32_S2048x32_S2048x128_d1 : Vec Ideal S2048x128 .f32) := rfl
  rw [e, cat_at _ _ _ _ n l k hk]
  split_ifs <;> rfl

theorem V_v6 (n : Fin 2048) (l : Fin 128) (k : Fin 32) (hk : k.val = l.val % 32) :
    V m c main_v6 (ix2 n l) = if l.val % 64 < 32 then Neg.neg (α := EReal) (m ((c : Thread nD τ).loc main_arg5) (ix2 n k)) else m ((c : Thread nD τ).loc main_arg5) (ix2 n k) := by
  have e : V m c main_v6 = (concatenate S2048x128 1 [⟨S2048x32, (Host.negf (m ((c : Thread nD τ).loc main_arg5) : FVec Ideal S2048x32 .f32) : FVec Ideal S2048x32 .f32)⟩, ⟨S2048x32, m ((c : Thread nD τ).loc main_arg5)⟩,
      ⟨S2048x32, (Host.negf (m ((c : Thread nD τ).loc main_arg5) : FVec Ideal S2048x32 .f32) : FVec Ideal S2048x32 .f32)⟩, ⟨S2048x32, m ((c : Thread nD τ).loc main_arg5)⟩]
      concatenates_S2048x32_S2048x32_S2048x32_S2048x32_S2048x128_d1 : Vec Ideal S2048x128 .f32) := rfl
  rw [e, cat_at _ _ _ _ n l k hk]
  have hl := l.isLt
  split_ifs <;> first | (exfalso; omega) | rfl

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, t.val / 4, 0, 0, 0] := (by decide +kernel : ∀ t : Fin grid0.N, _)
theorem ix_3 : ∀ t : Fin cfg0.N, win0_3.index t = ![0, t.val / 4, 1, 0, 0] := (by decide +kernel : ∀ t : Fin grid0.N, _)
theorem ix_4 : ∀ t : Fin cfg0.N, win0_4.index t = ![t.val % 4, 0] := (by decide +kernel : ∀ t : Fin grid0.N, _)
theorem ix_5 : ∀ t : Fin cfg0.N, win0_5.index t = ![t.val % 4, 0] := (by decide +kernel : ∀ t : Fin grid0.N, _)

theorem blk_0 (t : Fin cfg0.N) (b : Fin 4) (n : Fin 2048) (r : Fin 512) (d : Fin 2048) (hb : b.val = t.val / 4) (hn : n.val = t.val % 4 * 512 + r.val) :
    iblk m c 0 t (ix2 r d) = m ((c : Thread nD τ).loc main_arg0) (ix3 b n d) := by
  have ht : t.val < 16 := lt_of_lt_of_eq t.isLt N_0
  rw [← V_v2 m c b n d ⟨t.val * 512 + r.val, by omega⟩ (by show t.val * 512 + r.val = _; omega)]
  blk_ext [iblk, ix_0 t]

theorem blk_1 (t : Fin cfg0.N) (d : Fin 2048) : iblk m c 1 t (ix3 0 0 d) = m ((c : Thread nD τ).loc main_arg2) (ix2 0 d) := by
  refine Eq.trans ?_ (V_v7 m c 0 d)
  blk_ext [iblk, ix_1 t]

theorem blk_2 (t : Fin cfg0.N) (b : Fin 4) (d : Fin 2048) (hb : b.val = t.val / 4) :
    iblk m c 2 t (ix5 0 0 0 0 d) = m ((c : Thread nD τ).loc main_arg1) (ix3 b 0 ⟨d.val, by omega⟩) := by
  refine Eq.trans ?_ ((V_v1 m c ⟨b.val, by omega⟩ b.isLt 0 d).trans (congrArg (fun e => m ((c : Thread nD τ).loc main_arg1) (ix3 b 0 e)) (Fin.ext (by show 0 * 2048 + d.val = d.val; omega))))
  blk_ext [iblk, ix_2 t]

theorem blk_3 (t : Fin cfg0.N) (b : Fin 4) (d : Fin 2048) (hb : b.val = t.val / 4) :
    iblk m c 3 t (ix5 0 0 0 0 d) = m ((c : Thread nD τ).loc main_arg1) (ix3 b 0 ⟨2048 + d.val, by omega⟩) := by
  refine Eq.trans ?_ (V_v1 m c ⟨b.val, by omega⟩ b.isLt 1 d)
  blk_ext [iblk, ix_3 t]

theorem blk_4 (t : Fin cfg0.N) (n : Fin 2048) (r : Fin 512) (l : Fin 128) (k : Fin 32) (hk : k.val = l.val % 32) (hn : n.val = t.val % 4 * 512 + r.val) :
    iblk m c 4 t (ix2 r l) = m ((c : Thread nD τ).loc main_arg4) (ix2 n k) := by
  rw [← V_v3 m c n l k hk]
  blk_ext [iblk, ix_4 t]

theorem blk_5 (t : Fin cfg0.N) (n : Fin 2048) (r : Fin 512) (l : Fin 128) (k : Fin 32) (hk : k.val = l.val % 32) (hn : n.val = t.val % 4 * 512 + r.val) :
    iblk m c 5 t (ix2 r l) = if l.val % 64 < 32 then Neg.neg (α := EReal) (m ((c : Thread nD τ).loc main_arg5) (ix2 n k)) else m ((c : Thread nD τ).loc main_arg5) (ix2 n k) := by
  rw [← V_v6 m c n l k hk]
  blk_ext [iblk, ix_5 t]

/-- The result block of a point, row by row. -/
theorem last_at (t : Fin cfg0.N) (b : Fin 4) (n : Fin 2048) (r : Fin 512) (d : Fin 4096) (hb : b.val = t.val / 4) (hn : n.val = t.val % 4 * 512 + r.val) :
    (outsAt0 m c t.val t.isLt).1 (ix2 r d)
      = row (proj (modd (fun d => m ((c : Thread nD τ).loc main_arg0) (ix3 b n d)) (fun d => m ((c : Thread nD τ).loc main_arg2) (ix2 0 d))
            (fun d => m ((c : Thread nD τ).loc main_arg1) (ix3 b 0 ⟨2048 + d.val, by omega⟩))
            (fun d => m ((c : Thread nD τ).loc main_arg1) (ix3 b 0 ⟨d.val, by omega⟩)))
          (fun k j => m ((c : Thread nD τ).loc main_arg3) (ix3 0 k j)))
          (fun k => m ((c : Thread nD τ).loc main_arg4) (ix2 n k)) (fun k => m ((c : Thread nD τ).loc main_arg5) (ix2 n k)) d := by
  have hN : t.val < 16 := lt_of_lt_of_eq t.isLt N_0
  have hp : (fun k => k0_pay3 (iblk m c 0 t) (iblk m c 1 t) (iblk m c 3 t) (iblk m c 2 t) (ix2 r k))
      = modd (fun d => m ((c : Thread nD τ).loc main_arg0) (ix3 b n d)) (fun d => m ((c : Thread nD τ).loc main_arg2) (ix2 0 d))
            (fun d => m ((c : Thread nD τ).loc main_arg1) (ix3 b 0 ⟨2048 + d.val, by omega⟩))
            (fun d => m ((c : Thread nD τ).loc main_arg1) (ix3 b 0 ⟨d.val, by omega⟩)) := funext fun k => by
    rw [pre_at]
    simp only [blk_0 m c t b n r _ hb hn, blk_1, blk_2 m c t b _ hb, blk_3 m c t b _ hb]
  rw [← hp]
  by_cases h : t.val % 16 = 0
  · rw [out_A m c t h (by omega)]
    exact outI_at _ _ _ _ _ _ _ _ _ _ _ _ (wts m c) _ _ r d (chunk_A m c 0 _) (chunk_A m c 512 _) (chunk_A m c 1024 _) (chunk_A m c 1536 _) (chunk_A m c 2048 _) (chunk_A m c 2560 _) (chunk_A m c 3072 _) (chunk_A m c 3584 _) (chunk_A m c 4096 _)
      (fun l k hk => blk_4 m c t n r l k hk hn) (fun l k hk => blk_5 m c t n r l k hk hn)
  · rw [out_B m c t h (by omega)]
    have hW := scr_at m c ⟨t.val - 1, Nat.lt_of_le_of_lt (Nat.sub_le _ _) t.isLt⟩
    exact outI_at _ _ _ _ _ _ _ _ _ _ _ _ (wts m c) _ _ r d (chunk_B m c _ hW 0 _) (chunk_B m c _ hW 512 _) (chunk_B m c _ hW 1024 _) (chunk_B m c _ hW 1536 _) (chunk_B m c _ hW 2048 _) (chunk_B m c _ hW 2560 _) (chunk_B m c _ hW 3072 _) (chunk_B m c _ hW 3584 _) (chunk_B m c _ hW 4096 _)
      (fun l k hk => blk_4 m c t n r l k hk hn) (fun l k hk => blk_5 m c t n r l k hk hn)

end Cert.Inp0Ideal.Val
-- ==== Proof.Inp0Ref.lean ====
/- The first layer's input projection: its reference read at an index: one row of the residual stream and the row handed to the sublayers. -/
module

public import proofs.«01_k».proof.Proof.Gen.Inp0ReferenceIdeal.Read
public import proofs.«01_k».proof.Proof.InpSpec

@[expose] public section

noncomputable section

namespace Cert.Inp0ReferenceIdeal.Val

open Cert.Inp0ReferenceIdeal Cert.Inp0ReferenceIdeal.Gen Cert.Inp0ReferenceIdeal.Read Idealize.ShloMosaic Cert.MlpSpec Cert.InpSpec

variable (x0 : Vec Ideal S4x2048x2048 .f32) (x1 : Vec Ideal S4x1x12288 .f32) (x2 : Vec Ideal S2x2048 .f32)
  (x3 : Vec Ideal S2x2048x4608 .f32) (x4 x5 : Vec Ideal S2048x32 .f32)

/-- Row `(b, n)` of the normed and modulated input. -/
theorem pre_at (b : Fin 4) (n d : Fin 2048) :
    val_main_v26 (F := Ideal) x0 x1 x2 (ix3 b n d)
      = modd (fun d => x0 (ix3 b n d)) (fun d => x2 (ix2 0 d)) (fun d => x1 (ix3 b 0 ⟨2048 + d.val, by omega⟩))
          (fun d => x1 (ix3 b 0 ⟨d.val, by omega⟩)) d := by
  pointwise [val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v1, val_main_v0, modd, rms]

/-- The product with the layer's weights. -/
theorem dot_at (b : Fin 4) (n : Fin 2048) (j : Fin 4608) :
    val_main_v29 (F := Ideal) x0 x1 x2 x3 (ix3 b n j)
      = proj (fun d => val_main_v26 (F := Ideal) x0 x1 x2 (ix3 b n d)) (fun k j => x3 (ix3 0 k j)) j := by
  pointwise [val_main_v29, val_main_v28, val_main_v27, proj]

/-- The gated convolution branch. -/
theorem gate_at (b : Fin 4) (n : Fin 2048) (e : Fin 512) :
    val_main_v43 (F := Ideal) x0 x1 x2 x3 (ix3 b n e)
      = val_main_v29 (F := Ideal) x0 x1 x2 x3 (ix3 b n ⟨512 + e.val, by omega⟩)
          * Ideal.logistic (val_main_v29 (F := Ideal) x0 x1 x2 x3 (ix3 b n ⟨1024 + e.val, by omega⟩)) := by
  pointwise [val_main_v43, val_main_v42, val_main_v41, val_main_cst_4, val_main_v40, val_main_v39, val_main_cst_3, val_main_v38,
    val_main_v37, val_main_v36, val_main_v35, val_main_v31, Ideal.logistic]
  have e1 : (⟨512 + (512 + e.val), by omega⟩ : Fin 4608) = ⟨1024 + e.val, by omega⟩ := Fin.ext (by dsimp only; omega)
  rw [e1]

set_option maxHeartbeats 1000000 in
/-- The rotated queries. -/
theorem q_at (b : Fin 4) (n : Fin 2048) (e : Fin 1024) (d : Fin 4096) (hd : 1024 ≤ d.val) (hd' : d.val < 3072) (he : d.val = 1024 + e.val) :
    val_main_v76 (F := Ideal) x0 x1 x2 x3 x4 x5 (ix3 b n e)
      = rope (fun j => val_main_v29 (F := Ideal) x0 x1 x2 x3 (ix3 b n j)) (fun k => x4 (ix2 n k)) (fun k => x5 (ix2 n k)) d hd hd' := by
  pointwise [val_main_v76, val_main_v59, val_main_v58, val_main_v57, val_main_v56, val_main_v55, val_main_v54, val_main_v53, val_main_v52, val_main_v51, val_main_v50, val_main_v49, val_main_v48, val_main_v47, val_main_v46, val_main_v45, val_main_v44, val_main_v32]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  have hC : ∀ i j : Fin 32, i.val = j.val → x4 (ix2 n i) = x4 (ix2 n j) := fun i j h => by rw [Fin.ext h]
  have hS : ∀ i j : Fin 32, i.val = j.val → x5 (ix2 n i) = x5 (ix2 n j) := fun i j h => by rw [Fin.ext h]
  unfold rope
  by_cases h : e.val % 64 < 32
  · have h' : d.val % 64 < 32 := by omega
    rw [dif_pos h, dif_pos h']
    exact congrArg₂ (· - ·) (congrArg₂ (· * ·) (hP _ _ (by dsimp only; omega)) (hC _ _ (by dsimp only; omega)))
      (congrArg₂ (· * ·) (hP _ _ (by dsimp only; omega)) (hS _ _ (by dsimp only; omega)))
  · have h' : ¬ d.val % 64 < 32 := by omega
    rw [dif_neg h, dif_neg h']
    exact congrArg₂ (· + ·) (congrArg₂ (· * ·) (hP _ _ (by dsimp only; omega)) (hC _ _ (by dsimp only; omega)))
      (congrArg₂ (· * ·) (hP _ _ (by dsimp only; omega)) (hS _ _ (by dsimp only; omega)))

set_option maxHeartbeats 1000000 in
/-- The rotated keys. -/
theorem k_at (b : Fin 4) (n : Fin 2048) (e : Fin 1024) (d : Fin 4096) (hd : 1024 ≤ d.val) (hd' : d.val < 3072) (he : d.val = 2048 + e.val) :
    val_main_v77 (F := Ideal) x0 x1 x2 x3 x4 x5 (ix3 b n e)
      = rope (fun j => val_main_v29 (F := Ideal) x0 x1 x2 x3 (ix3 b n j)) (fun k => x4 (ix2 n k)) (fun k => x5 (ix2 n k)) d hd hd' := by
  pointwise [val_main_v77, val_main_v75, val_main_v74, val_main_v73, val_main_v72, val_main_v71, val_main_v70, val_main_v69, val_main_v68, val_main_v67, val_main_v66, val_main_v65, val_main_v64, val_main_v63, val_main_v62, val_main_v61, val_main_v60, val_main_v33]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  have hC : ∀ i j : Fin 32, i.val = j.val → x4 (ix2 n i) = x4 (ix2 n j) := fun i j h => by rw [Fin.ext h]
  have hS : ∀ i j : Fin 32, i.val = j.val → x5 (ix2 n i) = x5 (ix2 n j) := fun i j h => by rw [Fin.ext h]
  unfold rope
  by_cases h : e.val % 64 < 32
  · have h' : d.val % 64 < 32 := by omega
    rw [dif_pos h, dif_pos h']
    exact congrArg₂ (· - ·) (congrArg₂ (· * ·) (hP _ _ (by dsimp only; omega)) (hC _ _ (by dsimp only; omega)))
      (congrArg₂ (· * ·) (hP _ _ (by dsimp only; omega)) (hS _ _ (by dsimp only; omega)))
  · have h' : ¬ d.val % 64 < 32 := by omega
    rw [dif_neg h, dif_neg h']
    exact congrArg₂ (· + ·) (congrArg₂ (· * ·) (hP _ _ (by dsimp only; omega)) (hC _ _ (by dsimp only; omega)))
      (congrArg₂ (· * ·) (hP _ _ (by dsimp only; omega)) (hS _ _ (by dsimp only; omega)))

/-- The row handed to the sublayers. -/
theorem row_at (b : Fin 4) (n : Fin 2048) (d : Fin 4096) :
    val_main_v78 (F := Ideal) x0 x1 x2 x3 x4 x5 (ix3 b n d)
      = row (fun j => val_main_v29 (F := Ideal) x0 x1 x2 x3 (ix3 b n j)) (fun k => x4 (ix2 n k)) (fun k => x5 (ix2 n k)) d := by
  pointwise [val_main_v78, val_main_v34, val_main_v30]
  have hP : ∀ i j : Fin 4608, i.val = j.val → val_main_v29 (F := Ideal) x0 x1 x2 x3 (ix3 b n i) = val_main_v29 (F := Ideal) x0 x1 x2 x3 (ix3 b n j) :=
    fun i j h => by rw [Fin.ext h]
  unfold row
  by_cases h : d.val < 512
  · rw [dif_pos h, dif_pos h]
  · rw [dif_neg h, dif_neg h]
    by_cases h2 : d.val < 1024
    · rw [dif_pos (by omega), dif_pos h2, gate_at]
      exact congrArg₂ (fun a b => a * Ideal.logistic b) (hP _ _ (by dsimp only; omega)) (hP _ _ (by dsimp only; omega))
    · rw [dif_neg (by omega), dif_neg h2]
      by_cases h3 : d.val < 2048
      · rw [dif_pos (by omega), dif_pos (by omega)]
        exact q_at x0 x1 x2 x3 x4 x5 b n _ d _ _ (by dsimp only; omega)
      · rw [dif_neg (by omega)]
        by_cases h4 : d.val < 3072
        · rw [dif_pos (by omega), dif_pos h4]
          exact k_at x0 x1 x2 x3 x4 x5 b n _ d _ _ (by dsimp only; omega)
        · rw [dif_neg (by omega), dif_neg h4]
          exact hP _ _ (by dsimp only; omega)

/-- The reference's result at row `2048 b + n`. -/
theorem res_at (b : Fin 4) (n : Fin 2048) (d : Fin 4096) (i : S8192x4096.Idx) (h0 : (i 0).val = 2048 * b.val + n.val) (h1 : (i 1).val = d.val) :
    val_main_v80 (F := Ideal) x0 x1 x2 x3 x4 x5 i
      = row (proj (modd (fun d => x0 (ix3 b n d)) (fun d => x2 (ix2 0 d)) (fun d => x1 (ix3 b 0 ⟨2048 + d.val, by omega⟩))
          (fun d => x1 (ix3 b 0 ⟨d.val, by omega⟩))) (fun k j => x3 (ix3 0 k j))) (fun k => x4 (ix2 n k)) (fun k => x5 (ix2 n k)) d := by
  have e0 : val_main_v80 (F := Ideal) x0 x1 x2 x3 x4 x5 i = val_main_v79 (F := Ideal) x0 x1 x2 x3 x4 x5 i := rfl
  rw [e0, val_main_v79_apply]
  have e : idx_main_v79 i = ix3 b n d := by
    funext a
    apply Fin.ext
    have hb := b.isLt; have hn := n.isLt; have hd := d.isLt
    match a with
    | ⟨0, _⟩ => show _ = b.val; simp only [idx_main_v79]; omega
    | ⟨1, _⟩ => show _ = n.val; simp only [idx_main_v79]; omega
    | ⟨2, _⟩ => show _ = d.val; simp only [idx_main_v79]; omega
  rw [e, row_at]
  simp only [dot_at]
  have ep : (fun d => val_main_v26 (F := Ideal) x0 x1 x2 (ix3 b n d)) = modd (fun d => x0 (ix3 b n d)) (fun d => x2 (ix2 0 d))
      (fun d => x1 (ix3 b 0 ⟨2048 + d.val, by omega⟩)) (fun d => x1 (ix3 b 0 ⟨d.val, by omega⟩)) := funext fun d => pre_at x0 x1 x2 b n d
  rw [ep]

end Cert.Inp0ReferenceIdeal.Val
-- ==== Proof.Inp0Tie.lean ====
/- The first layer's input projection: its call beside its reference: both results are the row function applied row by row. -/
module

public import proofs.«01_k».proof.Proof.Inp0Ker
public import proofs.«01_k».proof.Proof.Inp0Ref
public import proofs.«01_k».proof.Proof.Gen.Inp0ReferenceIdeal.Run

@[expose] public section

noncomputable section

namespace Cert.Inp0Tie

open Cert.Inp0Ideal Cert.Inp0Ideal.Gen Idealize.ShloMosaic Idealize.ShloMosaic.TcCoe Idealize.SL.Sem Cert.MlpSpec Cert.InpSpec

theorem ix_6 : ∀ t : Fin cfg0.N, win0_6.index t = ![t.val, 0] := (by decide +kernel : ∀ t : Fin grid0.N, _)
theorem fl_6 : ∀ t : Fin cfg0.N, (cfg0.win 6).flush t = true := (by decide +kernel : ∀ t : Fin grid0.N, win0_6.flush t = true)

theorem mem_6 (t : Fin cfg0.N) (i : S8192x4096.Idx) :
    i ∈ ((cfg0.win 6).blk t).view.set ↔ ∀ a : Fin 2, win0_6.index t a * S512x4096.size a ≤ (i a).val ∧ (i a).val < win0_6.index t a * S512x4096.size a + S512x4096.size a := by
  show i ∈ ((View.whole main_v8).slice (win0_6.rect t)).set ↔ _
  rw [View.set_slice_whole, Rect.mem_set_unit]
  exact Iff.rfl

/-- Every index of the result lies in a point's block. -/
theorem cover_6 (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have ht : (i 0).val / 512 < cfg0.N := lt_of_lt_of_eq (by omega) N_0.symm
  refine ⟨⟨(i 0).val / 512, ht⟩, fl_6 _, ?_⟩
  rw [mem_6, ix_6]
  intro a
  match a with
  | ⟨0, _⟩ => show (i 0).val / 512 * 512 ≤ (i 0).val ∧ (i 0).val < (i 0).val / 512 * 512 + 512; omega
  | ⟨1, _⟩ => show 0 * 4096 ≤ (i 1).val ∧ (i 1).val < 0 * 4096 + 4096; omega

/-- The call's result array is the reference's result on the same arguments. -/
theorem tie (m : (ℓ : Loc nD τ sig) → Buf (Elt Ideal) ℓ) (c : Dev nD) :
    (dats m 0 c).arrAt 6 cfg0.N = (Cert.Inp0ReferenceIdeal.Read.val_main_v80 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      : Buf (Elt Ideal) ((c : Thread nD τ).loc main_v8)) := by
  refine (dats m 0 c).arrAt_eq_of_cover 6 _ (fun t _ => ?_) cover_6
  rw [Cert.Inp0Ideal.Value.flushed6]
  funext y
  have hN : t.val < 16 := lt_of_lt_of_eq t.isLt N_0
  have hy0 : (y 0).val < 512 := (y 0).isLt
  have hy1 : (y 1).val < 4096 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 4096 + 1 * (y 1).val := rfl
  have e0 : win0_6.index t (0 : Fin 2) = t.val := congrFun (ix_6 t) 0
  have e1 : win0_6.index t (1 : Fin 2) = 0 := congrFun (ix_6 t) 1
  have hl : (cfg0.win 6).xinj (grid0.coords t) y = ix2 ⟨(y 0).val, hy0⟩ ⟨(y 1).val, hy1⟩ := by
    funext a
    match a with
    | ⟨0, _⟩ => rfl
    | ⟨1, _⟩ => rfl
  show (outsAt0 m c t.val t.isLt).1 ((cfg0.win 6).xinj (grid0.coords t) y)
    = Cert.Inp0ReferenceIdeal.Read.val_main_v80 (F := Ideal) _ _ _ _ _ _ (((cfg0.win 6).blk t).view.emb y)
  rw [hl, Cert.Inp0ReferenceIdeal.Val.res_at _ _ _ _ _ _ ⟨t.val / 4, by omega⟩ ⟨t.val % 4 * 512 + (y 0).val, by omega⟩ ⟨(y 1).val, hy1⟩
    (((cfg0.win 6).blk t).view.emb y) (by rw [hb0, e0]; show t.val * 512 + 1 * (y 0).val = 2048 * (t.val / 4) + (t.val % 4 * 512 + (y 0).val); omega)
    (by rw [hb1, e1]; show 0 * 4096 + 1 * (y 1).val = (y 1).val; omega)]
  exact Cert.Inp0Ideal.Val.last_at m c t _ _ _ _ rfl rfl

end Cert.Inp0Tie
-- ==== Proof.MlpKer.lean ====
/- The MLP call read at an index: the carried normed rows, the partial sums over the chunks, the last step. -/
module

public import proofs.«01_k».proof.Proof.Gen.MlpIdeal.Value
public import proofs.«01_k».proof.Proof.MlpSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.MlpIdeal.Val

open Cert.MlpIdeal Cert.MlpIdeal.Gen Idealize.ShloMosaic Idealize.ShloMosaic.TcCoe Idealize.SL.Sem Cert.MlpSpec
open Idealize.ShloMosaic.Pipeline (Dat)

variable (m : (ℓ : Loc nD τ sig) → Buf (Elt Ideal) ℓ) (c : Dev nD)

theorem scr_A (t : Fin cfg0.N) (h : t.val % 16 = 0) :
    (outsAt0 m c t.val t.isLt).2 = k0_pay5 (iblk m c 0 t) (iblk m c 1 t) (iblk m c 3 t) (iblk m c 2 t) := by
  rw [outsAt0_A m c t h (by omega) (by omega)]
  frame_out

theorem out_A (t : Fin cfg0.N) (h : t.val % 16 = 0) :
    (outsAt0 m c t.val t.isLt).1 = k0_pay1 (k0_pay6 (iblk m c 0 t) (iblk m c 1 t) (iblk m c 3 t) (iblk m c 2 t) (iblk m c 6 t)) (iblk m c 7 t) := by
  rw [outsAt0_A m c t h (by omega) (by omega)]
  frame_out

theorem scr_s (t : Fin cfg0.N) (h : ¬ t.val % 16 = 0) :
    (outsAt0 m c t.val t.isLt).2 = (outsAt0 m c (t.val - 1) (Nat.lt_of_le_of_lt (Nat.sub_le _ _) t.isLt)).2 := by
  by_cases h2 : t.val % 16 = 15
  · rw [outsAt0_C m c t h (by omega) h2]
    rfl
  · rw [outsAt0_B m c t h (by omega) h2]
    rfl

theorem out_B (t : Fin cfg0.N) (h : ¬ t.val % 16 = 0) (h2 : ¬ t.val % 16 = 15) :
    (outsAt0 m c t.val t.isLt).1 = k0_pay2 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) := by
  rw [outsAt0_B m c t h (by omega) h2]
  frame_out
  rw [read_unread_whole]

theorem out_C (t : Fin cfg0.N) (h2 : t.val % 16 = 15) :
    (outsAt0 m c t.val t.isLt).1 = k0_pay3 (k0_pay7 (iblk m c 0 t)) (k0_pay8 (iblk m c 4 t))
      (k0_pay9 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) (iblk m c 5 t)) := by
  rw [outsAt0_C m c t (by omega) (by omega) h2]
  frame_out
  rw [read_unread_whole]

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![1, 0, 0, 0, 0] ![0, 4, 0, 0, 0] ![0, 0, 0, 0, 0]
      (shapeCast S1x4x6x1x2048 x shapeCasts_S4x1x12288_S1x4x6x1x2048) z
      pads_S1x4x6x1x2048_S2x8x6x1x2048_100_040_000_000_000 h_S_ (ix5 1 b k 0 d) = x (ix3 ⟨b.val, hb⟩ 0 ⟨k.val * 2048 + d.val, by omega⟩) := by
  pointwise
  rw [dif_pos hb]

/-- The rows of the stream, flattened. -/
theorem V_v0 (b : Fin 4) (n d : Fin 2048) (R : Fin 8192) (h : R.val = 2048 * b.val + n.val) :
    V m c main_v0 (ix2 R d) = m ((c : Thread nD τ).loc main_arg0) (ix3 b n d) := by
  have e : V m c main_v0 = shapeCast S8192x2048 (m ((c : Thread nD τ).loc main_arg0)) shapeCasts_S4x2048x2048_S8192x2048 := by
    unfold V
    rw [List.flatten_cons, List.flatten_cons, List.flatten_cons, List.flatten_nil, List.append_nil, StableHlo.after_append, StableHlo.after_append]
    entry_read
    rfl
  rw [e]
  exact flat_at _ b n d R h

theorem V_v3 (l : Fin 2) (d : Fin 2048) : V m c main_v3 (ix3 l 0 d) = m ((c : Thread nD τ).loc main_arg2) (ix2 l d) := by
  have e : V m c main_v3 = shapeCast S2x1x2048 (m ((c : Thread nD τ).loc main_arg2)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

theorem V_v4 (l : Fin 2) (d : Fin 2048) : V m c main_v4 (ix3 l 0 d) = m ((c : Thread nD τ).loc main_arg3) (ix2 l d) := by
  have e : V m c main_v4 = shapeCast S2x1x2048 (m ((c : Thread nD τ).loc main_arg3)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

/-- The modulation vectors of the second layer, behind the padding. -/
theorem V_v2 (b : Fin 8) (hb : b.val < 4) (k : Fin 6) (d : Fin 2048) :
    V m c main_v2 (ix5 1 b k 0 d) = m ((c : Thread nD τ).loc main_arg1) (ix3 ⟨b.val, hb⟩ 0 ⟨k.val * 2048 + d.val, by omega⟩) := by
  have e : ∃ z, V m c main_v2 = pad S2x8x6x1x2048 ![1, 0, 0, 0, 0] ![0, 4, 0, 0, 0] ![0, 0, 0, 0, 0]
      (shapeCast S1x4x6x1x2048 (m ((c : Thread nD τ).loc main_arg1)) shapeCasts_S4x1x12288_S1x4x6x1x2048) z
      pads_S1x4x6x1x2048_S2x8x6x1x2048_100_040_000_000_000 h_S_ := by
    unfold V
    rw [List.flatten_cons, List.flatten_cons, List.flatten_cons, List.flatten_nil, List.append_nil, StableHlo.after_append, StableHlo.after_append]
    entry_read
    exact ⟨_, rfl⟩
  obtain ⟨z, e⟩ := e
  rw [e]
  exact pad_at _ z b hb k d

theorem ix_0 : ∀ t : Fin cfg0.N, win0_0.index t = ![t.val / 16, 0] := (by decide +kernel : ∀ t : Fin grid0.N, _)
theorem ix_1 : ∀ t : Fin cfg0.N, win0_1.index t = ![1, 0, 0] := (by decide +kernel : ∀ t : Fin grid0.N, _)
theorem ix_2 : ∀ t : Fin cfg0.N, win0_2.index t = ![1, t.val / 32, 3, 0, 0] := (by decide +kernel : ∀ t : Fin grid0.N, _)
theorem ix_3 : ∀ t : Fin cfg0.N, win0_3.index t = ![1, t.val / 32, 4, 0, 0] := (by decide +kernel : ∀ t : Fin grid0.N, _)
theorem ix_4 : ∀ t : Fin cfg0.N, win0_4.index t = ![1, t.val / 32, 5, 0, 0] := (by decide +kernel : ∀ t : Fin grid0.N, _)
theorem ix_5 : ∀ t : Fin cfg0.N, win0_5.index t = ![1, 0, 0] := (by decide +kernel : ∀ t : Fin grid0.N, _)
theorem ix_6 : ∀ t : Fin cfg0.N, win0_6.index t = ![1, 0, t.val % 16] := (by decide +kernel : ∀ t : Fin grid0.N, _)
theorem ix_7 : ∀ t : Fin cfg0.N, win0_7.index t = ![1, t.val % 16, 0] := (by decide +kernel : ∀ t : Fin grid0.N, _)

theorem blk_7 (t : Fin cfg0.N) (k : Fin 512) (d : Fin 2048) :
    iblk m c 7 t (ix3 0 k d) = m ((c : Thread nD τ).loc main_arg5) (ix3 1 ⟨t.val % 16 * 512 + k.val, by omega⟩ d) := by
  blk_ext [iblk, V, ix_7 t]

theorem blk_6 (t : Fin cfg0.N) (k : Fin 512) (d : Fin 2048) :
    iblk m c 6 t (ix3 0 d k) = m ((c : Thread nD τ).loc main_arg4) (ix3 1 d ⟨t.val % 16 * 512 + k.val, by omega⟩) := by
  blk_ext [iblk, V, ix_6 t]

theorem blk_0 (t : Fin cfg0.N) (b : Fin 4) (n : Fin 2048) (r : Fin 1024) (d : Fin 2048) (hb : b.val = t.val / 32)
    (hn : n.val = t.val / 16 % 2 * 1024 + r.val) :
    iblk m c 0 t (ix2 r d) = m ((c : Thread nD τ).loc main_arg0) (ix3 b n d) := by
  have ht : t.val < 128 := lt_of_lt_of_eq t.isLt N_0
  rw [← V_v0 m c b n d ⟨t.val / 16 * 1024 + r.val, by omega⟩ (by show t.val / 16 * 1024 + r.val = _; omega)]
  blk_ext [iblk, ix_0 t]

theorem blk_1 (t : Fin cfg0.N) (d : Fin 2048) :
    iblk m c 1 t (ix3 0 0 d) = m ((c : Thread nD τ).loc main_arg2) (ix2 1 d) := by
  refine Eq.trans ?_ (V_v3 m c 1 d)
  blk_ext [iblk, ix_1 t]

theorem blk_5 (t : Fin cfg0.N) (d : Fin 2048) :
    iblk m c 5 t (ix3 0 0 d) = m ((c : Thread nD τ).loc main_arg3) (ix2 1 d) := by
  refine Eq.trans ?_ (V_v4 m c 1 d)
  blk_ext [iblk, ix_5 t]

theorem blk_2 (t : Fin cfg0.N) (b : Fin 4) (d : Fin 2048) (hb : b.val = t.val / 32) :
    iblk m c 2 t (ix5 0 0 0 0 d) = m ((c : Thread nD τ).loc main_arg1) (ix3 b 0 ⟨6144 + d.val, by omega⟩) := by
  refine Eq.trans ?_ (V_v2 m c ⟨b.val, by omega⟩ b.isLt 3 d)
  blk_ext [iblk, ix_2 t]

theorem blk_3 (t : Fin cfg0.N) (b : Fin 4) (d : Fin 2048) (hb : b.val = t.val / 32) :
    iblk m c 3 t (ix5 0 0 0 0 d) = m ((c : Thread nD τ).loc main_arg1) (ix3 b 0 ⟨8192 + d.val, by omega⟩) := by
  refine Eq.trans ?_ (V_v2 m c ⟨b.val, by omega⟩ b.isLt 4 d)
  blk_ext [iblk, ix_3 t]

theorem blk_4 (t : Fin cfg0.N) (b : Fin 4) (d : Fin 2048) (hb : b.val = t.val / 32) :
    iblk m c 4 t (ix5 0 0 0 0 d) = m ((c : Thread nD τ).loc main_arg1) (ix3 b 0 ⟨10240 + d.val, by omega⟩) := by
  refine Eq.trans ?_ (V_v2 m c ⟨b.val, by omega⟩ b.isLt 5 d)
  blk_ext [iblk, ix_4 t]

/-! ## The steps at an index -/

section pays

variable (x : Vec Ideal S1024x2048 .f32) (g : Vec Ideal S1x1x2048 .f32) (sc sh : Vec Ideal S1x1x1x1x2048 .f32)
  (w : Vec Ideal S1x2048x512 .f32) (w' : Vec Ideal S1x512x2048 .f32)

theorem pay5_at (r : Fin 1024) (d : Fin 2048) :
    k0_pay5 x g sc sh (ix2 r d) = modd (fun d => x (ix2 r d)) (fun d => g (ix3 0 0 d)) (fun d => sc (ix5 0 0 0 0 d)) (fun d => sh (ix5 0 0 0 0 d)) d := by
  pointwise [k0_pay5, k0_pay4, modd, rms]

theorem pay4_at (r : Fin 1024) (d : Fin 2048) :
    k0_pay4 x g sc sh (ix2 r d) = modd (fun d => x (ix2 r d)) (fun d => g (ix3 0 0 d)) (fun d => sc (ix5 0 0 0 0 d)) (fun d => sh (ix5 0 0 0 0 d)) d := by
  pointwise [k0_pay4, modd, rms]

theorem pay1_at (r : Fin 1024) (d : Fin 2048) :
    k0_pay1 (k0_pay6 x g sc sh w) w' (ix2 r d)
      = part (fun d => k0_pay4 x g sc sh (ix2 r d)) (fun d k => w (ix3 0 d k)) (fun k d => w' (ix3 0 k d)) d := by
  pointwise [k0_pay1, k0_pay6]
  rfl

theorem pay2_at (acc : Vec Ideal S1024x2048 .f32) (h : Vec Ideal S1024x2048 .bf16) (r : Fin 1024) (d : Fin 2048) :
    k0_pay2 acc h w w' (ix2 r d)
      = acc (ix2 r d) + part (fun d => h (ix2 r d)) (fun d k => w (ix3 0 d k)) (fun k d => w' (ix3 0 k d)) d := by
  pointwise [k0_pay2]
  rfl

theorem pay3_at (acc : Vec Ideal S1024x2048 .f32) (h : Vec Ideal S1024x2048 .bf16) (r : Fin 1024) (d : Fin 2048) :
    k0_pay3 (k0_pay7 x) (k0_pay8 sc) (k0_pay9 acc h w w' g) (ix2 r d)
      = resid (fun d => x (ix2 r d)) (fun d => sc (ix5 0 0 0 0 d)) (fun d => g (ix3 0 0 d))
          (fun d => acc (ix2 r d) + part (fun d => h (ix2 r d)) (fun d k => w (ix3 0 d k)) (fun k d => w' (ix3 0 k d)) d) d := by
  pointwise [k0_pay3, k0_pay7, k0_pay8, k0_pay9]
  rfl

end pays

/-! ## The carried rows and the partial sums -/

/-- The normed and modulated row `(b, n)`, as launched. -/
def hrow (b : Fin 4) (n : Fin 2048) : Fin 2048 → EReal :=
  modd (fun d => m ((c : Thread nD τ).loc main_arg0) (ix3 b n d)) (fun d => m ((c : Thread nD τ).loc main_arg2) (ix2 1 d))
    (fun d => m ((c : Thread nD τ).loc main_arg1) (ix3 b 0 ⟨8192 + d.val, by omega⟩))
    (fun d => m ((c : Thread nD τ).loc main_arg1) (ix3 b 0 ⟨6144 + d.val, by omega⟩))

/-- The unit sums of row `(b, n)`, as launched. -/
def urow (b : Fin 4) (n : Fin 2048) (d : Fin 2048) (s : ℕ) : EReal :=
  ∑ k : Fin 512, unit (hrow m c b n) (fun d k => m ((c : Thread nD τ).loc main_arg4) (ix3 1 d k))
    (fun k d => m ((c : Thread nD τ).loc main_arg5) (ix3 1 k d)) d (s * 512 + k.val)

theorem pay5_row (t : Fin cfg0.N) (b : Fin 4) (n : Fin 2048) (r : Fin 1024) (d : Fin 2048) (hb : b.val = t.val / 32)
    (hn : n.val = t.val / 16 % 2 * 1024 + r.val) :
    k0_pay5 (iblk m c 0 t) (iblk m c 1 t) (iblk m c 3 t) (iblk m c 2 t) (ix2 r d) = hrow m c b n d := by
  rw [pay5_at]
  simp only [blk_0 m c t b n r _ hb hn, blk_1, blk_2 m c t b _ hb, blk_3 m c t b _ hb]
  rfl

/-- What the scratch holds at every point of a run: the run's normed rows. -/
theorem scr_at (t : Fin cfg0.N) (b : Fin 4) (n : Fin 2048) (r : Fin 1024) (d : Fin 2048) (hb : b.val = t.val / 32)
    (hn : n.val = t.val / 16 % 2 * 1024 + r.val) : (outsAt0 m c t.val t.isLt).2 (ix2 r d) = hrow m c b n d := by
  rw [Pipeline.eq_of_write_hold_apply (fun n h => (outsAt0 m c n h).2) 16
    (fun t => k0_pay5 (iblk m c 0 t) (iblk m c 1 t) (iblk m c 3 t) (iblk m c 2 t))
    (fun t h i => congrFun (scr_A m c t h) i) (fun t h i => congrFun (scr_s m c t h) i) t (ix2 r d)]
  exact pay5_row m c _ b n r d (by show b.val = 16 * (t.val / 16) / 32; omega)
    (by show n.val = 16 * (t.val / 16) / 16 % 2 * 1024 + r.val; omega)

theorem chunk_at (t : Fin cfg0.N) (b : Fin 4) (n : Fin 2048) (d : Fin 2048) :
    part (hrow m c b n) (fun d k => iblk m c 6 t (ix3 0 d k)) (fun k d => iblk m c 7 t (ix3 0 k d)) d = urow m c b n d (t.val % 16) :=
  part_chunk _ _ _ d _ _ (t.val % 16) (Nat.mod_lt _ (by decide)) (fun d k => blk_6 m c t k d) (fun k d => blk_7 m c t k d)

/-- What the output block holds before the run's last point: the chunks so far. -/
theorem acc_at (b : Fin 4) (n : Fin 2048) (r : Fin 1024) (d : Fin 2048) : ∀ (k : ℕ) (hk : k < cfg0.N), b.val = k / 32 →
    n.val = k / 16 % 2 * 1024 + r.val → ¬ k % 16 = 15 →
    (outsAt0 m c k hk).1 (ix2 r d) = ∑ s ∈ Finset.range (k % 16 + 1), urow m c b n d s := by
  intro k
  induction k with
  | zero =>
    intro hk hb hn _
    rw [out_A m c ⟨0, hk⟩ rfl, pay1_at]
    have e : (fun d => k0_pay4 (iblk m c 0 ⟨0, hk⟩) (iblk m c 1 ⟨0, hk⟩) (iblk m c 3 ⟨0, hk⟩) (iblk m c 2 ⟨0, hk⟩) (ix2 r d)) = hrow m c b n :=
      funext fun d => (pay4_at _ _ _ _ r d).trans ((pay5_at _ _ _ _ r d).symm.trans (pay5_row m c ⟨0, hk⟩ b n r d hb hn))
    rw [e, chunk_at]
    simp
  | succ k ih =>
    intro hk hb hn hl
    by_cases h : (k + 1) % 16 = 0
    · rw [out_A m c ⟨k + 1, hk⟩ h, pay1_at]
      have e : (fun d => k0_pay4 (iblk m c 0 ⟨k + 1, hk⟩) (iblk m c 1 ⟨k + 1, hk⟩) (iblk m c 3 ⟨k + 1, hk⟩) (iblk m c 2 ⟨k + 1, hk⟩) (ix2 r d)) = hrow m c b n :=
        funext fun d => (pay4_at _ _ _ _ r d).trans ((pay5_at _ _ _ _ r d).symm.trans (pay5_row m c ⟨k + 1, hk⟩ b n r d hb hn))
      rw [e, chunk_at]
      simp [h]
    · rw [out_B m c ⟨k + 1, hk⟩ h hl, pay2_at]
      have hk' : k < cfg0.N := Nat.lt_of_succ_lt hk
      have e : (fun d => (outsAt0 m c k hk').2 (ix2 r d)) = hrow m c b n :=
        funext fun d => scr_at m c ⟨k, hk'⟩ b n r d (by show b.val = k / 32; omega) (by show n.val = k / 16 % 2 * 1024 + r.val; omega)
      have e1 := ih hk' (by omega) (by omega) (by omega)
      show (outsAt0 m c k hk').1 (ix2 r d) + part (fun d => (outsAt0 m c k hk').2 (ix2 r d)) _ _ d = _
      rw [e, e1, chunk_at, show (k + 1) % 16 = k % 16 + 1 by omega, Finset.sum_range_succ _ (k % 16 + 1)]

/-- What a run's last point leaves in the output block. -/
theorem last_at (t : Fin cfg0.N) (h : t.val % 16 = 15) (b : Fin 4) (n : Fin 2048) (r : Fin 1024) (d : Fin 2048) (hb : b.val = t.val / 32)
    (hn : n.val = t.val / 16 % 2 * 1024 + r.val) :
    (outsAt0 m c t.val t.isLt).1 (ix2 r d)
      = resid (fun d => m ((c : Thread nD τ).loc main_arg0) (ix3 b n d)) (fun d => m ((c : Thread nD τ).loc main_arg1) (ix3 b 0 ⟨10240 + d.val, by omega⟩))
          (fun d => m ((c : Thread nD τ).loc main_arg3) (ix2 1 d))
          (fun d => part (hrow m c b n) (fun d k => m ((c : Thread nD τ).loc main_arg4) (ix3 1 d k)) (fun k d => m ((c : Thread nD τ).loc main_arg5) (ix3 1 k d)) d) d := by
  rw [out_C m c t h, pay3_at]
  have hk' : t.val - 1 < cfg0.N := Nat.lt_of_le_of_lt (Nat.sub_le _ _) t.isLt
  have e : (fun d => (outsAt0 m c (t.val - 1) hk').2 (ix2 r d)) = hrow m c b n :=
    funext fun d => scr_at m c ⟨t.val - 1, hk'⟩ b n r d (by show b.val = (t.val - 1) / 32; omega)
      (by show n.val = (t.val - 1) / 16 % 2 * 1024 + r.val; omega)
  have e1 : ∀ d, (outsAt0 m c (t.val - 1) hk').1 (ix2 r d) = ∑ s ∈ Finset.range 15, urow m c b n d s := fun d => by
    rw [acc_at m c b n r d (t.val - 1) hk' (by omega) (by omega) (by omega), show (t.val - 1) % 16 + 1 = 15 by omega]
  rw [e]
  simp only [e1, chunk_at, h, part_all, blk_0 m c t b n r _ hb hn, blk_4 m c t b _ hb, blk_5]
  simp only [Finset.sum_range_succ _ 15]
  rfl

end Cert.MlpIdeal.Val
-- ==== Proof.MlpRef.lean ====
/- The MLP's reference read at an index: one row of the residual stream through the sublayer. -/
module

public import proofs.«01_k».proof.Proof.Gen.MlpReferenceIdeal.Read
public import proofs.«01_k».proof.Proof.MlpSpec

@[expose] public section

noncomputable section

namespace Cert.MlpReferenceIdeal.Val

open Cert.MlpReferenceIdeal Cert.MlpReferenceIdeal.Gen Cert.MlpReferenceIdeal.Read Idealize.ShloMosaic Cert.MlpSpec

variable (x0 : Vec Ideal S4x2048x2048 .f32) (x1 : Vec Ideal S4x1x12288 .f32) (x2 x3 : Vec Ideal S2x2048 .f32)
  (x4 : Vec Ideal S2x2048x8192 .f32) (x5 : Vec Ideal S2x8192x2048 .f32)

/-- Row `(b, n)` of the normed and modulated input. -/
theorem pre_at (b : Fin 4) (n d : Fin 2048) :
    val_main_v26 (F := Ideal) x0 x1 x2 (ix3 b n d)
      = modd (fun d => x0 (ix3 b n d)) (fun d => x2 (ix2 1 d)) (fun d => x1 (ix3 b 0 ⟨8192 + d.val, by omega⟩))
          (fun d => x1 (ix3 b 0 ⟨6144 + d.val, by omega⟩)) d := by
  pointwise [val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v4, val_main_v3, modd, rms]

/-- The first product. -/
theorem dot1_at (b : Fin 4) (n : Fin 2048) (k : Fin 8192) :
    val_main_v29 (F := Ideal) x0 x1 x2 x4 (ix3 b n k)
      = ∑ d, val_main_v26 (F := Ideal) x0 x1 x2 (ix3 b n d) * x4 (ix3 1 d k) := by
  pointwise [val_main_v29, val_main_v28, val_main_v27]

/-- The second product. -/
theorem dot2_at (b : Fin 4) (n d : Fin 2048) :
    val_main_v35 (F := Ideal) x0 x1 x2 x4 x5 (ix3 b n d)
      = part (fun d => val_main_v26 (F := Ideal) x0 x1 x2 (ix3 b n d)) (fun d k => x4 (ix3 1 d k)) (fun k d => x5 (ix3 1 k d)) d := by
  pointwise [val_main_v35, val_main_v34, val_main_v33, val_main_v32, val_main_v31, val_main_v30, val_main_cst_3]
  simp only [dot1_at]
  rfl

theorem out_at (b : Fin 4) (n d : Fin 2048) :
    val_main_v53 (F := Ideal) x0 x1 x2 x3 x4 x5 (ix3 b n d)
      = resid (fun d => x0 (ix3 b n d)) (fun d => x1 (ix3 b 0 ⟨10240 + d.val, by omega⟩)) (fun d => x3 (ix2 1 d))
          (fun d => val_main_v35 (F := Ideal) x0 x1 x2 x4 x5 (ix3 b n d)) d := by
  pointwise [val_main_v53, val_main_v52, val_main_v51, val_main_v50, val_main_v49, val_main_v48, val_main_v47,
    val_main_v46, val_main_v45, val_main_v44, val_main_v43, val_main_cst_6, val_main_v42, val_main_v41, val_main_cst_5,
    val_main_v40, val_main_v39, val_main_cst_4, val_main_v38, val_main_v37, val_main_v36, val_main_v5, resid, rms]

/-- The reference's result at row `2048 b + n`: the sublayer applied to row `(b, n)` of the stream. -/
theorem res_at (b : Fin 4) (n d : Fin 2048) (i : S8192x2048.Idx) (h0 : (i 0).val = 2048 * b.val + n.val) (h1 : (i 1).val = d.val) :
    val_main_v54 (F := Ideal) x0 x1 x2 x3 x4 x5 i
      = resid (fun d => x0 (ix3 b n d)) (fun d => x1 (ix3 b 0 ⟨10240 + d.val, by omega⟩)) (fun d => x3 (ix2 1 d))
          (fun d => part (modd (fun d => x0 (ix3 b n d)) (fun d => x2 (ix2 1 d)) (fun d => x1 (ix3 b 0 ⟨8192 + d.val, by omega⟩))
              (fun d => x1 (ix3 b 0 ⟨6144 + d.val, by omega⟩)))
            (fun d k => x4 (ix3 1 d k)) (fun k d => x5 (ix3 1 k d)) d) d := by
  rw [val_main_v54_apply]
  have e : idx_main_v54 i = ix3 b n d := by
    funext a
    apply Fin.ext
    have hb := b.isLt; have hn := n.isLt; have hd := d.isLt
    match a with
    | ⟨0, _⟩ => show _ = b.val; simp only [idx_main_v54]; omega
    | ⟨1, _⟩ => show _ = n.val; simp only [idx_main_v54]; omega
    | ⟨2, _⟩ => show _ = d.val; simp only [idx_main_v54]; omega
  rw [e, out_at]
  simp only [dot2_at, pre_at]

end Cert.MlpReferenceIdeal.Val
-- ==== Proof.MlpTie.lean ====
/- The MLP call beside its reference: both results are the sublayer applied row by row. -/
module

public import proofs.«01_k».proof.Proof.MlpKer
public import proofs.«01_k».proof.Proof.MlpRef
public import proofs.«01_k».proof.Proof.Gen.MlpReferenceIdeal.Run

@[expose] public section

noncomputable section

namespace Cert.MlpTie

open Idealize.ShloMosaic Idealize.SL.Sem Cert.MlpSpec

/-- The call's result array is the reference's result on the same arguments. -/
theorem tie (m : (ℓ : Loc Cert.MlpIdeal.nD Cert.MlpIdeal.τ Cert.MlpIdeal.sig) → Buf (Elt Ideal) ℓ) (c : Dev Cert.MlpIdeal.nD) :
    Cert.MlpIdeal.Value.G8 m c = Cert.MlpReferenceIdeal.Read.val_main_v54 (F := Ideal)
      (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4))
      (m ((c.tc : Thread Cert.MlpIdeal.nD Cert.MlpIdeal.τ).loc Cert.MlpIdeal.main_arg5)) := by
  funext i
  have h0 : (i 0).val < 8192 := (i 0).isLt
  have h1 : (i 1).val < 2048 := (i 1).isLt
  have hp : Cert.MlpIdeal.Value.pt8Of i < Cert.MlpIdeal.cfg0.N :=
    lt_of_lt_of_eq (show 16 * (1 * ((i 0).val / 1024 - 0) + 1 * ((i 1).val / 2048 - 0)) + 15 < 128 by omega) Cert.MlpIdeal.Gen.N_0.symm
  have hv : Cert.MlpIdeal.Value.pt8Of i = 16 * ((i 0).val / 1024) + 15 := by
    show 16 * (1 * ((i 0).val / 1024 - 0) + 1 * ((i 1).val / 2048 - 0)) + 15 = _; omega
  have e : Cert.MlpIdeal.Value.G8 m c i = (Cert.MlpIdeal.Gen.outsAt0 m c (Cert.MlpIdeal.Value.pt8Of i) hp).1 (Cert.MlpIdeal.Value.loc8Of i) := by
    rw [Cert.MlpIdeal.Value.outsAt0_sweep]
    unfold Cert.MlpIdeal.Value.G8
    rw [dif_pos hp]
  have el : Cert.MlpIdeal.Value.loc8Of i = ix2 ⟨(i 0).val % 1024, Nat.mod_lt _ (by decide)⟩ ⟨(i 1).val, h1⟩ := by
    funext a
    match a with
    | ⟨0, _⟩ => rfl
    | ⟨1, _⟩ => exact Fin.ext (Nat.mod_eq_of_lt h1)
  rw [e, el, Cert.MlpReferenceIdeal.Val.res_at _ _ _ _ _ _ ⟨(i 0).val / 2048, by omega⟩ ⟨(i 0).val % 2048, by omega⟩ ⟨(i 1).val, h1⟩ i
    (by show (i 0).val = 2048 * ((i 0).val / 2048) + (i 0).val % 2048; omega) rfl]
  exact Cert.MlpIdeal.Val.last_at m c ⟨Cert.MlpIdeal.Value.pt8Of i, hp⟩ (by show Cert.MlpIdeal.Value.pt8Of i % 16 = 15; omega) _ _ _ _
    (by show (i 0).val / 2048 = Cert.MlpIdeal.Value.pt8Of i / 32; omega)
    (by show (i 0).val % 2048 = Cert.MlpIdeal.Value.pt8Of i / 16 % 2 * 1024 + (i 0).val % 1024; omega)

end Cert.MlpTie
-- ==== Proof.Mlp0Ker.lean ====
/- The first layer's MLP call read at an index: the carried normed rows, the partial sums over the chunks, the last step. -/
module

public import proofs.«01_k».proof.Proof.Gen.Mlp0Ideal.Value
public import proofs.«01_k».proof.Proof.MlpSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.Mlp0Ideal.Val

open Cert.Mlp0Ideal Cert.Mlp0Ideal.Gen Idealize.ShloMosaic Idealize.ShloMosaic.TcCoe Idealize.SL.Sem Cert.MlpSpec
open Idealize.ShloMosaic.Pipeline (Dat)

variable (m : (ℓ : Loc nD τ sig) → Buf (Elt Ideal) ℓ) (c : Dev nD)

theorem scr_A (t : Fin cfg0.N) (h : t.val % 16 = 0) :
    (outsAt0 m c t.val t.isLt).2 = k0_pay5 (iblk m c 0 t) (iblk m c 1 t) (iblk m c 3 t) (iblk m c 2 t) := by
  rw [outsAt0_A m c t h (by omega) (by omega)]
  frame_out

theorem out_A (t : Fin cfg0.N) (h : t.val % 16 = 0) :
    (outsAt0 m c t.val t.isLt).1 = k0_pay1 (k0_pay6 (iblk m c 0 t) (iblk m c 1 t) (iblk m c 3 t) (iblk m c 2 t) (iblk m c 6 t)) (iblk m c 7 t) := by
  rw [outsAt0_A m c t h (by omega) (by omega)]
  frame_out

theorem scr_s (t : Fin cfg0.N) (h : ¬ t.val % 16 = 0) :
    (outsAt0 m c t.val t.isLt).2 = (outsAt0 m c (t.val - 1) (Nat.lt_of_le_of_lt (Nat.sub_le _ _) t.isLt)).2 := by
  by_cases h2 : t.val % 16 = 15
  · rw [outsAt0_C m c t h (by omega) h2]
    rfl
  · rw [outsAt0_B m c t h (by omega) h2]
    rfl

theorem out_B (t : Fin cfg0.N) (h : ¬ t.val % 16 = 0) (h2 : ¬ t.val % 16 = 15) :
    (outsAt0 m c t.val t.isLt).1 = k0_pay2 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) := by
  rw [outsAt0_B m c t h (by omega) h2]
  frame_out
  rw [read_unread_whole]

theorem out_C (t : Fin cfg0.N) (h2 : t.val % 16 = 15) :
    (outsAt0 m c t.val t.isLt).1 = k0_pay3 (k0_pay7 (iblk m c 0 t)) (k0_pay8 (iblk m c 4 t))
      (k0_pay9 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) (iblk m c 5 t)) := by
  rw [outsAt0_C m c t (by omega) (by omega) h2]
  frame_out
  rw [read_unread_whole]

theorem flat_at (x : Vec Ideal S4x2048x2048 .f32) (b : Fin 4) (n d : Fin 2048) (R : Fin 8192) (h : R.val = 2048 * b.val + n.val) :
    shapeCast S8192x2048 x shapeCasts_S4x2048x2048_S8192x2048 (ix2 R d) = x (ix3 b n d) := by
  pointwise
  have e1 : (⟨R.val / 2048, by omega⟩ : Fin 4) = b := Fin.ext (by show R.val / 2048 = b.val; omega)
  have e2 : (⟨R.val % 2048, by omega⟩ : Fin 2048) = n := Fin.ext (by show R.val % 2048 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S4x1x12288 .f32) (z : Vec Ideal S_ .f32) (b : Fin 8) (hb : b.val < 4) (k : Fin 6) (d : Fin 2048) :
    pad S2x8x6x1x2048 ![0, 0, 0, 0, 0] ![1, 4, 0, 0, 0] ![0, 0, 0, 0, 0]
      (shapeCast S1x4x6x1x2048 x shapeCasts_S4x1x12288_S1x4x6x1x2048) z
      pads_S1x4x6x1x2048_S2x8x6x1x2048_010_040_000_000_000 h_S_ (ix5 0 b k 0 d) = x (ix3 ⟨b.val, hb⟩ 0 ⟨k.val * 2048 + d.val, by omega⟩) := by
  pointwise
  rw [dif_pos hb]

/-- The rows of the stream, flattened. -/
theorem V_v0 (b : Fin 4) (n d : Fin 2048) (R : Fin 8192) (h : R.val = 2048 * b.val + n.val) :
    V m c main_v0 (ix2 R d) = m ((c : Thread nD τ).loc main_arg0) (ix3 b n d) := by
  have e : V m c main_v0 = shapeCast S8192x2048 (m ((c : Thread nD τ).loc main_arg0)) shapeCasts_S4x2048x2048_S8192x2048 := by
    unfold V
    rw [List.flatten_cons, List.flatten_cons, List.flatten_cons, List.flatten_nil, List.append_nil, StableHlo.after_append, StableHlo.after_append]
    entry_read
    rfl
  rw [e]
  exact flat_at _ b n d R h

theorem V_v3 (l : Fin 2) (d : Fin 2048) : V m c main_v3 (ix3 l 0 d) = m ((c : Thread nD τ).loc main_arg2) (ix2 l d) := by
  have e : V m c main_v3 = shapeCast S2x1x2048 (m ((c : Thread nD τ).loc main_arg2)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

theorem V_v4 (l : Fin 2) (d : Fin 2048) : V m c main_v4 (ix3 l 0 d) = m ((c : Thread nD τ).loc main_arg3) (ix2 l d) := by
  have e : V m c main_v4 = shapeCast S2x1x2048 (m ((c : Thread nD τ).loc main_arg3)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

/-- The modulation vectors of the first layer, behind the padding. -/
theorem V_v2 (b : Fin 8) (hb : b.val < 4) (k : Fin 6) (d : Fin 2048) :
    V m c main_v2 (ix5 0 b k 0 d) = m ((c : Thread nD τ).loc main_arg1) (ix3 ⟨b.val, hb⟩ 0 ⟨k.val * 2048 + d.val, by omega⟩) := by
  have e : ∃ z, V m c main_v2 = pad S2x8x6x1x2048 ![0, 0, 0, 0, 0] ![1, 4, 0, 0, 0] ![0, 0, 0, 0, 0]
      (shapeCast S1x4x6x1x2048 (m ((c : Thread nD τ).loc main_arg1)) shapeCasts_S4x1x12288_S1x4x6x1x2048) z
      pads_S1x4x6x1x2048_S2x8x6x1x2048_010_040_000_000_000 h_S_ := by
    unfold V
    rw [List.flatten_cons, List.flatten_cons, List.flatten_cons, List.flatten_nil, List.append_nil, StableHlo.after_append, StableHlo.after_append]
    entry_read
    exact ⟨_, rfl⟩
  obtain ⟨z, e⟩ := e
  rw [e]
  exact pad_at _ z b hb k d

theorem ix_0 : ∀ t : Fin cfg0.N, win0_0.index t = ![t.val / 16, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, t.val / 32, 3, 0, 0] := (by decide +kernel : ∀ t : Fin grid0.N, _)
theorem ix_3 : ∀ t : Fin cfg0.N, win0_3.index t = ![0, t.val / 32, 4, 0, 0] := (by decide +kernel : ∀ t : Fin grid0.N, _)
theorem ix_4 : ∀ t : Fin cfg0.N, win0_4.index t = ![0, t.val / 32, 5, 0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 0, t.val % 16] := (by decide +kernel : ∀ t : Fin grid0.N, _)
theorem ix_7 : ∀ t : Fin cfg0.N, win0_7.index t = ![0, t.val % 16, 0] := (by decide +kernel : ∀ t : Fin grid0.N, _)

theorem blk_7 (t : Fin cfg0.N) (k : Fin 512) (d : Fin 2048) :
    iblk m c 7 t (ix3 0 k d) = m ((c : Thread nD τ).loc main_arg5) (ix3 0 ⟨t.val % 16 * 512 + k.val, by omega⟩ d) := by
  blk_ext [iblk, V, ix_7 t]

theorem blk_6 (t : Fin cfg0.N) (k : Fin 512) (d : Fin 2048) :
    iblk m c 6 t (ix3 0 d k) = m ((c : Thread nD τ).loc main_arg4) (ix3 0 d ⟨t.val % 16 * 512 + k.val, by omega⟩) := by
  blk_ext [iblk, V, ix_6 t]

theorem blk_0 (t : Fin cfg0.N) (b : Fin 4) (n : Fin 2048) (r : Fin 1024) (d : Fin 2048) (hb : b.val = t.val / 32)
    (hn : n.val = t.val / 16 % 2 * 1024 + r.val) :
    iblk m c 0 t (ix2 r d) = m ((c : Thread nD τ).loc main_arg0) (ix3 b n d) := by
  have ht : t.val < 128 := lt_of_lt_of_eq t.isLt N_0
  rw [← V_v0 m c b n d ⟨t.val / 16 * 1024 + r.val, by omega⟩ (by show t.val / 16 * 1024 + r.val = _; omega)]
  blk_ext [iblk, ix_0 t]

theorem blk_1 (t : Fin cfg0.N) (d : Fin 2048) :
    iblk m c 1 t (ix3 0 0 d) = m ((c : Thread nD τ).loc main_arg2) (ix2 0 d) := by
  refine Eq.trans ?_ (V_v3 m c 0 d)
  blk_ext [iblk, ix_1 t]

theorem blk_5 (t : Fin cfg0.N) (d : Fin 2048) :
    iblk m c 5 t (ix3 0 0 d) = m ((c : Thread nD τ).loc main_arg3) (ix2 0 d) := by
  refine Eq.trans ?_ (V_v4 m c 0 d)
  blk_ext [iblk, ix_5 t]

theorem blk_2 (t : Fin cfg0.N) (b : Fin 4) (d : Fin 2048) (hb : b.val = t.val / 32) :
    iblk m c 2 t (ix5 0 0 0 0 d) = m ((c : Thread nD τ).loc main_arg1) (ix3 b 0 ⟨6144 + d.val, by omega⟩) := by
  refine Eq.trans ?_ (V_v2 m c ⟨b.val, by omega⟩ b.isLt 3 d)
  blk_ext [iblk, ix_2 t]

theorem blk_3 (t : Fin cfg0.N) (b : Fin 4) (d : Fin 2048) (hb : b.val = t.val / 32) :
    iblk m c 3 t (ix5 0 0 0 0 d) = m ((c : Thread nD τ).loc main_arg1) (ix3 b 0 ⟨8192 + d.val, by omega⟩) := by
  refine Eq.trans ?_ (V_v2 m c ⟨b.val, by omega⟩ b.isLt 4 d)
  blk_ext [iblk, ix_3 t]

theorem blk_4 (t : Fin cfg0.N) (b : Fin 4) (d : Fin 2048) (hb : b.val = t.val / 32) :
    iblk m c 4 t (ix5 0 0 0 0 d) = m ((c : Thread nD τ).loc main_arg1) (ix3 b 0 ⟨10240 + d.val, by omega⟩) := by
  refine Eq.trans ?_ (V_v2 m c ⟨b.val, by omega⟩ b.isLt 5 d)
  blk_ext [iblk, ix_4 t]

/-! ## The steps at an index -/

section pays

variable (x : Vec Ideal S1024x2048 .f32) (g : Vec Ideal S1x1x2048 .f32) (sc sh : Vec Ideal S1x1x1x1x2048 .f32)
  (w : Vec Ideal S1x2048x512 .f32) (w' : Vec Ideal S1x512x2048 .f32)

theorem pay5_at (r : Fin 1024) (d : Fin 2048) :
    k0_pay5 x g sc sh (ix2 r d) = modd (fun d => x (ix2 r d)) (fun d => g (ix3 0 0 d)) (fun d => sc (ix5 0 0 0 0 d)) (fun d => sh (ix5 0 0 0 0 d)) d := by
  pointwise [k0_pay5, k0_pay4, modd, rms]

theorem pay4_at (r : Fin 1024) (d : Fin 2048) :
    k0_pay4 x g sc sh (ix2 r d) = modd (fun d => x (ix2 r d)) (fun d => g (ix3 0 0 d)) (fun d => sc (ix5 0 0 0 0 d)) (fun d => sh (ix5 0 0 0 0 d)) d := by
  pointwise [k0_pay4, modd, rms]

theorem pay1_at (r : Fin 1024) (d : Fin 2048) :
    k0_pay1 (k0_pay6 x g sc sh w) w' (ix2 r d)
      = part (fun d => k0_pay4 x g sc sh (ix2 r d)) (fun d k => w (ix3 0 d k)) (fun k d => w' (ix3 0 k d)) d := by
  pointwise [k0_pay1, k0_pay6]
  rfl

theorem pay2_at (acc : Vec Ideal S1024x2048 .f32) (h : Vec Ideal S1024x2048 .bf16) (r : Fin 1024) (d : Fin 2048) :
    k0_pay2 acc h w w' (ix2 r d)
      = acc (ix2 r d) + part (fun d => h (ix2 r d)) (fun d k => w (ix3 0 d k)) (fun k d => w' (ix3 0 k d)) d := by
  pointwise [k0_pay2]
  rfl

theorem pay3_at (acc : Vec Ideal S1024x2048 .f32) (h : Vec Ideal S1024x2048 .bf16) (r : Fin 1024) (d : Fin 2048) :
    k0_pay3 (k0_pay7 x) (k0_pay8 sc) (k0_pay9 acc h w w' g) (ix2 r d)
      = resid (fun d => x (ix2 r d)) (fun d => sc (ix5 0 0 0 0 d)) (fun d => g (ix3 0 0 d))
          (fun d => acc (ix2 r d) + part (fun d => h (ix2 r d)) (fun d k => w (ix3 0 d k)) (fun k d => w' (ix3 0 k d)) d) d := by
  pointwise [k0_pay3, k0_pay7, k0_pay8, k0_pay9]
  rfl

end pays

/-! ## The carried rows and the partial sums -/

/-- The normed and modulated row `(b, n)`, as launched. -/
def hrow (b : Fin 4) (n : Fin 2048) : Fin 2048 → EReal :=
  modd (fun d => m ((c : Thread nD τ).loc main_arg0) (ix3 b n d)) (fun d => m ((c : Thread nD τ).loc main_arg2) (ix2 0 d))
    (fun d => m ((c : Thread nD τ).loc main_arg1) (ix3 b 0 ⟨8192 + d.val, by omega⟩))
    (fun d => m ((c : Thread nD τ).loc main_arg1) (ix3 b 0 ⟨6144 + d.val, by omega⟩))

/-- The unit sums of row `(b, n)`, as launched. -/
def urow (b : Fin 4) (n : Fin 2048) (d : Fin 2048) (s : ℕ) : EReal :=
  ∑ k : Fin 512, unit (hrow m c b n) (fun d k => m ((c : Thread nD τ).loc main_arg4) (ix3 0 d k))
    (fun k d => m ((c : Thread nD τ).loc main_arg5) (ix3 0 k d)) d (s * 512 + k.val)

theorem pay5_row (t : Fin cfg0.N) (b : Fin 4) (n : Fin 2048) (r : Fin 1024) (d : Fin 2048) (hb : b.val = t.val / 32)
    (hn : n.val = t.val / 16 % 2 * 1024 + r.val) :
    k0_pay5 (iblk m c 0 t) (iblk m c 1 t) (iblk m c 3 t) (iblk m c 2 t) (ix2 r d) = hrow m c b n d := by
  rw [pay5_at]
  simp only [blk_0 m c t b n r _ hb hn, blk_1, blk_2 m c t b _ hb, blk_3 m c t b _ hb]
  rfl

/-- What the scratch holds at every point of a run: the run's normed rows. -/
theorem scr_at (t : Fin cfg0.N) (b : Fin 4) (n : Fin 2048) (r : Fin 1024) (d : Fin 2048) (hb : b.val = t.val / 32)
    (hn : n.val = t.val / 16 % 2 * 1024 + r.val) : (outsAt0 m c t.val t.isLt).2 (ix2 r d) = hrow m c b n d := by
  rw [Pipeline.eq_of_write_hold_apply (fun n h => (outsAt0 m c n h).2) 16
    (fun t => k0_pay5 (iblk m c 0 t) (iblk m c 1 t) (iblk m c 3 t) (iblk m c 2 t))
    (fun t h i => congrFun (scr_A m c t h) i) (fun t h i => congrFun (scr_s m c t h) i) t (ix2 r d)]
  exact pay5_row m c _ b n r d (by show b.val = 16 * (t.val / 16) / 32; omega)
    (by show n.val = 16 * (t.val / 16) / 16 % 2 * 1024 + r.val; omega)

theorem chunk_at (t : Fin cfg0.N) (b : Fin 4) (n : Fin 2048) (d : Fin 2048) :
    part (hrow m c b n) (fun d k => iblk m c 6 t (ix3 0 d k)) (fun k d => iblk m c 7 t (ix3 0 k d)) d = urow m c b n d (t.val % 16) :=
  part_chunk _ _ _ d _ _ (t.val % 16) (Nat.mod_lt _ (by decide)) (fun d k => blk_6 m c t k d) (fun k d => blk_7 m c t k d)

/-- What the output block holds before the run's last point: the chunks so far. -/
theorem acc_at (b : Fin 4) (n : Fin 2048) (r : Fin 1024) (d : Fin 2048) : ∀ (k : ℕ) (hk : k < cfg0.N), b.val = k / 32 →
    n.val = k / 16 % 2 * 1024 + r.val → ¬ k % 16 = 15 →
    (outsAt0 m c k hk).1 (ix2 r d) = ∑ s ∈ Finset.range (k % 16 + 1), urow m c b n d s := by
  intro k
  induction k with
  | zero =>
    intro hk hb hn _
    rw [out_A m c ⟨0, hk⟩ rfl, pay1_at]
    have e : (fun d => k0_pay4 (iblk m c 0 ⟨0, hk⟩) (iblk m c 1 ⟨0, hk⟩) (iblk m c 3 ⟨0, hk⟩) (iblk m c 2 ⟨0, hk⟩) (ix2 r d)) = hrow m c b n :=
      funext fun d => (pay4_at _ _ _ _ r d).trans ((pay5_at _ _ _ _ r d).symm.trans (pay5_row m c ⟨0, hk⟩ b n r d hb hn))
    rw [e, chunk_at]
    simp
  | succ k ih =>
    intro hk hb hn hl
    by_cases h : (k + 1) % 16 = 0
    · rw [out_A m c ⟨k + 1, hk⟩ h, pay1_at]
      have e : (fun d => k0_pay4 (iblk m c 0 ⟨k + 1, hk⟩) (iblk m c 1 ⟨k + 1, hk⟩) (iblk m c 3 ⟨k + 1, hk⟩) (iblk m c 2 ⟨k + 1, hk⟩) (ix2 r d)) = hrow m c b n :=
        funext fun d => (pay4_at _ _ _ _ r d).trans ((pay5_at _ _ _ _ r d).symm.trans (pay5_row m c ⟨k + 1, hk⟩ b n r d hb hn))
      rw [e, chunk_at]
      simp [h]
    · rw [out_B m c ⟨k + 1, hk⟩ h hl, pay2_at]
      have hk' : k < cfg0.N := Nat.lt_of_succ_lt hk
      have e : (fun d => (outsAt0 m c k hk').2 (ix2 r d)) = hrow m c b n :=
        funext fun d => scr_at m c ⟨k, hk'⟩ b n r d (by show b.val = k / 32; omega) (by show n.val = k / 16 % 2 * 1024 + r.val; omega)
      have e1 := ih hk' (by omega) (by omega) (by omega)
      show (outsAt0 m c k hk').1 (ix2 r d) + part (fun d => (outsAt0 m c k hk').2 (ix2 r d)) _ _ d = _
      rw [e, e1, chunk_at, show (k + 1) % 16 = k % 16 + 1 by omega, Finset.sum_range_succ _ (k % 16 + 1)]

/-- What a run's last point leaves in the output block. -/
theorem last_at (t : Fin cfg0.N) (h : t.val % 16 = 15) (b : Fin 4) (n : Fin 2048) (r : Fin 1024) (d : Fin 2048) (hb : b.val = t.val / 32)
    (hn : n.val = t.val / 16 % 2 * 1024 + r.val) :
    (outsAt0 m c t.val t.isLt).1 (ix2 r d)
      = resid (fun d => m ((c : Thread nD τ).loc main_arg0) (ix3 b n d)) (fun d => m ((c : Thread nD τ).loc main_arg1) (ix3 b 0 ⟨10240 + d.val, by omega⟩))
          (fun d => m ((c : Thread nD τ).loc main_arg3) (ix2 0 d))
          (fun d => part (hrow m c b n) (fun d k => m ((c : Thread nD τ).loc main_arg4) (ix3 0 d k)) (fun k d => m ((c : Thread nD τ).loc main_arg5) (ix3 0 k d)) d) d := by
  rw [out_C m c t h, pay3_at]
  have hk' : t.val - 1 < cfg0.N := Nat.lt_of_le_of_lt (Nat.sub_le _ _) t.isLt
  have e : (fun d => (outsAt0 m c (t.val - 1) hk').2 (ix2 r d)) = hrow m c b n :=
    funext fun d => scr_at m c ⟨t.val - 1, hk'⟩ b n r d (by show b.val = (t.val - 1) / 32; omega)
      (by show n.val = (t.val - 1) / 16 % 2 * 1024 + r.val; omega)
  have e1 : ∀ d, (outsAt0 m c (t.val - 1) hk').1 (ix2 r d) = ∑ s ∈ Finset.range 15, urow m c b n d s := fun d => by
    rw [acc_at m c b n r d (t.val - 1) hk' (by omega) (by omega) (by omega), show (t.val - 1) % 16 + 1 = 15 by omega]
  rw [e]
  simp only [e1, chunk_at, h, part_all, blk_0 m c t b n r _ hb hn, blk_4 m c t b _ hb, blk_5]
  simp only [Finset.sum_range_succ _ 15]
  rfl

end Cert.Mlp0Ideal.Val
-- ==== Proof.Mlp0Ref.lean ====
/- The first layer's MLP reference read at an index: one row of the residual stream through the sublayer. -/
module

public import proofs.«01_k».proof.Proof.Gen.Mlp0ReferenceIdeal.Read
public import proofs.«01_k».proof.Proof.MlpSpec

@[expose] public section

noncomputable section

namespace Cert.Mlp0ReferenceIdeal.Val

open Cert.Mlp0ReferenceIdeal Cert.Mlp0ReferenceIdeal.Gen Cert.Mlp0ReferenceIdeal.Read Idealize.ShloMosaic Cert.MlpSpec

variable (x0 : Vec Ideal S4x2048x2048 .f32) (x1 : Vec Ideal S4x1x12288 .f32) (x2 x3 : Vec Ideal S2x2048 .f32)
  (x4 : Vec Ideal S2x2048x8192 .f32) (x5 : Vec Ideal S2x8192x2048 .f32)

/-- Row `(b, n)` of the normed and modulated input. -/
theorem pre_at (b : Fin 4) (n d : Fin 2048) :
    val_main_v26 (F := Ideal) x0 x1 x2 (ix3 b n d)
      = modd (fun d => x0 (ix3 b n d)) (fun d => x2 (ix2 0 d)) (fun d => x1 (ix3 b 0 ⟨8192 + d.val, by omega⟩))
          (fun d => x1 (ix3 b 0 ⟨6144 + d.val, by omega⟩)) d := by
  pointwise [val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v4, val_main_v3, modd, rms]

/-- The first product. -/
theorem dot1_at (b : Fin 4) (n : Fin 2048) (k : Fin 8192) :
    val_main_v29 (F := Ideal) x0 x1 x2 x4 (ix3 b n k)
      = ∑ d, val_main_v26 (F := Ideal) x0 x1 x2 (ix3 b n d) * x4 (ix3 0 d k) := by
  pointwise [val_main_v29, val_main_v28, val_main_v27]

/-- The second product. -/
theorem dot2_at (b : Fin 4) (n d : Fin 2048) :
    val_main_v35 (F := Ideal) x0 x1 x2 x4 x5 (ix3 b n d)
      = part (fun d => val_main_v26 (F := Ideal) x0 x1 x2 (ix3 b n d)) (fun d k => x4 (ix3 0 d k)) (fun k d => x5 (ix3 0 k d)) d := by
  pointwise [val_main_v35, val_main_v34, val_main_v33, val_main_v32, val_main_v31, val_main_v30, val_main_cst_3]
  simp only [dot1_at]
  rfl

theorem out_at (b : Fin 4) (n d : Fin 2048) :
    val_main_v53 (F := Ideal) x0 x1 x2 x3 x4 x5 (ix3 b n d)
      = resid (fun d => x0 (ix3 b n d)) (fun d => x1 (ix3 b 0 ⟨10240 + d.val, by omega⟩)) (fun d => x3 (ix2 0 d))
          (fun d => val_main_v35 (F := Ideal) x0 x1 x2 x4 x5 (ix3 b n d)) d := by
  pointwise [val_main_v53, val_main_v52, val_main_v51, val_main_v50, val_main_v49, val_main_v48, val_main_v47,
    val_main_v46, val_main_v45, val_main_v44, val_main_v43, val_main_cst_6, val_main_v42, val_main_v41, val_main_cst_5,
    val_main_v40, val_main_v39, val_main_cst_4, val_main_v38, val_main_v37, val_main_v36, val_main_v5, resid, rms]

/-- The reference's result at row `2048 b + n`: the sublayer applied to row `(b, n)` of the stream. -/
theorem res_at (b : Fin 4) (n d : Fin 2048) (i : S8192x2048.Idx) (h0 : (i 0).val = 2048 * b.val + n.val) (h1 : (i 1).val = d.val) :
    val_main_v54 (F := Ideal) x0 x1 x2 x3 x4 x5 i
      = resid (fun d => x0 (ix3 b n d)) (fun d => x1 (ix3 b 0 ⟨10240 + d.val, by omega⟩)) (fun d => x3 (ix2 0 d))
          (fun d => part (modd (fun d => x0 (ix3 b n d)) (fun d => x2 (ix2 0 d)) (fun d => x1 (ix3 b 0 ⟨8192 + d.val, by omega⟩))
              (fun d => x1 (ix3 b 0 ⟨6144 + d.val, by omega⟩)))
            (fun d k => x4 (ix3 0 d k)) (fun k d => x5 (ix3 0 k d)) d) d := by
  rw [val_main_v54_apply]
  have e : idx_main_v54 i = ix3 b n d := by
    funext a
    apply Fin.ext
    have hb := b.isLt; have hn := n.isLt; have hd := d.isLt
    match a with
    | ⟨0, _⟩ => show _ = b.val; simp only [idx_main_v54]; omega
    | ⟨1, _⟩ => show _ = n.val; simp only [idx_main_v54]; omega
    | ⟨2, _⟩ => show _ = d.val; simp only [idx_main_v54]; omega
  rw [e, out_at]
  simp only [dot2_at, pre_at]

end Cert.Mlp0ReferenceIdeal.Val
-- ==== Proof.Mlp0Tie.lean ====
/- The first layer's MLP call beside its reference: both results are the sublayer applied row by row. -/
module

public import proofs.«01_k».proof.Proof.Mlp0Ker
public import proofs.«01_k».proof.Proof.Mlp0Ref
public import proofs.«01_k».proof.Proof.Gen.Mlp0ReferenceIdeal.Run

@[expose] public section

noncomputable section

namespace Cert.Mlp0Tie

open Idealize.ShloMosaic Idealize.SL.Sem Cert.MlpSpec

/-- The call's result array is the reference's result on the same arguments. -/
theorem tie (m : (ℓ : Loc Cert.Mlp0Ideal.nD Cert.Mlp0Ideal.τ Cert.Mlp0Ideal.sig) → Buf (Elt Ideal) ℓ) (c : Dev Cert.Mlp0Ideal.nD) :
    Cert.Mlp0Ideal.Value.G8 m c = Cert.Mlp0ReferenceIdeal.Read.val_main_v54 (F := Ideal)
      (m ((c.tc : Thread Cert.Mlp0Ideal.nD Cert.Mlp0Ideal.τ).loc Cert.Mlp0Ideal.main_arg0))
      (m ((c.tc : Thread Cert.Mlp0Ideal.nD Cert.Mlp0Ideal.τ).loc Cert.Mlp0Ideal.main_arg1))
      (m ((c.tc : Thread Cert.Mlp0Ideal.nD Cert.Mlp0Ideal.τ).loc Cert.Mlp0Ideal.main_arg2))
      (m ((c.tc : Thread Cert.Mlp0Ideal.nD Cert.Mlp0Ideal.τ).loc Cert.Mlp0Ideal.main_arg3))
      (m ((c.tc : Thread Cert.Mlp0Ideal.nD Cert.Mlp0Ideal.τ).loc Cert.Mlp0Ideal.main_arg4))
      (m ((c.tc : Thread Cert.Mlp0Ideal.nD Cert.Mlp0Ideal.τ).loc Cert.Mlp0Ideal.main_arg5)) := by
  funext i
  have h0 : (i 0).val < 8192 := (i 0).isLt
  have h1 : (i 1).val < 2048 := (i 1).isLt
  have hp : Cert.Mlp0Ideal.Value.pt8Of i < Cert.Mlp0Ideal.cfg0.N :=
    lt_of_lt_of_eq (show 16 * (1 * ((i 0).val / 1024 - 0) + 1 * ((i 1).val / 2048 - 0)) + 15 < 128 by omega) Cert.Mlp0Ideal.Gen.N_0.symm
  have hv : Cert.Mlp0Ideal.Value.pt8Of i = 16 * ((i 0).val / 1024) + 15 := by
    show 16 * (1 * ((i 0).val / 1024 - 0) + 1 * ((i 1).val / 2048 - 0)) + 15 = _; omega
  have e : Cert.Mlp0Ideal.Value.G8 m c i = (Cert.Mlp0Ideal.Gen.outsAt0 m c (Cert.Mlp0Ideal.Value.pt8Of i) hp).1 (Cert.Mlp0Ideal.Value.loc8Of i) := by
    rw [Cert.Mlp0Ideal.Value.outsAt0_sweep]
    unfold Cert.Mlp0Ideal.Value.G8
    rw [dif_pos hp]
  have el : Cert.Mlp0Ideal.Value.loc8Of i = ix2 ⟨(i 0).val % 1024, Nat.mod_lt _ (by decide)⟩ ⟨(i 1).val, h1⟩ := by
    funext a
    match a with
    | ⟨0, _⟩ => rfl
    | ⟨1, _⟩ => exact Fin.ext (Nat.mod_eq_of_lt h1)
  rw [e, el, Cert.Mlp0ReferenceIdeal.Val.res_at _ _ _ _ _ _ ⟨(i 0).val / 2048, by omega⟩ ⟨(i 0).val % 2048, by omega⟩ ⟨(i 1).val, h1⟩ i
    (by show (i 0).val = 2048 * ((i 0).val / 2048) + (i 0).val % 2048; omega) rfl]
  exact Cert.Mlp0Ideal.Val.last_at m c ⟨Cert.Mlp0Ideal.Value.pt8Of i, hp⟩ (by show Cert.Mlp0Ideal.Value.pt8Of i % 16 = 15; omega) _ _ _ _
    (by show (i 0).val / 2048 = Cert.Mlp0Ideal.Value.pt8Of i / 32; omega)
    (by show (i 0).val % 2048 = Cert.Mlp0Ideal.Value.pt8Of i / 16 % 2 * 1024 + (i 0).val % 1024; omega)

end Cert.Mlp0Tie
-- ==== Proof.CMlpKer.lean ====
/- The context stream's MLP call read at an index: the carried normed rows, the partial sums over the chunks, the last step. -/
module

public import proofs.«01_k».proof.Proof.Gen.CMlpIdeal.Value
public import proofs.«01_k».proof.Proof.MlpSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.CMlpIdeal.Val

open Cert.CMlpIdeal Cert.CMlpIdeal.Gen Idealize.ShloMosaic Idealize.ShloMosaic.TcCoe Idealize.SL.Sem Cert.MlpSpec
open Idealize.ShloMosaic.Pipeline (Dat)

variable (m : (ℓ : Loc nD τ sig) → Buf (Elt Ideal) ℓ) (c : Dev nD)

theorem scr_A (t : Fin cfg0.N) (h : t.val % 16 = 0) :
    (outsAt0 m c t.val t.isLt).2 = k0_pay5 (iblk m c 0 t) (iblk m c 1 t) (iblk m c 3 t) (iblk m c 2 t) := by
  rw [outsAt0_A m c t h (by omega) (by omega)]
  frame_out

theorem out_A (t : Fin cfg0.N) (h : t.val % 16 = 0) :
    (outsAt0 m c t.val t.isLt).1 = k0_pay1 (k0_pay6 (iblk m c 0 t) (iblk m c 1 t) (iblk m c 3 t) (iblk m c 2 t) (iblk m c 6 t)) (iblk m c 7 t) := by
  rw [outsAt0_A m c t h (by omega) (by omega)]
  frame_out

theorem scr_s (t : Fin cfg0.N) (h : ¬ t.val % 16 = 0) :
    (outsAt0 m c t.val t.isLt).2 = (outsAt0 m c (t.val - 1) (Nat.lt_of_le_of_lt (Nat.sub_le _ _) t.isLt)).2 := by
  by_cases h2 : t.val % 16 = 15
  · rw [outsAt0_C m c t h (by omega) h2]
    rfl
  · rw [outsAt0_B m c t h (by omega) h2]
    rfl

theorem out_B (t : Fin cfg0.N) (h : ¬ t.val % 16 = 0) (h2 : ¬ t.val % 16 = 15) :
    (outsAt0 m c t.val t.isLt).1 = k0_pay2 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) := by
  rw [outsAt0_B m c t h (by omega) h2]
  frame_out
  rw [read_unread_whole]

theorem out_C (t : Fin cfg0.N) (h2 : t.val % 16 = 15) :
    (outsAt0 m c t.val t.isLt).1 = k0_pay3 (k0_pay7 (iblk m c 0 t)) (k0_pay8 (iblk m c 4 t))
      (k0_pay9 (outsAt0 m c (t.val - 1) (Nat.lt_of_le_of_lt (Nat.sub_le _ _) t.isLt)).1
      (outsAt0 m c (t.val - 1) (Nat.lt_of_le_of_lt (Nat.sub_le _ _) t.isLt)).2 (iblk m c 6 t) (iblk m c 7 t) (iblk m c 5 t)) := by
  rw [outsAt0_C m c t (by omega) (by omega) h2]
  frame_out
  rw [read_unread_whole]

theorem flat_at (x : Vec Ideal S4x256x2048 .f32) (b : Fin 4) (n : Fin 256) (d : Fin 2048) (R : Fin 1024) (h : R.val = 256 * b.val + n.val) :
    shapeCast S1024x2048 x shapeCasts_S4x256x2048_S1024x2048 (ix2 R d) = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S12288 .f32) (z : Vec Ideal S_ .f32) (k : Fin 6) (d : Fin 2048) :
    pad S2x8x6x1x2048 ![0, 4, 0, 0, 0] ![1, 3, 0, 0, 0] ![0, 0, 0, 0, 0]
      (shapeCast S1x1x6x1x2048 x shapeCasts_S12288_S1x1x6x1x2048) z
      pads_S1x1x6x1x2048_S2x8x6x1x2048_010_430_000_000_000 h_S_ (ix5 0 4 k 0 d) = x (ix1 ⟨k.val * 2048 + d.val, by omega⟩) := by
  pointwise

/-- The rows of the stream, flattened. -/
theorem V_v2 (b : Fin 4) (n : Fin 256) (d : Fin 2048) (R : Fin 1024) (h : R.val = 256 * b.val + n.val) :
    V m c main_v2 (ix2 R d) = m ((c : Thread nD τ).loc main_arg0) (ix3 b n d) := by
  have e : V m c main_v2 = shapeCast S1024x2048 (m ((c : Thread nD τ).loc main_arg0)) shapeCasts_S4x256x2048_S1024x2048 := by
    unfold V
    rw [List.flatten_cons, List.flatten_cons, List.flatten_cons, List.flatten_nil, List.append_nil, StableHlo.after_append, StableHlo.after_append]
    entry_read
    rfl
  rw [e]
  exact flat_at _ b n d R h

theorem V_v3 (l : Fin 2) (d : Fin 2048) : V m c main_v3 (ix3 l 0 d) = m ((c : Thread nD τ).loc main_arg2) (ix2 l d) := by
  have e : V m c main_v3 = shapeCast S2x1x2048 (m ((c : Thread nD τ).loc main_arg2)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

theorem V_v4 (l : Fin 2) (d : Fin 2048) : V m c main_v4 (ix3 l 0 d) = m ((c : Thread nD τ).loc main_arg3) (ix2 l d) := by
  have e : V m c main_v4 = shapeCast S2x1x2048 (m ((c : Thread nD τ).loc main_arg3)) shapeCasts_S2x2048_S2x1x2048 := by
    unfold V
    rw [List.flatten_cons, List.flatten_cons, List.flatten_cons, List.flatten_nil, List.append_nil, StableHlo.after_append, StableHlo.after_append]
    entry_read
    rfl
  rw [e]
  exact row_at _ l d

/-- The modulation vectors of the first layer, behind the padding. -/
theorem V_v1 (k : Fin 6) (d : Fin 2048) :
    V m c main_v1 (ix5 0 4 k 0 d) = m ((c : Thread nD τ).loc main_arg1) (ix1 ⟨k.val * 2048 + d.val, by omega⟩) := by
  have e : ∃ z, V m c main_v1 = pad S2x8x6x1x2048 ![0, 4, 0, 0, 0] ![1, 3, 0, 0, 0] ![0, 0, 0, 0, 0]
      (shapeCast S1x1x6x1x2048 (m ((c : Thread nD τ).loc main_arg1)) shapeCasts_S12288_S1x1x6x1x2048) z
      pads_S1x1x6x1x2048_S2x8x6x1x2048_010_430_000_000_000 h_S_ := by
    unfold V
    rw [List.flatten_cons, List.flatten_cons, List.flatten_cons, List.flatten_nil, List.append_nil, StableHlo.after_append, StableHlo.after_append]
    entry_read
    exact ⟨_, rfl⟩
  obtain ⟨z, e⟩ := e
  rw [e]
  exact pad_at _ z k d

theorem ix_0 : ∀ t : Fin cfg0.N, win0_0.index t = ![0, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, 4, 3, 0, 0] := (by decide +kernel : ∀ t : Fin grid0.N, _)
theorem ix_3 : ∀ t : Fin cfg0.N, win0_3.index t = ![0, 4, 4, 0, 0] := (by decide +kernel : ∀ t : Fin grid0.N, _)
theorem ix_4 : ∀ t : Fin cfg0.N, win0_4.index t = ![0, 4, 5, 0, 0] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 0, t.val % 16] := (by decide +kernel : ∀ t : Fin grid0.N, _)
theorem ix_7 : ∀ t : Fin cfg0.N, win0_7.index t = ![0, t.val % 16, 0] := (by decide +kernel : ∀ t : Fin grid0.N, _)

theorem blk_7 (t : Fin cfg0.N) (k : Fin 512) (d : Fin 2048) :
    iblk m c 7 t (ix3 0 k d) = m ((c : Thread nD τ).loc main_arg5) (ix3 0 ⟨t.val % 16 * 512 + k.val, by omega⟩ d) := by
  blk_ext [iblk, V, ix_7 t]

theorem blk_6 (t : Fin cfg0.N) (k : Fin 512) (d : Fin 2048) :
    iblk m c 6 t (ix3 0 d k) = m ((c : Thread nD τ).loc main_arg4) (ix3 0 d ⟨t.val % 16 * 512 + k.val, by omega⟩) := by
  blk_ext [iblk, V, ix_6 t]

theorem blk_0 (t : Fin cfg0.N) (b : Fin 4) (n : Fin 256) (r : Fin 1024) (d : Fin 2048) (hr : r.val = 256 * b.val + n.val) :
    iblk m c 0 t (ix2 r d) = m ((c : Thread nD τ).loc main_arg0) (ix3 b n d) := by
  rw [← V_v2 m c b n d r hr]
  blk_ext [iblk, ix_0 t]

theorem blk_1 (t : Fin cfg0.N) (d : Fin 2048) :
    iblk m c 1 t (ix3 0 0 d) = m ((c : Thread nD τ).loc main_arg2) (ix2 0 d) := by
  refine Eq.trans ?_ (V_v3 m c 0 d)
  blk_ext [iblk, ix_1 t]

theorem blk_5 (t : Fin cfg0.N) (d : Fin 2048) :
    iblk m c 5 t (ix3 0 0 d) = m ((c : Thread nD τ).loc main_arg3) (ix2 0 d) := by
  refine Eq.trans ?_ (V_v4 m c 0 d)
  blk_ext [iblk, ix_5 t]

theorem blk_2 (t : Fin cfg0.N) (d : Fin 2048) :
    iblk m c 2 t (ix5 0 0 0 0 d) = m ((c : Thread nD τ).loc main_arg1) (ix1 ⟨6144 + d.val, by omega⟩) := by
  refine Eq.trans ?_ (V_v1 m c 3 d)
  blk_ext [iblk, ix_2 t]

theorem blk_3 (t : Fin cfg0.N) (d : Fin 2048) :
    iblk m c 3 t (ix5 0 0 0 0 d) = m ((c : Thread nD τ).loc main_arg1) (ix1 ⟨8192 + d.val, by omega⟩) := by
  refine Eq.trans ?_ (V_v1 m c 4 d)
  blk_ext [iblk, ix_3 t]

theorem blk_4 (t : Fin cfg0.N) (d : Fin 2048) :
    iblk m c 4 t (ix5 0 0 0 0 d) = m ((c : Thread nD τ).loc main_arg1) (ix1 ⟨10240 + d.val, by omega⟩) := by
  refine Eq.trans ?_ (V_v1 m c 5 d)
  blk_ext [iblk, ix_4 t]

/-! ## The steps at an index -/

section pays

variable (x : Vec Ideal S1024x2048 .f32) (g : Vec Ideal S1x1x2048 .f32) (sc sh : Vec Ideal S1x1x1x1x2048 .f32)
  (w : Vec Ideal S1x2048x512 .f32) (w' : Vec Ideal S1x512x2048 .f32)

theorem pay5_at (r : Fin 1024) (d : Fin 2048) :
    k0_pay5 x g sc sh (ix2 r d) = modd (fun d => x (ix2 r d)) (fun d => g (ix3 0 0 d)) (fun d => sc (ix5 0 0 0 0 d)) (fun d => sh (ix5 0 0 0 0 d)) d := by
  pointwise [k0_pay5, k0_pay4, modd, rms]

theorem pay4_at (r : Fin 1024) (d : Fin 2048) :
    k0_pay4 x g sc sh (ix2 r d) = modd (fun d => x (ix2 r d)) (fun d => g (ix3 0 0 d)) (fun d => sc (ix5 0 0 0 0 d)) (fun d => sh (ix5 0 0 0 0 d)) d := by
  pointwise [k0_pay4, modd, rms]

theorem pay1_at (r : Fin 1024) (d : Fin 2048) :
    k0_pay1 (k0_pay6 x g sc sh w) w' (ix2 r d)
      = part (fun d => k0_pay4 x g sc sh (ix2 r d)) (fun d k => w (ix3 0 d k)) (fun k d => w' (ix3 0 k d)) d := by
  pointwise [k0_pay1, k0_pay6]
  rfl

theorem pay2_at (acc : Vec Ideal S1024x2048 .f32) (h : Vec Ideal S1024x2048 .bf16) (r : Fin 1024) (d : Fin 2048) :
    k0_pay2 acc h w w' (ix2 r d)
      = acc (ix2 r d) + part (fun d => h (ix2 r d)) (fun d k => w (ix3 0 d k)) (fun k d => w' (ix3 0 k d)) d := by
  pointwise [k0_pay2]
  rfl

theorem pay3_at (acc : Vec Ideal S1024x2048 .f32) (h : Vec Ideal S1024x2048 .bf16) (r : Fin 1024) (d : Fin 2048) :
    k0_pay3 (k0_pay7 x) (k0_pay8 sc) (k0_pay9 acc h w w' g) (ix2 r d)
      = resid (fun d => x (ix2 r d)) (fun d => sc (ix5 0 0 0 0 d)) (fun d => g (ix3 0 0 d))
          (fun d => acc (ix2 r d) + part (fun d => h (ix2 r d)) (fun d k => w (ix3 0 d k)) (fun k d => w' (ix3 0 k d)) d) d := by
  pointwise [k0_pay3, k0_pay7, k0_pay8, k0_pay9]
  rfl

end pays

/-! ## The carried rows and the partial sums -/

/-- The normed and modulated row `(b, n)`, as launched. -/
def hrow (b : Fin 4) (n : Fin 256) : Fin 2048 → EReal :=
  modd (fun d => m ((c : Thread nD τ).loc main_arg0) (ix3 b n d)) (fun d => m ((c : Thread nD τ).loc main_arg2) (ix2 0 d))
    (fun d => m ((c : Thread nD τ).loc main_arg1) (ix1 ⟨8192 + d.val, by omega⟩))
    (fun d => m ((c : Thread nD τ).loc main_arg1) (ix1 ⟨6144 + d.val, by omega⟩))

/-- The unit sums of row `(b, n)`, as launched. -/
def urow (b : Fin 4) (n : Fin 256) (d : Fin 2048) (s : ℕ) : EReal :=
  ∑ k : Fin 512, unit (hrow m c b n) (fun d k => m ((c : Thread nD τ).loc main_arg4) (ix3 0 d k))
    (fun k d => m ((c : Thread nD τ).loc main_arg5) (ix3 0 k d)) d (s * 512 + k.val)

theorem pay5_row (t : Fin cfg0.N) (b : Fin 4) (n : Fin 256) (r : Fin 1024) (d : Fin 2048) (hr : r.val = 256 * b.val + n.val) :
    k0_pay5 (iblk m c 0 t) (iblk m c 1 t) (iblk m c 3 t) (iblk m c 2 t) (ix2 r d) = hrow m c b n d := by
  rw [pay5_at]
  simp only [blk_0 m c t b n r _ hr, blk_1, blk_2, blk_3]
  rfl

/-- What the scratch holds at every point of a run: the run's normed rows. -/
theorem scr_at (t : Fin cfg0.N) (b : Fin 4) (n : Fin 256) (r : Fin 1024) (d : Fin 2048) (hr : r.val = 256 * b.val + n.val) : (outsAt0 m c t.val t.isLt).2 (ix2 r d) = hrow m c b n d := by
  rw [Pipeline.eq_of_write_hold_apply (fun n h => (outsAt0 m c n h).2) 16
    (fun t => k0_pay5 (iblk m c 0 t) (iblk m c 1 t) (iblk m c 3 t) (iblk m c 2 t))
    (fun t h i => congrFun (scr_A m c t h) i) (fun t h i => congrFun (scr_s m c t h) i) t (ix2 r d)]
  exact pay5_row m c _ b n r d hr

theorem chunk_at (t : Fin cfg0.N) (b : Fin 4) (n : Fin 256) (d : Fin 2048) :
    part (hrow m c b n) (fun d k => iblk m c 6 t (ix3 0 d k)) (fun k d => iblk m c 7 t (ix3 0 k d)) d = urow m c b n d (t.val % 16) :=
  part_chunk _ _ _ d _ _ (t.val % 16) (Nat.mod_lt _ (by decide)) (fun d k => blk_6 m c t k d) (fun k d => blk_7 m c t k d)

/-- What the output block holds before the run's last point: the chunks so far. -/
theorem acc_at (b : Fin 4) (n : Fin 256) (r : Fin 1024) (d : Fin 2048) (hr : r.val = 256 * b.val + n.val) :
    ∀ (k : ℕ) (hk : k < cfg0.N), ¬ k % 16 = 15 →
    (outsAt0 m c k hk).1 (ix2 r d) = ∑ s ∈ Finset.range (k % 16 + 1), urow m c b n d s := by
  intro k
  induction k with
  | zero =>
    intro hk _
    rw [out_A m c ⟨0, hk⟩ rfl, pay1_at]
    have e : (fun d => k0_pay4 (iblk m c 0 ⟨0, hk⟩) (iblk m c 1 ⟨0, hk⟩) (iblk m c 3 ⟨0, hk⟩) (iblk m c 2 ⟨0, hk⟩) (ix2 r d)) = hrow m c b n :=
      funext fun d => (pay4_at _ _ _ _ r d).trans ((pay5_at _ _ _ _ r d).symm.trans (pay5_row m c ⟨0, hk⟩ b n r d hr))
    rw [e, chunk_at]
    simp
  | succ k ih =>
    intro hk hl
    by_cases h : (k + 1) % 16 = 0
    · rw [out_A m c ⟨k + 1, hk⟩ h, pay1_at]
      have e : (fun d => k0_pay4 (iblk m c 0 ⟨k + 1, hk⟩) (iblk m c 1 ⟨k + 1, hk⟩) (iblk m c 3 ⟨k + 1, hk⟩) (iblk m c 2 ⟨k + 1, hk⟩) (ix2 r d)) = hrow m c b n :=
        funext fun d => (pay4_at _ _ _ _ r d).trans ((pay5_at _ _ _ _ r d).symm.trans (pay5_row m c ⟨k + 1, hk⟩ b n r d hr))
      rw [e, chunk_at]
      simp [h]
    · rw [out_B m c ⟨k + 1, hk⟩ h hl, pay2_at]
      have hk' : k < cfg0.N := Nat.lt_of_succ_lt hk
      have e : (fun d => (outsAt0 m c k hk').2 (ix2 r d)) = hrow m c b n :=
        funext fun d => scr_at m c ⟨k, hk'⟩ b n r d hr
      have e1 := ih hk' (by omega)
      show (outsAt0 m c k hk').1 (ix2 r d) + part (fun d => (outsAt0 m c k hk').2 (ix2 r d)) _ _ d = _
      rw [e, e1, chunk_at, show (k + 1) % 16 = k % 16 + 1 by omega, Finset.sum_range_succ _ (k % 16 + 1)]

/-- What a run's last point leaves in the output block. -/
theorem last_at (t : Fin cfg0.N) (h : t.val % 16 = 15) (b : Fin 4) (n : Fin 256) (r : Fin 1024) (d : Fin 2048) (hr : r.val = 256 * b.val + n.val) :
    (outsAt0 m c t.val t.isLt).1 (ix2 r d)
      = resid (fun d => m ((c : Thread nD τ).loc main_arg0) (ix3 b n d)) (fun d => m ((c : Thread nD τ).loc main_arg1) (ix1 ⟨10240 + d.val, by omega⟩))
          (fun d => m ((c : Thread nD τ).loc main_arg3) (ix2 0 d))
          (fun d => part (hrow m c b n) (fun d k => m ((c : Thread nD τ).loc main_arg4) (ix3 0 d k)) (fun k d => m ((c : Thread nD τ).loc main_arg5) (ix3 0 k d)) d) d := by
  rw [out_C m c t h, pay3_at]
  have hk' : t.val - 1 < cfg0.N := Nat.lt_of_le_of_lt (Nat.sub_le _ _) t.isLt
  have e : (fun d => (outsAt0 m c (t.val - 1) hk').2 (ix2 r d)) = hrow m c b n :=
    funext fun d => scr_at m c ⟨t.val - 1, hk'⟩ b n r d hr
  have e1 : ∀ d, (outsAt0 m c (t.val - 1) hk').1 (ix2 r d) = ∑ s ∈ Finset.range 15, urow m c b n d s := fun d => by
    rw [acc_at m c b n r d hr (t.val - 1) hk' (by omega), show (t.val - 1) % 16 + 1 = 15 by omega]
  rw [e]
  simp only [e1, chunk_at, h, part_all, blk_0 m c t b n r _ hr, blk_4, blk_5]
  simp only [Finset.sum_range_succ _ 15]
  rfl

end Cert.CMlpIdeal.Val
-- ==== Proof.CMlpRef.lean ====
/- The context stream's MLP reference read at an index: one row of the residual stream through the sublayer. -/
module

public import proofs.«01_k».proof.Proof.Gen.CMlpReferenceIdeal.Read
public import proofs.«01_k».proof.Proof.MlpSpec

@[expose] public section

noncomputable section

namespace Cert.CMlpReferenceIdeal.Val

open Cert.CMlpReferenceIdeal Cert.CMlpReferenceIdeal.Gen Cert.CMlpReferenceIdeal.Read Idealize.ShloMosaic Cert.MlpSpec

variable (x0 : Vec Ideal S4x256x2048 .f32) (x1 : Vec Ideal S12288 .f32) (x2 x3 : Vec Ideal S2x2048 .f32)
  (x4 : Vec Ideal S2x2048x8192 .f32) (x5 : Vec Ideal S2x8192x2048 .f32)

/-- Row `(b, n)` of the normed and modulated input. -/
theorem pre_at (b : Fin 4) (n : Fin 256) (d : Fin 2048) :
    val_main_v28 (F := Ideal) x0 x1 x2 (ix3 b n d)
      = modd (fun d => x0 (ix3 b n d)) (fun d => x2 (ix2 0 d)) (fun d => x1 (ix1 ⟨8192 + d.val, by omega⟩))
          (fun d => x1 (ix1 ⟨6144 + d.val, by omega⟩)) d := by
  pointwise [val_main_v28, val_main_v27, val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v4, val_main_v3, modd, rms]

/-- The first product. -/
theorem dot1_at (b : Fin 4) (n : Fin 256) (k : Fin 8192) :
    val_main_v31 (F := Ideal) x0 x1 x2 x4 (ix3 b n k)
      = ∑ d, val_main_v28 (F := Ideal) x0 x1 x2 (ix3 b n d) * x4 (ix3 0 d k) := by
  pointwise [val_main_v31, val_main_v30, val_main_v29]

/-- The second product. -/
theorem dot2_at (b : Fin 4) (n : Fin 256) (d : Fin 2048) :
    val_main_v37 (F := Ideal) x0 x1 x2 x4 x5 (ix3 b n d)
      = part (fun d => val_main_v28 (F := Ideal) x0 x1 x2 (ix3 b n d)) (fun d k => x4 (ix3 0 d k)) (fun k d => x5 (ix3 0 k d)) d := by
  pointwise [val_main_v37, val_main_v36, val_main_v35, val_main_v34, val_main_v33, val_main_v32, val_main_cst_3]
  simp only [dot1_at]
  rfl

theorem out_at (b : Fin 4) (n : Fin 256) (d : Fin 2048) :
    val_main_v56 (F := Ideal) x0 x1 x2 x3 x4 x5 (ix3 b n d)
      = resid (fun d => x0 (ix3 b n d)) (fun d => x1 (ix1 ⟨10240 + d.val, by omega⟩)) (fun d => x3 (ix2 0 d))
          (fun d => val_main_v37 (F := Ideal) x0 x1 x2 x4 x5 (ix3 b n d)) d := by
  pointwise [val_main_v56, val_main_v55, val_main_v54, val_main_v53, val_main_v52, val_main_v51, val_main_v50, val_main_v49,
    val_main_v48, val_main_v47, val_main_v46, val_main_v45, val_main_cst_6, val_main_v44, val_main_v43, val_main_cst_5,
    val_main_v42, val_main_v41, val_main_cst_4, val_main_v40, val_main_v39, val_main_v38, val_main_v5, resid, rms]

/-- The reference's result at row `256 b + n`: the sublayer applied to row `(b, n)` of the stream. -/
theorem res_at (b : Fin 4) (n : Fin 256) (d : Fin 2048) (i : S1024x2048.Idx) (h0 : (i 0).val = 256 * b.val + n.val) (h1 : (i 1).val = d.val) :
    val_main_v57 (F := Ideal) x0 x1 x2 x3 x4 x5 i
      = resid (fun d => x0 (ix3 b n d)) (fun d => x1 (ix1 ⟨10240 + d.val, by omega⟩)) (fun d => x3 (ix2 0 d))
          (fun d => part (modd (fun d => x0 (ix3 b n d)) (fun d => x2 (ix2 0 d)) (fun d => x1 (ix1 ⟨8192 + d.val, by omega⟩))
              (fun d => x1 (ix1 ⟨6144 + d.val, by omega⟩)))
            (fun d k => x4 (ix3 0 d k)) (fun k d => x5 (ix3 0 k d)) d) d := by
  rw [val_main_v57_apply]
  have e : idx_main_v57 i = ix3 b n d := by
    funext a
    apply Fin.ext
    have hb := b.isLt; have hn := n.isLt; have hd := d.isLt
    match a with
    | ⟨0, _⟩ => show _ = b.val; simp only [idx_main_v57]; omega
    | ⟨1, _⟩ => show _ = n.val; simp only [idx_main_v57]; omega
    | ⟨2, _⟩ => show _ = d.val; simp only [idx_main_v57]; omega
  rw [e, out_at]
  simp only [dot2_at, pre_at]

end Cert.CMlpReferenceIdeal.Val
-- ==== Proof.CMlpTie.lean ====
/- The context stream's MLP call beside its reference: both results are the sublayer applied row by row. -/
module

public import proofs.«01_k».proof.Proof.CMlpKer
public import proofs.«01_k».proof.Proof.CMlpRef
public import proofs.«01_k».proof.Proof.Gen.CMlpReferenceIdeal.Run

@[expose] public section

noncomputable section

namespace Cert.CMlpTie

open Idealize.ShloMosaic Idealize.SL.Sem Cert.MlpSpec

/-- The call's result array is the reference's result on the same arguments. -/
theorem tie (m : (ℓ : Loc Cert.CMlpIdeal.nD Cert.CMlpIdeal.τ Cert.CMlpIdeal.sig) → Buf (Elt Ideal) ℓ) (c : Dev Cert.CMlpIdeal.nD) :
    Cert.CMlpIdeal.Value.G8 m c = Cert.CMlpReferenceIdeal.Read.val_main_v57 (F := Ideal)
      (m ((c.tc : Thread Cert.CMlpIdeal.nD Cert.CMlpIdeal.τ).loc Cert.CMlpIdeal.main_arg0))
      (m ((c.tc : Thread Cert.CMlpIdeal.nD Cert.CMlpIdeal.τ).loc Cert.CMlpIdeal.main_arg1))
      (m ((c.tc : Thread Cert.CMlpIdeal.nD Cert.CMlpIdeal.τ).loc Cert.CMlpIdeal.main_arg2))
      (m ((c.tc : Thread Cert.CMlpIdeal.nD Cert.CMlpIdeal.τ).loc Cert.CMlpIdeal.main_arg3))
      (m ((c.tc : Thread Cert.CMlpIdeal.nD Cert.CMlpIdeal.τ).loc Cert.CMlpIdeal.main_arg4))
      (m ((c.tc : Thread Cert.CMlpIdeal.nD Cert.CMlpIdeal.τ).loc Cert.CMlpIdeal.main_arg5)) := by
  funext i
  have h0 : (i 0).val < 1024 := (i 0).isLt
  have h1 : (i 1).val < 2048 := (i 1).isLt
  have hp : Cert.CMlpIdeal.Value.pt8Of i < Cert.CMlpIdeal.cfg0.N :=
    lt_of_lt_of_eq (show 16 * (1 * ((i 0).val / 1024 - 0) + 1 * ((i 1).val / 2048 - 0)) + 15 < 16 by omega) Cert.CMlpIdeal.Gen.N_0.symm
  have hv : Cert.CMlpIdeal.Value.pt8Of i = 16 * ((i 0).val / 1024) + 15 := by
    show 16 * (1 * ((i 0).val / 1024 - 0) + 1 * ((i 1).val / 2048 - 0)) + 15 = _; omega
  have e : Cert.CMlpIdeal.Value.G8 m c i = (Cert.CMlpIdeal.Gen.outsAt0 m c (Cert.CMlpIdeal.Value.pt8Of i) hp).1 (Cert.CMlpIdeal.Value.loc8Of i) := by
    rw [Cert.CMlpIdeal.Value.outsAt0_sweep]
    unfold Cert.CMlpIdeal.Value.G8
    rw [dif_pos hp]
  have el : Cert.CMlpIdeal.Value.loc8Of i = ix2 ⟨(i 0).val % 1024, Nat.mod_lt _ (by decide)⟩ ⟨(i 1).val, h1⟩ := by
    funext a
    match a with
    | ⟨0, _⟩ => rfl
    | ⟨1, _⟩ => exact Fin.ext (Nat.mod_eq_of_lt h1)
  rw [e, el, Cert.CMlpReferenceIdeal.Val.res_at _ _ _ _ _ _ ⟨(i 0).val / 256, by omega⟩ ⟨(i 0).val % 256, by omega⟩ ⟨(i 1).val, h1⟩ i
    (by show (i 0).val = 256 * ((i 0).val / 256) + (i 0).val % 256; omega) rfl]
  exact Cert.CMlpIdeal.Val.last_at m c ⟨Cert.CMlpIdeal.Value.pt8Of i, hp⟩ (by show Cert.CMlpIdeal.Value.pt8Of i % 16 = 15; omega) _ _ _ _
    (by show (i 0).val % 1024 = 256 * ((i 0).val / 256) + (i 0).val % 256; omega)

end Cert.CMlpTie
-- ==== Proof.COutKer.lean ====
/- The context stream's output projection call read at an index: the carried weights, the two row groups of a block. -/
module

public import proofs.«01_k».proof.Proof.Gen.COutIdeal.Value
public import proofs.«01_k».proof.Proof.OutSpec
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.COutIdeal.Val

open Cert.COutIdeal Cert.COutIdeal.Gen Idealize.ShloMosaic Idealize.ShloMosaic.TcCoe Idealize.SL.Sem Cert.MlpSpec Cert.OutSpec
open Idealize.ShloMosaic.Pipeline (Dat)

variable (m : (ℓ : Loc nD τ sig) → Buf (Elt Ideal) ℓ) (c : Dev nD)

theorem scr_A (t : Fin cfg0.N) (h : t.val % 2 = 0) : (outsAt0 m c t.val t.isLt).2 = k0_pay2 (iblk m c 3 t) := by
  rw [outsAt0_A m c t h]
  frame_out

theorem scr_s (t : Fin cfg0.N) (h : ¬ t.val % 2 = 0) :
    (outsAt0 m c t.val t.isLt).2 = (outsAt0 m c (t.val - 1) (Nat.lt_of_le_of_lt (Nat.sub_le _ _) t.isLt)).2 := by
  rw [outsAt0_B m c t h]
  rfl

/-- What a grid point's two stores leave in the result block, over the weights `W` in the scratch. -/
def outO (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) : Vec Ideal S512x2048 .f32 :=
  View.canon (Val := Elt Ideal) (e := .f32)
    [⟨Rect.unit ![256, 0] ![256, 2048] inb_S512x2048_S256x2048_256_0,
        k0_pay1
          (k0_pay6 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          (k0_pay8 (View.ld x4 (Rect.unit ![256, 0] ![256, 2048] inb_S512x2048_S256x2048_256_0))) (k0_pay9 x5)
          (k0_pay10 (k0_pay4 (View.ld x0 (Rect.unit ![256, 0] ![256, 512] inb_S512x512_S256x512_256_0)) (View.ld W (Rect.unit ![0, 0] ![512, 2048] inb_S2048x2048_S512x2048_0_0))
              (View.ld x1 (Rect.unit ![256, 0] ![256, 512] inb_S512x512_S256x512_256_0)) (View.ld W (Rect.unit ![512, 0] ![512, 2048] inb_S2048x2048_S512x2048_512_0)))
            (k0_pay5 (View.ld x2 (Rect.unit ![256, 0] ![256, 1024] inb_S512x1024_S256x1024_256_0))) (View.ld W (Rect.unit ![1024, 0] ![1024, 2048] inb_S2048x2048_S1024x2048_1024_0)))
          k0_pay11 x6⟩,
      ⟨Rect.unit ![0, 0] ![256, 2048] inb_S512x2048_S256x2048_0_0,
        k0_pay7
          (k0_pay3 (View.ld x0 (Rect.unit ![0, 0] ![256, 512] inb_S512x512_S256x512_0_0)) (View.ld W (Rect.unit ![0, 0] ![512, 2048] inb_S2048x2048_S512x2048_0_0))
              (View.ld x1 (Rect.unit ![0, 0] ![256, 512] inb_S512x512_S256x512_0_0)) (View.ld W (Rect.unit ![512, 0] ![512, 2048] inb_S2048x2048_S512x2048_512_0))
              (View.ld x2 (Rect.unit ![0, 0] ![256, 1024] inb_S512x1024_S256x1024_0_0)) (View.ld W (Rect.unit ![1024, 0] ![1024, 2048] inb_S2048x2048_S1024x2048_1024_0)))
          (View.ld x4 (Rect.unit ![0, 0] ![256, 2048] inb_S512x2048_S256x2048_0_0)) x5 x6⟩]

theorem out_A (t : Fin cfg0.N) (h : t.val % 2 = 0) :
    (outsAt0 m c t.val t.isLt).1 = outO (iblk m c 0 t) (iblk m c 1 t) (iblk m c 2 t) (k0_pay2 (iblk m c 3 t)) (iblk m c 4 t) (iblk m c 5 t) (iblk m c 6 t) := by
  rw [outsAt0_A m c t h]
  unfold outO
  frame_out
  have h0 : ∀ a : Fin S2048x2048.rank, (![0, 0] : Fin 2 → ℕ) a = 0 := fun a => match a with
    | ⟨0, _⟩ => rfl
    | ⟨1, _⟩ => rfl
  rw [View.readCov_fill _ _ _ _ (Rect.unit ![0, 0] ![512, 2048] inb_S2048x2048_S512x2048_0_0) h0,
    View.readCov_fill _ _ _ _ (Rect.unit ![512, 0] ![512, 2048] inb_S2048x2048_S512x2048_512_0) h0,
    View.readCov_fill _ _ _ _ (Rect.unit ![1024, 0] ![1024, 2048] inb_S2048x2048_S1024x2048_1024_0) h0]

theorem out_B (t : Fin cfg0.N) (h : ¬ t.val % 2 = 0) :
    (outsAt0 m c t.val t.isLt).1 = outO (iblk m c 0 t) (iblk m c 1 t) (iblk m c 2 t)
      (outsAt0 m c (t.val - 1) (Nat.lt_of_le_of_lt (Nat.sub_le _ _) t.isLt)).2 (iblk m c 4 t) (iblk m c 5 t) (iblk m c 6 t) := by
  rw [outsAt0_B m c t h]
  unfold outO
  frame_out
  rw [read_unread_whole]

section pays
variable (x0 x1 : Vec Ideal S256x512 .bf16) (x2 : Vec Ideal S256x1024 .bf16) (w0 w1 : Vec Ideal S512x2048 .bf16)
  (w2 : Vec Ideal S1024x2048 .bf16) (x4 : Vec Ideal S256x2048 .f32) (x5 : Vec Ideal S1x1x1x1x2048 .f32) (x6 : Vec Ideal S1x1x2048 .f32)

theorem pay3_at (r : Fin 256) (d : Fin 2048) : k0_pay3 x0 w0 x1 w1 x2 w2 (ix2 r d)
    = (∑ k, x0 (ix2 r k) * w0 (ix2 k d)) + (∑ k, x1 (ix2 r k) * w1 (ix2 k d)) + ∑ k, x2 (ix2 r k) * w2 (ix2 k d) := by
  pointwise [k0_pay3]

theorem pay6_at (r : Fin 256) (d : Fin 2048) : k0_pay6 (k0_pay4 x0 w0 x1 w1) (k0_pay5 x2) w2 (ix2 r d)
    = (∑ k, x0 (ix2 r k) * w0 (ix2 k d)) + (∑ k, x1 (ix2 r k) * w1 (ix2 k d)) + ∑ k, x2 (ix2 r k) * w2 (ix2 k d) := by
  pointwise [k0_pay6, k0_pay4, k0_pay5]

theorem pay7_at (y : Vec Ideal S256x2048 .f32) (r : Fin 256) (d : Fin 2048) : k0_pay7 y x4 x5 x6 (ix2 r d)
    = resid (fun d => x4 (ix2 r d)) (fun d => x5 (ix5 0 0 0 0 d)) (fun d => x6 (ix3 0 0 d)) (fun d => y (ix2 r d)) d := by
  pointwise [k0_pay7]
  rfl

theorem pay1_at (a : Vec Ideal S256x2048 .f32) (b : Vec Ideal S256x1024 .bf16) (r : Fin 256) (d : Fin 2048) :
    k0_pay1 (k0_pay6 a b w2) (k0_pay8 x4) (k0_pay9 x5) (k0_pay10 a b w2) k0_pay11 x6 (ix2 r d)
    = resid (fun d => x4 (ix2 r d)) (fun d => x5 (ix5 0 0 0 0 d)) (fun d => x6 (ix3 0 0 d)) (fun d => k0_pay6 a b w2 (ix2 r d)) d := by
  unfold k0_pay10
  generalize k0_pay6 a b w2 = y
  pointwise [k0_pay1, k0_pay8, k0_pay9, k0_pay11]
  rfl

end pays

/-- A group's rows are rows of the block. -/
theorem ld_at {A B R C : ℕ} {e : EltTy} (x : Vec Ideal ⟨2, ![A, B]⟩ e) (o : ℕ)
    (inb : ∀ a, (![o, 0] : Fin 2 → ℕ) a + (![R, C] : Fin 2 → ℕ) a ≤ (⟨2, ![A, B]⟩ : Shape).size a)
    (r : Fin R) (k : Fin C) (i : Fin A) (j : Fin B) (hi : i.val = o + r.val) (hj : j.val = k.val) :
    View.ld x (Rect.unit ![o, 0] ![R, C] inb) (ix2 r k) = x (ix2 i j) := by
  rw [View.ld_apply]
  refine congrArg x (funext fun a => ?_)
  match a with
  | ⟨0, _⟩ => exact Fin.ext ((Rect.idx_unit_val ..).trans hi.symm)
  | ⟨1, _⟩ => exact Fin.ext ((Rect.idx_unit_val ..).trans ((Nat.zero_add _).trans hj.symm))

theorem ix_eta (x : S256x2048.Idx) : ∃ (r : Fin 256) (e : Fin 2048), x = ix2 r e := by
  refine ⟨⟨(x 0).val, (x 0).isLt⟩, ⟨(x 1).val, (x 1).isLt⟩, funext fun a => ?_⟩
  match a with
  | ⟨0, _⟩ => rfl
  | ⟨1, _⟩ => rfl

theorem outO_at (x0 x1 : Vec Ideal S512x512 .bf16) (x2 : Vec Ideal S512x1024 .bf16) (W : Vec Ideal S2048x2048 .bf16)
    (x4 : Vec Ideal S512x2048 .f32) (x5 : Vec Ideal S1x1x1x1x2048 .f32) (x6 : Vec Ideal S1x1x2048 .f32) (i : Fin 512) (d : Fin 2048) :
    outO x0 x1 x2 W x4 x5 x6 (ix2 i d) = resid (fun d => x4 (ix2 i d)) (fun d => x5 (ix5 0 0 0 0 d)) (fun d => x6 (ix3 0 0 d))
      (mix (fun k => x0 (ix2 i k)) (fun k => x1 (ix2 i k)) (fun k => x2 (ix2 i k)) (fun k d => W (ix2 k d))) d := by
  unfold outO
  canon_tiles x h
  · obtain ⟨r, e, rfl⟩ := ix_eta x
    obtain rfl : d = e := Fin.ext h1
    rw [pay1_at]
    simp only [pay6_at]
    have hr := r.isLt
    refine congrArg₂ (fun f g => resid f _ _ g d) (funext fun d => ld_at x4 256 _ r d i d h0 rfl) (funext fun d => ?_)
    unfold mix
    refine congrArg₂ (· + ·) (congrArg₂ (· + ·) ?_ ?_) ?_
    · exact Finset.sum_congr rfl fun k _ => congrArg₂ (· * ·) (ld_at x0 256 _ r k i k h0 rfl) (ld_at W 0 _ k d ⟨k.val, by omega⟩ d (Nat.zero_add _).symm rfl)
    · exact Finset.sum_congr rfl fun k _ => congrArg₂ (· * ·) (ld_at x1 256 _ r k i k h0 rfl) (ld_at W 512 _ k d ⟨512 + k.val, by omega⟩ d rfl rfl)
    · exact Finset.sum_congr rfl fun k _ => congrArg₂ (· * ·) (ld_at x2 256 _ r k i k h0 rfl) (ld_at W 1024 _ k d ⟨1024 + k.val, by omega⟩ d rfl rfl)
  · obtain ⟨r, e, rfl⟩ := ix_eta x
    obtain rfl : d = e := Fin.ext h1
    rw [pay7_at]
    simp only [pay3_at]
    have hi : i.val = 0 + r.val := h0.trans (Nat.zero_add _).symm
    refine congrArg₂ (fun f g => resid f _ _ g d) (funext fun d => ld_at x4 0 _ r d i d hi rfl) (funext fun d => ?_)
    unfold mix
    refine congrArg₂ (· + ·) (congrArg₂ (· + ·) ?_ ?_) ?_
    · exact Finset.sum_congr rfl fun k _ => congrArg₂ (· * ·) (ld_at x0 0 _ r k i k hi rfl) (ld_at W 0 _ k d ⟨k.val, by omega⟩ d (Nat.zero_add _).symm rfl)
    · exact Finset.sum_congr rfl fun k _ => congrArg₂ (· * ·) (ld_at x1 0 _ r k i k hi rfl) (ld_at W 512 _ k d ⟨512 + k.val, by omega⟩ d rfl rfl)
    · exact Finset.sum_congr rfl fun k _ => congrArg₂ (· * ·) (ld_at x2 0 _ r k i k hi rfl) (ld_at W 1024 _ k d ⟨1024 + k.val, by omega⟩ d rfl rfl)

/-! ## The blocks at an index -/

theorem flat_at (x : Vec Ideal S4x256x2048 .f32) (b : Fin 4) (n : Fin 256) (d : Fin 2048) (R : Fin 1024) (h : R.val = 256 * b.val + n.val) :
    shapeCast S1024x2048 x shapeCasts_S4x256x2048_S1024x2048 (ix2 R d) = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem flat5_at (x : Vec Ideal S4x256x512 .f32) (b : Fin 4) (n : Fin 256) (d : Fin 512) (R : Fin 1024) (h : R.val = 256 * b.val + n.val) :
    (truncf .bf16 (shapeCast S1024x512 x shapeCasts_S4x256x512_S1024x512 : FVec Ideal S1024x512 .f32) bitsLt_bf16_f32 : FVec Ideal S1024x512 .bf16) (ix2 R d)
      = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem flat10_at (x : Vec Ideal S4x256x1024 .f32) (b : Fin 4) (n : Fin 256) (d : Fin 1024) (R : Fin 1024) (h : R.val = 256 * b.val + n.val) :
    (truncf .bf16 (shapeCast S1024x1024 x shapeCasts_S4x256x1024_S1024x1024 : FVec Ideal S1024x1024 .f32) bitsLt_bf16_f32 : FVec Ideal S1024x1024 .bf16) (ix2 R d)
      = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S12288 .f32) (z : Vec Ideal S_ .f32) (k : Fin 6) (d : Fin 2048) :
    pad S2x8x6x1x2048 ![0, 4, 0, 0, 0] ![1, 3, 0, 0, 0] ![0, 0, 0, 0, 0]
      (shapeCast S1x1x6x1x2048 x shapeCasts_S12288_S1x1x6x1x2048) z
      pads_S1x1x6x1x2048_S2x8x6x1x2048_010_430_000_000_000 h_S_ (ix5 0 4 k 0 d) = x (ix1 ⟨k.val * 2048 + d.val, by omega⟩) := by
  pointwise

theorem V_v3 (b : Fin 4) (n : Fin 256) (d : Fin 512) (R : Fin 1024) (h : R.val = 256 * b.val + n.val) :
    V m c main_v3 (ix2 R d) = m ((c : Thread nD τ).loc main_arg1) (ix3 b n d) := by
  have e : V m c main_v3 = (truncf .bf16 (shapeCast S1024x512 (m ((c : Thread nD τ).loc main_arg1)) shapeCasts_S4x256x512_S1024x512 : FVec Ideal S1024x512 .f32) bitsLt_bf16_f32 : FVec Ideal S1024x512 .bf16) := rfl
  rw [e]
  exact flat5_at _ b n d R h

theorem V_v5 (b : Fin 4) (n : Fin 256) (d : Fin 512) (R : Fin 1024) (h : R.val = 256 * b.val + n.val) :
    V m c main_v5 (ix2 R d) = m ((c : Thread nD τ).loc main_arg2) (ix3 b n d) := by
  have e : V m c main_v5 = (truncf .bf16 (shapeCast S1024x512 (m ((c : Thread nD τ).loc main_arg2)) shapeCasts_S4x256x512_S1024x512 : FVec Ideal S1024x512 .f32) bitsLt_bf16_f32 : FVec Ideal S1024x512 .bf16) := rfl
  rw [e]
  exact flat5_at _ b n d R h

theorem V_v7 (b : Fin 4) (n : Fin 256) (d : Fin 1024) (R : Fin 1024) (h : R.val = 256 * b.val + n.val) :
    V m c main_v7 (ix2 R d) = m ((c : Thread nD τ).loc main_arg3) (ix3 b n d) := by
  have e : V m c main_v7 = (truncf .bf16 (shapeCast S1024x1024 (m ((c : Thread nD τ).loc main_arg3)) shapeCasts_S4x256x1024_S1024x1024 : FVec Ideal S1024x1024 .f32) bitsLt_bf16_f32 : FVec Ideal S1024x1024 .bf16) := rfl
  rw [e]
  exact flat10_at _ b n d R h

theorem V_v8 (b : Fin 4) (n : Fin 256) (d : Fin 2048) (R : Fin 1024) (h : R.val = 256 * b.val + n.val) :
    V m c main_v8 (ix2 R d) = m ((c : Thread nD τ).loc main_arg0) (ix3 b n d) := by
  have e : V m c main_v8 = shapeCast S1024x2048 (m ((c : Thread nD τ).loc main_arg0)) shapeCasts_S4x256x2048_S1024x2048 := rfl
  rw [e]
  exact flat_at _ b n d R h

theorem V_v9 (l : Fin 2) (d : Fin 2048) : V m c main_v9 (ix3 l 0 d) = m ((c : Thread nD τ).loc main_arg5) (ix2 l d) := by
  have e : V m c main_v9 = shapeCast S2x1x2048 (m ((c : Thread nD τ).loc main_arg5)) shapeCasts_S2x2048_S2x1x2048 := rfl
  rw [e]
  exact row_at _ l d

/-- The modulation vectors of the layer, behind the padding. -/
theorem V_v1 (k : Fin 6) (d : Fin 2048) :
    V m c main_v1 (ix5 0 4 k 0 d) = m ((c : Thread nD τ).loc main_arg4) (ix1 ⟨k.val * 2048 + d.val, by omega⟩) := by
  have e : ∃ z, V m c main_v1 = pad S2x8x6x1x2048 ![0, 4, 0, 0, 0] ![1, 3, 0, 0, 0] ![0, 0, 0, 0, 0]
      (shapeCast S1x1x6x1x2048 (m ((c : Thread nD τ).loc main_arg4)) shapeCasts_S12288_S1x1x6x1x2048) z
      pads_S1x1x6x1x2048_S2x8x6x1x2048_010_430_000_000_000 h_S_ := ⟨_, rfl⟩
  obtain ⟨z, e⟩ := e
  rw [e]
  exact pad_at _ z k d

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 4, 2, 0, 0] := (by decide +kernel : ∀ t : Fin grid0.N, _)
theorem ix_6 : ∀ t : Fin cfg0.N, win0_6.index t = ![0, 0, 0] := (by decide +kernel : ∀ t : Fin grid0.N, _)

theorem blk_0 (t : Fin cfg0.N) (b : Fin 4) (n : Fin 256) (r : Fin 512) (k : Fin 512) (hr : t.val * 512 + r.val = 256 * b.val + n.val) :
    iblk m c 0 t (ix2 r k) = m ((c : Thread nD τ).loc main_arg1) (ix3 b n k) := by
  have ht : t.val < 2 := lt_of_lt_of_eq t.isLt N_0
  rw [← V_v3 m c b n k ⟨t.val * 512 + r.val, by omega⟩ hr]
  blk_ext [iblk, ix_0 t]

theorem blk_1 (t : Fin cfg0.N) (b : Fin 4) (n : Fin 256) (r : Fin 512) (k : Fin 512) (hr : t.val * 512 + r.val = 256 * b.val + n.val) :
    iblk m c 1 t (ix2 r k) = m ((c : Thread nD τ).loc main_arg2) (ix3 b n k) := by
  have ht : t.val < 2 := lt_of_lt_of_eq t.isLt N_0
  rw [← V_v5 m c b n k ⟨t.val * 512 + r.val, by omega⟩ hr]
  blk_ext [iblk, ix_1 t]

theorem blk_2 (t : Fin cfg0.N) (b : Fin 4) (n : Fin 256) (r : Fin 512) (k : Fin 1024) (hr : t.val * 512 + r.val = 256 * b.val + n.val) :
    iblk m c 2 t (ix2 r k) = m ((c : Thread nD τ).loc main_arg3) (ix3 b n k) := by
  have ht : t.val < 2 := lt_of_lt_of_eq t.isLt N_0
  rw [← V_v7 m c b n k ⟨t.val * 512 + r.val, by omega⟩ hr]
  blk_ext [iblk, ix_2 t]

theorem blk_3 (t : Fin cfg0.N) (k d : Fin 2048) : iblk m c 3 t (ix3 0 k d) = m ((c : Thread nD τ).loc main_arg6) (ix3 0 k d) := by
  blk_ext [iblk, V, ix_3 t]

theorem blk_4 (t : Fin cfg0.N) (b : Fin 4) (n : Fin 256) (r : Fin 512) (d : Fin 2048) (hr : t.val * 512 + r.val = 256 * b.val + n.val) :
    iblk m c 4 t (ix2 r d) = m ((c : Thread nD τ).loc main_arg0) (ix3 b n d) := by
  have ht : t.val < 2 := lt_of_lt_of_eq t.isLt N_0
  rw [← V_v8 m c b n d ⟨t.val * 512 + r.val, by omega⟩ hr]
  blk_ext [iblk, ix_4 t]

theorem blk_5 (t : Fin cfg0.N) (d : Fin 2048) :
    iblk m c 5 t (ix5 0 0 0 0 d) = m ((c : Thread nD τ).loc main_arg4) (ix1 ⟨4096 + d.val, by omega⟩) := by
  refine Eq.trans ?_ (V_v1 m c 2 d)
  blk_ext [iblk, ix_5 t]

theorem blk_6 (t : Fin cfg0.N) (d : Fin 2048) : iblk m c 6 t (ix3 0 0 d) = m ((c : Thread nD τ).loc main_arg5) (ix2 0 d) := by
  refine Eq.trans ?_ (V_v9 m c 0 d)
  blk_ext [iblk, ix_6 t]

theorem pay2_at (w : Vec Ideal S1x2048x2048 .f32) (k d : Fin 2048) : k0_pay2 w (ix2 k d) = w (ix3 0 k d) := by
  pointwise [k0_pay2]

/-- What the scratch holds after every point: the layer's weights. -/
theorem scr_at (t : Fin cfg0.N) (k d : Fin 2048) : (outsAt0 m c t.val t.isLt).2 (ix2 k d) = m ((c : Thread nD τ).loc main_arg6) (ix3 0 k d) := by
  rw [Pipeline.eq_of_write_hold_apply (fun n h => (outsAt0 m c n h).2) 2 (fun t => k0_pay2 (iblk m c 3 t))
    (fun t h i => congrFun (scr_A m c t h) i) (fun t h i => congrFun (scr_s m c t h) i) t (ix2 k d), pay2_at, blk_3]

/-- The result block of a point, row by row. -/
theorem last_at (t : Fin cfg0.N) (b : Fin 4) (n : Fin 256) (r : Fin 512) (d : Fin 2048) (hr : t.val * 512 + r.val = 256 * b.val + n.val) :
    (outsAt0 m c t.val t.isLt).1 (ix2 r d)
      = resid (fun d => m ((c : Thread nD τ).loc main_arg0) (ix3 b n d)) (fun d => m ((c : Thread nD τ).loc main_arg4) (ix1 ⟨4096 + d.val, by omega⟩))
          (fun d => m ((c : Thread nD τ).loc main_arg5) (ix2 0 d))
          (mix (fun k => m ((c : Thread nD τ).loc main_arg1) (ix3 b n k)) (fun k => m ((c : Thread nD τ).loc main_arg2) (ix3 b n k))
            (fun k => m ((c : Thread nD τ).loc main_arg3) (ix3 b n k)) (fun k d => m ((c : Thread nD τ).loc main_arg6) (ix3 0 k d))) d := by
  have e : ∃ W : Vec Ideal S2048x2048 .bf16, (∀ k d, W (ix2 k d) = m ((c : Thread nD τ).loc main_arg6) (ix3 0 k d)) ∧
      (outsAt0 m c t.val t.isLt).1 = outO (iblk m c 0 t) (iblk m c 1 t) (iblk m c 2 t) W (iblk m c 4 t) (iblk m c 5 t) (iblk m c 6 t) := by
    by_cases h : t.val % 2 = 0
    · exact ⟨_, fun k d => (pay2_at _ k d).trans (blk_3 m c t k d), out_A m c t h⟩
    · exact ⟨_, fun k d => scr_at m c ⟨t.val - 1, Nat.lt_of_le_of_lt (Nat.sub_le _ _) t.isLt⟩ k d, out_B m c t h⟩
  obtain ⟨W, hW, e⟩ := e
  rw [e, outO_at]
  simp only [hW, blk_0 m c t b n r _ hr, blk_1 m c t b n r _ hr, blk_2 m c t b n r _ hr, blk_4 m c t b n r _ hr,
    blk_5, blk_6]

end Cert.COutIdeal.Val
-- ==== Proof.COutRef.lean ====
/- The context stream's output projection reference read at an index: one row of the residual stream and its branch row. -/
module

public import proofs.«01_k».proof.Proof.Gen.COutReferenceIdeal.Read
public import proofs.«01_k».proof.Proof.OutSpec

@[expose] public section

noncomputable section

namespace Cert.COutReferenceIdeal.Val

open Cert.COutReferenceIdeal Cert.COutReferenceIdeal.Gen Cert.COutReferenceIdeal.Read Idealize.ShloMosaic Cert.MlpSpec Cert.OutSpec

variable (x0 : Vec Ideal S4x256x2048 .f32) (x1 x2 : Vec Ideal S4x256x512 .f32) (x3 : Vec Ideal S4x256x1024 .f32)
  (x4 : Vec Ideal S12288 .f32) (x5 : Vec Ideal S2x2048 .f32) (x6 : Vec Ideal S2x2048x2048 .f32)

theorem cat_at (b : Fin 4) (n : Fin 256) (k : Fin 2048) :
    val_main_v6 (F := Ideal) x1 x2 x3 (ix3 b n k)
      = cat (fun k => x1 (ix3 b n k)) (fun k => x2 (ix3 b n k)) (fun k => x3 (ix3 b n k)) k := by
  pointwise [val_main_v6]
  unfold cat
  by_cases h : k.val < 512
  · rw [dif_pos h, dif_pos h]
  · by_cases h' : k.val < 1024
    · rw [dif_neg h, dif_neg h, dif_pos (by omega), dif_pos h']
    · rw [dif_neg h, dif_neg h, dif_neg (by omega), dif_neg h']
      exact congrArg x3 (congrArg (ix3 b n) (Fin.ext (by show k.val - 512 - 512 = k.val - 1024; omega)))

theorem dot_at (b : Fin 4) (n : Fin 256) (d : Fin 2048) :
    val_main_v9 (F := Ideal) x1 x2 x3 x6 (ix3 b n d)
      = mix (fun k => x1 (ix3 b n k)) (fun k => x2 (ix3 b n k)) (fun k => x3 (ix3 b n k)) (fun k d => x6 (ix3 0 k d)) d := by
  rw [← cat_sum]
  pointwise [val_main_v9, val_main_v8, val_main_v7]
  simp only [cat_at]

theorem out_at (b : Fin 4) (n : Fin 256) (d : Fin 2048) :
    val_main_v28 (F := Ideal) x0 x1 x2 x3 x4 x5 x6 (ix3 b n d)
      = resid (fun d => x0 (ix3 b n d)) (fun d => x4 (ix1 ⟨4096 + d.val, by omega⟩)) (fun d => x5 (ix2 0 d))
          (fun d => val_main_v9 (F := Ideal) x1 x2 x3 x6 (ix3 b n d)) d := by
  pointwise [val_main_v28, val_main_v27, val_main_v26, val_main_v25, val_main_v24, val_main_v23, val_main_v22, val_main_v21,
    val_main_v20, val_main_v19, val_main_v18, val_main_v17, val_main_cst_1, val_main_v16, val_main_v15, val_main_cst_0,
    val_main_v14, val_main_v13, val_main_cst, val_main_v12, val_main_v11, val_main_v10, val_main_v2, resid, rms]

/-- The reference's result at row `256 b + n`. -/
theorem res_at (b : Fin 4) (n : Fin 256) (d : Fin 2048) (i : S1024x2048.Idx) (h0 : (i 0).val = 256 * b.val + n.val) (h1 : (i 1).val = d.val) :
    val_main_v29 (F := Ideal) x0 x1 x2 x3 x4 x5 x6 i
      = resid (fun d => x0 (ix3 b n d)) (fun d => x4 (ix1 ⟨4096 + d.val, by omega⟩)) (fun d => x5 (ix2 0 d))
          (mix (fun k => x1 (ix3 b n k)) (fun k => x2 (ix3 b n k)) (fun k => x3 (ix3 b n k)) (fun k d => x6 (ix3 0 k d))) d := by
  rw [val_main_v29_apply]
  have e : idx_main_v29 i = ix3 b n d := by
    funext a
    apply Fin.ext
    have hb := b.isLt; have hn := n.isLt; have hd := d.isLt
    match a with
    | ⟨0, _⟩ => show _ = b.val; simp only [idx_main_v29]; omega
    | ⟨1, _⟩ => show _ = n.val; simp only [idx_main_v29]; omega
    | ⟨2, _⟩ => show _ = d.val; simp only [idx_main_v29]; omega
  rw [e, out_at]
  simp only [dot_at]

end Cert.COutReferenceIdeal.Val
-- ==== Proof.COutTie.lean ====
/- The context stream's output projection call beside its reference: both results are the sublayer's end applied row by row. -/
module

public import proofs.«01_k».proof.Proof.COutKer
public import proofs.«01_k».proof.Proof.COutRef
public import proofs.«01_k».proof.Proof.Gen.COutReferenceIdeal.Run

@[expose] public section

noncomputable section

namespace Cert.COutTie

open Idealize.ShloMosaic Idealize.SL.Sem Cert.MlpSpec Cert.OutSpec

/-- The call's result array is the reference's result on the same arguments. -/
theorem tie (m : (ℓ : Loc Cert.COutIdeal.nD Cert.COutIdeal.τ Cert.COutIdeal.sig) → Buf (Elt Ideal) ℓ) (c : Dev Cert.COutIdeal.nD) :
    Cert.COutIdeal.Value.G7 m c = Cert.COutReferenceIdeal.Read.val_main_v29 (F := Ideal)
      (m ((c.tc : Thread Cert.COutIdeal.nD Cert.COutIdeal.τ).loc Cert.COutIdeal.main_arg0))
      (m ((c.tc : Thread Cert.COutIdeal.nD Cert.COutIdeal.τ).loc Cert.COutIdeal.main_arg1))
      (m ((c.tc : Thread Cert.COutIdeal.nD Cert.COutIdeal.τ).loc Cert.COutIdeal.main_arg2))
      (m ((c.tc : Thread Cert.COutIdeal.nD Cert.COutIdeal.τ).loc Cert.COutIdeal.main_arg3))
      (m ((c.tc : Thread Cert.COutIdeal.nD Cert.COutIdeal.τ).loc Cert.COutIdeal.main_arg4))
      (m ((c.tc : Thread Cert.COutIdeal.nD Cert.COutIdeal.τ).loc Cert.COutIdeal.main_arg5))
      (m ((c.tc : Thread Cert.COutIdeal.nD Cert.COutIdeal.τ).loc Cert.COutIdeal.main_arg6)) := by
  funext i
  have h0 : (i 0).val < 1024 := (i 0).isLt
  have h1 : (i 1).val < 2048 := (i 1).isLt
  have hp : Cert.COutIdeal.Value.pt7Of i < Cert.COutIdeal.cfg0.N :=
    lt_of_lt_of_eq (show 1 * ((i 0).val / 512 - 0) + 1 * ((i 1).val / 2048 - 0) < 2 by omega) Cert.COutIdeal.Gen.N_0.symm
  have hv : Cert.COutIdeal.Value.pt7Of i = (i 0).val / 512 := by
    show 1 * ((i 0).val / 512 - 0) + 1 * ((i 1).val / 2048 - 0) = _; omega
  have e : Cert.COutIdeal.Value.G7 m c i = (Cert.COutIdeal.Gen.outsAt0 m c (Cert.COutIdeal.Value.pt7Of i) hp).1 (Cert.COutIdeal.Value.loc7Of i) := by
    rw [Cert.COutIdeal.Value.outsAt0_sweep]
    unfold Cert.COutIdeal.Value.G7
    rw [dif_pos hp]
  have el : Cert.COutIdeal.Value.loc7Of i = ix2 ⟨(i 0).val % 512, Nat.mod_lt _ (by decide)⟩ ⟨(i 1).val, h1⟩ := by
    funext a
    match a with
    | ⟨0, _⟩ => rfl
    | ⟨1, _⟩ => exact Fin.ext (Nat.mod_eq_of_lt h1)
  rw [e, el, Cert.COutReferenceIdeal.Val.res_at _ _ _ _ _ _ _ ⟨(i 0).val / 256, by omega⟩ ⟨(i 0).val % 256, by omega⟩ ⟨(i 1).val, h1⟩ i
    (by show (i 0).val = 256 * ((i 0).val / 256) + (i 0).val % 256; omega) rfl]
  exact Cert.COutIdeal.Val.last_at m c ⟨Cert.COutIdeal.Value.pt7Of i, hp⟩ _ _ _ _
    (by show Cert.COutIdeal.Value.pt7Of i * 512 + (i 0).val % 512 = 256 * ((i 0).val / 256) + (i 0).val % 256; omega)

end Cert.COutTie
-- ==== Proof.CInpSpec.lean ====
/- The context stream's input projection as a plain function of one row: the projected row with its gated convolution branch; its
   queries and keys are not rotated. -/
module

public import proofs.«01_k».proof.Proof.InpSpec

@[expose] public section

noncomputable section

namespace Cert.CInpSpec

open Idealize.ShloMosaic Cert.InpSpec

/-- The row the context's input projection hands to the sublayers: the Fourier branch, the gated convolution branch, the
    queries, keys and values as projected. -/
def crow (p : Fin 4608 → EReal) (d : Fin 4096) : EReal :=
  if h : d.val < 512 then p ⟨d.val, by omega⟩
  else if h' : d.val < 1024 then p ⟨d.val, by omega⟩ * Ideal.logistic (p ⟨d.val + 512, by omega⟩)
  else up p d

end Cert.CInpSpec
-- ==== Proof.CInpPay.lean ====
/- The context stream's input projection, first layer: its payloads read at an index: the product of the normed rows with a chunk of the weights, the
   lane groups stored as they are, the gate. -/
module

public import proofs.«01_k».proof.Proof.Gen.CInpIdeal.Skeleton
public import proofs.«01_k».proof.Proof.CInpSpec

@[expose] public section

noncomputable section

namespace Cert.CInpIdeal.Val

open Cert.CInpIdeal Cert.CInpIdeal.Gen Idealize.ShloMosaic Cert.MlpSpec Cert.CInpSpec

theorem pre_at (x : Vec Ideal S512x2048 .f32) (g : Vec Ideal S1x1x2048 .f32) (sc sh : Vec Ideal S1x1x1x1x2048 .f32) (r : Fin 512) (d : Fin 2048) :
    k0_pay4 x g sc sh (ix2 r d) = modd (fun d => x (ix2 r d)) (fun d => g (ix3 0 0 d)) (fun d => sc (ix5 0 0 0 0 d)) (fun d => sh (ix5 0 0 0 0 d)) d := by
  pointwise [k0_pay4, modd, rms]

section
variable (h : FVec Ideal S512x2048 .bf16) (w w' : Vec Ideal S2048x512 .bf16)

theorem pay5_at (r j : Fin 512) : k0_pay2 h w (ix2 r j) = ∑ k, h (ix2 r k) * w (ix2 k j) := by
  pointwise [k0_pay2]

theorem acc_at (r j : Fin 512) : k0_pay8 h w (ix2 r j) = ∑ k, h (ix2 r k) * w (ix2 k j) := by
  pointwise [k0_pay8]

theorem gate_at (r j : Fin 512) : k0_pay10 h (k0_pay8 h w) w' (ix2 r j)
    = (∑ k, h (ix2 r k) * w (ix2 k j)) * Ideal.logistic (∑ k, h (ix2 r k) * w' (ix2 k j)) := by
  pointwise [k0_pay10, k0_pay8]

end

theorem wgt_at (w : Vec Ideal S1x2048x512 .f32) (k : Fin 2048) (j : Fin 512) : k0_pay5 w (ix2 k j) = w (ix3 0 k j) := by
  pointwise [k0_pay5]

/-- One lane group stored as it is. -/
def tile (t : FVec Ideal S512x128 .f32) : FVec Ideal S512x128 .bf16 := truncf .bf16 t bitsLt_bf16_f32

theorem tile_at (t : FVec Ideal S512x128 .f32) (r : Fin 512) (l : Fin 128) : tile t (ix2 r l) = t (ix2 r l) := rfl

theorem slice_at (a : FVec Ideal S512x512 .f32) (r : Fin 512) (l : Fin 128) :
    (extractStridedSlice S512x128 ![0, 0] a slices_S512x512_o0_0_S512x128 : FVec Ideal S512x128 .f32) (ix2 r l) = a (ix2 r ⟨l.val, by omega⟩)
    ∧ (extractStridedSlice S512x128 ![0, 128] a slices_S512x512_o0_128_S512x128 : FVec Ideal S512x128 .f32) (ix2 r l) = a (ix2 r ⟨128 + l.val, by omega⟩)
    ∧ (extractStridedSlice S512x128 ![0, 256] a slices_S512x512_o0_256_S512x128 : FVec Ideal S512x128 .f32) (ix2 r l) = a (ix2 r ⟨256 + l.val, by omega⟩)
    ∧ (extractStridedSlice S512x128 ![0, 384] a slices_S512x512_o0_384_S512x128 : FVec Ideal S512x128 .f32) (ix2 r l) = a (ix2 r ⟨384 + l.val, by omega⟩) := by
  refine ⟨?_, ?_, ?_, ?_⟩ <;> pointwise

end Cert.CInpIdeal.Val
-- ==== Proof.CInpKer.lean ====
/- The context stream's input projection, first layer: its call at an index, the carried weights, the twenty tiles of a block, the host's operands. -/
module

public import proofs.«01_k».proof.Proof.CInpPay
public import proofs.«01_k».proof.Proof.Gen.CInpIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.CInpIdeal.Val

open Cert.CInpIdeal Cert.CInpIdeal.Gen Idealize.ShloMosaic Idealize.ShloMosaic.TcCoe Idealize.SL.Sem Cert.MlpSpec Cert.InpSpec Cert.CInpSpec
open Idealize.ShloMosaic.Pipeline (Dat)

variable (m : (ℓ : Loc nD τ sig) → Buf (Elt Ideal) ℓ) (c : Dev nD)

/-- One chunk of the layer's weights, as its copy reads it. -/
def wch (o : ℕ) (inb : ∀ a, (![0, 0, o] : Fin 3 → ℕ) a + (![1, 2048, 512] : Fin 3 → ℕ) a ≤ S2x2048x4608.size a) : Vec Ideal S1x2048x512 .f32 :=
  ReadAs.same.apply (View.read (Elt Ideal) ((View.whole main_arg3).slice (Rect.unit ![0, 0, o] ![1, 2048, 512] inb)) (V m c main_arg3))

/-- A read of one stage slot passes over the other slot's last copy. -/
theorem skip_10 {κ : Kind} {sp : Space} (v : View sig κ sp S2x2048x512 .f32) (w : Vec Ideal S1x2048x512 .f32) (L : List (View.Piece (Elt Ideal) S2x2048x512 .f32)) :
    v.readCov ((⟨Rect.unit ![1, 0, 0] ![1, 2048, 512] inb_S2x2048x512_S1x2048x512_1_0_0, w⟩ : View.Piece (Elt Ideal) S2x2048x512 .f32) :: L)
        (Rect.unit ![0, 0, 0] ![1, 2048, 512] inb_S2x2048x512_S1x2048x512_0_0_0).toLoadRect
      = v.readCov L (Rect.unit ![0, 0, 0] ![1, 2048, 512] inb_S2x2048x512_S1x2048x512_0_0_0).toLoadRect :=
  View.readCov_cons_of_disjoint v _ L _ (Rect.unit_disjoint (inb := inb_S2x2048x512_S1x2048x512_1_0_0) (inb' := inb_S2x2048x512_S1x2048x512_0_0_0) 0 (by decide))

theorem skip_01 {κ : Kind} {sp : Space} (v : View sig κ sp S2x2048x512 .f32) (w : Vec Ideal S1x2048x512 .f32) (L : List (View.Piece (Elt Ideal) S2x2048x512 .f32)) :
    v.readCov ((⟨Rect.unit ![0, 0, 0] ![1, 2048, 512] inb_S2x2048x512_S1x2048x512_0_0_0, w⟩ : View.Piece (Elt Ideal) S2x2048x512 .f32) :: L)
        (Rect.unit ![1, 0, 0] ![1, 2048, 512] inb_S2x2048x512_S1x2048x512_1_0_0).toLoadRect
      = v.readCov L (Rect.unit ![1, 0, 0] ![1, 2048, 512] inb_S2x2048x512_S1x2048x512_1_0_0).toLoadRect :=
  View.readCov_cons_of_disjoint v _ L _ (Rect.unit_disjoint (inb := inb_S2x2048x512_S1x2048x512_0_0_0) (inb' := inb_S2x2048x512_S1x2048x512_1_0_0) 0 (by decide))

/-- What a first point's nine stores leave in the scratch. -/
def scrW : Vec Ideal S2048x4608 .bf16 :=
  View.canon (Val := Elt Ideal) (e := .bf16)
    [⟨Rect.unit ![0, 4096] ![2048, 512] inb_S2048x4608_S2048x512_0_4096, k0_pay5 (wch m c 4096 inb_S2x2048x4608_S1x2048x512_0_0_4096)⟩,
      ⟨Rect.unit ![0, 3584] ![2048, 512] inb_S2048x4608_S2048x512_0_3584, k0_pay5 (wch m c 3584 inb_S2x2048x4608_S1x2048x512_0_0_3584)⟩,
      ⟨Rect.unit ![0, 3072] ![2048, 512] inb_S2048x4608_S2048x512_0_3072, k0_pay5 (wch m c 3072 inb_S2x2048x4608_S1x2048x512_0_0_3072)⟩,
      ⟨Rect.unit ![0, 2560] ![2048, 512] inb_S2048x4608_S2048x512_0_2560, k0_pay5 (wch m c 2560 inb_S2x2048x4608_S1x2048x512_0_0_2560)⟩,
      ⟨Rect.unit ![0, 2048] ![2048, 512] inb_S2048x4608_S2048x512_0_2048, k0_pay5 (wch m c 2048 inb_S2x2048x4608_S1x2048x512_0_0_2048)⟩,
      ⟨Rect.unit ![0, 1536] ![2048, 512] inb_S2048x4608_S2048x512_0_1536, k0_pay5 (wch m c 1536 inb_S2x2048x4608_S1x2048x512_0_0_1536)⟩,
      ⟨Rect.unit ![0, 1024] ![2048, 512] inb_S2048x4608_S2048x512_0_1024, k0_pay5 (wch m c 1024 inb_S2x2048x4608_S1x2048x512_0_0_1024)⟩,
      ⟨Rect.unit ![0, 512] ![2048, 512] inb_S2048x4608_S2048x512_0_512, k0_pay5 (wch m c 512 inb_S2x2048x4608_S1x2048x512_0_0_512)⟩,
      ⟨Rect.unit ![0, 0] ![2048, 512] inb_S2048x4608_S2048x512_0_0, k0_pay5 (wch m c 0 inb_S2x2048x4608_S1x2048x512_0_0_0)⟩]

theorem scr_A (t : Fin cfg0.N) (h : t.val % 2 = 0) (h1 : ¬ t.val % 2 = 1) : (outsAt0 m c t.val t.isLt).2 = scrW m c := by
  rw [outsAt0_A m c t h h1]
  unfold scrW
  frame_out [skip_01, skip_10, View.readCov_cons_toLoadRect]
  rfl

theorem scr_s (t : Fin cfg0.N) (h : ¬ t.val % 2 = 0) (h1 : t.val % 2 = 1) :
    (outsAt0 m c t.val t.isLt).2 = (outsAt0 m c (t.val - 1) (Nat.lt_of_le_of_lt (Nat.sub_le _ _) t.isLt)).2 := by
  rw [outsAt0_B m c t h h1]
  rfl

/-- What a grid point's twenty stores leave in the result block, over the normed rows `h`, the nine chunks of the
    weights and the two tables. -/
def outI (h : FVec Ideal S512x2048 .bf16) (w0 w1 w2 w3 w4 w5 w6 w7 w8 : Vec Ideal S2048x512 .bf16) : Vec Ideal S512x4096 .bf16 :=
  View.canon (Val := Elt Ideal) (e := .bf16)
    [⟨Rect.unit ![0, 3584] ![512, 512] inb_S512x4096_S512x512_0_3584, k0_pay2 h w8⟩,
      ⟨Rect.unit ![0, 3072] ![512, 512] inb_S512x4096_S512x512_0_3072, k0_pay2 h w7⟩,
      ⟨Rect.unit ![0, 2944] ![512, 128] inb_S512x4096_S512x128_0_2944, tile (extractStridedSlice S512x128 ![0, 384] (k0_pay8 h w6) slices_S512x512_o0_384_S512x128)⟩,
      ⟨Rect.unit ![0, 2816] ![512, 128] inb_S512x4096_S512x128_0_2816, tile (extractStridedSlice S512x128 ![0, 256] (k0_pay8 h w6) slices_S512x512_o0_256_S512x128)⟩,
      ⟨Rect.unit ![0, 2688] ![512, 128] inb_S512x4096_S512x128_0_2688, tile (extractStridedSlice S512x128 ![0, 128] (k0_pay8 h w6) slices_S512x512_o0_128_S512x128)⟩,
      ⟨Rect.unit ![0, 2560] ![512, 128] inb_S512x4096_S512x128_0_2560, tile (extractStridedSlice S512x128 ![0, 0] (k0_pay8 h w6) slices_S512x512_o0_0_S512x128)⟩,
      ⟨Rect.unit ![0, 2432] ![512, 128] inb_S512x4096_S512x128_0_2432, tile (extractStridedSlice S512x128 ![0, 384] (k0_pay8 h w5) slices_S512x512_o0_384_S512x128)⟩,
      ⟨Rect.unit ![0, 2304] ![512, 128] inb_S512x4096_S512x128_0_2304, tile (extractStridedSlice S512x128 ![0, 256] (k0_pay8 h w5) slices_S512x512_o0_256_S512x128)⟩,
      ⟨Rect.unit ![0, 2176] ![512, 128] inb_S512x4096_S512x128_0_2176, tile (extractStridedSlice S512x128 ![0, 128] (k0_pay8 h w5) slices_S512x512_o0_128_S512x128)⟩,
      ⟨Rect.unit ![0, 2048] ![512, 128] inb_S512x4096_S512x128_0_2048, tile (extractStridedSlice S512x128 ![0, 0] (k0_pay8 h w5) slices_S512x512_o0_0_S512x128)⟩,
      ⟨Rect.unit ![0, 1920] ![512, 128] inb_S512x4096_S512x128_0_1920, tile (extractStridedSlice S512x128 ![0, 384] (k0_pay8 h w4) slices_S512x512_o0_384_S512x128)⟩,
      ⟨Rect.unit ![0, 1792] ![512, 128] inb_S512x4096_S512x128_0_1792, tile (extractStridedSlice S512x128 ![0, 256] (k0_pay8 h w4) slices_S512x512_o0_256_S512x128)⟩,
      ⟨Rect.unit ![0, 1664] ![512, 128] inb_S512x4096_S512x128_0_1664, tile (extractStridedSlice S512x128 ![0, 128] (k0_pay8 h w4) slices_S512x512_o0_128_S512x128)⟩,
      ⟨Rect.unit ![0, 1536] ![512, 128] inb_S512x4096_S512x128_0_1536, tile (extractStridedSlice S512x128 ![0, 0] (k0_pay8 h w4) slices_S512x512_o0_0_S512x128)⟩,
      ⟨Rect.unit ![0, 1408] ![512, 128] inb_S512x4096_S512x128_0_1408, tile (extractStridedSlice S512x128 ![0, 384] (k0_pay8 h w3) slices_S512x512_o0_384_S512x128)⟩,
      ⟨Rect.unit ![0, 1280] ![512, 128] inb_S512x4096_S512x128_0_1280, tile (extractStridedSlice S512x128 ![0, 256] (k0_pay8 h w3) slices_S512x512_o0_256_S512x128)⟩,
      ⟨Rect.unit ![0, 1152] ![512, 128] inb_S512x4096_S512x128_0_1152, tile (extractStridedSlice S512x128 ![0, 128] (k0_pay8 h w3) slices_S512x512_o0_128_S512x128)⟩,
      ⟨Rect.unit ![0, 1024] ![512, 128] inb_S512x4096_S512x128_0_1024, tile (extractStridedSlice S512x128 ![0, 0] (k0_pay8 h w3) slices_S512x512_o0_0_S512x128)⟩,
      ⟨Rect.unit ![0, 512] ![512, 512] inb_S512x4096_S512x512_0_512, k0_pay10 h (k0_pay8 h w1) w2⟩,
      ⟨Rect.unit ![0, 0] ![512, 512] inb_S512x4096_S512x512_0_0, k0_pay2 h w0⟩]

theorem out_A (t : Fin cfg0.N) (h : t.val % 2 = 0) (h1 : ¬ t.val % 2 = 1) :
    (outsAt0 m c t.val t.isLt).1 = outI (k0_pay4 (iblk m c 0 t) (iblk m c 1 t) (iblk m c 3 t) (iblk m c 2 t))
      (k0_pay5 (wch m c 0 inb_S2x2048x4608_S1x2048x512_0_0_0)) (k0_pay5 (wch m c 512 inb_S2x2048x4608_S1x2048x512_0_0_512)) (k0_pay5 (wch m c 1024 inb_S2x2048x4608_S1x2048x512_0_0_1024)) (k0_pay5 (wch m c 1536 inb_S2x2048x4608_S1x2048x512_0_0_1536)) (k0_pay5 (wch m c 2048 inb_S2x2048x4608_S1x2048x512_0_0_2048)) (k0_pay5 (wch m c 2560 inb_S2x2048x4608_S1x2048x512_0_0_2560)) (k0_pay5 (wch m c 3072 inb_S2x2048x4608_S1x2048x512_0_0_3072)) (k0_pay5 (wch m c 3584 inb_S2x2048x4608_S1x2048x512_0_0_3584)) (k0_pay5 (wch m c 4096 inb_S2x2048x4608_S1x2048x512_0_0_4096)) := by
  rw [outsAt0_A m c t h h1]
  unfold outI
  frame_out [skip_01, skip_10, View.readCov_cons_toLoadRect]
  rfl

theorem out_B (t : Fin cfg0.N) (h : ¬ t.val % 2 = 0) (h1 : t.val % 2 = 1) :
    (outsAt0 m c t.val t.isLt).1 = outI (k0_pay4 (iblk m c 0 t) (iblk m c 1 t) (iblk m c 3 t) (iblk m c 2 t))
      (View.ld (outsAt0 m c (t.val - 1) (Nat.lt_of_le_of_lt (Nat.sub_le _ _) t.isLt)).2 (Rect.unit ![0, 0] ![2048, 512] inb_S2048x4608_S2048x512_0_0)) (View.ld (outsAt0 m c (t.val - 1) (Nat.lt_of_le_of_lt (Nat.sub_le _ _) t.isLt)).2 (Rect.unit ![0, 512] ![2048, 512] inb_S2048x4608_S2048x512_0_512)) (View.ld (outsAt0 m c (t.val - 1) (Nat.lt_of_le_of_lt (Nat.sub_le _ _) t.isLt)).2 (Rect.unit ![0, 1024] ![2048, 512] inb_S2048x4608_S2048x512_0_1024)) (View.ld (outsAt0 m c (t.val - 1) (Nat.lt_of_le_of_lt (Nat.sub_le _ _) t.isLt)).2 (Rect.unit ![0, 1536] ![2048, 512] inb_S2048x4608_S2048x512_0_1536)) (View.ld (outsAt0 m c (t.val - 1) (Nat.lt_of_le_of_lt (Nat.sub_le _ _) t.isLt)).2 (Rect.unit ![0, 2048] ![2048, 512] inb_S2048x4608_S2048x512_0_2048)) (View.ld (outsAt0 m c (t.val - 1) (Nat.lt_of_le_of_lt (Nat.sub_le _ _) t.isLt)).2 (Rect.unit ![0, 2560] ![2048, 512] inb_S2048x4608_S2048x512_0_2560)) (View.ld (outsAt0 m c (t.val - 1) (Nat.lt_of_le_of_lt (Nat.sub_le _ _) t.isLt)).2 (Rect.unit ![0, 3072] ![2048, 512] inb_S2048x4608_S2048x512_0_3072)) (View.ld (outsAt0 m c (t.val - 1) (Nat.lt_of_le_of_lt (Nat.sub_le _ _) t.isLt)).2 (Rect.unit ![0, 3584] ![2048, 512] inb_S2048x4608_S2048x512_0_3584)) (View.ld (outsAt0 m c (t.val - 1) (Nat.lt_of_le_of_lt (Nat.sub_le _ _) t.isLt)).2 (Rect.unit ![0, 4096] ![2048, 512] inb_S2048x4608_S2048x512_0_4096)) := by
  rw [outsAt0_B m c t h h1]
  unfold outI
  frame_out
  rw [read_unread_whole]
  rfl

/-! ## The carried weights at an index -/

theorem wch_at (o : ℕ) (inb : ∀ a, (![0, 0, o] : Fin 3 → ℕ) a + (![1, 2048, 512] : Fin 3 → ℕ) a ≤ S2x2048x4608.size a)
    (k : Fin 2048) (e : Fin 512) (j : Fin 4608) (hj : j.val = o + e.val) :
    wch m c o inb (ix3 0 k e) = m ((c : Thread nD τ).loc main_arg3) (ix3 0 k j) := by
  refine congrArg (m ((c : Thread nD τ).loc main_arg3)) (funext fun a => ?_)
  match a with
  | ⟨0, _⟩ => rfl
  | ⟨1, _⟩ => exact Fin.ext ((Rect.idx_unit_val ..).trans (Nat.zero_add _))
  | ⟨2, _⟩ => exact Fin.ext ((Rect.idx_unit_val ..).trans hj.symm)

/-- A chunk of the weights: the columns from `o` on. -/
def Chunk (wt : Fin 2048 → Fin 4608 → EReal) (w : Vec Ideal S2048x512 .bf16) (o : ℕ) : Prop :=
  ∀ (k : Fin 2048) (e : Fin 512) (j : Fin 4608), j.val = o + e.val → w (ix2 k e) = wt k j

/-- The layer's weights. -/
def wts (k : Fin 2048) (j : Fin 4608) : EReal := m ((c : Thread nD τ).loc main_arg3) (ix3 0 k j)

theorem chunk_A (o : ℕ) (inb : ∀ a, (![0, 0, o] : Fin 3 → ℕ) a + (![1, 2048, 512] : Fin 3 → ℕ) a ≤ S2x2048x4608.size a) :
    Chunk (wts m c) (k0_pay5 (wch m c o inb)) o :=
  fun k e j hj => (wgt_at _ k e).trans (wch_at m c o inb k e j hj)

theorem ld_at {A B R C : ℕ} {e : EltTy} (x : Vec Ideal ⟨2, ![A, B]⟩ e) (o : ℕ)
    (inb : ∀ a, (![0, o] : Fin 2 → ℕ) a + (![R, C] : Fin 2 → ℕ) a ≤ (⟨2, ![A, B]⟩ : Shape).size a)
    (r : Fin R) (k : Fin C) (i : Fin A) (j : Fin B) (hi : i.val = r.val) (hj : j.val = o + k.val) :
    View.ld x (Rect.unit ![0, o] ![R, C] inb) (ix2 r k) = x (ix2 i j) := by
  rw [View.ld_apply]
  refine congrArg x (funext fun a => ?_)
  match a with
  | ⟨0, _⟩ => exact Fin.ext ((Rect.idx_unit_val ..).trans ((Nat.zero_add _).trans hi.symm))
  | ⟨1, _⟩ => exact Fin.ext ((Rect.idx_unit_val ..).trans hj.symm)

theorem chunk_B (W : Vec Ideal S2048x4608 .bf16) (hW : ∀ k j, W (ix2 k j) = wts m c k j) (o : ℕ)
    (inb : ∀ a, (![0, o] : Fin 2 → ℕ) a + (![2048, 512] : Fin 2 → ℕ) a ≤ S2048x4608.size a) :
    Chunk (wts m c) (View.ld W (Rect.unit ![0, o] ![2048, 512] inb)) o :=
  fun k e j hj => (ld_at W o inb k e k j rfl hj).trans (hW k j)

theorem ix_eta {A B : ℕ} (x : (⟨2, ![A, B]⟩ : Shape).Idx) : ∃ (r : Fin A) (e : Fin B), x = ix2 r e := by
  refine ⟨⟨(x 0).val, (x 0).isLt⟩, ⟨(x 1).val, (x 1).isLt⟩, funext fun a => ?_⟩
  match a with
  | ⟨0, _⟩ => rfl
  | ⟨1, _⟩ => rfl

theorem scrW_at (k : Fin 2048) (j : Fin 4608) : scrW m c (ix2 k j) = wts m c k j := by
  unfold scrW
  canon_tiles x h
  · obtain ⟨r, e, rfl⟩ := ix_eta x
    obtain rfl : k = r := Fin.ext h0
    exact chunk_A m c 4096 _ k e j h1
  · obtain ⟨r, e, rfl⟩ := ix_eta x
    obtain rfl : k = r := Fin.ext h0
    exact chunk_A m c 3584 _ k e j h1
  · obtain ⟨r, e, rfl⟩ := ix_eta x
    obtain rfl : k = r := Fin.ext h0
    exact chunk_A m c 3072 _ k e j h1
  · obtain ⟨r, e, rfl⟩ := ix_eta x
    obtain rfl : k = r := Fin.ext h0
    exact chunk_A m c 2560 _ k e j h1
  · obtain ⟨r, e, rfl⟩ := ix_eta x
    obtain rfl : k = r := Fin.ext h0
    exact chunk_A m c 2048 _ k e j h1
  · obtain ⟨r, e, rfl⟩ := ix_eta x
    obtain rfl : k = r := Fin.ext h0
    exact chunk_A m c 1536 _ k e j h1
  · obtain ⟨r, e, rfl⟩ := ix_eta x
    obtain rfl : k = r := Fin.ext h0
    exact chunk_A m c 1024 _ k e j h1
  · obtain ⟨r, e, rfl⟩ := ix_eta x
    obtain rfl : k = r := Fin.ext h0
    exact chunk_A m c 512 _ k e j h1
  · obtain ⟨r, e, rfl⟩ := ix_eta x
    obtain rfl : k = r := Fin.ext h0
    exact chunk_A m c 0 _ k e j (h1.trans (Nat.zero_add _).symm)

/-- What the scratch holds after every point: the layer's weights. -/
theorem scr_at (t : Fin cfg0.N) (k : Fin 2048) (j : Fin 4608) : (outsAt0 m c t.val t.isLt).2 (ix2 k j) = wts m c k j := by
  have hN : ∀ t : Fin cfg0.N, t.val < 2 := fun t => lt_of_lt_of_eq t.isLt N_0
  rw [Pipeline.eq_of_write_hold_apply (fun n h => (outsAt0 m c n h).2) 2 (fun _ => scrW m c)
    (fun t h i => congrFun (scr_A m c t h (by have := hN t; omega)) i) (fun t h i => congrFun (scr_s m c t h (by omega)) i) t (ix2 k j), scrW_at]

/-! ## The tiles of a block -/

section tiles
variable {h : FVec Ideal S512x2048 .bf16} {wt : Fin 2048 → Fin 4608 → EReal} {w : Vec Ideal S2048x512 .bf16} {o : ℕ}

theorem proj_at (hw : Chunk wt w o) (r : Fin 512) (e : Fin 512) (j : Fin 4608) (hj : j.val = o + e.val) :
    ∑ k, h (ix2 r k) * w (ix2 k e) = proj (fun k => h (ix2 r k)) wt j :=
  Finset.sum_congr rfl fun k _ => congrArg _ (hw k e j hj)

variable {r : Fin 512}

/-- A lane group's tile holds channels of the projection. -/
theorem plain_tile (hw : Chunk wt w o) (t : FVec Ideal S512x128 .f32) (p : ℕ) (hp : p + 128 ≤ 512)
    (ht : ∀ (l : Fin 128) (e : Fin 512), e.val = p + l.val → t (ix2 r l) = k0_pay8 h w (ix2 r e))
    (q : ℕ) (hq : q + 512 = o + p) (hl : 1024 ≤ q)
    (l : Fin 128) (d : Fin 4096) (hd : d.val = q + l.val) :
    tile t (ix2 r l) = crow (proj (fun k => h (ix2 r k)) wt) d := by
  rw [tile_at, ht l ⟨p + l.val, by omega⟩ rfl, acc_at,
    proj_at hw r _ ⟨d.val + 512, by omega⟩ (by show d.val + 512 = o + (p + l.val); omega)]
  unfold crow
  rw [dif_neg (by omega), dif_neg (by omega)]
  rfl

theorem sl_0 (a : FVec Ideal S512x512 .f32) (r : Fin 512) (l : Fin 128) (e : Fin 512) (he : e.val = 0 + l.val) :
    (extractStridedSlice S512x128 ![0, 0] a slices_S512x512_o0_0_S512x128 : FVec Ideal S512x128 .f32) (ix2 r l) = a (ix2 r e) :=
  (slice_at a r l).1.trans (congrArg (fun e => a (ix2 r e)) (Fin.ext (he.trans (Nat.zero_add _)).symm))

theorem sl_128 (a : FVec Ideal S512x512 .f32) (r : Fin 512) (l : Fin 128) (e : Fin 512) (he : e.val = 128 + l.val) :
    (extractStridedSlice S512x128 ![0, 128] a slices_S512x512_o0_128_S512x128 : FVec Ideal S512x128 .f32) (ix2 r l) = a (ix2 r e) :=
  (slice_at a r l).2.1.trans (congrArg (fun e => a (ix2 r e)) (Fin.ext (he).symm))

theorem sl_256 (a : FVec Ideal S512x512 .f32) (r : Fin 512) (l : Fin 128) (e : Fin 512) (he : e.val = 256 + l.val) :
    (extractStridedSlice S512x128 ![0, 256] a slices_S512x512_o0_256_S512x128 : FVec Ideal S512x128 .f32) (ix2 r l) = a (ix2 r e) :=
  (slice_at a r l).2.2.1.trans (congrArg (fun e => a (ix2 r e)) (Fin.ext (he).symm))

theorem sl_384 (a : FVec Ideal S512x512 .f32) (r : Fin 512) (l : Fin 128) (e : Fin 512) (he : e.val = 384 + l.val) :
    (extractStridedSlice S512x128 ![0, 384] a slices_S512x512_o0_384_S512x128 : FVec Ideal S512x128 .f32) (ix2 r l) = a (ix2 r e) :=
  (slice_at a r l).2.2.2.trans (congrArg (fun e => a (ix2 r e)) (Fin.ext (he).symm))

/-- The block's entry is the row function's channel. -/
theorem outI_at (h : FVec Ideal S512x2048 .bf16) (w0 w1 w2 w3 w4 w5 w6 w7 w8 : Vec Ideal S2048x512 .bf16)
    (wt : Fin 2048 → Fin 4608 → EReal) (r : Fin 512) (d : Fin 4096)
    (k0 : Chunk wt w0 0)    (k1 : Chunk wt w1 512)    (k2 : Chunk wt w2 1024)
    (k3 : Chunk wt w3 1536)    (k4 : Chunk wt w4 2048)    (k5 : Chunk wt w5 2560)
    (k6 : Chunk wt w6 3072)    (k7 : Chunk wt w7 3584)    (k8 : Chunk wt w8 4096) :
    outI h w0 w1 w2 w3 w4 w5 w6 w7 w8 (ix2 r d) = crow (proj (fun k => h (ix2 r k)) wt) d := by
  unfold outI
  canon_tiles x h using View.cover_of_tiledBy _ ![512, 128] (by sl_kernel_rfl) (ix2 r d)
  · obtain ⟨r', e, rfl⟩ := ix_eta x
    obtain rfl : r = r' := Fin.ext h0
    have he := e.isLt
    replace h1 : d.val = 3584 + e.val := h1
    rw [pay5_at, proj_at k8 r e ⟨d.val + 512, by omega⟩ (by show d.val + 512 = _; omega)]
    unfold crow
    rw [dif_neg (by omega), dif_neg (by omega)]
    rfl
  · obtain ⟨r', e, rfl⟩ := ix_eta x
    obtain rfl : r = r' := Fin.ext h0
    have he := e.isLt
    replace h1 : d.val = 3072 + e.val := h1
    rw [pay5_at, proj_at k7 r e ⟨d.val + 512, by omega⟩ (by show d.val + 512 = _; omega)]
    unfold crow
    rw [dif_neg (by omega), dif_neg (by omega)]
    rfl
  · obtain ⟨r', e, rfl⟩ := ix_eta x
    obtain rfl : r = r' := Fin.ext h0
    have he := e.isLt
    replace h1 : d.val = 2944 + e.val := h1
    exact plain_tile k6 _ 384 (by decide) (fun l e he => sl_384 _ r l e he) 2944 (by decide) (by decide) e d h1
  · obtain ⟨r', e, rfl⟩ := ix_eta x
    obtain rfl : r = r' := Fin.ext h0
    have he := e.isLt
    replace h1 : d.val = 2816 + e.val := h1
    exact plain_tile k6 _ 256 (by decide) (fun l e he => sl_256 _ r l e he) 2816 (by decide) (by decide) e d h1
  · obtain ⟨r', e, rfl⟩ := ix_eta x
    obtain rfl : r = r' := Fin.ext h0
    have he := e.isLt
    replace h1 : d.val = 2688 + e.val := h1
    exact plain_tile k6 _ 128 (by decide) (fun l e he => sl_128 _ r l e he) 2688 (by decide) (by decide) e d h1
  · obtain ⟨r', e, rfl⟩ := ix_eta x
    obtain rfl : r = r' := Fin.ext h0
    have he := e.isLt
    replace h1 : d.val = 2560 + e.val := h1
    exact plain_tile k6 _ 0 (by decide) (fun l e he => sl_0 _ r l e he) 2560 (by decide) (by decide) e d h1
  · obtain ⟨r', e, rfl⟩ := ix_eta x
    obtain rfl : r = r' := Fin.ext h0
    have he := e.isLt
    replace h1 : d.val = 2432 + e.val := h1
    exact plain_tile k5 _ 384 (by decide) (fun l e he => sl_384 _ r l e he) 2432 (by decide) (by decide) e d h1
  · obtain ⟨r', e, rfl⟩ := ix_eta x
    obtain rfl : r = r' := Fin.ext h0
    have he := e.isLt
    replace h1 : d.val = 2304 + e.val := h1
    exact plain_tile k5 _ 256 (by decide) (fun l e he => sl_256 _ r l e he) 2304 (by decide) (by decide) e d h1
  · obtain ⟨r', e, rfl⟩ := ix_eta x
    obtain rfl : r = r' := Fin.ext h0
    have he := e.isLt
    replace h1 : d.val = 2176 + e.val := h1
    exact plain_tile k5 _ 128 (by decide) (fun l e he => sl_128 _ r l e he) 2176 (by decide) (by decide) e d h1
  · obtain ⟨r', e, rfl⟩ := ix_eta x
    obtain rfl : r = r' := Fin.ext h0
    have he := e.isLt
    replace h1 : d.val = 2048 + e.val := h1
    exact plain_tile k5 _ 0 (by decide) (fun l e he => sl_0 _ r l e he) 2048 (by decide) (by decide) e d h1
  · obtain ⟨r', e, rfl⟩ := ix_eta x
    obtain rfl : r = r' := Fin.ext h0
    have he := e.isLt
    replace h1 : d.val = 1920 + e.val := h1
    exact plain_tile k4 _ 384 (by decide) (fun l e he => sl_384 _ r l e he) 1920 (by decide) (by decide) e d h1
  · obtain ⟨r', e, rfl⟩ := ix_eta x
    obtain rfl : r = r' := Fin.ext h0
    have he := e.isLt
    replace h1 : d.val = 1792 + e.val := h1
    exact plain_tile k4 _ 256 (by decide) (fun l e he => sl_256 _ r l e he) 1792 (by decide) (by decide) e d h1
  · obtain ⟨r', e, rfl⟩ := ix_eta x
    obtain rfl : r = r' := Fin.ext h0
    have he := e.isLt
    replace h1 : d.val = 1664 + e.val := h1
    exact plain_tile k4 _ 128 (by decide) (fun l e he => sl_128 _ r l e he) 1664 (by decide) (by decide) e d h1
  · obtain ⟨r', e, rfl⟩ := ix_eta x
    obtain rfl : r = r' := Fin.ext h0
    have he := e.isLt
    replace h1 : d.val = 1536 + e.val := h1
    exact plain_tile k4 _ 0 (by decide) (fun l e he => sl_0 _ r l e he) 1536 (by decide) (by decide) e d h1
  · obtain ⟨r', e, rfl⟩ := ix_eta x
    obtain rfl : r = r' := Fin.ext h0
    have he := e.isLt
    replace h1 : d.val = 1408 + e.val := h1
    exact plain_tile k3 _ 384 (by decide) (fun l e he => sl_384 _ r l e he) 1408 (by decide) (by decide) e d h1
  · obtain ⟨r', e, rfl⟩ := ix_eta x
    obtain rfl : r = r' := Fin.ext h0
    have he := e.isLt
    replace h1 : d.val = 1280 + e.val := h1
    exact plain_tile k3 _ 256 (by decide) (fun l e he => sl_256 _ r l e he) 1280 (by decide) (by decide) e d h1
  · obtain ⟨r', e, rfl⟩ := ix_eta x
    obtain rfl : r = r' := Fin.ext h0
    have he := e.isLt
    replace h1 : d.val = 1152 + e.val := h1
    exact plain_tile k3 _ 128 (by decide) (fun l e he => sl_128 _ r l e he) 1152 (by decide) (by decide) e d h1
  · obtain ⟨r', e, rfl⟩ := ix_eta x
    obtain rfl : r = r' := Fin.ext h0
    have he := e.isLt
    replace h1 : d.val = 1024 + e.val := h1
    exact plain_tile k3 _ 0 (by decide) (fun l e he => sl_0 _ r l e he) 1024 (by decide) (by decide) e d h1
  · obtain ⟨r', e, rfl⟩ := ix_eta x
    obtain rfl : r = r' := Fin.ext h0
    have he := e.isLt
    replace h1 : d.val = 512 + e.val := h1
    rw [gate_at, proj_at k1 r e ⟨d.val, by omega⟩ (by show d.val = _; omega), proj_at k2 r e ⟨d.val + 512, by omega⟩ (by show d.val + 512 = _; omega)]
    unfold crow
    rw [dif_neg (by omega), dif_pos (by omega)]
  · obtain ⟨r', e, rfl⟩ := ix_eta x
    obtain rfl : r = r' := Fin.ext h0
    have he := e.isLt
    replace h1 : d.val = 0 + e.val := h1.trans (Nat.zero_add _).symm
    rw [pay5_at, proj_at k0 r e ⟨d.val, by omega⟩ (by show d.val = _; omega)]
    unfold crow
    rw [dif_pos (by omega)]

end tiles

/-! ## The blocks at an index -/

theorem flat_at (x : Vec Ideal S4x256x2048 .f32) (b : Fin 4) (n : Fin 256) (d : Fin 2048) (R : Fin 1024) (h : R.val = 256 * b.val + n.val) :
    shapeCast S1024x2048 x shapeCasts_S4x256x2048_S1024x2048 (ix2 R d) = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S12288 .f32) (z : Vec Ideal S_ .f32) (k : Fin 6) (d : Fin 2048) :
    pad S2x8x6x1x2048 ![0, 4, 0, 0, 0] ![1, 3, 0, 0, 0] ![0, 0, 0, 0, 0]
      (shapeCast S1x1x6x1x2048 x shapeCasts_S12288_S1x1x6x1x2048) z
      pads_S1x1x6x1x2048_S2x8x6x1x2048_010_430_000_000_000 h_S_ (ix5 0 4 k 0 d) = x (ix1 ⟨k.val * 2048 + d.val, by omega⟩) := by
  pointwise

theorem V_v2 (b : Fin 4) (n : Fin 256) (d : Fin 2048) (R : Fin 1024) (h : R.val = 256 * b.val + n.val) :
    V m c main_v2 (ix2 R d) = m ((c : Thread nD τ).loc main_arg0) (ix3 b n d) := by
  have e : V m c main_v2 = shapeCast S1024x2048 (m ((c : Thread nD τ).loc main_arg0)) shapeCasts_S4x256x2048_S1024x2048 := rfl
  rw [e]
  exact flat_at _ b n d R h

theorem V_v3 (l : Fin 2) (d : Fin 2048) : V m c main_v3 (ix3 l 0 d) = m ((c : Thread nD τ).loc main_arg2) (ix2 l d) := by
  have e : V m c main_v3 = shapeCast S2x1x2048 (m ((c : Thread nD τ).loc main_arg2)) shapeCasts_S2x2048_S2x1x2048 := rfl
  rw [e]
  exact row_at _ l d

/-- The modulation vectors of the layer, behind the padding. -/
theorem V_v1 (k : Fin 6) (d : Fin 2048) :
    V m c main_v1 (ix5 0 4 k 0 d) = m ((c : Thread nD τ).loc main_arg1) (ix1 ⟨k.val * 2048 + d.val, by omega⟩) := by
  have e : ∃ z, V m c main_v1 = pad S2x8x6x1x2048 ![0, 4, 0, 0, 0] ![1, 3, 0, 0, 0] ![0, 0, 0, 0, 0]
      (shapeCast S1x1x6x1x2048 (m ((c : Thread nD τ).loc main_arg1)) shapeCasts_S12288_S1x1x6x1x2048) z
      pads_S1x1x6x1x2048_S2x8x6x1x2048_010_430_000_000_000 h_S_ := ⟨_, rfl⟩
  obtain ⟨z, e⟩ := e
  rw [e]
  exact pad_at _ z k d

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, 4, 0, 0, 0] := (by decide +kernel : ∀ t : Fin grid0.N, _)
theorem ix_3 : ∀ t : Fin cfg0.N, win0_3.index t = ![0, 4, 1, 0, 0] := (by decide +kernel : ∀ t : Fin grid0.N, _)

theorem blk_0 (t : Fin cfg0.N) (b : Fin 4) (n : Fin 256) (r : Fin 512) (d : Fin 2048) (hr : t.val * 512 + r.val = 256 * b.val + n.val) :
    iblk m c 0 t (ix2 r d) = m ((c : Thread nD τ).loc main_arg0) (ix3 b n d) := by
  have ht : t.val < 2 := lt_of_lt_of_eq t.isLt N_0
  rw [← V_v2 m c b n d ⟨t.val * 512 + r.val, by omega⟩ hr]
  blk_ext [iblk, ix_0 t]

theorem blk_1 (t : Fin cfg0.N) (d : Fin 2048) : iblk m c 1 t (ix3 0 0 d) = m ((c : Thread nD τ).loc main_arg2) (ix2 0 d) := by
  refine Eq.trans ?_ (V_v3 m c 0 d)
  blk_ext [iblk, ix_1 t]

theorem blk_2 (t : Fin cfg0.N) (d : Fin 2048) :
    iblk m c 2 t (ix5 0 0 0 0 d) = m ((c : Thread nD τ).loc main_arg1) (ix1 ⟨d.val, by omega⟩) := by
  refine Eq.trans ?_ ((V_v1 m c 0 d).trans (congrArg (fun e => m ((c : Thread nD τ).loc main_arg1) (ix1 e)) (Fin.ext (by show 0 * 2048 + d.val = d.val; omega))))
  blk_ext [iblk, ix_2 t]

theorem blk_3 (t : Fin cfg0.N) (d : Fin 2048) :
    iblk m c 3 t (ix5 0 0 0 0 d) = m ((c : Thread nD τ).loc main_arg1) (ix1 ⟨2048 + d.val, by omega⟩) := by
  refine Eq.trans ?_ (V_v1 m c 1 d)
  blk_ext [iblk, ix_3 t]

/-- The result block of a point, row by row. -/
theorem last_at (t : Fin cfg0.N) (b : Fin 4) (n : Fin 256) (r : Fin 512) (d : Fin 4096) (hr : t.val * 512 + r.val = 256 * b.val + n.val) :
    (outsAt0 m c t.val t.isLt).1 (ix2 r d)
      = crow (proj (modd (fun d => m ((c : Thread nD τ).loc main_arg0) (ix3 b n d)) (fun d => m ((c : Thread nD τ).loc main_arg2) (ix2 0 d))
            (fun d => m ((c : Thread nD τ).loc main_arg1) (ix1 ⟨2048 + d.val, by omega⟩))
            (fun d => m ((c : Thread nD τ).loc main_arg1) (ix1 ⟨d.val, by omega⟩)))
          (fun k j => m ((c : Thread nD τ).loc main_arg3) (ix3 0 k j))) d := by
  have hN : t.val < 2 := lt_of_lt_of_eq t.isLt N_0
  have hp : (fun k => k0_pay4 (iblk m c 0 t) (iblk m c 1 t) (iblk m c 3 t) (iblk m c 2 t) (ix2 r k))
      = modd (fun d => m ((c : Thread nD τ).loc main_arg0) (ix3 b n d)) (fun d => m ((c : Thread nD τ).loc main_arg2) (ix2 0 d))
            (fun d => m ((c : Thread nD τ).loc main_arg1) (ix1 ⟨2048 + d.val, by omega⟩))
            (fun d => m ((c : Thread nD τ).loc main_arg1) (ix1 ⟨d.val, by omega⟩)) := funext fun k => by
    rw [pre_at]
    simp only [blk_0 m c t b n r _ hr, blk_1, blk_2, blk_3]
  rw [← hp]
  by_cases h : t.val % 2 = 0
  · rw [out_A m c t h (by omega)]
    exact outI_at _ _ _ _ _ _ _ _ _ _ (wts m c) r d (chunk_A m c 0 _) (chunk_A m c 512 _) (chunk_A m c 1024 _) (chunk_A m c 1536 _) (chunk_A m c 2048 _) (chunk_A m c 2560 _) (chunk_A m c 3072 _) (chunk_A m c 3584 _) (chunk_A m c 4096 _)
  · rw [out_B m c t h (by omega)]
    have hW := scr_at m c ⟨t.val - 1, Nat.lt_of_le_of_lt (Nat.sub_le _ _) t.isLt⟩
    exact outI_at _ _ _ _ _ _ _ _ _ _ (wts m c) r d (chunk_B m c _ hW 0 _) (chunk_B m c _ hW 512 _) (chunk_B m c _ hW 1024 _) (chunk_B m c _ hW 1536 _) (chunk_B m c _ hW 2048 _) (chunk_B m c _ hW 2560 _) (chunk_B m c _ hW 3072 _) (chunk_B m c _ hW 3584 _) (chunk_B m c _ hW 4096 _)

end Cert.CInpIdeal.Val
-- ==== Proof.CInpRef.lean ====
/- The context stream's input projection, first layer: its reference read at an index: one row of the context stream and the row handed to the sublayers. -/
module

public import proofs.«01_k».proof.Proof.Gen.CInpReferenceIdeal.Read
public import proofs.«01_k».proof.Proof.CInpSpec

@[expose] public section

noncomputable section

namespace Cert.CInpReferenceIdeal.Val

open Cert.CInpReferenceIdeal Cert.CInpReferenceIdeal.Gen Cert.CInpReferenceIdeal.Read Idealize.ShloMosaic Cert.MlpSpec Cert.InpSpec Cert.CInpSpec

variable (x0 : Vec Ideal S4x256x2048 .f32) (x1 : Vec Ideal S12288 .f32) (x2 : Vec Ideal S2x2048 .f32)
  (x3 : Vec Ideal S2x2048x4608 .f32)

/-- Row `(b, n)` of the normed and modulated input. -/
theorem pre_at (b : Fin 4) (n : Fin 256) (d : Fin 2048) :
    val_main_v28 (F := Ideal) x0 x1 x2 (ix3 b n d)
      = modd (fun d => x0 (ix3 b n d)) (fun d => x2 (ix2 0 d)) (fun d => x1 (ix1 ⟨2048 + d.val, by omega⟩))
          (fun d => x1 (ix1 ⟨d.val, by omega⟩)) d := by
  pointwise [val_main_v28, val_main_v27, val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v1, val_main_v0, modd, rms]

/-- The keys' and values' channels of the product. -/
theorem kv_at (b : Fin 4) (n : Fin 256) (e : Fin 2048) :
    val_main_v32 (F := Ideal) x0 x1 x2 x3 (ix3 b n e)
      = proj (fun d => val_main_v28 (F := Ideal) x0 x1 x2 (ix3 b n d)) (fun k j => x3 (ix3 0 k j)) ⟨2560 + e.val, by omega⟩ := by
  pointwise [val_main_v32, val_main_v31, val_main_v30, val_main_v29, proj]

/-- The other channels of the product. -/
theorem dot_at (b : Fin 4) (n : Fin 256) (e : Fin 2560) :
    val_main_v36 (F := Ideal) x0 x1 x2 x3 (ix3 b n e)
      = proj (fun d => val_main_v28 (F := Ideal) x0 x1 x2 (ix3 b n d)) (fun k j => x3 (ix3 0 k j)) ⟨e.val, by omega⟩ := by
  pointwise [val_main_v36, val_main_v35, val_main_v34, val_main_v33, proj]

/-- The gated convolution branch. -/
theorem gate_at (b : Fin 4) (n : Fin 256) (e : Fin 512) :
    val_main_v48 (F := Ideal) x0 x1 x2 x3 (ix3 b n e)
      = val_main_v36 (F := Ideal) x0 x1 x2 x3 (ix3 b n ⟨512 + e.val, by omega⟩)
          * Ideal.logistic (val_main_v36 (F := Ideal) x0 x1 x2 x3 (ix3 b n ⟨1024 + e.val, by omega⟩)) := by
  pointwise [val_main_v48, val_main_v47, val_main_v46, val_main_cst_4, val_main_v45, val_main_v44, val_main_cst_3, val_main_v43,
    val_main_v42, val_main_v41, val_main_v40, val_main_v38, Ideal.logistic]
  have e1 : (⟨512 + (512 + e.val), by omega⟩ : Fin 2560) = ⟨1024 + e.val, by omega⟩ := Fin.ext (by dsimp only; omega)
  rw [e1]

/-- The row handed to the sublayers. -/
theorem row_at (b : Fin 4) (n : Fin 256) (d : Fin 4096) :
    val_main_v49 (F := Ideal) x0 x1 x2 x3 (ix3 b n d)
      = crow (proj (fun d => val_main_v28 (F := Ideal) x0 x1 x2 (ix3 b n d)) (fun k j => x3 (ix3 0 k j))) d := by
  pointwise [val_main_v49, val_main_v39, val_main_v37]
  have hP : ∀ i j : Fin 4608, i.val = j.val → (proj (fun d => val_main_v28 (F := Ideal) x0 x1 x2 (ix3 b n d)) (fun k j => x3 (ix3 0 k j))) i = (proj (fun d => val_main_v28 (F := Ideal) x0 x1 x2 (ix3 b n d)) (fun k j => x3 (ix3 0 k j))) j :=
    fun i j h => by rw [Fin.ext h]
  unfold crow up
  by_cases h : d.val < 512
  · rw [dif_pos h, dif_pos h, dot_at]
  · rw [dif_neg h, dif_neg h]
    by_cases h2 : d.val < 1024
    · rw [dif_pos (by omega), dif_pos h2, gate_at, dot_at, dot_at]
      exact congrArg₂ (fun a b => a * Ideal.logistic b) (hP _ _ (by dsimp only; omega)) (hP _ _ (by dsimp only; omega))
    · rw [dif_neg (by omega), dif_neg h2]
      by_cases h3 : d.val < 2048
      · rw [dif_pos (by omega), dot_at]
        exact hP _ _ (by dsimp only; omega)
      · rw [dif_neg (by omega), kv_at]
        exact hP _ _ (by dsimp only; omega)

/-- The reference's result at row `256 b + n`. -/
theorem res_at (b : Fin 4) (n : Fin 256) (d : Fin 4096) (i : S1024x4096.Idx) (h0 : (i 0).val = 256 * b.val + n.val) (h1 : (i 1).val = d.val) :
    val_main_v51 (F := Ideal) x0 x1 x2 x3 i
      = crow (proj (modd (fun d => x0 (ix3 b n d)) (fun d => x2 (ix2 0 d)) (fun d => x1 (ix1 ⟨2048 + d.val, by omega⟩))
          (fun d => x1 (ix1 ⟨d.val, by omega⟩))) (fun k j => x3 (ix3 0 k j))) d := by
  have e0 : val_main_v51 (F := Ideal) x0 x1 x2 x3 i = val_main_v50 (F := Ideal) x0 x1 x2 x3 i := rfl
  rw [e0, val_main_v50_apply]
  have e : idx_main_v50 i = ix3 b n d := by
    funext a
    apply Fin.ext
    have hb := b.isLt; have hn := n.isLt; have hd := d.isLt
    match a with
    | ⟨0, _⟩ => show _ = b.val; simp only [idx_main_v50]; omega
    | ⟨1, _⟩ => show _ = n.val; simp only [idx_main_v50]; omega
    | ⟨2, _⟩ => show _ = d.val; simp only [idx_main_v50]; omega
  rw [e, row_at]
  have ep : (fun d => val_main_v28 (F := Ideal) x0 x1 x2 (ix3 b n d)) = modd (fun d => x0 (ix3 b n d)) (fun d => x2 (ix2 0 d))
      (fun d => x1 (ix1 ⟨2048 + d.val, by omega⟩)) (fun d => x1 (ix1 ⟨d.val, by omega⟩)) := funext fun d => pre_at x0 x1 x2 b n d
  rw [ep]

end Cert.CInpReferenceIdeal.Val
-- ==== Proof.CInpTie.lean ====
/- The context stream's input projection, first layer: its call beside its reference: both results are the row function applied row by row. -/
module

public import proofs.«01_k».proof.Proof.CInpKer
public import proofs.«01_k».proof.Proof.CInpRef
public import proofs.«01_k».proof.Proof.Gen.CInpReferenceIdeal.Run

@[expose] public section

noncomputable section

namespace Cert.CInpTie

open Cert.CInpIdeal Cert.CInpIdeal.Gen Idealize.ShloMosaic Idealize.ShloMosaic.TcCoe Idealize.SL.Sem Cert.MlpSpec Cert.InpSpec Cert.CInpSpec

theorem ix_4 : ∀ t : Fin cfg0.N, win0_4.index t = ![t.val, 0] := (by decide +kernel : ∀ t : Fin grid0.N, _)
theorem fl_4 : ∀ t : Fin cfg0.N, (cfg0.win 4).flush t = true := (by decide +kernel : ∀ t : Fin grid0.N, win0_4.flush t = true)

theorem mem_4 (t : Fin cfg0.N) (i : S1024x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v4).slice (win0_4.rect t)).set ↔ _
  rw [View.set_slice_whole, Rect.mem_set_unit]
  exact Iff.rfl

/-- Every index of the result lies in a point's block. -/
theorem cover_4 (i : S1024x4096.Idx) : ∃ t : Fin cfg0.N, (cfg0.win 4).flush t = true ∧ i ∈ ((cfg0.win 4).blk t).view.set := by
  have h0 : (i 0).val < 1024 := (i 0).isLt
  have h1 : (i 1).val < 4096 := (i 1).isLt
  have ht : (i 0).val / 512 < cfg0.N := lt_of_lt_of_eq (by omega) N_0.symm
  refine ⟨⟨(i 0).val / 512, ht⟩, fl_4 _, ?_⟩
  rw [mem_4, ix_4]
  intro a
  match a with
  | ⟨0, _⟩ => show (i 0).val / 512 * 512 ≤ (i 0).val ∧ (i 0).val < (i 0).val / 512 * 512 + 512; omega
  | ⟨1, _⟩ => show 0 * 4096 ≤ (i 1).val ∧ (i 1).val < 0 * 4096 + 4096; omega

/-- The call's result array is the reference's result on the same arguments. -/
theorem tie (m : (ℓ : Loc nD τ sig) → Buf (Elt Ideal) ℓ) (c : Dev nD) :
    (dats m 0 c).arrAt 4 cfg0.N = (Cert.CInpReferenceIdeal.Read.val_main_v51 (F := Ideal)
      (m ((c : Thread nD τ).loc main_arg0)) (m ((c : Thread nD τ).loc main_arg1)) (m ((c : Thread nD τ).loc main_arg2))
      (m ((c : Thread nD τ).loc main_arg3))
      : Buf (Elt Ideal) ((c : Thread nD τ).loc main_v4)) := by
  refine (dats m 0 c).arrAt_eq_of_cover 4 _ (fun t _ => ?_) cover_4
  rw [Cert.CInpIdeal.Value.flushed4]
  funext y
  have hN : t.val < 2 := lt_of_lt_of_eq t.isLt N_0
  have hy0 : (y 0).val < 512 := (y 0).isLt
  have hy1 : (y 1).val < 4096 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 4096 + 1 * (y 1).val := rfl
  have e0 : win0_4.index t (0 : Fin 2) = t.val := congrFun (ix_4 t) 0
  have e1 : win0_4.index t (1 : Fin 2) = 0 := congrFun (ix_4 t) 1
  have hl : (cfg0.win 4).xinj (grid0.coords t) y = ix2 ⟨(y 0).val, hy0⟩ ⟨(y 1).val, hy1⟩ := by
    funext a
    match a with
    | ⟨0, _⟩ => rfl
    | ⟨1, _⟩ => rfl
  show (outsAt0 m c t.val t.isLt).1 ((cfg0.win 4).xinj (grid0.coords t) y)
    = Cert.CInpReferenceIdeal.Read.val_main_v51 (F := Ideal) _ _ _ _ (((cfg0.win 4).blk t).view.emb y)
  rw [hl, Cert.CInpReferenceIdeal.Val.res_at _ _ _ _ ⟨(t.val * 512 + (y 0).val) / 256, by omega⟩ ⟨(t.val * 512 + (y 0).val) % 256, by omega⟩ ⟨(y 1).val, hy1⟩
    (((cfg0.win 4).blk t).view.emb y) (by rw [hb0, e0]; show t.val * 512 + 1 * (y 0).val = 256 * ((t.val * 512 + (y 0).val) / 256) + (t.val * 512 + (y 0).val) % 256; omega)
    (by rw [hb1, e1]; show 0 * 4096 + 1 * (y 1).val = (y 1).val; omega)]
  exact Cert.CInpIdeal.Val.last_at m c t _ _ _ _ (by show t.val * 512 + (y 0).val = 256 * ((t.val * 512 + (y 0).val) / 256) + (t.val * 512 + (y 0).val) % 256; omega)

end Cert.CInpTie
-- ==== Proof.CKvSpec.lean ====
/- The context stream's keys and values as a plain function of one row: the projected channels from 2560 on. -/
module

public import proofs.«01_k».proof.Proof.InpSpec

@[expose] public section

noncomputable section

namespace Cert.CKvSpec

open Idealize.ShloMosaic

/-- The keys and values of a row: the last 2048 channels of the projection, as projected. -/
def kvrow (p : Fin 4608 → EReal) (d : Fin 2048) : EReal := p ⟨2560 + d.val, by omega⟩

end Cert.CKvSpec
-- ==== Proof.CKvPay.lean ====
/- The context stream's keys and values, second layer: its payloads read at an index: the product of the normed rows with a chunk of the weights, the
   lane groups stored as they are. -/
module

public import proofs.«01_k».proof.Proof.Gen.CKvIdeal.Skeleton
public import proofs.«01_k».proof.Proof.CKvSpec

@[expose] public section

noncomputable section

namespace Cert.CKvIdeal.Val

open Cert.CKvIdeal Cert.CKvIdeal.Gen Idealize.ShloMosaic Cert.MlpSpec Cert.CKvSpec

theorem pre_at (x : Vec Ideal S512x2048 .f32) (g : Vec Ideal S1x1x2048 .f32) (sc sh : Vec Ideal S1x1x1x1x2048 .f32) (r : Fin 512) (d : Fin 2048) :
    k0_pay3 x g sc sh (ix2 r d) = modd (fun d => x (ix2 r d)) (fun d => g (ix3 0 0 d)) (fun d => sc (ix5 0 0 0 0 d)) (fun d => sh (ix5 0 0 0 0 d)) d := by
  pointwise [k0_pay3, modd, rms]

section
variable (h : FVec Ideal S512x2048 .bf16) (w : Vec Ideal S2048x512 .bf16)

theorem pay5_at (r j : Fin 512) : k0_pay2 h w (ix2 r j) = ∑ k, h (ix2 r k) * w (ix2 k j) := by
  pointwise [k0_pay2]

theorem acc_at (r j : Fin 512) : k0_pay5 h w (ix2 r j) = ∑ k, h (ix2 r k) * w (ix2 k j) := by
  pointwise [k0_pay5]

end

theorem wgt_at (w : Vec Ideal S1x2048x512 .f32) (k : Fin 2048) (j : Fin 512) : k0_pay4 w (ix2 k j) = w (ix3 0 k j) := by
  pointwise [k0_pay4]

/-- One lane group stored as it is. -/
def tile (t : FVec Ideal S512x128 .f32) : FVec Ideal S512x128 .bf16 := truncf .bf16 t bitsLt_bf16_f32

theorem tile_at (t : FVec Ideal S512x128 .f32) (r : Fin 512) (l : Fin 128) : tile t (ix2 r l) = t (ix2 r l) := rfl

theorem slice_at (a : FVec Ideal S512x512 .f32) (r : Fin 512) (l : Fin 128) :
    (extractStridedSlice S512x128 ![0, 0] a slices_S512x512_o0_0_S512x128 : FVec Ideal S512x128 .f32) (ix2 r l) = a (ix2 r ⟨l.val, by omega⟩)
    ∧ (extractStridedSlice S512x128 ![0, 128] a slices_S512x512_o0_128_S512x128 : FVec Ideal S512x128 .f32) (ix2 r l) = a (ix2 r ⟨128 + l.val, by omega⟩)
    ∧ (extractStridedSlice S512x128 ![0, 256] a slices_S512x512_o0_256_S512x128 : FVec Ideal S512x128 .f32) (ix2 r l) = a (ix2 r ⟨256 + l.val, by omega⟩)
    ∧ (extractStridedSlice S512x128 ![0, 384] a slices_S512x512_o0_384_S512x128 : FVec Ideal S512x128 .f32) (ix2 r l) = a (ix2 r ⟨384 + l.val, by omega⟩) := by
  refine ⟨?_, ?_, ?_, ?_⟩ <;> pointwise

end Cert.CKvIdeal.Val
-- ==== Proof.CKvKer.lean ====
/- The context stream's keys and values, second layer: its call at an index, the carried weights, the ten tiles of a block, the host's operands. -/
module

public import proofs.«01_k».proof.Proof.CKvPay
public import proofs.«01_k».proof.Proof.Gen.CKvIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

noncomputable section

namespace Cert.CKvIdeal.Val

open Cert.CKvIdeal Cert.CKvIdeal.Gen Idealize.ShloMosaic Idealize.ShloMosaic.TcCoe Idealize.SL.Sem Cert.MlpSpec Cert.InpSpec Cert.CKvSpec
open Idealize.ShloMosaic.Pipeline (Dat)

variable (m : (ℓ : Loc nD τ sig) → Buf (Elt Ideal) ℓ) (c : Dev nD)

/-- One chunk of the layer's weights, as its copy reads it. -/
def wch (o : ℕ) (inb : ∀ a, (![1, 0, o] : Fin 3 → ℕ) a + (![1, 2048, 512] : Fin 3 → ℕ) a ≤ S2x2048x4608.size a) : Vec Ideal S1x2048x512 .f32 :=
  ReadAs.same.apply (View.read (Elt Ideal) ((View.whole main_arg3).slice (Rect.unit ![1, 0, o] ![1, 2048, 512] inb)) (V m c main_arg3))

/-- A read of one stage slot passes over the other slot's last copy. -/
theorem skip_10 {κ : Kind} {sp : Space} (v : View sig κ sp S2x2048x512 .f32) (w : Vec Ideal S1x2048x512 .f32) (L : List (View.Piece (Elt Ideal) S2x2048x512 .f32)) :
    v.readCov ((⟨Rect.unit ![1, 0, 0] ![1, 2048, 512] inb_S2x2048x512_S1x2048x512_1_0_0, w⟩ : View.Piece (Elt Ideal) S2x2048x512 .f32) :: L)
        (Rect.unit ![0, 0, 0] ![1, 2048, 512] inb_S2x2048x512_S1x2048x512_0_0_0).toLoadRect
      = v.readCov L (Rect.unit ![0, 0, 0] ![1, 2048, 512] inb_S2x2048x512_S1x2048x512_0_0_0).toLoadRect :=
  View.readCov_cons_of_disjoint v _ L _ (Rect.unit_disjoint (inb := inb_S2x2048x512_S1x2048x512_1_0_0) (inb' := inb_S2x2048x512_S1x2048x512_0_0_0) 0 (by decide))

theorem skip_01 {κ : Kind} {sp : Space} (v : View sig κ sp S2x2048x512 .f32) (w : Vec Ideal S1x2048x512 .f32) (L : List (View.Piece (Elt Ideal) S2x2048x512 .f32)) :
    v.readCov ((⟨Rect.unit ![0, 0, 0] ![1, 2048, 512] inb_S2x2048x512_S1x2048x512_0_0_0, w⟩ : View.Piece (Elt Ideal) S2x2048x512 .f32) :: L)
        (Rect.unit ![1, 0, 0] ![1, 2048, 512] inb_S2x2048x512_S1x2048x512_1_0_0).toLoadRect
      = v.readCov L (Rect.unit ![1, 0, 0] ![1, 2048, 512] inb_S2x2048x512_S1x2048x512_1_0_0).toLoadRect :=
  View.readCov_cons_of_disjoint v _ L _ (Rect.unit_disjoint (inb := inb_S2x2048x512_S1x2048x512_0_0_0) (inb' := inb_S2x2048x512_S1x2048x512_1_0_0) 0 (by decide))

/-- What a first point's four stores leave in the scratch. -/
def scrW : Vec Ideal S2048x2048 .bf16 :=
  View.canon (Val := Elt Ideal) (e := .bf16)
    [⟨Rect.unit ![0, 1536] ![2048, 512] inb_S2048x2048_S2048x512_0_1536, k0_pay4 (wch m c 4096 inb_S2x2048x4608_S1x2048x512_1_0_4096)⟩,
      ⟨Rect.unit ![0, 1024] ![2048, 512] inb_S2048x2048_S2048x512_0_1024, k0_pay4 (wch m c 3584 inb_S2x2048x4608_S1x2048x512_1_0_3584)⟩,
      ⟨Rect.unit ![0, 512] ![2048, 512] inb_S2048x2048_S2048x512_0_512, k0_pay4 (wch m c 3072 inb_S2x2048x4608_S1x2048x512_1_0_3072)⟩,
      ⟨Rect.unit ![0, 0] ![2048, 512] inb_S2048x2048_S2048x512_0_0, k0_pay4 (wch m c 2560 inb_S2x2048x4608_S1x2048x512_1_0_2560)⟩]

theorem scr_A (t : Fin cfg0.N) (h : t.val % 2 = 0) (h1 : ¬ t.val % 2 = 1) : (outsAt0 m c t.val t.isLt).2 = scrW m c := by
  rw [outsAt0_A m c t h h1]
  unfold scrW
  frame_out [skip_01, skip_10, View.readCov_cons_toLoadRect]
  rfl

theorem scr_s (t : Fin cfg0.N) (h : ¬ t.val % 2 = 0) (h1 : t.val % 2 = 1) :
    (outsAt0 m c t.val t.isLt).2 = (outsAt0 m c (t.val - 1) (Nat.lt_of_le_of_lt (Nat.sub_le _ _) t.isLt)).2 := by
  rw [outsAt0_B m c t h h1]
  rfl

/-- What a grid point's ten stores leave in the result block, over the normed rows `h` and the four chunks of the
    weights. -/
def outI (h : FVec Ideal S512x2048 .bf16) (w0 w1 w2 w3 : Vec Ideal S2048x512 .bf16) : Vec Ideal S512x2048 .bf16 :=
  View.canon (Val := Elt Ideal) (e := .bf16)
    [⟨Rect.unit ![0, 1536] ![512, 512] inb_S512x2048_S512x512_0_1536, k0_pay2 h w3⟩,
      ⟨Rect.unit ![0, 1024] ![512, 512] inb_S512x2048_S512x512_0_1024, k0_pay2 h w2⟩,
      ⟨Rect.unit ![0, 896] ![512, 128] inb_S512x2048_S512x128_0_896, tile (extractStridedSlice S512x128 ![0, 384] (k0_pay5 h w1) slices_S512x512_o0_384_S512x128)⟩,
      ⟨Rect.unit ![0, 768] ![512, 128] inb_S512x2048_S512x128_0_768, tile (extractStridedSlice S512x128 ![0, 256] (k0_pay5 h w1) slices_S512x512_o0_256_S512x128)⟩,
      ⟨Rect.unit ![0, 640] ![512, 128] inb_S512x2048_S512x128_0_640, tile (extractStridedSlice S512x128 ![0, 128] (k0_pay5 h w1) slices_S512x512_o0_128_S512x128)⟩,
      ⟨Rect.unit ![0, 512] ![512, 128] inb_S512x2048_S512x128_0_512, tile (extractStridedSlice S512x128 ![0, 0] (k0_pay5 h w1) slices_S512x512_o0_0_S512x128)⟩,
      ⟨Rect.unit ![0, 384] ![512, 128] inb_S512x2048_S512x128_0_384, tile (extractStridedSlice S512x128 ![0, 384] (k0_pay5 h w0) slices_S512x512_o0_384_S512x128)⟩,
      ⟨Rect.unit ![0, 256] ![512, 128] inb_S512x2048_S512x128_0_256, tile (extractStridedSlice S512x128 ![0, 256] (k0_pay5 h w0) slices_S512x512_o0_256_S512x128)⟩,
      ⟨Rect.unit ![0, 128] ![512, 128] inb_S512x2048_S512x128_0_128, tile (extractStridedSlice S512x128 ![0, 128] (k0_pay5 h w0) slices_S512x512_o0_128_S512x128)⟩,
      ⟨Rect.unit ![0, 0] ![512, 128] inb_S512x2048_S512x128_0_0, tile (extractStridedSlice S512x128 ![0, 0] (k0_pay5 h w0) slices_S512x512_o0_0_S512x128)⟩]

theorem out_A (t : Fin cfg0.N) (h : t.val % 2 = 0) (h1 : ¬ t.val % 2 = 1) :
    (outsAt0 m c t.val t.isLt).1 = outI (k0_pay3 (iblk m c 0 t) (iblk m c 1 t) (iblk m c 3 t) (iblk m c 2 t))
      (k0_pay4 (wch m c 2560 inb_S2x2048x4608_S1x2048x512_1_0_2560)) (k0_pay4 (wch m c 3072 inb_S2x2048x4608_S1x2048x512_1_0_3072)) (k0_pay4 (wch m c 3584 inb_S2x2048x4608_S1x2048x512_1_0_3584)) (k0_pay4 (wch m c 4096 inb_S2x2048x4608_S1x2048x512_1_0_4096)) := by
  rw [outsAt0_A m c t h h1]
  unfold outI
  frame_out [skip_01, skip_10, View.readCov_cons_toLoadRect]
  rfl

theorem out_B (t : Fin cfg0.N) (h : ¬ t.val % 2 = 0) (h1 : t.val % 2 = 1) :
    (outsAt0 m c t.val t.isLt).1 = outI (k0_pay3 (iblk m c 0 t) (iblk m c 1 t) (iblk m c 3 t) (iblk m c 2 t))
      (View.ld (outsAt0 m c (t.val - 1) (Nat.lt_of_le_of_lt (Nat.sub_le _ _) t.isLt)).2 (Rect.unit ![0, 0] ![2048, 512] inb_S2048x2048_S2048x512_0_0)) (View.ld (outsAt0 m c (t.val - 1) (Nat.lt_of_le_of_lt (Nat.sub_le _ _) t.isLt)).2 (Rect.unit ![0, 512] ![2048, 512] inb_S2048x2048_S2048x512_0_512)) (View.ld (outsAt0 m c (t.val - 1) (Nat.lt_of_le_of_lt (Nat.sub_le _ _) t.isLt)).2 (Rect.unit ![0, 1024] ![2048, 512] inb_S2048x2048_S2048x512_0_1024)) (View.ld (outsAt0 m c (t.val - 1) (Nat.lt_of_le_of_lt (Nat.sub_le _ _) t.isLt)).2 (Rect.unit ![0, 1536] ![2048, 512] inb_S2048x2048_S2048x512_0_1536)) := by
  rw [outsAt0_B m c t h h1]
  unfold outI
  frame_out
  rw [read_unread_whole]
  rfl

/-! ## The carried weights at an index -/

theorem wch_at (o : ℕ) (inb : ∀ a, (![1, 0, o] : Fin 3 → ℕ) a + (![1, 2048, 512] : Fin 3 → ℕ) a ≤ S2x2048x4608.size a)
    (k : Fin 2048) (e : Fin 512) (j : Fin 4608) (hj : j.val = o + e.val) :
    wch m c o inb (ix3 0 k e) = m ((c : Thread nD τ).loc main_arg3) (ix3 1 k j) := by
  refine congrArg (m ((c : Thread nD τ).loc main_arg3)) (funext fun a => ?_)
  match a with
  | ⟨0, _⟩ => rfl
  | ⟨1, _⟩ => exact Fin.ext ((Rect.idx_unit_val ..).trans (Nat.zero_add _))
  | ⟨2, _⟩ => exact Fin.ext ((Rect.idx_unit_val ..).trans hj.symm)

/-- A chunk of the weights: the columns from `o` on. -/
def Chunk (wt : Fin 2048 → Fin 4608 → EReal) (w : Vec Ideal S2048x512 .bf16) (o : ℕ) : Prop :=
  ∀ (k : Fin 2048) (e : Fin 512) (j : Fin 4608), j.val = o + e.val → w (ix2 k e) = wt k j

/-- The layer's weights. -/
def wts (k : Fin 2048) (j : Fin 4608) : EReal := m ((c : Thread nD τ).loc main_arg3) (ix3 1 k j)

theorem chunk_A (o : ℕ) (inb : ∀ a, (![1, 0, o] : Fin 3 → ℕ) a + (![1, 2048, 512] : Fin 3 → ℕ) a ≤ S2x2048x4608.size a) :
    Chunk (wts m c) (k0_pay4 (wch m c o inb)) o :=
  fun k e j hj => (wgt_at _ k e).trans (wch_at m c o inb k e j hj)

theorem ld_at {A B R C : ℕ} {e : EltTy} (x : Vec Ideal ⟨2, ![A, B]⟩ e) (o : ℕ)
    (inb : ∀ a, (![0, o] : Fin 2 → ℕ) a + (![R, C] : Fin 2 → ℕ) a ≤ (⟨2, ![A, B]⟩ : Shape).size a)
    (r : Fin R) (k : Fin C) (i : Fin A) (j : Fin B) (hi : i.val = r.val) (hj : j.val = o + k.val) :
    View.ld x (Rect.unit ![0, o] ![R, C] inb) (ix2 r k) = x (ix2 i j) := by
  rw [View.ld_apply]
  refine congrArg x (funext fun a => ?_)
  match a with
  | ⟨0, _⟩ => exact Fin.ext ((Rect.idx_unit_val ..).trans ((Nat.zero_add _).trans hi.symm))
  | ⟨1, _⟩ => exact Fin.ext ((Rect.idx_unit_val ..).trans hj.symm)

theorem chunk_B (W : Vec Ideal S2048x2048 .bf16) (hW : ∀ (k : Fin 2048) (j : Fin 2048), W (ix2 k j) = wts m c k ⟨2560 + j.val, by omega⟩) (o : ℕ)
    (inb : ∀ a, (![0, o] : Fin 2 → ℕ) a + (![2048, 512] : Fin 2 → ℕ) a ≤ S2048x2048.size a) :
    Chunk (wts m c) (View.ld W (Rect.unit ![0, o] ![2048, 512] inb)) (2560 + o) := by
  intro k e j hj
  have hb : o + 512 ≤ 2048 := inb 1
  rw [ld_at W o inb k e k ⟨o + e.val, by omega⟩ rfl rfl, hW]
  exact congrArg (wts m c k) (Fin.ext (by show 2560 + (o + e.val) = j.val; omega))

theorem ix_eta {A B : ℕ} (x : (⟨2, ![A, B]⟩ : Shape).Idx) : ∃ (r : Fin A) (e : Fin B), x = ix2 r e := by
  refine ⟨⟨(x 0).val, (x 0).isLt⟩, ⟨(x 1).val, (x 1).isLt⟩, funext fun a => ?_⟩
  match a with
  | ⟨0, _⟩ => rfl
  | ⟨1, _⟩ => rfl

theorem scrW_at (k : Fin 2048) (j : Fin 2048) : scrW m c (ix2 k j) = wts m c k ⟨2560 + j.val, by omega⟩ := by
  unfold scrW
  canon_tiles x h
  · obtain ⟨r, e, rfl⟩ := ix_eta x
    obtain rfl : k = r := Fin.ext h0
    replace h1 : j.val = 1536 + e.val := h1
    exact chunk_A m c 4096 _ k e ⟨2560 + j.val, by omega⟩ (by show 2560 + j.val = 4096 + e.val; omega)
  · obtain ⟨r, e, rfl⟩ := ix_eta x
    obtain rfl : k = r := Fin.ext h0
    replace h1 : j.val = 1024 + e.val := h1
    exact chunk_A m c 3584 _ k e ⟨2560 + j.val, by omega⟩ (by show 2560 + j.val = 3584 + e.val; omega)
  · obtain ⟨r, e, rfl⟩ := ix_eta x
    obtain rfl : k = r := Fin.ext h0
    replace h1 : j.val = 512 + e.val := h1
    exact chunk_A m c 3072 _ k e ⟨2560 + j.val, by omega⟩ (by show 2560 + j.val = 3072 + e.val; omega)
  · obtain ⟨r, e, rfl⟩ := ix_eta x
    obtain rfl : k = r := Fin.ext h0
    replace h1 : j.val = 0 + e.val := h1.trans (Nat.zero_add _).symm
    exact chunk_A m c 2560 _ k e ⟨2560 + j.val, by omega⟩ (by show 2560 + j.val = 2560 + e.val; omega)

/-- What the scratch holds after every point: the weights of the keys and values. -/
theorem scr_at (t : Fin cfg0.N) (k : Fin 2048) (j : Fin 2048) : (outsAt0 m c t.val t.isLt).2 (ix2 k j) = wts m c k ⟨2560 + j.val, by omega⟩ := by
  have hN : ∀ t : Fin cfg0.N, t.val < 2 := fun t => lt_of_lt_of_eq t.isLt N_0
  rw [Pipeline.eq_of_write_hold_apply (fun n h => (outsAt0 m c n h).2) 2 (fun _ => scrW m c)
    (fun t h i => congrFun (scr_A m c t h (by have := hN t; omega)) i) (fun t h i => congrFun (scr_s m c t h (by omega)) i) t (ix2 k j), scrW_at]

/-! ## The tiles of a block -/

section tiles
variable {h : FVec Ideal S512x2048 .bf16} {wt : Fin 2048 → Fin 4608 → EReal} {w : Vec Ideal S2048x512 .bf16} {o : ℕ}

theorem proj_at (hw : Chunk wt w o) (r : Fin 512) (e : Fin 512) (j : Fin 4608) (hj : j.val = o + e.val) :
    ∑ k, h (ix2 r k) * w (ix2 k e) = proj (fun k => h (ix2 r k)) wt j :=
  Finset.sum_congr rfl fun k _ => congrArg _ (hw k e j hj)

variable {r : Fin 512}

/-- A lane group's tile holds channels of the projection. -/
theorem plain_tile (hw : Chunk wt w o) (t : FVec Ideal S512x128 .f32) (p : ℕ) (hp : p + 128 ≤ 512)
    (ht : ∀ (l : Fin 128) (e : Fin 512), e.val = p + l.val → t (ix2 r l) = k0_pay5 h w (ix2 r e))
    (q : ℕ) (hq : q + 2560 = o + p)
    (l : Fin 128) (d : Fin 2048) (hd : d.val = q + l.val) :
    tile t (ix2 r l) = kvrow (proj (fun k => h (ix2 r k)) wt) d := by
  rw [tile_at, ht l ⟨p + l.val, by omega⟩ rfl, acc_at,
    proj_at hw r _ ⟨2560 + d.val, by omega⟩ (by show 2560 + d.val = o + (p + l.val); omega)]
  rfl

theorem sl_0 (a : FVec Ideal S512x512 .f32) (r : Fin 512) (l : Fin 128) (e : Fin 512) (he : e.val = 0 + l.val) :
    (extractStridedSlice S512x128 ![0, 0] a slices_S512x512_o0_0_S512x128 : FVec Ideal S512x128 .f32) (ix2 r l) = a (ix2 r e) :=
  (slice_at a r l).1.trans (congrArg (fun e => a (ix2 r e)) (Fin.ext (he.trans (Nat.zero_add _)).symm))

theorem sl_128 (a : FVec Ideal S512x512 .f32) (r : Fin 512) (l : Fin 128) (e : Fin 512) (he : e.val = 128 + l.val) :
    (extractStridedSlice S512x128 ![0, 128] a slices_S512x512_o0_128_S512x128 : FVec Ideal S512x128 .f32) (ix2 r l) = a (ix2 r e) :=
  (slice_at a r l).2.1.trans (congrArg (fun e => a (ix2 r e)) (Fin.ext (he).symm))

theorem sl_256 (a : FVec Ideal S512x512 .f32) (r : Fin 512) (l : Fin 128) (e : Fin 512) (he : e.val = 256 + l.val) :
    (extractStridedSlice S512x128 ![0, 256] a slices_S512x512_o0_256_S512x128 : FVec Ideal S512x128 .f32) (ix2 r l) = a (ix2 r e) :=
  (slice_at a r l).2.2.1.trans (congrArg (fun e => a (ix2 r e)) (Fin.ext (he).symm))

theorem sl_384 (a : FVec Ideal S512x512 .f32) (r : Fin 512) (l : Fin 128) (e : Fin 512) (he : e.val = 384 + l.val) :
    (extractStridedSlice S512x128 ![0, 384] a slices_S512x512_o0_384_S512x128 : FVec Ideal S512x128 .f32) (ix2 r l) = a (ix2 r e) :=
  (slice_at a r l).2.2.2.trans (congrArg (fun e => a (ix2 r e)) (Fin.ext (he).symm))

/-- The block's entry is the row function's channel. -/
theorem outI_at (h : FVec Ideal S512x2048 .bf16) (w0 w1 w2 w3 : Vec Ideal S2048x512 .bf16)
    (wt : Fin 2048 → Fin 4608 → EReal) (r : Fin 512) (d : Fin 2048)
    (k0 : Chunk wt w0 2560) (k1 : Chunk wt w1 3072) (k2 : Chunk wt w2 3584) (k3 : Chunk wt w3 4096) :
    outI h w0 w1 w2 w3 (ix2 r d) = kvrow (proj (fun k => h (ix2 r k)) wt) d := by
  unfold outI
  canon_tiles x h using View.cover_of_tiledBy _ ![512, 128] (by sl_kernel_rfl) (ix2 r d)
  · obtain ⟨r', e, rfl⟩ := ix_eta x
    obtain rfl : r = r' := Fin.ext h0
    have he := e.isLt
    replace h1 : d.val = 1536 + e.val := h1
    rw [pay5_at, proj_at k3 r e ⟨2560 + d.val, by omega⟩ (by show 2560 + d.val = _; omega)]
    rfl
  · obtain ⟨r', e, rfl⟩ := ix_eta x
    obtain rfl : r = r' := Fin.ext h0
    have he := e.isLt
    replace h1 : d.val = 1024 + e.val := h1
    rw [pay5_at, proj_at k2 r e ⟨2560 + d.val, by omega⟩ (by show 2560 + d.val = _; omega)]
    rfl
  · obtain ⟨r', e, rfl⟩ := ix_eta x
    obtain rfl : r = r' := Fin.ext h0
    have he := e.isLt
    replace h1 : d.val = 896 + e.val := h1
    exact plain_tile k1 _ 384 (by decide) (fun l e he => sl_384 _ r l e he) 896 (by decide) e d h1
  · obtain ⟨r', e, rfl⟩ := ix_eta x
    obtain rfl : r = r' := Fin.ext h0
    have he := e.isLt
    replace h1 : d.val = 768 + e.val := h1
    exact plain_tile k1 _ 256 (by decide) (fun l e he => sl_256 _ r l e he) 768 (by decide) e d h1
  · obtain ⟨r', e, rfl⟩ := ix_eta x
    obtain rfl : r = r' := Fin.ext h0
    have he := e.isLt
    replace h1 : d.val = 640 + e.val := h1
    exact plain_tile k1 _ 128 (by decide) (fun l e he => sl_128 _ r l e he) 640 (by decide) e d h1
  · obtain ⟨r', e, rfl⟩ := ix_eta x
    obtain rfl : r = r' := Fin.ext h0
    have he := e.isLt
    replace h1 : d.val = 512 + e.val := h1
    exact plain_tile k1 _ 0 (by decide) (fun l e he => sl_0 _ r l e he) 512 (by decide) e d h1
  · obtain ⟨r', e, rfl⟩ := ix_eta x
    obtain rfl : r = r' := Fin.ext h0
    have he := e.isLt
    replace h1 : d.val = 384 + e.val := h1
    exact plain_tile k0 _ 384 (by decide) (fun l e he => sl_384 _ r l e he) 384 (by decide) e d h1
  · obtain ⟨r', e, rfl⟩ := ix_eta x
    obtain rfl : r = r' := Fin.ext h0
    have he := e.isLt
    replace h1 : d.val = 256 + e.val := h1
    exact plain_tile k0 _ 256 (by decide) (fun l e he => sl_256 _ r l e he) 256 (by decide) e d h1
  · obtain ⟨r', e, rfl⟩ := ix_eta x
    obtain rfl : r = r' := Fin.ext h0
    have he := e.isLt
    replace h1 : d.val = 128 + e.val := h1
    exact plain_tile k0 _ 128 (by decide) (fun l e he => sl_128 _ r l e he) 128 (by decide) e d h1
  · obtain ⟨r', e, rfl⟩ := ix_eta x
    obtain rfl : r = r' := Fin.ext h0
    have he := e.isLt
    replace h1 : d.val = 0 + e.val := h1.trans (Nat.zero_add _).symm
    exact plain_tile k0 _ 0 (by decide) (fun l e he => sl_0 _ r l e he) 0 (by decide) e d h1

end tiles

/-! ## The blocks at an index -/

theorem flat_at (x : Vec Ideal S4x256x2048 .f32) (b : Fin 4) (n : Fin 256) (d : Fin 2048) (R : Fin 1024) (h : R.val = 256 * b.val + n.val) :
    shapeCast S1024x2048 x shapeCasts_S4x256x2048_S1024x2048 (ix2 R d) = x (ix3 b n d) := by
  pointwise
  have e1 : (⟨R.val / 256, by omega⟩ : Fin 4) = b := Fin.ext (by show R.val / 256 = b.val; omega)
  have e2 : (⟨R.val % 256, by omega⟩ : Fin 256) = n := Fin.ext (by show R.val % 256 = n.val; omega)
  rw [e1, e2]

theorem row_at (x : Vec Ideal S2x2048 .f32) (l : Fin 2) (d : Fin 2048) :
    shapeCast S2x1x2048 x shapeCasts_S2x2048_S2x1x2048 (ix3 l 0 d) = x (ix2 l d) := by
  pointwise

theorem pad_at (x : Vec Ideal S12288 .f32) (z : Vec Ideal S_ .f32) (k : Fin 6) (d : Fin 2048) :
    pad S2x8x6x1x2048 ![1, 4, 0, 0, 0] ![0, 3, 0, 0, 0] ![0, 0, 0, 0, 0]
      (shapeCast S1x1x6x1x2048 x shapeCasts_S12288_S1x1x6x1x2048) z
      pads_S1x1x6x1x2048_S2x8x6x1x2048_100_430_000_000_000 h_S_ (ix5 1 4 k 0 d) = x (ix1 ⟨k.val * 2048 + d.val, by omega⟩) := by
  pointwise

theorem V_v2 (b : Fin 4) (n : Fin 256) (d : Fin 2048) (R : Fin 1024) (h : R.val = 256 * b.val + n.val) :
    V m c main_v2 (ix2 R d) = m ((c : Thread nD τ).loc main_arg0) (ix3 b n d) := by
  have e : V m c main_v2 = shapeCast S1024x2048 (m ((c : Thread nD τ).loc main_arg0)) shapeCasts_S4x256x2048_S1024x2048 := rfl
  rw [e]
  exact flat_at _ b n d R h

theorem V_v3 (l : Fin 2) (d : Fin 2048) : V m c main_v3 (ix3 l 0 d) = m ((c : Thread nD τ).loc main_arg2) (ix2 l d) := by
  have e : V m c main_v3 = shapeCast S2x1x2048 (m ((c : Thread nD τ).loc main_arg2)) shapeCasts_S2x2048_S2x1x2048 := rfl
  rw [e]
  exact row_at _ l d

/-- The modulation vectors of the layer, behind the padding. -/
theorem V_v1 (k : Fin 6) (d : Fin 2048) :
    V m c main_v1 (ix5 1 4 k 0 d) = m ((c : Thread nD τ).loc main_arg1) (ix1 ⟨k.val * 2048 + d.val, by omega⟩) := by
  have e : ∃ z, V m c main_v1 = pad S2x8x6x1x2048 ![1, 4, 0, 0, 0] ![0, 3, 0, 0, 0] ![0, 0, 0, 0, 0]
      (shapeCast S1x1x6x1x2048 (m ((c : Thread nD τ).loc main_arg1)) shapeCasts_S12288_S1x1x6x1x2048) z
      pads_S1x1x6x1x2048_S2x8x6x1x2048_100_430_000_000_000 h_S_ := ⟨_, rfl⟩
  obtain ⟨z, e⟩ := e
  rw [e]
  exact pad_at _ z k d

theorem ix_0 : ∀ t : Fin cfg0.N, win0_0.index t = ![t.val, 0] := (by decide +kernel : ∀ t : Fin grid0.N, _)
theorem ix_1 : ∀ t : Fin cfg0.N, win0_1.index t = ![1, 0, 0] := (by decide +kernel : ∀ t : Fin grid0.N, _)
theorem ix_2 : ∀ t : Fin cfg0.N, win0_2.index t = ![1, 4, 0, 0, 0] := (by decide +kernel : ∀ t : Fin grid0.N, _)
theorem ix_3 : ∀ t : Fin cfg0.N, win0_3.index t = ![1, 4, 1, 0, 0] := (by decide +kernel : ∀ t : Fin grid0.N, _)

theorem blk_0 (t : Fin cfg0.N) (b : Fin 4) (n : Fin 256) (r : Fin 512) (d : Fin 2048) (hr : t.val * 512 + r.val = 256 * b.val + n.val) :
    iblk m c 0 t (ix2 r d) = m ((c : Thread nD τ).loc main_arg0) (ix3 b n d) := by
  have ht : t.val < 2 := lt_of_lt_of_eq t.isLt N_0
  rw [← V_v2 m c b n d ⟨t.val * 512 + r.val, by omega⟩ hr]
  blk_ext [iblk, ix_0 t]

theorem blk_1 (t : Fin cfg0.N) (d : Fin 2048) : iblk m c 1 t (ix3 0 0 d) = m ((c : Thread nD τ).loc main_arg2) (ix2 1 d) := by
  refine Eq.trans ?_ (V_v3 m c 1 d)
  blk_ext [iblk, ix_1 t]

theorem blk_2 (t : Fin cfg0.N) (d : Fin 2048) :
    iblk m c 2 t (ix5 0 0 0 0 d) = m ((c : Thread nD τ).loc main_arg1) (ix1 ⟨d.val, by omega⟩) := by
  refine Eq.trans ?_ ((V_v1 m c 0 d).trans (congrArg (fun e => m ((c : Thread nD τ).loc main_arg1) (ix1 e)) (Fin.ext (by show 0 * 2048 + d.val = d.val; omega))))
  blk_ext [iblk, ix_2 t]

theorem blk_3 (t : Fin cfg0.N) (d : Fin 2048) :
    iblk m c 3 t (ix5 0 0 0 0 d) = m ((c : Thread nD τ).loc main_arg1) (ix1 ⟨2048 + d.val, by omega⟩) := by
  refine Eq.trans ?_ (V_v1 m c 1 d)
  blk_ext [iblk, ix_3 t]

/-- The result block of a point, row by row. -/
theorem last_at (t : Fin cfg0.N) (b : Fin 4) (n : Fin 256) (r : Fin 512) (d : Fin 2048) (hr : t.val * 512 + r.val = 256 * b.val + n.val) :
    (outsAt0 m c t.val t.isLt).1 (ix2 r d)
      = kvrow (proj (modd (fun d => m ((c : Thread nD τ).loc main_arg0) (ix3 b n d)) (fun d => m ((c : Thread nD τ).loc main_arg2) (ix2 1 d))
            (fun d => m ((c : Thread nD τ).loc main_arg1) (ix1 ⟨2048 + d.val, by omega⟩))
            (fun d => m ((c : Thread nD τ).loc main_arg1) (ix1 ⟨d.val, by omega⟩)))
          (fun k j => m ((c : Thread nD τ).loc main_arg3) (ix3 1 k j))) d := by
  have hN : t.val < 2 := lt_of_lt_of_eq t.isLt N_0
  have hp : (fun k => k0_pay3 (iblk m c 0 t) (iblk m c 1 t) (iblk m c 3 t) (iblk m c 2 t) (ix2 r k))
      = modd (fun d => m ((c : Thread nD τ).loc main_arg0) (ix3 b n d)) (fun d => m ((c : Thread nD τ).loc main_arg2) (ix2 1 d))
            (fun d => m ((c : Thread nD τ).loc main_arg1) (ix1 ⟨2048 + d.val, by omega⟩))
            (fun d => m ((c : Thread nD τ).loc main_arg1) (ix1 ⟨d.val, by omega⟩)) := funext fun k => by
    rw [pre_at]
    simp only [blk_0 m c t b n r _ hr, blk_1, blk_2, blk_3]
  rw [← hp]
  by_cases h : t.val % 2 = 0
  · rw [out_A m c t h (by omega)]
    exact outI_at _ _ _ _ _ (wts m c) r d (chunk_A m c 2560 _) (chunk_A m c 3072 _) (chunk_A m c 3584 _) (chunk_A m c 4096 _)
  · rw [out_B m c t h (by omega)]
    have hW := scr_at m c ⟨t.val - 1, Nat.lt_of_le_of_lt (Nat.sub_le _ _) t.isLt⟩
    exact outI_at _ _ _ _ _ (wts m c) r d (chunk_B m c _ hW 0 _) (chunk_B m c _ hW 512 _) (chunk_B m c _ hW 1024 _) (chunk_B m c _ hW 1536 _)

end Cert.CKvIdeal.Val
-- ==== Proof.CKvRef.lean ====
/- The context stream's keys and values, second layer: their reference read at an index: one row of the context stream and its keys and values. -/
module

public import proofs.«01_k».proof.Proof.Gen.CKvReferenceIdeal.Read
public import proofs.«01_k».proof.Proof.CKvSpec

@[expose] public section

noncomputable section

namespace Cert.CKvReferenceIdeal.Val

open Cert.CKvReferenceIdeal Cert.CKvReferenceIdeal.Gen Cert.CKvReferenceIdeal.Read Idealize.ShloMosaic Cert.MlpSpec Cert.InpSpec Cert.CKvSpec

variable (x0 : Vec Ideal S4x256x2048 .f32) (x1 : Vec Ideal S12288 .f32) (x2 : Vec Ideal S2x2048 .f32)
  (x3 : Vec Ideal S2x2048x4608 .f32)

/-- Row `(b, n)` of the normed and modulated input. -/
theorem pre_at (b : Fin 4) (n : Fin 256) (d : Fin 2048) :
    val_main_v28 (F := Ideal) x0 x1 x2 (ix3 b n d)
      = modd (fun d => x0 (ix3 b n d)) (fun d => x2 (ix2 1 d)) (fun d => x1 (ix1 ⟨2048 + d.val, by omega⟩))
          (fun d => x1 (ix1 ⟨d.val, by omega⟩)) d := by
  pointwise [val_main_v28, val_main_v27, val_main_v26, val_main_v25, val_main_v24, val_main_v23, val_main_v22, val_main_v21, val_main_cst_2,
    val_main_v20, val_main_v19, val_main_v18, val_main_v17, val_main_v16, val_main_v15, val_main_v14, val_main_v13,
    val_main_cst_1, val_main_v12, val_main_v11, val_main_cst_0, val_main_v10, val_main_v9, val_main_cst, val_main_v8,
    val_main_v7, val_main_v6, val_main_v1, val_main_v0, modd, rms]

/-- The keys' and values' channels of the product. -/
theorem kv_at (b : Fin 4) (n : Fin 256) (e : Fin 2048) :
    val_main_v32 (F := Ideal) x0 x1 x2 x3 (ix3 b n e)
      = proj (fun d => val_main_v28 (F := Ideal) x0 x1 x2 (ix3 b n d)) (fun k j => x3 (ix3 1 k j)) ⟨2560 + e.val, by omega⟩ := by
  pointwise [val_main_v32, val_main_v31, val_main_v30, val_main_v29, proj]

/-- The keys and values of a row. -/
theorem row_at (b : Fin 4) (n : Fin 256) (d : Fin 2048) :
    val_main_v32 (F := Ideal) x0 x1 x2 x3 (ix3 b n d)
      = kvrow (proj (fun d => val_main_v28 (F := Ideal) x0 x1 x2 (ix3 b n d)) (fun k j => x3 (ix3 1 k j))) d :=
  kv_at x0 x1 x2 x3 b n d

/-- The reference's result at row `256 b + n`. -/
theorem res_at (b : Fin 4) (n : Fin 256) (d : Fin 2048) (i : S1024x2048.Idx) (h0 : (i 0).val = 256 * b.val + n.val) (h1 : (i 1).val = d.val) :
    val_main_v34 (F := Ideal) x0 x1 x2 x3 i
      = kvrow (proj (modd (fun d => x0 (ix3 b n d)) (fun d => x2 (ix2 1 d)) (fun d => x1 (ix1 ⟨2048 + d.val, by omega⟩))
          (fun d => x1 (ix1 ⟨d.val, by omega⟩))) (fun k j => x3 (ix3 1 k j))) d := by
  have e0 : val_main_v34 (F := Ideal) x0 x1 x2 x3 i = val_main_v33 (F := Ideal) x0 x1 x2 x3 i := rfl
  rw [e0, val_main_v33_apply]
  have e : idx_main_v33 i = ix3 b n d := by
    funext a
    apply Fin.ext
    have hb := b.isLt; have hn := n.isLt; have hd := d.isLt
    match a with
    | ⟨0, _⟩ => show _ = b.val; simp only [idx_main_v33]; omega
    | ⟨1, _⟩ => show _ = n.val; simp only [idx_main_v33]; omega
    | ⟨2, _⟩ => show _ = d.val; simp only [idx_main_v33]; omega
  rw [e, row_at]
  have ep : (fun d => val_main_v28 (F := Ideal) x0 x1 x2 (ix3 b n d)) = modd (fun d => x0 (ix3 b n d)) (fun d => x2 (ix2 1 d))
      (fun d => x1 (ix1 ⟨2048 + d.val, by omega⟩)) (fun d => x1 (ix1 ⟨d.val, by omega⟩)) := funext fun d => pre_at x0 x1 x2 b n d
  rw [ep]

end Cert.CKvReferenceIdeal.Val
-- ==== Proof.CKvTie.lean ====
/- The context stream's keys and values, second layer: its call beside its reference: both results are the row function applied row by row. -/
module

public import proofs.«01_k».proof.Proof.CKvKer
public import proofs.«01_k».proof.Proof.CKvRef
public import proofs.«01_k».proof.Proof.Gen.CKvReferenceIdeal.Run

@[expose] public section

noncomputable section

namespace Cert.CKvTie

open Cert.CKvIdeal Cert.CKvIdeal.Gen Idealize.ShloMosaic Idealize.ShloMosaic.TcCoe Idealize.SL.Sem Cert.MlpSpec Cert.InpSpec Cert.CKvSpec

theorem ix_4 : ∀ t : Fin cfg0.N, win0_4.index t = ![t.val, 0] := (by decide +kernel : ∀ t : Fin grid0.N, _)
theorem fl_4 : ∀ t : Fin cfg0.N, (cfg0.win 4).flush t = true := (by decide +kernel : ∀ t : Fin grid0.N, win0_4.flush t = true)

theorem mem_4 (t : Fin cfg0.N) (i : S1024x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4).slice (win0_4.rect t)).set ↔ _
  rw [View.set_slice_whole, Rect.mem_set_unit]
  exact Iff.rfl

/-- Every index of the result lies in a point's block. -/
theorem cover_4 (i : S1024x2048.Idx) : ∃ t : Fin cfg0.N, (cfg0.win 4).flush t = true ∧ i ∈ ((cfg0.win 4).blk t).view.set := by
  have h0 : (i 0).val < 1024 := (i 0).isLt
  have h1 : (i 1).val < 2048 := (i 1).isLt
  have ht : (i 0).val / 512 < cfg0.N := lt_of_lt_of_eq (by omega) N_0.symm
  refine ⟨⟨(i 0).val / 512, ht⟩, fl_4 _, ?_⟩
  rw [mem_4, ix_4]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- The call's result array is the reference's result on the same arguments. -/
theorem tie (m : (ℓ : Loc nD τ sig) → Buf (Elt Ideal) ℓ) (c : Dev nD) :
    (dats m 0 c).arrAt 4 cfg0.N = (Cert.CKvReferenceIdeal.Read.val_main_v34 (F := Ideal)
      (m ((c : Thread nD τ).loc main_arg0)) (m ((c : Thread nD τ).loc main_arg1)) (m ((c : Thread nD τ).loc main_arg2))
      (m ((c : Thread nD τ).loc main_arg3))
      : Buf (Elt Ideal) ((c : Thread nD τ).loc main_v4)) := by
  refine (dats m 0 c).arrAt_eq_of_cover 4 _ (fun t _ => ?_) cover_4
  rw [Cert.CKvIdeal.Value.flushed4]
  funext y
  have hN : t.val < 2 := lt_of_lt_of_eq t.isLt N_0
  have hy0 : (y 0).val < 512 := (y 0).isLt
  have hy1 : (y 1).val < 2048 := (y 1).isLt
  have hb0 : (((cfg0.win 4).blk t).view.emb y 0).val = win0_4.index t (0 : Fin 2) * 512 + 1 * (y 0).val := rfl
  have hb1 : (((cfg0.win 4).blk t).view.emb y 1).val = win0_4.index t (1 : Fin 2) * 2048 + 1 * (y 1).val := rfl
  have e0 : win0_4.index t (0 : Fin 2) = t.val := congrFun (ix_4 t) 0
  have e1 : win0_4.index t (1 : Fin 2) = 0 := congrFun (ix_4 t) 1
  have hl : (cfg0.win 4).xinj (grid0.coords t) y = ix2 ⟨(y 0).val, hy0⟩ ⟨(y 1).val, hy1⟩ := by
    funext a
    match a with
    | ⟨0, _⟩ => rfl
    | ⟨1, _⟩ => rfl
  show (outsAt0 m c t.val t.isLt).1 ((cfg0.win 4).xinj (grid0.coords t) y)
    = Cert.CKvReferenceIdeal.Read.val_main_v34 (F := Ideal) _ _ _ _ (((cfg0.win 4).blk t).view.emb y)
  rw [hl, Cert.CKvReferenceIdeal.Val.res_at _ _ _ _ ⟨(t.val * 512 + (y 0).val) / 256, by omega⟩ ⟨(t.val * 512 + (y 0).val) % 256, by omega⟩ ⟨(y 1).val, hy1⟩
    (((cfg0.win 4).blk t).view.emb y) (by rw [hb0, e0]; show t.val * 512 + 1 * (y 0).val = 256 * ((t.val * 512 + (y 0).val) / 256) + (t.val * 512 + (y 0).val) % 256; omega)
    (by rw [hb1, e1]; show 0 * 2048 + 1 * (y 1).val = (y 1).val; omega)]
  exact Cert.CKvIdeal.Val.last_at m c t _ _ _ _ (by show t.val * 512 + (y 0).val = 256 * ((t.val * 512 + (y 0).val) / 256) + (t.val * 512 + (y 0).val) % 256; omega)

end Cert.CKvTie
-- ==== Proof.AttSpec.lean ====
/- One row of the differential attention as plain functions over the extended reals: the kernel's order of the
   operations, the reference's, and that the two agree when the values and the mixing factor are finite. -/
module

public import Idealize.ShloMosaic.Lib.Pointwise

@[expose] public section

noncomputable section

namespace Cert.AttSpec

open Idealize.ShloMosaic

/-- The largest score of a row. -/
def top {n : ℕ} (s : Fin n → EReal) : EReal := Finset.fold max ⊥ s Finset.univ

/-- The reference's unnormalised weight of key `k`. -/
def wexp {n : ℕ} (s : Fin n → EReal) (k : Fin n) : EReal := Ideal.exp (s k - top s)

/-- The kernel's: to base two. -/
def wexp2 {n : ℕ} (s : Fin n → EReal) (k : Fin n) : EReal := Ideal.exp2 (s k - top s)

/-- The kernel's row: each map's weighted sum divided by its weights' sum, then the difference. -/
def kO {n : ℕ} (lam : EReal) (w w' : Fin n → EReal) (v : Fin n → Fin 128 → EReal) (d : Fin 128) : EReal :=
  Ideal.div (∑ k, w k * v k d) (∑ k, w k) - lam * Ideal.div (∑ k, w' k * v k d) (∑ k, w' k)

/-- The reference's row: the difference of the normalised weights, then the weighted sum. -/
def rO {n : ℕ} (lam : EReal) (w w' : Fin n → EReal) (v : Fin n → Fin 128 → EReal) (d : Fin 128) : EReal :=
  ∑ k, v k d * (Ideal.div (w k) (∑ k, w k) - lam * Ideal.div (w' k) (∑ k, w' k))

/-- The head's norm, gain and constant factor. -/
def headNorm (o g : Fin 128 → EReal) (d : Fin 128) : EReal :=
  o d * Ideal.rsqrt (Ideal.div (∑ x, o x * o x) (Ideal.ofBits FTy.f32 1124073472#32) + Ideal.ofBits FTy.f32 897988541#32)
    * g d * Ideal.ofBits FTy.f32 1059388764#32

/-! ## Scaled scores -/

theorem top_ge {n : ℕ} (s : Fin n → EReal) (k : Fin n) : s k ≤ top s :=
  Finset.le_fold_max (s k) |>.mpr (Or.inr ⟨k, Finset.mem_univ k, le_refl _⟩)

/-- A positive real factor commutes with the largest score. -/
theorem top_mul {n : ℕ} (s : Fin n → EReal) (c : ℝ) (hc : 0 < c) : top (fun k => s k * (c : EReal)) = top s * (c : EReal) := by
  unfold top
  have hm : Monotone fun x : EReal => x * (c : EReal) := fun a b h =>
    mul_le_mul_of_nonneg_right h (EReal.coe_nonneg.mpr hc.le)
  have key : ∀ S : Finset (Fin n), Finset.fold max ⊥ (fun k => s k * (c : EReal)) S = Finset.fold max ⊥ s S * (c : EReal) := by
    intro S
    induction S using Finset.induction_on with
    | empty => simp [EReal.bot_mul_coe_of_pos hc]
    | insert a S ha ih => rw [Finset.fold_insert ha, Finset.fold_insert ha, ih, ← hm.map_max]
  exact key _

theorem sub_mul_pos (a b : EReal) (c : ℝ) (hc : 0 < c) : a * (c : EReal) - b * (c : EReal) = (a - b) * (c : EReal) := by
  rw [sub_eq_add_neg, sub_eq_add_neg, ← EReal.neg_mul]
  exact (EReal.right_distrib_of_nonneg_of_ne_top (EReal.coe_nonneg.mpr hc.le) (EReal.coe_ne_top c) a (-b)).symm

/-- The exponential to base two of a score divided by `log 2` is the exponential. -/
theorem exp2_scaled (x : EReal) : Ideal.exp2 (x * ((1 / Real.log 2 : ℝ) : EReal)) = Ideal.exp x := by
  have hl : 0 < Real.log 2 := Real.log_pos (by norm_num)
  have hc : 0 < 1 / Real.log 2 := by positivity
  induction x with
  | bot => rw [EReal.bot_mul_coe_of_pos hc]; rfl
  | top => rw [EReal.top_mul_coe_of_pos hc]; rfl
  | coe r =>
    rw [← EReal.coe_mul, Ideal.exp2_coe, Ideal.exp_coe]
    congr 1
    show (2 : ℝ) ^ (r * (1 / Real.log 2)) = _
    rw [Real.rpow_def_of_pos (by norm_num)]
    congr 1
    field_simp

theorem wexp2_scaled {n : ℕ} (s : Fin n → EReal) (k : Fin n) :
    wexp2 (fun k => s k * ((1 / Real.log 2 : ℝ) : EReal)) k = wexp s k := by
  have hl : 0 < Real.log 2 := Real.log_pos (by norm_num)
  have hc : 0 < 1 / Real.log 2 := by positivity
  unfold wexp2 wexp
  rw [top_mul s _ hc, sub_mul_pos _ _ _ hc, exp2_scaled]

/-- A weight is a real, not negative. -/
theorem wexp_real {n : ℕ} (s : Fin n → EReal) (k : Fin n) : ∃ r : ℝ, 0 ≤ r ∧ wexp s k = (r : EReal) := by
  have h := top_ge s k
  unfold wexp
  generalize s k = a at h
  generalize top s = b at h
  have key : a - b ≠ ⊤ := by
    induction a with
    | bot => simp
    | top => rw [top_le_iff.mp h]; simp
    | coe r =>
      induction b with
      | bot => exact absurd h (by simp)
      | top => simp
      | coe q => rw [← EReal.coe_sub]; exact EReal.coe_ne_top _
  generalize a - b = x at key
  induction x with
  | bot => exact ⟨0, le_refl _, rfl⟩
  | top => exact absurd rfl key
  | coe r => exact ⟨Real.exp r, (Real.exp_pos r).le, rfl⟩

/-! ## Rows with an infinite entry -/

theorem bits128 : Ideal.ofBits FTy.f32 1124073472#32 = ((128 : ℝ) : EReal) := by
  simp [Ideal.ofBits, Ideal.ieee, -EReal.coe_mul]
  norm_num
theorem bitsEps : ∃ e : ℝ, Ideal.ofBits FTy.f32 897988541#32 = (e : EReal) := by
  simp [Ideal.ofBits, Ideal.ieee]
  exact ⟨_, (EReal.coe_mul _ _).symm⟩

/-- Zero or infinite. -/
def Ext (x : EReal) : Prop := x = 0 ∨ x = ⊤ ∨ x = ⊥

theorem ext_add {x y : EReal} (hx : Ext x) (hy : Ext y) : Ext (x + y) := by
  rcases hx with rfl | rfl | rfl <;> rcases hy with rfl | rfl | rfl <;> simp [Ext]

theorem ext_sum {n : ℕ} (f : Fin n → EReal) (h : ∀ k, Ext (f k)) : Ext (∑ k, f k) :=
  Finset.sum_induction f Ext (fun _ _ => ext_add) (Or.inl rfl) fun k _ => h k

theorem ext_mul (r : ℝ) {c : EReal} (hc : c = ⊤ ∨ c = ⊥) : Ext ((r : EReal) * c) := by
  rcases lt_trichotomy r 0 with h | rfl | h
  · rcases hc with rfl | rfl
    · exact Or.inr (Or.inr (EReal.coe_mul_top_of_neg h))
    · exact Or.inr (Or.inl (EReal.coe_mul_bot_of_neg h))
  · exact Or.inl (by simp)
  · rcases hc with rfl | rfl
    · exact Or.inr (Or.inl (EReal.coe_mul_top_of_pos h))
    · exact Or.inr (Or.inr (EReal.coe_mul_bot_of_pos h))

theorem sq_nonneg (x : EReal) : 0 ≤ x * x := by
  induction x with
  | bot => simp
  | top => simp
  | coe r => rw [← EReal.coe_mul]; exact EReal.coe_nonneg.mpr (mul_self_nonneg r)

/-- The norm turns a row of zeros and infinities into zeros. -/
theorem headNorm_ext (o g : Fin 128 → EReal) (h : ∀ x, Ext (o x)) (d : Fin 128) : headNorm o g d = 0 := by
  unfold headNorm
  by_cases hz : ∀ x, o x = 0
  · rw [hz d]; simp
  · obtain ⟨x, hx⟩ := not_forall.mp hz
    have hsq : o x * o x = ⊤ := by
      rcases h x with e | e | e
      · exact absurd e hx
      · rw [e]; rfl
      · rw [e]; rfl
    have hs : (∑ x, o x * o x) = ⊤ :=
      top_le_iff.mp (hsq ▸ Finset.single_le_sum (f := fun x => o x * o x) (fun y _ => sq_nonneg (o y)) (Finset.mem_univ x))
    obtain ⟨e, he⟩ := bitsEps
    rw [hs, bits128, he, Ideal.div_coe (by norm_num), EReal.top_mul_coe_of_pos (by norm_num), EReal.top_add_coe, Ideal.rsqrt_top]
    simp

theorem div_zero_zero : Ideal.div 0 0 = ⊥ := by unfold Ideal.div; simp

theorem sum_zero_of {n : ℕ} (r : Fin n → ℝ) (hr : ∀ k, 0 ≤ r k) (h : ∑ k, r k = 0) (k : Fin n) : r k = 0 :=
  (Finset.sum_eq_zero_iff_of_nonneg fun k _ => hr k).mp h k (Finset.mem_univ k)

theorem coe_sum {n : ℕ} (r : Fin n → ℝ) : (∑ k, (r k : EReal)) = ((∑ k, r k : ℝ) : EReal) :=
  (map_sum (⟨⟨Real.toEReal, EReal.coe_zero⟩, EReal.coe_add⟩ : ℝ →+ EReal) r Finset.univ).symm

/-- The two orders agree after the head's norm, the values and the mixing factor finite. -/
theorem norm_eq {n : ℕ} (lam : ℝ) (w w' : Fin n → EReal) (v : Fin n → Fin 128 → EReal) (g : Fin 128 → EReal)
    (hw : ∀ k, ∃ r : ℝ, 0 ≤ r ∧ w k = (r : EReal)) (hw' : ∀ k, ∃ r : ℝ, 0 ≤ r ∧ w' k = (r : EReal))
    (hv : ∀ k d, ∃ r : ℝ, v k d = (r : EReal)) (d : Fin 128) :
    headNorm (kO (lam : EReal) w w' v) g d = headNorm (rO (lam : EReal) w w' v) g d := by
  choose a ha ea using hw
  choose b hb eb using hw'
  choose u eu using hv
  obtain rfl : w = fun k => (a k : EReal) := funext ea
  obtain rfl : w' = fun k => (b k : EReal) := funext eb
  obtain rfl : v = fun k d => (u k d : EReal) := funext fun k => funext fun d => eu k d
  have kform : ∀ d, kO (lam : EReal) (fun k => (a k : EReal)) (fun k => (b k : EReal)) (fun k d => (u k d : EReal)) d
      = Ideal.div ((∑ k, a k * u k d : ℝ) : EReal) ((∑ k, a k : ℝ) : EReal)
        - (lam : EReal) * Ideal.div ((∑ k, b k * u k d : ℝ) : EReal) ((∑ k, b k : ℝ) : EReal) := by
    intro d
    simp only [kO, ← EReal.coe_mul, coe_sum]
  have rform : ∀ d, rO (lam : EReal) (fun k => (a k : EReal)) (fun k => (b k : EReal)) (fun k d => (u k d : EReal)) d
      = ∑ k, (u k d : EReal) * (Ideal.div (a k : EReal) ((∑ k, a k : ℝ) : EReal)
        - (lam : EReal) * Ideal.div (b k : EReal) ((∑ k, b k : ℝ) : EReal)) := by
    intro d
    simp only [rO, coe_sum]
  by_cases hA : ∑ k, a k = 0
  · have za := sum_zero_of a ha hA
    rw [headNorm_ext _ g, headNorm_ext _ g]
    · intro x
      rw [rform]
      refine ext_sum _ fun k => ext_mul _ (Or.inr ?_)
      rw [hA, za k, EReal.coe_zero, div_zero_zero, sub_eq_add_neg, EReal.bot_add]
    · intro x
      rw [kform]
      refine Or.inr (Or.inr ?_)
      have : ∑ k, a k * u k x = 0 := Finset.sum_eq_zero fun k _ => by rw [za k, zero_mul]
      rw [hA, this, EReal.coe_zero, div_zero_zero, sub_eq_add_neg, EReal.bot_add]
  · by_cases hB : ∑ k, b k = 0
    · have zb := sum_zero_of b hb hB
      have z : ∀ x, ∑ k, b k * u k x = 0 := fun x => Finset.sum_eq_zero fun k _ => by rw [zb k, zero_mul]
      by_cases hl : lam = 0
      · have : kO (lam : EReal) (fun k => (a k : EReal)) (fun k => (b k : EReal)) (fun k d => (u k d : EReal))
            = rO (lam : EReal) (fun k => (a k : EReal)) (fun k => (b k : EReal)) (fun k d => (u k d : EReal)) := by
          funext x
          rw [kform, rform, hl]
          simp only [EReal.coe_zero, zero_mul, sub_zero, Ideal.div_coe hA, ← EReal.coe_mul, coe_sum]
          rw [Finset.sum_mul]
          congr 1
          exact Finset.sum_congr rfl fun k _ => by ring
        rw [this]
      · have hc : ∀ r : ℝ, ((r : EReal) - (lam : EReal) * ⊥ = ⊤ ∨ (r : EReal) - (lam : EReal) * ⊥ = ⊥) := by
          intro r
          rcases lt_or_gt_of_ne hl with h | h
          · right
            rw [EReal.coe_mul_bot_of_neg h]
            simp
          · left
            rw [EReal.coe_mul_bot_of_pos h]
            simp
        rw [headNorm_ext _ g, headNorm_ext _ g]
        · intro x
          rw [rform]
          refine ext_sum _ fun k => ext_mul _ ?_
          rw [hB, zb k, EReal.coe_zero, div_zero_zero, Ideal.div_coe hA, ← EReal.coe_mul]
          exact hc _
        · intro x
          rw [kform, hB, z x, EReal.coe_zero, div_zero_zero, Ideal.div_coe hA, ← EReal.coe_mul]
          exact Or.inr (hc _)
    · have : kO (lam : EReal) (fun k => (a k : EReal)) (fun k => (b k : EReal)) (fun k d => (u k d : EReal))
          = rO (lam : EReal) (fun k => (a k : EReal)) (fun k => (b k : EReal)) (fun k d => (u k d : EReal)) := by
        funext x
        rw [kform, rform]
        simp only [Ideal.div_coe hA, Ideal.div_coe hB, ← EReal.coe_mul, ← EReal.coe_sub, coe_sum]
        congr 1
        rw [Finset.sum_mul, Finset.sum_mul, Finset.mul_sum, ← Finset.sum_sub_distrib]
        exact Finset.sum_congr rfl fun k _ => by ring
      rw [this]

/-! ## The layer's attention, row by row -/

/-- An array of five axes, of four, of two, read as a function of its index. -/
abbrev A5 (n : ℕ) : Type := (⟨5, ![4, n, 8, 2, 64]⟩ : Shape).Idx → EReal
abbrev A4 (n : ℕ) : Type := (⟨4, ![4, n, 8, 128]⟩ : Shape).Idx → EReal
abbrev A2 (n : ℕ) : Type := (⟨2, ![2, n]⟩ : Shape).Idx → EReal

/-- Key `k` of the joint sequence: the context's 256, then the latents' 2048. -/
def kall (lat : A5 2048) (ctx : A5 256) (b : Fin 4) (h : Fin 8) (j : Fin 2) (k : Fin 2304) (e : Fin 64) : EReal :=
  if hk : k.val < 256 then ctx (ix5 b ⟨k.val, hk⟩ h j e) else lat (ix5 b ⟨k.val - 256, by omega⟩ h j e)

/-- Value `k` of the joint sequence. -/
def vall (lat : A4 2048) (ctx : A4 256) (b : Fin 4) (h : Fin 8) (k : Fin 2304) (d : Fin 128) : EReal :=
  if hk : k.val < 256 then ctx (ix4 b ⟨k.val, hk⟩ h d) else lat (ix4 b ⟨k.val - 256, by omega⟩ h d)

/-- The score of map `j` for query `n` and key `k`. -/
def sc (q lat : A5 2048) (ctx : A5 256) (b : Fin 4) (n : Fin 2048) (h : Fin 8) (j : Fin 2) (k : Fin 2304) : EReal :=
  (∑ e : Fin 64, q (ix5 b n h j e) * kall lat ctx b h j k e) * Ideal.ofBits FTy.f32 1040187392#32

/-- The mixing factor from the four lambda vectors of the second layer. -/
def lamS (p q r s : A2 64) : EReal :=
  Ideal.exp (∑ e : Fin 64, p (ix2 1 e) * q (ix2 1 e)) - Ideal.exp (∑ e : Fin 64, r (ix2 1 e) * s (ix2 1 e))
    + Ideal.ofBits FTy.f32 1052116297#32

end Cert.AttSpec
-- ==== Proof.AttHost.lean ====
/- What the host lays out for the attention call, read at an index, and the blocks the call's windows bring in. -/
module

public import proofs.«01_k».proof.Proof.Gen.KernelIdeal.Value
public import proofs.«01_k».proof.Proof.AttSpec
public import Idealize.ShloMosaic.Lib.Pipeline.ValueKit
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (c : Dev nD)

/-- The factor the queries are scaled by. -/
def qfac : EReal := Ideal.div (Ideal.ofBits FTy.f32 1040187392#32) (Ideal.log (Ideal.ofBits FTy.f32 1073741824#32))

section host

variable (z y : FVec Ideal S8192x512 .f32) (x0 x1 : Vec Ideal S4x2048x8x2x64 .f32) (x2 : Vec Ideal S4x2048x8x128 .f32)
  (x3 : Vec Ideal S4x256x8x2x64 .f32) (x4 : Vec Ideal S4x256x8x128 .f32)

/-- The latent rows' projections side by side. -/
def plat : FVec Ideal S8192x4096 .bf16 :=
  truncf .bf16 (concatenate S8192x4096 1 [⟨S8192x512, z⟩, ⟨S8192x512, y⟩,
    ⟨S8192x1024, mulf (shapeCast S8192x1024 x0 shapeCasts_S4x2048x8x2x64_S8192x1024)
      (broadcastInDim S8192x1024 ![] bcast_S_S8192x1024 (Host.divf (constant S_ .f32 0x3E000000#32) (Host.log (constant S_ .f32 0x40000000#32))))⟩,
    ⟨S8192x1024, shapeCast S8192x1024 x1 shapeCasts_S4x2048x8x2x64_S8192x1024⟩,
    ⟨S8192x1024, shapeCast S8192x1024 x2 shapeCasts_S4x2048x8x128_S8192x1024⟩]
    concatenates_S8192x512_S8192x512_S8192x1024_S8192x1024_S8192x1024_S8192x4096_d1) bitsLt_bf16_f32

/-- The context rows' keys and values side by side. -/
def pctx : FVec Ideal S1024x2048 .bf16 :=
  truncf .bf16 (concatenate S1024x2048 1 [⟨S1024x1024, shapeCast S1024x1024 x3 shapeCasts_S4x256x8x2x64_S1024x1024⟩,
    ⟨S1024x1024, shapeCast S1024x1024 x4 shapeCasts_S4x256x8x128_S1024x1024⟩] concatenates_S1024x1024_S1024x1024_S1024x2048_d1) bitsLt_bf16_f32

/-- Index components of a flattened row of heads. -/
theorem ix5_eq {A B : ℕ} (b : Fin A) (n : Fin B) (h : Fin 8) (j : Fin 2) (e : Fin 64) (b' : Fin A) (n' : Fin B) (h' : Fin 8) (j' : Fin 2) (e' : Fin 64)
    (hb : b.val = b'.val) (hn : n.val = n'.val) (hh : h.val = h'.val) (hj : j.val = j'.val) (he : e.val = e'.val) :
    ix5 b n h j e = ix5 b' n' h' j' e' := by
  rw [Fin.ext hb, Fin.ext hn, Fin.ext hh, Fin.ext hj, Fin.ext he]

theorem ix4_eq {A B : ℕ} (b : Fin A) (n : Fin B) (h : Fin 8) (e : Fin 128) (b' : Fin A) (n' : Fin B) (h' : Fin 8) (e' : Fin 128)
    (hb : b.val = b'.val) (hn : n.val = n'.val) (hh : h.val = h'.val) (he : e.val = e'.val) : ix4 b n h e = ix4 b' n' h' e' := by
  rw [Fin.ext hb, Fin.ext hn, Fin.ext hh, Fin.ext he]

theorem plat_q (b : Fin 4) (n : Fin 2048) (h : Fin 8) (j : Fin 2) (e : Fin 64) (R : Fin 8192) (C : Fin 4096)
    (hR : R.val = 2048 * b.val + n.val) (hC : C.val = 1024 + 128 * h.val + 64 * j.val + e.val) :
    plat z y x0 x1 x2 (ix2 R C) = x0 (ix5 b n h j e) * qfac := by
  pointwise [plat]
  rw [dif_neg (by omega), dif_neg (by omega), dif_pos (by omega)]
  refine congrArg (fun i => x0 i * qfac) (ix5_eq _ _ _ _ _ _ _ _ _ _ ?_ ?_ ?_ ?_ ?_) <;> simp only [] <;> omega

theorem plat_k (b : Fin 4) (n : Fin 2048) (h : Fin 8) (j : Fin 2) (e : Fin 64) (R : Fin 8192) (C : Fin 4096)
    (hR : R.val = 2048 * b.val + n.val) (hC : C.val = 2048 + 128 * h.val + 64 * j.val + e.val) :
    plat z y x0 x1 x2 (ix2 R C) = x1 (ix5 b n h j e) := by
  pointwise [plat]
  rw [dif_neg (by omega), dif_neg (by omega), dif_neg (by omega), dif_pos (by omega)]
  refine congrArg x1 (ix5_eq _ _ _ _ _ _ _ _ _ _ ?_ ?_ ?_ ?_ ?_) <;> simp only [] <;> omega

theorem plat_v (b : Fin 4) (n : Fin 2048) (h : Fin 8) (e : Fin 128) (R : Fin 8192) (C : Fin 4096)
    (hR : R.val = 2048 * b.val + n.val) (hC : C.val = 3072 + 128 * h.val + e.val) :
    plat z y x0 x1 x2 (ix2 R C) = x2 (ix4 b n h e) := by
  pointwise [plat]
  rw [dif_neg (by omega), dif_neg (by omega), dif_neg (by omega), dif_neg (by omega)]
  refine congrArg x2 (ix4_eq _ _ _ _ _ _ _ _ ?_ ?_ ?_ ?_) <;> simp only [] <;> omega

theorem pctx_k (b : Fin 4) (n : Fin 256) (h : Fin 8) (j : Fin 2) (e : Fin 64) (R : Fin 1024) (C : Fin 2048)
    (hR : R.val = 256 * b.val + n.val) (hC : C.val = 128 * h.val + 64 * j.val + e.val) :
    pctx x3 x4 (ix2 R C) = x3 (ix5 b n h j e) := by
  pointwise [pctx]
  rw [dif_pos (by omega)]
  refine congrArg x3 (ix5_eq _ _ _ _ _ _ _ _ _ _ ?_ ?_ ?_ ?_ ?_) <;> simp only [] <;> omega

theorem pctx_v (b : Fin 4) (n : Fin 256) (h : Fin 8) (e : Fin 128) (R : Fin 1024) (C : Fin 2048)
    (hR : R.val = 256 * b.val + n.val) (hC : C.val = 1024 + 128 * h.val + e.val) :
    pctx x3 x4 (ix2 R C) = x4 (ix4 b n h e) := by
  pointwise [pctx]
  rw [dif_neg (by omega)]
  refine congrArg x4 (ix4_eq _ _ _ _ _ _ _ _ ?_ ?_ ?_ ?_) <;> simp only [] <;> omega

/-- The four lambda vectors of both layers, stacked and padded to a block of vector registers. -/
def lamp (a b c d : Vec Ideal S2x64 .f32) : Vec Ideal S2x8x128 .f32 :=
  pad S2x8x128 ![0, 0, 0] ![0, 4, 64] ![0, 0, 0]
    (concatenate S2x4x64 1 [⟨S2x1x64, broadcastInDim S2x1x64 ![0, 2] bcast_S2x64_S2x1x64_0_2 a⟩,
      ⟨S2x1x64, broadcastInDim S2x1x64 ![0, 2] bcast_S2x64_S2x1x64_0_2 b⟩, ⟨S2x1x64, broadcastInDim S2x1x64 ![0, 2] bcast_S2x64_S2x1x64_0_2 c⟩,
      ⟨S2x1x64, broadcastInDim S2x1x64 ![0, 2] bcast_S2x64_S2x1x64_0_2 d⟩] concatenates_S2x1x64_S2x1x64_S2x1x64_S2x1x64_S2x4x64_d1)
    (sitofp (F := Ideal) .f32 (constantI S_ 32 0#32)) pads_S2x4x64_S2x8x128_000_040_0640 h_S_

theorem zero_pad : (FloatOps.sitofp FTy.f32 (0#32 : BitVec 32) : Ideal FTy.f32) = (0 : EReal) := by
  simp [FloatOps.sitofp]

theorem lamp_0 (p q r s : Vec Ideal S2x64 .f32) (x : Fin 128) :
    lamp p q r s (ix3 1 0 x) = if h : x.val < 64 then p (ix2 1 ⟨x.val, h⟩) else 0 := by
  pointwise [lamp]
  rw [zero_pad]

theorem lamp_1 (p q r s : Vec Ideal S2x64 .f32) (x : Fin 128) :
    lamp p q r s (ix3 1 1 x) = if h : x.val < 64 then q (ix2 1 ⟨x.val, h⟩) else 0 := by
  pointwise [lamp]
  rw [zero_pad]

theorem lamp_2 (p q r s : Vec Ideal S2x64 .f32) (x : Fin 128) :
    lamp p q r s (ix3 1 2 x) = if h : x.val < 64 then r (ix2 1 ⟨x.val, h⟩) else 0 := by
  pointwise [lamp]
  rw [zero_pad]

theorem lamp_3 (p q r s : Vec Ideal S2x64 .f32) (x : Fin 128) :
    lamp p q r s (ix3 1 3 x) = if h : x.val < 64 then s (ix2 1 ⟨x.val, h⟩) else 0 := by
  pointwise [lamp]
  rw [zero_pad]

/-- A sum over padded lanes is the sum over the lanes that carry data. -/
theorem sum_pad (f g : Fin 64 → EReal) :
    ∑ x : Fin 128, (if h : x.val < 64 then f ⟨x.val, h⟩ else 0) * (if h : x.val < 64 then g ⟨x.val, h⟩ else 0) = ∑ e, f e * g e := by
  refine (Fin.sum_univ_add (a := 64) (b := 64) _).trans ((congrArg₂ (· + ·) (Finset.sum_congr rfl fun e _ => ?_)
    (Finset.sum_eq_zero fun e _ => ?_)).trans (add_zero _))
  · rw [dif_pos (by show e.val < 64; omega), dif_pos (by show e.val < 64; omega)]
    rfl
  · rw [dif_neg (by show ¬ 64 + e.val < 64; omega), zero_mul]

end host

theorem V_v5 : V m c main_v5 = lamp (m ((c : Thread nD τ).loc main_arg6)) (m ((c : Thread nD τ).loc main_arg7))
    (m ((c : Thread nD τ).loc main_arg8)) (m ((c : Thread nD τ).loc main_arg9)) := rfl

/-- The convolution's columns of the layout, which the attention does not read. -/
def czero : FVec Ideal S8192x512 .f32 := broadcastInDim S8192x512 ![] bcast_S_S8192x512 (constant S_ .f32 0x00000000#32)

def cin : FVec Ideal S8192x512 .f32 := shapeCast S8192x512 (m ((c : Thread nD τ).loc main_arg5)) shapeCasts_S4x2048x512_S8192x512

theorem V_v18 : V m c main_v18 = plat czero (cin m c)
    (m ((c : Thread nD τ).loc main_arg0)) (m ((c : Thread nD τ).loc main_arg1)) (m ((c : Thread nD τ).loc main_arg2)) := rfl

theorem V_v22 : V m c main_v22 = pctx (m ((c : Thread nD τ).loc main_arg3)) (m ((c : Thread nD τ).loc main_arg4)) := rfl

theorem V_v23 (d : Fin 128) : V m c main_v23 (ix3 1 0 d) = m ((c : Thread nD τ).loc main_arg10) (ix2 1 d) := by
  have : V m c main_v23 = shapeCast S2x1x128 (m ((c : Thread nD τ).loc main_arg10)) shapeCasts_S2x128_S2x1x128 := rfl
  rw [this]
  pointwise
  done

end Cert.KernelIdeal.Val
-- ==== Proof.AttPay.lean ====
/- The attention call's arithmetic read at an index, over any blocks and any scratch contents. -/
module

public import proofs.«01_k».proof.Proof.Gen.KernelIdeal.Value
public import proofs.«01_k».proof.Proof.AttSpec
public import Idealize.ShloMosaic.Lib.Pipeline.ValueKit
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem Cert.AttSpec

variable (q : Vec Ideal S512x128 .bf16) (K : Vec Ideal S1x128x2304 .bf16) (V : Vec Ideal S1x2304x256 .bf16)
  (L : Vec Ideal S1x8x128 .f32) (g : Vec Ideal S1x1x128 .f32)

theorem bitsBot : Ideal.ofBits FTy.f32 4286578688#32 = ⊥ := by simp [Ideal.ofBits, Ideal.ieee]

/-- The mixing factor from the padded lambda block. -/
def kLam (L : Vec Ideal S1x8x128 .f32) : EReal :=
  Ideal.exp (∑ x : Fin 128, L (ix3 0 0 x) * L (ix3 0 1 x)) - Ideal.exp (∑ x : Fin 128, L (ix3 0 2 x) * L (ix3 0 3 x))
    + Ideal.ofBits FTy.f32 1052116297#32

theorem lam_at : k0_pay10 L (ix2 0 0) = kLam L := by
  pointwise [k0_pay10]
  rfl

/-- The masked contraction over the 128 lanes: the first map on the rows below 512, the second map above. -/
def msc (q : Vec Ideal S512x128 .bf16) (K : Vec Ideal S1x128x2304 .bf16) (r : Fin 1024) (k : Fin 2304) : EReal :=
  ∑ x : Fin 128,
      (if h : r.val < 512 then
          Scalar.select (IntOp.cmpi CmpIPredicate.slt (BitVec.ofNat 32 x.val) 64#32) (q (ix2 ⟨r.val, h⟩ x)) 0
        else Scalar.select (IntOp.cmpi CmpIPredicate.slt (BitVec.ofNat 32 x.val) 64#32) 0 (q (ix2 ⟨r.val - 512, by omega⟩ x))) *
        K (ix3 0 x k)

theorem mask_lt (x : Fin 128) (h : x.val < 64) (a b : EReal) :
    Scalar.select (IntOp.cmpi CmpIPredicate.slt (BitVec.ofNat 32 x.val) 64#32) a b = a := by
  have : IntOp.cmpi CmpIPredicate.slt (BitVec.ofNat 32 x.val) 64#32 = 1#1 := by
    revert h; revert x; decide
  rw [this]; rfl

theorem mask_ge (x : Fin 128) (h : ¬ x.val < 64) (a b : EReal) :
    Scalar.select (IntOp.cmpi CmpIPredicate.slt (BitVec.ofNat 32 x.val) 64#32) a b = b := by
  have : IntOp.cmpi CmpIPredicate.slt (BitVec.ofNat 32 x.val) 64#32 = 0#1 := by
    revert h; revert x; decide
  rw [this]; rfl

theorem msc_lo (r : Fin 512) (k : Fin 2304) :
    msc q K ⟨r.val, by omega⟩ k = ∑ e : Fin 64, q (ix2 r ⟨e.val, by omega⟩) * K (ix3 0 ⟨e.val, by omega⟩ k) := by
  unfold msc
  refine (Fin.sum_univ_add (a := 64) (b := 64) _).trans ((congrArg₂ (· + ·) (Finset.sum_congr rfl fun e _ => ?_)
    (Finset.sum_eq_zero fun e _ => ?_)).trans (add_zero _))
  · rw [dif_pos (by show r.val < 512; omega), mask_lt _ (by show e.val < 64; omega)]
    rfl
  · rw [dif_pos (by show r.val < 512; omega), mask_ge _ (by show ¬ 64 + e.val < 64; omega), zero_mul]

theorem msc_hi (r : Fin 512) (k : Fin 2304) :
    msc q K ⟨512 + r.val, by omega⟩ k
      = ∑ e : Fin 64, q (ix2 r ⟨64 + e.val, by omega⟩) * K (ix3 0 ⟨64 + e.val, by omega⟩ k) := by
  unfold msc
  refine (Fin.sum_univ_add (a := 64) (b := 64) _).trans ((congrArg₂ (· + ·) (Finset.sum_eq_zero fun e _ => ?_)
    (Finset.sum_congr rfl fun e _ => ?_)).trans (zero_add _))
  · rw [dif_neg (by show ¬ 512 + r.val < 512; omega), mask_lt _ (by show e.val < 64; omega), zero_mul]
  · rw [dif_neg (by show ¬ 512 + r.val < 512; omega), mask_ge _ (by show ¬ 64 + e.val < 64; omega)]
    have : (⟨512 + r.val - 512, by omega⟩ : Fin 512) = r := Fin.ext (by show 512 + r.val - 512 = r.val; omega)
    show q (ix2 ⟨512 + r.val - 512, _⟩ _) * _ = _
    rw [this]
    rfl

theorem s1_at (r : Fin 1024) (k : Fin 2304) : k0_pay15 q K (ix2 r k) = msc q K r k := by
  pointwise [k0_pay15]
  rfl

theorem s2_at (r : Fin 1024) (k : Fin 2304) : k0_pay16 q K (ix2 r k) = msc q K r k := by
  pointwise [k0_pay16]
  rfl

theorem s3_at (r : Fin 1024) (k : Fin 2304) : k0_pay76 (k0_pay75 q) K (ix2 r k) = msc q K r k := by
  pointwise [k0_pay76, k0_pay75]
  rfl

theorem s0_at (r : Fin 1024) (k : Fin 2304) :
    k0_pay17 (k0_pay11 q) k0_pay12 (k0_pay13 q) k0_pay14 K (ix2 r k) = msc q K r k - top (fun k => msc q K r k) := by
  pointwise [k0_pay17, k0_pay11, k0_pay12, k0_pay13, k0_pay14]
  rw [bitsBot]
  rfl

/-- One row of a unit from its two score rows, over the value scratch (its upper 128 lanes carry the weights' sums). -/
def uRow (lam : EReal) (w w' : Fin 2304 → EReal) (V : Vec Ideal S1x2304x256 .bf16) (d : Fin 128) : EReal :=
  Ideal.div (∑ k, w k * V (ix3 0 k ⟨d.val, by omega⟩)) (∑ k, w k * V (ix3 0 k ⟨128 + d.val, by omega⟩))
    - lam * Ideal.div (∑ k, w' k * V (ix3 0 k ⟨d.val, by omega⟩)) (∑ k, w' k * V (ix3 0 k ⟨128 + d.val, by omega⟩))

variable (l : FVec Ideal S1x1 .f32) (s : FVec Ideal S1024x2304 .f32)

theorem o0_at (r : Fin 512) (d : Fin 128) : k0_pay18 l s V V g (ix2 r d)
    = headNorm (uRow (l (ix2 0 0)) (fun k => Ideal.exp2 (s (ix2 ⟨r.val, by omega⟩ k))) (fun k => Ideal.exp2 (s (ix2 ⟨512 + r.val, by omega⟩ k))) V)
        (fun d => g (ix3 0 0 d)) d := by
  pointwise [k0_pay18]
  rfl

theorem o1_at (r : Fin 512) (d : Fin 128) : k0_pay79 (k0_pay77 l s V V g) k0_pay78 (ix2 r d)
    = headNorm (uRow (l (ix2 0 0)) (wexp2 fun k => s (ix2 ⟨r.val, by omega⟩ k)) (wexp2 fun k => s (ix2 ⟨512 + r.val, by omega⟩ k)) V)
        (fun d => g (ix3 0 0 d)) d := by
  pointwise [k0_pay79, k0_pay77, k0_pay78]
  rw [bitsBot]
  rfl

theorem o2_at (r : Fin 512) (d : Fin 128) : k0_pay82 (k0_pay80 l s V V g) k0_pay81 (ix2 r d)
    = headNorm (uRow (l (ix2 0 0)) (wexp2 fun k => s (ix2 ⟨r.val, by omega⟩ k)) (wexp2 fun k => s (ix2 ⟨512 + r.val, by omega⟩ k)) V)
        (fun d => g (ix3 0 0 d)) d := by
  pointwise [k0_pay82, k0_pay80, k0_pay81]
  rw [bitsBot]
  rfl

theorem o3_at (r : Fin 512) (d : Fin 128) : k0_pay1 l (k0_pay143 (k0_pay141 s) V) (k0_pay144 (k0_pay141 s)) V g (ix2 r d)
    = headNorm (uRow (l (ix2 0 0)) (wexp2 fun k => s (ix2 ⟨r.val, by omega⟩ k)) (wexp2 fun k => s (ix2 ⟨512 + r.val, by omega⟩ k)) V)
        (fun d => g (ix3 0 0 d)) d := by
  pointwise [k0_pay1, k0_pay143, k0_pay142, k0_pay141, k0_pay144]
  rw [bitsBot]
  rfl

/-- One row of the block: the four units compute the same function of their query rows. -/
def kRow (q : Fin 128 → EReal) (K : Vec Ideal S1x128x2304 .bf16) (V : Vec Ideal S1x2304x256 .bf16)
    (L : Vec Ideal S1x8x128 .f32) (g : Vec Ideal S1x1x128 .f32) (d : Fin 128) : EReal :=
  headNorm (uRow (kLam L) (wexp2 fun k => ∑ e : Fin 64, q ⟨e.val, by omega⟩ * K (ix3 0 ⟨e.val, by omega⟩ k))
    (wexp2 fun k => ∑ e : Fin 64, q ⟨64 + e.val, by omega⟩ * K (ix3 0 ⟨64 + e.val, by omega⟩ k)) V) (fun d => g (ix3 0 0 d)) d

theorem u0_at (r : Fin 512) (d : Fin 128) :
    k0_pay18 (k0_pay10 L) (k0_pay17 (k0_pay11 q) k0_pay12 (k0_pay13 q) k0_pay14 K) V V g (ix2 r d)
      = kRow (fun e => q (ix2 r e)) K V L g d := by
  rw [o0_at, lam_at]
  simp only [s0_at, msc_lo, msc_hi]
  rfl

theorem u1_at (r : Fin 512) (d : Fin 128) :
    k0_pay79 (k0_pay77 (k0_pay10 L) (k0_pay15 q K) V V g) k0_pay78 (ix2 r d) = kRow (fun e => q (ix2 r e)) K V L g d := by
  rw [o1_at, lam_at]
  simp only [s1_at, msc_lo, msc_hi]
  rfl

theorem u2_at (r : Fin 512) (d : Fin 128) :
    k0_pay82 (k0_pay80 (k0_pay10 L) (k0_pay16 q K) V V g) k0_pay81 (ix2 r d) = kRow (fun e => q (ix2 r e)) K V L g d := by
  rw [o2_at, lam_at]
  simp only [s2_at, msc_lo, msc_hi]
  rfl

theorem u3_at (r : Fin 512) (d : Fin 128) :
    k0_pay1 (k0_pay10 L) (k0_pay143 (k0_pay141 (k0_pay76 (k0_pay75 q) K)) V) (k0_pay144 (k0_pay141 (k0_pay76 (k0_pay75 q) K))) V g (ix2 r d)
      = kRow (fun e => q (ix2 r e)) K V L g d := by
  rw [o3_at, lam_at]
  simp only [s3_at, msc_lo, msc_hi]
  rfl

end Cert.KernelIdeal.Val
-- ==== Proof.AttKer.lean ====
/- The attention call's result read at an index. -/
module

public import proofs.«01_k».proof.Proof.AttHost
public import proofs.«01_k».proof.Proof.AttPay
public import Idealize.ShloMosaic.Lib.Pipeline.ReadBack

@[expose] public section

noncomputable section

namespace Cert.KernelIdeal.Val

open Cert.KernelIdeal Cert.KernelIdeal.Gen Idealize.ShloMosaic Idealize.ShloMosaic.TcCoe Idealize.SL.Sem Cert.AttSpec
open Idealize.ShloMosaic.Pipeline (Dat)

variable (m : (ℓ : Loc nD τ sig) → Buf (Elt Ideal) ℓ) (c : Dev nD)

theorem ix_0 : ∀ t : Fin cfg0.N, win0_0.index t = ![t.val / 8, 8 + t.val % 8] := (by decide +kernel : ∀ t : Fin grid0.N, _)
theorem ix_1 : ∀ t : Fin cfg0.N, win0_1.index t = ![t.val / 8, t.val % 8] := (by decide +kernel : ∀ t : Fin grid0.N, _)
theorem ix_2 : ∀ t : Fin cfg0.N, win0_2.index t = ![t.val / 8, 8 + t.val % 8] := (by decide +kernel : ∀ t : Fin grid0.N, _)
theorem ix_3 : ∀ t : Fin cfg0.N, win0_3.index t = ![t.val / 8, 16 + t.val % 8] := (by decide +kernel : ∀ t : Fin grid0.N, _)
theorem ix_4 : ∀ t : Fin cfg0.N, win0_4.index t = ![t.val / 8, 24 + t.val % 8] := (by decide +kernel : ∀ t : Fin grid0.N, _)
theorem ix_5 : ∀ t : Fin cfg0.N, win0_5.index t = ![1, 0, 0] := (by decide +kernel : ∀ t : Fin grid0.N, _)
theorem ix_6 : ∀ t : Fin cfg0.N, win0_6.index t = ![1, 0, 0] := (by decide +kernel : ∀ t : Fin grid0.N, _)

/-- The argument arrays the attention reads. -/
abbrev A_q : Vec Ideal S4x2048x8x2x64 .f32 := m ((c : Thread nD τ).loc main_arg0)
abbrev A_k : Vec Ideal S4x2048x8x2x64 .f32 := m ((c : Thread nD τ).loc main_arg1)
abbrev A_v : Vec Ideal S4x2048x8x128 .f32 := m ((c : Thread nD τ).loc main_arg2)
abbrev A_kc : Vec Ideal S4x256x8x2x64 .f32 := m ((c : Thread nD τ).loc main_arg3)
abbrev A_vc : Vec Ideal S4x256x8x128 .f32 := m ((c : Thread nD τ).loc main_arg4)

section blocks

variable (t : Fin cfg0.N) (b : Fin 4) (h : Fin 8) (hb : t.val = 8 * b.val + h.val)
include hb

theorem blk_0 (n : Fin 2048) (j : Fin 2) (e : Fin 64) (E : Fin 128) (hE : E.val = 64 * j.val + e.val) :
    iblk m c 0 t (ix2 n E) = A_q m c (ix5 b n h j e) * qfac := by
  refine Eq.trans ?_ (plat_q czero (cin m c) _ (A_k m c) (A_v m c) b n h j e
    ⟨2048 * b.val + n.val, by omega⟩ ⟨1024 + 128 * h.val + 64 * j.val + e.val, by omega⟩ rfl rfl)
  rw [← V_v18 m c]
  blk_ext [iblk, ix_0 t]

theorem blk_3 (n : Fin 2048) (j : Fin 2) (e : Fin 64) (E : Fin 128) (hE : E.val = 64 * j.val + e.val) :
    iblk m c 3 t (ix2 n E) = A_k m c (ix5 b n h j e) := by
  refine Eq.trans ?_ (plat_k czero (cin m c) (A_q m c) _ (A_v m c) b n h j e
    ⟨2048 * b.val + n.val, by omega⟩ ⟨2048 + 128 * h.val + 64 * j.val + e.val, by omega⟩ rfl rfl)
  rw [← V_v18 m c]
  blk_ext [iblk, ix_3 t]

theorem blk_4 (n : Fin 2048) (e : Fin 128) : iblk m c 4 t (ix2 n e) = A_v m c (ix4 b n h e) := by
  refine Eq.trans ?_ (plat_v czero (cin m c) (A_q m c) (A_k m c) _ b n h e
    ⟨2048 * b.val + n.val, by omega⟩ ⟨3072 + 128 * h.val + e.val, by omega⟩ rfl rfl)
  rw [← V_v18 m c]
  blk_ext [iblk, ix_4 t]

theorem blk_1 (n : Fin 256) (j : Fin 2) (e : Fin 64) (E : Fin 128) (hE : E.val = 64 * j.val + e.val) :
    iblk m c 1 t (ix2 n E) = A_kc m c (ix5 b n h j e) := by
  refine Eq.trans ?_ (pctx_k _ (A_vc m c) b n h j e
    ⟨256 * b.val + n.val, by omega⟩ ⟨128 * h.val + 64 * j.val + e.val, by omega⟩ rfl rfl)
  rw [← V_v22 m c]
  blk_ext [iblk, ix_1 t]

theorem blk_2 (n : Fin 256) (e : Fin 128) : iblk m c 2 t (ix2 n e) = A_vc m c (ix4 b n h e) := by
  refine Eq.trans ?_ (pctx_v (A_kc m c) _ b n h e
    ⟨256 * b.val + n.val, by omega⟩ ⟨1024 + 128 * h.val + e.val, by omega⟩ rfl rfl)
  rw [← V_v22 m c]
  blk_ext [iblk, ix_2 t]

end blocks

theorem blk_5 (t : Fin cfg0.N) (y : Fin 8) (x : Fin 128) : iblk m c 5 t (ix3 0 y x) = lamp (m ((c : Thread nD τ).loc main_arg6)) (m ((c : Thread nD τ).loc main_arg7))
    (m ((c : Thread nD τ).loc main_arg8)) (m ((c : Thread nD τ).loc main_arg9)) (ix3 1 y x) := by
  refine Eq.trans ?_ (congrFun (V_v5 m c) (ix3 1 y x))
  blk_ext [iblk, ix_5 t]

theorem blk_6 (t : Fin cfg0.N) (d : Fin 128) : iblk m c 6 t (ix3 0 0 d) = m ((c : Thread nD τ).loc main_arg10) (ix2 1 d) := by
  refine Eq.trans ?_ (V_v23 m c d)
  blk_ext [iblk, ix_6 t]

theorem lam_blk (t : Fin cfg0.N) : kLam (iblk m c 5 t) = lamS (m ((c : Thread nD τ).loc main_arg6)) (m ((c : Thread nD τ).loc main_arg7))
    (m ((c : Thread nD τ).loc main_arg8)) (m ((c : Thread nD τ).loc main_arg9)) := by
  unfold kLam lamS
  simp only [blk_5, lamp_0, lamp_1, lamp_2, lamp_3]
  rw [← sum_pad (fun e => m ((c : Thread nD τ).loc main_arg6) (ix2 1 e)) (fun e => m ((c : Thread nD τ).loc main_arg7) (ix2 1 e)),
    ← sum_pad (fun e => m ((c : Thread nD τ).loc main_arg8) (ix2 1 e)) (fun e => m ((c : Thread nD τ).loc main_arg9) (ix2 1 e))]

/-! ## The two scratches -/

section scratch

variable (x1 x2 : Vec Ideal S256x128 .bf16) (x3 x4 : Vec Ideal S2048x128 .bf16)

/-- The keys' scratch after both stores. -/
def KT : Vec Ideal S1x128x2304 .bf16 :=
  (View.whole cc0_scratch0).readCov [⟨Rect.unit ![0, 0, 256] ![1, 128, 2048] inb_S1x128x2304_S1x128x2048_0_0_256, k0_pay7 x3⟩,
    ⟨Rect.unit ![0, 0, 0] ![1, 128, 256] inb_S1x128x2304_S1x128x256_0_0_0, k0_pay5 x1⟩]
    (Rect.unit ![0, 0, 0] ![1, 128, 2304] inb_S1x128x2304_S1x128x2304_0_0_0).toLoadRect

/-- The values' scratch after its three stores. -/
def VV : Vec Ideal S1x2304x256 .bf16 :=
  (View.whole cc0_scratch1).readCov [⟨Rect.unit ![0, 0, 128] ![1, 2304, 128] inb_S1x2304x256_S1x2304x128_0_0_128, k0_pay9 (F := Ideal)⟩,
    ⟨Rect.unit ![0, 256, 0] ![1, 2048, 128] inb_S1x2304x256_S1x2048x128_0_256_0, k0_pay8 x4⟩,
    ⟨Rect.unit ![0, 0, 0] ![1, 256, 128] inb_S1x2304x256_S1x256x128_0_0_0, k0_pay6 x2⟩]
    (Rect.unit ![0, 0, 0] ![1, 2304, 256] inb_S1x2304x256_S1x2304x256_0_0_0).toLoadRect

/-- A read of a whole rank-three buffer is at the index itself. -/
theorem whole3 {A B C : ℕ} (inb : ∀ a, (![0, 0, 0] : Fin 3 → ℕ) a + (![A, B, C] : Fin 3 → ℕ) a ≤ (⟨3, ![A, B, C]⟩ : Shape).size a)
    (x : (⟨3, ![A, B, C]⟩ : Shape).Idx) : (Rect.unit (s := ⟨3, ![A, B, C]⟩) ![0, 0, 0] ![A, B, C] inb).idx x = x := by
  refine funext fun a => Fin.ext ((Rect.idx_unit_val ..).trans ?_)
  match a with
  | ⟨0, _⟩ => exact Nat.zero_add _
  | ⟨1, _⟩ => exact Nat.zero_add _
  | ⟨2, _⟩ => exact Nat.zero_add _

/-- A rank-three index from its coordinates. -/
theorem ix3_of {A B C : ℕ} (x : (⟨3, ![A, B, C]⟩ : Shape).Idx) (a : Fin A) (b : Fin B) (c : Fin C) (ha : (x 0).val = a.val)
    (hb : (x 1).val = b.val) (hc : (x 2).val = c.val) : x = ix3 a b c := by
  refine funext fun i => ?_
  match i with
  | ⟨0, _⟩ => exact Fin.ext ha
  | ⟨1, _⟩ => exact Fin.ext hb
  | ⟨2, _⟩ => exact Fin.ext hc

theorem p5_at (e : Fin 128) (k : Fin 256) : k0_pay5 x1 (ix3 0 e k) = x1 (ix2 k e) := by
  pointwise [k0_pay5]
  done

theorem p7_at (e : Fin 128) (k : Fin 2048) : k0_pay7 x3 (ix3 0 e k) = x3 (ix2 k e) := by
  pointwise [k0_pay7]
  done

theorem p6_at (k : Fin 256) (d : Fin 128) : k0_pay6 x2 (ix3 0 k d) = x2 (ix2 k d) := by
  pointwise [k0_pay6]
  done

theorem p8_at (k : Fin 2048) (d : Fin 128) : k0_pay8 x4 (ix3 0 k d) = x4 (ix2 k d) := by
  pointwise [k0_pay8]
  done

theorem p9_at (k : Fin 2304) (d : Fin 128) : k0_pay9 (F := Ideal) (ix3 0 k d) = (1 : EReal) := by
  pointwise [k0_pay9]

theorem KT_at (e : Fin 128) (k : Fin 2304) :
    KT x1 x3 (ix3 0 e k) = if h : k.val < 256 then x1 (ix2 ⟨k.val, h⟩ e) else x3 (ix2 ⟨k.val - 256, by omega⟩ e) := by
  unfold KT
  rw [View.readCov_eq_canon']
  refine (congrArg (View.canon _) (whole3 _ (ix3 0 e k))).trans ?_
  have cov : ∃ p ∈ [(⟨Rect.unit ![0, 0, 256] ![1, 128, 2048] inb_S1x128x2304_S1x128x2048_0_0_256, k0_pay7 x3⟩ : View.Piece (Elt Ideal) S1x128x2304 .bf16),
    ⟨Rect.unit ![0, 0, 0] ![1, 128, 256] inb_S1x128x2304_S1x128x256_0_0_0, k0_pay5 x1⟩], ix3 0 e k ∈ p.fst.set := by
    by_cases hk : k.val < 256
    · refine ⟨_, List.mem_cons_of_mem _ List.mem_cons_self, (Rect.mem_set_unit (inb := inb_S1x128x2304_S1x128x256_0_0_0)).mpr fun a => ?_⟩
      match a with
      | ⟨0, _⟩ => exact ⟨Nat.le_refl _, Nat.one_pos⟩
      | ⟨1, _⟩ => exact ⟨Nat.zero_le _, by show e.val < 0 + 128; omega⟩
      | ⟨2, _⟩ => exact ⟨Nat.zero_le _, by show k.val < 0 + 256; omega⟩
    · refine ⟨_, List.mem_cons_self, (Rect.mem_set_unit (inb := inb_S1x128x2304_S1x128x2048_0_0_256)).mpr fun a => ?_⟩
      match a with
      | ⟨0, _⟩ => exact ⟨Nat.le_refl _, Nat.one_pos⟩
      | ⟨1, _⟩ => exact ⟨Nat.zero_le _, by show e.val < 0 + 128; omega⟩
      | ⟨2, _⟩ => exact ⟨by show 256 ≤ k.val; omega, by show k.val < 256 + 2048; omega⟩
  canon_tiles x h using cov
  · have hk : k.val = 256 + (x 2).val := h2
    rw [ix3_of x 0 e ⟨k.val - 256, by omega⟩ (by show (x 0).val = 0; omega) h1.symm (by show (x 2).val = k.val - 256; omega), p7_at,
      dif_neg (by omega)]
  · have hk : k.val = (x 2).val := h2
    rw [ix3_of x 0 e ⟨k.val, by omega⟩ (by show (x 0).val = 0; omega) h1.symm h2.symm, p5_at, dif_pos (by omega)]

theorem VV_cov (k : Fin 2304) (d : Fin 256) :
    ∃ p ∈ [(⟨Rect.unit ![0, 0, 128] ![1, 2304, 128] inb_S1x2304x256_S1x2304x128_0_0_128, k0_pay9 (F := Ideal)⟩ : View.Piece (Elt Ideal) S1x2304x256 .bf16),
      ⟨Rect.unit ![0, 256, 0] ![1, 2048, 128] inb_S1x2304x256_S1x2048x128_0_256_0, k0_pay8 x4⟩,
      ⟨Rect.unit ![0, 0, 0] ![1, 256, 128] inb_S1x2304x256_S1x256x128_0_0_0, k0_pay6 x2⟩], ix3 0 k d ∈ p.fst.set := by
  by_cases hd : d.val < 128
  · by_cases hk : k.val < 256
    · refine ⟨_, List.mem_cons_of_mem _ (List.mem_cons_of_mem _ List.mem_cons_self), (Rect.mem_set_unit (inb := inb_S1x2304x256_S1x256x128_0_0_0)).mpr fun a => ?_⟩
      match a with
      | ⟨0, _⟩ => exact ⟨Nat.le_refl _, Nat.one_pos⟩
      | ⟨1, _⟩ => exact ⟨Nat.zero_le _, by show k.val < 0 + 256; omega⟩
      | ⟨2, _⟩ => exact ⟨Nat.zero_le _, by show d.val < 0 + 128; omega⟩
    · refine ⟨_, List.mem_cons_of_mem _ List.mem_cons_self, (Rect.mem_set_unit (inb := inb_S1x2304x256_S1x2048x128_0_256_0)).mpr fun a => ?_⟩
      match a with
      | ⟨0, _⟩ => exact ⟨Nat.le_refl _, Nat.one_pos⟩
      | ⟨1, _⟩ => exact ⟨by show 256 ≤ k.val; omega, by show k.val < 256 + 2048; omega⟩
      | ⟨2, _⟩ => exact ⟨Nat.zero_le _, by show d.val < 0 + 128; omega⟩
  · refine ⟨_, List.mem_cons_self, (Rect.mem_set_unit (inb := inb_S1x2304x256_S1x2304x128_0_0_128)).mpr fun a => ?_⟩
    match a with
    | ⟨0, _⟩ => exact ⟨Nat.le_refl _, Nat.one_pos⟩
    | ⟨1, _⟩ => exact ⟨Nat.zero_le _, by show k.val < 0 + 2304; omega⟩
    | ⟨2, _⟩ => exact ⟨by show 128 ≤ d.val; omega, by show d.val < 128 + 128; omega⟩

theorem VV_lo (k : Fin 2304) (d : Fin 128) :
    VV x2 x4 (ix3 0 k ⟨d.val, by omega⟩) = if h : k.val < 256 then x2 (ix2 ⟨k.val, h⟩ d) else x4 (ix2 ⟨k.val - 256, by omega⟩ d) := by
  unfold VV
  rw [View.readCov_eq_canon']
  refine (congrArg (View.canon _) (whole3 _ (ix3 0 k ⟨d.val, by omega⟩))).trans ?_
  canon_tiles x h using VV_cov x2 x4 k ⟨d.val, by omega⟩
  · have hk : d.val = 128 + (x 2).val := h2
    exact absurd hk (by omega)
  · have hk : k.val = 256 + (x 1).val := h1
    rw [ix3_of x 0 ⟨k.val - 256, by omega⟩ d (by show (x 0).val = 0; omega) (by show (x 1).val = k.val - 256; omega) h2.symm, p8_at,
      dif_neg (by omega)]
  · have hk : k.val = (x 1).val := h1
    rw [ix3_of x 0 ⟨k.val, by omega⟩ d (by show (x 0).val = 0; omega) h1.symm h2.symm, p6_at, dif_pos (by omega)]

theorem VV_hi (k : Fin 2304) (d : Fin 128) : VV x2 x4 (ix3 0 k ⟨128 + d.val, by omega⟩) = (1 : EReal) := by
  unfold VV
  rw [View.readCov_eq_canon']
  refine (congrArg (View.canon _) (whole3 _ (ix3 0 k ⟨128 + d.val, by omega⟩))).trans ?_
  canon_tiles x h using VV_cov x2 x4 k ⟨128 + d.val, by omega⟩
  · have hk : 128 + d.val = 128 + (x 2).val := h2
    rw [ix3_of x 0 k d (by show (x 0).val = 0; omega) h1.symm (by omega), p9_at]
  · have hk : 128 + d.val = (x 2).val := h2
    exact absurd hk (by omega)
  · have hk : 128 + d.val = (x 2).val := h2
    exact absurd hk (by omega)

end scratch

/-- What a grid point's four stores leave in the result block. -/
def outC (x0 : Vec Ideal S2048x128 .bf16) (K : Vec Ideal S1x128x2304 .bf16) (W : Vec Ideal S1x2304x256 .bf16)
    (L : Vec Ideal S1x8x128 .f32) (g : Vec Ideal S1x1x128 .f32) : Vec Ideal S2048x128 .bf16 :=
  View.canon (Val := Elt Ideal) (e := .bf16)
    [⟨Rect.unit ![1536, 0] ![512, 128] inb_S2048x128_S512x128_1536_0, k0_pay1 (k0_pay10 L) (k0_pay143 (k0_pay141 (k0_pay76 (k0_pay75 (View.ld x0 (Rect.unit ![1536, 0] ![512, 128] inb_S2048x128_S512x128_1536_0))) K)) W)
        (k0_pay144 (k0_pay141 (k0_pay76 (k0_pay75 (View.ld x0 (Rect.unit ![1536, 0] ![512, 128] inb_S2048x128_S512x128_1536_0))) K))) W g⟩,
      ⟨Rect.unit ![1024, 0] ![512, 128] inb_S2048x128_S512x128_1024_0, k0_pay82 (k0_pay80 (k0_pay10 L) (k0_pay16 (View.ld x0 (Rect.unit ![1024, 0] ![512, 128] inb_S2048x128_S512x128_1024_0)) K) W W g) k0_pay81⟩,
      ⟨Rect.unit ![512, 0] ![512, 128] inb_S2048x128_S512x128_512_0, k0_pay79 (k0_pay77 (k0_pay10 L) (k0_pay15 (View.ld x0 (Rect.unit ![512, 0] ![512, 128] inb_S2048x128_S512x128_512_0)) K) W W g) k0_pay78⟩,
      ⟨Rect.unit ![0, 0] ![512, 128] inb_S2048x128_S512x128_0_0, k0_pay18 (k0_pay10 L) (k0_pay17 (k0_pay11 (View.ld x0 (Rect.unit ![0, 0] ![512, 128] inb_S2048x128_S512x128_0_0))) k0_pay12 (k0_pay13 (View.ld x0 (Rect.unit ![0, 0] ![512, 128] inb_S2048x128_S512x128_0_0))) k0_pay14 K) W W g⟩]

theorem out_A (t : Fin cfg0.N) (h : t.val % 8 = 0) : (outsAt0 m c t.val t.isLt).1 = outC (iblk m c 0 t)
    (KT (iblk m c 1 t) (iblk m c 3 t)) (VV (iblk m c 2 t) (iblk m c 4 t)) (iblk m c 5 t) (iblk m c 6 t) := by
  rw [outsAt0_A m c t h]
  unfold outC KT VV
  frame_out

theorem out_B (t : Fin cfg0.N) (h : ¬ t.val % 8 = 0) : (outsAt0 m c t.val t.isLt).1 = outC (iblk m c 0 t)
    (KT (iblk m c 1 t) (iblk m c 3 t)) (VV (iblk m c 2 t) (iblk m c 4 t)) (iblk m c 5 t) (iblk m c 6 t) := by
  rw [outsAt0_B m c t h]
  unfold outC KT VV
  frame_out

/-- A rank-two index from its coordinates. -/
theorem ix_eta (x : S512x128.Idx) : ∃ (r : Fin 512) (e : Fin 128), x = ix2 r e := by
  refine ⟨⟨(x 0).val, (x 0).isLt⟩, ⟨(x 1).val, (x 1).isLt⟩, funext fun a => ?_⟩
  match a with
  | ⟨0, _⟩ => rfl
  | ⟨1, _⟩ => rfl

/-- A unit's query rows are rows of the block. -/
theorem ld_row (x0 : Vec Ideal S2048x128 .bf16) (o : ℕ) (inb : ∀ a, (![o, 0] : Fin 2 → ℕ) a + (![512, 128] : Fin 2 → ℕ) a ≤ S2048x128.size a)
    (r : Fin 512) (i : Fin 2048) (hi : i.val = o + r.val) :
    (fun e : Fin 128 => View.ld x0 (Rect.unit ![o, 0] ![512, 128] inb) (ix2 r e)) = fun e => x0 (ix2 i e) := by
  funext e
  rw [View.ld_apply]
  refine congrArg x0 (funext fun a => ?_)
  match a with
  | ⟨0, _⟩ => exact Fin.ext ((Rect.idx_unit_val ..).trans hi.symm)
  | ⟨1, _⟩ => exact Fin.ext ((Rect.idx_unit_val ..).trans (Nat.zero_add _))

theorem outC_at (x0 : Vec Ideal S2048x128 .bf16) (K : Vec Ideal S1x128x2304 .bf16) (W : Vec Ideal S1x2304x256 .bf16)
    (L : Vec Ideal S1x8x128 .f32) (g : Vec Ideal S1x1x128 .f32) (i : Fin 2048) (d : Fin 128) :
    outC x0 K W L g (ix2 i d) = kRow (fun e => x0 (ix2 i e)) K W L g d := by
  unfold outC
  canon_tiles x h
  · obtain ⟨r, e, rfl⟩ := ix_eta x
    obtain rfl : d = e := Fin.ext h1
    exact (u3_at _ K W L g r d).trans (congrArg (fun f => kRow f K W L g d) (ld_row x0 1536 _ r i h0))
  · obtain ⟨r, e, rfl⟩ := ix_eta x
    obtain rfl : d = e := Fin.ext h1
    exact (u2_at _ K W L g r d).trans (congrArg (fun f => kRow f K W L g d) (ld_row x0 1024 _ r i h0))
  · obtain ⟨r, e, rfl⟩ := ix_eta x
    obtain rfl : d = e := Fin.ext h1
    exact (u1_at _ K W L g r d).trans (congrArg (fun f => kRow f K W L g d) (ld_row x0 512 _ r i h0))
  · obtain ⟨r, e, rfl⟩ := ix_eta x
    obtain rfl : d = e := Fin.ext h1
    exact (u0_at _ K W L g r d).trans (congrArg (fun f => kRow f K W L g d) (ld_row x0 0 _ r i (h0.trans (Nat.zero_add _).symm)))

/-! ## The result block at an index -/

theorem out_row (t : Fin cfg0.N) : (outsAt0 m c t.val t.isLt).1 = outC (iblk m c 0 t)
    (KT (iblk m c 1 t) (iblk m c 3 t)) (VV (iblk m c 2 t) (iblk m c 4 t)) (iblk m c 5 t) (iblk m c 6 t) := by
  by_cases h : t.val % 8 = 0
  · exact out_A m c t h
  · exact out_B m c t h

section row

variable (t : Fin cfg0.N) (b : Fin 4) (h : Fin 8) (hb : t.val = 8 * b.val + h.val)
include hb

theorem K_at (j : Fin 2) (e : Fin 64) (k : Fin 2304) (E : Fin 128) (hE : E.val = 64 * j.val + e.val) :
    KT (iblk m c 1 t) (iblk m c 3 t) (ix3 0 E k) = kall (A_k m c) (A_kc m c) b h j k e := by
  rw [KT_at]
  unfold kall
  by_cases hk : k.val < 256
  · rw [dif_pos hk, dif_pos hk]
    exact blk_1 m c t b h hb ⟨k.val, hk⟩ j e E hE
  · rw [dif_neg hk, dif_neg hk]
    exact blk_3 m c t b h hb ⟨k.val - 256, by omega⟩ j e E hE

theorem V_at (k : Fin 2304) (d : Fin 128) :
    VV (iblk m c 2 t) (iblk m c 4 t) (ix3 0 k ⟨d.val, by omega⟩) = vall (A_v m c) (A_vc m c) b h k d := by
  rw [VV_lo]
  unfold vall
  by_cases hk : k.val < 256
  · rw [dif_pos hk, dif_pos hk]
    exact blk_2 m c t b h hb ⟨k.val, hk⟩ d
  · rw [dif_neg hk, dif_neg hk]
    exact blk_4 m c t b h hb ⟨k.val - 256, by omega⟩ d

end row

/-- The scaled score of the kernel is the layer's score over `log 2`. -/
theorem qfac_eq : ∃ r : ℝ, 0 < r ∧ Ideal.ofBits FTy.f32 1040187392#32 = (r : EReal) ∧ qfac = (r : EReal) * ((1 / Real.log 2 : ℝ) : EReal) := by
  have h8 : Ideal.ofBits FTy.f32 1040187392#32 = ((1 / 8 : ℝ) : EReal) := by
    simp [Ideal.ofBits, Ideal.ieee, -EReal.coe_mul]
    norm_num
  have h2 : Ideal.ofBits FTy.f32 1073741824#32 = ((2 : ℝ) : EReal) := by
    simp [Ideal.ofBits, Ideal.ieee, -EReal.coe_mul]
    norm_num
  refine ⟨1 / 8, by norm_num, h8, ?_⟩
  have hl : Real.log 2 ≠ 0 := (Real.log_pos (by norm_num)).ne'
  unfold qfac
  rw [h8, h2, show Ideal.log ((2 : ℝ) : EReal) = ((Real.log 2 : ℝ) : EReal) by rw [Ideal.log_coe, if_neg (by norm_num)], Ideal.div_coe hl]

/-- A sum whose left factors carry a positive real factor. -/
theorem sum_scale (c : ℝ) (hc : 0 < c) {n : ℕ} (f g : Fin n → EReal) : ∑ e, f e * (c : EReal) * g e = (∑ e, f e * g e) * (c : EReal) := by
  have step : ∀ S : Finset (Fin n), ∑ e ∈ S, f e * (c : EReal) * g e = (∑ e ∈ S, f e * g e) * (c : EReal) := by
    intro S
    induction S using Finset.induction_on with
    | empty => simp
    | insert a S ha ih =>
      rw [Finset.sum_insert ha, Finset.sum_insert ha, ih,
        EReal.right_distrib_of_nonneg_of_ne_top (EReal.coe_nonneg.mpr hc.le) (EReal.coe_ne_top c), mul_right_comm]
  exact step Finset.univ

theorem score_at (q : Fin 128 → EReal) (K : Vec Ideal S1x128x2304 .bf16) (xq xk : A5 2048) (xc : A5 256) (b : Fin 4) (h : Fin 8) (n : Fin 2048)
    (j : Fin 2) (k : Fin 2304) (E : Fin 64 → Fin 128) (hq : ∀ e, q (E e) = xq (ix5 b n h j e) * qfac)
    (hK : ∀ e, K (ix3 0 (E e) k) = kall xk xc b h j k e) :
    ∑ e : Fin 64, q (E e) * K (ix3 0 (E e) k) = sc xq xk xc b n h j k * ((1 / Real.log 2 : ℝ) : EReal) := by
  obtain ⟨r, hr, h8, hf⟩ := qfac_eq
  have hl : 0 < 1 / Real.log 2 := by
    have := Real.log_pos (show (1 : ℝ) < 2 by norm_num)
    positivity
  simp only [hq, hK, hf, ← EReal.coe_mul]
  rw [sum_scale _ (mul_pos hr hl)]
  unfold sc
  rw [h8, EReal.coe_mul, mul_assoc]

theorem kRow_eq (q : Fin 128 → EReal) (K : Vec Ideal S1x128x2304 .bf16) (W : Vec Ideal S1x2304x256 .bf16) (L : Vec Ideal S1x8x128 .f32)
    (g : Vec Ideal S1x1x128 .f32) (d : Fin 128) (lam : EReal) (s s' : Fin 2304 → EReal) (v : Fin 2304 → Fin 128 → EReal) (gg : Fin 128 → EReal)
    (h0 : ∀ k, ∑ e : Fin 64, q ⟨e.val, by omega⟩ * K (ix3 0 ⟨e.val, by omega⟩ k) = s k * ((1 / Real.log 2 : ℝ) : EReal))
    (h1 : ∀ k, ∑ e : Fin 64, q ⟨64 + e.val, by omega⟩ * K (ix3 0 ⟨64 + e.val, by omega⟩ k) = s' k * ((1 / Real.log 2 : ℝ) : EReal))
    (hv : ∀ k (d : Fin 128), W (ix3 0 k ⟨d.val, by omega⟩) = v k d) (hw : ∀ k (d : Fin 128), W (ix3 0 k ⟨128 + d.val, by omega⟩) = (1 : EReal))
    (hl : kLam L = lam) (hg : ∀ d, g (ix3 0 0 d) = gg d) : kRow q K W L g d = headNorm (kO lam (wexp s) (wexp s') v) gg d := by
  unfold kRow
  rw [hl]
  simp only [h0, h1]
  unfold uRow kO
  simp only [hv, hw, mul_one, wexp2_scaled, hg]

/-- The call's row: the layer's differential attention with the sums divided last. -/
theorem out_at (t : Fin cfg0.N) (b : Fin 4) (h : Fin 8) (hb : t.val = 8 * b.val + h.val) (n : Fin 2048) (d : Fin 128) :
    (outsAt0 m c t.val t.isLt).1 (ix2 n d)
      = headNorm (kO (lamS (m ((c : Thread nD τ).loc main_arg6)) (m ((c : Thread nD τ).loc main_arg7))
          (m ((c : Thread nD τ).loc main_arg8)) (m ((c : Thread nD τ).loc main_arg9)))
        (wexp (sc (A_q m c) (A_k m c) (A_kc m c) b n h 0)) (wexp (sc (A_q m c) (A_k m c) (A_kc m c) b n h 1))
        (vall (A_v m c) (A_vc m c) b h)) (fun d => m ((c : Thread nD τ).loc main_arg10) (ix2 1 d)) d := by
  have h0 := fun k => score_at (fun e => iblk m c 0 t (ix2 n e)) (KT (iblk m c 1 t) (iblk m c 3 t)) (A_q m c) (A_k m c) (A_kc m c) b h n 0 k
    (fun e => ⟨e.val, by omega⟩) (fun e => blk_0 m c t b h hb n 0 e _ (by show e.val = 64 * 0 + e.val; omega))
      (fun e => K_at m c t b h hb 0 e k _ (by show e.val = 64 * 0 + e.val; omega))
  have h1 := fun k => score_at (fun e => iblk m c 0 t (ix2 n e)) (KT (iblk m c 1 t) (iblk m c 3 t)) (A_q m c) (A_k m c) (A_kc m c) b h n 1 k
    (fun e => ⟨64 + e.val, by omega⟩) (fun e => blk_0 m c t b h hb n 1 e _ (by show 64 + e.val = 64 * 1 + e.val; omega))
      (fun e => K_at m c t b h hb 1 e k _ (by show 64 + e.val = 64 * 1 + e.val; omega))
  have hv := fun k d => V_at m c t b h hb k d
  have hw := fun k d => VV_hi (iblk m c 2 t) (iblk m c 4 t) k d
  have hg := fun d => blk_6 m c t d
  have hl := lam_blk m c t
  rw [out_row m c t, outC_at]
  exact kRow_eq (fun e => iblk m c 0 t (ix2 n e)) (KT (iblk m c 1 t) (iblk m c 3 t)) (VV (iblk m c 2 t) (iblk m c 4 t)) (iblk m c 5 t) (iblk m c 6 t)
    d _ _ _ _ _ h0 h1 hv hw hl hg

end Cert.KernelIdeal.Val
-- ==== Proof.AttRef.lean ====
/- The attention's reference read at an index. -/
module

public import proofs.«01_k».proof.Proof.Gen.ReferenceIdeal.Read
public import proofs.«01_k».proof.Proof.AttSpec
public import Idealize.ShloMosaic.Lib.KernelVsHost

@[expose] public section

noncomputable section

namespace Cert.ReferenceIdeal.Val

open Cert.ReferenceIdeal Cert.ReferenceIdeal.Gen Cert.ReferenceIdeal.Read Idealize.ShloMosaic Idealize.SL.Sem Cert.AttSpec

variable (x0 x1 : Vec Ideal S4x2048x8x2x64 .f32) (x2 : Vec Ideal S4x2048x8x128 .f32) (x3 : Vec Ideal S4x256x8x2x64 .f32)
  (x4 : Vec Ideal S4x256x8x128 .f32) (x6 x7 x8 x9 : Vec Ideal S2x64 .f32) (x10 : Vec Ideal S2x128 .f32)

theorem lam_at (i : S_.Idx) : val_main_v15 (F := Ideal) x6 x7 x8 x9 i = lamS x6 x7 x8 x9 := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

theorem s_at (b : Fin 4) (h : Fin 8) (j : Fin 2) (n : Fin 2048) (k : Fin 2304) :
    val_main_v20 (F := Ideal) x0 x1 x3 (ix5 b h j n k) = sc x0 x1 x3 b n h j k := by
  pointwise [val_main_v20, val_main_v19, val_main_v18, val_main_v16, val_main_cst_2]
  rfl

theorem v_at (b : Fin 4) (k : Fin 2304) (h : Fin 8) (d : Fin 128) :
    val_main_v17 (F := Ideal) x2 x4 (ix4 b k h d) = vall x2 x4 b h k d := by
  pointwise [val_main_v17]
  rfl

theorem bitsBot : Ideal.ofBits FTy.f32 4286578688#32 = ⊥ := by simp [Ideal.ofBits, Ideal.ieee]

theorem red : S4x8x2x2048x2304.Reduces [4] S4x8x2x2048 := by decide

theorem red_at (y : FVec Ideal S4x8x2x2048x2304 .f32) (b : Fin 4) (h : Fin 8) (j : Fin 2) (n : Fin 2048) :
    multiReduction .maximumf [4] S4x8x2x2048 y 0xFF800000#32 red (.inl rfl) rfl (ix4 b h j n) = top fun k => y (ix5 b h j n k) := by
  pointwise
  rw [bitsBot]
  rfl

theorem m_at (b : Fin 4) (h : Fin 8) (j : Fin 2) (n : Fin 2048) :
    val_main_v23 (F := Ideal) x0 x1 x3 (ix4 b h j n) = top (sc x0 x1 x3 b n h j) := by
  have e : val_main_v21 (F := Ideal) x0 x1 x3 (ix4 b h j n) = top (sc x0 x1 x3 b n h j) := by
    have hr : (val_main_v21 (F := Ideal) x0 x1 x3 : FVec Ideal S4x8x2x2048 .f32)
        = multiReduction (F := Ideal) (s := S4x8x2x2048x2304) (φ := .f32) .maximumf [4] S4x8x2x2048 (val_main_v20 (F := Ideal) x0 x1 x3) 0xFF800000#32 red (.inl rfl) rfl := by
      unfold val_main_v21 val_main_cst_3
      generalize val_main_v20 (F := Ideal) x0 x1 x3 = y
      exact hostReduce_maximumf_eq_multiReduction (F := Ideal) (s := S4x8x2x2048x2304) (t := S4x8x2x2048) (φ := .f32) y 0xFF800000#32 _ _ red (.inl rfl) rfl
    rw [hr, red_at]
    exact congrArg top (funext fun k => s_at x0 x1 x3 b h j n k)
  have z : val_main_v22 (F := Ideal) (ix4 b h j n) = ⊥ := by
    pointwise [val_main_v22, val_main_cst_4]
    rw [bitsBot]
  rw [val_main_v23_apply, e, z]
  generalize top (sc x0 x1 x3 b n h j) = y
  exact max_eq_right bot_le

theorem w_at (b : Fin 4) (h : Fin 8) (j : Fin 2) (n : Fin 2048) (k : Fin 2304) :
    val_main_v27 (F := Ideal) x0 x1 x3 (ix5 b h j n k) = wexp (sc x0 x1 x3 b n h j) k := by
  pointwise [val_main_v27, val_main_v26, val_main_v25, val_main_v24]
  rw [s_at, m_at]
  rfl

theorem p_at (b : Fin 4) (h : Fin 8) (j : Fin 2) (n : Fin 2048) (k : Fin 2304) :
    val_main_v31 (F := Ideal) x0 x1 x3 (ix5 b h j n k)
      = Ideal.div (wexp (sc x0 x1 x3 b n h j) k) (∑ k, wexp (sc x0 x1 x3 b n h j) k) := by
  pointwise [val_main_v31, val_main_v30, val_main_v29, val_main_v28, val_main_cst_5]
  simp only [w_at]

theorem p0_at (b : Fin 4) (h : Fin 8) (n : Fin 2048) (k : Fin 2304) :
    val_main_v33 (F := Ideal) x0 x1 x3 (ix4 b h n k) = val_main_v31 (F := Ideal) x0 x1 x3 (ix5 b h 0 n k) := by
  unfold val_main_v33 val_main_v32
  generalize val_main_v31 (F := Ideal) x0 x1 x3 = y
  refine (shapeCast_apply _ _ (ix4 b h n k) (ix5 b h 0 n k) ?_).trans ?_
  · rewrite [Shape.rowMajor_val_five, Shape.rowMajor_val_four]
    show (((b.val * 8 + h.val) * 1 + 0) * 2048 + n.val) * 2304 + k.val = ((b.val * 8 + h.val) * 2048 + n.val) * 2304 + k.val
    omega
  · pointwise
    done

theorem p1_at (b : Fin 4) (h : Fin 8) (n : Fin 2048) (k : Fin 2304) :
    val_main_v35 (F := Ideal) x0 x1 x3 (ix4 b h n k) = val_main_v31 (F := Ideal) x0 x1 x3 (ix5 b h 1 n k) := by
  unfold val_main_v35 val_main_v34
  generalize val_main_v31 (F := Ideal) x0 x1 x3 = y
  refine (shapeCast_apply _ _ (ix4 b h n k) (ix5 b h 0 n k) ?_).trans ?_
  · rewrite [Shape.rowMajor_val_five, Shape.rowMajor_val_four]
    show (((b.val * 8 + h.val) * 1 + 0) * 2048 + n.val) * 2304 + k.val = ((b.val * 8 + h.val) * 2048 + n.val) * 2304 + k.val
    omega
  · pointwise
    done

theorem a_at (b : Fin 4) (h : Fin 8) (n : Fin 2048) (k : Fin 2304) :
    val_main_v38 (F := Ideal) x0 x1 x3 x6 x7 x8 x9 (ix4 b h n k)
      = Ideal.div (wexp (sc x0 x1 x3 b n h 0) k) (∑ k, wexp (sc x0 x1 x3 b n h 0) k)
        - lamS x6 x7 x8 x9 * Ideal.div (wexp (sc x0 x1 x3 b n h 1) k) (∑ k, wexp (sc x0 x1 x3 b n h 1) k) := by
  rw [val_main_v38_apply, val_main_v37_apply, val_main_v36_apply, p0_at, p1_at, p_at, p_at, lam_at]
  generalize Ideal.div (wexp (sc x0 x1 x3 b n h 0) k) (∑ k, wexp (sc x0 x1 x3 b n h 0) k) = y
  generalize Ideal.div (wexp (sc x0 x1 x3 b n h 1) k) (∑ k, wexp (sc x0 x1 x3 b n h 1) k) = z
  generalize lamS x6 x7 x8 x9 = l
  rfl

theorem o_at (b : Fin 4) (n : Fin 2048) (h : Fin 8) (d : Fin 128) :
    val_main_v40 (F := Ideal) x0 x1 x2 x3 x4 x6 x7 x8 x9 (ix4 b n h d)
      = rO (lamS x6 x7 x8 x9) (wexp (sc x0 x1 x3 b n h 0)) (wexp (sc x0 x1 x3 b n h 1)) (vall x2 x4 b h) d := by
  pointwise [val_main_v40, val_main_v39]
  simp only [v_at, a_at]
  rfl

theorem n_at (b : Fin 4) (n : Fin 2048) (h : Fin 8) (d : Fin 128) :
    val_main_v57 (F := Ideal) x0 x1 x2 x3 x4 x6 x7 x8 x9 x10 (ix4 b n h d)
      = headNorm (rO (lamS x6 x7 x8 x9) (wexp (sc x0 x1 x3 b n h 0)) (wexp (sc x0 x1 x3 b n h 1)) (vall x2 x4 b h))
        (fun d => x10 (ix2 1 d)) d := by
  pointwise [val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_cst_6,
    val_main_cst_7, val_main_cst_8, val_main_cst_9]
  simp only [o_at]
  rfl

theorem ix4_val (b' : Fin 4) (n' : Fin 2048) (h' : Fin 8) (d' : Fin 128) (b : Fin 4) (n : Fin 2048) (h : Fin 8) (d : Fin 128)
    (hb : b'.val = b.val) (hn : n'.val = n.val) (hh : h'.val = h.val) (hd : d'.val = d.val) : ix4 b' n' h' d' = ix4 b n h d := by
  rw [Fin.ext hb, Fin.ext hn, Fin.ext hh, Fin.ext hd]

theorem res_at (b : Fin 4) (n : Fin 2048) (h : Fin 8) (d : Fin 128) (R : Fin 8192) (C : Fin 1024) (hR : R.val = 2048 * b.val + n.val)
    (hC : C.val = 128 * h.val + d.val) :
    val_main_v59 (F := Ideal) x0 x1 x2 x3 x4 x6 x7 x8 x9 x10 (ix2 R C)
      = headNorm (rO (lamS x6 x7 x8 x9) (wexp (sc x0 x1 x3 b n h 0)) (wexp (sc x0 x1 x3 b n h 1)) (vall x2 x4 b h))
        (fun d => x10 (ix2 1 d)) d := by
  rw [← n_at]
  pointwise [val_main_v59, val_main_v58]
  rw [ix4_val (⟨R.val / 2048, _⟩ : Fin 4) (⟨R.val % 2048, _⟩ : Fin 2048) (⟨C.val / 128, _⟩ : Fin 8) (⟨C.val % 128, _⟩ : Fin 128) b n h d
    (by show R.val / 2048 = b.val; omega) (by show R.val % 2048 = n.val; omega) (by show C.val / 128 = h.val; omega)
    (by show C.val % 128 = d.val; omega)]

end Cert.ReferenceIdeal.Val
-- ==== Proof.AttPre.lean ====
/- What the precondition says of the values and the lambda vectors: their entries are real numbers. -/
module

public import proofs.«01_k».proof.Proof.Gen.Pre_finite
public import proofs.«01_k».proof.Proof.AttSpec
public import Idealize.ShloMosaic.Lib.Pointwise

@[expose] public section

noncomputable section

namespace Cert.AttPre

open Idealize.ShloMosaic Cert.AttSpec

/-- An array whose entries compare below infinity in absolute value has real entries. -/
theorem fin_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    ∃ r : ℝ, x i = (r : EReal) := by
  have e := congrFun h i
  have e' : FloatOps.cmpf (F := Ideal) .olt (FloatOps.hostAbsf (x i)) (Ideal.ofBits FTy.f32 0x7F800000#32) = 1#1 := e
  have hi : Ideal.ofBits FTy.f32 0x7F800000#32 = ⊤ := by simp [Ideal.ofBits, Ideal.ieee]
  rw [hi] at e'
  have e2 : Ideal.cmp .olt (max (x i : EReal) (-(x i : EReal))) ⊤ = 1#1 := e'
  generalize x i = y at e2
  have key : ∀ y : EReal, Ideal.cmp .olt (max y (-y)) ⊤ = 1#1 → ∃ r : ℝ, y = (r : EReal) := by
    intro y hy
    induction y with
    | bot => simp [Ideal.cmp] at hy
    | top => simp [Ideal.cmp] at hy
    | coe r => exact ⟨r, rfl⟩
  exact key y e2

/-- The same, of the second row of a pair of vectors, read after a slice and a reshape. -/
theorem row_of (x : FVec Ideal ⟨2, ![2, 64]⟩ .f32) (hs : (⟨2, ![2, 64]⟩ : Shape).Slices ![1, 0] ⟨2, ![1, 64]⟩)
    (hc : (⟨2, ![1, 64]⟩ : Shape).ShapeCasts ⟨1, ![64]⟩) (hb : (⟨0, ![]⟩ : Shape).BroadcastsInDim ⟨1, ![64]⟩ (![] : Fin 0 → Fin 1))
    (h : cmpf .olt (Host.absf (shapeCast ⟨1, ![64]⟩ (extractStridedSlice ⟨2, ![1, 64]⟩ ![1, 0] x hs) hc))
      (broadcastInDim ⟨1, ![64]⟩ ![] hb (constant ⟨0, ![]⟩ .f32 0x7F800000#32)) = fun _ => 1#1) (e : Fin 64) :
    ∃ r : ℝ, x (ix2 1 e) = (r : EReal) := by
  have e0 := fin_of _ hb h (ix1 e)
  have e1 : shapeCast ⟨1, ![64]⟩ (extractStridedSlice ⟨2, ![1, 64]⟩ ![1, 0] x hs) hc (ix1 e) = x (ix2 1 e) := by
    pointwise []
  rwa [e1] at e0

theorem sum_real (p q : Fin 64 → EReal) (hp : ∀ e, ∃ r : ℝ, p e = (r : EReal)) (hq : ∀ e, ∃ r : ℝ, q e = (r : EReal)) :
    ∃ r : ℝ, ∑ e, p e * q e = (r : EReal) := by
  choose a ha using hp
  choose b hb using hq
  exact ⟨∑ e, a e * b e, by simp only [ha, hb, ← EReal.coe_mul, coe_sum]⟩

/-- The mixing factor of real lambda vectors is a real number. -/
theorem lam_real (p q r s : A2 64) (hp : ∀ e : Fin 64, ∃ x : ℝ, p (ix2 1 e) = (x : EReal)) (hq : ∀ e : Fin 64, ∃ x : ℝ, q (ix2 1 e) = (x : EReal))
    (hr : ∀ e : Fin 64, ∃ x : ℝ, r (ix2 1 e) = (x : EReal)) (hs : ∀ e : Fin 64, ∃ x : ℝ, s (ix2 1 e) = (x : EReal)) :
    ∃ x : ℝ, lamS p q r s = (x : EReal) := by
  obtain ⟨a, ha⟩ := sum_real _ _ hp hq
  obtain ⟨b, hb⟩ := sum_real _ _ hr hs
  obtain ⟨k, hk⟩ : ∃ k : ℝ, Ideal.ofBits FTy.f32 1052116297#32 = (k : EReal) :=
    ⟨_, by simp only [Ideal.ofBits, Ideal.ieee]; norm_num; rfl⟩
  unfold lamS
  rw [ha, hb, hk, Ideal.exp_coe, Ideal.exp_coe, ← EReal.coe_sub, ← EReal.coe_add]
  exact ⟨_, rfl⟩

/-- Every value of the joint sequence is real when both halves are. -/
theorem vall_real (lat : A4 2048) (ctx : A4 256) (hl : ∀ i, ∃ r : ℝ, lat i = (r : EReal)) (hc : ∀ i, ∃ r : ℝ, ctx i = (r : EReal))
    (b : Fin 4) (h : Fin 8) (k : Fin 2304) (d : Fin 128) : ∃ r : ℝ, vall lat ctx b h k d = (r : EReal) := by
  unfold vall
  split
  · exact hc _
  · exact hl _

end Cert.AttPre
-- ==== Proof.AttTie.lean ====
/- The attention call beside its reference: both results are the differential attention row by row. -/
module

public import proofs.«01_k».proof.Proof.AttKer
public import proofs.«01_k».proof.Proof.AttRef
public import proofs.«01_k».proof.Proof.AttPre
public import proofs.«01_k».proof.Proof.Gen.ReferenceIdeal.Run

@[expose] public section

noncomputable section

namespace Cert.AttTie

open Idealize.ShloMosaic Idealize.SL.Sem Cert.AttSpec Cert.AttPre

/-- The call's result array is the reference's result on the same arguments, where values and lambda vectors are real. -/
theorem tie (m : (ℓ : Loc Cert.KernelIdeal.nD Cert.KernelIdeal.τ Cert.KernelIdeal.sig) → Buf (Elt Ideal) ℓ) (c : Dev Cert.KernelIdeal.nD)
    (h2 : ∀ i, ∃ r : ℝ, (m ((c.tc : Thread Cert.KernelIdeal.nD Cert.KernelIdeal.τ).loc Cert.KernelIdeal.main_arg2)) i = (r : EReal))
    (h4 : ∀ i, ∃ r : ℝ, (m ((c.tc : Thread Cert.KernelIdeal.nD Cert.KernelIdeal.τ).loc Cert.KernelIdeal.main_arg4)) i = (r : EReal))
    (h6 : ∀ e : Fin 64, ∃ r : ℝ, (m ((c.tc : Thread Cert.KernelIdeal.nD Cert.KernelIdeal.τ).loc Cert.KernelIdeal.main_arg6)) (ix2 1 e) = (r : EReal))
    (h7 : ∀ e : Fin 64, ∃ r : ℝ, (m ((c.tc : Thread Cert.KernelIdeal.nD Cert.KernelIdeal.τ).loc Cert.KernelIdeal.main_arg7)) (ix2 1 e) = (r : EReal))
    (h8 : ∀ e : Fin 64, ∃ r : ℝ, (m ((c.tc : Thread Cert.KernelIdeal.nD Cert.KernelIdeal.τ).loc Cert.KernelIdeal.main_arg8)) (ix2 1 e) = (r : EReal))
    (h9 : ∀ e : Fin 64, ∃ r : ℝ, (m ((c.tc : Thread Cert.KernelIdeal.nD Cert.KernelIdeal.τ).loc Cert.KernelIdeal.main_arg9)) (ix2 1 e) = (r : EReal)) :
    Cert.KernelIdeal.Value.G14 m c = Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) := by
  funext i
  have b0 : (i 0).val < 8192 := (i 0).isLt
  have b1 : (i 1).val < 1024 := (i 1).isLt
  have hp : Cert.KernelIdeal.Value.pt14Of i < Cert.KernelIdeal.cfg0.N :=
    lt_of_lt_of_eq (show 8 * ((i 0).val / 2048 - 0) + 1 * ((i 1).val / 128 - 0) < 32 by omega) Cert.KernelIdeal.Gen.N_0.symm
  have hv : Cert.KernelIdeal.Value.pt14Of i = 8 * ((i 0).val / 2048) + (i 1).val / 128 := by
    show 8 * ((i 0).val / 2048 - 0) + 1 * ((i 1).val / 128 - 0) = _; omega
  have e : Cert.KernelIdeal.Value.G14 m c i = (Cert.KernelIdeal.Gen.outsAt0 m c (Cert.KernelIdeal.Value.pt14Of i) hp).1 (Cert.KernelIdeal.Value.loc14Of i) := by
    rw [Cert.KernelIdeal.Value.outsAt0_sweep]
    unfold Cert.KernelIdeal.Value.G14
    rw [dif_pos hp]
  have el : Cert.KernelIdeal.Value.loc14Of i = ix2 ⟨(i 0).val % 2048, Nat.mod_lt _ (by decide)⟩ ⟨(i 1).val % 128, Nat.mod_lt _ (by decide)⟩ := by
    funext a
    match a with
    | ⟨0, _⟩ => rfl
    | ⟨1, _⟩ => rfl
  have ei : i = ix2 (⟨(i 0).val, b0⟩ : Fin 8192) (⟨(i 1).val, b1⟩ : Fin 1024) := by
    funext a
    match a with
    | ⟨0, _⟩ => rfl
    | ⟨1, _⟩ => rfl
  obtain ⟨lam, hlam⟩ := lam_real _ _ _ _ h6 h7 h8 h9
  have er := Cert.ReferenceIdeal.Val.res_at
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      ⟨(i 0).val / 2048, by omega⟩ ⟨(i 0).val % 2048, by omega⟩ ⟨(i 1).val / 128, by omega⟩ ⟨(i 1).val % 128, by omega⟩
      (⟨(i 0).val, b0⟩ : Fin 8192) (⟨(i 1).val, b1⟩ : Fin 1024)
      (by show (i 0).val = 2048 * ((i 0).val / 2048) + (i 0).val % 2048; omega)
      (by show (i 1).val = 128 * ((i 1).val / 128) + (i 1).val % 128; omega)
  have ek := Cert.KernelIdeal.Val.out_at m c ⟨Cert.KernelIdeal.Value.pt14Of i, hp⟩ ⟨(i 0).val / 2048, by omega⟩ ⟨(i 1).val / 128, by omega⟩ hv
      ⟨(i 0).val % 2048, by omega⟩ ⟨(i 1).val % 128, by omega⟩
  rw [← ei] at er
  rw [e, el, er]
  refine ek.trans ?_
  rw [hlam]
  exact norm_eq lam _ _ _ _ (fun k => wexp_real _ k) (fun k => wexp_real _ k) (fun k d => vall_real _ _ h2 h4 _ _ k d) _

end Cert.AttTie
-- ==== Proof.Att0Spec.lean ====
/- The head's norm and the mixing factor with the first layer's constants, and that the two orders agree there as well. -/
module

public import proofs.«01_k».proof.Proof.AttSpec

@[expose] public section

noncomputable section

namespace Cert.Att0Spec

open Idealize.ShloMosaic Cert.AttSpec

/-- The head's norm, gain and the first layer's constant factor. -/
def headNorm0 (o g : Fin 128 → EReal) (d : Fin 128) : EReal :=
  o d * Ideal.rsqrt (Ideal.div (∑ x, o x * o x) (Ideal.ofBits FTy.f32 1124073472#32) + Ideal.ofBits FTy.f32 897988541#32)
    * g d * Ideal.ofBits FTy.f32 1061997773#32

/-- The first layer's constant factor is a multiple of the second's. -/
theorem factor : ∃ k : EReal, Ideal.ofBits FTy.f32 1061997773#32 = k * Ideal.ofBits FTy.f32 1059388764#32 := by
  obtain ⟨a, ha⟩ : ∃ a : ℝ, Ideal.ofBits FTy.f32 1061997773#32 = (a : EReal) :=
    ⟨_, by simp only [Ideal.ofBits, Ideal.ieee]; norm_num; rfl⟩
  obtain ⟨b, hb, hb0⟩ : ∃ b : ℝ, Ideal.ofBits FTy.f32 1059388764#32 = (b : EReal) ∧ b ≠ 0 := by
    refine ⟨10812764 / 16777216, ?_, by norm_num⟩
    simp [Ideal.ofBits, Ideal.ieee, -EReal.coe_mul]
    norm_num
  refine ⟨((a / b : ℝ) : EReal), ?_⟩
  rw [ha, hb, ← EReal.coe_mul, div_mul_cancel₀ a hb0]

/-- So its norm is the second layer's with other gains. -/
theorem headNorm0_eq (k : EReal) (hk : Ideal.ofBits FTy.f32 1061997773#32 = k * Ideal.ofBits FTy.f32 1059388764#32)
    (o g : Fin 128 → EReal) (d : Fin 128) : headNorm0 o g d = headNorm o (fun d => g d * k) d := by
  unfold headNorm0 headNorm
  rw [hk]
  simp only [mul_assoc]

/-- The two orders agree after the head's norm, the values and the mixing factor finite. -/
theorem norm_eq0 {n : ℕ} (lam : ℝ) (w w' : Fin n → EReal) (v : Fin n → Fin 128 → EReal) (g : Fin 128 → EReal)
    (hw : ∀ k, ∃ r : ℝ, 0 ≤ r ∧ w k = (r : EReal)) (hw' : ∀ k, ∃ r : ℝ, 0 ≤ r ∧ w' k = (r : EReal))
    (hv : ∀ k d, ∃ r : ℝ, v k d = (r : EReal)) (d : Fin 128) :
    headNorm0 (kO (lam : EReal) w w' v) g d = headNorm0 (rO (lam : EReal) w w' v) g d := by
  obtain ⟨k, hk⟩ := factor
  rw [headNorm0_eq k hk, headNorm0_eq k hk]
  exact norm_eq lam w w' v _ hw hw' hv d

/-- The mixing factor from the four lambda vectors of the first layer. -/
def lamS0 (p q r s : A2 64) : EReal :=
  Ideal.exp (∑ e : Fin 64, p (ix2 0 e) * q (ix2 0 e)) - Ideal.exp (∑ e : Fin 64, r (ix2 0 e) * s (ix2 0 e))
    + Ideal.ofBits FTy.f32 1045220557#32

end Cert.Att0Spec
-- ==== Proof.Att0Host.lean ====
/- The first layer: what the host lays out for the attention call, read at an index, and the blocks the call's windows bring in. -/
module

public import proofs.«01_k».proof.Proof.Gen.Att0Ideal.Value
public import proofs.«01_k».proof.Proof.Att0Spec
public import Idealize.ShloMosaic.Lib.Pipeline.ValueKit
public import Idealize.ShloMosaic.Lib.Pointwise

@[expose] public section

noncomputable section

namespace Cert.Att0Ideal.Val

open Cert.Att0Ideal Cert.Att0Ideal.Gen Idealize.ShloMosaic Idealize.ShloMosaic.TcCoe Idealize.SL.Sem

variable (m : (ℓ : Loc nD τ sig) → Buf (Elt Ideal) ℓ) (c : Dev nD)

/-- The factor the queries are scaled by. -/
def qfac : EReal := Ideal.div (Ideal.ofBits FTy.f32 1040187392#32) (Ideal.log (Ideal.ofBits FTy.f32 1073741824#32))

section host

variable (z y : FVec Ideal S8192x512 .f32) (x0 x1 : Vec Ideal S4x2048x8x2x64 .f32) (x2 : Vec Ideal S4x2048x8x128 .f32)
  (x3 : Vec Ideal S4x256x8x2x64 .f32) (x4 : Vec Ideal S4x256x8x128 .f32)

/-- The latent rows' projections side by side. -/
def plat : FVec Ideal S8192x4096 .bf16 :=
  truncf .bf16 (concatenate S8192x4096 1 [⟨S8192x512, z⟩, ⟨S8192x512, y⟩,
    ⟨S8192x1024, mulf (shapeCast S8192x1024 x0 shapeCasts_S4x2048x8x2x64_S8192x1024)
      (broadcastInDim S8192x1024 ![] bcast_S_S8192x1024 (Host.divf (constant S_ .f32 0x3E000000#32) (Host.log (constant S_ .f32 0x40000000#32))))⟩,
    ⟨S8192x1024, shapeCast S8192x1024 x1 shapeCasts_S4x2048x8x2x64_S8192x1024⟩,
    ⟨S8192x1024, shapeCast S8192x1024 x2 shapeCasts_S4x2048x8x128_S8192x1024⟩]
    concatenates_S8192x512_S8192x512_S8192x1024_S8192x1024_S8192x1024_S8192x4096_d1) bitsLt_bf16_f32

/-- The context rows' keys and values side by side. -/
def pctx : FVec Ideal S1024x2048 .bf16 :=
  truncf .bf16 (concatenate S1024x2048 1 [⟨S1024x1024, shapeCast S1024x1024 x3 shapeCasts_S4x256x8x2x64_S1024x1024⟩,
    ⟨S1024x1024, shapeCast S1024x1024 x4 shapeCasts_S4x256x8x128_S1024x1024⟩] concatenates_S1024x1024_S1024x1024_S1024x2048_d1) bitsLt_bf16_f32

/-- Index components of a flattened row of heads. -/
theorem ix5_eq {A B : ℕ} (b : Fin A) (n : Fin B) (h : Fin 8) (j : Fin 2) (e : Fin 64) (b' : Fin A) (n' : Fin B) (h' : Fin 8) (j' : Fin 2) (e' : Fin 64)
    (hb : b.val = b'.val) (hn : n.val = n'.val) (hh : h.val = h'.val) (hj : j.val = j'.val) (he : e.val = e'.val) :
    ix5 b n h j e = ix5 b' n' h' j' e' := by
  rw [Fin.ext hb, Fin.ext hn, Fin.ext hh, Fin.ext hj, Fin.ext he]

theorem ix4_eq {A B : ℕ} (b : Fin A) (n : Fin B) (h : Fin 8) (e : Fin 128) (b' : Fin A) (n' : Fin B) (h' : Fin 8) (e' : Fin 128)
    (hb : b.val = b'.val) (hn : n.val = n'.val) (hh : h.val = h'.val) (he : e.val = e'.val) : ix4 b n h e = ix4 b' n' h' e' := by
  rw [Fin.ext hb, Fin.ext hn, Fin.ext hh, Fin.ext he]

theorem plat_q (b : Fin 4) (n : Fin 2048) (h : Fin 8) (j : Fin 2) (e : Fin 64) (R : Fin 8192) (C : Fin 4096)
    (hR : R.val = 2048 * b.val + n.val) (hC : C.val = 1024 + 128 * h.val + 64 * j.val + e.val) :
    plat z y x0 x1 x2 (ix2 R C) = x0 (ix5 b n h j e) * qfac := by
  pointwise [plat]
  rw [dif_neg (by omega), dif_neg (by omega), dif_pos (by omega)]
  refine congrArg (fun i => x0 i * qfac) (ix5_eq _ _ _ _ _ _ _ _ _ _ ?_ ?_ ?_ ?_ ?_) <;> simp only [] <;> omega

theorem plat_k (b : Fin 4) (n : Fin 2048) (h : Fin 8) (j : Fin 2) (e : Fin 64) (R : Fin 8192) (C : Fin 4096)
    (hR : R.val = 2048 * b.val + n.val) (hC : C.val = 2048 + 128 * h.val + 64 * j.val + e.val) :
    plat z y x0 x1 x2 (ix2 R C) = x1 (ix5 b n h j e) := by
  pointwise [plat]
  rw [dif_neg (by omega), dif_neg (by omega), dif_neg (by omega), dif_pos (by omega)]
  refine congrArg x1 (ix5_eq _ _ _ _ _ _ _ _ _ _ ?_ ?_ ?_ ?_ ?_) <;> simp only [] <;> omega

theorem plat_v (b : Fin 4) (n : Fin 2048) (h : Fin 8) (e : Fin 128) (R : Fin 8192) (C : Fin 4096)
    (hR : R.val = 2048 * b.val + n.val) (hC : C.val = 3072 + 128 * h.val + e.val) :
    plat z y x0 x1 x2 (ix2 R C) = x2 (ix4 b n h e) := by
  pointwise [plat]
  rw [dif_neg (by omega), dif_neg (by omega), dif_neg (by omega), dif_neg (by omega)]
  refine congrArg x2 (ix4_eq _ _ _ _ _ _ _ _ ?_ ?_ ?_ ?_) <;> simp only [] <;> omega

theorem pctx_k (b : Fin 4) (n : Fin 256) (h : Fin 8) (j : Fin 2) (e : Fin 64) (R : Fin 1024) (C : Fin 2048)
    (hR : R.val = 256 * b.val + n.val) (hC : C.val = 128 * h.val + 64 * j.val + e.val) :
    pctx x3 x4 (ix2 R C) = x3 (ix5 b n h j e) := by
  pointwise [pctx]
  rw [dif_pos (by omega)]
  refine congrArg x3 (ix5_eq _ _ _ _ _ _ _ _ _ _ ?_ ?_ ?_ ?_ ?_) <;> simp only [] <;> omega

theorem pctx_v (b : Fin 4) (n : Fin 256) (h : Fin 8) (e : Fin 128) (R : Fin 1024) (C : Fin 2048)
    (hR : R.val = 256 * b.val + n.val) (hC : C.val = 1024 + 128 * h.val + e.val) :
    pctx x3 x4 (ix2 R C) = x4 (ix4 b n h e) := by
  pointwise [pctx]
  rw [dif_neg (by omega)]
  refine congrArg x4 (ix4_eq _ _ _ _ _ _ _ _ ?_ ?_ ?_ ?_) <;> simp only [] <;> omega

/-- The four lambda vectors of both layers, stacked and padded to a block of vector registers. -/
def lamp (a b c d : Vec Ideal S2x64 .f32) : Vec Ideal S2x8x128 .f32 :=
  pad S2x8x128 ![0, 0, 0] ![0, 4, 64] ![0, 0, 0]
    (concatenate S2x4x64 1 [⟨S2x1x64, broadcastInDim S2x1x64 ![0, 2] bcast_S2x64_S2x1x64_0_2 a⟩,
      ⟨S2x1x64, broadcastInDim S2x1x64 ![0, 2] bcast_S2x64_S2x1x64_0_2 b⟩, ⟨S2x1x64, broadcastInDim S2x1x64 ![0, 2] bcast_S2x64_S2x1x64_0_2 c⟩,
      ⟨S2x1x64, broadcastInDim S2x1x64 ![0, 2] bcast_S2x64_S2x1x64_0_2 d⟩] concatenates_S2x1x64_S2x1x64_S2x1x64_S2x1x64_S2x4x64_d1)
    (sitofp (F := Ideal) .f32 (constantI S_ 32 0#32)) pads_S2x4x64_S2x8x128_000_040_0640 h_S_

theorem zero_pad : (FloatOps.sitofp FTy.f32 (0#32 : BitVec 32) : Ideal FTy.f32) = (0 : EReal) := by
  simp [FloatOps.sitofp]

theorem lamp_0 (p q r s : Vec Ideal S2x64 .f32) (x : Fin 128) :
    lamp p q r s (ix3 0 0 x) = if h : x.val < 64 then p (ix2 0 ⟨x.val, h⟩) else 0 := by
  pointwise [lamp]
  rw [zero_pad]

theorem lamp_1 (p q r s : Vec Ideal S2x64 .f32) (x : Fin 128) :
    lamp p q r s (ix3 0 1 x) = if h : x.val < 64 then q (ix2 0 ⟨x.val, h⟩) else 0 := by
  pointwise [lamp]
  rw [zero_pad]

theorem lamp_2 (p q r s : Vec Ideal S2x64 .f32) (x : Fin 128) :
    lamp p q r s (ix3 0 2 x) = if h : x.val < 64 then r (ix2 0 ⟨x.val, h⟩) else 0 := by
  pointwise [lamp]
  rw [zero_pad]

theorem lamp_3 (p q r s : Vec Ideal S2x64 .f32) (x : Fin 128) :
    lamp p q r s (ix3 0 3 x) = if h : x.val < 64 then s (ix2 0 ⟨x.val, h⟩) else 0 := by
  pointwise [lamp]
  rw [zero_pad]

/-- A sum over padded lanes is the sum over the lanes that carry data. -/
theorem sum_pad (f g : Fin 64 → EReal) :
    ∑ x : Fin 128, (if h : x.val < 64 then f ⟨x.val, h⟩ else 0) * (if h : x.val < 64 then g ⟨x.val, h⟩ else 0) = ∑ e, f e * g e := by
  refine (Fin.sum_univ_add (a := 64) (b := 64) _).trans ((congrArg₂ (· + ·) (Finset.sum_congr rfl fun e _ => ?_)
    (Finset.sum_eq_zero fun e _ => ?_)).trans (add_zero _))
  · rw [dif_pos (by show e.val < 64; omega), dif_pos (by show e.val < 64; omega)]
    rfl
  · rw [dif_neg (by show ¬ 64 + e.val < 64; omega), zero_mul]

end host

theorem V_v5 : V m c main_v5 = lamp (m ((c : Thread nD τ).loc main_arg6)) (m ((c : Thread nD τ).loc main_arg7))
    (m ((c : Thread nD τ).loc main_arg8)) (m ((c : Thread nD τ).loc main_arg9)) := rfl

/-- The convolution's columns of the layout, which the attention does not read. -/
def czero : FVec Ideal S8192x512 .f32 := broadcastInDim S8192x512 ![] bcast_S_S8192x512 (constant S_ .f32 0x00000000#32)

def cin : FVec Ideal S8192x512 .f32 := shapeCast S8192x512 (m ((c : Thread nD τ).loc main_arg5)) shapeCasts_S4x2048x512_S8192x512

theorem V_v18 : V m c main_v18 = plat czero (cin m c)
    (m ((c : Thread nD τ).loc main_arg0)) (m ((c : Thread nD τ).loc main_arg1)) (m ((c : Thread nD τ).loc main_arg2)) := rfl

theorem V_v22 : V m c main_v22 = pctx (m ((c : Thread nD τ).loc main_arg3)) (m ((c : Thread nD τ).loc main_arg4)) := rfl

theorem V_v23 (d : Fin 128) : V m c main_v23 (ix3 0 0 d) = m ((c : Thread nD τ).loc main_arg10) (ix2 0 d) := by
  have : V m c main_v23 = shapeCast S2x1x128 (m ((c : Thread nD τ).loc main_arg10)) shapeCasts_S2x128_S2x1x128 := rfl
  rw [this]
  pointwise
  done

end Cert.Att0Ideal.Val
-- ==== Proof.Att0Pay.lean ====
/- The first layer: The attention call's arithmetic read at an index, over any blocks and any scratch contents. -/
module

public import proofs.«01_k».proof.Proof.Gen.Att0Ideal.Value
public import proofs.«01_k».proof.Proof.Att0Spec
public import Idealize.ShloMosaic.Lib.Pipeline.ValueKit
public import Idealize.ShloMosaic.Lib.Pointwise

@[expose] public section

noncomputable section

namespace Cert.Att0Ideal.Val

open Cert.Att0Ideal Cert.Att0Ideal.Gen Idealize.ShloMosaic Idealize.ShloMosaic.TcCoe Idealize.SL.Sem Cert.AttSpec Cert.Att0Spec

variable (q : Vec Ideal S512x128 .bf16) (K : Vec Ideal S1x128x2304 .bf16) (V : Vec Ideal S1x2304x256 .bf16)
  (L : Vec Ideal S1x8x128 .f32) (g : Vec Ideal S1x1x128 .f32)

theorem bitsBot : Ideal.ofBits FTy.f32 4286578688#32 = ⊥ := by simp [Ideal.ofBits, Ideal.ieee]

/-- The mixing factor from the padded lambda block. -/
def kLam (L : Vec Ideal S1x8x128 .f32) : EReal :=
  Ideal.exp (∑ x : Fin 128, L (ix3 0 0 x) * L (ix3 0 1 x)) - Ideal.exp (∑ x : Fin 128, L (ix3 0 2 x) * L (ix3 0 3 x))
    + Ideal.ofBits FTy.f32 1045220557#32

theorem lam_at : k0_pay10 L (ix2 0 0) = kLam L := by
  pointwise [k0_pay10]
  rfl

/-- The masked contraction over the 128 lanes: the first map on the rows below 512, the second map above. -/
def msc (q : Vec Ideal S512x128 .bf16) (K : Vec Ideal S1x128x2304 .bf16) (r : Fin 1024) (k : Fin 2304) : EReal :=
  ∑ x : Fin 128,
      (if h : r.val < 512 then
          Scalar.select (IntOp.cmpi CmpIPredicate.slt (BitVec.ofNat 32 x.val) 64#32) (q (ix2 ⟨r.val, h⟩ x)) 0
        else Scalar.select (IntOp.cmpi CmpIPredicate.slt (BitVec.ofNat 32 x.val) 64#32) 0 (q (ix2 ⟨r.val - 512, by omega⟩ x))) *
        K (ix3 0 x k)

theorem mask_lt (x : Fin 128) (h : x.val < 64) (a b : EReal) :
    Scalar.select (IntOp.cmpi CmpIPredicate.slt (BitVec.ofNat 32 x.val) 64#32) a b = a := by
  have : IntOp.cmpi CmpIPredicate.slt (BitVec.ofNat 32 x.val) 64#32 = 1#1 := by
    revert h; revert x; decide
  rw [this]; rfl

theorem mask_ge (x : Fin 128) (h : ¬ x.val < 64) (a b : EReal) :
    Scalar.select (IntOp.cmpi CmpIPredicate.slt (BitVec.ofNat 32 x.val) 64#32) a b = b := by
  have : IntOp.cmpi CmpIPredicate.slt (BitVec.ofNat 32 x.val) 64#32 = 0#1 := by
    revert h; revert x; decide
  rw [this]; rfl

theorem msc_lo (r : Fin 512) (k : Fin 2304) :
    msc q K ⟨r.val, by omega⟩ k = ∑ e : Fin 64, q (ix2 r ⟨e.val, by omega⟩) * K (ix3 0 ⟨e.val, by omega⟩ k) := by
  unfold msc
  refine (Fin.sum_univ_add (a := 64) (b := 64) _).trans ((congrArg₂ (· + ·) (Finset.sum_congr rfl fun e _ => ?_)
    (Finset.sum_eq_zero fun e _ => ?_)).trans (add_zero _))
  · rw [dif_pos (by show r.val < 512; omega), mask_lt _ (by show e.val < 64; omega)]
    rfl
  · rw [dif_pos (by show r.val < 512; omega), mask_ge _ (by show ¬ 64 + e.val < 64; omega), zero_mul]

theorem msc_hi (r : Fin 512) (k : Fin 2304) :
    msc q K ⟨512 + r.val, by omega⟩ k
      = ∑ e : Fin 64, q (ix2 r ⟨64 + e.val, by omega⟩) * K (ix3 0 ⟨64 + e.val, by omega⟩ k) := by
  unfold msc
  refine (Fin.sum_univ_add (a := 64) (b := 64) _).trans ((congrArg₂ (· + ·) (Finset.sum_eq_zero fun e _ => ?_)
    (Finset.sum_congr rfl fun e _ => ?_)).trans (zero_add _))
  · rw [dif_neg (by show ¬ 512 + r.val < 512; omega), mask_lt _ (by show e.val < 64; omega), zero_mul]
  · rw [dif_neg (by show ¬ 512 + r.val < 512; omega), mask_ge _ (by show ¬ 64 + e.val < 64; omega)]
    have : (⟨512 + r.val - 512, by omega⟩ : Fin 512) = r := Fin.ext (by show 512 + r.val - 512 = r.val; omega)
    show q (ix2 ⟨512 + r.val - 512, _⟩ _) * _ = _
    rw [this]
    rfl

theorem s1_at (r : Fin 1024) (k : Fin 2304) : k0_pay15 q K (ix2 r k) = msc q K r k := by
  pointwise [k0_pay15]
  rfl

theorem s2_at (r : Fin 1024) (k : Fin 2304) : k0_pay16 q K (ix2 r k) = msc q K r k := by
  pointwise [k0_pay16]
  rfl

theorem s3_at (r : Fin 1024) (k : Fin 2304) : k0_pay76 (k0_pay75 q) K (ix2 r k) = msc q K r k := by
  pointwise [k0_pay76, k0_pay75]
  rfl

theorem s0_at (r : Fin 1024) (k : Fin 2304) :
    k0_pay17 (k0_pay11 q) k0_pay12 (k0_pay13 q) k0_pay14 K (ix2 r k) = msc q K r k - top (fun k => msc q K r k) := by
  pointwise [k0_pay17, k0_pay11, k0_pay12, k0_pay13, k0_pay14]
  rw [bitsBot]
  rfl

/-- One row of a unit from its two score rows, over the value scratch (its upper 128 lanes carry the weights' sums). -/
def uRow (lam : EReal) (w w' : Fin 2304 → EReal) (V : Vec Ideal S1x2304x256 .bf16) (d : Fin 128) : EReal :=
  Ideal.div (∑ k, w k * V (ix3 0 k ⟨d.val, by omega⟩)) (∑ k, w k * V (ix3 0 k ⟨128 + d.val, by omega⟩))
    - lam * Ideal.div (∑ k, w' k * V (ix3 0 k ⟨d.val, by omega⟩)) (∑ k, w' k * V (ix3 0 k ⟨128 + d.val, by omega⟩))

variable (l : FVec Ideal S1x1 .f32) (s : FVec Ideal S1024x2304 .f32)

theorem o0_at (r : Fin 512) (d : Fin 128) : k0_pay18 l s V V g (ix2 r d)
    = headNorm0 (uRow (l (ix2 0 0)) (fun k => Ideal.exp2 (s (ix2 ⟨r.val, by omega⟩ k))) (fun k => Ideal.exp2 (s (ix2 ⟨512 + r.val, by omega⟩ k))) V)
        (fun d => g (ix3 0 0 d)) d := by
  pointwise [k0_pay18]
  rfl

theorem o1_at (r : Fin 512) (d : Fin 128) : k0_pay79 (k0_pay77 l s V V g) k0_pay78 (ix2 r d)
    = headNorm0 (uRow (l (ix2 0 0)) (wexp2 fun k => s (ix2 ⟨r.val, by omega⟩ k)) (wexp2 fun k => s (ix2 ⟨512 + r.val, by omega⟩ k)) V)
        (fun d => g (ix3 0 0 d)) d := by
  pointwise [k0_pay79, k0_pay77, k0_pay78]
  rw [bitsBot]
  rfl

theorem o2_at (r : Fin 512) (d : Fin 128) : k0_pay82 (k0_pay80 l s V V g) k0_pay81 (ix2 r d)
    = headNorm0 (uRow (l (ix2 0 0)) (wexp2 fun k => s (ix2 ⟨r.val, by omega⟩ k)) (wexp2 fun k => s (ix2 ⟨512 + r.val, by omega⟩ k)) V)
        (fun d => g (ix3 0 0 d)) d := by
  pointwise [k0_pay82, k0_pay80, k0_pay81]
  rw [bitsBot]
  rfl

theorem o3_at (r : Fin 512) (d : Fin 128) : k0_pay1 l (k0_pay143 (k0_pay141 s) V) (k0_pay144 (k0_pay141 s)) V g (ix2 r d)
    = headNorm0 (uRow (l (ix2 0 0)) (wexp2 fun k => s (ix2 ⟨r.val, by omega⟩ k)) (wexp2 fun k => s (ix2 ⟨512 + r.val, by omega⟩ k)) V)
        (fun d => g (ix3 0 0 d)) d := by
  pointwise [k0_pay1, k0_pay143, k0_pay142, k0_pay141, k0_pay144]
  rw [bitsBot]
  rfl

/-- One row of the block: the four units compute the same function of their query rows. -/
def kRow (q : Fin 128 → EReal) (K : Vec Ideal S1x128x2304 .bf16) (V : Vec Ideal S1x2304x256 .bf16)
    (L : Vec Ideal S1x8x128 .f32) (g : Vec Ideal S1x1x128 .f32) (d : Fin 128) : EReal :=
  headNorm0 (uRow (kLam L) (wexp2 fun k => ∑ e : Fin 64, q ⟨e.val, by omega⟩ * K (ix3 0 ⟨e.val, by omega⟩ k))
    (wexp2 fun k => ∑ e : Fin 64, q ⟨64 + e.val, by omega⟩ * K (ix3 0 ⟨64 + e.val, by omega⟩ k)) V) (fun d => g (ix3 0 0 d)) d

theorem u0_at (r : Fin 512) (d : Fin 128) :
    k0_pay18 (k0_pay10 L) (k0_pay17 (k0_pay11 q) k0_pay12 (k0_pay13 q) k0_pay14 K) V V g (ix2 r d)
      = kRow (fun e => q (ix2 r e)) K V L g d := by
  rw [o0_at, lam_at]
  simp only [s0_at, msc_lo, msc_hi]
  rfl

theorem u1_at (r : Fin 512) (d : Fin 128) :
    k0_pay79 (k0_pay77 (k0_pay10 L) (k0_pay15 q K) V V g) k0_pay78 (ix2 r d) = kRow (fun e => q (ix2 r e)) K V L g d := by
  rw [o1_at, lam_at]
  simp only [s1_at, msc_lo, msc_hi]
  rfl

theorem u2_at (r : Fin 512) (d : Fin 128) :
    k0_pay82 (k0_pay80 (k0_pay10 L) (k0_pay16 q K) V V g) k0_pay81 (ix2 r d) = kRow (fun e => q (ix2 r e)) K V L g d := by
  rw [o2_at, lam_at]
  simp only [s2_at, msc_lo, msc_hi]
  rfl

theorem u3_at (r : Fin 512) (d : Fin 128) :
    k0_pay1 (k0_pay10 L) (k0_pay143 (k0_pay141 (k0_pay76 (k0_pay75 q) K)) V) (k0_pay144 (k0_pay141 (k0_pay76 (k0_pay75 q) K))) V g (ix2 r d)
      = kRow (fun e => q (ix2 r e)) K V L g d := by
  rw [o3_at, lam_at]
  simp only [s3_at, msc_lo, msc_hi]
  rfl

end Cert.Att0Ideal.Val
-- ==== Proof.Att0Ker.lean ====
/- The first layer: The attention call's result read at an index. -/
module

public import proofs.«01_k».proof.Proof.Att0Host
public import proofs.«01_k».proof.Proof.Att0Pay
public import Idealize.ShloMosaic.Lib.Pipeline.ReadBack

@[expose] public section

noncomputable section

namespace Cert.Att0Ideal.Val

open Cert.Att0Ideal Cert.Att0Ideal.Gen Idealize.ShloMosaic Idealize.ShloMosaic.TcCoe Idealize.SL.Sem Cert.AttSpec Cert.Att0Spec
open Idealize.ShloMosaic.Pipeline (Dat)

variable (m : (ℓ : Loc nD τ sig) → Buf (Elt Ideal) ℓ) (c : Dev nD)

theorem ix_0 : ∀ t : Fin cfg0.N, win0_0.index t = ![t.val / 8, 8 + t.val % 8] := (by decide +kernel : ∀ t : Fin grid0.N, _)
theorem ix_1 : ∀ t : Fin cfg0.N, win0_1.index t = ![t.val / 8, t.val % 8] := (by decide +kernel : ∀ t : Fin grid0.N, _)
theorem ix_2 : ∀ t : Fin cfg0.N, win0_2.index t = ![t.val / 8, 8 + t.val % 8] := (by decide +kernel : ∀ t : Fin grid0.N, _)
theorem ix_3 : ∀ t : Fin cfg0.N, win0_3.index t = ![t.val / 8, 16 + t.val % 8] := (by decide +kernel : ∀ t : Fin grid0.N, _)
theorem ix_4 : ∀ t : Fin cfg0.N, win0_4.index t = ![t.val / 8, 24 + t.val % 8] := (by decide +kernel : ∀ t : Fin grid0.N, _)
theorem ix_5 : ∀ t : Fin cfg0.N, win0_5.index t = ![0, 0, 0] := (by decide +kernel : ∀ t : Fin grid0.N, _)
theorem ix_6 : ∀ t : Fin cfg0.N, win0_6.index t = ![0, 0, 0] := (by decide +kernel : ∀ t : Fin grid0.N, _)

/-- The argument arrays the attention reads. -/
abbrev A_q : Vec Ideal S4x2048x8x2x64 .f32 := m ((c : Thread nD τ).loc main_arg0)
abbrev A_k : Vec Ideal S4x2048x8x2x64 .f32 := m ((c : Thread nD τ).loc main_arg1)
abbrev A_v : Vec Ideal S4x2048x8x128 .f32 := m ((c : Thread nD τ).loc main_arg2)
abbrev A_kc : Vec Ideal S4x256x8x2x64 .f32 := m ((c : Thread nD τ).loc main_arg3)
abbrev A_vc : Vec Ideal S4x256x8x128 .f32 := m ((c : Thread nD τ).loc main_arg4)

section blocks

variable (t : Fin cfg0.N) (b : Fin 4) (h : Fin 8) (hb : t.val = 8 * b.val + h.val)
include hb

theorem blk_0 (n : Fin 2048) (j : Fin 2) (e : Fin 64) (E : Fin 128) (hE : E.val = 64 * j.val + e.val) :
    iblk m c 0 t (ix2 n E) = A_q m c (ix5 b n h j e) * qfac := by
  refine Eq.trans ?_ (plat_q czero (cin m c) _ (A_k m c) (A_v m c) b n h j e
    ⟨2048 * b.val + n.val, by omega⟩ ⟨1024 + 128 * h.val + 64 * j.val + e.val, by omega⟩ rfl rfl)
  rw [← V_v18 m c]
  blk_ext [iblk, ix_0 t]

theorem blk_3 (n : Fin 2048) (j : Fin 2) (e : Fin 64) (E : Fin 128) (hE : E.val = 64 * j.val + e.val) :
    iblk m c 3 t (ix2 n E) = A_k m c (ix5 b n h j e) := by
  refine Eq.trans ?_ (plat_k czero (cin m c) (A_q m c) _ (A_v m c) b n h j e
    ⟨2048 * b.val + n.val, by omega⟩ ⟨2048 + 128 * h.val + 64 * j.val + e.val, by omega⟩ rfl rfl)
  rw [← V_v18 m c]
  blk_ext [iblk, ix_3 t]

theorem blk_4 (n : Fin 2048) (e : Fin 128) : iblk m c 4 t (ix2 n e) = A_v m c (ix4 b n h e) := by
  refine Eq.trans ?_ (plat_v czero (cin m c) (A_q m c) (A_k m c) _ b n h e
    ⟨2048 * b.val + n.val, by omega⟩ ⟨3072 + 128 * h.val + e.val, by omega⟩ rfl rfl)
  rw [← V_v18 m c]
  blk_ext [iblk, ix_4 t]

theorem blk_1 (n : Fin 256) (j : Fin 2) (e : Fin 64) (E : Fin 128) (hE : E.val = 64 * j.val + e.val) :
    iblk m c 1 t (ix2 n E) = A_kc m c (ix5 b n h j e) := by
  refine Eq.trans ?_ (pctx_k _ (A_vc m c) b n h j e
    ⟨256 * b.val + n.val, by omega⟩ ⟨128 * h.val + 64 * j.val + e.val, by omega⟩ rfl rfl)
  rw [← V_v22 m c]
  blk_ext [iblk, ix_1 t]

theorem blk_2 (n : Fin 256) (e : Fin 128) : iblk m c 2 t (ix2 n e) = A_vc m c (ix4 b n h e) := by
  refine Eq.trans ?_ (pctx_v (A_kc m c) _ b n h e
    ⟨256 * b.val + n.val, by omega⟩ ⟨1024 + 128 * h.val + e.val, by omega⟩ rfl rfl)
  rw [← V_v22 m c]
  blk_ext [iblk, ix_2 t]

end blocks

theorem blk_5 (t : Fin cfg0.N) (y : Fin 8) (x : Fin 128) : iblk m c 5 t (ix3 0 y x) = lamp (m ((c : Thread nD τ).loc main_arg6)) (m ((c : Thread nD τ).loc main_arg7))
    (m ((c : Thread nD τ).loc main_arg8)) (m ((c : Thread nD τ).loc main_arg9)) (ix3 0 y x) := by
  refine Eq.trans ?_ (congrFun (V_v5 m c) (ix3 0 y x))
  blk_ext [iblk, ix_5 t]

theorem blk_6 (t : Fin cfg0.N) (d : Fin 128) : iblk m c 6 t (ix3 0 0 d) = m ((c : Thread nD τ).loc main_arg10) (ix2 0 d) := by
  refine Eq.trans ?_ (V_v23 m c d)
  blk_ext [iblk, ix_6 t]

theorem lam_blk (t : Fin cfg0.N) : kLam (iblk m c 5 t) = lamS0 (m ((c : Thread nD τ).loc main_arg6)) (m ((c : Thread nD τ).loc main_arg7))
    (m ((c : Thread nD τ).loc main_arg8)) (m ((c : Thread nD τ).loc main_arg9)) := by
  unfold kLam lamS0
  simp only [blk_5, lamp_0, lamp_1, lamp_2, lamp_3]
  rw [← sum_pad (fun e => m ((c : Thread nD τ).loc main_arg6) (ix2 0 e)) (fun e => m ((c : Thread nD τ).loc main_arg7) (ix2 0 e)),
    ← sum_pad (fun e => m ((c : Thread nD τ).loc main_arg8) (ix2 0 e)) (fun e => m ((c : Thread nD τ).loc main_arg9) (ix2 0 e))]

/-! ## The two scratches -/

section scratch

variable (x1 x2 : Vec Ideal S256x128 .bf16) (x3 x4 : Vec Ideal S2048x128 .bf16)

/-- The keys' scratch after both stores. -/
def KT : Vec Ideal S1x128x2304 .bf16 :=
  (View.whole cc0_scratch0).readCov [⟨Rect.unit ![0, 0, 256] ![1, 128, 2048] inb_S1x128x2304_S1x128x2048_0_0_256, k0_pay7 x3⟩,
    ⟨Rect.unit ![0, 0, 0] ![1, 128, 256] inb_S1x128x2304_S1x128x256_0_0_0, k0_pay5 x1⟩]
    (Rect.unit ![0, 0, 0] ![1, 128, 2304] inb_S1x128x2304_S1x128x2304_0_0_0).toLoadRect

/-- The values' scratch after its three stores. -/
def VV : Vec Ideal S1x2304x256 .bf16 :=
  (View.whole cc0_scratch1).readCov [⟨Rect.unit ![0, 0, 128] ![1, 2304, 128] inb_S1x2304x256_S1x2304x128_0_0_128, k0_pay9 (F := Ideal)⟩,
    ⟨Rect.unit ![0, 256, 0] ![1, 2048, 128] inb_S1x2304x256_S1x2048x128_0_256_0, k0_pay8 x4⟩,
    ⟨Rect.unit ![0, 0, 0] ![1, 256, 128] inb_S1x2304x256_S1x256x128_0_0_0, k0_pay6 x2⟩]
    (Rect.unit ![0, 0, 0] ![1, 2304, 256] inb_S1x2304x256_S1x2304x256_0_0_0).toLoadRect

/-- A read of a whole rank-three buffer is at the index itself. -/
theorem whole3 {A B C : ℕ} (inb : ∀ a, (![0, 0, 0] : Fin 3 → ℕ) a + (![A, B, C] : Fin 3 → ℕ) a ≤ (⟨3, ![A, B, C]⟩ : Shape).size a)
    (x : (⟨3, ![A, B, C]⟩ : Shape).Idx) : (Rect.unit (s := ⟨3, ![A, B, C]⟩) ![0, 0, 0] ![A, B, C] inb).idx x = x := by
  refine funext fun a => Fin.ext ((Rect.idx_unit_val ..).trans ?_)
  match a with
  | ⟨0, _⟩ => exact Nat.zero_add _
  | ⟨1, _⟩ => exact Nat.zero_add _
  | ⟨2, _⟩ => exact Nat.zero_add _

/-- A rank-three index from its coordinates. -/
theorem ix3_of {A B C : ℕ} (x : (⟨3, ![A, B, C]⟩ : Shape).Idx) (a : Fin A) (b : Fin B) (c : Fin C) (ha : (x 0).val = a.val)
    (hb : (x 1).val = b.val) (hc : (x 2).val = c.val) : x = ix3 a b c := by
  refine funext fun i => ?_
  match i with
  | ⟨0, _⟩ => exact Fin.ext ha
  | ⟨1, _⟩ => exact Fin.ext hb
  | ⟨2, _⟩ => exact Fin.ext hc

theorem p5_at (e : Fin 128) (k : Fin 256) : k0_pay5 x1 (ix3 0 e k) = x1 (ix2 k e) := by
  pointwise [k0_pay5]
  done

theorem p7_at (e : Fin 128) (k : Fin 2048) : k0_pay7 x3 (ix3 0 e k) = x3 (ix2 k e) := by
  pointwise [k0_pay7]
  done

theorem p6_at (k : Fin 256) (d : Fin 128) : k0_pay6 x2 (ix3 0 k d) = x2 (ix2 k d) := by
  pointwise [k0_pay6]
  done

theorem p8_at (k : Fin 2048) (d : Fin 128) : k0_pay8 x4 (ix3 0 k d) = x4 (ix2 k d) := by
  pointwise [k0_pay8]
  done

theorem p9_at (k : Fin 2304) (d : Fin 128) : k0_pay9 (F := Ideal) (ix3 0 k d) = (1 : EReal) := by
  pointwise [k0_pay9]

theorem KT_at (e : Fin 128) (k : Fin 2304) :
    KT x1 x3 (ix3 0 e k) = if h : k.val < 256 then x1 (ix2 ⟨k.val, h⟩ e) else x3 (ix2 ⟨k.val - 256, by omega⟩ e) := by
  unfold KT
  rw [View.readCov_eq_canon']
  refine (congrArg (View.canon _) (whole3 _ (ix3 0 e k))).trans ?_
  have cov : ∃ p ∈ [(⟨Rect.unit ![0, 0, 256] ![1, 128, 2048] inb_S1x128x2304_S1x128x2048_0_0_256, k0_pay7 x3⟩ : View.Piece (Elt Ideal) S1x128x2304 .bf16),
    ⟨Rect.unit ![0, 0, 0] ![1, 128, 256] inb_S1x128x2304_S1x128x256_0_0_0, k0_pay5 x1⟩], ix3 0 e k ∈ p.fst.set := by
    by_cases hk : k.val < 256
    · refine ⟨_, List.mem_cons_of_mem _ List.mem_cons_self, (Rect.mem_set_unit (inb := inb_S1x128x2304_S1x128x256_0_0_0)).mpr fun a => ?_⟩
      match a with
      | ⟨0, _⟩ => exact ⟨Nat.le_refl _, Nat.one_pos⟩
      | ⟨1, _⟩ => exact ⟨Nat.zero_le _, by show e.val < 0 + 128; omega⟩
      | ⟨2, _⟩ => exact ⟨Nat.zero_le _, by show k.val < 0 + 256; omega⟩
    · refine ⟨_, List.mem_cons_self, (Rect.mem_set_unit (inb := inb_S1x128x2304_S1x128x2048_0_0_256)).mpr fun a => ?_⟩
      match a with
      | ⟨0, _⟩ => exact ⟨Nat.le_refl _, Nat.one_pos⟩
      | ⟨1, _⟩ => exact ⟨Nat.zero_le _, by show e.val < 0 + 128; omega⟩
      | ⟨2, _⟩ => exact ⟨by show 256 ≤ k.val; omega, by show k.val < 256 + 2048; omega⟩
  canon_tiles x h using cov
  · have hk : k.val = 256 + (x 2).val := h2
    rw [ix3_of x 0 e ⟨k.val - 256, by omega⟩ (by show (x 0).val = 0; omega) h1.symm (by show (x 2).val = k.val - 256; omega), p7_at,
      dif_neg (by omega)]
  · have hk : k.val = (x 2).val := h2
    rw [ix3_of x 0 e ⟨k.val, by omega⟩ (by show (x 0).val = 0; omega) h1.symm h2.symm, p5_at, dif_pos (by omega)]

theorem VV_cov (k : Fin 2304) (d : Fin 256) :
    ∃ p ∈ [(⟨Rect.unit ![0, 0, 128] ![1, 2304, 128] inb_S1x2304x256_S1x2304x128_0_0_128, k0_pay9 (F := Ideal)⟩ : View.Piece (Elt Ideal) S1x2304x256 .bf16),
      ⟨Rect.unit ![0, 256, 0] ![1, 2048, 128] inb_S1x2304x256_S1x2048x128_0_256_0, k0_pay8 x4⟩,
      ⟨Rect.unit ![0, 0, 0] ![1, 256, 128] inb_S1x2304x256_S1x256x128_0_0_0, k0_pay6 x2⟩], ix3 0 k d ∈ p.fst.set := by
  by_cases hd : d.val < 128
  · by_cases hk : k.val < 256
    · refine ⟨_, List.mem_cons_of_mem _ (List.mem_cons_of_mem _ List.mem_cons_self), (Rect.mem_set_unit (inb := inb_S1x2304x256_S1x256x128_0_0_0)).mpr fun a => ?_⟩
      match a with
      | ⟨0, _⟩ => exact ⟨Nat.le_refl _, Nat.one_pos⟩
      | ⟨1, _⟩ => exact ⟨Nat.zero_le _, by show k.val < 0 + 256; omega⟩
      | ⟨2, _⟩ => exact ⟨Nat.zero_le _, by show d.val < 0 + 128; omega⟩
    · refine ⟨_, List.mem_cons_of_mem _ List.mem_cons_self, (Rect.mem_set_unit (inb := inb_S1x2304x256_S1x2048x128_0_256_0)).mpr fun a => ?_⟩
      match a with
      | ⟨0, _⟩ => exact ⟨Nat.le_refl _, Nat.one_pos⟩
      | ⟨1, _⟩ => exact ⟨by show 256 ≤ k.val; omega, by show k.val < 256 + 2048; omega⟩
      | ⟨2, _⟩ => exact ⟨Nat.zero_le _, by show d.val < 0 + 128; omega⟩
  · refine ⟨_, List.mem_cons_self, (Rect.mem_set_unit (inb := inb_S1x2304x256_S1x2304x128_0_0_128)).mpr fun a => ?_⟩
    match a with
    | ⟨0, _⟩ => exact ⟨Nat.le_refl _, Nat.one_pos⟩
    | ⟨1, _⟩ => exact ⟨Nat.zero_le _, by show k.val < 0 + 2304; omega⟩
    | ⟨2, _⟩ => exact ⟨by show 128 ≤ d.val; omega, by show d.val < 128 + 128; omega⟩

theorem VV_lo (k : Fin 2304) (d : Fin 128) :
    VV x2 x4 (ix3 0 k ⟨d.val, by omega⟩) = if h : k.val < 256 then x2 (ix2 ⟨k.val, h⟩ d) else x4 (ix2 ⟨k.val - 256, by omega⟩ d) := by
  unfold VV
  rw [View.readCov_eq_canon']
  refine (congrArg (View.canon _) (whole3 _ (ix3 0 k ⟨d.val, by omega⟩))).trans ?_
  canon_tiles x h using VV_cov x2 x4 k ⟨d.val, by omega⟩
  · have hk : d.val = 128 + (x 2).val := h2
    exact absurd hk (by omega)
  · have hk : k.val = 256 + (x 1).val := h1
    rw [ix3_of x 0 ⟨k.val - 256, by omega⟩ d (by show (x 0).val = 0; omega) (by show (x 1).val = k.val - 256; omega) h2.symm, p8_at,
      dif_neg (by omega)]
  · have hk : k.val = (x 1).val := h1
    rw [ix3_of x 0 ⟨k.val, by omega⟩ d (by show (x 0).val = 0; omega) h1.symm h2.symm, p6_at, dif_pos (by omega)]

theorem VV_hi (k : Fin 2304) (d : Fin 128) : VV x2 x4 (ix3 0 k ⟨128 + d.val, by omega⟩) = (1 : EReal) := by
  unfold VV
  rw [View.readCov_eq_canon']
  refine (congrArg (View.canon _) (whole3 _ (ix3 0 k ⟨128 + d.val, by omega⟩))).trans ?_
  canon_tiles x h using VV_cov x2 x4 k ⟨128 + d.val, by omega⟩
  · have hk : 128 + d.val = 128 + (x 2).val := h2
    rw [ix3_of x 0 k d (by show (x 0).val = 0; omega) h1.symm (by omega), p9_at]
  · have hk : 128 + d.val = (x 2).val := h2
    exact absurd hk (by omega)
  · have hk : 128 + d.val = (x 2).val := h2
    exact absurd hk (by omega)

end scratch

/-- What a grid point's four stores leave in the result block. -/
def outC (x0 : Vec Ideal S2048x128 .bf16) (K : Vec Ideal S1x128x2304 .bf16) (W : Vec Ideal S1x2304x256 .bf16)
    (L : Vec Ideal S1x8x128 .f32) (g : Vec Ideal S1x1x128 .f32) : Vec Ideal S2048x128 .bf16 :=
  View.canon (Val := Elt Ideal) (e := .bf16)
    [⟨Rect.unit ![1536, 0] ![512, 128] inb_S2048x128_S512x128_1536_0, k0_pay1 (k0_pay10 L) (k0_pay143 (k0_pay141 (k0_pay76 (k0_pay75 (View.ld x0 (Rect.unit ![1536, 0] ![512, 128] inb_S2048x128_S512x128_1536_0))) K)) W)
        (k0_pay144 (k0_pay141 (k0_pay76 (k0_pay75 (View.ld x0 (Rect.unit ![1536, 0] ![512, 128] inb_S2048x128_S512x128_1536_0))) K))) W g⟩,
      ⟨Rect.unit ![1024, 0] ![512, 128] inb_S2048x128_S512x128_1024_0, k0_pay82 (k0_pay80 (k0_pay10 L) (k0_pay16 (View.ld x0 (Rect.unit ![1024, 0] ![512, 128] inb_S2048x128_S512x128_1024_0)) K) W W g) k0_pay81⟩,
      ⟨Rect.unit ![512, 0] ![512, 128] inb_S2048x128_S512x128_512_0, k0_pay79 (k0_pay77 (k0_pay10 L) (k0_pay15 (View.ld x0 (Rect.unit ![512, 0] ![512, 128] inb_S2048x128_S512x128_512_0)) K) W W g) k0_pay78⟩,
      ⟨Rect.unit ![0, 0] ![512, 128] inb_S2048x128_S512x128_0_0, k0_pay18 (k0_pay10 L) (k0_pay17 (k0_pay11 (View.ld x0 (Rect.unit ![0, 0] ![512, 128] inb_S2048x128_S512x128_0_0))) k0_pay12 (k0_pay13 (View.ld x0 (Rect.unit ![0, 0] ![512, 128] inb_S2048x128_S512x128_0_0))) k0_pay14 K) W W g⟩]

theorem out_A (t : Fin cfg0.N) (h : t.val % 8 = 0) : (outsAt0 m c t.val t.isLt).1 = outC (iblk m c 0 t)
    (KT (iblk m c 1 t) (iblk m c 3 t)) (VV (iblk m c 2 t) (iblk m c 4 t)) (iblk m c 5 t) (iblk m c 6 t) := by
  rw [outsAt0_A m c t h]
  unfold outC KT VV
  frame_out

theorem out_B (t : Fin cfg0.N) (h : ¬ t.val % 8 = 0) : (outsAt0 m c t.val t.isLt).1 = outC (iblk m c 0 t)
    (KT (iblk m c 1 t) (iblk m c 3 t)) (VV (iblk m c 2 t) (iblk m c 4 t)) (iblk m c 5 t) (iblk m c 6 t) := by
  rw [outsAt0_B m c t h]
  unfold outC KT VV
  frame_out

/-- A rank-two index from its coordinates. -/
theorem ix_eta (x : S512x128.Idx) : ∃ (r : Fin 512) (e : Fin 128), x = ix2 r e := by
  refine ⟨⟨(x 0).val, (x 0).isLt⟩, ⟨(x 1).val, (x 1).isLt⟩, funext fun a => ?_⟩
  match a with
  | ⟨0, _⟩ => rfl
  | ⟨1, _⟩ => rfl

/-- A unit's query rows are rows of the block. -/
theorem ld_row (x0 : Vec Ideal S2048x128 .bf16) (o : ℕ) (inb : ∀ a, (![o, 0] : Fin 2 → ℕ) a + (![512, 128] : Fin 2 → ℕ) a ≤ S2048x128.size a)
    (r : Fin 512) (i : Fin 2048) (hi : i.val = o + r.val) :
    (fun e : Fin 128 => View.ld x0 (Rect.unit ![o, 0] ![512, 128] inb) (ix2 r e)) = fun e => x0 (ix2 i e) := by
  funext e
  rw [View.ld_apply]
  refine congrArg x0 (funext fun a => ?_)
  match a with
  | ⟨0, _⟩ => exact Fin.ext ((Rect.idx_unit_val ..).trans hi.symm)
  | ⟨1, _⟩ => exact Fin.ext ((Rect.idx_unit_val ..).trans (Nat.zero_add _))

theorem outC_at (x0 : Vec Ideal S2048x128 .bf16) (K : Vec Ideal S1x128x2304 .bf16) (W : Vec Ideal S1x2304x256 .bf16)
    (L : Vec Ideal S1x8x128 .f32) (g : Vec Ideal S1x1x128 .f32) (i : Fin 2048) (d : Fin 128) :
    outC x0 K W L g (ix2 i d) = kRow (fun e => x0 (ix2 i e)) K W L g d := by
  unfold outC
  canon_tiles x h
  · obtain ⟨r, e, rfl⟩ := ix_eta x
    obtain rfl : d = e := Fin.ext h1
    exact (u3_at _ K W L g r d).trans (congrArg (fun f => kRow f K W L g d) (ld_row x0 1536 _ r i h0))
  · obtain ⟨r, e, rfl⟩ := ix_eta x
    obtain rfl : d = e := Fin.ext h1
    exact (u2_at _ K W L g r d).trans (congrArg (fun f => kRow f K W L g d) (ld_row x0 1024 _ r i h0))
  · obtain ⟨r, e, rfl⟩ := ix_eta x
    obtain rfl : d = e := Fin.ext h1
    exact (u1_at _ K W L g r d).trans (congrArg (fun f => kRow f K W L g d) (ld_row x0 512 _ r i h0))
  · obtain ⟨r, e, rfl⟩ := ix_eta x
    obtain rfl : d = e := Fin.ext h1
    exact (u0_at _ K W L g r d).trans (congrArg (fun f => kRow f K W L g d) (ld_row x0 0 _ r i (h0.trans (Nat.zero_add _).symm)))

/-! ## The result block at an index -/

theorem out_row (t : Fin cfg0.N) : (outsAt0 m c t.val t.isLt).1 = outC (iblk m c 0 t)
    (KT (iblk m c 1 t) (iblk m c 3 t)) (VV (iblk m c 2 t) (iblk m c 4 t)) (iblk m c 5 t) (iblk m c 6 t) := by
  by_cases h : t.val % 8 = 0
  · exact out_A m c t h
  · exact out_B m c t h

section row

variable (t : Fin cfg0.N) (b : Fin 4) (h : Fin 8) (hb : t.val = 8 * b.val + h.val)
include hb

theorem K_at (j : Fin 2) (e : Fin 64) (k : Fin 2304) (E : Fin 128) (hE : E.val = 64 * j.val + e.val) :
    KT (iblk m c 1 t) (iblk m c 3 t) (ix3 0 E k) = kall (A_k m c) (A_kc m c) b h j k e := by
  rw [KT_at]
  unfold kall
  by_cases hk : k.val < 256
  · rw [dif_pos hk, dif_pos hk]
    exact blk_1 m c t b h hb ⟨k.val, hk⟩ j e E hE
  · rw [dif_neg hk, dif_neg hk]
    exact blk_3 m c t b h hb ⟨k.val - 256, by omega⟩ j e E hE

theorem V_at (k : Fin 2304) (d : Fin 128) :
    VV (iblk m c 2 t) (iblk m c 4 t) (ix3 0 k ⟨d.val, by omega⟩) = vall (A_v m c) (A_vc m c) b h k d := by
  rw [VV_lo]
  unfold vall
  by_cases hk : k.val < 256
  · rw [dif_pos hk, dif_pos hk]
    exact blk_2 m c t b h hb ⟨k.val, hk⟩ d
  · rw [dif_neg hk, dif_neg hk]
    exact blk_4 m c t b h hb ⟨k.val - 256, by omega⟩ d

end row

/-- The scaled score of the kernel is the layer's score over `log 2`. -/
theorem qfac_eq : ∃ r : ℝ, 0 < r ∧ Ideal.ofBits FTy.f32 1040187392#32 = (r : EReal) ∧ qfac = (r : EReal) * ((1 / Real.log 2 : ℝ) : EReal) := by
  have h8 : Ideal.ofBits FTy.f32 1040187392#32 = ((1 / 8 : ℝ) : EReal) := by
    simp [Ideal.ofBits, Ideal.ieee, -EReal.coe_mul]
    norm_num
  have h2 : Ideal.ofBits FTy.f32 1073741824#32 = ((2 : ℝ) : EReal) := by
    simp [Ideal.ofBits, Ideal.ieee, -EReal.coe_mul]
    norm_num
  refine ⟨1 / 8, by norm_num, h8, ?_⟩
  have hl : Real.log 2 ≠ 0 := (Real.log_pos (by norm_num)).ne'
  unfold qfac
  rw [h8, h2, show Ideal.log ((2 : ℝ) : EReal) = ((Real.log 2 : ℝ) : EReal) by rw [Ideal.log_coe, if_neg (by norm_num)], Ideal.div_coe hl]

/-- A sum whose left factors carry a positive real factor. -/
theorem sum_scale (c : ℝ) (hc : 0 < c) {n : ℕ} (f g : Fin n → EReal) : ∑ e, f e * (c : EReal) * g e = (∑ e, f e * g e) * (c : EReal) := by
  have step : ∀ S : Finset (Fin n), ∑ e ∈ S, f e * (c : EReal) * g e = (∑ e ∈ S, f e * g e) * (c : EReal) := by
    intro S
    induction S using Finset.induction_on with
    | empty => simp
    | insert a S ha ih =>
      rw [Finset.sum_insert ha, Finset.sum_insert ha, ih,
        EReal.right_distrib_of_nonneg_of_ne_top (EReal.coe_nonneg.mpr hc.le) (EReal.coe_ne_top c), mul_right_comm]
  exact step Finset.univ

theorem score_at (q : Fin 128 → EReal) (K : Vec Ideal S1x128x2304 .bf16) (xq xk : A5 2048) (xc : A5 256) (b : Fin 4) (h : Fin 8) (n : Fin 2048)
    (j : Fin 2) (k : Fin 2304) (E : Fin 64 → Fin 128) (hq : ∀ e, q (E e) = xq (ix5 b n h j e) * qfac)
    (hK : ∀ e, K (ix3 0 (E e) k) = kall xk xc b h j k e) :
    ∑ e : Fin 64, q (E e) * K (ix3 0 (E e) k) = sc xq xk xc b n h j k * ((1 / Real.log 2 : ℝ) : EReal) := by
  obtain ⟨r, hr, h8, hf⟩ := qfac_eq
  have hl : 0 < 1 / Real.log 2 := by
    have := Real.log_pos (show (1 : ℝ) < 2 by norm_num)
    positivity
  simp only [hq, hK, hf, ← EReal.coe_mul]
  rw [sum_scale _ (mul_pos hr hl)]
  unfold sc
  rw [h8, EReal.coe_mul, mul_assoc]

theorem kRow_eq (q : Fin 128 → EReal) (K : Vec Ideal S1x128x2304 .bf16) (W : Vec Ideal S1x2304x256 .bf16) (L : Vec Ideal S1x8x128 .f32)
    (g : Vec Ideal S1x1x128 .f32) (d : Fin 128) (lam : EReal) (s s' : Fin 2304 → EReal) (v : Fin 2304 → Fin 128 → EReal) (gg : Fin 128 → EReal)
    (h0 : ∀ k, ∑ e : Fin 64, q ⟨e.val, by omega⟩ * K (ix3 0 ⟨e.val, by omega⟩ k) = s k * ((1 / Real.log 2 : ℝ) : EReal))
    (h1 : ∀ k, ∑ e : Fin 64, q ⟨64 + e.val, by omega⟩ * K (ix3 0 ⟨64 + e.val, by omega⟩ k) = s' k * ((1 / Real.log 2 : ℝ) : EReal))
    (hv : ∀ k (d : Fin 128), W (ix3 0 k ⟨d.val, by omega⟩) = v k d) (hw : ∀ k (d : Fin 128), W (ix3 0 k ⟨128 + d.val, by omega⟩) = (1 : EReal))
    (hl : kLam L = lam) (hg : ∀ d, g (ix3 0 0 d) = gg d) : kRow q K W L g d = headNorm0 (kO lam (wexp s) (wexp s') v) gg d := by
  unfold kRow
  rw [hl]
  simp only [h0, h1]
  unfold uRow kO
  simp only [hv, hw, mul_one, wexp2_scaled, hg]

/-- The call's row: the layer's differential attention with the sums divided last. -/
theorem out_at (t : Fin cfg0.N) (b : Fin 4) (h : Fin 8) (hb : t.val = 8 * b.val + h.val) (n : Fin 2048) (d : Fin 128) :
    (outsAt0 m c t.val t.isLt).1 (ix2 n d)
      = headNorm0 (kO (lamS0 (m ((c : Thread nD τ).loc main_arg6)) (m ((c : Thread nD τ).loc main_arg7))
          (m ((c : Thread nD τ).loc main_arg8)) (m ((c : Thread nD τ).loc main_arg9)))
        (wexp (sc (A_q m c) (A_k m c) (A_kc m c) b n h 0)) (wexp (sc (A_q m c) (A_k m c) (A_kc m c) b n h 1))
        (vall (A_v m c) (A_vc m c) b h)) (fun d => m ((c : Thread nD τ).loc main_arg10) (ix2 0 d)) d := by
  have h0 := fun k => score_at (fun e => iblk m c 0 t (ix2 n e)) (KT (iblk m c 1 t) (iblk m c 3 t)) (A_q m c) (A_k m c) (A_kc m c) b h n 0 k
    (fun e => ⟨e.val, by omega⟩) (fun e => blk_0 m c t b h hb n 0 e _ (by show e.val = 64 * 0 + e.val; omega))
      (fun e => K_at m c t b h hb 0 e k _ (by show e.val = 64 * 0 + e.val; omega))
  have h1 := fun k => score_at (fun e => iblk m c 0 t (ix2 n e)) (KT (iblk m c 1 t) (iblk m c 3 t)) (A_q m c) (A_k m c) (A_kc m c) b h n 1 k
    (fun e => ⟨64 + e.val, by omega⟩) (fun e => blk_0 m c t b h hb n 1 e _ (by show 64 + e.val = 64 * 1 + e.val; omega))
      (fun e => K_at m c t b h hb 1 e k _ (by show 64 + e.val = 64 * 1 + e.val; omega))
  have hv := fun k d => V_at m c t b h hb k d
  have hw := fun k d => VV_hi (iblk m c 2 t) (iblk m c 4 t) k d
  have hg := fun d => blk_6 m c t d
  have hl := lam_blk m c t
  rw [out_row m c t, outC_at]
  exact kRow_eq (fun e => iblk m c 0 t (ix2 n e)) (KT (iblk m c 1 t) (iblk m c 3 t)) (VV (iblk m c 2 t) (iblk m c 4 t)) (iblk m c 5 t) (iblk m c 6 t)
    d _ _ _ _ _ h0 h1 hv hw hl hg

end Cert.Att0Ideal.Val
-- ==== Proof.Att0Ref.lean ====
/- The first layer: The attention's reference read at an index. -/
module

public import proofs.«01_k».proof.Proof.Gen.Att0ReferenceIdeal.Read
public import proofs.«01_k».proof.Proof.Att0Spec
public import Idealize.ShloMosaic.Lib.KernelVsHost

@[expose] public section

noncomputable section

namespace Cert.Att0ReferenceIdeal.Val

open Cert.Att0ReferenceIdeal Cert.Att0ReferenceIdeal.Gen Cert.Att0ReferenceIdeal.Read Idealize.ShloMosaic Idealize.SL.Sem Cert.AttSpec Cert.Att0Spec

variable (x0 x1 : Vec Ideal S4x2048x8x2x64 .f32) (x2 : Vec Ideal S4x2048x8x128 .f32) (x3 : Vec Ideal S4x256x8x2x64 .f32)
  (x4 : Vec Ideal S4x256x8x128 .f32) (x6 x7 x8 x9 : Vec Ideal S2x64 .f32) (x10 : Vec Ideal S2x128 .f32)

theorem lam_at (i : S_.Idx) : val_main_v15 (F := Ideal) x6 x7 x8 x9 i = lamS0 x6 x7 x8 x9 := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

theorem s_at (b : Fin 4) (h : Fin 8) (j : Fin 2) (n : Fin 2048) (k : Fin 2304) :
    val_main_v20 (F := Ideal) x0 x1 x3 (ix5 b h j n k) = sc x0 x1 x3 b n h j k := by
  pointwise [val_main_v20, val_main_v19, val_main_v18, val_main_v16, val_main_cst_2]
  rfl

theorem v_at (b : Fin 4) (k : Fin 2304) (h : Fin 8) (d : Fin 128) :
    val_main_v17 (F := Ideal) x2 x4 (ix4 b k h d) = vall x2 x4 b h k d := by
  pointwise [val_main_v17]
  rfl

theorem bitsBot : Ideal.ofBits FTy.f32 4286578688#32 = ⊥ := by simp [Ideal.ofBits, Ideal.ieee]

theorem red : S4x8x2x2048x2304.Reduces [4] S4x8x2x2048 := by decide

theorem red_at (y : FVec Ideal S4x8x2x2048x2304 .f32) (b : Fin 4) (h : Fin 8) (j : Fin 2) (n : Fin 2048) :
    multiReduction .maximumf [4] S4x8x2x2048 y 0xFF800000#32 red (.inl rfl) rfl (ix4 b h j n) = top fun k => y (ix5 b h j n k) := by
  pointwise
  rw [bitsBot]
  rfl

theorem m_at (b : Fin 4) (h : Fin 8) (j : Fin 2) (n : Fin 2048) :
    val_main_v23 (F := Ideal) x0 x1 x3 (ix4 b h j n) = top (sc x0 x1 x3 b n h j) := by
  have e : val_main_v21 (F := Ideal) x0 x1 x3 (ix4 b h j n) = top (sc x0 x1 x3 b n h j) := by
    have hr : (val_main_v21 (F := Ideal) x0 x1 x3 : FVec Ideal S4x8x2x2048 .f32)
        = multiReduction (F := Ideal) (s := S4x8x2x2048x2304) (φ := .f32) .maximumf [4] S4x8x2x2048 (val_main_v20 (F := Ideal) x0 x1 x3) 0xFF800000#32 red (.inl rfl) rfl := by
      unfold val_main_v21 val_main_cst_3
      generalize val_main_v20 (F := Ideal) x0 x1 x3 = y
      exact hostReduce_maximumf_eq_multiReduction (F := Ideal) (s := S4x8x2x2048x2304) (t := S4x8x2x2048) (φ := .f32) y 0xFF800000#32 _ _ red (.inl rfl) rfl
    rw [hr, red_at]
    exact congrArg top (funext fun k => s_at x0 x1 x3 b h j n k)
  have z : val_main_v22 (F := Ideal) (ix4 b h j n) = ⊥ := by
    pointwise [val_main_v22, val_main_cst_4]
    rw [bitsBot]
  rw [val_main_v23_apply, e, z]
  generalize top (sc x0 x1 x3 b n h j) = y
  exact max_eq_right bot_le

theorem w_at (b : Fin 4) (h : Fin 8) (j : Fin 2) (n : Fin 2048) (k : Fin 2304) :
    val_main_v27 (F := Ideal) x0 x1 x3 (ix5 b h j n k) = wexp (sc x0 x1 x3 b n h j) k := by
  pointwise [val_main_v27, val_main_v26, val_main_v25, val_main_v24]
  rw [s_at, m_at]
  rfl

theorem p_at (b : Fin 4) (h : Fin 8) (j : Fin 2) (n : Fin 2048) (k : Fin 2304) :
    val_main_v31 (F := Ideal) x0 x1 x3 (ix5 b h j n k)
      = Ideal.div (wexp (sc x0 x1 x3 b n h j) k) (∑ k, wexp (sc x0 x1 x3 b n h j) k) := by
  pointwise [val_main_v31, val_main_v30, val_main_v29, val_main_v28, val_main_cst_5]
  simp only [w_at]

theorem p0_at (b : Fin 4) (h : Fin 8) (n : Fin 2048) (k : Fin 2304) :
    val_main_v33 (F := Ideal) x0 x1 x3 (ix4 b h n k) = val_main_v31 (F := Ideal) x0 x1 x3 (ix5 b h 0 n k) := by
  unfold val_main_v33 val_main_v32
  generalize val_main_v31 (F := Ideal) x0 x1 x3 = y
  refine (shapeCast_apply _ _ (ix4 b h n k) (ix5 b h 0 n k) ?_).trans ?_
  · rewrite [Shape.rowMajor_val_five, Shape.rowMajor_val_four]
    show (((b.val * 8 + h.val) * 1 + 0) * 2048 + n.val) * 2304 + k.val = ((b.val * 8 + h.val) * 2048 + n.val) * 2304 + k.val
    omega
  · pointwise
    done

theorem p1_at (b : Fin 4) (h : Fin 8) (n : Fin 2048) (k : Fin 2304) :
    val_main_v35 (F := Ideal) x0 x1 x3 (ix4 b h n k) = val_main_v31 (F := Ideal) x0 x1 x3 (ix5 b h 1 n k) := by
  unfold val_main_v35 val_main_v34
  generalize val_main_v31 (F := Ideal) x0 x1 x3 = y
  refine (shapeCast_apply _ _ (ix4 b h n k) (ix5 b h 0 n k) ?_).trans ?_
  · rewrite [Shape.rowMajor_val_five, Shape.rowMajor_val_four]
    show (((b.val * 8 + h.val) * 1 + 0) * 2048 + n.val) * 2304 + k.val = ((b.val * 8 + h.val) * 2048 + n.val) * 2304 + k.val
    omega
  · pointwise
    done

theorem a_at (b : Fin 4) (h : Fin 8) (n : Fin 2048) (k : Fin 2304) :
    val_main_v38 (F := Ideal) x0 x1 x3 x6 x7 x8 x9 (ix4 b h n k)
      = Ideal.div (wexp (sc x0 x1 x3 b n h 0) k) (∑ k, wexp (sc x0 x1 x3 b n h 0) k)
        - lamS0 x6 x7 x8 x9 * Ideal.div (wexp (sc x0 x1 x3 b n h 1) k) (∑ k, wexp (sc x0 x1 x3 b n h 1) k) := by
  rw [val_main_v38_apply, val_main_v37_apply, val_main_v36_apply, p0_at, p1_at, p_at, p_at, lam_at]
  generalize Ideal.div (wexp (sc x0 x1 x3 b n h 0) k) (∑ k, wexp (sc x0 x1 x3 b n h 0) k) = y
  generalize Ideal.div (wexp (sc x0 x1 x3 b n h 1) k) (∑ k, wexp (sc x0 x1 x3 b n h 1) k) = z
  generalize lamS0 x6 x7 x8 x9 = l
  rfl

theorem o_at (b : Fin 4) (n : Fin 2048) (h : Fin 8) (d : Fin 128) :
    val_main_v40 (F := Ideal) x0 x1 x2 x3 x4 x6 x7 x8 x9 (ix4 b n h d)
      = rO (lamS0 x6 x7 x8 x9) (wexp (sc x0 x1 x3 b n h 0)) (wexp (sc x0 x1 x3 b n h 1)) (vall x2 x4 b h) d := by
  pointwise [val_main_v40, val_main_v39]
  simp only [v_at, a_at]
  rfl

theorem n_at (b : Fin 4) (n : Fin 2048) (h : Fin 8) (d : Fin 128) :
    val_main_v57 (F := Ideal) x0 x1 x2 x3 x4 x6 x7 x8 x9 x10 (ix4 b n h d)
      = headNorm0 (rO (lamS0 x6 x7 x8 x9) (wexp (sc x0 x1 x3 b n h 0)) (wexp (sc x0 x1 x3 b n h 1)) (vall x2 x4 b h))
        (fun d => x10 (ix2 0 d)) d := by
  pointwise [val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_cst_6,
    val_main_cst_7, val_main_cst_8, val_main_cst_9]
  simp only [o_at]
  rfl

theorem ix4_val (b' : Fin 4) (n' : Fin 2048) (h' : Fin 8) (d' : Fin 128) (b : Fin 4) (n : Fin 2048) (h : Fin 8) (d : Fin 128)
    (hb : b'.val = b.val) (hn : n'.val = n.val) (hh : h'.val = h.val) (hd : d'.val = d.val) : ix4 b' n' h' d' = ix4 b n h d := by
  rw [Fin.ext hb, Fin.ext hn, Fin.ext hh, Fin.ext hd]

theorem res_at (b : Fin 4) (n : Fin 2048) (h : Fin 8) (d : Fin 128) (R : Fin 8192) (C : Fin 1024) (hR : R.val = 2048 * b.val + n.val)
    (hC : C.val = 128 * h.val + d.val) :
    val_main_v59 (F := Ideal) x0 x1 x2 x3 x4 x6 x7 x8 x9 x10 (ix2 R C)
      = headNorm0 (rO (lamS0 x6 x7 x8 x9) (wexp (sc x0 x1 x3 b n h 0)) (wexp (sc x0 x1 x3 b n h 1)) (vall x2 x4 b h))
        (fun d => x10 (ix2 0 d)) d := by
  rw [← n_at]
  pointwise [val_main_v59, val_main_v58]
  rw [ix4_val (⟨R.val / 2048, _⟩ : Fin 4) (⟨R.val % 2048, _⟩ : Fin 2048) (⟨C.val / 128, _⟩ : Fin 8) (⟨C.val % 128, _⟩ : Fin 128) b n h d
    (by show R.val / 2048 = b.val; omega) (by show R.val % 2048 = n.val; omega) (by show C.val / 128 = h.val; omega)
    (by show C.val % 128 = d.val; omega)]

end Cert.Att0ReferenceIdeal.Val
-- ==== Proof.Att0Pre.lean ====
/- What the first layer's precondition says of the lambda vectors: their entries are real numbers. -/
module

public import proofs.«01_k».proof.Proof.Gen.Pre_finite0
public import proofs.«01_k».proof.Proof.AttPre
public import proofs.«01_k».proof.Proof.Att0Spec

@[expose] public section

noncomputable section

namespace Cert.Att0Pre

open Idealize.ShloMosaic Cert.AttSpec Cert.AttPre Cert.Att0Spec

/-- The same, of the first row of a pair of vectors, read after a slice and a reshape. -/
theorem row_of0 (x : FVec Ideal ⟨2, ![2, 64]⟩ .f32) (hs : (⟨2, ![2, 64]⟩ : Shape).Slices ![0, 0] ⟨2, ![1, 64]⟩)
    (hc : (⟨2, ![1, 64]⟩ : Shape).ShapeCasts ⟨1, ![64]⟩) (hb : (⟨0, ![]⟩ : Shape).BroadcastsInDim ⟨1, ![64]⟩ (![] : Fin 0 → Fin 1))
    (h : cmpf .olt (Host.absf (shapeCast ⟨1, ![64]⟩ (extractStridedSlice ⟨2, ![1, 64]⟩ ![0, 0] x hs) hc))
      (broadcastInDim ⟨1, ![64]⟩ ![] hb (constant ⟨0, ![]⟩ .f32 0x7F800000#32)) = fun _ => 1#1) (e : Fin 64) :
    ∃ r : ℝ, x (ix2 0 e) = (r : EReal) := by
  have e0 := fin_of _ hb h (ix1 e)
  have e1 : shapeCast ⟨1, ![64]⟩ (extractStridedSlice ⟨2, ![1, 64]⟩ ![0, 0] x hs) hc (ix1 e) = x (ix2 0 e) := by
    pointwise []
  rwa [e1] at e0

/-- The mixing factor of real lambda vectors is a real number. -/
theorem lam_real0 (p q r s : A2 64) (hp : ∀ e : Fin 64, ∃ x : ℝ, p (ix2 0 e) = (x : EReal)) (hq : ∀ e : Fin 64, ∃ x : ℝ, q (ix2 0 e) = (x : EReal))
    (hr : ∀ e : Fin 64, ∃ x : ℝ, r (ix2 0 e) = (x : EReal)) (hs : ∀ e : Fin 64, ∃ x : ℝ, s (ix2 0 e) = (x : EReal)) :
    ∃ x : ℝ, lamS0 p q r s = (x : EReal) := by
  obtain ⟨a, ha⟩ := sum_real _ _ hp hq
  obtain ⟨b, hb⟩ := sum_real _ _ hr hs
  obtain ⟨k, hk⟩ : ∃ k : ℝ, Ideal.ofBits FTy.f32 1045220557#32 = (k : EReal) :=
    ⟨_, by simp only [Ideal.ofBits, Ideal.ieee]; norm_num; rfl⟩
  unfold lamS0
  rw [ha, hb, hk, Ideal.exp_coe, Ideal.exp_coe, ← EReal.coe_sub, ← EReal.coe_add]
  exact ⟨_, rfl⟩

end Cert.Att0Pre
-- ==== Proof.Att0Tie.lean ====
/- The first layer: The attention call beside its reference: both results are the differential attention row by row. -/
module

public import proofs.«01_k».proof.Proof.Att0Ker
public import proofs.«01_k».proof.Proof.Att0Ref
public import proofs.«01_k».proof.Proof.Att0Pre
public import proofs.«01_k».proof.Proof.Gen.Att0ReferenceIdeal.Run

@[expose] public section

noncomputable section

namespace Cert.Att0Tie

open Idealize.ShloMosaic Idealize.SL.Sem Cert.AttSpec Cert.Att0Spec Cert.AttPre Cert.Att0Pre

/-- The call's result array is the reference's result on the same arguments, where values and lambda vectors are real. -/
theorem tie (m : (ℓ : Loc Cert.Att0Ideal.nD Cert.Att0Ideal.τ Cert.Att0Ideal.sig) → Buf (Elt Ideal) ℓ) (c : Dev Cert.Att0Ideal.nD)
    (h2 : ∀ i, ∃ r : ℝ, (m ((c.tc : Thread Cert.Att0Ideal.nD Cert.Att0Ideal.τ).loc Cert.Att0Ideal.main_arg2)) i = (r : EReal))
    (h4 : ∀ i, ∃ r : ℝ, (m ((c.tc : Thread Cert.Att0Ideal.nD Cert.Att0Ideal.τ).loc Cert.Att0Ideal.main_arg4)) i = (r : EReal))
    (h6 : ∀ e : Fin 64, ∃ r : ℝ, (m ((c.tc : Thread Cert.Att0Ideal.nD Cert.Att0Ideal.τ).loc Cert.Att0Ideal.main_arg6)) (ix2 0 e) = (r : EReal))
    (h7 : ∀ e : Fin 64, ∃ r : ℝ, (m ((c.tc : Thread Cert.Att0Ideal.nD Cert.Att0Ideal.τ).loc Cert.Att0Ideal.main_arg7)) (ix2 0 e) = (r : EReal))
    (h8 : ∀ e : Fin 64, ∃ r : ℝ, (m ((c.tc : Thread Cert.Att0Ideal.nD Cert.Att0Ideal.τ).loc Cert.Att0Ideal.main_arg8)) (ix2 0 e) = (r : EReal))
    (h9 : ∀ e : Fin 64, ∃ r : ℝ, (m ((c.tc : Thread Cert.Att0Ideal.nD Cert.Att0Ideal.τ).loc Cert.Att0Ideal.main_arg9)) (ix2 0 e) = (r : EReal)) :
    Cert.Att0Ideal.Value.G14 m c = Cert.Att0ReferenceIdeal.Read.val_main_v59 (F := Ideal)
      (m ((c.tc : Thread Cert.Att0Ideal.nD Cert.Att0Ideal.τ).loc Cert.Att0Ideal.main_arg0))
      (m ((c.tc : Thread Cert.Att0Ideal.nD Cert.Att0Ideal.τ).loc Cert.Att0Ideal.main_arg1))
      (m ((c.tc : Thread Cert.Att0Ideal.nD Cert.Att0Ideal.τ).loc Cert.Att0Ideal.main_arg2))
      (m ((c.tc : Thread Cert.Att0Ideal.nD Cert.Att0Ideal.τ).loc Cert.Att0Ideal.main_arg3))
      (m ((c.tc : Thread Cert.Att0Ideal.nD Cert.Att0Ideal.τ).loc Cert.Att0Ideal.main_arg4))
      (m ((c.tc : Thread Cert.Att0Ideal.nD Cert.Att0Ideal.τ).loc Cert.Att0Ideal.main_arg6))
      (m ((c.tc : Thread Cert.Att0Ideal.nD Cert.Att0Ideal.τ).loc Cert.Att0Ideal.main_arg7))
      (m ((c.tc : Thread Cert.Att0Ideal.nD Cert.Att0Ideal.τ).loc Cert.Att0Ideal.main_arg8))
      (m ((c.tc : Thread Cert.Att0Ideal.nD Cert.Att0Ideal.τ).loc Cert.Att0Ideal.main_arg9))
      (m ((c.tc : Thread Cert.Att0Ideal.nD Cert.Att0Ideal.τ).loc Cert.Att0Ideal.main_arg10)) := by
  funext i
  have b0 : (i 0).val < 8192 := (i 0).isLt
  have b1 : (i 1).val < 1024 := (i 1).isLt
  have hp : Cert.Att0Ideal.Value.pt14Of i < Cert.Att0Ideal.cfg0.N :=
    lt_of_lt_of_eq (show 8 * ((i 0).val / 2048 - 0) + 1 * ((i 1).val / 128 - 0) < 32 by omega) Cert.Att0Ideal.Gen.N_0.symm
  have hv : Cert.Att0Ideal.Value.pt14Of i = 8 * ((i 0).val / 2048) + (i 1).val / 128 := by
    show 8 * ((i 0).val / 2048 - 0) + 1 * ((i 1).val / 128 - 0) = _; omega
  have e : Cert.Att0Ideal.Value.G14 m c i = (Cert.Att0Ideal.Gen.outsAt0 m c (Cert.Att0Ideal.Value.pt14Of i) hp).1 (Cert.Att0Ideal.Value.loc14Of i) := by
    rw [Cert.Att0Ideal.Value.outsAt0_sweep]
    unfold Cert.Att0Ideal.Value.G14
    rw [dif_pos hp]
  have el : Cert.Att0Ideal.Value.loc14Of i = ix2 ⟨(i 0).val % 2048, Nat.mod_lt _ (by decide)⟩ ⟨(i 1).val % 128, Nat.mod_lt _ (by decide)⟩ := by
    funext a
    match a with
    | ⟨0, _⟩ => rfl
    | ⟨1, _⟩ => rfl
  have ei : i = ix2 (⟨(i 0).val, b0⟩ : Fin 8192) (⟨(i 1).val, b1⟩ : Fin 1024) := by
    funext a
    match a with
    | ⟨0, _⟩ => rfl
    | ⟨1, _⟩ => rfl
  obtain ⟨lam, hlam⟩ := lam_real0 _ _ _ _ h6 h7 h8 h9
  have er := Cert.Att0ReferenceIdeal.Val.res_at
      (m ((c.tc : Thread Cert.Att0Ideal.nD Cert.Att0Ideal.τ).loc Cert.Att0Ideal.main_arg0))
      (m ((c.tc : Thread Cert.Att0Ideal.nD Cert.Att0Ideal.τ).loc Cert.Att0Ideal.main_arg1))
      (m ((c.tc : Thread Cert.Att0Ideal.nD Cert.Att0Ideal.τ).loc Cert.Att0Ideal.main_arg2))
      (m ((c.tc : Thread Cert.Att0Ideal.nD Cert.Att0Ideal.τ).loc Cert.Att0Ideal.main_arg3))
      (m ((c.tc : Thread Cert.Att0Ideal.nD Cert.Att0Ideal.τ).loc Cert.Att0Ideal.main_arg4))
      (m ((c.tc : Thread Cert.Att0Ideal.nD Cert.Att0Ideal.τ).loc Cert.Att0Ideal.main_arg6))
      (m ((c.tc : Thread Cert.Att0Ideal.nD Cert.Att0Ideal.τ).loc Cert.Att0Ideal.main_arg7))
      (m ((c.tc : Thread Cert.Att0Ideal.nD Cert.Att0Ideal.τ).loc Cert.Att0Ideal.main_arg8))
      (m ((c.tc : Thread Cert.Att0Ideal.nD Cert.Att0Ideal.τ).loc Cert.Att0Ideal.main_arg9))
      (m ((c.tc : Thread Cert.Att0Ideal.nD Cert.Att0Ideal.τ).loc Cert.Att0Ideal.main_arg10))
      ⟨(i 0).val / 2048, by omega⟩ ⟨(i 0).val % 2048, by omega⟩ ⟨(i 1).val / 128, by omega⟩ ⟨(i 1).val % 128, by omega⟩
      (⟨(i 0).val, b0⟩ : Fin 8192) (⟨(i 1).val, b1⟩ : Fin 1024)
      (by show (i 0).val = 2048 * ((i 0).val / 2048) + (i 0).val % 2048; omega)
      (by show (i 1).val = 128 * ((i 1).val / 128) + (i 1).val % 128; omega)
  have ek := Cert.Att0Ideal.Val.out_at m c ⟨Cert.Att0Ideal.Value.pt14Of i, hp⟩ ⟨(i 0).val / 2048, by omega⟩ ⟨(i 1).val / 128, by omega⟩ hv
      ⟨(i 0).val % 2048, by omega⟩ ⟨(i 1).val % 128, by omega⟩
  rw [← ei] at er
  rw [e, el, er]
  refine ek.trans ?_
  rw [hlam]
  exact norm_eq0 lam _ _ _ _ (fun k => wexp_real _ k) (fun k => wexp_real _ k) (fun k d => vall_real _ _ h2 h4 _ _ k d) _

end Cert.Att0Tie
-- ==== Proof.lean ====
/- The proof of the claims: each frame by its generated run, each call's value in its module Proof.*Tie. -/
module

public import proofs.«01_k».proof.Defs
public import proofs.«01_k».proof.Proof.Gen.Kernel.Frame
public import proofs.«01_k».proof.Proof.Gen.KernelIdeal.Value
public import proofs.«01_k».proof.Proof.Gen.Mlp.Frame
public import proofs.«01_k».proof.Proof.Gen.Mlp0.Frame
public import proofs.«01_k».proof.Proof.Gen.MlpIdeal.Value
public import proofs.«01_k».proof.Proof.Gen.Mlp0Ideal.Value
public import proofs.«01_k».proof.Proof.Gen.MlpReferenceIdeal.Run
public import proofs.«01_k».proof.Proof.Gen.Mlp0ReferenceIdeal.Run
public import proofs.«01_k».proof.Proof.Gen.ReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.OutTie
public import proofs.«01_k».proof.Proof.Gen.Out0.Frame
public import proofs.«01_k».proof.Proof.Gen.Out0Ideal.Value
public import proofs.«01_k».proof.Proof.Gen.Out0ReferenceIdeal.Run
public import proofs.«01_k».proof.Proof.Out0Tie
public import proofs.«01_k».proof.Proof.Gen.Inp.Frame
public import proofs.«01_k».proof.Proof.Gen.InpIdeal.Value
public import proofs.«01_k».proof.Proof.Gen.InpReferenceIdeal.Run
public import proofs.«01_k».proof.Proof.InpTie
public import proofs.«01_k».proof.Proof.Gen.Inp0.Frame
public import proofs.«01_k».proof.Proof.Gen.Inp0Ideal.Value
public import proofs.«01_k».proof.Proof.Gen.Inp0ReferenceIdeal.Run
public import proofs.«01_k».proof.Proof.Inp0Tie
public import proofs.«01_k».proof.Proof.MlpTie
public import proofs.«01_k».proof.Proof.Mlp0Tie
public import proofs.«01_k».proof.Proof.Gen.CMlp.Frame
public import proofs.«01_k».proof.Proof.Gen.CMlpIdeal.Value
public import proofs.«01_k».proof.Proof.Gen.CMlpReferenceIdeal.Run
public import proofs.«01_k».proof.Proof.CMlpTie
public import proofs.«01_k».proof.Proof.Gen.COut.Frame
public import proofs.«01_k».proof.Proof.Gen.COutIdeal.Value
public import proofs.«01_k».proof.Proof.Gen.COutReferenceIdeal.Run
public import proofs.«01_k».proof.Proof.COutTie
public import proofs.«01_k».proof.Proof.Gen.CInp.Frame
public import proofs.«01_k».proof.Proof.Gen.CInpIdeal.Value
public import proofs.«01_k».proof.Proof.Gen.CInpReferenceIdeal.Run
public import proofs.«01_k».proof.Proof.CInpTie
public import proofs.«01_k».proof.Proof.Gen.CKv.Frame
public import proofs.«01_k».proof.Proof.Gen.CKvIdeal.Value
public import proofs.«01_k».proof.Proof.Gen.CKvReferenceIdeal.Run
public import proofs.«01_k».proof.Proof.CKvTie
public import proofs.«01_k».proof.Proof.AttTie
public import proofs.«01_k».proof.Proof.Gen.Att0.Frame
public import proofs.«01_k».proof.Proof.Gen.Att0Ideal.Value
public import proofs.«01_k».proof.Proof.Gen.Att0ReferenceIdeal.Run
public import proofs.«01_k».proof.Proof.Gen.Pre_finite0
public import proofs.«01_k».proof.Proof.Att0Tie
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre_finite [Cert.Pre_finite.Facts] : quiescent_ReferenceIdeal_pre_finite := fun m ρ _ => quiescent_ReferenceIdeal m ρ trivial

theorem algebraic_KernelIdeal_ReferenceIdeal_pre_finite : algebraic_KernelIdeal_ReferenceIdeal_pre_finite := by
  intro m ρ m' ρ' hpre hagree
  refine ⟨fun c => Cert.KernelIdeal.Value.G14 (F := Ideal) m c, (θ_run Cert.KernelIdeal.defs _ _).mono (fun _ h c => ⟨(h c).1, (h c).2.2⟩)
    (Cert.KernelIdeal.Value.run (F := Ideal) m ρ), ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8, a9, a10, a11, a12, a13, a14, a15, a16⟩ := hagree c
  obtain ⟨p2, p4, p6, p7, p8, p9⟩ := hpre c
  rw [(h c).1, Cert.ReferenceIdeal.Read.val_main_v59_eq, a0, a1, a2, a3, a4, a6, a7, a8, a9, a10]
  exact (Cert.AttTie.tie m c (Cert.AttPre.fin_of _ _ p2) (Cert.AttPre.fin_of _ _ p4) (Cert.AttPre.row_of _ _ _ _ p6)
    (Cert.AttPre.row_of _ _ _ _ p7) (Cert.AttPre.row_of _ _ _ _ p8) (Cert.AttPre.row_of _ _ _ _ p9)).symm

theorem quiescent_MlpReferenceIdeal : quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

theorem algebraic_MlpIdeal_MlpReferenceIdeal : algebraic_MlpIdeal_MlpReferenceIdeal := by
  intro m ρ m' ρ' _ hagree
  refine ⟨_, Cert.MlpIdeal.Value.run (F := Ideal) m ρ, ?_⟩
  refine (θ_run Cert.MlpReferenceIdeal.defs _ _).mono (fun _ h c => ⟨?_, (h c).2⟩) (Cert.MlpReferenceIdeal.Value.run (F := Ideal) m' ρ')
  obtain ⟨a0, a1, a2, a3, a4, a5⟩ := hagree c
  rw [(h c).1, Cert.MlpReferenceIdeal.Read.val_main_v54_eq, a0, a1, a2, a3, a4, a5]
  exact (Cert.MlpTie.tie m c).symm

theorem quiescent_Mlp0ReferenceIdeal : quiescent_Mlp0ReferenceIdeal := fun m ρ _ =>
  (θ_run Cert.Mlp0ReferenceIdeal.defs _ _).mono (fun r h => ⟨fun c => (h c).2, sem_eq_zero_of_no_sems (by decide) r.2⟩)
    (Cert.Mlp0ReferenceIdeal.Value.run (F := Ideal) m ρ)

theorem algebraic_Mlp0Ideal_Mlp0ReferenceIdeal : algebraic_Mlp0Ideal_Mlp0ReferenceIdeal := by
  intro m ρ m' ρ' _ hagree
  refine ⟨_, Cert.Mlp0Ideal.Value.run (F := Ideal) m ρ, ?_⟩
  refine (θ_run Cert.Mlp0ReferenceIdeal.defs _ _).mono (fun _ h c => ⟨?_, (h c).2⟩) (Cert.Mlp0ReferenceIdeal.Value.run (F := Ideal) m' ρ')
  obtain ⟨a0, a1, a2, a3, a4, a5⟩ := hagree c
  rw [(h c).1, Cert.Mlp0ReferenceIdeal.Read.val_main_v54_eq, a0, a1, a2, a3, a4, a5]
  exact (Cert.Mlp0Tie.tie m c).symm

theorem quiescent_OutReferenceIdeal : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic_OutIdeal_OutReferenceIdeal : algebraic_OutIdeal_OutReferenceIdeal := by
  intro m ρ m' ρ' _ hagree
  refine ⟨_, Cert.OutIdeal.Value.run (F := Ideal) m ρ, ?_⟩
  refine (θ_run Cert.OutReferenceIdeal.defs _ _).mono (fun _ h c => ⟨?_, (h c).2⟩) (Cert.OutReferenceIdeal.Value.run (F := Ideal) m' ρ')
  obtain ⟨a0, a1, a2, a3, a4, a5, a6⟩ := hagree c
  rw [(h c).1, Cert.OutReferenceIdeal.Read.val_main_v28_eq, a0, a1, a2, a3, a4, a5, a6]
  exact (Cert.OutTie.tie m c).symm

theorem quiescent_Out0ReferenceIdeal : quiescent_Out0ReferenceIdeal := fun m ρ _ =>
  (θ_run Cert.Out0ReferenceIdeal.defs _ _).mono (fun r h => ⟨fun c => (h c).2, sem_eq_zero_of_no_sems (by decide) r.2⟩)
    (Cert.Out0ReferenceIdeal.Value.run (F := Ideal) m ρ)

theorem algebraic_Out0Ideal_Out0ReferenceIdeal : algebraic_Out0Ideal_Out0ReferenceIdeal := by
  intro m ρ m' ρ' _ hagree
  refine ⟨_, Cert.Out0Ideal.Value.run (F := Ideal) m ρ, ?_⟩
  refine (θ_run Cert.Out0ReferenceIdeal.defs _ _).mono (fun _ h c => ⟨?_, (h c).2⟩) (Cert.Out0ReferenceIdeal.Value.run (F := Ideal) m' ρ')
  obtain ⟨a0, a1, a2, a3, a4, a5, a6⟩ := hagree c
  rw [(h c).1, Cert.Out0ReferenceIdeal.Read.val_main_v28_eq, a0, a1, a2, a3, a4, a5, a6]
  exact (Cert.Out0Tie.tie m c).symm

theorem quiescent_InpReferenceIdeal : quiescent_InpReferenceIdeal := fun m ρ _ =>
  (θ_run Cert.InpReferenceIdeal.defs _ _).mono (fun r h => ⟨fun c => (h c).2, sem_eq_zero_of_no_sems (by decide) r.2⟩)
    (Cert.InpReferenceIdeal.Value.run (F := Ideal) m ρ)

theorem algebraic_InpIdeal_InpReferenceIdeal : algebraic_InpIdeal_InpReferenceIdeal := by
  intro m ρ m' ρ' _ hagree
  refine ⟨_, Cert.InpIdeal.Value.run_blocks (F := Ideal) m ρ, ?_⟩
  refine (θ_run Cert.InpReferenceIdeal.defs _ _).mono (fun _ h c => ⟨?_, (h c).2⟩) (Cert.InpReferenceIdeal.Value.run (F := Ideal) m' ρ')
  obtain ⟨a0, a1, a2, a3, a4, a5⟩ := hagree c
  rw [(h c).1, Cert.InpReferenceIdeal.Read.val_main_v80_eq, a0, a1, a2, a3, a4, a5]
  exact (Cert.InpTie.tie m c).symm

theorem quiescent_Inp0ReferenceIdeal : quiescent_Inp0ReferenceIdeal := fun m ρ _ =>
  (θ_run Cert.Inp0ReferenceIdeal.defs _ _).mono (fun r h => ⟨fun c => (h c).2, sem_eq_zero_of_no_sems (by decide) r.2⟩)
    (Cert.Inp0ReferenceIdeal.Value.run (F := Ideal) m ρ)

theorem algebraic_Inp0Ideal_Inp0ReferenceIdeal : algebraic_Inp0Ideal_Inp0ReferenceIdeal := by
  intro m ρ m' ρ' _ hagree
  refine ⟨_, Cert.Inp0Ideal.Value.run_blocks (F := Ideal) m ρ, ?_⟩
  refine (θ_run Cert.Inp0ReferenceIdeal.defs _ _).mono (fun _ h c => ⟨?_, (h c).2⟩) (Cert.Inp0ReferenceIdeal.Value.run (F := Ideal) m' ρ')
  obtain ⟨a0, a1, a2, a3, a4, a5⟩ := hagree c
  rw [(h c).1, Cert.Inp0ReferenceIdeal.Read.val_main_v80_eq, a0, a1, a2, a3, a4, a5]
  exact (Cert.Inp0Tie.tie m c).symm

theorem quiescent_Att0ReferenceIdeal : quiescent_Att0ReferenceIdeal := fun m ρ _ =>
  (θ_run Cert.Att0ReferenceIdeal.defs _ _).mono (fun r h => ⟨fun c => (h c).2, sem_eq_zero_of_no_sems (by decide) r.2⟩)
    (Cert.Att0ReferenceIdeal.Value.run (F := Ideal) m ρ)

theorem quiescent_Att0ReferenceIdeal_pre_finite0 [Cert.Pre_finite0.Facts] : quiescent_Att0ReferenceIdeal_pre_finite0 := fun m ρ _ => quiescent_Att0ReferenceIdeal m ρ trivial

theorem algebraic_Att0Ideal_Att0ReferenceIdeal_pre_finite0 : algebraic_Att0Ideal_Att0ReferenceIdeal_pre_finite0 := by
  intro m ρ m' ρ' hpre hagree
  refine ⟨fun c => Cert.Att0Ideal.Value.G14 (F := Ideal) m c, (θ_run Cert.Att0Ideal.defs _ _).mono (fun _ h c => ⟨(h c).1, (h c).2.2⟩)
    (Cert.Att0Ideal.Value.run (F := Ideal) m ρ), ?_⟩
  refine (θ_run Cert.Att0ReferenceIdeal.defs _ _).mono (fun _ h c => ⟨?_, (h c).2⟩) (Cert.Att0ReferenceIdeal.Value.run (F := Ideal) m' ρ')
  obtain ⟨a0, a1, a2, a3, a4, a5, a6, a7, a8, a9, a10, a11, a12, a13, a14, a15, a16⟩ := hagree c
  obtain ⟨p2, p4, p6, p7, p8, p9⟩ := hpre c
  rw [(h c).1, Cert.Att0ReferenceIdeal.Read.val_main_v59_eq, a0, a1, a2, a3, a4, a6, a7, a8, a9, a10]
  exact (Cert.Att0Tie.tie m c (Cert.AttPre.fin_of _ _ p2) (Cert.AttPre.fin_of _ _ p4) (Cert.Att0Pre.row_of0 _ _ _ _ p6)
    (Cert.Att0Pre.row_of0 _ _ _ _ p7) (Cert.Att0Pre.row_of0 _ _ _ _ p8) (Cert.Att0Pre.row_of0 _ _ _ _ p9)).symm

theorem quiescent_CMlpReferenceIdeal : quiescent_CMlpReferenceIdeal := fun m ρ _ =>
  (θ_run Cert.CMlpReferenceIdeal.defs _ _).mono (fun r h => ⟨fun c => (h c).2, sem_eq_zero_of_no_sems (by decide) r.2⟩)
    (Cert.CMlpReferenceIdeal.Value.run (F := Ideal) m ρ)

theorem algebraic_CMlpIdeal_CMlpReferenceIdeal : algebraic_CMlpIdeal_CMlpReferenceIdeal := by
  intro m ρ m' ρ' _ hagree
  refine ⟨_, Cert.CMlpIdeal.Value.run (F := Ideal) m ρ, ?_⟩
  refine (θ_run Cert.CMlpReferenceIdeal.defs _ _).mono (fun _ h c => ⟨?_, (h c).2⟩) (Cert.CMlpReferenceIdeal.Value.run (F := Ideal) m' ρ')
  obtain ⟨a0, a1, a2, a3, a4, a5⟩ := hagree c
  rw [(h c).1, Cert.CMlpReferenceIdeal.Read.val_main_v57_eq, a0, a1, a2, a3, a4, a5]
  exact (Cert.CMlpTie.tie m c).symm

theorem quiescent_COutReferenceIdeal : quiescent_COutReferenceIdeal := fun m ρ _ =>
  (θ_run Cert.COutReferenceIdeal.defs _ _).mono (fun r h => ⟨fun c => (h c).2, sem_eq_zero_of_no_sems (by decide) r.2⟩)
    (Cert.COutReferenceIdeal.Value.run (F := Ideal) m ρ)

theorem algebraic_COutIdeal_COutReferenceIdeal : algebraic_COutIdeal_COutReferenceIdeal := by
  intro m ρ m' ρ' _ hagree
  refine ⟨_, Cert.COutIdeal.Value.run (F := Ideal) m ρ, ?_⟩
  refine (θ_run Cert.COutReferenceIdeal.defs _ _).mono (fun _ h c => ⟨?_, (h c).2⟩) (Cert.COutReferenceIdeal.Value.run (F := Ideal) m' ρ')
  obtain ⟨a0, a1, a2, a3, a4, a5, a6⟩ := hagree c
  rw [(h c).1, Cert.COutReferenceIdeal.Read.val_main_v29_eq, a0, a1, a2, a3, a4, a5, a6]
  exact (Cert.COutTie.tie m c).symm

theorem quiescent_CInpReferenceIdeal : quiescent_CInpReferenceIdeal := fun m ρ _ =>
  (θ_run Cert.CInpReferenceIdeal.defs _ _).mono (fun r h => ⟨fun c => (h c).2, sem_eq_zero_of_no_sems (by decide) r.2⟩)
    (Cert.CInpReferenceIdeal.Value.run (F := Ideal) m ρ)

theorem algebraic_CInpIdeal_CInpReferenceIdeal : algebraic_CInpIdeal_CInpReferenceIdeal := by
  intro m ρ m' ρ' _ hagree
  refine ⟨_, Cert.CInpIdeal.Value.run_blocks (F := Ideal) m ρ, ?_⟩
  refine (θ_run Cert.CInpReferenceIdeal.defs _ _).mono (fun _ h c => ⟨?_, (h c).2⟩) (Cert.CInpReferenceIdeal.Value.run (F := Ideal) m' ρ')
  obtain ⟨a0, a1, a2, a3⟩ := hagree c
  rw [(h c).1, Cert.CInpReferenceIdeal.Read.val_main_v51_eq, a0, a1, a2, a3]
  exact (Cert.CInpTie.tie m c).symm

theorem quiescent_CKvReferenceIdeal : quiescent_CKvReferenceIdeal := fun m ρ _ =>
  (θ_run Cert.CKvReferenceIdeal.defs _ _).mono (fun r h => ⟨fun c => (h c).2, sem_eq_zero_of_no_sems (by decide) r.2⟩)
    (Cert.CKvReferenceIdeal.Value.run (F := Ideal) m ρ)

theorem algebraic_CKvIdeal_CKvReferenceIdeal : algebraic_CKvIdeal_CKvReferenceIdeal := by
  intro m ρ m' ρ' _ hagree
  refine ⟨_, Cert.CKvIdeal.Value.run_blocks (F := Ideal) m ρ, ?_⟩
  refine (θ_run Cert.CKvReferenceIdeal.defs _ _).mono (fun _ h c => ⟨?_, (h c).2⟩) (Cert.CKvReferenceIdeal.Value.run (F := Ideal) m' ρ')
  obtain ⟨a0, a1, a2, a3⟩ := hagree c
  rw [(h c).1, Cert.CKvReferenceIdeal.Read.val_main_v34_eq, a0, a1, a2, a3]
  exact (Cert.CKvTie.tie m c).symm

theorem claim : Cert.Claim := ⟨Cert.Kernel.Gen.facts, Cert.KernelIdeal.Gen.facts, Cert.ReferenceIdeal.Gen.facts, Cert.Mlp.Gen.facts, Cert.MlpIdeal.Gen.facts, Cert.MlpReferenceIdeal.Gen.facts, Cert.Mlp0.Gen.facts, Cert.Mlp0Ideal.Gen.facts, Cert.Mlp0ReferenceIdeal.Gen.facts,
  Cert.Out.Gen.facts, Cert.OutIdeal.Gen.facts, Cert.OutReferenceIdeal.Gen.facts, Cert.Out0.Gen.facts, Cert.Out0Ideal.Gen.facts, Cert.Out0ReferenceIdeal.Gen.facts, Cert.Inp.Gen.facts, Cert.InpIdeal.Gen.facts, Cert.InpReferenceIdeal.Gen.facts, Cert.Inp0.Gen.facts, Cert.Inp0Ideal.Gen.facts, Cert.Inp0ReferenceIdeal.Gen.facts,
  Cert.Att0.Gen.facts, Cert.Att0Ideal.Gen.facts, Cert.Att0ReferenceIdeal.Gen.facts,
  Cert.CMlp.Gen.facts, Cert.CMlpIdeal.Gen.facts, Cert.CMlpReferenceIdeal.Gen.facts,
  Cert.COut.Gen.facts, Cert.COutIdeal.Gen.facts, Cert.COutReferenceIdeal.Gen.facts,
  Cert.CInp.Gen.facts, Cert.CInpIdeal.Gen.facts, Cert.CInpReferenceIdeal.Gen.facts,
  Cert.CKv.Gen.facts, Cert.CKvIdeal.Gen.facts, Cert.CKvReferenceIdeal.Gen.facts,
  Cert.Pre_finite.Gen.facts, Cert.Pre_finite0.Gen.facts,
  fun m ρ _ => Cert.Kernel.Gen.frame m ρ, fun m ρ _ => Cert.KernelIdeal.Gen.frame m ρ, fun m ρ _ => Cert.KernelIdeal.Gen.frame m ρ, quiescent_ReferenceIdeal,
  quiescent_ReferenceIdeal_pre_finite, fun m ρ _ => Cert.Mlp.Gen.frame m ρ, fun m ρ _ => Cert.MlpIdeal.Gen.frame m ρ, quiescent_MlpReferenceIdeal,
  fun m ρ _ => Cert.Mlp0.Gen.frame m ρ, fun m ρ _ => Cert.Mlp0Ideal.Gen.frame m ρ, quiescent_Mlp0ReferenceIdeal,
  fun m ρ _ => Cert.Out.Gen.frame m ρ, fun m ρ _ => Cert.OutIdeal.Gen.frame m ρ, quiescent_OutReferenceIdeal,
  fun m ρ _ => Cert.Out0.Gen.frame m ρ, fun m ρ _ => Cert.Out0Ideal.Gen.frame m ρ, quiescent_Out0ReferenceIdeal,
  fun m ρ _ => Cert.Inp.Gen.frame m ρ, fun m ρ _ => Cert.InpIdeal.Gen.frame m ρ, quiescent_InpReferenceIdeal,
  fun m ρ _ => Cert.Inp0.Gen.frame m ρ, fun m ρ _ => Cert.Inp0Ideal.Gen.frame m ρ, quiescent_Inp0ReferenceIdeal,
  fun m ρ _ => Cert.Att0.Gen.frame m ρ, fun m ρ _ => Cert.Att0Ideal.Gen.frame m ρ, fun m ρ _ => Cert.Att0Ideal.Gen.frame m ρ, quiescent_Att0ReferenceIdeal,
  quiescent_Att0ReferenceIdeal_pre_finite0,
  fun m ρ _ => Cert.CMlp.Gen.frame m ρ, fun m ρ _ => Cert.CMlpIdeal.Gen.frame m ρ, quiescent_CMlpReferenceIdeal,
  fun m ρ _ => Cert.COut.Gen.frame m ρ, fun m ρ _ => Cert.COutIdeal.Gen.frame m ρ, quiescent_COutReferenceIdeal,
  fun m ρ _ => Cert.CInp.Gen.frame m ρ, fun m ρ _ => Cert.CInpIdeal.Gen.frame m ρ, quiescent_CInpReferenceIdeal,
  fun m ρ _ => Cert.CKv.Gen.frame m ρ, fun m ρ _ => Cert.CKvIdeal.Gen.frame m ρ, quiescent_CKvReferenceIdeal,
  (trivial : preserves_Kernel_KernelIdeal), algebraic_KernelIdeal_ReferenceIdeal_pre_finite, (trivial : preserves_Mlp_MlpIdeal),
  algebraic_MlpIdeal_MlpReferenceIdeal,
  (trivial : preserves_Mlp0_Mlp0Ideal), algebraic_Mlp0Ideal_Mlp0ReferenceIdeal,
  (trivial : preserves_Out_OutIdeal), algebraic_OutIdeal_OutReferenceIdeal,
  (trivial : preserves_Out0_Out0Ideal), algebraic_Out0Ideal_Out0ReferenceIdeal,
  (trivial : preserves_Inp_InpIdeal), algebraic_InpIdeal_InpReferenceIdeal,
  (trivial : preserves_Inp0_Inp0Ideal), algebraic_Inp0Ideal_Inp0ReferenceIdeal,
  (trivial : preserves_Att0_Att0Ideal), algebraic_Att0Ideal_Att0ReferenceIdeal_pre_finite0,
  (trivial : preserves_CMlp_CMlpIdeal), algebraic_CMlpIdeal_CMlpReferenceIdeal,
  (trivial : preserves_COut_COutIdeal), algebraic_COutIdeal_COutReferenceIdeal,
  (trivial : preserves_CInp_CInpIdeal), algebraic_CInpIdeal_CInpReferenceIdeal,
  (trivial : preserves_CKv_CKvIdeal), algebraic_CKvIdeal_CKvReferenceIdeal⟩

end Cert.Proof

end
